-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite [hPre_finite : Cert.Pre_finite.Facts] (m : (ℓ : Loc Cert.MlpIdeal.nD Cert.MlpIdeal.τ Cert.MlpIdeal.sig) → Buf (Elt Ideal) ℓ) : Prop :=
  ∀ c : Dev Cert.MlpIdeal.nD,
    (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).1 = (fun _ => 1#1)
    ∧ (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.1 = (fun _ => 1#1)
    ∧ (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.1 = (fun _ => 1#1)
    ∧ (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.1 = (fun _ => 1#1)
    ∧ (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.1 = (fun _ => 1#1)
    ∧ (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite [hPre_finite : Cert.Pre_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).1 = (fun _ => 1#1)
    ∧ (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.1 = (fun _ => 1#1)
    ∧ (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.1 = (fun _ => 1#1)
    ∧ (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.1 = (fun _ => 1#1)
    ∧ (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.1 = (fun _ => 1#1)
    ∧ (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBRefIdeal (m : (ℓ : Loc Cert.PoolBRefIdeal.nD Cert.PoolBRefIdeal.τ Cert.PoolBRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_DwPool (m : (ℓ : Loc Cert.DwPool.nD Cert.DwPool.τ Cert.DwPool.sig) → Buf (Elt Bits) ℓ) : Prop :=
  True

def Pre_DwPoolIdeal (m : (ℓ : Loc Cert.DwPoolIdeal.nD Cert.DwPoolIdeal.τ Cert.DwPoolIdeal.sig) → Buf (Elt Ideal) ℓ) : Prop :=
  True

def Pre_DwPoolRefIdeal (m : (ℓ : Loc Cert.DwPoolRefIdeal.nD Cert.DwPoolRefIdeal.τ Cert.DwPoolRefIdeal.sig) → Buf (Elt Ideal) ℓ) : Prop :=
  True

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFIdeal_finite_mlp [hPre_finite_mlp : Cert.Pre_finite_mlp.Facts] (m : (ℓ : Loc Cert.MlpFIdeal.nD Cert.MlpFIdeal.τ Cert.MlpFIdeal.sig) → Buf (Elt Ideal) ℓ) : Prop :=
  ∀ c : Dev Cert.MlpFIdeal.nD,
    (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.2.1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.2.2.1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.2.2.2.1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.2.2.2.2.1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.2.2.2.2.2.1 = (fun _ => 1#1)
    ∧ (Cert.Pre_finite_mlp.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5)) (m ((c.tc : Thread Cert.MlpFIdeal.nD Cert.MlpFIdeal.τ).loc Cert.MlpFIdeal.main_arg6)) (m ((c.tc : Thread Cert.MlpFIdeal.nD Cert.MlpFIdeal.τ).loc Cert.MlpFIdeal.main_arg7))).2.2.2.2.2.2.2 = (fun _ => 1#1)

def Pre_MlpFRefIdeal (m : (ℓ : Loc Cert.MlpFRefIdeal.nD Cert.MlpFRefIdeal.τ Cert.MlpFRefIdeal.sig) → Buf (Elt Ideal) ℓ) : Prop :=
  True

def Pre_MlpFRefIdeal_finite_mlp [hPre_finite_mlp : Cert.Pre_finite_mlp.Facts] (m : (ℓ : Loc Cert.MlpFRefIdeal.nD Cert.MlpFRefIdeal.τ Cert.MlpFRefIdeal.sig) → Buf (Elt Ideal) ℓ) : Prop :=
  ∀ c : Dev Cert.MlpFRefIdeal.nD,
    (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.2.1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.2.2.1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.2.2.2.1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.2.2.2.2.1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.2.2.2.2.2.1 = (fun _ => 1#1)
    ∧ (Cert.Pre_finite_mlp.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5)) (m ((c.tc : Thread Cert.MlpFRefIdeal.nD Cert.MlpFRefIdeal.τ).loc Cert.MlpFRefIdeal.main_arg6)) (m ((c.tc : Thread Cert.MlpFRefIdeal.nD Cert.MlpFRefIdeal.τ).loc Cert.MlpFRefIdeal.main_arg7))).2.2.2.2.2.2.2 = (fun _ => 1#1)

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwFive (m : (ℓ : Loc Cert.DwFive.nD Cert.DwFive.τ Cert.DwFive.sig) → Buf (Elt Bits) ℓ) : Prop :=
  True

def Pre_DwFiveIdeal (m : (ℓ : Loc Cert.DwFiveIdeal.nD Cert.DwFiveIdeal.τ Cert.DwFiveIdeal.sig) → Buf (Elt Ideal) ℓ) : Prop :=
  True

def Pre_DwFiveRefIdeal (m : (ℓ : Loc Cert.DwFiveRefIdeal.nD Cert.DwFiveRefIdeal.τ Cert.DwFiveRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFRefIdeal (m : (ℓ : Loc Cert.PoolFRefIdeal.nD Cert.PoolFRefIdeal.τ Cert.PoolFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_finite [hMlpIdeal : Cert.MlpIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_finite [hMlpRefIdeal : Cert.MlpRefIdeal.Facts] [hPre_finite : Cert.Pre_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0)
      ∧ r.2.mem ((c.tc : Thread Cert.PoolB.nD Cert.PoolB.τ).loc Cert.PoolB.main_arg1) = m ((c.tc : Thread Cert.PoolB.nD Cert.PoolB.τ).loc Cert.PoolB.main_arg1))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_DwPool [hDwPool : Cert.DwPool.Facts] : Prop :=
  ∀ (m : (ℓ : Loc Cert.DwPool.nD Cert.DwPool.τ Cert.DwPool.sig) → Buf (Elt Bits) ℓ) (g : Dev Cert.DwPool.nD → PrngReg), Pre_DwPool m →
    θ_run (Cert.DwPool.defs (F := Bits)) (onTc (τ := Cert.DwPool.τ) (Cert.DwPool.main (F := Bits))) ⟨m, fun _ => 0, g⟩ (fun r => (∀ c : Dev Cert.DwPool.nD,
      r.2.mem ((c.tc : Thread Cert.DwPool.nD Cert.DwPool.τ).loc Cert.DwPool.main_arg0) = m ((c.tc : Thread Cert.DwPool.nD Cert.DwPool.τ).loc Cert.DwPool.main_arg0)
      ∧ r.2.mem ((c.tc : Thread Cert.DwPool.nD Cert.DwPool.τ).loc Cert.DwPool.main_arg1) = m ((c.tc : Thread Cert.DwPool.nD Cert.DwPool.τ).loc Cert.DwPool.main_arg1))
      ∧ r.2.sem = fun _ => 0)

def quiescent_DwPoolIdeal [hDwPoolIdeal : Cert.DwPoolIdeal.Facts] : Prop :=
  ∀ (m : (ℓ : Loc Cert.DwPoolIdeal.nD Cert.DwPoolIdeal.τ Cert.DwPoolIdeal.sig) → Buf (Elt Ideal) ℓ) (g : Dev Cert.DwPoolIdeal.nD → PrngReg), Pre_DwPoolIdeal m →
    θ_run (Cert.DwPoolIdeal.defs (F := Ideal)) (onTc (τ := Cert.DwPoolIdeal.τ) (Cert.DwPoolIdeal.main (F := Ideal))) ⟨m, fun _ => 0, g⟩ (fun r => (∀ c : Dev Cert.DwPoolIdeal.nD,
      r.2.mem ((c.tc : Thread Cert.DwPoolIdeal.nD Cert.DwPoolIdeal.τ).loc Cert.DwPoolIdeal.main_arg0) = m ((c.tc : Thread Cert.DwPoolIdeal.nD Cert.DwPoolIdeal.τ).loc Cert.DwPoolIdeal.main_arg0)
      ∧ r.2.mem ((c.tc : Thread Cert.DwPoolIdeal.nD Cert.DwPoolIdeal.τ).loc Cert.DwPoolIdeal.main_arg1) = m ((c.tc : Thread Cert.DwPoolIdeal.nD Cert.DwPoolIdeal.τ).loc Cert.DwPoolIdeal.main_arg1))
      ∧ r.2.sem = fun _ => 0)

def quiescent_DwPoolRefIdeal [hDwPoolRefIdeal : Cert.DwPoolRefIdeal.Facts] : Prop :=
  ∀ (m : (ℓ : Loc Cert.DwPoolRefIdeal.nD Cert.DwPoolRefIdeal.τ Cert.DwPoolRefIdeal.sig) → Buf (Elt Ideal) ℓ) (g : Dev Cert.DwPoolRefIdeal.nD → PrngReg), Pre_DwPoolRefIdeal m →
    θ_run (Cert.DwPoolRefIdeal.defs (F := Ideal)) (onTc (τ := Cert.DwPoolRefIdeal.τ) (Cert.DwPoolRefIdeal.main (F := Ideal))) ⟨m, fun _ => 0, g⟩ (fun r => (∀ c : Dev Cert.DwPoolRefIdeal.nD,
      r.2.mem ((c.tc : Thread Cert.DwPoolRefIdeal.nD Cert.DwPoolRefIdeal.τ).loc Cert.DwPoolRefIdeal.main_arg0) = m ((c.tc : Thread Cert.DwPoolRefIdeal.nD Cert.DwPoolRefIdeal.τ).loc Cert.DwPoolRefIdeal.main_arg0)
      ∧ r.2.mem ((c.tc : Thread Cert.DwPoolRefIdeal.nD Cert.DwPoolRefIdeal.τ).loc Cert.DwPoolRefIdeal.main_arg1) = m ((c.tc : Thread Cert.DwPoolRefIdeal.nD Cert.DwPoolRefIdeal.τ).loc Cert.DwPoolRefIdeal.main_arg1))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3)
      ∧ r.2.mem ((c.tc : Thread Cert.MlpF.nD Cert.MlpF.τ).loc Cert.MlpF.main_arg4) = m ((c.tc : Thread Cert.MlpF.nD Cert.MlpF.τ).loc Cert.MlpF.main_arg4)
      ∧ r.2.mem ((c.tc : Thread Cert.MlpF.nD Cert.MlpF.τ).loc Cert.MlpF.main_arg5) = m ((c.tc : Thread Cert.MlpF.nD Cert.MlpF.τ).loc Cert.MlpF.main_arg5)
      ∧ r.2.mem ((c.tc : Thread Cert.MlpF.nD Cert.MlpF.τ).loc Cert.MlpF.main_arg6) = m ((c.tc : Thread Cert.MlpF.nD Cert.MlpF.τ).loc Cert.MlpF.main_arg6)
      ∧ r.2.mem ((c.tc : Thread Cert.MlpF.nD Cert.MlpF.τ).loc Cert.MlpF.main_arg7) = m ((c.tc : Thread Cert.MlpF.nD Cert.MlpF.τ).loc Cert.MlpF.main_arg7))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
      ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
      ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5)
      ∧ r.2.mem ((c.tc : Thread Cert.MlpFIdeal.nD Cert.MlpFIdeal.τ).loc Cert.MlpFIdeal.main_arg6) = m ((c.tc : Thread Cert.MlpFIdeal.nD Cert.MlpFIdeal.τ).loc Cert.MlpFIdeal.main_arg6)
      ∧ r.2.mem ((c.tc : Thread Cert.MlpFIdeal.nD Cert.MlpFIdeal.τ).loc Cert.MlpFIdeal.main_arg7) = m ((c.tc : Thread Cert.MlpFIdeal.nD Cert.MlpFIdeal.τ).loc Cert.MlpFIdeal.main_arg7))
      ∧ r.2.sem = fun _ => 0)

def quiescent_MlpFIdeal_pre_finite_mlp [hMlpFIdeal : Cert.MlpFIdeal.Facts] [hPre_finite_mlp : Cert.Pre_finite_mlp.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal_finite_mlp m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
      ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
      ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5)
      ∧ r.2.mem ((c.tc : Thread Cert.MlpFIdeal.nD Cert.MlpFIdeal.τ).loc Cert.MlpFIdeal.main_arg6) = m ((c.tc : Thread Cert.MlpFIdeal.nD Cert.MlpFIdeal.τ).loc Cert.MlpFIdeal.main_arg6)
      ∧ r.2.mem ((c.tc : Thread Cert.MlpFIdeal.nD Cert.MlpFIdeal.τ).loc Cert.MlpFIdeal.main_arg7) = m ((c.tc : Thread Cert.MlpFIdeal.nD Cert.MlpFIdeal.τ).loc Cert.MlpFIdeal.main_arg7))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4)
      ∧ r.2.mem ((c.tc : Thread Cert.MlpFRefIdeal.nD Cert.MlpFRefIdeal.τ).loc Cert.MlpFRefIdeal.main_arg5) = m ((c.tc : Thread Cert.MlpFRefIdeal.nD Cert.MlpFRefIdeal.τ).loc Cert.MlpFRefIdeal.main_arg5)
      ∧ r.2.mem ((c.tc : Thread Cert.MlpFRefIdeal.nD Cert.MlpFRefIdeal.τ).loc Cert.MlpFRefIdeal.main_arg6) = m ((c.tc : Thread Cert.MlpFRefIdeal.nD Cert.MlpFRefIdeal.τ).loc Cert.MlpFRefIdeal.main_arg6)
      ∧ r.2.mem ((c.tc : Thread Cert.MlpFRefIdeal.nD Cert.MlpFRefIdeal.τ).loc Cert.MlpFRefIdeal.main_arg7) = m ((c.tc : Thread Cert.MlpFRefIdeal.nD Cert.MlpFRefIdeal.τ).loc Cert.MlpFRefIdeal.main_arg7))
      ∧ r.2.sem = fun _ => 0)

def quiescent_MlpFRefIdeal_pre_finite_mlp [hMlpFRefIdeal : Cert.MlpFRefIdeal.Facts] [hPre_finite_mlp : Cert.Pre_finite_mlp.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal_finite_mlp m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4)
      ∧ r.2.mem ((c.tc : Thread Cert.MlpFRefIdeal.nD Cert.MlpFRefIdeal.τ).loc Cert.MlpFRefIdeal.main_arg5) = m ((c.tc : Thread Cert.MlpFRefIdeal.nD Cert.MlpFRefIdeal.τ).loc Cert.MlpFRefIdeal.main_arg5)
      ∧ r.2.mem ((c.tc : Thread Cert.MlpFRefIdeal.nD Cert.MlpFRefIdeal.τ).loc Cert.MlpFRefIdeal.main_arg6) = m ((c.tc : Thread Cert.MlpFRefIdeal.nD Cert.MlpFRefIdeal.τ).loc Cert.MlpFRefIdeal.main_arg6)
      ∧ r.2.mem ((c.tc : Thread Cert.MlpFRefIdeal.nD Cert.MlpFRefIdeal.τ).loc Cert.MlpFRefIdeal.main_arg7) = m ((c.tc : Thread Cert.MlpFRefIdeal.nD Cert.MlpFRefIdeal.τ).loc Cert.MlpFRefIdeal.main_arg7))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5)
      ∧ r.2.mem ((c.tc : Thread Cert.MixF.nD Cert.MixF.τ).loc Cert.MixF.main_arg6) = m ((c.tc : Thread Cert.MixF.nD Cert.MixF.τ).loc Cert.MixF.main_arg6)
      ∧ r.2.mem ((c.tc : Thread Cert.MixF.nD Cert.MixF.τ).loc Cert.MixF.main_arg7) = m ((c.tc : Thread Cert.MixF.nD Cert.MixF.τ).loc Cert.MixF.main_arg7)
      ∧ r.2.mem ((c.tc : Thread Cert.MixF.nD Cert.MixF.τ).loc Cert.MixF.main_arg8) = m ((c.tc : Thread Cert.MixF.nD Cert.MixF.τ).loc Cert.MixF.main_arg8))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
      ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
      ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
      ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5)
      ∧ r.2.mem ((c.tc : Thread Cert.MixFRefIdeal.nD Cert.MixFRefIdeal.τ).loc Cert.MixFRefIdeal.main_arg6) = m ((c.tc : Thread Cert.MixFRefIdeal.nD Cert.MixFRefIdeal.τ).loc Cert.MixFRefIdeal.main_arg6)
      ∧ r.2.mem ((c.tc : Thread Cert.MixFRefIdeal.nD Cert.MixFRefIdeal.τ).loc Cert.MixFRefIdeal.main_arg7) = m ((c.tc : Thread Cert.MixFRefIdeal.nD Cert.MixFRefIdeal.τ).loc Cert.MixFRefIdeal.main_arg7)
      ∧ r.2.mem ((c.tc : Thread Cert.MixFRefIdeal.nD Cert.MixFRefIdeal.τ).loc Cert.MixFRefIdeal.main_arg8) = m ((c.tc : Thread Cert.MixFRefIdeal.nD Cert.MixFRefIdeal.τ).loc Cert.MixFRefIdeal.main_arg8))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2)
      ∧ r.2.mem ((c.tc : Thread Cert.DwGate.nD Cert.DwGate.τ).loc Cert.DwGate.main_arg3) = m ((c.tc : Thread Cert.DwGate.nD Cert.DwGate.τ).loc Cert.DwGate.main_arg3))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
      ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2)
      ∧ r.2.mem ((c.tc : Thread Cert.DwGateRefIdeal.nD Cert.DwGateRefIdeal.τ).loc Cert.DwGateRefIdeal.main_arg3) = m ((c.tc : Thread Cert.DwGateRefIdeal.nD Cert.DwGateRefIdeal.τ).loc Cert.DwGateRefIdeal.main_arg3))
      ∧ r.2.sem = fun _ => 0)

def quiescent_DwFive [hDwFive : Cert.DwFive.Facts] : Prop :=
  ∀ (m : (ℓ : Loc Cert.DwFive.nD Cert.DwFive.τ Cert.DwFive.sig) → Buf (Elt Bits) ℓ) (g : Dev Cert.DwFive.nD → PrngReg), Pre_DwFive m →
    θ_run (Cert.DwFive.defs (F := Bits)) (onTc (τ := Cert.DwFive.τ) (Cert.DwFive.main (F := Bits))) ⟨m, fun _ => 0, g⟩ (fun r => (∀ c : Dev Cert.DwFive.nD,
      r.2.mem ((c.tc : Thread Cert.DwFive.nD Cert.DwFive.τ).loc Cert.DwFive.main_arg0) = m ((c.tc : Thread Cert.DwFive.nD Cert.DwFive.τ).loc Cert.DwFive.main_arg0)
      ∧ r.2.mem ((c.tc : Thread Cert.DwFive.nD Cert.DwFive.τ).loc Cert.DwFive.main_arg1) = m ((c.tc : Thread Cert.DwFive.nD Cert.DwFive.τ).loc Cert.DwFive.main_arg1)
      ∧ r.2.mem ((c.tc : Thread Cert.DwFive.nD Cert.DwFive.τ).loc Cert.DwFive.main_arg2) = m ((c.tc : Thread Cert.DwFive.nD Cert.DwFive.τ).loc Cert.DwFive.main_arg2)
      ∧ r.2.mem ((c.tc : Thread Cert.DwFive.nD Cert.DwFive.τ).loc Cert.DwFive.main_arg3) = m ((c.tc : Thread Cert.DwFive.nD Cert.DwFive.τ).loc Cert.DwFive.main_arg3))
      ∧ r.2.sem = fun _ => 0)

def quiescent_DwFiveIdeal [hDwFiveIdeal : Cert.DwFiveIdeal.Facts] : Prop :=
  ∀ (m : (ℓ : Loc Cert.DwFiveIdeal.nD Cert.DwFiveIdeal.τ Cert.DwFiveIdeal.sig) → Buf (Elt Ideal) ℓ) (g : Dev Cert.DwFiveIdeal.nD → PrngReg), Pre_DwFiveIdeal m →
    θ_run (Cert.DwFiveIdeal.defs (F := Ideal)) (onTc (τ := Cert.DwFiveIdeal.τ) (Cert.DwFiveIdeal.main (F := Ideal))) ⟨m, fun _ => 0, g⟩ (fun r => (∀ c : Dev Cert.DwFiveIdeal.nD,
      r.2.mem ((c.tc : Thread Cert.DwFiveIdeal.nD Cert.DwFiveIdeal.τ).loc Cert.DwFiveIdeal.main_arg0) = m ((c.tc : Thread Cert.DwFiveIdeal.nD Cert.DwFiveIdeal.τ).loc Cert.DwFiveIdeal.main_arg0)
      ∧ r.2.mem ((c.tc : Thread Cert.DwFiveIdeal.nD Cert.DwFiveIdeal.τ).loc Cert.DwFiveIdeal.main_arg1) = m ((c.tc : Thread Cert.DwFiveIdeal.nD Cert.DwFiveIdeal.τ).loc Cert.DwFiveIdeal.main_arg1)
      ∧ r.2.mem ((c.tc : Thread Cert.DwFiveIdeal.nD Cert.DwFiveIdeal.τ).loc Cert.DwFiveIdeal.main_arg2) = m ((c.tc : Thread Cert.DwFiveIdeal.nD Cert.DwFiveIdeal.τ).loc Cert.DwFiveIdeal.main_arg2)
      ∧ r.2.mem ((c.tc : Thread Cert.DwFiveIdeal.nD Cert.DwFiveIdeal.τ).loc Cert.DwFiveIdeal.main_arg3) = m ((c.tc : Thread Cert.DwFiveIdeal.nD Cert.DwFiveIdeal.τ).loc Cert.DwFiveIdeal.main_arg3))
      ∧ r.2.sem = fun _ => 0)

def quiescent_DwFiveRefIdeal [hDwFiveRefIdeal : Cert.DwFiveRefIdeal.Facts] : Prop :=
  ∀ (m : (ℓ : Loc Cert.DwFiveRefIdeal.nD Cert.DwFiveRefIdeal.τ Cert.DwFiveRefIdeal.sig) → Buf (Elt Ideal) ℓ) (g : Dev Cert.DwFiveRefIdeal.nD → PrngReg), Pre_DwFiveRefIdeal m →
    θ_run (Cert.DwFiveRefIdeal.defs (F := Ideal)) (onTc (τ := Cert.DwFiveRefIdeal.τ) (Cert.DwFiveRefIdeal.main (F := Ideal))) ⟨m, fun _ => 0, g⟩ (fun r => (∀ c : Dev Cert.DwFiveRefIdeal.nD,
      r.2.mem ((c.tc : Thread Cert.DwFiveRefIdeal.nD Cert.DwFiveRefIdeal.τ).loc Cert.DwFiveRefIdeal.main_arg0) = m ((c.tc : Thread Cert.DwFiveRefIdeal.nD Cert.DwFiveRefIdeal.τ).loc Cert.DwFiveRefIdeal.main_arg0)
      ∧ r.2.mem ((c.tc : Thread Cert.DwFiveRefIdeal.nD Cert.DwFiveRefIdeal.τ).loc Cert.DwFiveRefIdeal.main_arg1) = m ((c.tc : Thread Cert.DwFiveRefIdeal.nD Cert.DwFiveRefIdeal.τ).loc Cert.DwFiveRefIdeal.main_arg1)
      ∧ r.2.mem ((c.tc : Thread Cert.DwFiveRefIdeal.nD Cert.DwFiveRefIdeal.τ).loc Cert.DwFiveRefIdeal.main_arg2) = m ((c.tc : Thread Cert.DwFiveRefIdeal.nD Cert.DwFiveRefIdeal.τ).loc Cert.DwFiveRefIdeal.main_arg2)
      ∧ r.2.mem ((c.tc : Thread Cert.DwFiveRefIdeal.nD Cert.DwFiveRefIdeal.τ).loc Cert.DwFiveRefIdeal.main_arg3) = m ((c.tc : Thread Cert.DwFiveRefIdeal.nD Cert.DwFiveRefIdeal.τ).loc Cert.DwFiveRefIdeal.main_arg3))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1))
      ∧ r.2.sem = fun _ => 0)

def preserves_Kernel_KernelIdeal : Prop :=
  True

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)) (v3 : (c : Dev Cert.MixIdeal.nD) → Buf (Elt Ideal) ((c.tc : Thread Cert.MixIdeal.nD Cert.MixIdeal.τ).loc Cert.MixIdeal.main_v8_3)) (v4 : (c : Dev Cert.MixIdeal.nD) → Buf (Elt Ideal) ((c.tc : Thread Cert.MixIdeal.nD Cert.MixIdeal.τ).loc Cert.MixIdeal.main_v8_4)) (v5 : (c : Dev Cert.MixIdeal.nD) → Buf (Elt Ideal) ((c.tc : Thread Cert.MixIdeal.nD Cert.MixIdeal.τ).loc Cert.MixIdeal.main_v8_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_v8_3) = v3 c
          ∧ r.2.mem ((c.tc : Thread Cert.MixIdeal.nD Cert.MixIdeal.τ).loc Cert.MixIdeal.main_v8_4) = v4 c
          ∧ r.2.mem ((c.tc : Thread Cert.MixIdeal.nD Cert.MixIdeal.τ).loc Cert.MixIdeal.main_v8_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v52) = v0 c
          ∧ r.2.mem ((c.tc : Thread Cert.MixRefIdeal.nD Cert.MixRefIdeal.τ).loc Cert.MixRefIdeal.main_v53) = v1 c
          ∧ r.2.mem ((c.tc : Thread Cert.MixRefIdeal.nD Cert.MixRefIdeal.τ).loc Cert.MixRefIdeal.main_v44) = v2 c
          ∧ r.2.mem ((c.tc : Thread Cert.MixRefIdeal.nD Cert.MixRefIdeal.τ).loc Cert.MixRefIdeal.main_v54) = v3 c
          ∧ r.2.mem ((c.tc : Thread Cert.MixRefIdeal.nD Cert.MixRefIdeal.τ).loc Cert.MixRefIdeal.main_v58) = v4 c
          ∧ r.2.mem ((c.tc : Thread Cert.MixRefIdeal.nD Cert.MixRefIdeal.τ).loc Cert.MixRefIdeal.main_v51) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Mlp_MlpIdeal : Prop :=
  True

def algebraic_MlpIdeal_MlpRefIdeal_pre_finite [hMlpIdeal : Cert.MlpIdeal.Facts] [hMlpRefIdeal : Cert.MlpRefIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v26_0)) (v1 : (c : Dev Cert.MlpIdeal.nD) → Buf (Elt Ideal) ((c.tc : Thread Cert.MlpIdeal.nD Cert.MlpIdeal.τ).loc Cert.MlpIdeal.main_v26_1)) (v2 : (c : Dev Cert.MlpIdeal.nD) → Buf (Elt Ideal) ((c.tc : Thread Cert.MlpIdeal.nD Cert.MlpIdeal.τ).loc Cert.MlpIdeal.main_v26_2)) (v3 : (c : Dev Cert.MlpIdeal.nD) → Buf (Elt Ideal) ((c.tc : Thread Cert.MlpIdeal.nD Cert.MlpIdeal.τ).loc Cert.MlpIdeal.main_v26_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v26_0) = v0 c
          ∧ r.2.mem ((c.tc : Thread Cert.MlpIdeal.nD Cert.MlpIdeal.τ).loc Cert.MlpIdeal.main_v26_1) = v1 c
          ∧ r.2.mem ((c.tc : Thread Cert.MlpIdeal.nD Cert.MlpIdeal.τ).loc Cert.MlpIdeal.main_v26_2) = v2 c
          ∧ r.2.mem ((c.tc : Thread Cert.MlpIdeal.nD Cert.MlpIdeal.τ).loc Cert.MlpIdeal.main_v26_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v78) = v0 c
          ∧ r.2.mem ((c.tc : Thread Cert.MlpRefIdeal.nD Cert.MlpRefIdeal.τ).loc Cert.MlpRefIdeal.main_v74) = v1 c
          ∧ r.2.mem ((c.tc : Thread Cert.MlpRefIdeal.nD Cert.MlpRefIdeal.τ).loc Cert.MlpRefIdeal.main_v79) = v2 c
          ∧ r.2.mem ((c.tc : Thread Cert.MlpRefIdeal.nD Cert.MlpRefIdeal.τ).loc Cert.MlpRefIdeal.main_v77) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v4)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v4) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v27) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v3_0)) (v1 : (c : Dev Cert.DwUpIdeal.nD) → Buf (Elt Ideal) ((c.tc : Thread Cert.DwUpIdeal.nD Cert.DwUpIdeal.τ).loc Cert.DwUpIdeal.main_v3_1)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v3_0) = v0 c
          ∧ r.2.mem ((c.tc : Thread Cert.DwUpIdeal.nD Cert.DwUpIdeal.τ).loc Cert.DwUpIdeal.main_v3_1) = v1 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v3) = v0 c
          ∧ r.2.mem ((c.tc : Thread Cert.DwUpRefIdeal.nD Cert.DwUpRefIdeal.τ).loc Cert.DwUpRefIdeal.main_v4) = v1 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v5_0)) (v1 : (c : Dev Cert.DwDownIdeal.nD) → Buf (Elt Ideal) ((c.tc : Thread Cert.DwDownIdeal.nD Cert.DwDownIdeal.τ).loc Cert.DwDownIdeal.main_v5_1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5_0) = v0 c
          ∧ r.2.mem ((c.tc : Thread Cert.DwDownIdeal.nD Cert.DwDownIdeal.τ).loc Cert.DwDownIdeal.main_v5_1) = v1 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_v6) = v1 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v3_1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v3_1) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v13) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_PoolB_PoolBIdeal : Prop :=
  True

def algebraic_PoolBIdeal_PoolBRefIdeal [hPoolBIdeal : Cert.PoolBIdeal.Facts] [hPoolBRefIdeal : Cert.PoolBRefIdeal.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)
      ∧ m' ((c.tc : Thread Cert.PoolBRefIdeal.nD Cert.PoolBRefIdeal.τ).loc Cert.PoolBRefIdeal.main_arg1) = m ((c.tc : Thread Cert.PoolBIdeal.nD Cert.PoolBIdeal.τ).loc Cert.PoolBIdeal.main_arg1)) →
    ∃ (v0 : (c : Dev Cert.PoolBIdeal.nD) → Buf (Elt Ideal) ((c.tc : Thread Cert.PoolBIdeal.nD Cert.PoolBIdeal.τ).loc Cert.PoolBIdeal.main_v0)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v0) = v0 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
          ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v46) = v0 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0)
          ∧ r.2.mem ((c.tc : Thread Cert.PoolBRefIdeal.nD Cert.PoolBRefIdeal.τ).loc Cert.PoolBRefIdeal.main_arg1) = m' ((c.tc : Thread Cert.PoolBRefIdeal.nD Cert.PoolBRefIdeal.τ).loc Cert.PoolBRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v3_0)) (v1 : (c : Dev Cert.DwOutIdeal.nD) → Buf (Elt Ideal) ((c.tc : Thread Cert.DwOutIdeal.nD Cert.DwOutIdeal.τ).loc Cert.DwOutIdeal.main_v3_1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v3_0) = v0 c
          ∧ r.2.mem ((c.tc : Thread Cert.DwOutIdeal.nD Cert.DwOutIdeal.τ).loc Cert.DwOutIdeal.main_v3_1) = v1 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_v4) = v1 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v4_0)) (v1 : (c : Dev Cert.DwAIdeal.nD) → Buf (Elt Ideal) ((c.tc : Thread Cert.DwAIdeal.nD Cert.DwAIdeal.τ).loc Cert.DwAIdeal.main_v4_1)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v4_0) = v0 c
          ∧ r.2.mem ((c.tc : Thread Cert.DwAIdeal.nD Cert.DwAIdeal.τ).loc Cert.DwAIdeal.main_v4_1) = v1 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v3) = v0 c
          ∧ r.2.mem ((c.tc : Thread Cert.DwARefIdeal.nD Cert.DwARefIdeal.τ).loc Cert.DwARefIdeal.main_v4) = v1 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_DwPool_DwPoolIdeal : Prop :=
  True

def algebraic_DwPoolIdeal_DwPoolRefIdeal [hDwPoolIdeal : Cert.DwPoolIdeal.Facts] [hDwPoolRefIdeal : Cert.DwPoolRefIdeal.Facts] : Prop :=
  ∀ (m : (ℓ : Loc Cert.DwPoolIdeal.nD Cert.DwPoolIdeal.τ Cert.DwPoolIdeal.sig) → Buf (Elt Ideal) ℓ) (g : Dev Cert.DwPoolIdeal.nD → PrngReg)
    (m' : (ℓ : Loc Cert.DwPoolRefIdeal.nD Cert.DwPoolRefIdeal.τ Cert.DwPoolRefIdeal.sig) → Buf (Elt Ideal) ℓ) (g' : Dev Cert.DwPoolRefIdeal.nD → PrngReg), Pre_DwPoolIdeal m →
    (∀ c : Dev Cert.DwPoolIdeal.nD,
      m' ((c.tc : Thread Cert.DwPoolRefIdeal.nD Cert.DwPoolRefIdeal.τ).loc Cert.DwPoolRefIdeal.main_arg0) = m ((c.tc : Thread Cert.DwPoolIdeal.nD Cert.DwPoolIdeal.τ).loc Cert.DwPoolIdeal.main_arg0)
      ∧ m' ((c.tc : Thread Cert.DwPoolRefIdeal.nD Cert.DwPoolRefIdeal.τ).loc Cert.DwPoolRefIdeal.main_arg1) = m ((c.tc : Thread Cert.DwPoolIdeal.nD Cert.DwPoolIdeal.τ).loc Cert.DwPoolIdeal.main_arg1)) →
    ∃ (v0 : (c : Dev Cert.DwPoolIdeal.nD) → Buf (Elt Ideal) ((c.tc : Thread Cert.DwPoolIdeal.nD Cert.DwPoolIdeal.τ).loc Cert.DwPoolIdeal.main_v4_0)) (v1 : (c : Dev Cert.DwPoolIdeal.nD) → Buf (Elt Ideal) ((c.tc : Thread Cert.DwPoolIdeal.nD Cert.DwPoolIdeal.τ).loc Cert.DwPoolIdeal.main_v4_1)),
      θ_run (Cert.DwPoolIdeal.defs (F := Ideal)) (onTc (τ := Cert.DwPoolIdeal.τ) (Cert.DwPoolIdeal.main (F := Ideal))) ⟨m, fun _ => 0, g⟩ (fun r => ∀ c : Dev Cert.DwPoolIdeal.nD,
          r.2.mem ((c.tc : Thread Cert.DwPoolIdeal.nD Cert.DwPoolIdeal.τ).loc Cert.DwPoolIdeal.main_v4_0) = v0 c
          ∧ r.2.mem ((c.tc : Thread Cert.DwPoolIdeal.nD Cert.DwPoolIdeal.τ).loc Cert.DwPoolIdeal.main_v4_1) = v1 c
          ∧ r.2.mem ((c.tc : Thread Cert.DwPoolIdeal.nD Cert.DwPoolIdeal.τ).loc Cert.DwPoolIdeal.main_arg0) = m ((c.tc : Thread Cert.DwPoolIdeal.nD Cert.DwPoolIdeal.τ).loc Cert.DwPoolIdeal.main_arg0)
          ∧ r.2.mem ((c.tc : Thread Cert.DwPoolIdeal.nD Cert.DwPoolIdeal.τ).loc Cert.DwPoolIdeal.main_arg1) = m ((c.tc : Thread Cert.DwPoolIdeal.nD Cert.DwPoolIdeal.τ).loc Cert.DwPoolIdeal.main_arg1))
      ∧ θ_run (Cert.DwPoolRefIdeal.defs (F := Ideal)) (onTc (τ := Cert.DwPoolRefIdeal.τ) (Cert.DwPoolRefIdeal.main (F := Ideal))) ⟨m', fun _ => 0, g'⟩ (fun r => ∀ c : Dev Cert.DwPoolRefIdeal.nD,
          r.2.mem ((c.tc : Thread Cert.DwPoolRefIdeal.nD Cert.DwPoolRefIdeal.τ).loc Cert.DwPoolRefIdeal.main_v7) = v0 c
          ∧ r.2.mem ((c.tc : Thread Cert.DwPoolRefIdeal.nD Cert.DwPoolRefIdeal.τ).loc Cert.DwPoolRefIdeal.main_v8) = v1 c
          ∧ r.2.mem ((c.tc : Thread Cert.DwPoolRefIdeal.nD Cert.DwPoolRefIdeal.τ).loc Cert.DwPoolRefIdeal.main_arg0) = m' ((c.tc : Thread Cert.DwPoolRefIdeal.nD Cert.DwPoolRefIdeal.τ).loc Cert.DwPoolRefIdeal.main_arg0)
          ∧ r.2.mem ((c.tc : Thread Cert.DwPoolRefIdeal.nD Cert.DwPoolRefIdeal.τ).loc Cert.DwPoolRefIdeal.main_arg1) = m' ((c.tc : Thread Cert.DwPoolRefIdeal.nD Cert.DwPoolRefIdeal.τ).loc Cert.DwPoolRefIdeal.main_arg1))

def preserves_MlpF_MlpFIdeal : Prop :=
  True

def algebraic_MlpFIdeal_MlpFRefIdeal_pre_finite_mlp [hMlpFIdeal : Cert.MlpFIdeal.Facts] [hMlpFRefIdeal : Cert.MlpFRefIdeal.Facts] [hPre_finite_mlp : Cert.Pre_finite_mlp.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal_finite_mlp m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)
      ∧ m' ((c.tc : Thread Cert.MlpFRefIdeal.nD Cert.MlpFRefIdeal.τ).loc Cert.MlpFRefIdeal.main_arg4) = m ((c.tc : Thread Cert.MlpFIdeal.nD Cert.MlpFIdeal.τ).loc Cert.MlpFIdeal.main_arg4)
      ∧ m' ((c.tc : Thread Cert.MlpFRefIdeal.nD Cert.MlpFRefIdeal.τ).loc Cert.MlpFRefIdeal.main_arg5) = m ((c.tc : Thread Cert.MlpFIdeal.nD Cert.MlpFIdeal.τ).loc Cert.MlpFIdeal.main_arg5)
      ∧ m' ((c.tc : Thread Cert.MlpFRefIdeal.nD Cert.MlpFRefIdeal.τ).loc Cert.MlpFRefIdeal.main_arg6) = m ((c.tc : Thread Cert.MlpFIdeal.nD Cert.MlpFIdeal.τ).loc Cert.MlpFIdeal.main_arg6)
      ∧ m' ((c.tc : Thread Cert.MlpFRefIdeal.nD Cert.MlpFRefIdeal.τ).loc Cert.MlpFRefIdeal.main_arg7) = m ((c.tc : Thread Cert.MlpFIdeal.nD Cert.MlpFIdeal.τ).loc Cert.MlpFIdeal.main_arg7)) →
    ∃ (v0 : (c : Dev Cert.MlpFIdeal.nD) → Buf (Elt Ideal) ((c.tc : Thread Cert.MlpFIdeal.nD Cert.MlpFIdeal.τ).loc Cert.MlpFIdeal.main_v7_0)) (v1 : (c : Dev Cert.MlpFIdeal.nD) → Buf (Elt Ideal) ((c.tc : Thread Cert.MlpFIdeal.nD Cert.MlpFIdeal.τ).loc Cert.MlpFIdeal.main_v7_1)) (v2 : (c : Dev Cert.MlpFIdeal.nD) → Buf (Elt Ideal) ((c.tc : Thread Cert.MlpFIdeal.nD Cert.MlpFIdeal.τ).loc Cert.MlpFIdeal.main_v7_2)) (v3 : (c : Dev Cert.MlpFIdeal.nD) → Buf (Elt Ideal) ((c.tc : Thread Cert.MlpFIdeal.nD Cert.MlpFIdeal.τ).loc Cert.MlpFIdeal.main_v7_3)) (v4 : (c : Dev Cert.MlpFIdeal.nD) → Buf (Elt Ideal) ((c.tc : Thread Cert.MlpFIdeal.nD Cert.MlpFIdeal.τ).loc Cert.MlpFIdeal.main_v7_4)) (v5 : (c : Dev Cert.MlpFIdeal.nD) → Buf (Elt Ideal) ((c.tc : Thread Cert.MlpFIdeal.nD Cert.MlpFIdeal.τ).loc Cert.MlpFIdeal.main_v7_5)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v7_0) = v0 c
          ∧ r.2.mem ((c.tc : Thread Cert.MlpFIdeal.nD Cert.MlpFIdeal.τ).loc Cert.MlpFIdeal.main_v7_1) = v1 c
          ∧ r.2.mem ((c.tc : Thread Cert.MlpFIdeal.nD Cert.MlpFIdeal.τ).loc Cert.MlpFIdeal.main_v7_2) = v2 c
          ∧ r.2.mem ((c.tc : Thread Cert.MlpFIdeal.nD Cert.MlpFIdeal.τ).loc Cert.MlpFIdeal.main_v7_3) = v3 c
          ∧ r.2.mem ((c.tc : Thread Cert.MlpFIdeal.nD Cert.MlpFIdeal.τ).loc Cert.MlpFIdeal.main_v7_4) = v4 c
          ∧ r.2.mem ((c.tc : Thread Cert.MlpFIdeal.nD Cert.MlpFIdeal.τ).loc Cert.MlpFIdeal.main_v7_5) = v5 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
          ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
          ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5)
          ∧ r.2.mem ((c.tc : Thread Cert.MlpFIdeal.nD Cert.MlpFIdeal.τ).loc Cert.MlpFIdeal.main_arg6) = m ((c.tc : Thread Cert.MlpFIdeal.nD Cert.MlpFIdeal.τ).loc Cert.MlpFIdeal.main_arg6)
          ∧ r.2.mem ((c.tc : Thread Cert.MlpFIdeal.nD Cert.MlpFIdeal.τ).loc Cert.MlpFIdeal.main_arg7) = m ((c.tc : Thread Cert.MlpFIdeal.nD Cert.MlpFIdeal.τ).loc Cert.MlpFIdeal.main_arg7))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v4) = v0 c
          ∧ r.2.mem ((c.tc : Thread Cert.MlpFRefIdeal.nD Cert.MlpFRefIdeal.τ).loc Cert.MlpFRefIdeal.main_v89) = v1 c
          ∧ r.2.mem ((c.tc : Thread Cert.MlpFRefIdeal.nD Cert.MlpFRefIdeal.τ).loc Cert.MlpFRefIdeal.main_v86) = v2 c
          ∧ r.2.mem ((c.tc : Thread Cert.MlpFRefIdeal.nD Cert.MlpFRefIdeal.τ).loc Cert.MlpFRefIdeal.main_v90) = v3 c
          ∧ r.2.mem ((c.tc : Thread Cert.MlpFRefIdeal.nD Cert.MlpFRefIdeal.τ).loc Cert.MlpFRefIdeal.main_v92) = v4 c
          ∧ r.2.mem ((c.tc : Thread Cert.MlpFRefIdeal.nD Cert.MlpFRefIdeal.τ).loc Cert.MlpFRefIdeal.main_v88) = v5 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3)
          ∧ r.2.mem ((c.tc : Thread Cert.MlpFRefIdeal.nD Cert.MlpFRefIdeal.τ).loc Cert.MlpFRefIdeal.main_arg4) = m' ((c.tc : Thread Cert.MlpFRefIdeal.nD Cert.MlpFRefIdeal.τ).loc Cert.MlpFRefIdeal.main_arg4)
          ∧ r.2.mem ((c.tc : Thread Cert.MlpFRefIdeal.nD Cert.MlpFRefIdeal.τ).loc Cert.MlpFRefIdeal.main_arg5) = m' ((c.tc : Thread Cert.MlpFRefIdeal.nD Cert.MlpFRefIdeal.τ).loc Cert.MlpFRefIdeal.main_arg5)
          ∧ r.2.mem ((c.tc : Thread Cert.MlpFRefIdeal.nD Cert.MlpFRefIdeal.τ).loc Cert.MlpFRefIdeal.main_arg6) = m' ((c.tc : Thread Cert.MlpFRefIdeal.nD Cert.MlpFRefIdeal.τ).loc Cert.MlpFRefIdeal.main_arg6)
          ∧ r.2.mem ((c.tc : Thread Cert.MlpFRefIdeal.nD Cert.MlpFRefIdeal.τ).loc Cert.MlpFRefIdeal.main_arg7) = m' ((c.tc : Thread Cert.MlpFRefIdeal.nD Cert.MlpFRefIdeal.τ).loc Cert.MlpFRefIdeal.main_arg7))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)
      ∧ m' ((c.tc : Thread Cert.MixFRefIdeal.nD Cert.MixFRefIdeal.τ).loc Cert.MixFRefIdeal.main_arg5) = m ((c.tc : Thread Cert.MixFIdeal.nD Cert.MixFIdeal.τ).loc Cert.MixFIdeal.main_arg5)
      ∧ m' ((c.tc : Thread Cert.MixFRefIdeal.nD Cert.MixFRefIdeal.τ).loc Cert.MixFRefIdeal.main_arg6) = m ((c.tc : Thread Cert.MixFIdeal.nD Cert.MixFIdeal.τ).loc Cert.MixFIdeal.main_arg6)
      ∧ m' ((c.tc : Thread Cert.MixFRefIdeal.nD Cert.MixFRefIdeal.τ).loc Cert.MixFRefIdeal.main_arg7) = m ((c.tc : Thread Cert.MixFIdeal.nD Cert.MixFIdeal.τ).loc Cert.MixFIdeal.main_arg7)
      ∧ m' ((c.tc : Thread Cert.MixFRefIdeal.nD Cert.MixFRefIdeal.τ).loc Cert.MixFRefIdeal.main_arg8) = m ((c.tc : Thread Cert.MixFIdeal.nD Cert.MixFIdeal.τ).loc Cert.MixFIdeal.main_arg8)) →
    ∃ (v0 : (c : Dev Cert.MixFIdeal.nD) → Buf (Elt Ideal) ((c.tc : Thread Cert.MixFIdeal.nD Cert.MixFIdeal.τ).loc Cert.MixFIdeal.main_v3_0)) (v1 : (c : Dev Cert.MixFIdeal.nD) → Buf (Elt Ideal) ((c.tc : Thread Cert.MixFIdeal.nD Cert.MixFIdeal.τ).loc Cert.MixFIdeal.main_v3_1)) (v2 : (c : Dev Cert.MixFIdeal.nD) → Buf (Elt Ideal) ((c.tc : Thread Cert.MixFIdeal.nD Cert.MixFIdeal.τ).loc Cert.MixFIdeal.main_v3_2)) (v3 : (c : Dev Cert.MixFIdeal.nD) → Buf (Elt Ideal) ((c.tc : Thread Cert.MixFIdeal.nD Cert.MixFIdeal.τ).loc Cert.MixFIdeal.main_v3_3)) (v4 : (c : Dev Cert.MixFIdeal.nD) → Buf (Elt Ideal) ((c.tc : Thread Cert.MixFIdeal.nD Cert.MixFIdeal.τ).loc Cert.MixFIdeal.main_v3_4)) (v5 : (c : Dev Cert.MixFIdeal.nD) → Buf (Elt Ideal) ((c.tc : Thread Cert.MixFIdeal.nD Cert.MixFIdeal.τ).loc Cert.MixFIdeal.main_v3_5)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v3_0) = v0 c
          ∧ r.2.mem ((c.tc : Thread Cert.MixFIdeal.nD Cert.MixFIdeal.τ).loc Cert.MixFIdeal.main_v3_1) = v1 c
          ∧ r.2.mem ((c.tc : Thread Cert.MixFIdeal.nD Cert.MixFIdeal.τ).loc Cert.MixFIdeal.main_v3_2) = v2 c
          ∧ r.2.mem ((c.tc : Thread Cert.MixFIdeal.nD Cert.MixFIdeal.τ).loc Cert.MixFIdeal.main_v3_3) = v3 c
          ∧ r.2.mem ((c.tc : Thread Cert.MixFIdeal.nD Cert.MixFIdeal.τ).loc Cert.MixFIdeal.main_v3_4) = v4 c
          ∧ r.2.mem ((c.tc : Thread Cert.MixFIdeal.nD Cert.MixFIdeal.τ).loc Cert.MixFIdeal.main_v3_5) = v5 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
          ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
          ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
          ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v0) = v0 c
          ∧ r.2.mem ((c.tc : Thread Cert.MixFRefIdeal.nD Cert.MixFRefIdeal.τ).loc Cert.MixFRefIdeal.main_v49) = v1 c
          ∧ r.2.mem ((c.tc : Thread Cert.MixFRefIdeal.nD Cert.MixFRefIdeal.τ).loc Cert.MixFRefIdeal.main_v43) = v2 c
          ∧ r.2.mem ((c.tc : Thread Cert.MixFRefIdeal.nD Cert.MixFRefIdeal.τ).loc Cert.MixFRefIdeal.main_v39) = v3 c
          ∧ r.2.mem ((c.tc : Thread Cert.MixFRefIdeal.nD Cert.MixFRefIdeal.τ).loc Cert.MixFRefIdeal.main_v50) = v4 c
          ∧ r.2.mem ((c.tc : Thread Cert.MixFRefIdeal.nD Cert.MixFRefIdeal.τ).loc Cert.MixFRefIdeal.main_v52) = v5 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4)
          ∧ r.2.mem ((c.tc : Thread Cert.MixFRefIdeal.nD Cert.MixFRefIdeal.τ).loc Cert.MixFRefIdeal.main_arg5) = m' ((c.tc : Thread Cert.MixFRefIdeal.nD Cert.MixFRefIdeal.τ).loc Cert.MixFRefIdeal.main_arg5)
          ∧ r.2.mem ((c.tc : Thread Cert.MixFRefIdeal.nD Cert.MixFRefIdeal.τ).loc Cert.MixFRefIdeal.main_arg6) = m' ((c.tc : Thread Cert.MixFRefIdeal.nD Cert.MixFRefIdeal.τ).loc Cert.MixFRefIdeal.main_arg6)
          ∧ r.2.mem ((c.tc : Thread Cert.MixFRefIdeal.nD Cert.MixFRefIdeal.τ).loc Cert.MixFRefIdeal.main_arg7) = m' ((c.tc : Thread Cert.MixFRefIdeal.nD Cert.MixFRefIdeal.τ).loc Cert.MixFRefIdeal.main_arg7)
          ∧ r.2.mem ((c.tc : Thread Cert.MixFRefIdeal.nD Cert.MixFRefIdeal.τ).loc Cert.MixFRefIdeal.main_arg8) = m' ((c.tc : Thread Cert.MixFRefIdeal.nD Cert.MixFRefIdeal.τ).loc Cert.MixFRefIdeal.main_arg8))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)
      ∧ m' ((c.tc : Thread Cert.DwGateRefIdeal.nD Cert.DwGateRefIdeal.τ).loc Cert.DwGateRefIdeal.main_arg3) = m ((c.tc : Thread Cert.DwGateIdeal.nD Cert.DwGateIdeal.τ).loc Cert.DwGateIdeal.main_arg3)) →
    ∃ (v0 : (c : Dev Cert.DwGateIdeal.nD) → Buf (Elt Ideal) ((c.tc : Thread Cert.DwGateIdeal.nD Cert.DwGateIdeal.τ).loc Cert.DwGateIdeal.main_v3_0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v3_0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
          ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v10) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2)
          ∧ r.2.mem ((c.tc : Thread Cert.DwGateRefIdeal.nD Cert.DwGateRefIdeal.τ).loc Cert.DwGateRefIdeal.main_arg3) = m' ((c.tc : Thread Cert.DwGateRefIdeal.nD Cert.DwGateRefIdeal.τ).loc Cert.DwGateRefIdeal.main_arg3))

def preserves_DwFive_DwFiveIdeal : Prop :=
  True

def algebraic_DwFiveIdeal_DwFiveRefIdeal [hDwFiveIdeal : Cert.DwFiveIdeal.Facts] [hDwFiveRefIdeal : Cert.DwFiveRefIdeal.Facts] : Prop :=
  ∀ (m : (ℓ : Loc Cert.DwFiveIdeal.nD Cert.DwFiveIdeal.τ Cert.DwFiveIdeal.sig) → Buf (Elt Ideal) ℓ) (g : Dev Cert.DwFiveIdeal.nD → PrngReg)
    (m' : (ℓ : Loc Cert.DwFiveRefIdeal.nD Cert.DwFiveRefIdeal.τ Cert.DwFiveRefIdeal.sig) → Buf (Elt Ideal) ℓ) (g' : Dev Cert.DwFiveRefIdeal.nD → PrngReg), Pre_DwFiveIdeal m →
    (∀ c : Dev Cert.DwFiveIdeal.nD,
      m' ((c.tc : Thread Cert.DwFiveRefIdeal.nD Cert.DwFiveRefIdeal.τ).loc Cert.DwFiveRefIdeal.main_arg0) = m ((c.tc : Thread Cert.DwFiveIdeal.nD Cert.DwFiveIdeal.τ).loc Cert.DwFiveIdeal.main_arg0)
      ∧ m' ((c.tc : Thread Cert.DwFiveRefIdeal.nD Cert.DwFiveRefIdeal.τ).loc Cert.DwFiveRefIdeal.main_arg1) = m ((c.tc : Thread Cert.DwFiveIdeal.nD Cert.DwFiveIdeal.τ).loc Cert.DwFiveIdeal.main_arg1)
      ∧ m' ((c.tc : Thread Cert.DwFiveRefIdeal.nD Cert.DwFiveRefIdeal.τ).loc Cert.DwFiveRefIdeal.main_arg2) = m ((c.tc : Thread Cert.DwFiveIdeal.nD Cert.DwFiveIdeal.τ).loc Cert.DwFiveIdeal.main_arg2)
      ∧ m' ((c.tc : Thread Cert.DwFiveRefIdeal.nD Cert.DwFiveRefIdeal.τ).loc Cert.DwFiveRefIdeal.main_arg3) = m ((c.tc : Thread Cert.DwFiveIdeal.nD Cert.DwFiveIdeal.τ).loc Cert.DwFiveIdeal.main_arg3)) →
    ∃ (v0 : (c : Dev Cert.DwFiveIdeal.nD) → Buf (Elt Ideal) ((c.tc : Thread Cert.DwFiveIdeal.nD Cert.DwFiveIdeal.τ).loc Cert.DwFiveIdeal.main_v3_0)) (v1 : (c : Dev Cert.DwFiveIdeal.nD) → Buf (Elt Ideal) ((c.tc : Thread Cert.DwFiveIdeal.nD Cert.DwFiveIdeal.τ).loc Cert.DwFiveIdeal.main_v3_1)),
      θ_run (Cert.DwFiveIdeal.defs (F := Ideal)) (onTc (τ := Cert.DwFiveIdeal.τ) (Cert.DwFiveIdeal.main (F := Ideal))) ⟨m, fun _ => 0, g⟩ (fun r => ∀ c : Dev Cert.DwFiveIdeal.nD,
          r.2.mem ((c.tc : Thread Cert.DwFiveIdeal.nD Cert.DwFiveIdeal.τ).loc Cert.DwFiveIdeal.main_v3_0) = v0 c
          ∧ r.2.mem ((c.tc : Thread Cert.DwFiveIdeal.nD Cert.DwFiveIdeal.τ).loc Cert.DwFiveIdeal.main_v3_1) = v1 c
          ∧ r.2.mem ((c.tc : Thread Cert.DwFiveIdeal.nD Cert.DwFiveIdeal.τ).loc Cert.DwFiveIdeal.main_arg0) = m ((c.tc : Thread Cert.DwFiveIdeal.nD Cert.DwFiveIdeal.τ).loc Cert.DwFiveIdeal.main_arg0)
          ∧ r.2.mem ((c.tc : Thread Cert.DwFiveIdeal.nD Cert.DwFiveIdeal.τ).loc Cert.DwFiveIdeal.main_arg1) = m ((c.tc : Thread Cert.DwFiveIdeal.nD Cert.DwFiveIdeal.τ).loc Cert.DwFiveIdeal.main_arg1)
          ∧ r.2.mem ((c.tc : Thread Cert.DwFiveIdeal.nD Cert.DwFiveIdeal.τ).loc Cert.DwFiveIdeal.main_arg2) = m ((c.tc : Thread Cert.DwFiveIdeal.nD Cert.DwFiveIdeal.τ).loc Cert.DwFiveIdeal.main_arg2)
          ∧ r.2.mem ((c.tc : Thread Cert.DwFiveIdeal.nD Cert.DwFiveIdeal.τ).loc Cert.DwFiveIdeal.main_arg3) = m ((c.tc : Thread Cert.DwFiveIdeal.nD Cert.DwFiveIdeal.τ).loc Cert.DwFiveIdeal.main_arg3))
      ∧ θ_run (Cert.DwFiveRefIdeal.defs (F := Ideal)) (onTc (τ := Cert.DwFiveRefIdeal.τ) (Cert.DwFiveRefIdeal.main (F := Ideal))) ⟨m', fun _ => 0, g'⟩ (fun r => ∀ c : Dev Cert.DwFiveRefIdeal.nD,
          r.2.mem ((c.tc : Thread Cert.DwFiveRefIdeal.nD Cert.DwFiveRefIdeal.τ).loc Cert.DwFiveRefIdeal.main_v6) = v0 c
          ∧ r.2.mem ((c.tc : Thread Cert.DwFiveRefIdeal.nD Cert.DwFiveRefIdeal.τ).loc Cert.DwFiveRefIdeal.main_v9) = v1 c
          ∧ r.2.mem ((c.tc : Thread Cert.DwFiveRefIdeal.nD Cert.DwFiveRefIdeal.τ).loc Cert.DwFiveRefIdeal.main_arg0) = m' ((c.tc : Thread Cert.DwFiveRefIdeal.nD Cert.DwFiveRefIdeal.τ).loc Cert.DwFiveRefIdeal.main_arg0)
          ∧ r.2.mem ((c.tc : Thread Cert.DwFiveRefIdeal.nD Cert.DwFiveRefIdeal.τ).loc Cert.DwFiveRefIdeal.main_arg1) = m' ((c.tc : Thread Cert.DwFiveRefIdeal.nD Cert.DwFiveRefIdeal.τ).loc Cert.DwFiveRefIdeal.main_arg1)
          ∧ r.2.mem ((c.tc : Thread Cert.DwFiveRefIdeal.nD Cert.DwFiveRefIdeal.τ).loc Cert.DwFiveRefIdeal.main_arg2) = m' ((c.tc : Thread Cert.DwFiveRefIdeal.nD Cert.DwFiveRefIdeal.τ).loc Cert.DwFiveRefIdeal.main_arg2)
          ∧ r.2.mem ((c.tc : Thread Cert.DwFiveRefIdeal.nD Cert.DwFiveRefIdeal.τ).loc Cert.DwFiveRefIdeal.main_arg3) = m' ((c.tc : Thread Cert.DwFiveRefIdeal.nD Cert.DwFiveRefIdeal.τ).loc Cert.DwFiveRefIdeal.main_arg3))

def preserves_PoolF_PoolFIdeal : Prop :=
  True

def algebraic_PoolFIdeal_PoolFRefIdeal [hPoolFIdeal : Cert.PoolFIdeal.Facts] [hPoolFRefIdeal : Cert.PoolFRefIdeal.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)) →
    ∃ (v0 : (c : Dev Cert.PoolFIdeal.nD) → Buf (Elt Ideal) ((c.tc : Thread Cert.PoolFIdeal.nD Cert.PoolFIdeal.τ).loc Cert.PoolFIdeal.main_v1_0)) (v1 : (c : Dev Cert.PoolFIdeal.nD) → Buf (Elt Ideal) ((c.tc : Thread Cert.PoolFIdeal.nD Cert.PoolFIdeal.τ).loc Cert.PoolFIdeal.main_v1_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v1_0) = v0 c
          ∧ r.2.mem ((c.tc : Thread Cert.PoolFIdeal.nD Cert.PoolFIdeal.τ).loc Cert.PoolFIdeal.main_v1_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v43) = v0 c
          ∧ r.2.mem ((c.tc : Thread Cert.PoolFRefIdeal.nD Cert.PoolFRefIdeal.τ).loc Cert.PoolFRefIdeal.main_v40) = v1 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1))

def Claim : Prop :=
  ∃ (hKernel : Cert.Kernel.Facts) (hKernelIdeal : Cert.KernelIdeal.Facts) (hMix : Cert.Mix.Facts) (hMixIdeal : Cert.MixIdeal.Facts) (hMixRefIdeal : Cert.MixRefIdeal.Facts) (hMlp : Cert.Mlp.Facts) (hMlpIdeal : Cert.MlpIdeal.Facts) (hMlpRefIdeal : Cert.MlpRefIdeal.Facts) (hDx : Cert.Dx.Facts) (hDxIdeal : Cert.DxIdeal.Facts) (hDxRefIdeal : Cert.DxRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hProj : Cert.Proj.Facts) (hProjIdeal : Cert.ProjIdeal.Facts) (hProjRefIdeal : Cert.ProjRefIdeal.Facts) (hPoolB : Cert.PoolB.Facts) (hPoolBIdeal : Cert.PoolBIdeal.Facts) (hPoolBRefIdeal : Cert.PoolBRefIdeal.Facts) (hDwOut : Cert.DwOut.Facts) (hDwOutIdeal : Cert.DwOutIdeal.Facts) (hDwOutRefIdeal : Cert.DwOutRefIdeal.Facts) (hDwA : Cert.DwA.Facts) (hDwAIdeal : Cert.DwAIdeal.Facts) (hDwARefIdeal : Cert.DwARefIdeal.Facts) (hDwPool : Cert.DwPool.Facts) (hDwPoolIdeal : Cert.DwPoolIdeal.Facts) (hDwPoolRefIdeal : Cert.DwPoolRefIdeal.Facts) (hMlpF : Cert.MlpF.Facts) (hMlpFIdeal : Cert.MlpFIdeal.Facts) (hMlpFRefIdeal : Cert.MlpFRefIdeal.Facts) (hMixF : Cert.MixF.Facts) (hMixFIdeal : Cert.MixFIdeal.Facts) (hMixFRefIdeal : Cert.MixFRefIdeal.Facts) (hDwGate : Cert.DwGate.Facts) (hDwGateIdeal : Cert.DwGateIdeal.Facts) (hDwGateRefIdeal : Cert.DwGateRefIdeal.Facts) (hDwFive : Cert.DwFive.Facts) (hDwFiveIdeal : Cert.DwFiveIdeal.Facts) (hDwFiveRefIdeal : Cert.DwFiveRefIdeal.Facts) (hPoolF : Cert.PoolF.Facts) (hPoolFIdeal : Cert.PoolFIdeal.Facts) (hPoolFRefIdeal : Cert.PoolFRefIdeal.Facts) (hPre_finite : Cert.Pre_finite.Facts) (hPre_finite_mlp : Cert.Pre_finite_mlp.Facts),
    quiescent_Kernel (hKernel := hKernel)
    ∧ quiescent_KernelIdeal (hKernelIdeal := hKernelIdeal)
    ∧ quiescent_Mix (hMix := hMix)
    ∧ quiescent_MixIdeal (hMixIdeal := hMixIdeal)
    ∧ quiescent_MixRefIdeal (hMixRefIdeal := hMixRefIdeal)
    ∧ quiescent_Mlp (hMlp := hMlp)
    ∧ quiescent_MlpIdeal (hMlpIdeal := hMlpIdeal)
    ∧ quiescent_MlpIdeal_pre_finite (hMlpIdeal := hMlpIdeal) (hPre_finite := hPre_finite)
    ∧ quiescent_MlpRefIdeal (hMlpRefIdeal := hMlpRefIdeal)
    ∧ quiescent_MlpRefIdeal_pre_finite (hMlpRefIdeal := hMlpRefIdeal) (hPre_finite := hPre_finite)
    ∧ quiescent_Dx (hDx := hDx)
    ∧ quiescent_DxIdeal (hDxIdeal := hDxIdeal)
    ∧ quiescent_DxRefIdeal (hDxRefIdeal := hDxRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Proj (hProj := hProj)
    ∧ quiescent_ProjIdeal (hProjIdeal := hProjIdeal)
    ∧ quiescent_ProjRefIdeal (hProjRefIdeal := hProjRefIdeal)
    ∧ quiescent_PoolB (hPoolB := hPoolB)
    ∧ quiescent_PoolBIdeal (hPoolBIdeal := hPoolBIdeal)
    ∧ quiescent_PoolBRefIdeal (hPoolBRefIdeal := hPoolBRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwA (hDwA := hDwA)
    ∧ quiescent_DwAIdeal (hDwAIdeal := hDwAIdeal)
    ∧ quiescent_DwARefIdeal (hDwARefIdeal := hDwARefIdeal)
    ∧ quiescent_DwPool (hDwPool := hDwPool)
    ∧ quiescent_DwPoolIdeal (hDwPoolIdeal := hDwPoolIdeal)
    ∧ quiescent_DwPoolRefIdeal (hDwPoolRefIdeal := hDwPoolRefIdeal)
    ∧ quiescent_MlpF (hMlpF := hMlpF)
    ∧ quiescent_MlpFIdeal (hMlpFIdeal := hMlpFIdeal)
    ∧ quiescent_MlpFIdeal_pre_finite_mlp (hMlpFIdeal := hMlpFIdeal) (hPre_finite_mlp := hPre_finite_mlp)
    ∧ quiescent_MlpFRefIdeal (hMlpFRefIdeal := hMlpFRefIdeal)
    ∧ quiescent_MlpFRefIdeal_pre_finite_mlp (hMlpFRefIdeal := hMlpFRefIdeal) (hPre_finite_mlp := hPre_finite_mlp)
    ∧ quiescent_MixF (hMixF := hMixF)
    ∧ quiescent_MixFIdeal (hMixFIdeal := hMixFIdeal)
    ∧ quiescent_MixFRefIdeal (hMixFRefIdeal := hMixFRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwFive (hDwFive := hDwFive)
    ∧ quiescent_DwFiveIdeal (hDwFiveIdeal := hDwFiveIdeal)
    ∧ quiescent_DwFiveRefIdeal (hDwFiveRefIdeal := hDwFiveRefIdeal)
    ∧ quiescent_PoolF (hPoolF := hPoolF)
    ∧ quiescent_PoolFIdeal (hPoolFIdeal := hPoolFIdeal)
    ∧ quiescent_PoolFRefIdeal (hPoolFRefIdeal := hPoolFRefIdeal)
    ∧ preserves_Kernel_KernelIdeal
    ∧ preserves_Mix_MixIdeal
    ∧ algebraic_MixIdeal_MixRefIdeal (hMixIdeal := hMixIdeal) (hMixRefIdeal := hMixRefIdeal)
    ∧ preserves_Mlp_MlpIdeal
    ∧ algebraic_MlpIdeal_MlpRefIdeal_pre_finite (hMlpIdeal := hMlpIdeal) (hMlpRefIdeal := hMlpRefIdeal) (hPre_finite := hPre_finite)
    ∧ preserves_Dx_DxIdeal
    ∧ algebraic_DxIdeal_DxRefIdeal (hDxIdeal := hDxIdeal) (hDxRefIdeal := hDxRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_Proj_ProjIdeal
    ∧ algebraic_ProjIdeal_ProjRefIdeal (hProjIdeal := hProjIdeal) (hProjRefIdeal := hProjRefIdeal)
    ∧ preserves_PoolB_PoolBIdeal
    ∧ algebraic_PoolBIdeal_PoolBRefIdeal (hPoolBIdeal := hPoolBIdeal) (hPoolBRefIdeal := hPoolBRefIdeal)
    ∧ preserves_DwOut_DwOutIdeal
    ∧ algebraic_DwOutIdeal_DwOutRefIdeal (hDwOutIdeal := hDwOutIdeal) (hDwOutRefIdeal := hDwOutRefIdeal)
    ∧ preserves_DwA_DwAIdeal
    ∧ algebraic_DwAIdeal_DwARefIdeal (hDwAIdeal := hDwAIdeal) (hDwARefIdeal := hDwARefIdeal)
    ∧ preserves_DwPool_DwPoolIdeal
    ∧ algebraic_DwPoolIdeal_DwPoolRefIdeal (hDwPoolIdeal := hDwPoolIdeal) (hDwPoolRefIdeal := hDwPoolRefIdeal)
    ∧ preserves_MlpF_MlpFIdeal
    ∧ algebraic_MlpFIdeal_MlpFRefIdeal_pre_finite_mlp (hMlpFIdeal := hMlpFIdeal) (hMlpFRefIdeal := hMlpFRefIdeal) (hPre_finite_mlp := hPre_finite_mlp)
    ∧ preserves_MixF_MixFIdeal
    ∧ algebraic_MixFIdeal_MixFRefIdeal (hMixFIdeal := hMixFIdeal) (hMixFRefIdeal := hMixFRefIdeal)
    ∧ preserves_DwGate_DwGateIdeal
    ∧ algebraic_DwGateIdeal_DwGateRefIdeal (hDwGateIdeal := hDwGateIdeal) (hDwGateRefIdeal := hDwGateRefIdeal)
    ∧ preserves_DwFive_DwFiveIdeal
    ∧ algebraic_DwFiveIdeal_DwFiveRefIdeal (hDwFiveIdeal := hDwFiveIdeal) (hDwFiveRefIdeal := hDwFiveRefIdeal)
    ∧ preserves_PoolF_PoolFIdeal
    ∧ algebraic_PoolFIdeal_PoolFRefIdeal (hPoolFIdeal := hPoolFIdeal) (hPoolFRefIdeal := hPoolFRefIdeal)
-- ==== Pre_finite.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1024x4096 .f32) (main_arg5 : FVec F S4096x1024 .f32) : IVec S4096x1024 1 × IVec S4096x1024 1 × IVec S1x1024 1 × IVec S1x1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_mlp.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)

variable [Facts]

def fn_part1 {F : FTy → Type} [FloatOps F] (main_arg6 : FVec F S1x1024 .f32) (main_arg7 : FVec F S1x1024 .f32) (main_v2 : IVec S4096x1024 1) (main_v5 : IVec S4096x1024 1) (main_v8 : IVec S1x1024 1) (main_v11 : IVec S1x1024 1) (main_v14 : IVec S1024x4096 1) (main_v17 : IVec S4096x1024 1) : IVec S4096x1024 1 × IVec S4096x1024 1 × IVec S1x1024 1 × IVec S1x1024 1 × IVec S1024x4096 1 × IVec S4096x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1024x4096 .f32) (main_arg5 : FVec F S4096x1024 .f32) (main_arg6 : FVec F S1x1024 .f32) (main_arg7 : FVec F S1x1024 .f32) : IVec S4096x1024 1 × IVec S4096x1024 1 × IVec S1x1024 1 × IVec S1x1024 1 × IVec S1024x4096 1 × IVec S4096x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Kernel.lean ====
abbrev S7x2x2048x1024 : Shape := ⟨4, ![7, 2, 2048, 1024]⟩
abbrev S2x1024 : Shape := ⟨2, ![2, 1024]⟩
abbrev S1x1024 : Shape := ⟨2, ![1, 1024]⟩
abbrev S2x2048x1024 : Shape := ⟨3, ![2, 2048, 1024]⟩
abbrev S2x8x128x128x128 : Shape := ⟨5, ![2, 8, 128, 128, 128]⟩
abbrev S8x128 : Shape := ⟨2, ![8, 128]⟩
abbrev S4x2x2048x1024 : Shape := ⟨4, ![4, 2, 2048, 1024]⟩
abbrev S8x1024 : Shape := ⟨2, ![8, 1024]⟩
abbrev S4x2x1024x128 : Shape := ⟨4, ![4, 2, 1024, 128]⟩
abbrev S2x128 : Shape := ⟨2, ![2, 128]⟩
abbrev S1x128 : Shape := ⟨2, ![1, 128]⟩
abbrev S2x1024x128 : Shape := ⟨3, ![2, 1024, 128]⟩
abbrev S2x1x64x128x128 : Shape := ⟨5, ![2, 1, 64, 128, 128]⟩
abbrev S2x128x128 : Shape := ⟨3, ![2, 128, 128]⟩
abbrev S2x64x128x128 : Shape := ⟨4, ![2, 64, 128, 128]⟩
abbrev S1x1x1024x128 : Shape := ⟨4, ![1, 1, 1024, 128]⟩
abbrev S1024x128 : Shape := ⟨2, ![1024, 128]⟩
abbrev S128x8x128 : Shape := ⟨3, ![128, 8, 128]⟩
abbrev S64x2x8x128 : Shape := ⟨4, ![64, 2, 8, 128]⟩
abbrev S64x1x1x128 : Shape := ⟨4, ![64, 1, 1, 128]⟩
abbrev S128x128 : Shape := ⟨2, ![128, 128]⟩
abbrev S1x1024x128 : Shape := ⟨3, ![1, 1024, 128]⟩
abbrev S1024 : Shape := ⟨1, ![1024]⟩
abbrev S1024x1 : Shape := ⟨2, ![1024, 1]⟩
abbrev S128 : Shape := ⟨1, ![128]⟩
abbrev S1x64x128x128 : Shape := ⟨4, ![1, 64, 128, 128]⟩
abbrev S64x128x128 : Shape := ⟨3, ![64, 128, 128]⟩
abbrev S1x128x128 : Shape := ⟨3, ![1, 128, 128]⟩
abbrev S1x1x128x128 : Shape := ⟨4, ![1, 1, 128, 128]⟩
abbrev S1x1x128 : Shape := ⟨3, ![1, 1, 128]⟩
abbrev S16x128 : Shape := ⟨2, ![16, 128]⟩
abbrev S1x16x128 : Shape := ⟨3, ![1, 16, 128]⟩
abbrev S1x1x1x128x128 : Shape := ⟨5, ![1, 1, 1, 128, 128]⟩
abbrev S1x1x64x128x128 : Shape := ⟨5, ![1, 1, 64, 128, 128]⟩
abbrev S64x128 : Shape := ⟨2, ![64, 128]⟩
abbrev S64x1x128 : Shape := ⟨3, ![64, 1, 128]⟩
abbrev S64x16x128 : Shape := ⟨3, ![64, 16, 128]⟩

abbrev nBuf : Space → Nat
  | .hbm => 9
  | .vmem => 24
  | .smem => 0
  | _ => 0

abbrev bufTy : (tb : Table) → Fin (tcTables nBuf tb) → BufTy
  | .hbm, ⟨0, _⟩ => ⟨S7x2x2048x1024, .f32⟩
  | .hbm, ⟨1, _⟩ => ⟨S2x1024, .f32⟩
  | .hbm, ⟨2, _⟩ => ⟨S1x1024, .f32⟩
  | .hbm, ⟨3, _⟩ => ⟨S2x2048x1024, .f32⟩
  | .hbm, ⟨4, _⟩ => ⟨S2x2048x1024, .f32⟩
  | .hbm, ⟨5, _⟩ => ⟨S2x8x128x128x128, .bf16⟩
  | .hbm, ⟨6, _⟩ => ⟨S8x128, .f32⟩
  | .hbm, ⟨7, _⟩ => ⟨S4x2x2048x1024, .bf16⟩
  | .hbm, ⟨8, _⟩ => ⟨S8x1024, .f32⟩
  | .local _ .vmem, ⟨0, _⟩ => ⟨S4x2x1024x128, .f32⟩
  | .local _ .vmem, ⟨1, _⟩ => ⟨S4x2x1024x128, .f32⟩
  | .local _ .vmem, ⟨2, _⟩ => ⟨S2x128, .f32⟩
  | .local _ .vmem, ⟨3, _⟩ => ⟨S2x128, .f32⟩
  | .local _ .vmem, ⟨4, _⟩ => ⟨S1x128, .f32⟩
  | .local _ .vmem, ⟨5, _⟩ => ⟨S1x128, .f32⟩
  | .local _ .vmem, ⟨6, _⟩ => ⟨S2x1024x128, .f32⟩
  | .local _ .vmem, ⟨7, _⟩ => ⟨S2x1024x128, .f32⟩
  | .local _ .vmem, ⟨8, _⟩ => ⟨S2x1024x128, .f32⟩
  | .local _ .vmem, ⟨9, _⟩ => ⟨S2x1024x128, .f32⟩
  | .local _ .vmem, ⟨10, _⟩ => ⟨S2x1x64x128x128, .bf16⟩
  | .local _ .vmem, ⟨11, _⟩ => ⟨S2x1x64x128x128, .bf16⟩
  | .local _ .vmem, ⟨12, _⟩ => ⟨S8x128, .f32⟩
  | .local _ .vmem, ⟨13, _⟩ => ⟨S4x2x1024x128, .bf16⟩
  | .local _ .vmem, ⟨14, _⟩ => ⟨S4x2x1024x128, .bf16⟩
  | .local _ .vmem, ⟨15, _⟩ => ⟨S8x128, .f32⟩
  | .local _ .vmem, ⟨16, _⟩ => ⟨S8x128, .f32⟩
  | .local _ .vmem, ⟨17, _⟩ => ⟨S2x128x128, .f32⟩
  | .local _ .vmem, ⟨18, _⟩ => ⟨S2x64x128x128, .f32⟩
  | .local _ .vmem, ⟨19, _⟩ => ⟨S2x64x128x128, .f32⟩
  | .local _ .vmem, ⟨20, _⟩ => ⟨S2x1024x128, .f32⟩
  | .local _ .vmem, ⟨21, _⟩ => ⟨S2x1024x128, .f32⟩
  | .local _ .vmem, ⟨22, _⟩ => ⟨S2x1024x128, .f32⟩
  | .local _ .vmem, ⟨23, _⟩ => ⟨S2x1024x128, .f32⟩
  | _, _ => ⟨S7x2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_1484 : BitVec 32 := 0#32
  let c64_i32 : BitVec 32 := 64#32
  let v2283 : BitVec 32 := Scalar.addi c0_i32_1484 c64_i32
  let c1_i32_1485 : BitVec 32 := 1#32
  ⟨c0_i32_1484, v2283, c1_i32_1485⟩
def k0_mult1 (k0_t1 : Fin k0_t1_loop.trips) : BitVec 32 :=
  let c63_i32 : BitVec 32 := 63#32
  let c0_i32_1484 : BitVec 32 := 0#32
  let c1_i32_1485 : BitVec 32 := 1#32
  let arg18 : BitVec 32 := Scf.iv c0_i32_1484 c1_i32_1485 k0_t1
  let v5189 : BitVec 32 := Scalar.subi c63_i32 arg18
  let c16_i32_4277 : BitVec 32 := 16#32
  let v5190 : BitVec 32 := Scalar.muli v5189 c16_i32_4277
  v5190
def k0_off1 (k0_t1 : Fin k0_t1_loop.trips) : Fin 4 → Nat :=
  let c0_4278 : Index := 0#32
  let c63_i32 : BitVec 32 := 63#32
  let c0_i32_1484 : BitVec 32 := 0#32
  let c1_i32_1485 : BitVec 32 := 1#32
  let arg18 : BitVec 32 := Scf.iv c0_i32_1484 c1_i32_1485 k0_t1
  let v5189 : BitVec 32 := Scalar.subi c63_i32 arg18
  let v5192 : Index := Scalar.indexCast v5189
  let c0_4279 : Index := 0#32
  let c0_4280 : Index := 0#32
  ![0, v5192.toNat, 0, 0]
def k0_off2 (k0_t1 : Fin k0_t1_loop.trips) : Fin 3 → Nat :=
  let c0_4281 : Index := 0#32
  let c63_i32 : BitVec 32 := 63#32
  let c0_i32_1484 : BitVec 32 := 0#32
  let c1_i32_1485 : BitVec 32 := 1#32
  let arg18 : BitVec 32 := Scf.iv c0_i32_1484 c1_i32_1485 k0_t1
  let v5189 : BitVec 32 := Scalar.subi c63_i32 arg18
  let c16_i32_4277 : BitVec 32 := 16#32
  let v5190 : BitVec 32 := Scalar.muli v5189 c16_i32_4277
  let v5191 : BitVec 32 := v5190
  let v5196 : Index := Scalar.indexCast v5191
  let c0_4282 : Index := 0#32
  ![0, v5196.toNat, 0]
def k0_off3 (k0_t1 : Fin k0_t1_loop.trips) : Fin 4 → Nat :=
  let c1_4286 : Index := 1#32
  let c63_i32 : BitVec 32 := 63#32
  let c0_i32_1484 : BitVec 32 := 0#32
  let c1_i32_1485 : BitVec 32 := 1#32
  let arg18 : BitVec 32 := Scf.iv c0_i32_1484 c1_i32_1485 k0_t1
  let v5189 : BitVec 32 := Scalar.subi c63_i32 arg18
  let v5205 : Index := Scalar.indexCast v5189
  let c0_4287 : Index := 0#32
  let c0_4288 : Index := 0#32
  ![1, v5205.toNat, 0, 0]
def k0_off4 (k0_t1 : Fin k0_t1_loop.trips) : Fin 3 → Nat :=
  let c1_4289 : Index := 1#32
  let c63_i32 : BitVec 32 := 63#32
  let c0_i32_1484 : BitVec 32 := 0#32
  let c1_i32_1485 : BitVec 32 := 1#32
  let arg18 : BitVec 32 := Scf.iv c0_i32_1484 c1_i32_1485 k0_t1
  let v5189 : BitVec 32 := Scalar.subi c63_i32 arg18
  let c16_i32_4277 : BitVec 32 := 16#32
  let v5190 : BitVec 32 := Scalar.muli v5189 c16_i32_4277
  let v5191 : BitVec 32 := v5190
  let v5209 : Index := Scalar.indexCast v5191
  let c0_4290 : Index := 0#32
  ![1, v5209.toNat, 0]
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![c0_i32.toNat, c0_i32_0.toNat, v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![c0_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![c0_i32.toNat, v0.toNat, arg0.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  let c0_i32_2 : BitVec 32 := 0#32
  ![c0_i32.toNat, arg0.toNat, v0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![c0_i32.toNat, c0_i32_0.toNat, v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x64x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x2x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Mix.lean ====
abbrev S4096x1024 : Shape := ⟨2, ![4096, 1024]⟩
abbrev S7x4096x1024 : Shape := ⟨3, ![7, 4096, 1024]⟩
abbrev S4096x4x256 : Shape := ⟨3, ![4096, 4, 256]⟩
abbrev S1024x1024 : Shape := ⟨2, ![1024, 1024]⟩
abbrev S4x256x256 : Shape := ⟨3, ![4, 256, 256]⟩
abbrev S1x1024 : Shape := ⟨2, ![1, 1024]⟩
abbrev S8x128 : Shape := ⟨2, ![8, 128]⟩
abbrev S4x256x4096 : Shape := ⟨3, ![4, 256, 4096]⟩
abbrev S2x4096x1024 : Shape := ⟨3, ![2, 4096, 1024]⟩
abbrev S8x1024 : Shape := ⟨2, ![8, 1024]⟩
abbrev S512x1024 : Shape := ⟨2, ![512, 1024]⟩
abbrev S1x512x1024 : Shape := ⟨3, ![1, 512, 1024]⟩
abbrev S2x512x1024 : Shape := ⟨3, ![2, 512, 1024]⟩
abbrev S1024 : Shape := ⟨1, ![1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 23
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S7x4096x1024, .f32⟩
  | .hbm, ⟨2, _⟩ => ⟨S4096x1024, .f32⟩
  | .hbm, ⟨3, _⟩ => ⟨S4096x4x256, .f32⟩
  | .hbm, ⟨4, _⟩ => ⟨S1024x1024, .f32⟩
  | .hbm, ⟨5, _⟩ => ⟨S1024x1024, .f32⟩
  | .hbm, ⟨6, _⟩ => ⟨S4x256x256, .f32⟩
  | .hbm, ⟨7, _⟩ => ⟨S1x1024, .f32⟩
  | .hbm, ⟨8, _⟩ => ⟨S8x128, .f32⟩
  | .hbm, ⟨9, _⟩ => ⟨S4096x1024, .f32⟩
  | .hbm, ⟨10, _⟩ => ⟨S4x256x4096, .f32⟩
  | .hbm, ⟨11, _⟩ => ⟨S4096x4x256, .f32⟩
  | .hbm, ⟨12, _⟩ => ⟨S4096x1024, .f32⟩
  | .hbm, ⟨13, _⟩ => ⟨S4096x1024, .bf16⟩
  | .hbm, ⟨14, _⟩ => ⟨S1024x1024, .bf16⟩
  | .hbm, ⟨15, _⟩ => ⟨S1024x1024, .bf16⟩
  | .hbm, ⟨16, _⟩ => ⟨S4x256x256, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .f32⟩
  | .hbm, ⟨21, _⟩ => ⟨S2x4096x1024, .bf16⟩
  | .hbm, ⟨22, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S4x256x256, .bf16⟩
  | .local _ .vmem, ⟨13, _⟩ => ⟨S1x1024, .f32⟩
  | .local _ .vmem, ⟨14, _⟩ => ⟨S8x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S2x512x1024, .bf16⟩
  | .local _ .vmem, ⟨24, _⟩ => ⟨S2x512x1024, .bf16⟩
  | .local _ .vmem, ⟨25, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixRefIdeal.lean ====
abbrev S4096x1024 : Shape := ⟨2, ![4096, 1024]⟩
abbrev S7x4096x1024 : Shape := ⟨3, ![7, 4096, 1024]⟩
abbrev S4096x4x256 : Shape := ⟨3, ![4096, 4, 256]⟩
abbrev S1024x1024 : Shape := ⟨2, ![1024, 1024]⟩
abbrev S4x256x256 : Shape := ⟨3, ![4, 256, 256]⟩
abbrev S1x1024 : Shape := ⟨2, ![1, 1024]⟩
abbrev S8x128 : Shape := ⟨2, ![8, 128]⟩
abbrev S4x256x4096 : Shape := ⟨3, ![4, 256, 4096]⟩
abbrev S1x4096x1024 : Shape := ⟨3, ![1, 4096, 1024]⟩
abbrev S_ : Shape := ⟨0, ![]⟩
abbrev S1024 : Shape := ⟨1, ![1024]⟩
abbrev S4x4096x256 : Shape := ⟨3, ![4, 4096, 256]⟩
abbrev S2x1024 : Shape := ⟨2, ![2, 1024]⟩
abbrev S5x1024 : Shape := ⟨2, ![5, 1024]⟩
abbrev S8x1024 : Shape := ⟨2, ![8, 1024]⟩
abbrev S2x4096x1024 : Shape := ⟨3, ![2, 4096, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S7x4096x1024, .f32⟩
  | .hbm, ⟨2, _⟩ => ⟨S4096x1024, .f32⟩
  | .hbm, ⟨3, _⟩ => ⟨S4096x4x256, .f32⟩
  | .hbm, ⟨4, _⟩ => ⟨S1024x1024, .f32⟩
  | .hbm, ⟨5, _⟩ => ⟨S1024x1024, .f32⟩
  | .hbm, ⟨6, _⟩ => ⟨S4x256x256, .f32⟩
  | .hbm, ⟨7, _⟩ => ⟨S1x1024, .f32⟩
  | .hbm, ⟨8, _⟩ => ⟨S8x128, .f32⟩
  | .hbm, ⟨9, _⟩ => ⟨S4096x1024, .f32⟩
  | .hbm, ⟨10, _⟩ => ⟨S4x256x4096, .f32⟩
  | .hbm, ⟨11, _⟩ => ⟨S4096x4x256, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x4x256, .f32⟩
  | .hbm, ⟨62, _⟩ => ⟨S4x256x4096, .f32⟩
  | .hbm, ⟨63, _⟩ => ⟨S4x4096x256, .f32⟩
  | .hbm, ⟨64, _⟩ => ⟨S4096x4x256, .f32⟩
  | .hbm, ⟨65, _⟩ => ⟨S_, .f32⟩
  | .hbm, ⟨66, _⟩ => ⟨S2x1024, .f32⟩
  | .hbm, ⟨67, _⟩ => ⟨S_, .f32⟩
  | .hbm, ⟨68, _⟩ => ⟨S5x1024, .f32⟩
  | .hbm, ⟨69, _⟩ => ⟨S8x1024, .f32⟩
  | .hbm, ⟨70, _⟩ => ⟨S4096x1024, .bf16⟩
  | .hbm, ⟨71, _⟩ => ⟨S4096x1024, .bf16⟩
  | .hbm, ⟨72, _⟩ => ⟨S4096x1024, .f32⟩
  | .hbm, ⟨73, _⟩ => ⟨S1x4096x1024, .f32⟩
  | .hbm, ⟨74, _⟩ => ⟨S1x4096x1024, .f32⟩
  | .hbm, ⟨75, _⟩ => ⟨S2x4096x1024, .f32⟩
  | .hbm, ⟨76, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Mlp.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S256x1 : Shape := ⟨2, ![256, 1]⟩
abbrev S1024x1024 : Shape := ⟨2, ![1024, 1024]⟩
abbrev S1024 : Shape := ⟨1, ![1024]⟩
abbrev S256 : Shape := ⟨1, ![256]⟩

abbrev nBuf : Space → Nat
  | .hbm => 41
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x4096, .f32⟩
  | .hbm, ⟨34, _⟩ => ⟨S4096x1024, .bf16⟩
  | .hbm, ⟨35, _⟩ => ⟨S1024x4096, .bf16⟩
  | .hbm, ⟨36, _⟩ => ⟨S4096x1024, .bf16⟩
  | .hbm, ⟨37, _⟩ => ⟨S4096x4096, .bf16⟩
  | .hbm, ⟨38, _⟩ => ⟨S4096x1024, .f32⟩
  | .hbm, ⟨39, _⟩ => ⟨S4096x1024, .bf16⟩
  | .hbm, ⟨40, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S1024x4096, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S3x1024 : Shape := ⟨2, ![3, 1024]⟩
abbrev S8x1024 : Shape := ⟨2, ![8, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x1024, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S3x1024, .f32⟩
  | .hbm, ⟨106, _⟩ => ⟨S_, .f32⟩
  | .hbm, ⟨107, _⟩ => ⟨S3x1024, .f32⟩
  | .hbm, ⟨108, _⟩ => ⟨S8x1024, .f32⟩
  | .hbm, ⟨109, _⟩ => ⟨S4096x4096, .bf16⟩
  | .hbm, ⟨110, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_cst_21 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Dx.lean ====
abbrev S4096x1024 : Shape := ⟨2, ![4096, 1024]⟩
abbrev S4x4096x1024 : Shape := ⟨3, ![4, 4096, 1024]⟩
abbrev S2x4096x1024 : Shape := ⟨3, ![2, 4096, 1024]⟩
abbrev S1024x7168 : Shape := ⟨2, ![1024, 7168]⟩
abbrev S8x128 : Shape := ⟨2, ![8, 128]⟩
abbrev S512x1024 : Shape := ⟨2, ![512, 1024]⟩
abbrev S4x512x1024 : Shape := ⟨3, ![4, 512, 1024]⟩
abbrev S2x512x1024 : Shape := ⟨3, ![2, 512, 1024]⟩
abbrev S1x512x1024 : Shape := ⟨3, ![1, 512, 1024]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .f32⟩
  | .hbm, ⟨2, _⟩ => ⟨S4096x1024, .f32⟩
  | .hbm, ⟨3, _⟩ => ⟨S2x4096x1024, .f32⟩
  | .hbm, ⟨4, _⟩ => ⟨S1024x7168, .f32⟩
  | .hbm, ⟨5, _⟩ => ⟨S8x128, .f32⟩
  | .hbm, ⟨6, _⟩ => ⟨S4x4096x1024, .bf16⟩
  | .hbm, ⟨7, _⟩ => ⟨S4096x1024, .bf16⟩
  | .hbm, ⟨8, _⟩ => ⟨S2x4096x1024, .bf16⟩
  | .hbm, ⟨9, _⟩ => ⟨S1024x7168, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .bf16⟩
  | .local _ .vmem, ⟨5, _⟩ => ⟨S512x1024, .bf16⟩
  | .local _ .vmem, ⟨6, _⟩ => ⟨S2x512x1024, .bf16⟩
  | .local _ .vmem, ⟨7, _⟩ => ⟨S2x512x1024, .bf16⟩
  | .local _ .vmem, ⟨8, _⟩ => ⟨S1024x7168, .bf16⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DxRefIdeal.lean ====
abbrev S4096x1024 : Shape := ⟨2, ![4096, 1024]⟩
abbrev S4x4096x1024 : Shape := ⟨3, ![4, 4096, 1024]⟩
abbrev S2x4096x1024 : Shape := ⟨3, ![2, 4096, 1024]⟩
abbrev S1024x7168 : Shape := ⟨2, ![1024, 7168]⟩
abbrev S8x128 : Shape := ⟨2, ![8, 128]⟩
abbrev S1x4096x1024 : Shape := ⟨3, ![1, 4096, 1024]⟩
abbrev S_ : Shape := ⟨0, ![]⟩
abbrev S4096x7168 : Shape := ⟨2, ![4096, 7168]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .f32⟩
  | .hbm, ⟨2, _⟩ => ⟨S4096x1024, .f32⟩
  | .hbm, ⟨3, _⟩ => ⟨S2x4096x1024, .f32⟩
  | .hbm, ⟨4, _⟩ => ⟨S1024x7168, .f32⟩
  | .hbm, ⟨5, _⟩ => ⟨S8x128, .f32⟩
  | .hbm, ⟨6, _⟩ => ⟨S1x4096x1024, .f32⟩
  | .hbm, ⟨7, _⟩ => ⟨S4096x1024, .f32⟩
  | .hbm, ⟨8, _⟩ => ⟨S1x4096x1024, .f32⟩
  | .hbm, ⟨9, _⟩ => ⟨S4096x1024, .f32⟩
  | .hbm, ⟨10, _⟩ => ⟨S1x4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x7168, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x7168, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S8x128 : Shape := ⟨2, ![8, 128]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S8x128, .f32⟩
  | .hbm, ⟨3, _⟩ => ⟨S1024x4096, .f32⟩
  | .hbm, ⟨4, _⟩ => ⟨S1024x4096, .bf16⟩
  | .hbm, ⟨5, _⟩ => ⟨S4096x4096, .bf16⟩
  | .hbm, ⟨6, _⟩ => ⟨S1024x4096, .f32⟩
  | .hbm, ⟨7, _⟩ => ⟨S1024x4096, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S8x128, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwUpRefIdeal.lean ====
abbrev S4096x1024 : Shape := ⟨2, ![4096, 1024]⟩
abbrev S4096x4096 : Shape := ⟨2, ![4096, 4096]⟩
abbrev S8x128 : Shape := ⟨2, ![8, 128]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S8x128, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwDown.lean ====
abbrev S4096x1024 : Shape := ⟨2, ![4096, 1024]⟩
abbrev S4096x4096 : Shape := ⟨2, ![4096, 4096]⟩
abbrev S1024x4096 : Shape := ⟨2, ![1024, 4096]⟩
abbrev S_ : Shape := ⟨0, ![]⟩
abbrev S4096x512 : Shape := ⟨2, ![4096, 512]⟩
abbrev S512x1024 : Shape := ⟨2, ![512, 1024]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .bf16⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .f32⟩
  | .hbm, ⟨10, _⟩ => ⟨S4096x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwDownRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwIn.lean ====
abbrev S4096x1024 : Shape := ⟨2, ![4096, 1024]⟩
abbrev S4x4096x1024 : Shape := ⟨3, ![4, 4096, 1024]⟩
abbrev S8x128 : Shape := ⟨2, ![8, 128]⟩
abbrev S1024x4096 : Shape := ⟨2, ![1024, 4096]⟩
abbrev S1024x7168 : Shape := ⟨2, ![1024, 7168]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .f32⟩
  | .hbm, ⟨2, _⟩ => ⟨S8x128, .f32⟩
  | .hbm, ⟨3, _⟩ => ⟨S1024x4096, .f32⟩
  | .hbm, ⟨4, _⟩ => ⟨S1024x4096, .bf16⟩
  | .hbm, ⟨5, _⟩ => ⟨S4x4096x1024, .bf16⟩
  | .hbm, ⟨6, _⟩ => ⟨S1024x7168, .f32⟩
  | .hbm, ⟨7, _⟩ => ⟨S1024x4096, .bf16⟩
  | .local _ .vmem, ⟨0, _⟩ => ⟨S1024x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S8x128, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwInRefIdeal.lean ====
abbrev S4096x1024 : Shape := ⟨2, ![4096, 1024]⟩
abbrev S4x4096x1024 : Shape := ⟨3, ![4, 4096, 1024]⟩
abbrev S8x128 : Shape := ⟨2, ![8, 128]⟩
abbrev S1x4096x1024 : Shape := ⟨3, ![1, 4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .f32⟩
  | .hbm, ⟨2, _⟩ => ⟨S8x128, .f32⟩
  | .hbm, ⟨3, _⟩ => ⟨S1x4096x1024, .f32⟩
  | .hbm, ⟨4, _⟩ => ⟨S4096x1024, .f32⟩
  | .hbm, ⟨5, _⟩ => ⟨S1x4096x1024, .f32⟩
  | .hbm, ⟨6, _⟩ => ⟨S4096x1024, .f32⟩
  | .hbm, ⟨7, _⟩ => ⟨S1x4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S4096x4096, .f32⟩
  | .hbm, ⟨12, _⟩ => ⟨S_, .f32⟩
  | .hbm, ⟨13, _⟩ => ⟨S1024x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proj.lean ====
abbrev S4096x1024 : Shape := ⟨2, ![4096, 1024]⟩
abbrev S1024x7168 : Shape := ⟨2, ![1024, 7168]⟩
abbrev S8x128 : Shape := ⟨2, ![8, 128]⟩
abbrev S7x4096x1024 : Shape := ⟨3, ![7, 4096, 1024]⟩
abbrev S1024x4096 : Shape := ⟨2, ![1024, 4096]⟩
abbrev S512x1024 : Shape := ⟨2, ![512, 1024]⟩
abbrev S7x512x1024 : Shape := ⟨3, ![7, 512, 1024]⟩
abbrev S1024x512 : Shape := ⟨2, ![1024, 512]⟩
abbrev S1024x1024 : Shape := ⟨2, ![1024, 1024]⟩
abbrev S1x512x1024 : Shape := ⟨3, ![1, 512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S8x128, .f32⟩
  | .hbm, ⟨3, _⟩ => ⟨S1024x7168, .bf16⟩
  | .hbm, ⟨4, _⟩ => ⟨S7x4096x1024, .f32⟩
  | .hbm, ⟨5, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1024x7168, .bf16⟩
  | .local _ .vmem, ⟨3, _⟩ => ⟨S8x128, .f32⟩
  | .local _ .vmem, ⟨4, _⟩ => ⟨S7x512x1024, .f32⟩
  | .local _ .vmem, ⟨5, _⟩ => ⟨S7x512x1024, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S4096x1024 : Shape := ⟨2, ![4096, 1024]⟩
abbrev S1024x7168 : Shape := ⟨2, ![1024, 7168]⟩
abbrev S8x128 : Shape := ⟨2, ![8, 128]⟩
abbrev S4096x7168 : Shape := ⟨2, ![4096, 7168]⟩
abbrev S1x4096x1024 : Shape := ⟨3, ![1, 4096, 1024]⟩
abbrev S7x4096x1024 : Shape := ⟨3, ![7, 4096, 1024]⟩
abbrev S1024x4096 : Shape := ⟨2, ![1024, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S8x128, .f32⟩
  | .hbm, ⟨3, _⟩ => ⟨S4096x7168, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S7x4096x1024, .f32⟩
  | .hbm, ⟨19, _⟩ => ⟨S1024x4096, .f32⟩
  | .hbm, ⟨20, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== PoolB.lean ====
abbrev S2x2048x1024 : Shape := ⟨3, ![2, 2048, 1024]⟩
abbrev S8x128 : Shape := ⟨2, ![8, 128]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S8x128, .f32⟩
  | .hbm, ⟨2, _⟩ => ⟨S2x2048x1024, .bf16⟩
  | .local _ .vmem, ⟨0, _⟩ => ⟨S1x2048x256, .f32⟩
  | .local _ .vmem, ⟨1, _⟩ => ⟨S1x2048x256, .f32⟩
  | .local _ .vmem, ⟨2, _⟩ => ⟨S8x128, .f32⟩
  | .local _ .vmem, ⟨3, _⟩ => ⟨S1x2048x256, .bf16⟩
  | .local _ .vmem, ⟨4, _⟩ => ⟨S1x2048x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolBRefIdeal.lean ====
abbrev S2x2048x1024 : Shape := ⟨3, ![2, 2048, 1024]⟩
abbrev S8x128 : Shape := ⟨2, ![8, 128]⟩
abbrev S2x2048x4x256 : Shape := ⟨4, ![2, 2048, 4, 256]⟩
abbrev S_ : Shape := ⟨0, ![]⟩
abbrev S2048 : Shape := ⟨1, ![2048]⟩
abbrev S4 : Shape := ⟨1, ![4]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4 : Shape := ⟨2, ![1, 4]⟩
abbrev S2048x4 : Shape := ⟨2, ![2048, 4]⟩
abbrev S4x2x256x2048 : Shape := ⟨4, ![4, 2, 256, 2048]⟩
abbrev S2048x4x1 : Shape := ⟨3, ![2048, 4, 1]⟩
abbrev S1x2048x4x1 : Shape := ⟨4, ![1, 2048, 4, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8x128, .f32⟩
  | .hbm, ⟨2, _⟩ => ⟨S2x2048x4x256, .f32⟩
  | .hbm, ⟨3, _⟩ => ⟨S_, .f32⟩
  | .hbm, ⟨4, _⟩ => ⟨S2x2048x1024, .f32⟩
  | .hbm, ⟨5, _⟩ => ⟨S2x2048x4x256, .f32⟩
  | .hbm, ⟨6, _⟩ => ⟨S2048, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S4x1x1, .i32⟩
  | .hbm, ⟨20, _⟩ => ⟨S1x2048x2048, .i32⟩
  | .hbm, ⟨21, _⟩ => ⟨S4x2048x2048, .i32⟩
  | .hbm, ⟨22, _⟩ => ⟨S4x2048x2048, .i32⟩
  | .hbm, ⟨23, _⟩ => ⟨S4x2048x2048, .i1⟩
  | .hbm, ⟨24, _⟩ => ⟨S1x2048x2048, .i1⟩
  | .hbm, ⟨25, _⟩ => ⟨S4x2048x2048, .i1⟩
  | .hbm, ⟨26, _⟩ => ⟨S4x2048x2048, .i1⟩
  | .hbm, ⟨27, _⟩ => ⟨S4x2048x2048, .f32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S1x4, .i32⟩
  | .hbm, ⟨33, _⟩ => ⟨S2048x4, .i32⟩
  | .hbm, ⟨34, _⟩ => ⟨S2048x4, .i32⟩
  | .hbm, ⟨35, _⟩ => ⟨S2048x4, .i32⟩
  | .hbm, ⟨36, _⟩ => ⟨S2048x4, .f32⟩
  | .hbm, ⟨37, _⟩ => ⟨S4x2x256x2048, .f32⟩
  | .hbm, ⟨38, _⟩ => ⟨S2x2048x4x256, .f32⟩
  | .hbm, ⟨39, _⟩ => ⟨S2048x4x1, .f32⟩
  | .hbm, ⟨40, _⟩ => ⟨S1x2048x4x1, .f32⟩
  | .hbm, ⟨41, _⟩ => ⟨S2x2048x4x256, .f32⟩
  | .hbm, ⟨42, _⟩ => ⟨S2x2048x4x256, .f32⟩
  | .hbm, ⟨43, _⟩ => ⟨S2x2048x4x256, .f32⟩
  | .hbm, ⟨44, _⟩ => ⟨S2x2048x4x256, .f32⟩
  | .hbm, ⟨45, _⟩ => ⟨S2x2048x4x256, .f32⟩
  | .hbm, ⟨46, _⟩ => ⟨S2x2048x4x256, .f32⟩
  | .hbm, ⟨47, _⟩ => ⟨S4x2x256x2048, .f32⟩
  | .hbm, ⟨48, _⟩ => ⟨S4x2x256x2048, .f32⟩
  | .hbm, ⟨49, _⟩ => ⟨S2x2048x4x256, .f32⟩
  | .hbm, ⟨50, _⟩ => ⟨S2x2048x4x256, .f32⟩
  | .hbm, ⟨51, _⟩ => ⟨S2x2048x1024, .f32⟩
  | .hbm, ⟨52, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== DwOut.lean ====
abbrev S4096x1024 : Shape := ⟨2, ![4096, 1024]⟩
abbrev S1024x4096 : Shape := ⟨2, ![1024, 4096]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S4096x1024, .bf16⟩
  | .hbm, ⟨5, _⟩ => ⟨S1024x1024, .f32⟩
  | .hbm, ⟨6, _⟩ => ⟨S1024x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwA.lean ====
abbrev S4096x1024 : Shape := ⟨2, ![4096, 1024]⟩
abbrev S2x2048x1024 : Shape := ⟨3, ![2, 2048, 1024]⟩
abbrev S2x1024x2048 : Shape := ⟨3, ![2, 1024, 2048]⟩
abbrev S1024x1024 : Shape := ⟨2, ![1024, 1024]⟩
abbrev S4096x512 : Shape := ⟨2, ![4096, 512]⟩
abbrev S1024x512 : Shape := ⟨2, ![1024, 512]⟩
abbrev S1x1024x2048 : Shape := ⟨3, ![1, 1024, 2048]⟩
abbrev S1024x2048 : Shape := ⟨2, ![1024, 2048]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x2048x1024, .f32⟩
  | .hbm, ⟨3, _⟩ => ⟨S2x1024x2048, .f32⟩
  | .hbm, ⟨4, _⟩ => ⟨S2x1024x2048, .bf16⟩
  | .hbm, ⟨5, _⟩ => ⟨S4096x1024, .bf16⟩
  | .hbm, ⟨6, _⟩ => ⟨S1024x1024, .f32⟩
  | .hbm, ⟨7, _⟩ => ⟨S1024x1024, .bf16⟩
  | .local _ .vmem, ⟨0, _⟩ => ⟨S2x1024x2048, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwARefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwPool.lean ====
abbrev S4096x4x256 : Shape := ⟨3, ![4096, 4, 256]⟩
abbrev S4096x1024 : Shape := ⟨2, ![4096, 1024]⟩
abbrev S1024x4096 : Shape := ⟨2, ![1024, 4096]⟩
abbrev S4x256x256 : Shape := ⟨3, ![4, 256, 256]⟩
abbrev S256x4096 : Shape := ⟨2, ![256, 4096]⟩
abbrev S4096x256 : Shape := ⟨2, ![4096, 256]⟩
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x4x256, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S4096x1024, .bf16⟩
  | .hbm, ⟨6, _⟩ => ⟨S4x256x256, .f32⟩
  | .hbm, ⟨7, _⟩ => ⟨S4x256x256, .bf16⟩
  | .local _ .vmem, ⟨0, _⟩ => ⟨S256x4096, .bf16⟩
  | .local _ .vmem, ⟨1, _⟩ => ⟨S256x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .bf16⟩
  | .local _ .vmem, ⟨7, _⟩ => ⟨S1x256x256, .bf16⟩
  | _, _ => ⟨S4096x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwPoolRefIdeal.lean ====
abbrev S4096x4x256 : Shape := ⟨3, ![4096, 4, 256]⟩
abbrev S4096x1024 : Shape := ⟨2, ![4096, 1024]⟩
abbrev S_ : Shape := ⟨0, ![]⟩
abbrev S4x256x256 : Shape := ⟨3, ![4, 256, 256]⟩
abbrev S4x256x4096 : Shape := ⟨3, ![4, 256, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4x256, .f32⟩
  | .hbm, ⟨1, _⟩ => ⟨S4096x1024, .f32⟩
  | .hbm, ⟨2, _⟩ => ⟨S_, .f32⟩
  | .hbm, ⟨3, _⟩ => ⟨S4x256x256, .f32⟩
  | .hbm, ⟨4, _⟩ => ⟨S4x256x4096, .f32⟩
  | .hbm, ⟨5, _⟩ => ⟨S4096x4x256, .f32⟩
  | .hbm, ⟨6, _⟩ => ⟨S4096x1024, .f32⟩
  | .hbm, ⟨7, _⟩ => ⟨S4096x4x256, .f32⟩
  | .hbm, ⟨8, _⟩ => ⟨S4x256x4096, .f32⟩
  | .hbm, ⟨9, _⟩ => ⟨S4x256x256, .f32⟩
  | .hbm, ⟨10, _⟩ => ⟨S4x256x256, .f32⟩
  | .hbm, ⟨11, _⟩ => ⟨S4x256x256, .bf16⟩
  | _, _ => ⟨S4096x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpF.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S1024x256 : Shape := ⟨2, ![1024, 256]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 21
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1024x4096, .bf16⟩
  | .hbm, ⟨14, _⟩ => ⟨S4096x1024, .bf16⟩
  | .hbm, ⟨15, _⟩ => ⟨S4096x4096, .f32⟩
  | .hbm, ⟨16, _⟩ => ⟨S4096x4096, .bf16⟩
  | .hbm, ⟨17, _⟩ => ⟨S4096x1024, .f32⟩
  | .hbm, ⟨18, _⟩ => ⟨S4096x1024, .bf16⟩
  | .hbm, ⟨19, _⟩ => ⟨S1024x4096, .bf16⟩
  | .hbm, ⟨20, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1024x256, .bf16⟩
  | .local _ .vmem, ⟨21, _⟩ => ⟨S1024x256, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlpFRefIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1024x4096, .f32⟩
  | 5 => ⟨S4096x1024, .f32⟩
  | 6 => ⟨S1x1024, .f32⟩
  | 7 => ⟨S1x1024, .f32⟩
  | 8 => ⟨S4096x1024, .f32⟩
  | 9 => ⟨S4096x1024, .f32⟩
  | 10 => ⟨S4096x1024, .f32⟩
  | 11 => ⟨S4096x1024, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1024, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1024, .f32⟩
  | 97 => ⟨S4096x1, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x1024, .f32⟩
  | 121 => ⟨S4096x1024, .f32⟩
  | 122 => ⟨S_, .f32⟩
  | 123 => ⟨S5x1024, .f32⟩
  | 124 => ⟨S8x1024, .f32⟩
  | 125 => ⟨S4096x4096, .bf16⟩
  | 126 => ⟨S4096x1024, .bf16⟩
  | 127 => ⟨S1024x4096, .f32⟩
  | _ => ⟨S4096x1024, .f32⟩

abbrev hbmTy0_1 (i : Nat) : BufTy := match i % 128 with
  | 0 => ⟨S1024x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]
-- ==== MixF.lean ====
abbrev S4096x1024 : Shape := ⟨2, ![4096, 1024]⟩
abbrev S7x4096x1024 : Shape := ⟨3, ![7, 4096, 1024]⟩
abbrev S1024x1024 : Shape := ⟨2, ![1024, 1024]⟩
abbrev S1x1024 : Shape := ⟨2, ![1, 1024]⟩
abbrev S1024x4096 : Shape := ⟨2, ![1024, 4096]⟩
abbrev S4096x1 : Shape := ⟨2, ![4096, 1]⟩
abbrev S512x1024 : Shape := ⟨2, ![512, 1024]⟩
abbrev S1x512x1024 : Shape := ⟨3, ![1, 512, 1024]⟩
abbrev S1024x512 : Shape := ⟨2, ![1024, 512]⟩
abbrev S512x1 : Shape := ⟨2, ![512, 1]⟩
abbrev S512 : Shape := ⟨1, ![512]⟩

abbrev nBuf : Space → Nat
  | .hbm => 18
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S7x4096x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S1024x1024, .bf16⟩
  | .hbm, ⟨11, _⟩ => ⟨S1024x1024, .bf16⟩
  | .hbm, ⟨12, _⟩ => ⟨S4096x1024, .f32⟩
  | .hbm, ⟨13, _⟩ => ⟨S1024x4096, .bf16⟩
  | .hbm, ⟨14, _⟩ => ⟨S4096x1024, .f32⟩
  | .hbm, ⟨15, _⟩ => ⟨S4096x1, .f32⟩
  | .hbm, ⟨16, _⟩ => ⟨S4096x1024, .bf16⟩
  | .hbm, ⟨17, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | .local _ .vmem, ⟨19, _⟩ => ⟨S512x1024, .f32⟩
  | .local _ .vmem, ⟨20, _⟩ => ⟨S512x1024, .f32⟩
  | .local _ .vmem, ⟨21, _⟩ => ⟨S512x1, .f32⟩
  | .local _ .vmem, ⟨22, _⟩ => ⟨S512x1, .f32⟩
  | .local _ .vmem, ⟨23, _⟩ => ⟨S512x1024, .bf16⟩
  | .local _ .vmem, ⟨24, _⟩ => ⟨S512x1024, .bf16⟩
  | .local _ .vmem, ⟨25, _⟩ => ⟨S1024x512, .bf16⟩
  | .local _ .vmem, ⟨26, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixFRefIdeal.lean ====
abbrev S4096x1024 : Shape := ⟨2, ![4096, 1024]⟩
abbrev S7x4096x1024 : Shape := ⟨3, ![7, 4096, 1024]⟩
abbrev S1024x1024 : Shape := ⟨2, ![1024, 1024]⟩
abbrev S1x1024 : Shape := ⟨2, ![1, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S7x4096x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1024x4096, .f32⟩
  | .hbm, ⟨68, _⟩ => ⟨S1024x4096, .bf16⟩
  | .hbm, ⟨69, _⟩ => ⟨S4096x1024, .bf16⟩
  | .hbm, ⟨70, _⟩ => ⟨S1024x4096, .f32⟩
  | .hbm, ⟨71, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== DwGate.lean ====
abbrev S4096x1024 : Shape := ⟨2, ![4096, 1024]⟩
abbrev S2x4096x1024 : Shape := ⟨3, ![2, 4096, 1024]⟩
abbrev S1024x7168 : Shape := ⟨2, ![1024, 7168]⟩
abbrev S8x128 : Shape := ⟨2, ![8, 128]⟩
abbrev S1024x4096 : Shape := ⟨2, ![1024, 4096]⟩
abbrev S1024x3072 : Shape := ⟨2, ![1024, 3072]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S1024x7168, .f32⟩
  | .hbm, ⟨3, _⟩ => ⟨S8x128, .f32⟩
  | .hbm, ⟨4, _⟩ => ⟨S1024x4096, .f32⟩
  | .hbm, ⟨5, _⟩ => ⟨S1024x4096, .bf16⟩
  | .hbm, ⟨6, _⟩ => ⟨S2x4096x1024, .bf16⟩
  | .hbm, ⟨7, _⟩ => ⟨S1024x7168, .f32⟩
  | .hbm, ⟨8, _⟩ => ⟨S1024x3072, .bf16⟩
  | .local _ .vmem, ⟨0, _⟩ => ⟨S1024x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S8x128, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwGateRefIdeal.lean ====
abbrev S4096x1024 : Shape := ⟨2, ![4096, 1024]⟩
abbrev S2x4096x1024 : Shape := ⟨3, ![2, 4096, 1024]⟩
abbrev S1024x7168 : Shape := ⟨2, ![1024, 7168]⟩
abbrev S8x128 : Shape := ⟨2, ![8, 128]⟩
abbrev S1x4096x1024 : Shape := ⟨3, ![1, 4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x5120 : Shape := ⟨2, ![1024, 5120]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S1024x7168, .f32⟩
  | .hbm, ⟨3, _⟩ => ⟨S8x128, .f32⟩
  | .hbm, ⟨4, _⟩ => ⟨S1x4096x1024, .f32⟩
  | .hbm, ⟨5, _⟩ => ⟨S4096x1024, .f32⟩
  | .hbm, ⟨6, _⟩ => ⟨S1x4096x1024, .f32⟩
  | .hbm, ⟨7, _⟩ => ⟨S4096x1024, .f32⟩
  | .hbm, ⟨8, _⟩ => ⟨S4096x2048, .f32⟩
  | .hbm, ⟨9, _⟩ => ⟨S_, .f32⟩
  | .hbm, ⟨10, _⟩ => ⟨S1024x2048, .f32⟩
  | .hbm, ⟨11, _⟩ => ⟨S4096x2048, .f32⟩
  | .hbm, ⟨12, _⟩ => ⟨S2048x1024, .f32⟩
  | .hbm, ⟨13, _⟩ => ⟨S1024x2048, .f32⟩
  | .hbm, ⟨14, _⟩ => ⟨S1024x5120, .f32⟩
  | .hbm, ⟨15, _⟩ => ⟨S1024x7168, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DwFive.lean ====
abbrev S4096x1024 : Shape := ⟨2, ![4096, 1024]⟩
abbrev S1024x7168 : Shape := ⟨2, ![1024, 7168]⟩
abbrev S1024x3072 : Shape := ⟨2, ![1024, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x7168, .f32⟩
  | .hbm, ⟨3, _⟩ => ⟨S1024x3072, .bf16⟩
  | .hbm, ⟨4, _⟩ => ⟨S1024x4096, .f32⟩
  | .hbm, ⟨5, _⟩ => ⟨S1024x4096, .bf16⟩
  | .hbm, ⟨6, _⟩ => ⟨S4096x1024, .bf16⟩
  | .hbm, ⟨7, _⟩ => ⟨S1024x7168, .f32⟩
  | .hbm, ⟨8, _⟩ => ⟨S1024x3072, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwFiveRefIdeal.lean ====
abbrev S4096x1024 : Shape := ⟨2, ![4096, 1024]⟩
abbrev S1024x7168 : Shape := ⟨2, ![1024, 7168]⟩
abbrev S1024x3072 : Shape := ⟨2, ![1024, 3072]⟩
abbrev S_ : Shape := ⟨0, ![]⟩
abbrev S1024x1024 : Shape := ⟨2, ![1024, 1024]⟩
abbrev S1024x4096 : Shape := ⟨2, ![1024, 4096]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x7168, .f32⟩
  | .hbm, ⟨3, _⟩ => ⟨S1024x3072, .bf16⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S1024x2048, .f32⟩
  | .hbm, ⟨11, _⟩ => ⟨S1024x7168, .f32⟩
  | .hbm, ⟨12, _⟩ => ⟨S1024x1024, .bf16⟩
  | .hbm, ⟨13, _⟩ => ⟨S1024x2048, .bf16⟩
  | .hbm, ⟨14, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== PoolF.lean ====
abbrev S7x2x2048x1024 : Shape := ⟨4, ![7, 2, 2048, 1024]⟩
abbrev S4x256x256 : Shape := ⟨3, ![4, 256, 256]⟩
abbrev S1024x4096 : Shape := ⟨2, ![1024, 4096]⟩
abbrev S2x2048x1024 : Shape := ⟨3, ![2, 2048, 1024]⟩
abbrev S1x1x2048x256 : Shape := ⟨4, ![1, 1, 2048, 256]⟩
abbrev S1x256x256 : Shape := ⟨3, ![1, 256, 256]⟩
abbrev S256x2048 : Shape := ⟨2, ![256, 2048]⟩
abbrev S1x2048x256 : Shape := ⟨3, ![1, 2048, 256]⟩
abbrev S2048x256 : Shape := ⟨2, ![2048, 256]⟩
abbrev S256x256 : Shape := ⟨2, ![256, 256]⟩

abbrev nBuf : Space → Nat
  | .hbm => 5
  | .vmem => 8
  | .smem => 0
  | _ => 0

abbrev bufTy : (tb : Table) → Fin (tcTables nBuf tb) → BufTy
  | .hbm, ⟨0, _⟩ => ⟨S7x2x2048x1024, .f32⟩
  | .hbm, ⟨1, _⟩ => ⟨S4x256x256, .f32⟩
  | .hbm, ⟨2, _⟩ => ⟨S4x256x256, .bf16⟩
  | .hbm, ⟨3, _⟩ => ⟨S1024x4096, .bf16⟩
  | .hbm, ⟨4, _⟩ => ⟨S2x2048x1024, .f32⟩
  | .local _ .vmem, ⟨0, _⟩ => ⟨S1x1x2048x256, .f32⟩
  | .local _ .vmem, ⟨1, _⟩ => ⟨S1x1x2048x256, .f32⟩
  | .local _ .vmem, ⟨2, _⟩ => ⟨S1x256x256, .bf16⟩
  | .local _ .vmem, ⟨3, _⟩ => ⟨S1x256x256, .bf16⟩
  | .local _ .vmem, ⟨4, _⟩ => ⟨S256x2048, .bf16⟩
  | .local _ .vmem, ⟨5, _⟩ => ⟨S256x2048, .bf16⟩
  | .local _ .vmem, ⟨6, _⟩ => ⟨S1x2048x256, .f32⟩
  | .local _ .vmem, ⟨7, _⟩ => ⟨S1x2048x256, .f32⟩
  | _, _ => ⟨S7x2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolFRefIdeal.lean ====
abbrev S7x2x2048x1024 : Shape := ⟨4, ![7, 2, 2048, 1024]⟩
abbrev S4x256x256 : Shape := ⟨3, ![4, 256, 256]⟩
abbrev S1x2x2048x1024 : Shape := ⟨4, ![1, 2, 2048, 1024]⟩
abbrev S2x2048x1024 : Shape := ⟨3, ![2, 2048, 1024]⟩
abbrev S2x2048x4x256 : Shape := ⟨4, ![2, 2048, 4, 256]⟩
abbrev S2048 : Shape := ⟨1, ![2048]⟩
abbrev S4 : Shape := ⟨1, ![4]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4 : Shape := ⟨2, ![1, 4]⟩
abbrev S2048x4 : Shape := ⟨2, ![2048, 4]⟩
abbrev S4x2x256x2048 : Shape := ⟨4, ![4, 2, 256, 2048]⟩
abbrev S2048x4x1 : Shape := ⟨3, ![2048, 4, 1]⟩
abbrev S1x2048x4x1 : Shape := ⟨4, ![1, 2048, 4, 1]⟩
abbrev S4x256x2x2048 : Shape := ⟨4, ![4, 256, 2, 2048]⟩
abbrev S4096x1024 : Shape := ⟨2, ![4096, 1024]⟩
abbrev S1024x4096 : Shape := ⟨2, ![1024, 4096]⟩

abbrev nBuf : Space → Nat
  | .hbm => 49
  | .vmem => 0
  | .smem => 0
  | _ => 0

abbrev bufTy : (tb : Table) → Fin (tcTables nBuf tb) → BufTy
  | .hbm, ⟨0, _⟩ => ⟨S7x2x2048x1024, .f32⟩
  | .hbm, ⟨1, _⟩ => ⟨S4x256x256, .f32⟩
  | .hbm, ⟨2, _⟩ => ⟨S1x2x2048x1024, .f32⟩
  | .hbm, ⟨3, _⟩ => ⟨S2x2048x1024, .f32⟩
  | .hbm, ⟨4, _⟩ => ⟨S2x2048x4x256, .f32⟩
  | .hbm, ⟨5, _⟩ => ⟨S2048, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S4x1x1, .i32⟩
  | .hbm, ⟨19, _⟩ => ⟨S1x2048x2048, .i32⟩
  | .hbm, ⟨20, _⟩ => ⟨S4x2048x2048, .i32⟩
  | .hbm, ⟨21, _⟩ => ⟨S4x2048x2048, .i32⟩
  | .hbm, ⟨22, _⟩ => ⟨S4x2048x2048, .i1⟩
  | .hbm, ⟨23, _⟩ => ⟨S1x2048x2048, .i1⟩
  | .hbm, ⟨24, _⟩ => ⟨S4x2048x2048, .i1⟩
  | .hbm, ⟨25, _⟩ => ⟨S4x2048x2048, .i1⟩
  | .hbm, ⟨26, _⟩ => ⟨S4x2048x2048, .f32⟩
  | .hbm, ⟨27, _⟩ => ⟨S2048x1, .i32⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S1x4, .i32⟩
  | .hbm, ⟨32, _⟩ => ⟨S2048x4, .i32⟩
  | .hbm, ⟨33, _⟩ => ⟨S2048x4, .i32⟩
  | .hbm, ⟨34, _⟩ => ⟨S2048x4, .i32⟩
  | .hbm, ⟨35, _⟩ => ⟨S2048x4, .f32⟩
  | .hbm, ⟨36, _⟩ => ⟨S4x2x256x2048, .f32⟩
  | .hbm, ⟨37, _⟩ => ⟨S2x2048x4x256, .f32⟩
  | .hbm, ⟨38, _⟩ => ⟨S2048x4x1, .f32⟩
  | .hbm, ⟨39, _⟩ => ⟨S1x2048x4x1, .f32⟩
  | .hbm, ⟨40, _⟩ => ⟨S2x2048x4x256, .f32⟩
  | .hbm, ⟨41, _⟩ => ⟨S2x2048x4x256, .f32⟩
  | .hbm, ⟨42, _⟩ => ⟨S2x2048x4x256, .f32⟩
  | .hbm, ⟨43, _⟩ => ⟨S4x256x2x2048, .f32⟩
  | .hbm, ⟨44, _⟩ => ⟨S2x2048x4x256, .f32⟩
  | .hbm, ⟨45, _⟩ => ⟨S2x2048x1024, .f32⟩
  | .hbm, ⟨46, _⟩ => ⟨S4096x1024, .f32⟩
  | .hbm, ⟨47, _⟩ => ⟨S1024x4096, .f32⟩
  | .hbm, ⟨48, _⟩ => ⟨S1024x4096, .bf16⟩
  | _, _ => ⟨S7x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Proof.Hgrn.Run.lean ====
/- The body of the recurrence's backward kernel run from its first operation to its last, at any grid point. -/
module

public import proofs.«01_k».proof.Proof.Gen.KernelIdeal.Frame
public import proofs.«01_k».proof.Proof.Gen.KernelIdeal.Loops

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
set_option sl_exec.squeezeSlice true in
/-- The body at any grid point, from any contents of the results' buffers and of the scratch: it ends, and leaves
    the operands as they were. -/
theorem body_run (c : Dev nD) (i : grid0.Coords) (arg2 : Memref sig .tc .vmem S4x2x1024x128 .f32) (harg2 : arg2.IsWhole) (arg3 : Memref sig .tc .vmem S2x128 .f32) (harg3 : arg3.IsWhole) (arg4 : Memref sig .tc .vmem S1x128 .f32) (harg4 : arg4.IsWhole) (arg5 : Memref sig .tc .vmem S2x1024x128 .f32) (harg5 : arg5.IsWhole) (arg6 : Memref sig .tc .vmem S2x1024x128 .f32) (harg6 : arg6.IsWhole) (arg7 : Memref sig .tc .vmem S2x1x64x128x128 .bf16) (harg7 : arg7.IsWhole) (arg8 : Memref sig .tc .vmem S8x128 .f32) (harg8 : arg8.IsWhole) (arg9 : Memref sig .tc .vmem S4x2x1024x128 .bf16) (harg9 : arg9.IsWhole) (arg10 : Memref sig .tc .vmem S8x128 .f32) (harg10 : arg10.IsWhole) (arg11 : Memref sig .tc .vmem S2x128x128 .f32) (harg11 : arg11.IsWhole) (arg12 : Memref sig .tc .vmem S2x64x128x128 .f32) (harg12 : arg12.IsWhole) (arg13 : Memref sig .tc .vmem S2x64x128x128 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x1024x128 .f32) (harg16 : arg16.IsWhole) (arg17 : Memref sig .tc .vmem S2x1024x128 .f32) (harg17 : arg17.IsWhole) (x0 : Vec F S4x2x1024x128 .f32) (x1 : Vec F S2x128 .f32) (x2 : Vec F S1x128 .f32) (x3 : Vec F S2x1024x128 .f32) (x4 : Vec F S2x1024x128 .f32) (x5 : Vec F S2x1x64x128x128 .bf16) (x6 : Vec F S8x128 .f32) (y0 : BufTy.Contents (Elt F) arg9.view.ty) (y1 : BufTy.Contents (Elt F) arg10.view.ty) (z0 : BufTy.Contents (Elt F) arg11.view.ty) (z1 : BufTy.Contents (Elt F) arg12.view.ty) (z2 : BufTy.Contents (Elt F) arg13.view.ty) (z3 : BufTy.Contents (Elt F) arg14.view.ty) (z4 : BufTy.Contents (Elt F) arg15.view.ty) (z5 : BufTy.Contents (Elt F) arg16.view.ty) (z6 : BufTy.Contents (Elt F) arg17.view.ty) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} y0) ∗ (arg10.view.loc (c : Thread nD τ) ↦[arg10.view.set]{fullShare} y1) ∗ (arg11.view.loc (c : Thread nD τ) ↦[arg11.view.set]{fullShare} z0) ∗ (arg12.view.loc (c : Thread nD τ) ↦[arg12.view.set]{fullShare} z1) ∗ (arg13.view.loc (c : Thread nD τ) ↦[arg13.view.set]{fullShare} z2) ∗ (arg14.view.loc (c : Thread nD τ) ↦[arg14.view.set]{fullShare} z3) ∗ (arg15.view.loc (c : Thread nD τ) ↦[arg15.view.set]{fullShare} z4) ∗ (arg16.view.loc (c : Thread nD τ) ↦[arg16.view.set]{fullShare} z5) ∗ (arg17.view.loc (c : Thread nD τ) ↦[arg17.view.set]{fullShare} z6) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f)) -∗ K ⟨⟩))
      ⊢ wp frame (wpE (defs₀ (F := F)) Variants.none c none) E (cc0_hgrn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_hgrn_bwd_eq_skeleton]; unfold cc0_hgrn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, H8, H9, H10, H11, H12, H13, H14, H15, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Cert.KernelIdeal.Hgrn

end
-- ==== Proof.Hgrn.Frame.lean ====
/- The recurrence's backward call: the frame of its run. What the body leaves in the two results is not named here. -/
module

public import proofs.«01_k».proof.Proof.Hgrn.Run
public import Idealize.ShloMosaic.Lib.Pipeline.FrameBody
public import Idealize.ShloMosaic.Adequacy

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two windows whose contents the frame does not name: the gradients of the projections and the sums. -/
def unread : Fin cfg0.W → Bool
  | ⟨7, _⟩ => true
  | ⟨8, _⟩ => true
  | _ => false

/-- The proof data: every operand's block left in place, nothing said of the results. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
    | ⟨8, h⟩ => Dat.unnamed (cfg := cfg0) ⟨8, h⟩ t
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X))

/-- A whole buffer of the region's scratch, as the body's run names it. -/
theorem scratch_eq (c : Dev nD) (b : Ref sig .tc) (f : Buf (Elt F) ((c : Thread nD τ).loc b)) :
    (((Memref.whole b).view.loc (c : Thread nD τ) ↦[(Memref.whole b).view.set]{fullShare} f : sProp 𝕄))
      = (((c : Thread nD τ).loc b) ↦{fullShare} f) := by
  rw [show (Memref.whole b).view.set = Finset.univ from View.set_whole b]

/-- Owning a buffer at some contents is owning the memory under it, -/
theorem owns_open (c : Dev nD) {ms : Space} {S : Shape} {e : EltTy} (r : Memref sig .tc ms S e) (X : Vec F S e) :
    (owns (c : Thread nD τ) r fullShare X : sProp 𝕄)
      ⊢ iprop(∃ f, r.view.loc (c : Thread nD τ) ↦[r.view.set]{fullShare} f) := by
  unfold owns
  iintro ⟨%f, %hf, H⟩
  iexists f; iexact H

/-- and the other way round. -/
theorem owns_close (c : Dev nD) {ms : Space} {S : Shape} {e : EltTy} (r : Memref sig .tc ms S e)
    (f : Buf (Elt F) (r.view.loc (c : Thread nD τ))) :
    (r.view.loc (c : Thread nD τ) ↦[r.view.set]{fullShare} f : sProp 𝕄)
      ⊢ iprop(∃ X, owns (c : Thread nD τ) r fullShare X) := by
  unfold owns
  iintro H
  iexists _; iexists f; isplitr; · ipureintro; rfl
  iexact H

set_option maxHeartbeats 3200000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  unfold Pipeline.ΦA; rw [scopedRest0_eq]
  iintro ⟨⟨⟨⟨%z0, S0⟩, ⟨%z1, S1⟩, ⟨%z2, S2⟩, ⟨%z3, S3⟩, ⟨%z4, S4⟩, ⟨%z5, S5⟩, ⟨%z6, S6⟩⟩, HR⟩, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  ihave H7 := (owns_open c (st0_7 t) X7) $$ H7; ihave H8 := (owns_open c (st0_8 t) X8) $$ H8
  icases H7 with ⟨%y7, H7⟩; icases H8 with ⟨%y8, H8⟩
  iapply (body_run c (grid0.coords t) _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) y7 y8 z0 z1 z2 z3 z4 z5 z6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · rw [scratch_eq]; iexact S0
  isplitl [S1]; · rw [scratch_eq]; iexact S1
  isplitl [S2]; · rw [scratch_eq]; iexact S2
  isplitl [S3]; · rw [scratch_eq]; iexact S3
  isplitl [S4]; · rw [scratch_eq]; iexact S4
  isplitl [S5]; · rw [scratch_eq]; iexact S5
  isplitl [S6]; · rw [scratch_eq]; iexact S6
  iintro ⟨H0, H1, H2, H3, H4, H5, H6, ⟨%e7, H7⟩, ⟨%e8, H8⟩, ⟨%g0, S0⟩, ⟨%g1, S1⟩, ⟨%g2, S2⟩, ⟨%g3, S3⟩, ⟨%g4, S4⟩, ⟨%g5, S5⟩, ⟨%g6, S6⟩⟩
  isplitl [S0 S1 S2 S3 S4 S5 S6 HR]
  · isplitl [S0 S1 S2 S3 S4 S5 S6]
    · isplitl [S0]; · iexists g0; rw [← scratch_eq]; iexact S0
      isplitl [S1]; · iexists g1; rw [← scratch_eq]; iexact S1
      isplitl [S2]; · iexists g2; rw [← scratch_eq]; iexact S2
      isplitl [S3]; · iexists g3; rw [← scratch_eq]; iexact S3
      isplitl [S4]; · iexists g4; rw [← scratch_eq]; iexact S4
      isplitl [S5]; · iexists g5; rw [← scratch_eq]; iexact S5
      iexists g6; rw [← scratch_eq]; iexact S6
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_close c (st0_7 t) e7); iexact H7
  iapply (owns_close c (st0_8 t) e8); iexact H8

/-- The body table's row at a point's slots is the body. -/
theorem row (t : Fin cfg0.N) :
    defs₀ (F := F) .tc cfg0.body (cfg0.bodyArgs t (cfg0.slots t)) = bodyAt0 t := by
  unfold defs₀; rw [Defs.onTc_tc]

/-- The library's body obligation with the two results forgotten. -/
theorem body_obligation (c : Dev nD) : BodyObligation (dats (F := F) m 0 c) (defs₀ (F := F)) Variants.none () Set.univ unread := fun t => by
  rw [bigSep_W0, bigSep_W0, row]
  exact triple_restated (sound_body m c t) rfl .rfl fun _ => .rfl

set_option backward.isDefEq.respectTransparency.types false in
/-- The whole run: the operands' arrays hold what they held, and every counter ends at zero. -/
theorem run_main : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_forget cfgs (dats m) (0 : Fin 1) launch0 defs₀ Variants.none unread m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)
    (Q' := _) (hQ' := fun r h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩)

end Cert.KernelIdeal.Hgrn

end
-- ==== Proof.Hgrn.Same.lean ====
/- The recurrence's backward program and its idealization have one text: their kernels' tables are the same, so a run of one is a
   run of the other. -/
module

public import proofs.«01_k».proof.Defs
public import proofs.«01_k».proof.Proof.Hgrn.Frame

@[expose] public section

set_option maxRecDepth 100000

namespace Cert.Hgrn

open Idealize.ShloMosaic

/-- The kernel bodies, label by label. -/
theorem body_eq [Cert.Kernel.Facts] [Cert.KernelIdeal.Facts] : Cert.Kernel.defs₀ (F := Bits) = Cert.KernelIdeal.defs₀ (F := Bits) := by
  unfold Cert.Kernel.defs₀ Cert.KernelIdeal.defs₀
  refine congrArg (Defs.onTc (τ := Cert.Kernel.τ) (sig := Cert.Kernel.sig) (Λ := Cert.Kernel.Λ₀)) ?_
  funext l a
  match l, a with
  | 0, (t, s) => rfl
  | ⟨n + 1, h⟩, _ => exact absurd h (Nat.not_lt.2 (Nat.le_add_left _ _))

/-- The whole tables. -/
theorem defs_eq [Cert.Kernel.Facts] [Cert.KernelIdeal.Facts] : Cert.Kernel.defs (F := Bits) = Cert.KernelIdeal.defs (F := Bits) :=
  congrArg (Pipeline.defs Cert.Kernel.pcfgs) body_eq

end Cert.Hgrn
-- ==== Proof.Mix.Blocks.lean ====
/- What the merge's backward kernel leaves in each result's buffer at one grid point, as a term over the point's blocks: the
   first point (case A) and the later ones (case B), which differ only in the buffer that is added into. -/
module

public import proofs.«01_k».proof.Proof.Gen.MixIdeal.Frame
public import Idealize.ShloMosaic.Lib.Pipeline.Value

@[expose] public section

set_option maxRecDepth 16384

noncomputable section

namespace Cert.MixIdeal.Block

open Cert.MixIdeal Cert.MixIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A pooling group's weights, read out of the block of all four. -/
abbrev weights (x7 : Vec F S4x256x256 .bf16) (g : Nat) (inb : ∀ a, (![g, 0, 0] : Fin 3 → Nat) a + S1x256x256.size a ≤ S4x256x256.size a) :
    Vec F S1x256x256 .bf16 := View.ld x7 (Rect.unit (s := S4x256x256) ![g, 0, 0] S1x256x256.size inb)

/-- The pooled input's gradient: four column blocks, one per pooling group. -/
def dplBlock (x0 : Vec F S512x1024 .bf16) (x2 : Vec F S1x512x1024 .f32) (x6 : Vec F S1024x1024 .bf16) (x7 : Vec F S4x256x256 .bf16)
    (x8 : Vec F S1x1024 .f32) : Vec F S512x1024 .f32 :=
  View.canon [⟨Rect.unit ![0, 768] S512x256.size inb_S512x1024_S512x256_0_768, k0_pay3 (k0_pay15 x8 (k0_pay10 x0 x6 x2)) (weights x7 3 inb_S4x256x256_S1x256x256_3_0_0)⟩,
    ⟨Rect.unit ![0, 512] S512x256.size inb_S512x1024_S512x256_0_512, k0_pay2 (k0_pay15 x8 (k0_pay10 x0 x6 x2)) (weights x7 2 inb_S4x256x256_S1x256x256_2_0_0)⟩,
    ⟨Rect.unit ![0, 256] S512x256.size inb_S512x1024_S512x256_0_256, k0_pay1 (k0_pay18 x8 (k0_pay10 x0 x6 x2)) (weights x7 1 inb_S4x256x256_S1x256x256_1_0_0)⟩,
    ⟨Rect.unit ![0, 0] S512x256.size inb_S512x1024_S512x256_0_0, k0_pay17 x8 (k0_pay10 x0 x6 x2) (weights x7 0 inb_S4x256x256_S1x256x256_0_0_0)⟩]

/-- The two gates' gradients, one behind the other. -/
def dgBlock (x0 : Vec F S512x1024 .bf16) (x1 x2 : Vec F S1x512x1024 .f32) (x3 x4 : Vec F S512x1024 .f32) (x6 : Vec F S1024x1024 .bf16)
    (x8 : Vec F S1x1024 .f32) : Vec F S2x512x1024 .bf16 :=
  View.canon [⟨Rect.unit ![1, 0, 0] S1x512x1024.size inb_S2x512x1024_S1x512x1024_1_0_0, k0_pay13 (k0_pay7 x2) (k0_pay12 x0 x6 x4 x8)⟩,
    ⟨Rect.unit ![0, 0, 0] S1x512x1024.size inb_S2x512x1024_S1x512x1024_0_0_0, k0_pay11 x0 x6 x1 x3⟩]

/-- The pooling scale's gradient after a point: row 2 of what was there, the block's column sums added. -/
def vecStep (x0 : Vec F S512x1024 .bf16) (x2 : Vec F S1x512x1024 .f32) (x4 : Vec F S512x1024 .f32) (x6 : Vec F S1024x1024 .bf16)
    (old : Vec F S8x1024 .f32) : Vec F S1x1024 .f32 :=
  k0_pay14 (k0_pay8 x4) (k0_pay10 x0 x6 x2) (View.ld old (Rect.unit (s := S8x1024) ![2, 0] S1x1024.size inb_S8x1024_S1x1024_2_0))

section
variable (c : Dev nD) (i : grid0.Coords) (a1 : Memref sig .tc .vmem S512x1024 .bf16) (h1 : a1.IsWhole) (a2 : Memref sig .tc .vmem S1x512x1024 .f32) (h2 : a2.IsWhole) (a3 : Memref sig .tc .vmem S1x512x1024 .f32) (h3 : a3.IsWhole) (a4 : Memref sig .tc .vmem S512x1024 .f32) (h4 : a4.IsWhole) (a5 : Memref sig .tc .vmem S512x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S4x256x256 .bf16) (h8 : a8.IsWhole) (a9 : Memref sig .tc .vmem S1x1024 .f32) (h9 : a9.IsWhole) (a10 : Memref sig .tc .vmem S8x128 .f32) (h10 : a10.IsWhole) (a11 : Memref sig .tc .vmem S512x1024 .bf16) (h11 : a11.IsWhole) (a12 : Memref sig .tc .vmem S512x1024 .bf16) (h12 : a12.IsWhole) (a13 : Memref sig .tc .vmem S512x1024 .f32) (h13 : a13.IsWhole) (a14 : Memref sig .tc .vmem S512x1024 .f32) (h14 : a14.IsWhole) (a15 : Memref sig .tc .vmem S2x512x1024 .bf16) (h15 : a15.IsWhole) (a16 : Memref sig .tc .vmem S8x1024 .f32) (h16 : a16.IsWhole)
  (hc : cond0_0 i) (x0 : Vec F S512x1024 .bf16) (x1 : Vec F S1x512x1024 .f32) (x2 : Vec F S1x512x1024 .f32) (x3 : Vec F S512x1024 .f32) (x4 : Vec F S512x1024 .f32) (x5 : Vec F S1024x1024 .bf16) (x6 : Vec F S1024x1024 .bf16) (x7 : Vec F S4x256x256 .bf16) (x8 : Vec F S1x1024 .f32) (x9 : Vec F S8x128 .f32)

/-- Case A: the recurrence branch's gradient. -/
theorem out_A_10 : out0_A_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 = k0_pay9 x0 x6 x1 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]

/-- Case A: the pooled branch's gradient. -/
theorem out_A_11 : out0_A_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 = k0_pay15 x8 (k0_pay10 x0 x6 x2) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]

/-- Case A: the recurrence output's gradient. -/
theorem out_A_12 : out0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 = k0_pay16 (k0_pay9 x0 x6 x1) x5 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]

/-- Case A: the pooled input's gradient. -/
theorem out_A_13 : out0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 = dplBlock x0 x2 x6 x7 x8 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]
  rfl

/-- Case A: the gates' gradients. -/
theorem out_A_14 : out0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 = dgBlock x0 x1 x2 x3 x4 x6 x8 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]
  rfl

end

section
variable (c : Dev nD) (i : grid0.Coords) (a1 : Memref sig .tc .vmem S512x1024 .bf16) (h1 : a1.IsWhole) (a2 : Memref sig .tc .vmem S1x512x1024 .f32) (h2 : a2.IsWhole) (a3 : Memref sig .tc .vmem S1x512x1024 .f32) (h3 : a3.IsWhole) (a4 : Memref sig .tc .vmem S512x1024 .f32) (h4 : a4.IsWhole) (a5 : Memref sig .tc .vmem S512x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S4x256x256 .bf16) (h8 : a8.IsWhole) (a9 : Memref sig .tc .vmem S1x1024 .f32) (h9 : a9.IsWhole) (a10 : Memref sig .tc .vmem S8x128 .f32) (h10 : a10.IsWhole) (a11 : Memref sig .tc .vmem S512x1024 .bf16) (h11 : a11.IsWhole) (a12 : Memref sig .tc .vmem S512x1024 .bf16) (h12 : a12.IsWhole) (a13 : Memref sig .tc .vmem S512x1024 .f32) (h13 : a13.IsWhole) (a14 : Memref sig .tc .vmem S512x1024 .f32) (h14 : a14.IsWhole) (a15 : Memref sig .tc .vmem S2x512x1024 .bf16) (h15 : a15.IsWhole) (a16 : Memref sig .tc .vmem S8x1024 .f32) (h16 : a16.IsWhole)
  (hc : ¬cond0_0 i) (x0 : Vec F S512x1024 .bf16) (x1 : Vec F S1x512x1024 .f32) (x2 : Vec F S1x512x1024 .f32) (x3 : Vec F S512x1024 .f32) (x4 : Vec F S512x1024 .f32) (x5 : Vec F S1024x1024 .bf16) (x6 : Vec F S1024x1024 .bf16) (x7 : Vec F S4x256x256 .bf16) (x8 : Vec F S1x1024 .f32) (x9 : Vec F S8x128 .f32) (xo : Vec F S8x1024 .f32)

/-- Case B: the recurrence branch's gradient. -/
theorem out_B_10 : out0_B_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo = k0_pay9 x0 x6 x1 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]

/-- Case B: the pooled branch's gradient. -/
theorem out_B_11 : out0_B_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo = k0_pay15 x8 (k0_pay10 x0 x6 x2) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]

/-- Case B: the recurrence output's gradient. -/
theorem out_B_12 : out0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo = k0_pay16 (k0_pay9 x0 x6 x1) x5 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]

/-- Case B: the pooled input's gradient. -/
theorem out_B_13 : out0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo = dplBlock x0 x2 x6 x7 x8 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo)]
  unfold kernelRun0_B
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]
  rfl

/-- Case B: the gates' gradients. -/
theorem out_B_14 : out0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo = dgBlock x0 x1 x2 x3 x4 x6 x8 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo)]
  unfold kernelRun0_B
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]
  rfl

end

end Cert.MixIdeal.Block

end
-- ==== Proof.Mix.Sums.lean ====
/- The buffer the merge's backward kernel adds the pooling scale's gradient into: its contents after the first grid point and
   after a later one. Only row 2 is added into; the first point clears the others. -/
module

public import proofs.«01_k».proof.Proof.Mix.Blocks
public import Idealize.ShloMosaic.Lib.WritesUnit
public import Idealize.ShloMosaic.Lib.VecWindow

@[expose] public section

set_option maxRecDepth 16384

noncomputable section

namespace Cert.MixIdeal.Block

open Cert.MixIdeal Cert.MixIdeal.Gen
open Idealize.ShloMosaic Idealize.ShloMosaic.TcCoe Idealize.ShloMosaic.Tactic Idealize.SL.Sem

variable {F : FTy → Type} [FloatOps F]

/-- A part of a buffer read back after the whole of it was stored. -/
theorem part_of_whole (v : View sig .tc .vmem S8x1024 .f32) (w : Vec F S8x1024 .f32) :
    v.readCov [⟨Rect.unit (s := S8x1024) ![0, 0] S8x1024.size inb_S8x1024_S8x1024_0_0, w⟩] (Rect.unit (s := S8x1024) ![2, 0] S1x1024.size inb_S8x1024_S1x1024_2_0).toLoadRect
      = View.ld w (Rect.unit (s := S8x1024) ![2, 0] S1x1024.size inb_S8x1024_S1x1024_2_0) := by
  unfold View.readCov
  rw [View.readAt_eq_ld]
  exact congrArg (fun z => View.ld z _) (View.read_writes_full v v.junk inb_S8x1024_S8x1024_0_0 w [])

section
variable (c : Dev nD) (i : grid0.Coords) (a1 : Memref sig .tc .vmem S512x1024 .bf16) (h1 : a1.IsWhole) (a2 : Memref sig .tc .vmem S1x512x1024 .f32) (h2 : a2.IsWhole) (a3 : Memref sig .tc .vmem S1x512x1024 .f32) (h3 : a3.IsWhole) (a4 : Memref sig .tc .vmem S512x1024 .f32) (h4 : a4.IsWhole) (a5 : Memref sig .tc .vmem S512x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S4x256x256 .bf16) (h8 : a8.IsWhole) (a9 : Memref sig .tc .vmem S1x1024 .f32) (h9 : a9.IsWhole) (a10 : Memref sig .tc .vmem S8x128 .f32) (h10 : a10.IsWhole) (a11 : Memref sig .tc .vmem S512x1024 .bf16) (h11 : a11.IsWhole) (a12 : Memref sig .tc .vmem S512x1024 .bf16) (h12 : a12.IsWhole) (a13 : Memref sig .tc .vmem S512x1024 .f32) (h13 : a13.IsWhole) (a14 : Memref sig .tc .vmem S512x1024 .f32) (h14 : a14.IsWhole) (a15 : Memref sig .tc .vmem S2x512x1024 .bf16) (h15 : a15.IsWhole) (a16 : Memref sig .tc .vmem S8x1024 .f32) (h16 : a16.IsWhole)
  (hc : cond0_0 i) (x0 : Vec F S512x1024 .bf16) (x1 : Vec F S1x512x1024 .f32) (x2 : Vec F S1x512x1024 .f32) (x3 : Vec F S512x1024 .f32) (x4 : Vec F S512x1024 .f32) (x5 : Vec F S1024x1024 .bf16) (x6 : Vec F S1024x1024 .bf16) (x7 : Vec F S4x256x256 .bf16) (x8 : Vec F S1x1024 .f32) (x9 : Vec F S8x128 .f32)

/-- Case A: what is left. -/
theorem out_A_15 : out0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 = View.canon [⟨Rect.unit (s := S8x1024) ![2, 0] S1x1024.size inb_S8x1024_S1x1024_2_0, vecStep x0 x2 x4 x6 k0_pay4⟩,
      ⟨Rect.unit (s := S8x1024) ![0, 0] S8x1024.size inb_S8x1024_S8x1024_0_0, k0_pay4⟩] := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]
  unfold vecStep
  rw [← part_of_whole a16.view]

end

section
variable (c : Dev nD) (i : grid0.Coords) (a1 : Memref sig .tc .vmem S512x1024 .bf16) (h1 : a1.IsWhole) (a2 : Memref sig .tc .vmem S1x512x1024 .f32) (h2 : a2.IsWhole) (a3 : Memref sig .tc .vmem S1x512x1024 .f32) (h3 : a3.IsWhole) (a4 : Memref sig .tc .vmem S512x1024 .f32) (h4 : a4.IsWhole) (a5 : Memref sig .tc .vmem S512x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S4x256x256 .bf16) (h8 : a8.IsWhole) (a9 : Memref sig .tc .vmem S1x1024 .f32) (h9 : a9.IsWhole) (a10 : Memref sig .tc .vmem S8x128 .f32) (h10 : a10.IsWhole) (a11 : Memref sig .tc .vmem S512x1024 .bf16) (h11 : a11.IsWhole) (a12 : Memref sig .tc .vmem S512x1024 .bf16) (h12 : a12.IsWhole) (a13 : Memref sig .tc .vmem S512x1024 .f32) (h13 : a13.IsWhole) (a14 : Memref sig .tc .vmem S512x1024 .f32) (h14 : a14.IsWhole) (a15 : Memref sig .tc .vmem S2x512x1024 .bf16) (h15 : a15.IsWhole) (a16 : Memref sig .tc .vmem S8x1024 .f32) (h16 : a16.IsWhole)
  (hc : ¬cond0_0 i) (x0 : Vec F S512x1024 .bf16) (x1 : Vec F S1x512x1024 .f32) (x2 : Vec F S1x512x1024 .f32) (x3 : Vec F S512x1024 .f32) (x4 : Vec F S512x1024 .f32) (x5 : Vec F S1024x1024 .bf16) (x6 : Vec F S1024x1024 .bf16) (x7 : Vec F S4x256x256 .bf16) (x8 : Vec F S1x1024 .f32) (x9 : Vec F S8x128 .f32) (xo : Vec F S8x1024 .f32)

/-- Case B: what is left, over what the point before left. -/
theorem out_B_15 : out0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 xo
    = a16.view.read (Elt F) (a16.view.writes (Elt F) (h16.unread xo) [⟨Rect.unit (s := S8x1024) ![2, 0] S1x1024.size inb_S8x1024_S1x1024_2_0, vecStep x0 x2 x4 x6 xo⟩]) := by
  unfold out0_B_15
  unfold kernelRun0_B
  dsimp only
  sl_unfold_words
  simp only [h16.read_unread, View.readAt_eq_ld, h1.read_unread, h2.read_unread, h3.read_unread, h4.read_unread, h5.read_unread, h6.read_unread, h7.read_unread, h8.read_unread, h9.read_unread, View.ld_unit_zero (S := S512x1024) hz2,
    View.ld_unit_zero (S := S1x512x1024) hz3, View.ld_unit_zero (S := S1024x1024) hz2, View.ld_unit_zero (S := S1x1024) hz2]
  rfl

end

end Cert.MixIdeal.Block

end
-- ==== Proof.Mix.Outs.lean ====
/- What every grid point of the merge's backward kernel leaves in the results that move with the rows: the same term over the
   point's blocks at the first point and at the later ones. -/
module

public import proofs.«01_k».proof.Proof.Mix.Sums

@[expose] public section

set_option maxRecDepth 16384

noncomputable section

namespace Cert.MixIdeal.Block

open Cert.MixIdeal Cert.MixIdeal.Gen
open Idealize.ShloMosaic Idealize.ShloMosaic.TcCoe Idealize.SL.Sem

variable {F : FTy → Type} [FloatOps F] (m : (ℓ : Loc nD τ sig) → Buf (Elt F) ℓ) (c : Dev nD) (t : Fin cfg0.N)

theorem left10 : (outsAt0 m c t.val t.isLt).1 = k0_pay9 (iblk m c 0 t) (iblk m c 6 t) (iblk m c 1 t) := by
  by_cases h : t.val % 8 = 0
  · rw [outsAt0_A m c t h]
    dsimp only
    rw [out_A_10]
  · rw [outsAt0_B m c t h]
    dsimp only
    rw [out_B_10]

theorem left11 : (outsAt0 m c t.val t.isLt).2.1 = k0_pay15 (iblk m c 8 t) (k0_pay10 (iblk m c 0 t) (iblk m c 6 t) (iblk m c 2 t)) := by
  by_cases h : t.val % 8 = 0
  · rw [outsAt0_A m c t h]
    dsimp only
    rw [out_A_11]
  · rw [outsAt0_B m c t h]
    dsimp only
    rw [out_B_11]

theorem left12 : (outsAt0 m c t.val t.isLt).2.2.1 = k0_pay16 (k0_pay9 (iblk m c 0 t) (iblk m c 6 t) (iblk m c 1 t)) (iblk m c 5 t) := by
  by_cases h : t.val % 8 = 0
  · rw [outsAt0_A m c t h]
    dsimp only
    rw [out_A_12]
  · rw [outsAt0_B m c t h]
    dsimp only
    rw [out_B_12]

theorem left13 : (outsAt0 m c t.val t.isLt).2.2.2.1 = dplBlock (iblk m c 0 t) (iblk m c 2 t) (iblk m c 6 t) (iblk m c 7 t) (iblk m c 8 t) := by
  by_cases h : t.val % 8 = 0
  · rw [outsAt0_A m c t h]
    dsimp only
    rw [out_A_13]
  · rw [outsAt0_B m c t h]
    dsimp only
    rw [out_B_13]

theorem left14 : (outsAt0 m c t.val t.isLt).2.2.2.2.1 = dgBlock (iblk m c 0 t) (iblk m c 1 t) (iblk m c 2 t) (iblk m c 3 t) (iblk m c 4 t) (iblk m c 6 t) (iblk m c 8 t) := by
  by_cases h : t.val % 8 = 0
  · rw [outsAt0_A m c t h]
    dsimp only
    rw [out_A_14]
  · rw [outsAt0_B m c t h]
    dsimp only
    rw [out_B_14]

end Cert.MixIdeal.Block

end
-- ==== Proof.Mix.Payloads.lean ====
/- What one grid point of the merge's backward kernel stores, read at an index over the extended reals. Each stored value is
   written as sums and products of the elements of the point's blocks. -/
module

public import proofs.«01_k».proof.Proof.Gen.MixIdeal.Skeleton
public import Idealize.ShloMosaic.Lib.MatmulPlain
public import Idealize.ShloMosaic.Lib.ValueIdx
public import Idealize.ShloMosaic.Lib.ValueLayout
public import Idealize.ShloMosaic.PureOps.Ideal.Laws

@[expose] public section

set_option maxRecDepth 16384

noncomputable section

namespace Cert.MixIdeal.Block

open Cert.MixIdeal Cert.MixIdeal.Gen
open Idealize.ShloMosaic Idealize.ShloMosaic.ValueIdx
open scoped BigOperators

/-- The constant one as both programs write it. -/
abbrev one : EReal := Ideal.ofBits .f32 0x3F800000#32

/-- The zero pattern is the number zero. -/
theorem zero_word : Ideal.ofBits .f32 0x00000000#32 = 0 := by simp [Ideal.ofBits, Ideal.ieee]

/-- A product with the second factor transposed and the contraction over 1024 columns. -/
theorem product_wide {φ₁ φ₂ : FTy} (a : FVec Ideal S512x1024 φ₁) (b : FVec Ideal S1024x1024 φ₂) (p : Fin 512) (q : Fin 1024) :
    matmul dot_S512x1024_S1024x1024_S512x1024_1_1_0_0_n_n none a b (constant S512x1024 .f32 0x00000000#32) (ix2 p q)
      = ∑ k : Fin 1024, a (ix2 p k) * b (ix2 q k) := by
  refine (Ideal.matmul_transposedRhs_apply (M := 512) (K := 1024) (N := 1024) none a b _ p q).trans ?_
  rw [constant_apply, zero_word, zero_add]

/-- The same over 256 columns, for one pooling group. -/
theorem product_group {φ₁ φ₂ : FTy} (a : FVec Ideal S512x256 φ₁) (b : FVec Ideal S256x256 φ₂) (p : Fin 512) (q : Fin 256) :
    matmul dot_S512x256_S256x256_S512x256_1_1_0_0_n_n none a b (constant S512x256 .f32 0x00000000#32) (ix2 p q)
      = ∑ k : Fin 256, a (ix2 p k) * b (ix2 q k) := by
  refine (Ideal.matmul_transposedRhs_apply (M := 512) (K := 256) (N := 256) none a b _ p q).trans ?_
  rw [constant_apply, zero_word, zero_add]

variable (x0 : Vec Ideal S512x1024 .bf16) (x1 x2 : Vec Ideal S1x512x1024 .f32) (x3 x4 : Vec Ideal S512x1024 .f32)
  (x5 x6 : Vec Ideal S1024x1024 .bf16) (x8 : Vec Ideal S1x1024 .f32)

/-- The gradient of the merged value. -/
theorem pay5 (p : Fin 512) (q : Fin 1024) : k0_pay5 x0 x6 (ix2 p q) = ∑ k : Fin 1024, x0 (ix2 p k) * x6 (ix2 q k) := by
  unfold k0_pay5
  rw [shapeCast_self, shapeCast_self]
  exact product_wide _ _ p q

/-- The first gate. -/
theorem pay6 (p : Fin 512) (q : Fin 1024) : k0_pay6 x1 (ix2 p q) = Ideal.logistic (x1 (ix3 (0 : Fin 1) p q)) := by
  unfold k0_pay6
  show Ideal.logistic (shapeCast S512x1024 x1 shapeCasts_S1x512x1024_S512x1024 (ix2 p q)) = _
  rw [shapeCast_1ab_ab_apply]

/-- The second gate. -/
theorem pay7 (p : Fin 512) (q : Fin 1024) : k0_pay7 x2 (ix2 p q) = Ideal.logistic (x2 (ix3 (0 : Fin 1) p q)) := by
  unfold k0_pay7
  show Ideal.logistic (shapeCast S512x1024 x2 shapeCasts_S1x512x1024_S512x1024 (ix2 p q)) = _
  rw [shapeCast_1ab_ab_apply]

/-- The pooled branch is used as it is. -/
theorem pay8 : k0_pay8 x4 = x4 := by
  unfold k0_pay8
  rw [shapeCast_self]

/-- The gradient of the recurrence branch. -/
theorem pay9 (p : Fin 512) (q : Fin 1024) :
    k0_pay9 x0 x6 x1 (ix2 p q) = k0_pay5 x0 x6 (ix2 p q) * Ideal.logistic (x1 (ix3 (0 : Fin 1) p q)) := by
  rw [← pay6]; rfl

/-- The gradient of the scaled pooled branch. -/
theorem pay10 (p : Fin 512) (q : Fin 1024) :
    k0_pay10 x0 x6 x2 (ix2 p q) = k0_pay5 x0 x6 (ix2 p q) * Ideal.logistic (x2 (ix3 (0 : Fin 1) p q)) := by
  rw [← pay7]; rfl

/-- The gradient of the first gate's input. -/
theorem pay11 (u : Fin 1) (p : Fin 512) (q : Fin 1024) :
    k0_pay11 x0 x6 x1 x3 (ix3 u p q)
      = k0_pay5 x0 x6 (ix2 p q) * x3 (ix2 p q) * Ideal.logistic (x1 (ix3 (0 : Fin 1) p q))
          * (one - Ideal.logistic (x1 (ix3 (0 : Fin 1) p q))) := by
  unfold k0_pay11
  rw [shapeCast_ab_1ab_apply, shapeCast_self, ← pay6]; rfl

/-- The merged gradient times the scaled pooled branch. -/
theorem pay12 (p : Fin 512) (q : Fin 1024) :
    k0_pay12 x0 x6 x4 x8 (ix2 p q) = k0_pay5 x0 x6 (ix2 p q) * (x4 (ix2 p q) * x8 (ix2 (0 : Fin 1) q)) := by
  unfold k0_pay12
  rw [pay8]
  show k0_pay5 x0 x6 (ix2 p q) * (x4 (ix2 p q) * broadcastTo S512x1024 x8 broadcasts_S1x1024_S512x1024 (ix2 p q)) = _
  rw [broadcastTo_1b_ab_apply]

/-- The gradient of the second gate's input. -/
theorem pay13 (u : Fin 1) (p : Fin 512) (q : Fin 1024) :
    k0_pay13 (k0_pay7 x2) (k0_pay12 x0 x6 x4 x8) (ix3 u p q)
      = k0_pay5 x0 x6 (ix2 p q) * (x4 (ix2 p q) * x8 (ix2 (0 : Fin 1) q)) * Ideal.logistic (x2 (ix3 (0 : Fin 1) p q))
          * (one - Ideal.logistic (x2 (ix3 (0 : Fin 1) p q))) := by
  unfold k0_pay13
  rw [shapeCast_ab_1ab_apply, ← pay7, ← pay12]; rfl

/-- The pooling scale's gradient: what was there plus the block's column sums. -/
theorem pay14 (a b : FVec Ideal S512x1024 .f32) (old : Vec Ideal S1x1024 .f32) (q : Fin 1024) :
    k0_pay14 a b old (ix2 (0 : Fin 1) q) = old (ix2 (0 : Fin 1) q) + ∑ p : Fin 512, b (ix2 p q) * a (ix2 p q) := by
  unfold k0_pay14
  rw [shapeCast_self]
  show old (ix2 (0 : Fin 1) q) + shapeCast S1x1024 _ shapeCasts_S1024_S1x1024 (ix2 (0 : Fin 1) q) = _
  rw [shapeCast_a_1a_apply]
  refine congrArg _ ((Ideal.multiReduction_add_single _ _ _ _ _ _).trans (Finset.sum_congr rfl fun p _ => ?_))
  rw [show reduces_S512x1024_S1024.lift (ix1 q) p = ix2 p q from by
    funext ax; match ax with
    | ⟨0, _⟩ => rfl
    | ⟨1, _⟩ => rfl]
  rfl

/-- The gradient of the pooled branch. -/
theorem pay15 (p : Fin 512) (q : Fin 1024) :
    k0_pay15 x8 (k0_pay10 x0 x6 x2) (ix2 p q) = k0_pay10 x0 x6 x2 (ix2 p q) * x8 (ix2 (0 : Fin 1) q) := by
  unfold k0_pay15
  show k0_pay10 x0 x6 x2 (ix2 p q) * broadcastTo S512x1024 x8 broadcasts_S1x1024_S512x1024 (ix2 p q) = _
  rw [broadcastTo_1b_ab_apply]

/-- The gradient of the recurrence's output. -/
theorem pay16 (a : FVec Ideal S512x1024 .bf16) (p : Fin 512) (q : Fin 1024) :
    k0_pay16 a x5 (ix2 p q) = ∑ k : Fin 1024, a (ix2 p k) * x5 (ix2 q k) := by
  unfold k0_pay16
  rw [shapeCast_self]
  exact product_wide _ _ p q

/-- One pooling group's piece of the pooled input's gradient: the group's columns times the group's weights. -/
theorem piece {o : Nat} (a : FVec Ideal S512x1024 .bf16) (w : Vec Ideal S1x256x256 .bf16)
    (h : S512x1024.Slices ![0, o] S512x256) (ho : o + 256 ≤ 1024) (p : Fin 512) (q : Fin 256) :
    matmul (φ₁ := .bf16) (φ₂ := .bf16) dot_S512x256_S256x256_S512x256_1_1_0_0_n_n none
        (extractStridedSlice S512x256 ![0, o] a h) (shapeCast S256x256 w shapeCasts_S1x256x256_S256x256)
        (constant S512x256 .f32 0x00000000#32) (ix2 p q)
      = ∑ k : Fin 256, a (ix2 p ⟨o + k.val, by have := k.isLt; omega⟩) * w (ix3 (0 : Fin 1) q k) := by
  rw [product_group]
  refine Finset.sum_congr rfl fun k _ => ?_
  rw [shapeCast_1ab_ab_apply, extractStridedSlice_apply _ a h (ix2 p k) (ix2 p ⟨o + k.val, by have := k.isLt; omega⟩)]
  intro ax
  match ax with
  | ⟨0, _⟩ => exact (Nat.zero_add _).symm
  | ⟨1, _⟩ => rfl

end Cert.MixIdeal.Block

end
-- ==== Proof.Mix.Math.lean ====
/- The gradient of the gated merge, as sums and products of the elements of its arrays over the extended reals. Both programs
   are read as these. -/
module

public import Idealize.ShloMosaic.Lib.ValueIdx
public import Idealize.ShloMosaic.PureOps.Ideal.Laws
public import Idealize.ShloMosaic.Lib.IdealHost

@[expose] public section

noncomputable section

namespace Cert.Merge

open Idealize.ShloMosaic Idealize.ShloMosaic.ValueIdx
open scoped BigOperators

/-- The array shapes. -/
abbrev Rows : Shape := ⟨2, ![4096, 1024]⟩
abbrev Seven : Shape := ⟨3, ![7, 4096, 1024]⟩
abbrev Square : Shape := ⟨2, ![1024, 1024]⟩
abbrev Groups : Shape := ⟨3, ![4, 256, 256]⟩
abbrev Line : Shape := ⟨2, ![1, 1024]⟩

/-- The constant one as both programs write it. -/
abbrev one : EReal := Ideal.ofBits .f32 0x3F800000#32

theorem one_eq : one = 1 := Ideal.ofBits_one_f32

/-- The zero pattern is the number zero. -/
theorem zero_word : Ideal.ofBits .f32 0x00000000#32 = 0 := by simp [Ideal.ofBits, Ideal.ieee]

variable (d : Rows.Idx → EReal) (proj : Seven.Idx → EReal) (a b : Rows.Idx → EReal) (wa wo : Square.Idx → EReal)
  (wp : Groups.Idx → EReal) (ps : Line.Idx → EReal)

/-- The gradient of the merged value: the incoming gradient through the output projection. -/
def dMerged (p : Fin 4096) (q : Fin 1024) : EReal := ∑ k : Fin 1024, d (ix2 p k) * wo (ix2 q k)

/-- The gates. -/
def gateA (p : Fin 4096) (q : Fin 1024) : EReal := Ideal.logistic (proj (ix3 (5 : Fin 7) p q))
def gateB (p : Fin 4096) (q : Fin 1024) : EReal := Ideal.logistic (proj (ix3 (6 : Fin 7) p q))

/-- The gradient of the recurrence branch. -/
def dA (p : Fin 4096) (q : Fin 1024) : EReal := dMerged d wo p q * gateA proj p q

/-- The gradient of the scaled pooled branch. -/
def dBs (p : Fin 4096) (q : Fin 1024) : EReal := dMerged d wo p q * gateB proj p q

/-- The gradient of the pooled branch. -/
def dBp (p : Fin 4096) (q : Fin 1024) : EReal := dBs d proj wo p q * ps (ix2 (0 : Fin 1) q)

/-- The gradient of the recurrence's normed output. -/
def dAin (p : Fin 4096) (q : Fin 1024) : EReal := ∑ k : Fin 1024, dA d proj wo p k * wa (ix2 q k)

/-- The column of group `g` at place `k`. -/
def col (g : Fin 4) (k : Fin 256) : Fin 1024 := ⟨g.val * 256 + k.val, by have := g.isLt; have := k.isLt; omega⟩

/-- A column's group and its place in the group. -/
def grp (q : Fin 1024) : Fin 4 := ⟨q.val / 256, by have := q.isLt; omega⟩
def place (q : Fin 1024) : Fin 256 := ⟨q.val % 256, by omega⟩

/-- The gradient of the pooled values. -/
def dPooled (p : Fin 4096) (q : Fin 1024) : EReal :=
  ∑ k : Fin 256, dBp d proj wo ps p (col (grp q) k) * wp (ix3 (grp q) (place q) k)

/-- The gradients of the gates' inputs. -/
def dGateA (p : Fin 4096) (q : Fin 1024) : EReal :=
  dMerged d wo p q * a (ix2 p q) * gateA proj p q * (one - gateA proj p q)
def dGateB (p : Fin 4096) (q : Fin 1024) : EReal :=
  dMerged d wo p q * (b (ix2 p q) * ps (ix2 (0 : Fin 1) q)) * gateB proj p q * (one - gateB proj p q)

/-- The gradient of the pooling scale. -/
def dScale (q : Fin 1024) : EReal := ∑ p : Fin 4096, dBs d proj wo p q * b (ix2 p q)

end Cert.Merge

end
-- ==== Proof.Mix.At.lean ====
/- The merge's backward kernel's stored blocks at an index, over the extended reals: those put together from pieces. -/
module

public import proofs.«01_k».proof.Proof.Mix.Sums
public import proofs.«01_k».proof.Proof.Mix.Payloads
public import proofs.«01_k».proof.Proof.Mix.Math
public import Idealize.ShloMosaic.Lib.Pipeline.ValueKit.Tiles

@[expose] public section

set_option maxRecDepth 16384

noncomputable section

namespace Cert.MixIdeal.Block

open Cert.MixIdeal Cert.MixIdeal.Gen
open Idealize.ShloMosaic Idealize.ShloMosaic.ValueIdx Idealize.SL.Sem
open scoped BigOperators

variable (x0 : Vec Ideal S512x1024 .bf16) (x1 x2 : Vec Ideal S1x512x1024 .f32) (x3 x4 : Vec Ideal S512x1024 .f32)
  (x6 : Vec Ideal S1024x1024 .bf16) (x7 : Vec Ideal S4x256x256 .bf16) (x8 : Vec Ideal S1x1024 .f32)

/-- The pooled input's gradient at an index. -/
def dplAt (a : FVec Ideal S512x1024 .bf16) (i : S512x1024.Idx) : EReal :=
  ∑ k : Fin 256, a (ix2 (i 0) (Merge.col (Merge.grp (i 1)) k)) * x7 (ix3 (Merge.grp (i 1)) (Merge.place (i 1)) k)

/-- One group's piece is that gradient at the group's columns. -/
theorem group_piece (a : FVec Ideal S512x1024 .bf16) (g : Fin 4) (o : Nat) (ho : o = g.val * 256) (hs : S512x1024.Slices ![0, o] S512x256)
    (hw : ∀ ax, (![g.val, 0, 0] : Fin 3 → Nat) ax + S1x256x256.size ax ≤ S4x256x256.size ax)
    (hr : ∀ ax, (![0, o] : Fin 2 → Nat) ax + S512x256.size ax ≤ S512x1024.size ax) (x : S512x256.Idx) :
    matmul (φ₁ := .bf16) (φ₂ := .bf16) dot_S512x256_S256x256_S512x256_1_1_0_0_n_n none
        (extractStridedSlice S512x256 ![0, o] a hs) (shapeCast S256x256 (weights x7 g.val hw) shapeCasts_S1x256x256_S256x256)
        (constant S512x256 .f32 0x00000000#32) x
      = dplAt x7 a ((Rect.unit (s := S512x1024) ![0, o] S512x256.size hr).emb x) := by
  obtain ⟨p, q, rfl⟩ : ∃ (p : Fin 512) (q : Fin 256), x = ix2 p q := ⟨x 0, x 1, eq_ix2 x⟩
  have hg := g.isLt
  have hq := q.isLt
  rw [piece a _ hs (by omega) p q]
  refine Finset.sum_congr rfl fun k _ => ?_
  have hk := k.isLt
  refine congrArg₂ (· * ·) (congrArg a ?_) ?_
  · refine congrArg₂ ix2 (Fin.ext ?_) (Fin.ext ?_)
    · show p.val = 0 + 1 * p.val; omega
    · show o + k.val = (o + 1 * q.val) / 256 * 256 + k.val; omega
  · refine View.ld_unit_apply_of x7 _ _ _ _ _ fun ax => ?_
    match ax with
    | ⟨0, _⟩ => show (o + 1 * q.val) / 256 = g.val + 0; omega
    | ⟨1, _⟩ => show (o + 1 * q.val) % 256 = 0 + q.val; omega
    | ⟨2, _⟩ => show k.val = 0 + k.val; omega

/-- The four pieces together. -/
theorem dpl_at (i : S512x1024.Idx) : dplBlock x0 x2 x6 x7 x8 i = dplAt x7 (k0_pay15 x8 (k0_pay10 x0 x6 x2)) i := by
  unfold dplBlock
  refine View.canon_apply_of_pieces (Val := Elt Ideal) (e := .f32) (dplAt x7 (k0_pay15 x8 (k0_pay10 x0 x6 x2))) _ ?_ i ?_
  · intro pc hpc
    simp only [List.mem_cons, List.not_mem_nil, or_false] at hpc
    rcases hpc with rfl | rfl | rfl | rfl
    · exact group_piece x7 _ 3 768 rfl _ _ inb_S512x1024_S512x256_0_768
    · exact group_piece x7 _ 2 512 rfl _ _ inb_S512x1024_S512x256_0_512
    · exact group_piece x7 _ 1 256 rfl slices_S512x1024_o0_256_S512x256 _ inb_S512x1024_S512x256_0_256
    · exact group_piece x7 _ 0 0 rfl slices_S512x1024_o0_0_S512x256 _ inb_S512x1024_S512x256_0_0
  · have h0 : (i 0).val < 512 := (i 0).isLt
    have h1 : (i 1).val < 1024 := (i 1).isLt
    have mem : ∀ (o : Nat) (hr : ∀ ax, (![0, o] : Fin 2 → Nat) ax + S512x256.size ax ≤ S512x1024.size ax),
        o ≤ (i 1).val → (i 1).val < o + 256 → i ∈ (Rect.unit (s := S512x1024) ![0, o] S512x256.size hr).set := by
      intro o hr hl hu
      rw [Rect.mem_set_unit]
      intro ax
      match ax with
      | ⟨0, _⟩ => exact ⟨Nat.zero_le _, by show (i 0).val < 0 + 512; omega⟩
      | ⟨1, _⟩ => exact ⟨hl, hu⟩
    rcases (by omega : 768 ≤ (i 1).val ∨ 512 ≤ (i 1).val ∧ (i 1).val < 768 ∨ 256 ≤ (i 1).val ∧ (i 1).val < 512 ∨ (i 1).val < 256) with h | h | h | h
    · exact ⟨_, List.mem_cons_self, mem 768 inb_S512x1024_S512x256_0_768 h (by omega)⟩
    · exact ⟨_, List.mem_cons_of_mem _ List.mem_cons_self, mem 512 inb_S512x1024_S512x256_0_512 h.1 (by omega)⟩
    · exact ⟨_, List.mem_cons_of_mem _ (List.mem_cons_of_mem _ List.mem_cons_self), mem 256 inb_S512x1024_S512x256_0_256 h.1 (by omega)⟩
    · exact ⟨_, List.mem_cons_of_mem _ (List.mem_cons_of_mem _ (List.mem_cons_of_mem _ List.mem_cons_self)), mem 0 inb_S512x1024_S512x256_0_0 (Nat.zero_le _) (by omega)⟩

/-- The second gate's gradient, stored last. -/
theorem dg_second (p : Fin 512) (q : Fin 1024) :
    dgBlock x0 x1 x2 x3 x4 x6 x8 (ix3 (1 : Fin 2) p q) = k0_pay13 (k0_pay7 x2) (k0_pay12 x0 x6 x4 x8) (ix3 (0 : Fin 1) p q) := by
  unfold dgBlock
  refine Eq.trans (congrArg _ ?_) (View.canon_cons_emb (Rect.unit (s := S2x512x1024) ![1, 0, 0] S1x512x1024.size inb_S2x512x1024_S1x512x1024_1_0_0) _ _ (ix3 (0 : Fin 1) p q))
  refine funext fun ax => Fin.ext ?_
  match ax with
  | ⟨0, _⟩ => rfl
  | ⟨1, _⟩ => show p.val = 0 + 1 * p.val; omega
  | ⟨2, _⟩ => show q.val = 0 + 1 * q.val; omega

/-- The first gate's gradient, untouched by the second store. -/
theorem dg_first (p : Fin 512) (q : Fin 1024) :
    dgBlock x0 x1 x2 x3 x4 x6 x8 (ix3 (0 : Fin 2) p q) = k0_pay11 x0 x6 x1 x3 (ix3 (0 : Fin 1) p q) := by
  unfold dgBlock
  rw [View.canon_cons_of_not_mem]
  · refine Eq.trans (congrArg _ ?_) (View.canon_cons_emb (Rect.unit (s := S2x512x1024) ![0, 0, 0] S1x512x1024.size inb_S2x512x1024_S1x512x1024_0_0_0) _ _ (ix3 (0 : Fin 1) p q))
    refine funext fun ax => Fin.ext ?_
    match ax with
    | ⟨0, _⟩ => rfl
    | ⟨1, _⟩ => show p.val = 0 + 1 * p.val; omega
    | ⟨2, _⟩ => show q.val = 0 + 1 * q.val; omega
  · intro h
    rw [Rect.mem_set_unit] at h
    exact absurd (show (1 : Nat) ≤ 0 from (h 0).1) (by decide)

/-- The accumulated row after a point: the row before, the block's column sums added. -/
theorem step_at (old : Vec Ideal S8x1024 .f32) (q : Fin 1024) :
    vecStep x0 x2 x4 x6 old (ix2 (0 : Fin 1) q) = old (ix2 (2 : Fin 8) q) + ∑ p : Fin 512, k0_pay10 x0 x6 x2 (ix2 p q) * x4 (ix2 p q) := by
  unfold vecStep
  rw [pay14, pay8]
  refine congrArg (· + _) (View.ld_unit_apply_of old _ _ _ _ _ fun ax => ?_)
  match ax with
  | ⟨0, _⟩ => rfl
  | ⟨1, _⟩ => show q.val = 0 + q.val; omega

end Cert.MixIdeal.Block

end
-- ==== Proof.Mix.Entry.lean ====
/- What the windows of the merge's backward call read: the elements of the launch's arrays, over the extended reals. -/
module

public import proofs.«01_k».proof.Proof.Mix.Math
public import proofs.«01_k».proof.Proof.Gen.MixIdeal.Frame
public import proofs.«01_k».proof.Proof.Gen.MixRefIdeal.Read
public import Idealize.ShloMosaic.Lib.Pipeline.Value
public import Idealize.ShloMosaic.Lib.StableHlo.ReadAt

@[expose] public section

set_option maxRecDepth 16384

noncomputable section

namespace Cert.MixIdeal.Entry

open Cert.MixIdeal Cert.MixIdeal.Gen
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD)

/-- The launch's arrays. -/
abbrev d : Merge.Rows.Idx → EReal := m ((c : Thread nD τ).loc main_arg0)
abbrev proj : Merge.Seven.Idx → EReal := m ((c : Thread nD τ).loc main_arg1)
abbrev wa : Merge.Square.Idx → EReal := m ((c : Thread nD τ).loc main_arg4)
abbrev wo : Merge.Square.Idx → EReal := m ((c : Thread nD τ).loc main_arg5)
abbrev wpool : Merge.Groups.Idx → EReal := m ((c : Thread nD τ).loc main_arg6)
abbrev ps : Merge.Line.Idx → EReal := m ((c : Thread nD τ).loc main_arg7)

/-- The two branches, as the host computes them for both programs. -/
abbrev a : Merge.Rows.Idx → EReal :=
  Cert.MixRefIdeal.Read.val_main_v0 (F := Ideal) (m ((c : Thread nD τ).loc main_arg2)) (m ((c : Thread nD τ).loc main_arg4))
abbrev b : Merge.Rows.Idx → EReal :=
  Cert.MixRefIdeal.Read.val_main_v3 (F := Ideal) (m ((c : Thread nD τ).loc main_arg3)) (m ((c : Thread nD τ).loc main_arg6))

/-- What the host operations before the launch leave in the call's operands. -/
theorem V_a : V m c main_v0 = a m c := by
  unfold V; after_reads_simp; rfl

theorem V_b : V m c main_v3 = b m c := by
  unfold V; after_reads_simp; rfl

theorem V_d : V m c main_v4 = d m c := by
  unfold V; after_reads_simp; rfl

theorem V_wa : V m c main_v5 = wa m c := by
  unfold V; after_reads_simp; rfl

theorem V_wo : V m c main_v6 = wo m c := by
  unfold V; after_reads_simp; rfl

theorem V_wp : V m c main_v7 = wpool m c := by
  unfold V; after_reads_simp; rfl

/-- The row of the array that row `r` of point `t`'s block is. -/
def row (t : Fin cfg0.N) (r : Fin 512) : Fin 4096 :=
  ⟨512 * t.val + r.val, by have h : t.val < 8 := lt_of_lt_of_eq t.isLt N_0; have := r.isLt; omega⟩

/-- Window 0 moves down the rows. -/
theorem rows0 (X : Merge.Rows.Idx → EReal) (t : Fin cfg0.N) (r : Fin 512) (q : Fin 1024) :
    ((cfg0.win 0).blk t).view.read (Elt Ideal) X (ix2 r q) = X (ix2 (row t r) q) := by
  have hi : win0_0.index t 0 = t.val ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 512 + 1 * r.val = 512 * t.val + r.val; rw [hi.1]; omega
  | ⟨1, _⟩ => show win0_0.index t 1 * 1024 + 1 * q.val = q.val; rw [hi.2]; omega

/-- Window 3 moves down the rows. -/
theorem rows3 (X : Merge.Rows.Idx → EReal) (t : Fin cfg0.N) (r : Fin 512) (q : Fin 1024) :
    ((cfg0.win 3).blk t).view.read (Elt Ideal) X (ix2 r q) = X (ix2 (row t r) q) := by
  have hi : win0_3.index t 0 = t.val ∧ win0_3.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_3.index t 0 * 512 + 1 * r.val = 512 * t.val + r.val; rw [hi.1]; omega
  | ⟨1, _⟩ => show win0_3.index t 1 * 1024 + 1 * q.val = q.val; rw [hi.2]; omega

/-- Window 4 moves down the rows. -/
theorem rows4 (X : Merge.Rows.Idx → EReal) (t : Fin cfg0.N) (r : Fin 512) (q : Fin 1024) :
    ((cfg0.win 4).blk t).view.read (Elt Ideal) X (ix2 r q) = X (ix2 (row t r) q) := by
  have hi : win0_4.index t 0 = t.val ∧ win0_4.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_4.index t 0 * 512 + 1 * r.val = 512 * t.val + r.val; rw [hi.1]; omega
  | ⟨1, _⟩ => show win0_4.index t 1 * 1024 + 1 * q.val = q.val; rw [hi.2]; omega

/-- Window 10 moves down the rows. -/
theorem rows10 (X : Merge.Rows.Idx → EReal) (t : Fin cfg0.N) (r : Fin 512) (q : Fin 1024) :
    ((cfg0.win 10).blk t).view.read (Elt Ideal) X (ix2 r q) = X (ix2 (row t r) q) := by
  have hi : win0_10.index t 0 = t.val ∧ win0_10.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_10.index t 0 * 512 + 1 * r.val = 512 * t.val + r.val; rw [hi.1]; omega
  | ⟨1, _⟩ => show win0_10.index t 1 * 1024 + 1 * q.val = q.val; rw [hi.2]; omega

/-- Window 11 moves down the rows. -/
theorem rows11 (X : Merge.Rows.Idx → EReal) (t : Fin cfg0.N) (r : Fin 512) (q : Fin 1024) :
    ((cfg0.win 11).blk t).view.read (Elt Ideal) X (ix2 r q) = X (ix2 (row t r) q) := by
  have hi : win0_11.index t 0 = t.val ∧ win0_11.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_11.index t 0 * 512 + 1 * r.val = 512 * t.val + r.val; rw [hi.1]; omega
  | ⟨1, _⟩ => show win0_11.index t 1 * 1024 + 1 * q.val = q.val; rw [hi.2]; omega

/-- Window 12 moves down the rows. -/
theorem rows12 (X : Merge.Rows.Idx → EReal) (t : Fin cfg0.N) (r : Fin 512) (q : Fin 1024) :
    ((cfg0.win 12).blk t).view.read (Elt Ideal) X (ix2 r q) = X (ix2 (row t r) q) := by
  have hi : win0_12.index t 0 = t.val ∧ win0_12.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_12.index t 0 * 512 + 1 * r.val = 512 * t.val + r.val; rw [hi.1]; omega
  | ⟨1, _⟩ => show win0_12.index t 1 * 1024 + 1 * q.val = q.val; rw [hi.2]; omega

/-- Window 13 moves down the rows. -/
theorem rows13 (X : Merge.Rows.Idx → EReal) (t : Fin cfg0.N) (r : Fin 512) (q : Fin 1024) :
    ((cfg0.win 13).blk t).view.read (Elt Ideal) X (ix2 r q) = X (ix2 (row t r) q) := by
  have hi : win0_13.index t 0 = t.val ∧ win0_13.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_13.index t 0 * 512 + 1 * r.val = 512 * t.val + r.val; rw [hi.1]; omega
  | ⟨1, _⟩ => show win0_13.index t 1 * 1024 + 1 * q.val = q.val; rw [hi.2]; omega

/-- Window 1 moves down the rows of projection 5. -/
theorem gate1 (X : Merge.Seven.Idx → EReal) (t : Fin cfg0.N) (r : Fin 512) (q : Fin 1024) :
    ((cfg0.win 1).blk t).view.read (Elt Ideal) X (ix3 (0 : Fin 1) r q) = X (ix3 (5 : Fin 7) (row t r) q) := by
  have hi : win0_1.index t 0 = 5 ∧ win0_1.index t 1 = t.val ∧ win0_1.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_1.index t 0 * 1 + 1 * 0 = 5; rw [hi.1]
  | ⟨1, _⟩ => show win0_1.index t 1 * 512 + 1 * r.val = 512 * t.val + r.val; rw [hi.2.1]; omega
  | ⟨2, _⟩ => show win0_1.index t 2 * 1024 + 1 * q.val = q.val; rw [hi.2.2]; omega

/-- Window 2 moves down the rows of projection 6. -/
theorem gate2 (X : Merge.Seven.Idx → EReal) (t : Fin cfg0.N) (r : Fin 512) (q : Fin 1024) :
    ((cfg0.win 2).blk t).view.read (Elt Ideal) X (ix3 (0 : Fin 1) r q) = X (ix3 (6 : Fin 7) (row t r) q) := by
  have hi : win0_2.index t 0 = 6 ∧ win0_2.index t 1 = t.val ∧ win0_2.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_2.index t 0 * 1 + 1 * 0 = 6; rw [hi.1]
  | ⟨1, _⟩ => show win0_2.index t 1 * 512 + 1 * r.val = 512 * t.val + r.val; rw [hi.2.1]; omega
  | ⟨2, _⟩ => show win0_2.index t 2 * 1024 + 1 * q.val = q.val; rw [hi.2.2]; omega

/-- Window 14 moves down the rows of both gates. -/
theorem gates14 (X : S2x4096x1024.Idx → EReal) (t : Fin cfg0.N) (g : Fin 2) (r : Fin 512) (q : Fin 1024) :
    ((cfg0.win 14).blk t).view.read (Elt Ideal) X (ix3 g r q) = X (ix3 g (row t r) q) := by
  have hi : win0_14.index t 0 = 0 ∧ win0_14.index t 1 = t.val ∧ win0_14.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_14.index t 0 * 2 + 1 * g.val = g.val; rw [hi.1]; omega
  | ⟨1, _⟩ => show win0_14.index t 1 * 512 + 1 * r.val = 512 * t.val + r.val; rw [hi.2.1]; omega
  | ⟨2, _⟩ => show win0_14.index t 2 * 1024 + 1 * q.val = q.val; rw [hi.2.2]; omega

/-- Window 5 is its whole array. -/
theorem whole5 (X : Merge.Square.Idx → EReal) (t : Fin cfg0.N) (r : Fin 1024) (q : Fin 1024) :
    ((cfg0.win 5).blk t).view.read (Elt Ideal) X (ix2 r q) = X (ix2 r q) := by
  have hi : win0_5.index t 0 = 0 ∧ win0_5.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_5.index t 0 * 1024 + 1 * r.val = r.val; rw [hi.1]; omega
  | ⟨1, _⟩ => show win0_5.index t 1 * 1024 + 1 * q.val = q.val; rw [hi.2]; omega

/-- Window 6 is its whole array. -/
theorem whole6 (X : Merge.Square.Idx → EReal) (t : Fin cfg0.N) (r : Fin 1024) (q : Fin 1024) :
    ((cfg0.win 6).blk t).view.read (Elt Ideal) X (ix2 r q) = X (ix2 r q) := by
  have hi : win0_6.index t 0 = 0 ∧ win0_6.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_6.index t 0 * 1024 + 1 * r.val = r.val; rw [hi.1]; omega
  | ⟨1, _⟩ => show win0_6.index t 1 * 1024 + 1 * q.val = q.val; rw [hi.2]; omega

/-- Window 8 is its whole array. -/
theorem whole8 (X : Merge.Line.Idx → EReal) (t : Fin cfg0.N) (r : Fin 1) (q : Fin 1024) :
    ((cfg0.win 8).blk t).view.read (Elt Ideal) X (ix2 r q) = X (ix2 r q) := by
  have hi : win0_8.index t 0 = 0 ∧ win0_8.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_8.index t 0 * 1 + 1 * r.val = r.val; rw [hi.1]; omega
  | ⟨1, _⟩ => show win0_8.index t 1 * 1024 + 1 * q.val = q.val; rw [hi.2]; omega

/-- Window 15 is its whole array. -/
theorem whole15 (X : S8x1024.Idx → EReal) (t : Fin cfg0.N) (r : Fin 8) (q : Fin 1024) :
    ((cfg0.win 15).blk t).view.read (Elt Ideal) X (ix2 r q) = X (ix2 r q) := by
  have hi : win0_15.index t 0 = 0 ∧ win0_15.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_15.index t 0 * 8 + 1 * r.val = r.val; rw [hi.1]; omega
  | ⟨1, _⟩ => show win0_15.index t 1 * 1024 + 1 * q.val = q.val; rw [hi.2]; omega

/-- Window 7 is its whole array. -/
theorem whole7 (X : Merge.Groups.Idx → EReal) (t : Fin cfg0.N) (g : Fin 4) (r : Fin 256) (q : Fin 256) :
    ((cfg0.win 7).blk t).view.read (Elt Ideal) X (ix3 g r q) = X (ix3 g r q) := by
  have hi : win0_7.index t 0 = 0 ∧ win0_7.index t 1 = 0 ∧ win0_7.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_7.index t 0 * 4 + 1 * g.val = g.val; rw [hi.1]; omega
  | ⟨1, _⟩ => show win0_7.index t 1 * 256 + 1 * r.val = r.val; rw [hi.2.1]; omega
  | ⟨2, _⟩ => show win0_7.index t 2 * 256 + 1 * q.val = q.val; rw [hi.2.2]; omega

theorem block0 (t : Fin cfg0.N) (r : Fin 512) (q : Fin 1024) : (iblk m c 0 t : Vec Ideal S512x1024 .bf16) (ix2 r q) = d m c (ix2 (row t r) q) := by
  rw [← rows0 (d m c) t r q]
  unfold iblk
  exact congrArg (fun X => ((cfg0.win 0).blk t).view.read (Elt Ideal) X (ix2 r q)) (V_d m c)

theorem block1 (t : Fin cfg0.N) (r : Fin 512) (q : Fin 1024) : (iblk m c 1 t : Vec Ideal S1x512x1024 .f32) (ix3 (0 : Fin 1) r q) = proj m c (ix3 (5 : Fin 7) (row t r) q) := by
  rw [← gate1 (proj m c) t r q]
  unfold iblk
  exact congrArg (fun X => ((cfg0.win 1).blk t).view.read (Elt Ideal) X (ix3 (0 : Fin 1) r q)) (V_main_arg1 m c)

theorem block2 (t : Fin cfg0.N) (r : Fin 512) (q : Fin 1024) : (iblk m c 2 t : Vec Ideal S1x512x1024 .f32) (ix3 (0 : Fin 1) r q) = proj m c (ix3 (6 : Fin 7) (row t r) q) := by
  rw [← gate2 (proj m c) t r q]
  unfold iblk
  exact congrArg (fun X => ((cfg0.win 2).blk t).view.read (Elt Ideal) X (ix3 (0 : Fin 1) r q)) (V_main_arg1 m c)

theorem block3 (t : Fin cfg0.N) (r : Fin 512) (q : Fin 1024) : (iblk m c 3 t : Vec Ideal S512x1024 .f32) (ix2 r q) = a m c (ix2 (row t r) q) := by
  rw [← rows3 (a m c) t r q]
  unfold iblk
  exact congrArg (fun X => ((cfg0.win 3).blk t).view.read (Elt Ideal) X (ix2 r q)) (V_a m c)

theorem block4 (t : Fin cfg0.N) (r : Fin 512) (q : Fin 1024) : (iblk m c 4 t : Vec Ideal S512x1024 .f32) (ix2 r q) = b m c (ix2 (row t r) q) := by
  rw [← rows4 (b m c) t r q]
  unfold iblk
  exact congrArg (fun X => ((cfg0.win 4).blk t).view.read (Elt Ideal) X (ix2 r q)) (V_b m c)

theorem block5 (t : Fin cfg0.N) (r q : Fin 1024) : (iblk m c 5 t : Vec Ideal S1024x1024 .bf16) (ix2 r q) = wa m c (ix2 r q) := by
  rw [← whole5 (wa m c) t r q]
  unfold iblk
  exact congrArg (fun X => ((cfg0.win 5).blk t).view.read (Elt Ideal) X (ix2 r q)) (V_wa m c)

theorem block6 (t : Fin cfg0.N) (r q : Fin 1024) : (iblk m c 6 t : Vec Ideal S1024x1024 .bf16) (ix2 r q) = wo m c (ix2 r q) := by
  rw [← whole6 (wo m c) t r q]
  unfold iblk
  exact congrArg (fun X => ((cfg0.win 6).blk t).view.read (Elt Ideal) X (ix2 r q)) (V_wo m c)

theorem block7 (t : Fin cfg0.N) (g : Fin 4) (r q : Fin 256) : (iblk m c 7 t : Vec Ideal S4x256x256 .bf16) (ix3 g r q) = wpool m c (ix3 g r q) := by
  rw [← whole7 (wpool m c) t g r q]
  unfold iblk
  exact congrArg (fun X => ((cfg0.win 7).blk t).view.read (Elt Ideal) X (ix3 g r q)) (V_wp m c)

theorem block8 (t : Fin cfg0.N) (r : Fin 1) (q : Fin 1024) : (iblk m c 8 t : Vec Ideal S1x1024 .f32) (ix2 r q) = ps m c (ix2 r q) := by
  rw [← whole8 (ps m c) t r q]
  unfold iblk
  exact congrArg (fun X => ((cfg0.win 8).blk t).view.read (Elt Ideal) X (ix2 r q)) (V_main_arg7 m c)

end Cert.MixIdeal.Entry

end
-- ==== Proof.Mix.Reference.lean ====
/- The merge's reference read at an index: every result is the gradient of Math.lean. -/
module

public import proofs.«01_k».proof.Proof.Mix.Math
public import proofs.«01_k».proof.Proof.Gen.MixRefIdeal.Read
public import Idealize.ShloMosaic.Lib.Pipeline.Value
public import Idealize.ShloMosaic.Lib.Pointwise.SelectCore

@[expose] public section

set_option maxRecDepth 16384

noncomputable section

namespace Cert.MixRefIdeal.Merge

open Cert.MixRefIdeal Cert.MixRefIdeal.Read Cert.Merge
open Idealize.ShloMosaic hiding ix1 ix2 ix3 eq_ix1 eq_ix2 eq_ix3
open Idealize.ShloMosaic.ValueIdx
open scoped BigOperators

variable (x0 : Vec Ideal S4096x1024 .f32) (x1 : Vec Ideal S7x4096x1024 .f32) (x2 : Vec Ideal S4096x1024 .f32)
  (x3 : Vec Ideal S4096x4x256 .f32) (x4 x5 : Vec Ideal S1024x1024 .f32) (x6 : Vec Ideal S4x256x256 .f32)
  (x7 : Vec Ideal S1x1024 .f32)

theorem merged (p : Fin 4096) (q : Fin 1024) : val_main_v32 x0 x5 (ix2 p q) = dMerged x0 x5 p q := by
  rw [val_main_v32_apply]
  refine Finset.sum_congr rfl fun k _ => ?_
  rw [show lidx_main_v32 (ix2 p q) k = ix2 p k from eq_ix2 _, show ridx_main_v32 (ix2 p q) k = ix2 q k from eq_ix2 _]

/-- The first gate's input. -/
theorem input_a (p : Fin 4096) (q : Fin 1024) : val_main_v5 x1 (ix2 p q) = x1 (ix3 (5 : Fin 7) p q) := by
  rw [val_main_v5_apply, val_main_v4_apply]
  refine congrArg x1 ?_
  rw [eq_ix3 (idx_main_v4 _)]
  have hp := p.isLt
  have hq := q.isLt
  congr 1
  · refine Fin.ext ?_; show (p.val * 1024 + q.val) / 1024 % 4096 = p.val; omega
  · refine Fin.ext ?_; show (p.val * 1024 + q.val) % 1024 = q.val; omega

theorem input_b (p : Fin 4096) (q : Fin 1024) : val_main_v7 x1 (ix2 p q) = x1 (ix3 (6 : Fin 7) p q) := by
  rw [val_main_v7_apply, val_main_v6_apply]
  refine congrArg x1 ?_
  rw [eq_ix3 (idx_main_v6 _)]
  have hp := p.isLt
  have hq := q.isLt
  congr 1
  · refine Fin.ext ?_; show (p.val * 1024 + q.val) / 1024 % 4096 = p.val; omega
  · refine Fin.ext ?_; show (p.val * 1024 + q.val) % 1024 = q.val; omega

/-- The gates the reference writes out are the logistic function. -/
theorem gate_a (p : Fin 4096) (q : Fin 1024) : val_main_v15 x1 (ix2 p q) = gateA x1 p q := by
  rw [val_main_v15_apply, val_main_v14_apply, val_main_v13_apply, val_main_v12_apply, val_main_v11_apply, val_main_v10_apply,
    input_a, val_main_cst_apply, val_main_cst_0_apply]
  show Ideal.div one (one + Ideal.exp (-x1 (ix3 (5 : Fin 7) p q))) = Ideal.logistic (x1 (ix3 (5 : Fin 7) p q))
  rw [one_eq]; rfl

theorem gate_b (p : Fin 4096) (q : Fin 1024) : val_main_v25 x1 (ix2 p q) = gateB x1 p q := by
  rw [val_main_v25_apply, val_main_v24_apply, val_main_v23_apply, val_main_v22_apply, val_main_v21_apply, val_main_v20_apply,
    input_b, val_main_cst_2_apply, val_main_cst_3_apply]
  show Ideal.div one (one + Ideal.exp (-x1 (ix3 (6 : Fin 7) p q))) = Ideal.logistic (x1 (ix3 (6 : Fin 7) p q))
  rw [one_eq]; rfl

/-- The scale, spread over the rows. -/
theorem scale_v8 (p : Fin 4096) (q : Fin 1024) : val_main_v8 x7 (ix2 p q) = x7 (ix2 (0 : Fin 1) q) := by
  rw [val_main_v8_apply]; exact congrArg x7 (eq_ix2 _)

theorem scale_v42 (p : Fin 4096) (q : Fin 1024) : val_main_v42 x7 (ix2 p q) = x7 (ix2 (0 : Fin 1) q) := by
  rw [val_main_v42_apply]; exact congrArg x7 (eq_ix2 _)

theorem branch_a (p : Fin 4096) (q : Fin 1024) : val_main_v36 x0 x1 x5 (ix2 p q) = dA x0 x1 x5 p q := by
  rw [val_main_v36_apply, gate_a, merged]
  exact mul_comm _ _

theorem scaled_b (p : Fin 4096) (q : Fin 1024) : val_main_v33 x0 x1 x5 (ix2 p q) = dBs x0 x1 x5 p q := by
  rw [val_main_v33_apply, gate_b, merged]
  exact mul_comm _ _

theorem branch_b (p : Fin 4096) (q : Fin 1024) : val_main_v43 x0 x1 x5 x7 (ix2 p q) = dBp x0 x1 x5 x7 p q := by
  rw [val_main_v43_apply, scaled_b, scale_v42]; rfl

/-- The first result. -/
theorem result_da (p : Fin 4096) (q : Fin 1024) : val_main_v52 x0 x1 x5 (ix2 p q) = dA x0 x1 x5 p q := by
  rw [val_main_v52_apply, branch_a]; rfl

/-- The second. -/
theorem result_dbp (p : Fin 4096) (q : Fin 1024) : val_main_v53 x0 x1 x5 x7 (ix2 p q) = dBp x0 x1 x5 x7 p q := by
  rw [val_main_v53_apply, branch_b]; rfl

/-- The third. -/
theorem result_dain (p : Fin 4096) (q : Fin 1024) : val_main_v44 x0 x1 x4 x5 (ix2 p q) = dAin x0 x1 x4 x5 p q := by
  rw [val_main_v44_apply]
  refine Finset.sum_congr rfl fun k _ => ?_
  rw [show lidx_main_v44 (ix2 p q) k = ix2 p k from eq_ix2 _, show ridx_main_v44 (ix2 p q) k = ix2 q k from eq_ix2 _, branch_a]

/-- The fourth. -/
theorem result_dpooled (p : Fin 4096) (q : Fin 1024) :
    val_main_v54 x0 x1 x5 x6 x7 (ix2 p q) = dPooled x0 x1 x5 x6 x7 p q := by
  rw [val_main_v54_apply, val_main_v48_apply, val_main_v47_apply]
  refine Finset.sum_congr rfl fun k _ => ?_
  rw [val_main_v46_apply, val_main_v45_apply]
  have hp := p.isLt
  have hq := q.isLt
  have hk := k.isLt
  refine congrArg₂ (· * ·) ?_ (congrArg x6 ?_)
  · refine (congrArg (val_main_v43 x0 x1 x5 x7) ((eq_ix2 _).trans (congrArg₂ ix2 (Fin.ext ?_) (Fin.ext ?_)))).trans
      (branch_b x0 x1 x5 x7 p (col (grp q) k))
    · show (((p.val * 1024 + q.val) / 1024 * 4 + (p.val * 1024 + q.val) / 256 % 4) * 256 + k.val) / 1024 = p.val
      omega
    · show (((p.val * 1024 + q.val) / 1024 * 4 + (p.val * 1024 + q.val) / 256 % 4) * 256 + k.val) % 1024 = q.val / 256 * 256 + k.val
      omega
  · rw [eq_ix3 (ridx_main_v47 _ _)]
    congr 1
    · refine Fin.ext ?_; show (p.val * 1024 + q.val) / 256 % 4 = q.val / 256; omega
    · refine Fin.ext ?_; show (p.val * 1024 + q.val) % 256 = q.val % 256; omega

/-- The two parts of the fifth. -/
theorem gate_grad_a (p : Fin 4096) (q : Fin 1024) :
    val_main_v38 x0 x1 x2 x4 x5 (ix2 p q) = dGateA x0 x1 (val_main_v0 x2 x4) x5 p q := by
  rw [val_main_v38_apply, val_main_v37_apply, val_main_v18_apply, val_main_v17_apply, val_main_v16_apply, val_main_cst_1_apply,
    merged, gate_a]
  exact (mul_assoc _ _ _).symm

theorem gate_grad_b (p : Fin 4096) (q : Fin 1024) :
    val_main_v35 x0 x1 x3 x5 x6 x7 (ix2 p q) = dGateB x0 x1 (val_main_v3 x3 x6) x5 x7 p q := by
  rw [val_main_v35_apply, val_main_v34_apply, val_main_v28_apply, val_main_v27_apply, val_main_v26_apply, val_main_cst_4_apply,
    merged, gate_b, val_main_v9_apply, scale_v8]
  exact (mul_assoc _ _ _).symm

/-- The fifth, its first part -/
theorem result_dg_a (p : Fin 4096) (q : Fin 1024) :
    val_main_v58 x0 x1 x2 x3 x4 x5 x6 x7 (ix3 (0 : Fin 2) p q) = dGateA x0 x1 (val_main_v0 x2 x4) x5 p q := by
  rw [val_main_v58_apply]
  show val_main_v57 x0 x1 x2 x3 x4 x5 x6 x7 (ix3 (0 : Fin 2) p q) = _
  unfold val_main_v57
  refine (concatenate_pair_apply_left (t := S2x4096x1024) (s₁ := S1x4096x1024) (s₂ := S1x4096x1024) (0 : Fin 3) _ _ _ (ix3 (0 : Fin 2) p q) rfl (ix3 (0 : Fin 1) p q) (fun b => match b with
    | ⟨0, _⟩ => rfl
    | ⟨1, _⟩ => rfl
    | ⟨2, _⟩ => rfl)).trans ?_
  rw [val_main_v55_apply, ← gate_grad_a]
  exact congrArg _ (eq_ix2 _)

/-- and its second. -/
theorem result_dg_b (p : Fin 4096) (q : Fin 1024) :
    val_main_v58 x0 x1 x2 x3 x4 x5 x6 x7 (ix3 (1 : Fin 2) p q) = dGateB x0 x1 (val_main_v3 x3 x6) x5 x7 p q := by
  rw [val_main_v58_apply]
  show val_main_v57 x0 x1 x2 x3 x4 x5 x6 x7 (ix3 (1 : Fin 2) p q) = _
  unfold val_main_v57
  refine (concatenate_pair_apply_right (t := S2x4096x1024) (s₁ := S1x4096x1024) (s₂ := S1x4096x1024) (0 : Fin 3) _ _ _ (ix3 (1 : Fin 2) p q) rfl rfl (ix3 (0 : Fin 1) p q) (fun b hb => match b with
    | ⟨0, _⟩ => absurd rfl hb
    | ⟨1, _⟩ => rfl
    | ⟨2, _⟩ => rfl) rfl).trans ?_
  rw [val_main_v56_apply, ← gate_grad_b]
  exact congrArg _ (eq_ix2 _)

/-- The sum over the rows. -/
theorem sum_scale (q : Fin 1024) :
    val_main_v41 x0 x1 x3 x5 x6 (ix2 (0 : Fin 1) q) = dScale x0 x1 (val_main_v3 x3 x6) x5 q := by
  rw [val_main_v41_apply, val_main_v40_apply, val_main_cst_5_apply]
  show Ideal.ofBits .f32 0x00000000#32 + _ = _
  rw [zero_word, zero_add]
  refine Finset.sum_congr rfl fun k _ => ?_
  rw [show idx_main_v40 (idx_main_v41 (ix2 (0 : Fin 1) q)) k = ix2 k q from (eq_ix2 _).trans (by
    congr 1; refine Fin.ext ?_; show 0 * 1024 + q.val = q.val; omega), val_main_v39_apply, scaled_b]
  exact mul_comm _ _

/-- The sixth: the sum in row 2, zeros in the others. -/
theorem result_vec (r : Fin 8) (q : Fin 1024) :
    val_main_v51 x0 x1 x3 x5 x6 (ix2 r q) = if r.val = 2 then dScale x0 x1 (val_main_v3 x3 x6) x5 q else 0 := by
  unfold val_main_v51
  refine (concatenate_cons_apply _ _ _ _ _ _ _).trans ?_
  by_cases h : r.val < 2
  · refine (concatenateAt_cons _ _ _ _ _ _ _ _).trans ((dif_pos h).trans ?_)
    rw [if_neg (by omega), val_main_v49_apply, val_main_cst_6_apply]
    exact zero_word
  · refine (concatenateAt_cons _ _ _ _ _ _ _ _).trans ((dif_neg h).trans ((concatenateAt_cons _ _ _ _ _ _ _ _).trans ?_))
    by_cases h' : r.val = 2
    · refine (dif_pos (show r.val - 2 < 1 by omega)).trans ?_
      rw [if_pos h', ← sum_scale]
      refine congrArg _ ((eq_ix2 _).trans (congrArg₂ ix2 (Fin.ext ?_) (Fin.ext rfl)))
      show r.val - 2 = 0
      omega
    · refine (dif_neg (show ¬ r.val - 2 < 1 by omega)).trans ((concatenateAt_singleton _ _ _ _ _ _).trans ?_)
      rw [if_neg h', val_main_v50_apply, val_main_cst_7_apply]
      exact zero_word

end Cert.MixRefIdeal.Merge

end
-- ==== Proof.Mix.Arrays.lean ====
/- The merge's backward call over the extended reals: the arrays it leaves, each the reference's value. The arrays that move
   with the rows are written once per grid point; the last is added into over all the points and written once. -/
module

public import proofs.«01_k».proof.Proof.Mix.Outs
public import proofs.«01_k».proof.Proof.Mix.At
public import proofs.«01_k».proof.Proof.Mix.Entry
public import proofs.«01_k».proof.Proof.Mix.Reference
public import proofs.«01_k».proof.Proof.Gen.MixIdeal.Value
public import Idealize.ShloMosaic.Lib.WritesUnit

@[expose] public section

set_option maxRecDepth 16384

noncomputable section

namespace Cert.MixIdeal.Merge

open Cert.MixIdeal Cert.MixIdeal.Gen Cert.MixIdeal.Block Cert.MixIdeal.Entry
open Idealize.ShloMosaic hiding ix1 ix2 ix3 eq_ix1 eq_ix2 eq_ix3
open Idealize.ShloMosaic.ValueIdx Idealize.ShloMosaic.TcCoe Idealize.SL.Sem
open Cert.MixRefIdeal.Read (val_main_v44 val_main_v51 val_main_v52 val_main_v53 val_main_v54 val_main_v58)
open scoped BigOperators

variable (m : (ℓ : Loc nD τ sig) → Buf (Elt Ideal) ℓ) (c : Dev nD)

/-- The merged value's gradient in a point's block. -/
theorem merged_at (t : Fin cfg0.N) (r : Fin 512) (q : Fin 1024) :
    k0_pay5 (F := Ideal) (iblk m c 0 t) (iblk m c 6 t) (ix2 r q) = Merge.dMerged (d m c) (wo m c) (row t r) q :=
  (pay5 _ _ r q).trans (Finset.sum_congr rfl fun k _ => congrArg₂ (· * ·) (block0 m c t r k) (block6 m c t q k))

theorem da_at (t : Fin cfg0.N) (r : Fin 512) (q : Fin 1024) :
    k0_pay9 (F := Ideal) (iblk m c 0 t) (iblk m c 6 t) (iblk m c 1 t) (ix2 r q) = Merge.dA (d m c) (proj m c) (wo m c) (row t r) q :=
  (pay9 _ _ _ r q).trans (congrArg₂ (· * ·) (merged_at m c t r q) (congrArg Ideal.logistic (block1 m c t r q)))

theorem dbs_at (t : Fin cfg0.N) (r : Fin 512) (q : Fin 1024) :
    k0_pay10 (F := Ideal) (iblk m c 0 t) (iblk m c 6 t) (iblk m c 2 t) (ix2 r q) = Merge.dBs (d m c) (proj m c) (wo m c) (row t r) q :=
  (pay10 _ _ _ r q).trans (congrArg₂ (· * ·) (merged_at m c t r q) (congrArg Ideal.logistic (block2 m c t r q)))

theorem dbp_at (t : Fin cfg0.N) (r : Fin 512) (q : Fin 1024) :
    k0_pay15 (F := Ideal) (iblk m c 8 t) (k0_pay10 (iblk m c 0 t) (iblk m c 6 t) (iblk m c 2 t)) (ix2 r q)
      = Merge.dBp (d m c) (proj m c) (wo m c) (ps m c) (row t r) q :=
  (pay15 _ _ _ _ r q).trans (congrArg₂ (· * ·) (dbs_at m c t r q) (block8 m c t 0 q))

theorem dain_at (t : Fin cfg0.N) (r : Fin 512) (q : Fin 1024) :
    k0_pay16 (F := Ideal) (k0_pay9 (iblk m c 0 t) (iblk m c 6 t) (iblk m c 1 t)) (iblk m c 5 t) (ix2 r q)
      = Merge.dAin (d m c) (proj m c) (wa m c) (wo m c) (row t r) q :=
  (pay16 _ _ r q).trans (Finset.sum_congr rfl fun k _ => congrArg₂ (· * ·) (da_at m c t r k) (block5 m c t q k))

theorem dpooled_at (t : Fin cfg0.N) (r : Fin 512) (q : Fin 1024) :
    dplBlock (F := Ideal) (iblk m c 0 t) (iblk m c 2 t) (iblk m c 6 t) (iblk m c 7 t) (iblk m c 8 t) (ix2 r q)
      = Merge.dPooled (d m c) (proj m c) (wo m c) (wpool m c) (ps m c) (row t r) q :=
  (dpl_at _ _ _ _ _ (ix2 r q)).trans (Finset.sum_congr rfl fun k _ =>
    congrArg₂ (· * ·) (dbp_at m c t r (Merge.col (Merge.grp q) k)) (block7 m c t (Merge.grp q) (Merge.place q) k))

theorem dga_at (t : Fin cfg0.N) (r : Fin 512) (q : Fin 1024) :
    dgBlock (F := Ideal) (iblk m c 0 t) (iblk m c 1 t) (iblk m c 2 t) (iblk m c 3 t) (iblk m c 4 t) (iblk m c 6 t) (iblk m c 8 t) (ix3 (0 : Fin 2) r q)
      = Merge.dGateA (d m c) (proj m c) (a m c) (wo m c) (row t r) q := by
  rw [dg_first, pay11]
  have hg : Ideal.logistic ((iblk m c 1 t : Vec Ideal S1x512x1024 .f32) (ix3 (0 : Fin 1) r q)) = Merge.gateA (proj m c) (row t r) q :=
    congrArg Ideal.logistic (block1 m c t r q)
  exact congrArg₂ (· * ·) (congrArg₂ (· * ·) (congrArg₂ (· * ·) (merged_at m c t r q) (block3 m c t r q)) hg) (congrArg (fun z => Block.one - z) hg)

theorem dgb_at (t : Fin cfg0.N) (r : Fin 512) (q : Fin 1024) :
    dgBlock (F := Ideal) (iblk m c 0 t) (iblk m c 1 t) (iblk m c 2 t) (iblk m c 3 t) (iblk m c 4 t) (iblk m c 6 t) (iblk m c 8 t) (ix3 (1 : Fin 2) r q)
      = Merge.dGateB (d m c) (proj m c) (b m c) (wo m c) (ps m c) (row t r) q := by
  rw [dg_second, pay13]
  have hg : Ideal.logistic ((iblk m c 2 t : Vec Ideal S1x512x1024 .f32) (ix3 (0 : Fin 1) r q)) = Merge.gateB (proj m c) (row t r) q :=
    congrArg Ideal.logistic (block2 m c t r q)
  exact congrArg₂ (· * ·) (congrArg₂ (· * ·) (congrArg₂ (· * ·) (merged_at m c t r q)
    (congrArg₂ (· * ·) (block4 m c t r q) (block8 m c t 0 q))) hg) (congrArg (fun z => Block.one - z) hg)

/-- The point whose block holds row `p`, and the row's place in it. -/
def pt (p : Fin 4096) : Fin cfg0.N := ⟨p.val / 512, by have := p.isLt; rw [show cfg0.N = 8 from N_0]; omega⟩

/-- Result window 10 at the end. -/
theorem final10 : (dats m 0 c).arrAt 10 cfg0.N = val_main_v52 (d m c) (proj m c) (wo m c) := by
  refine (dats m 0 c).arrAt_eq_of_cover 10 _ (fun t _ => ?_) (fun i => ?_)
  · rw [Value.flushed10, left10]
    funext j
    obtain ⟨r, q, rfl⟩ : ∃ (r : Fin 512) (q : Fin 1024), j = ix2 r q := ⟨j 0, j 1, eq_ix2 j⟩
    exact (da_at m c t r q).trans ((MixRefIdeal.Merge.result_da _ _ _ (row t r) q).symm.trans (rows10 _ t r q).symm)
  · have h0 : (i 0 : Nat) < 4096 := (i 0).isLt
    have h1 : (i 1 : Nat) < 1024 := (i 1).isLt
    refine ⟨pt (i 0), flush0_10 _, ?_⟩
    have hi : win0_10.index (pt (i 0)) 0 = (pt (i 0)).val ∧ win0_10.index (pt (i 0)) 1 = 0 := by
      rcases fin_N0 (pt (i 0)) with h | h | h | h | h | h | h | h <;> rw [h] <;> decide
    have hp : (pt (i 0)).val = (i 0).val / 512 := rfl
    show i ∈ ((View.whole main_v8_0).slice (win0_10.rect (pt (i 0)))).set
    rw [View.set_slice_whole, Rect.mem_set_unit]
    intro ax
    match ax with
    | ⟨0, _⟩ => show win0_10.index (pt (i 0)) 0 * 512 ≤ (i 0 : Nat) ∧ (i 0 : Nat) < win0_10.index (pt (i 0)) 0 * 512 + 512
                rw [hi.1, hp]; omega
    | ⟨1, _⟩ => show win0_10.index (pt (i 0)) 1 * 1024 ≤ (i 1 : Nat) ∧ (i 1 : Nat) < win0_10.index (pt (i 0)) 1 * 1024 + 1024
                rw [hi.2]; omega

/-- Result window 11 at the end. -/
theorem final11 : (dats m 0 c).arrAt 11 cfg0.N = val_main_v53 (d m c) (proj m c) (wo m c) (ps m c) := by
  refine (dats m 0 c).arrAt_eq_of_cover 11 _ (fun t _ => ?_) (fun i => ?_)
  · rw [Value.flushed11, left11]
    funext j
    obtain ⟨r, q, rfl⟩ : ∃ (r : Fin 512) (q : Fin 1024), j = ix2 r q := ⟨j 0, j 1, eq_ix2 j⟩
    exact (dbp_at m c t r q).trans ((MixRefIdeal.Merge.result_dbp _ _ _ _ (row t r) q).symm.trans (rows11 _ t r q).symm)
  · have h0 : (i 0 : Nat) < 4096 := (i 0).isLt
    have h1 : (i 1 : Nat) < 1024 := (i 1).isLt
    refine ⟨pt (i 0), flush0_11 _, ?_⟩
    have hi : win0_11.index (pt (i 0)) 0 = (pt (i 0)).val ∧ win0_11.index (pt (i 0)) 1 = 0 := by
      rcases fin_N0 (pt (i 0)) with h | h | h | h | h | h | h | h <;> rw [h] <;> decide
    have hp : (pt (i 0)).val = (i 0).val / 512 := rfl
    show i ∈ ((View.whole main_v8_1).slice (win0_11.rect (pt (i 0)))).set
    rw [View.set_slice_whole, Rect.mem_set_unit]
    intro ax
    match ax with
    | ⟨0, _⟩ => show win0_11.index (pt (i 0)) 0 * 512 ≤ (i 0 : Nat) ∧ (i 0 : Nat) < win0_11.index (pt (i 0)) 0 * 512 + 512
                rw [hi.1, hp]; omega
    | ⟨1, _⟩ => show win0_11.index (pt (i 0)) 1 * 1024 ≤ (i 1 : Nat) ∧ (i 1 : Nat) < win0_11.index (pt (i 0)) 1 * 1024 + 1024
                rw [hi.2]; omega

/-- Result window 12 at the end. -/
theorem final12 : (dats m 0 c).arrAt 12 cfg0.N = val_main_v44 (d m c) (proj m c) (wa m c) (wo m c) := by
  refine (dats m 0 c).arrAt_eq_of_cover 12 _ (fun t _ => ?_) (fun i => ?_)
  · rw [Value.flushed12, left12]
    funext j
    obtain ⟨r, q, rfl⟩ : ∃ (r : Fin 512) (q : Fin 1024), j = ix2 r q := ⟨j 0, j 1, eq_ix2 j⟩
    exact (dain_at m c t r q).trans ((MixRefIdeal.Merge.result_dain _ _ _ _ (row t r) q).symm.trans (rows12 _ t r q).symm)
  · have h0 : (i 0 : Nat) < 4096 := (i 0).isLt
    have h1 : (i 1 : Nat) < 1024 := (i 1).isLt
    refine ⟨pt (i 0), flush0_12 _, ?_⟩
    have hi : win0_12.index (pt (i 0)) 0 = (pt (i 0)).val ∧ win0_12.index (pt (i 0)) 1 = 0 := by
      rcases fin_N0 (pt (i 0)) with h | h | h | h | h | h | h | h <;> rw [h] <;> decide
    have hp : (pt (i 0)).val = (i 0).val / 512 := rfl
    show i ∈ ((View.whole main_v8_2).slice (win0_12.rect (pt (i 0)))).set
    rw [View.set_slice_whole, Rect.mem_set_unit]
    intro ax
    match ax with
    | ⟨0, _⟩ => show win0_12.index (pt (i 0)) 0 * 512 ≤ (i 0 : Nat) ∧ (i 0 : Nat) < win0_12.index (pt (i 0)) 0 * 512 + 512
                rw [hi.1, hp]; omega
    | ⟨1, _⟩ => show win0_12.index (pt (i 0)) 1 * 1024 ≤ (i 1 : Nat) ∧ (i 1 : Nat) < win0_12.index (pt (i 0)) 1 * 1024 + 1024
                rw [hi.2]; omega

/-- Result window 13 at the end. -/
theorem final13 : (dats m 0 c).arrAt 13 cfg0.N = val_main_v54 (d m c) (proj m c) (wo m c) (wpool m c) (ps m c) := by
  refine (dats m 0 c).arrAt_eq_of_cover 13 _ (fun t _ => ?_) (fun i => ?_)
  · rw [Value.flushed13, left13]
    funext j
    obtain ⟨r, q, rfl⟩ : ∃ (r : Fin 512) (q : Fin 1024), j = ix2 r q := ⟨j 0, j 1, eq_ix2 j⟩
    exact (dpooled_at m c t r q).trans ((MixRefIdeal.Merge.result_dpooled _ _ _ _ _ (row t r) q).symm.trans (rows13 _ t r q).symm)
  · have h0 : (i 0 : Nat) < 4096 := (i 0).isLt
    have h1 : (i 1 : Nat) < 1024 := (i 1).isLt
    refine ⟨pt (i 0), flush0_13 _, ?_⟩
    have hi : win0_13.index (pt (i 0)) 0 = (pt (i 0)).val ∧ win0_13.index (pt (i 0)) 1 = 0 := by
      rcases fin_N0 (pt (i 0)) with h | h | h | h | h | h | h | h <;> rw [h] <;> decide
    have hp : (pt (i 0)).val = (i 0).val / 512 := rfl
    show i ∈ ((View.whole main_v8_3).slice (win0_13.rect (pt (i 0)))).set
    rw [View.set_slice_whole, Rect.mem_set_unit]
    intro ax
    match ax with
    | ⟨0, _⟩ => show win0_13.index (pt (i 0)) 0 * 512 ≤ (i 0 : Nat) ∧ (i 0 : Nat) < win0_13.index (pt (i 0)) 0 * 512 + 512
                rw [hi.1, hp]; omega
    | ⟨1, _⟩ => show win0_13.index (pt (i 0)) 1 * 1024 ≤ (i 1 : Nat) ∧ (i 1 : Nat) < win0_13.index (pt (i 0)) 1 * 1024 + 1024
                rw [hi.2]; omega

/-- Result window 14 at the end. -/
theorem final14 : (dats m 0 c).arrAt 14 cfg0.N
    = val_main_v58 (d m c) (proj m c) (m ((c : Thread nD τ).loc main_arg2)) (m ((c : Thread nD τ).loc main_arg3)) (wa m c) (wo m c) (wpool m c) (ps m c) := by
  refine (dats m 0 c).arrAt_eq_of_cover 14 _ (fun t _ => ?_) (fun i => ?_)
  · rw [Value.flushed14, left14]
    funext j
    obtain ⟨g, r, q, rfl⟩ : ∃ (g : Fin 2) (r : Fin 512) (q : Fin 1024), j = ix3 g r q := ⟨j 0, j 1, j 2, eq_ix3 j⟩
    refine Eq.trans ?_ (gates14 _ t g r q).symm
    match g with
    | ⟨0, _⟩ => exact (dga_at m c t r q).trans (MixRefIdeal.Merge.result_dg_a _ _ _ _ _ _ _ _ (row t r) q).symm
    | ⟨1, _⟩ => exact (dgb_at m c t r q).trans (MixRefIdeal.Merge.result_dg_b _ _ _ _ _ _ _ _ (row t r) q).symm
  · have h0 : (i 0 : Nat) < 2 := (i 0).isLt
    have h1 : (i 1 : Nat) < 4096 := (i 1).isLt
    have h2 : (i 2 : Nat) < 1024 := (i 2).isLt
    refine ⟨pt (i 1), flush0_14 _, ?_⟩
    have hi : win0_14.index (pt (i 1)) 0 = 0 ∧ win0_14.index (pt (i 1)) 1 = (pt (i 1)).val ∧ win0_14.index (pt (i 1)) 2 = 0 := by
      rcases fin_N0 (pt (i 1)) with h | h | h | h | h | h | h | h <;> rw [h] <;> decide
    have hp : (pt (i 1)).val = (i 1).val / 512 := rfl
    show i ∈ ((View.whole main_v8_4).slice (win0_14.rect (pt (i 1)))).set
    rw [View.set_slice_whole, Rect.mem_set_unit]
    intro ax
    match ax with
    | ⟨0, _⟩ => show win0_14.index (pt (i 1)) 0 * 2 ≤ (i 0 : Nat) ∧ (i 0 : Nat) < win0_14.index (pt (i 1)) 0 * 2 + 2
                rw [hi.1]; omega
    | ⟨1, _⟩ => show win0_14.index (pt (i 1)) 1 * 512 ≤ (i 1 : Nat) ∧ (i 1 : Nat) < win0_14.index (pt (i 1)) 1 * 512 + 512
                rw [hi.2.1, hp]; omega
    | ⟨2, _⟩ => show win0_14.index (pt (i 1)) 2 * 1024 ≤ (i 2 : Nat) ∧ (i 2 : Nat) < win0_14.index (pt (i 1)) 2 * 1024 + 1024
                rw [hi.2.2]; omega

/-- What point `n` adds to column `q` of the pooling scale's gradient. -/
def part (q : Fin 1024) (n : Nat) : EReal :=
  if h : n < cfg0.N then ∑ p : Fin 512, Merge.dBs (d m c) (proj m c) (wo m c) (row ⟨n, h⟩ p) q * b m c (ix2 (row ⟨n, h⟩ p) q) else 0

theorem part_at (t : Fin cfg0.N) (q : Fin 1024) :
    ∑ p : Fin 512, k0_pay10 (F := Ideal) (iblk m c 0 t) (iblk m c 6 t) (iblk m c 2 t) (ix2 p q) * (iblk m c 4 t : Vec Ideal S512x1024 .f32) (ix2 p q)
      = part m c q t.val := by
  rw [part, dif_pos t.isLt]
  exact Finset.sum_congr rfl fun p _ => congrArg₂ (· * ·) (dbs_at m c t p q) (block4 m c t p q)

/-- What the points up to `n` have added. -/
def soFar (n : Nat) : Vec Ideal S8x1024 .f32 := fun i => if (i 0).val = 2 then ∑ x ∈ Finset.range (n + 1), part m c (i 1) x else 0

/-- Row 2 and the other rows. -/
theorem row_two (r : Fin 8) (q : Fin 1024) (h : r.val = 2) : (ix2 r q : S8x1024.Idx) = ix2 (2 : Fin 8) q := congrArg (ix2 · q) (Fin.ext h)

theorem first_point (t : Fin cfg0.N) (h : t.val % 8 = 0) : (outsAt0 m c t.val t.isLt).2.2.2.2.2 = soFar m c 0 := by
  have ht : t.val = 0 := by have := lt_of_lt_of_eq t.isLt N_0; omega
  rw [outsAt0_A m c t h]
  dsimp only
  rw [out_A_15]
  funext i
  obtain ⟨r, q, rfl⟩ : ∃ (r : Fin 8) (q : Fin 1024), i = ix2 r q := ⟨i 0, i 1, eq_ix2 i⟩
  show _ = if r.val = 2 then ∑ x ∈ Finset.range 1, part m c q x else 0
  by_cases hr : r.val = 2
  · rw [if_pos hr, row_two r q hr, Finset.sum_range_one]
    refine Eq.trans (congrArg _ ?_) ((View.canon_cons_emb (Val := Elt Ideal) (Rect.unit (s := S8x1024) ![2, 0] S1x1024.size inb_S8x1024_S1x1024_2_0) _ _ (ix2 (0 : Fin 1) q)).trans ?_)
    · refine funext fun ax => Fin.ext ?_
      match ax with
      | ⟨0, _⟩ => rfl
      | ⟨1, _⟩ => show q.val = 0 + 1 * q.val; omega
    · rw [step_at, part_at, ht]
      exact (congrArg (· + _) Block.zero_word).trans (zero_add _)
  · rw [if_neg hr, View.canon_cons_of_not_mem, View.canon_cons_unit_zero (S := S8x1024) hz2]
    · exact Block.zero_word
    · intro hm
      rw [Rect.mem_set_unit] at hm
      have h2 : 2 ≤ r.val ∧ r.val < 2 + 1 := hm 0
      omega

theorem later_point (t : Fin cfg0.N) (h : ¬t.val % 8 = 0)
    (ih : (outsAt0 m c (t.val - 1) (Nat.lt_of_le_of_lt (Nat.sub_le _ _) t.isLt)).2.2.2.2.2 = soFar m c (t.val - 1)) :
    (outsAt0 m c t.val t.isLt).2.2.2.2.2 = soFar m c t.val := by
  rw [outsAt0_B m c t h]
  dsimp only
  rw [out_B_15, ih]
  funext i
  obtain ⟨r, q, rfl⟩ : ∃ (r : Fin 8) (q : Fin 1024), i = ix2 r q := ⟨i 0, i 1, eq_ix2 i⟩
  show _ = if r.val = 2 then ∑ x ∈ Finset.range (t.val + 1), part m c q x else 0
  by_cases hr : r.val = 2
  · rw [if_pos hr, Finset.sum_range_succ]
    refine (View.read_writes_cons_rows_of_mem (o := 2) _ _ inb_S8x1024_S1x1024_2_0 _ _ (ix2 r q) (ix2 (0 : Fin 1) q) rfl (by show r.val = 2 + 0; omega) rfl).trans ?_
    rw [step_at, part_at]
    refine congrArg (· + _) ?_
    show (if (2 : Nat) = 2 then ∑ x ∈ Finset.range (t.val - 1 + 1), part m c q x else 0) = _
    rw [if_pos rfl, show t.val - 1 + 1 = t.val from by omega]
  · rw [if_neg hr]
    refine (View.read_writes_cons_rows_of_not_mem (o := 2) (W := 1) _ _ inb_S8x1024_S1x1024_2_0 _ _ (ix2 r q) rfl rfl (by show r.val < 2 ∨ 2 + 1 ≤ r.val; omega)).trans ?_
    rw [View.writes_nil, Memref.IsWhole.read_unread]
    exact if_neg hr

theorem after_point : ∀ (n : Nat) (hn : n < cfg0.N), (outsAt0 m c n hn).2.2.2.2.2 = soFar m c n
  | 0, hn => first_point m c ⟨0, hn⟩ rfl
  | n + 1, hn => later_point m c ⟨n + 1, hn⟩ (by have := lt_of_lt_of_eq hn N_0; show ¬(n + 1) % 8 = 0; omega)
      (after_point n (Nat.lt_of_succ_lt hn))

/-- All eight points' parts are the sum over all the rows. -/
theorem all_parts (q : Fin 1024) : ∑ x ∈ Finset.range 8, part m c q x = Merge.dScale (d m c) (proj m c) (b m c) (wo m c) q := by
  rw [Finset.sum_range]
  unfold Merge.dScale
  rw [← Fintype.sum_equiv (finProdFinEquiv (m := 8) (n := 512))
    (fun x => Merge.dBs (d m c) (proj m c) (wo m c) (row ⟨x.1.val, by rw [show cfg0.N = 8 from N_0]; exact x.1.isLt⟩ x.2) q
      * b m c (ix2 (row ⟨x.1.val, by rw [show cfg0.N = 8 from N_0]; exact x.1.isLt⟩ x.2) q)) _ ?_]
  · rw [Fintype.sum_prod_type]
    refine Finset.sum_congr rfl fun n _ => ?_
    rw [part, dif_pos (by rw [show cfg0.N = 8 from N_0]; exact n.isLt)]
  · intro x
    have e : row ⟨x.1.val, by rw [show cfg0.N = 8 from N_0]; exact x.1.isLt⟩ x.2 = (finProdFinEquiv (m := 8) (n := 512)) x :=
      Fin.ext (Nat.add_comm _ _)
    rw [e]

/-- Result window 15 at the end. -/
theorem final15 : (dats m 0 c).arrAt 15 cfg0.N
    = val_main_v51 (d m c) (proj m c) (m ((c : Thread nD τ).loc main_arg3)) (wo m c) (wpool m c) := by
  refine (dats m 0 c).arrAt_eq_of_cover 15 _ (fun t hf => ?_) (fun i => ⟨t0_7, (flush0_15 t0_7).mpr rfl, ?_⟩)
  · have h7 : t.val = 7 := by have := (flush0_15 t).mp hf; have := lt_of_lt_of_eq t.isLt N_0; omega
    rw [Value.flushed15, after_point]
    funext j
    obtain ⟨r, q, rfl⟩ : ∃ (r : Fin 8) (q : Fin 1024), j = ix2 r q := ⟨j 0, j 1, eq_ix2 j⟩
    refine Eq.trans ?_ ((MixRefIdeal.Merge.result_vec _ _ _ _ _ r q).symm.trans (whole15 _ t r q).symm)
    show (if r.val = 2 then ∑ x ∈ Finset.range (t.val + 1), part m c q x else 0) = _
    rw [h7, all_parts]
  · have h0 : (i 0 : Nat) < 8 := (i 0).isLt
    have h1 : (i 1 : Nat) < 1024 := (i 1).isLt
    have hi : win0_15.index t0_7 0 = 0 ∧ win0_15.index t0_7 1 = 0 := by decide
    show i ∈ ((View.whole main_v8_5).slice (win0_15.rect t0_7)).set
    rw [View.set_slice_whole, Rect.mem_set_unit]
    intro ax
    match ax with
    | ⟨0, _⟩ => show win0_15.index t0_7 0 * 8 ≤ (i 0 : Nat) ∧ (i 0 : Nat) < win0_15.index t0_7 0 * 8 + 8
                rw [hi.1]; omega
    | ⟨1, _⟩ => show win0_15.index t0_7 1 * 1024 ≤ (i 1 : Nat) ∧ (i 1 : Nat) < win0_15.index t0_7 1 * 1024 + 1024
                rw [hi.2]; omega

end Cert.MixIdeal.Merge

end
-- ==== Proof.Mix.Claim.lean ====
/- The claims about the merge's backward call: both programs run, and the call's idealization ends with the arrays the
   reference's ends with. -/
module

public import proofs.«01_k».proof.Defs
public import proofs.«01_k».proof.Proof.Mix.Arrays
public import proofs.«01_k».proof.Proof.Gen.Mix.Frame
public import proofs.«01_k».proof.Proof.Gen.MixRefIdeal.Run
public import Idealize.ShloMosaic.Lib.Quiescent

@[expose] public section

set_option maxRecDepth 16384

noncomputable section

namespace Cert.MixClaim

open Idealize.ShloMosaic Idealize.ShloMosaic.TcCoe Idealize.SL.Sem
open Cert.MixIdeal.Gen (dats)

theorem frame_program : Cert.quiescent_Mix := fun m ρ _ => Cert.Mix.Gen.frame m ρ

theorem frame_ideal : Cert.quiescent_MixIdeal := fun m ρ _ => Cert.MixIdeal.Gen.frame m ρ

/-- The reference's run leaves its arguments alone, and it has no semaphore. -/
theorem frame_reference : Cert.quiescent_MixRefIdeal := fun m ρ _ =>
  (θ_run Cert.MixRefIdeal.defs _ _).mono
    (fun r h => ⟨fun c => (h c).2.2.2.2.2.2, sem_eq_zero_of_no_sems rfl r.2⟩) (Cert.MixRefIdeal.Value.run m ρ)

/-- Result by result. -/
theorem equal : Cert.algebraic_MixIdeal_MixRefIdeal := by
  intro m g m' g' _ hargs
  refine ⟨fun c => (dats m 0 c).arrAt 10 Cert.MixIdeal.cfg0.N, fun c => (dats m 0 c).arrAt 11 Cert.MixIdeal.cfg0.N, fun c => (dats m 0 c).arrAt 12 Cert.MixIdeal.cfg0.N, fun c => (dats m 0 c).arrAt 13 Cert.MixIdeal.cfg0.N, fun c => (dats m 0 c).arrAt 14 Cert.MixIdeal.cfg0.N, fun c => (dats m 0 c).arrAt 15 Cert.MixIdeal.cfg0.N,
    (θ_run Cert.MixIdeal.defs _ _).mono (fun _ h => h) (Cert.MixIdeal.Value.run_blocks m g),
    (θ_run Cert.MixRefIdeal.defs _ _).mono (fun r h c => ?_) (Cert.MixRefIdeal.Value.run m' g')⟩
  obtain ⟨a0, a1, a2, a3, a4, a5, a6, a7, a8⟩ := hargs c
  obtain ⟨h0, h1, h2, h3, h4, h5, hargs'⟩ := h c
  refine ⟨h0.trans ?_, h1.trans ?_, h2.trans ?_, h3.trans ?_, h4.trans ?_, h5.trans ?_, hargs'⟩
  · refine (Cert.MixRefIdeal.Read.val_main_v52_eq _ _ _).trans ?_
    rw [a0, a1, a5]
    exact (Cert.MixIdeal.Merge.final10 m c).symm
  · refine (Cert.MixRefIdeal.Read.val_main_v53_eq _ _ _ _).trans ?_
    rw [a0, a1, a5, a7]
    exact (Cert.MixIdeal.Merge.final11 m c).symm
  · refine (Cert.MixRefIdeal.Read.val_main_v44_eq _ _ _ _).trans ?_
    rw [a0, a1, a4, a5]
    exact (Cert.MixIdeal.Merge.final12 m c).symm
  · refine (Cert.MixRefIdeal.Read.val_main_v54_eq _ _ _ _ _).trans ?_
    rw [a0, a1, a5, a6, a7]
    exact (Cert.MixIdeal.Merge.final13 m c).symm
  · refine (Cert.MixRefIdeal.Read.val_main_v58_eq _ _ _ _ _ _ _ _).trans ?_
    rw [a0, a1, a2, a3, a4, a5, a6, a7]
    exact (Cert.MixIdeal.Merge.final14 m c).symm
  · refine (Cert.MixRefIdeal.Read.val_main_v51_eq _ _ _ _ _).trans ?_
    rw [a0, a1, a3, a5, a6]
    exact (Cert.MixIdeal.Merge.final15 m c).symm

end Cert.MixClaim

end
-- ==== Proof.Mlp.Blocks.lean ====
/- What the MLP's backward kernel leaves in each result's buffer at one grid point, as a term over the point's blocks: the
   first point (case A) and the later ones (case B), which differ only in the buffer that is added into. -/
module

public import proofs.«01_k».proof.Proof.Gen.MlpIdeal.Frame
public import Idealize.ShloMosaic.Lib.Pipeline.Value

@[expose] public section

set_option maxRecDepth 16384

noncomputable section

namespace Cert.MlpIdeal.Block

open Cert.MlpIdeal Cert.MlpIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- A quarter of the hidden columns, read out of a block of all of them. -/
abbrev hid (x2 : Vec F S256x4096 .f32) (n : Nat) (inb : ∀ a, (![0, n] : Fin 2 → Nat) a + S256x1024.size a ≤ S256x4096.size a) :
    Vec F S256x1024 .f32 := View.ld x2 (Rect.unit (s := S256x4096) ![0, n] S256x1024.size inb)

/-- A quarter of the first weight's columns. -/
abbrev upw (x3 : Vec F S1024x4096 .bf16) (n : Nat) (inb : ∀ a, (![0, n] : Fin 2 → Nat) a + S1024x1024.size a ≤ S1024x4096.size a) :
    Vec F S1024x1024 .bf16 := View.ld x3 (Rect.unit (s := S1024x4096) ![0, n] S1024x1024.size inb)

/-- A quarter of the second weight's rows. -/
abbrev dnw (x4 : Vec F S4096x1024 .bf16) (n : Nat) (inb : ∀ a, (![n, 0] : Fin 2 → Nat) a + S1024x1024.size a ≤ S4096x1024.size a) :
    Vec F S1024x1024 .bf16 := View.ld x4 (Rect.unit (s := S4096x1024) ![n, 0] S1024x1024.size inb)

/-- The constant two. -/
abbrev two : F .f32 := Scalar.ofBits .f32 0x40000000#32

/-- The products with the second weight's later quarters, before and after the square's derivative. -/
def dh1 (x0 : Vec F S256x1024 .bf16) (x4 : Vec F S4096x1024 .bf16) : Vec F S256x1024 .f32 :=
  k0_pay7 x0 (dnw x4 1024 inb_S4096x1024_S1024x1024_1024_0)
def dh3 (x0 : Vec F S256x1024 .bf16) (x4 : Vec F S4096x1024 .bf16) : Vec F S256x1024 .f32 :=
  k0_pay12 (k0_pay4 x0) (dnw x4 3072 inb_S4096x1024_S1024x1024_3072_0)
def sl3 (x2 : Vec F S256x4096 .f32) : Vec F S256x1024 .f32 := k0_pay13 (hid x2 3072 inb_S256x4096_S256x1024_0_3072)

/-- The hidden gradient: four column blocks. -/
def dhpBlock (x0 : Vec F S256x1024 .bf16) (x2 : Vec F S256x4096 .f32) (x4 : Vec F S4096x1024 .bf16) : Vec F S256x4096 .bf16 :=
  View.canon [⟨Rect.unit ![0, 3072] S256x1024.size inb_S256x4096_S256x1024_0_3072, k0_pay14 (dh3 x0 x4) (sl3 x2)⟩,
    ⟨Rect.unit ![0, 2048] S256x1024.size inb_S256x4096_S256x1024_0_2048, k0_pay10 (k0_pay4 x0) (dnw x4 2048 inb_S4096x1024_S1024x1024_2048_0) (hid x2 2048 inb_S256x4096_S256x1024_0_2048)⟩,
    ⟨Rect.unit ![0, 1024] S256x1024.size inb_S256x4096_S256x1024_0_1024, k0_pay9 (dh1 x0 x4) (k0_pay8 (hid x2 1024 inb_S256x4096_S256x1024_0_1024)) two⟩,
    ⟨Rect.unit ![0, 0] S256x1024.size inb_S256x4096_S256x1024_0_0, k0_pay5 x0 (dnw x4 0 inb_S4096x1024_S1024x1024_0_0) (hid x2 0 inb_S256x4096_S256x1024_0_0)⟩]

/-- The gradient before the norm, three of its four parts summed. -/
def part3 (x0 : Vec F S256x1024 .bf16) (x1 : Vec F S256x1024 .f32) (x2 : Vec F S256x4096 .f32) (x3 : Vec F S1024x4096 .bf16)
    (x4 : Vec F S4096x1024 .bf16) : Vec F S256x1024 .f32 :=
  k0_pay11 (k0_pay4 x0) (k0_pay6 x0 x1 (dnw x4 0 inb_S4096x1024_S1024x1024_0_0) (hid x2 0 inb_S256x4096_S256x1024_0_0) (upw x3 0 inb_S1024x4096_S1024x1024_0_0))
    (dh1 x0 x4) (k0_pay8 (hid x2 1024 inb_S256x4096_S256x1024_0_1024)) two (upw x3 1024 inb_S1024x4096_S1024x1024_0_1024)
    (dnw x4 2048 inb_S4096x1024_S1024x1024_2048_0) (hid x2 2048 inb_S256x4096_S256x1024_0_2048) (upw x3 2048 inb_S1024x4096_S1024x1024_0_2048)

/-- The last quarter of the first weight. -/
abbrev up3 (x3 : Vec F S1024x4096 .bf16) : Vec F S1024x1024 .bf16 := upw x3 3072 inb_S1024x4096_S1024x1024_0_3072

/-- The gradient through the norm, and its rounded copy. -/
def d1Block (x0 : Vec F S256x1024 .bf16) (x1 : Vec F S256x1024 .f32) (x2 : Vec F S256x4096 .f32) (x3 : Vec F S1024x4096 .bf16)
    (x4 : Vec F S4096x1024 .bf16) (x5 : Vec F S256x1024 .f32) (x6 : Vec F S256x1 .f32) (x7 : Vec F S1x1024 .f32) : Vec F S256x1024 .f32 :=
  k0_pay1 (k0_pay16 x5) (k0_pay20 x6) (k0_pay21 (part3 x0 x1 x2 x3 x4) (dh3 x0 x4) (sl3 x2) (up3 x3) x7)
    (k0_pay22 (part3 x0 x1 x2 x3 x4) (dh3 x0 x4) (sl3 x2) (up3 x3) x5 x7)
def d1bBlock (x0 : Vec F S256x1024 .bf16) (x1 : Vec F S256x1024 .f32) (x2 : Vec F S256x4096 .f32) (x3 : Vec F S1024x4096 .bf16)
    (x4 : Vec F S4096x1024 .bf16) (x5 : Vec F S256x1024 .f32) (x6 : Vec F S256x1 .f32) (x7 : Vec F S1x1024 .f32) : Vec F S256x1024 .bf16 :=
  k0_pay2 (k0_pay16 x5) (k0_pay20 x6) (k0_pay21 (part3 x0 x1 x2 x3 x4) (dh3 x0 x4) (sl3 x2) (up3 x3) x7)
    (k0_pay22 (part3 x0 x1 x2 x3 x4) (dh3 x0 x4) (sl3 x2) (up3 x3) x5 x7)

/-- The gradients of the norm's scale and shift after a point: rows 3 and 4 of what was there, the block's column sums added. -/
def row3Step (x0 : Vec F S256x1024 .bf16) (x1 : Vec F S256x1024 .f32) (x2 : Vec F S256x4096 .f32) (x3 : Vec F S1024x4096 .bf16)
    (x4 : Vec F S4096x1024 .bf16) (x5 : Vec F S256x1024 .f32) (old : Vec F S8x1024 .f32) : Vec F S1x1024 .f32 :=
  k0_pay17 (part3 x0 x1 x2 x3 x4) (dh3 x0 x4) (sl3 x2) (up3 x3) x5 (View.ld old (Rect.unit (s := S8x1024) ![3, 0] S1x1024.size inb_S8x1024_S1x1024_3_0))
def row4Step (x0 : Vec F S256x1024 .bf16) (x1 : Vec F S256x1024 .f32) (x2 : Vec F S256x4096 .f32) (x3 : Vec F S1024x4096 .bf16)
    (x4 : Vec F S4096x1024 .bf16) (old : Vec F S8x1024 .f32) : Vec F S1x1024 .f32 :=
  k0_pay18 (part3 x0 x1 x2 x3 x4) (dh3 x0 x4) (sl3 x2) (up3 x3) (View.ld old (Rect.unit (s := S8x1024) ![4, 0] S1x1024.size inb_S8x1024_S1x1024_4_0))

section
variable (c : Dev nD) (i : grid0.Coords) (a1 : Memref sig .tc .vmem S256x1024 .bf16) (h1 : a1.IsWhole) (a2 : Memref sig .tc .vmem S256x1024 .f32) (h2 : a2.IsWhole) (a3 : Memref sig .tc .vmem S256x4096 .f32) (h3 : a3.IsWhole) (a4 : Memref sig .tc .vmem S1024x4096 .bf16) (h4 : a4.IsWhole) (a5 : Memref sig .tc .vmem S4096x1024 .bf16) (h5 : a5.IsWhole) (a6 : Memref sig .tc .vmem S256x1024 .f32) (h6 : a6.IsWhole) (a7 : Memref sig .tc .vmem S256x1 .f32) (h7 : a7.IsWhole) (a8 : Memref sig .tc .vmem S1x1024 .f32) (h8 : a8.IsWhole) (a9 : Memref sig .tc .vmem S256x4096 .bf16) (h9 : a9.IsWhole) (a10 : Memref sig .tc .vmem S256x1024 .f32) (h10 : a10.IsWhole) (a11 : Memref sig .tc .vmem S256x1024 .bf16) (h11 : a11.IsWhole) (a12 : Memref sig .tc .vmem S8x1024 .f32) (h12 : a12.IsWhole)
  (hc : cond0_0 i) (x0 : Vec F S256x1024 .bf16) (x1 : Vec F S256x1024 .f32) (x2 : Vec F S256x4096 .f32) (x3 : Vec F S1024x4096 .bf16) (x4 : Vec F S4096x1024 .bf16) (x5 : Vec F S256x1024 .f32) (x6 : Vec F S256x1 .f32) (x7 : Vec F S1x1024 .f32)

/-- Case A: the hidden gradient. -/
theorem out_A_8 : out0_A_8 c i a1 h1 a2 h2 a3 h3 a4 h4 a5 h5 a6 h6 a7 h7 a8 h8 a9 h9 a10 h10 a11 h11 a12 h12 hc x0 x1 x2 x3 x4 x5 x6 x7 = dhpBlock x0 x2 x4 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rfl

/-- Case A: the gradient through the norm. -/
theorem out_A_9 : out0_A_9 c i a1 h1 a2 h2 a3 h3 a4 h4 a5 h5 a6 h6 a7 h7 a8 h8 a9 h9 a10 h10 a11 h11 a12 h12 hc x0 x1 x2 x3 x4 x5 x6 x7 = d1Block x0 x1 x2 x3 x4 x5 x6 x7 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rfl

/-- Case A: its rounded copy. -/
theorem out_A_10 : out0_A_10 c i a1 h1 a2 h2 a3 h3 a4 h4 a5 h5 a6 h6 a7 h7 a8 h8 a9 h9 a10 h10 a11 h11 a12 h12 hc x0 x1 x2 x3 x4 x5 x6 x7 = d1bBlock x0 x1 x2 x3 x4 x5 x6 x7 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rfl

end

section
variable (c : Dev nD) (i : grid0.Coords) (a1 : Memref sig .tc .vmem S256x1024 .bf16) (h1 : a1.IsWhole) (a2 : Memref sig .tc .vmem S256x1024 .f32) (h2 : a2.IsWhole) (a3 : Memref sig .tc .vmem S256x4096 .f32) (h3 : a3.IsWhole) (a4 : Memref sig .tc .vmem S1024x4096 .bf16) (h4 : a4.IsWhole) (a5 : Memref sig .tc .vmem S4096x1024 .bf16) (h5 : a5.IsWhole) (a6 : Memref sig .tc .vmem S256x1024 .f32) (h6 : a6.IsWhole) (a7 : Memref sig .tc .vmem S256x1 .f32) (h7 : a7.IsWhole) (a8 : Memref sig .tc .vmem S1x1024 .f32) (h8 : a8.IsWhole) (a9 : Memref sig .tc .vmem S256x4096 .bf16) (h9 : a9.IsWhole) (a10 : Memref sig .tc .vmem S256x1024 .f32) (h10 : a10.IsWhole) (a11 : Memref sig .tc .vmem S256x1024 .bf16) (h11 : a11.IsWhole) (a12 : Memref sig .tc .vmem S8x1024 .f32) (h12 : a12.IsWhole)
  (hc : ¬cond0_0 i) (x0 : Vec F S256x1024 .bf16) (x1 : Vec F S256x1024 .f32) (x2 : Vec F S256x4096 .f32) (x3 : Vec F S1024x4096 .bf16) (x4 : Vec F S4096x1024 .bf16) (x5 : Vec F S256x1024 .f32) (x6 : Vec F S256x1 .f32) (x7 : Vec F S1x1024 .f32) (xo : Vec F S8x1024 .f32)

/-- Case B: the hidden gradient. -/
theorem out_B_8 : out0_B_8 c i a1 h1 a2 h2 a3 h3 a4 h4 a5 h5 a6 h6 a7 h7 a8 h8 a9 h9 a10 h10 a11 h11 a12 h12 hc x0 x1 x2 x3 x4 x5 x6 x7 xo = dhpBlock x0 x2 x4 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 x7 xo)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rfl

/-- Case B: the gradient through the norm. -/
theorem out_B_9 : out0_B_9 c i a1 h1 a2 h2 a3 h3 a4 h4 a5 h5 a6 h6 a7 h7 a8 h8 a9 h9 a10 h10 a11 h11 a12 h12 hc x0 x1 x2 x3 x4 x5 x6 x7 xo = d1Block x0 x1 x2 x3 x4 x5 x6 x7 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 xo)]
  unfold kernelRun0_B
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rfl

/-- Case B: its rounded copy. -/
theorem out_B_10 : out0_B_10 c i a1 h1 a2 h2 a3 h3 a4 h4 a5 h5 a6 h6 a7 h7 a8 h8 a9 h9 a10 h10 a11 h11 a12 h12 hc x0 x1 x2 x3 x4 x5 x6 x7 xo = d1bBlock x0 x1 x2 x3 x4 x5 x6 x7 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 xo)]
  unfold kernelRun0_B
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rfl

end

end Cert.MlpIdeal.Block

end
-- ==== Proof.Mlp.Sums.lean ====
/- The buffer the MLP's backward kernel adds the norm's two parameter gradients into: its contents after the first grid point
   and after a later one. Only rows 3 and 4 are added into; the first point clears the others. -/
module

public import proofs.«01_k».proof.Proof.Mlp.Blocks
public import Idealize.ShloMosaic.Lib.WritesUnit
public import Idealize.ShloMosaic.Lib.VecWindow

@[expose] public section

set_option maxRecDepth 16384

noncomputable section

namespace Cert.MlpIdeal.Block

open Cert.MlpIdeal Cert.MlpIdeal.Gen
open Idealize.ShloMosaic Idealize.ShloMosaic.TcCoe Idealize.ShloMosaic.Tactic Idealize.SL.Sem

variable {F : FTy → Type} [FloatOps F]

/-- A part of a buffer read back after the whole of it was stored. -/
theorem part_of_whole (v : View sig .tc .vmem S8x1024 .f32) (w : Vec F S8x1024 .f32) (o : Fin 2 → Nat)
    (inb : ∀ a, o a + S1x1024.size a ≤ S8x1024.size a) :
    v.readCov [⟨Rect.unit (s := S8x1024) ![0, 0] S8x1024.size inb_S8x1024_S8x1024_0_0, w⟩] (Rect.unit (s := S8x1024) o S1x1024.size inb).toLoadRect
      = View.ld w (Rect.unit (s := S8x1024) o S1x1024.size inb) := by
  unfold View.readCov
  rw [View.readAt_eq_ld]
  exact congrArg (fun z => View.ld z _) (View.read_writes_full v v.junk inb_S8x1024_S8x1024_0_0 w [])

/-- Row 4 read back after row 3 was stored over the whole. -/
theorem part_past (v : View sig .tc .vmem S8x1024 .f32) (w3 : Vec F S1x1024 .f32) (w : Vec F S8x1024 .f32) :
    v.readCov [⟨Rect.unit (s := S8x1024) ![3, 0] S1x1024.size inb_S8x1024_S1x1024_3_0, w3⟩,
        ⟨Rect.unit (s := S8x1024) ![0, 0] S8x1024.size inb_S8x1024_S8x1024_0_0, w⟩]
        (Rect.unit (s := S8x1024) ![4, 0] S1x1024.size inb_S8x1024_S1x1024_4_0).toLoadRect
      = View.ld w (Rect.unit (s := S8x1024) ![4, 0] S1x1024.size inb_S8x1024_S1x1024_4_0) := by
  unfold View.readCov
  rw [View.readAt_eq_ld]
  funext x
  refine (View.read_writes_cons_rows_of_not_mem (o := 3) (W := 1) v v.junk inb_S8x1024_S1x1024_3_0 w3 _ _ rfl rfl
    (Or.inr ?_)).trans (congrFun (View.read_writes_full v v.junk inb_S8x1024_S8x1024_0_0 w []) _)
  show 3 + 1 ≤ 4 + 1 * (x 0).val
  omega

section
variable (c : Dev nD) (i : grid0.Coords) (a1 : Memref sig .tc .vmem S256x1024 .bf16) (h1 : a1.IsWhole) (a2 : Memref sig .tc .vmem S256x1024 .f32) (h2 : a2.IsWhole) (a3 : Memref sig .tc .vmem S256x4096 .f32) (h3 : a3.IsWhole) (a4 : Memref sig .tc .vmem S1024x4096 .bf16) (h4 : a4.IsWhole) (a5 : Memref sig .tc .vmem S4096x1024 .bf16) (h5 : a5.IsWhole) (a6 : Memref sig .tc .vmem S256x1024 .f32) (h6 : a6.IsWhole) (a7 : Memref sig .tc .vmem S256x1 .f32) (h7 : a7.IsWhole) (a8 : Memref sig .tc .vmem S1x1024 .f32) (h8 : a8.IsWhole) (a9 : Memref sig .tc .vmem S256x4096 .bf16) (h9 : a9.IsWhole) (a10 : Memref sig .tc .vmem S256x1024 .f32) (h10 : a10.IsWhole) (a11 : Memref sig .tc .vmem S256x1024 .bf16) (h11 : a11.IsWhole) (a12 : Memref sig .tc .vmem S8x1024 .f32) (h12 : a12.IsWhole)
  (hc : cond0_0 i) (x0 : Vec F S256x1024 .bf16) (x1 : Vec F S256x1024 .f32) (x2 : Vec F S256x4096 .f32) (x3 : Vec F S1024x4096 .bf16) (x4 : Vec F S4096x1024 .bf16) (x5 : Vec F S256x1024 .f32) (x6 : Vec F S256x1 .f32) (x7 : Vec F S1x1024 .f32)

/-- Case A: what is left. -/
theorem out_A_11 : out0_A_11 c i a1 h1 a2 h2 a3 h3 a4 h4 a5 h5 a6 h6 a7 h7 a8 h8 a9 h9 a10 h10 a11 h11 a12 h12 hc x0 x1 x2 x3 x4 x5 x6 x7 = View.canon [⟨Rect.unit (s := S8x1024) ![4, 0] S1x1024.size inb_S8x1024_S1x1024_4_0, row4Step x0 x1 x2 x3 x4 k0_pay3⟩,
      ⟨Rect.unit (s := S8x1024) ![3, 0] S1x1024.size inb_S8x1024_S1x1024_3_0, row3Step x0 x1 x2 x3 x4 x5 k0_pay3⟩,
      ⟨Rect.unit (s := S8x1024) ![0, 0] S8x1024.size inb_S8x1024_S8x1024_0_0, k0_pay3⟩] := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  rw [part_past a12.view, part_of_whole a12.view]
  rfl

end

section
variable (c : Dev nD) (i : grid0.Coords) (a1 : Memref sig .tc .vmem S256x1024 .bf16) (h1 : a1.IsWhole) (a2 : Memref sig .tc .vmem S256x1024 .f32) (h2 : a2.IsWhole) (a3 : Memref sig .tc .vmem S256x4096 .f32) (h3 : a3.IsWhole) (a4 : Memref sig .tc .vmem S1024x4096 .bf16) (h4 : a4.IsWhole) (a5 : Memref sig .tc .vmem S4096x1024 .bf16) (h5 : a5.IsWhole) (a6 : Memref sig .tc .vmem S256x1024 .f32) (h6 : a6.IsWhole) (a7 : Memref sig .tc .vmem S256x1 .f32) (h7 : a7.IsWhole) (a8 : Memref sig .tc .vmem S1x1024 .f32) (h8 : a8.IsWhole) (a9 : Memref sig .tc .vmem S256x4096 .bf16) (h9 : a9.IsWhole) (a10 : Memref sig .tc .vmem S256x1024 .f32) (h10 : a10.IsWhole) (a11 : Memref sig .tc .vmem S256x1024 .bf16) (h11 : a11.IsWhole) (a12 : Memref sig .tc .vmem S8x1024 .f32) (h12 : a12.IsWhole)
  (hc : ¬cond0_0 i) (x0 : Vec F S256x1024 .bf16) (x1 : Vec F S256x1024 .f32) (x2 : Vec F S256x4096 .f32) (x3 : Vec F S1024x4096 .bf16) (x4 : Vec F S4096x1024 .bf16) (x5 : Vec F S256x1024 .f32) (x6 : Vec F S256x1 .f32) (x7 : Vec F S1x1024 .f32) (xo : Vec F S8x1024 .f32)

/-- Case B: what is left, over what the point before left. -/
theorem out_B_11 : out0_B_11 c i a1 h1 a2 h2 a3 h3 a4 h4 a5 h5 a6 h6 a7 h7 a8 h8 a9 h9 a10 h10 a11 h11 a12 h12 hc x0 x1 x2 x3 x4 x5 x6 x7 xo
    = a12.view.read (Elt F) (a12.view.writes (Elt F) (h12.unread xo) [⟨Rect.unit (s := S8x1024) ![4, 0] S1x1024.size inb_S8x1024_S1x1024_4_0, row4Step x0 x1 x2 x3 x4 xo⟩,
      ⟨Rect.unit (s := S8x1024) ![3, 0] S1x1024.size inb_S8x1024_S1x1024_3_0, row3Step x0 x1 x2 x3 x4 x5 xo⟩]) := by
  unfold out0_B_11
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz2,
    View.ld_unit_zero (S := S256x1) hz2, View.ld_unit_zero (S := S1x1024) hz2]
  simp only [h12.read_unread]
  rfl

end

end Cert.MlpIdeal.Block

end
-- ==== Proof.Mlp.Outs.lean ====
/- What every grid point of the MLP's backward kernel leaves in the results that move with the rows: the same term over the
   point's blocks at the first point and at the later ones. -/
module

public import proofs.«01_k».proof.Proof.Mlp.Sums

@[expose] public section

set_option maxRecDepth 16384

noncomputable section

namespace Cert.MlpIdeal.Block

open Cert.MlpIdeal Cert.MlpIdeal.Gen
open Idealize.ShloMosaic Idealize.ShloMosaic.TcCoe Idealize.SL.Sem

variable {F : FTy → Type} [FloatOps F] (m : (ℓ : Loc nD τ sig) → Buf (Elt F) ℓ) (c : Dev nD) (t : Fin cfg0.N)

theorem left8 : (outsAt0 m c t.val t.isLt).1 = dhpBlock (iblk m c 0 t) (iblk m c 2 t) (iblk m c 4 t) := by
  by_cases h : t.val % 16 = 0
  · rw [outsAt0_A m c t h]
    dsimp only
    rw [out_A_8]
  · rw [outsAt0_B m c t h]
    dsimp only
    rw [out_B_8]

theorem left9 : (outsAt0 m c t.val t.isLt).2.1 = d1Block (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h]
    dsimp only
    rw [out_A_9]
  · rw [outsAt0_B m c t h]
    dsimp only
    rw [out_B_9]

theorem left10 : (outsAt0 m c t.val t.isLt).2.2.1 = d1bBlock (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h]
    dsimp only
    rw [out_A_10]
  · rw [outsAt0_B m c t h]
    dsimp only
    rw [out_B_10]

end Cert.MlpIdeal.Block

end
-- ==== Proof.Mlp.Math.lean ====
/- The gradient of the MLP and of the norm before it, one row at a time, as sums and products over the extended reals. Both
   programs are read as these. -/
module

public import Idealize.ShloMosaic.Lib.ValueIdx
public import Idealize.ShloMosaic.PureOps.Ideal.Laws
public import Idealize.ShloMosaic.Lib.IdealHost

@[expose] public section

noncomputable section

namespace Cert.MlpMath

open Idealize.ShloMosaic Idealize.ShloMosaic.ValueIdx
open scoped BigOperators

/-- The array shapes. -/
abbrev Rows : Shape := ⟨2, ![4096, 1024]⟩
abbrev Hid : Shape := ⟨2, ![4096, 4096]⟩
abbrev Up : Shape := ⟨2, ![1024, 4096]⟩
abbrev Column : Shape := ⟨2, ![4096, 1]⟩
abbrev Line : Shape := ⟨2, ![1, 1024]⟩

/-- The constants as both programs write them. -/
abbrev two : EReal := Ideal.ofBits .f32 0x40000000#32
abbrev alpha : EReal := Ideal.ofBits .f32 0x3F9837F0#32
abbrev width : EReal := Ideal.ofBits .f32 0x44800000#32
abbrev zero : EReal := Ideal.ofBits .f32 0x00000000#32

theorem zero_word : Ideal.ofBits .f32 0x00000000#32 = 0 := by simp [Ideal.ofBits, Ideal.ieee]

/-- The derivative of the squared positive part. -/
def slope (h : EReal) : EReal := two * max h zero

/-- One element of a row's hidden gradient: `a` is the row's incoming gradient, `h` the row before the square. -/
def hidRow (a : Fin 1024 → EReal) (h : Fin 4096 → EReal) (wd : Fin 4096 → Fin 1024 → EReal) (k : Fin 4096) : EReal :=
  (∑ j : Fin 1024, a j * wd k j) * slope (h k)

/-- One element of a row's gradient before the norm: the residual's share `r` and the hidden gradient through the weight. -/
def sumRow (a r : Fin 1024 → EReal) (h : Fin 4096 → EReal) (wd : Fin 4096 → Fin 1024 → EReal) (wu : Fin 1024 → Fin 4096 → EReal)
    (q : Fin 1024) : EReal :=
  alpha * r q + ∑ k : Fin 4096, hidRow a h wd k * wu q k

/-- One element of a row's gradient through the norm: `s` the row's scale, `y` the incoming gradient, `x` the normed row. -/
def normRow (s : EReal) (y x : Fin 1024 → EReal) (q : Fin 1024) : EReal :=
  s * ((y q - Ideal.div (∑ j : Fin 1024, y j) width) - x q * Ideal.div (∑ j : Fin 1024, y j * x j) width)

/-- The four quarters of the hidden columns. -/
def quarter (n : Fin 4) (k : Fin 1024) : Fin 4096 := ⟨n.val * 1024 + k.val, by have := n.isLt; have := k.isLt; omega⟩

theorem sum_quarters (f : Fin 4096 → EReal) :
    ∑ k : Fin 4096, f k = ∑ k : Fin 1024, f (quarter 0 k) + ∑ k : Fin 1024, f (quarter 1 k) + ∑ k : Fin 1024, f (quarter 2 k)
      + ∑ k : Fin 1024, f (quarter 3 k) := by
  rw [← Fintype.sum_equiv (finProdFinEquiv (m := 4) (n := 1024)) (fun x => f (quarter x.1 x.2)) f
    (fun x => congrArg f (Fin.ext (by show x.1.val * 1024 + x.2.val = x.2.val + 1024 * x.1.val; omega))),
    Fintype.sum_prod_type, Fin.sum_univ_four]

/-- The four parts are added one after the other to the residual's share. -/
theorem sumRow_quarters (a r : Fin 1024 → EReal) (h : Fin 4096 → EReal) (wd : Fin 4096 → Fin 1024 → EReal)
    (wu : Fin 1024 → Fin 4096 → EReal) (q : Fin 1024) :
    sumRow a r h wd wu q
      = alpha * r q + ∑ k : Fin 1024, hidRow a h wd (quarter 0 k) * wu q (quarter 0 k)
          + ∑ k : Fin 1024, hidRow a h wd (quarter 1 k) * wu q (quarter 1 k)
          + ∑ k : Fin 1024, hidRow a h wd (quarter 2 k) * wu q (quarter 2 k)
          + ∑ k : Fin 1024, hidRow a h wd (quarter 3 k) * wu q (quarter 3 k) := by
  unfold sumRow
  rw [sum_quarters (fun k => hidRow a h wd k * wu q k), ← add_assoc, ← add_assoc, ← add_assoc]

variable (dr : Rows.Idx → EReal) (hp : Hid.Idx → EReal) (wu : Up.Idx → EReal) (wd : Rows.Idx → EReal) (xh : Rows.Idx → EReal)
  (rs : Column.Idx → EReal) (g : Line.Idx → EReal)

/-- The hidden gradient. -/
def dHid (p : Fin 4096) (k : Fin 4096) : EReal :=
  hidRow (fun j => dr (ix2 p j)) (fun k => hp (ix2 p k)) (fun k j => wd (ix2 k j)) k

/-- The gradient before the norm. -/
def dSum (p : Fin 4096) (q : Fin 1024) : EReal :=
  sumRow (fun j => dr (ix2 p j)) (fun j => dr (ix2 p j)) (fun k => hp (ix2 p k)) (fun k j => wd (ix2 k j)) (fun q k => wu (ix2 q k)) q

/-- The gradients of the norm's scale and shift. -/
def dGain (q : Fin 1024) : EReal := ∑ p : Fin 4096, dSum dr hp wu wd p q * xh (ix2 p q)
def dShift (q : Fin 1024) : EReal := ∑ p : Fin 4096, dSum dr hp wu wd p q

/-- The gradient of the norm's input. -/
def dNorm (p : Fin 4096) (q : Fin 1024) : EReal :=
  normRow (rs (ix2 p (0 : Fin 1))) (fun j => dSum dr hp wu wd p j * g (ix2 (0 : Fin 1) j)) (fun j => xh (ix2 p j)) q

end Cert.MlpMath

end
-- ==== Proof.Mlp.Payloads.lean ====
/- What one grid point of the MLP's backward kernel stores, read at an index over the extended reals. -/
module

public import proofs.«01_k».proof.Proof.Mlp.Blocks
public import proofs.«01_k».proof.Proof.Mlp.Math
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.ValueKit.Tiles
public import Idealize.ShloMosaic.PureOps.Ideal.Laws

@[expose] public section

set_option maxRecDepth 16384

noncomputable section

namespace Cert.MlpIdeal.Block

open Cert.MlpIdeal Cert.MlpIdeal.Gen
open Idealize.ShloMosaic Idealize.ShloMosaic.ValueIdx Idealize.SL.Sem
open scoped BigOperators

/-- A product with the second factor transposed. -/
theorem product {φ₁ φ₂ : FTy} (a : FVec Ideal S256x1024 φ₁) (b : FVec Ideal S1024x1024 φ₂) (p : Fin 256) (q : Fin 1024) :
    matmul dot_S256x1024_S1024x1024_S256x1024_1_1_0_0_n_n none a b (constant S256x1024 .f32 0x00000000#32) (ix2 p q)
      = ∑ k : Fin 1024, a (ix2 p k) * b (ix2 q k) := by
  refine (Ideal.matmul_transposedRhs_apply (M := 256) (K := 1024) (N := 1024) none a b _ p q).trans ?_
  rw [constant_apply, MlpMath.zero_word, zero_add]

/-- A sum over the rows of a block. -/
theorem column_sum (a : FVec Ideal S256x1024 .f32) (q : Fin 1024) :
    multiReduction .add [0] S1024 a 0x00000000#32 reduces_S256x1024_S1024 (.inl rfl) rfl (ix1 q) = ∑ p : Fin 256, a (ix2 p q) := by
  refine (Ideal.multiReduction_add_single _ _ _ _ _ _).trans (Finset.sum_congr rfl fun p _ => ?_)
  refine congrArg a (?_ : reduces_S256x1024_S1024.lift (ix1 q) p = ix2 p q)
  funext ax
  match ax with
  | ⟨0, _⟩ => rfl
  | ⟨1, _⟩ => rfl

/-- A sum along a row of a block. -/
theorem row_sum (a : FVec Ideal S256x1024 .f32) (p : Fin 256) :
    multiReduction .add [1] S256 a 0x00000000#32 reduces_S256x1024_S256 (.inl rfl) rfl (ix1 p) = ∑ q : Fin 1024, a (ix2 p q) := by
  refine (Ideal.multiReduction_add_single _ _ _ _ _ _).trans (Finset.sum_congr rfl fun q _ => ?_)
  refine congrArg a (?_ : reduces_S256x1024_S256.lift (ix1 p) q = ix2 p q)
  funext ax
  match ax with
  | ⟨0, _⟩ => rfl
  | ⟨1, _⟩ => rfl

/-- A column spread over the row. -/
theorem spread (a : FVec Ideal S256x1 .f32) (p : Fin 256) (q : Fin 1024) :
    broadcastTo S256x1024 a broadcasts_S256x1_S256x1024 (ix2 p q) = a (ix2 p (0 : Fin 1)) := by
  refine broadcastTo_apply _ _ _ (ix2 p (0 : Fin 1)) fun ax => ?_
  match ax with
  | ⟨0, _⟩ => rfl
  | ⟨1, _⟩ => rfl

variable (x0 : Vec Ideal S256x1024 .bf16) (x1 : Vec Ideal S256x1024 .f32) (x2 : Vec Ideal S256x4096 .f32)
  (x3 : Vec Ideal S1024x4096 .bf16) (x4 : Vec Ideal S4096x1024 .bf16) (x5 : Vec Ideal S256x1024 .f32) (x6 : Vec Ideal S256x1 .f32)
  (x7 : Vec Ideal S1x1024 .f32)

/-- A quarter of the hidden gradient. -/
theorem pay5 (w : Vec Ideal S1024x1024 .bf16) (h : Vec Ideal S256x1024 .f32) (p : Fin 256) (q : Fin 1024) :
    k0_pay5 x0 w h (ix2 p q) = (∑ k : Fin 1024, x0 (ix2 p k) * w (ix2 q k)) * MlpMath.slope (h (ix2 p q)) := by
  rw [← product x0 w p q]
  unfold k0_pay5 k0_pay4
  simp only [shapeCast_self]
  rfl

/-- The later quarters are the same term. -/
theorem pay9 (w : Vec Ideal S1024x1024 .bf16) (h : Vec Ideal S256x1024 .f32) :
    k0_pay9 (k0_pay7 x0 w) (k0_pay8 h) (two (F := Ideal)) = k0_pay5 x0 w h := rfl
theorem pay10 (w : Vec Ideal S1024x1024 .bf16) (h : Vec Ideal S256x1024 .f32) : k0_pay10 (k0_pay4 x0) w h = k0_pay5 x0 w h := rfl
theorem pay14 (w : Vec Ideal S1024x1024 .bf16) (h : Vec Ideal S256x1024 .f32) :
    k0_pay14 (k0_pay12 (k0_pay4 x0) w) (k0_pay13 h) = k0_pay5 x0 w h := rfl

/-- A row's arrays as functions of the column. -/
abbrev inRow (p : Fin 256) : Fin 1024 → EReal := fun j => x0 (ix2 p j)
abbrev hidAt (p : Fin 256) : Fin 4096 → EReal := fun k => x2 (ix2 p k)
abbrev downAt : Fin 4096 → Fin 1024 → EReal := fun k j => x4 (ix2 k j)
abbrev upAt : Fin 1024 → Fin 4096 → EReal := fun q k => x3 (ix2 q k)

/-- Quarter `n` of the hidden gradient, over the blocks. -/
theorem quarter_at (n : Fin 4) (o : Nat) (ho : o = n.val * 1024)
    (hd : ∀ a, (![o, 0] : Fin 2 → Nat) a + S1024x1024.size a ≤ S4096x1024.size a)
    (hh : ∀ a, (![0, o] : Fin 2 → Nat) a + S256x1024.size a ≤ S256x4096.size a) (p : Fin 256) (q : Fin 1024) :
    k0_pay5 x0 (dnw x4 o hd) (hid x2 o hh) (ix2 p q)
      = MlpMath.hidRow (inRow x0 p) (hidAt x2 p) (downAt x4) (MlpMath.quarter n q) := by
  subst ho
  rw [pay5]
  unfold MlpMath.hidRow
  refine congrArg₂ (· * ·) (Finset.sum_congr rfl fun k _ => congrArg (_ * ·) ?_) (congrArg MlpMath.slope ?_)
  · refine View.ld_unit_apply_of x4 _ _ _ _ _ fun ax => ?_
    match ax with
    | ⟨0, _⟩ => rfl
    | ⟨1, _⟩ => exact (Nat.zero_add _).symm
  · refine View.ld_unit_apply_of x2 _ _ _ _ _ fun ax => ?_
    match ax with
    | ⟨0, _⟩ => exact (Nat.zero_add _).symm
    | ⟨1, _⟩ => rfl

/-- A quarter of the first weight. -/
theorem up_at (n : Fin 4) (o : Nat) (ho : o = n.val * 1024) (hu : ∀ a, (![0, o] : Fin 2 → Nat) a + S1024x1024.size a ≤ S1024x4096.size a)
    (q k : Fin 1024) : upw x3 o hu (ix2 q k) = x3 (ix2 q (MlpMath.quarter n k)) := by
  subst ho
  refine View.ld_unit_apply_of x3 _ _ _ _ _ fun ax => ?_
  match ax with
  | ⟨0, _⟩ => exact (Nat.zero_add _).symm
  | ⟨1, _⟩ => rfl

/-- A quarter's share of the gradient before the norm. -/
theorem share (n : Fin 4) (o : Nat) (ho : o = n.val * 1024)
    (hd : ∀ a, (![o, 0] : Fin 2 → Nat) a + S1024x1024.size a ≤ S4096x1024.size a)
    (hh : ∀ a, (![0, o] : Fin 2 → Nat) a + S256x1024.size a ≤ S256x4096.size a)
    (hu : ∀ a, (![0, o] : Fin 2 → Nat) a + S1024x1024.size a ≤ S1024x4096.size a) (p : Fin 256) (q : Fin 1024) :
    matmul (φ₁ := .bf16) (φ₂ := .bf16) dot_S256x1024_S1024x1024_S256x1024_1_1_0_0_n_n none (k0_pay5 x0 (dnw x4 o hd) (hid x2 o hh)) (upw x3 o hu)
        (constant S256x1024 .f32 0x00000000#32) (ix2 p q)
      = ∑ k : Fin 1024, MlpMath.hidRow (inRow x0 p) (hidAt x2 p) (downAt x4) (MlpMath.quarter n k) * upAt x3 q (MlpMath.quarter n k) := by
  rw [product]
  exact Finset.sum_congr rfl fun k _ => congrArg₂ (· * ·) (quarter_at x0 x2 x4 n o ho hd hh p k) (up_at x3 n o ho hu q k)

/-- The gradient before the norm. -/
abbrev sumBlock : FVec Ideal S256x1024 .f32 := k0_pay15 (part3 x0 x1 x2 x3 x4) (dh3 x0 x4) (sl3 x2) (up3 x3)

theorem sum_at (p : Fin 256) (q : Fin 1024) :
    sumBlock x0 x1 x2 x3 x4 (ix2 p q)
      = MlpMath.sumRow (inRow x0 p) (fun j => x1 (ix2 p j)) (hidAt x2 p) (downAt x4) (upAt x3) q := by
  rw [MlpMath.sumRow_quarters,
    ← share x0 x2 x3 x4 0 0 rfl inb_S4096x1024_S1024x1024_0_0 inb_S256x4096_S256x1024_0_0 inb_S1024x4096_S1024x1024_0_0,
    ← share x0 x2 x3 x4 1 1024 rfl inb_S4096x1024_S1024x1024_1024_0 inb_S256x4096_S256x1024_0_1024 inb_S1024x4096_S1024x1024_0_1024,
    ← share x0 x2 x3 x4 2 2048 rfl inb_S4096x1024_S1024x1024_2048_0 inb_S256x4096_S256x1024_0_2048 inb_S1024x4096_S1024x1024_0_2048,
    ← share x0 x2 x3 x4 3 3072 rfl inb_S4096x1024_S1024x1024_3072_0 inb_S256x4096_S256x1024_0_3072 inb_S1024x4096_S1024x1024_0_3072]
  unfold sumBlock k0_pay15 part3 k0_pay11 k0_pay6 dh1 dh3 sl3
  simp only [shapeCast_self, pay9, pay10, pay14]
  rfl

/-- The gradient of the normed row. -/
theorem scaled_at (p : Fin 256) (q : Fin 1024) :
    k0_pay19 (part3 x0 x1 x2 x3 x4) (dh3 x0 x4) (sl3 x2) (up3 x3) x7 (ix2 p q)
      = sumBlock x0 x1 x2 x3 x4 (ix2 p q) * x7 (ix2 (0 : Fin 1) q) := by
  unfold k0_pay19
  show sumBlock x0 x1 x2 x3 x4 (ix2 p q) * broadcastTo S256x1024 x7 broadcasts_S1x1024_S256x1024 (ix2 p q) = _
  rw [broadcastTo_1b_ab_apply]

/-- A row's mean, spread over the row. -/
theorem mean_at (a : FVec Ideal S256x1024 .f32) (p : Fin 256) (q : Fin 1024) :
    broadcastTo S256x1024 (divf (shapeCast S256x1 (multiReduction .add [1] S256 a 0x00000000#32 reduces_S256x1024_S256 (.inl rfl) rfl)
        shapeCasts_S256_S256x1) (broadcast S256x1 (Scalar.ofBits (F := Ideal) .f32 0x44800000#32))) broadcasts_S256x1_S256x1024 (ix2 p q)
      = Ideal.div (∑ j : Fin 1024, a (ix2 p j)) MlpMath.width := by
  rw [spread]
  show Ideal.div (shapeCast S256x1 _ shapeCasts_S256_S256x1 (ix2 p (0 : Fin 1))) _ = _
  rw [shapeCast_a_a1_apply, row_sum]
  rfl

/-- The gradient of the norm's input. -/
theorem norm_at (p : Fin 256) (q : Fin 1024) :
    d1Block x0 x1 x2 x3 x4 x5 x6 x7 (ix2 p q)
      = MlpMath.normRow (x6 (ix2 p (0 : Fin 1))) (fun j => sumBlock x0 x1 x2 x3 x4 (ix2 p j) * x7 (ix2 (0 : Fin 1) j)) (fun j => x5 (ix2 p j)) q := by
  have hy : ∀ j, k0_pay19 (part3 x0 x1 x2 x3 x4) (dh3 x0 x4) (sl3 x2) (up3 x3) x7 (ix2 p j)
      = sumBlock x0 x1 x2 x3 x4 (ix2 p j) * x7 (ix2 (0 : Fin 1) j) := fun j => scaled_at x0 x1 x2 x3 x4 x7 p j
  unfold d1Block MlpMath.normRow
  simp only [← hy]
  generalize part3 x0 x1 x2 x3 x4 = a1, dh3 x0 x4 = a2, sl3 x2 = a3, up3 x3 = a4
  unfold k0_pay1
  show broadcastTo S256x1024 _ broadcasts_S256x1_S256x1024 (ix2 p q) * (k0_pay21 a1 a2 a3 a4 x7 (ix2 p q) - k0_pay16 x5 (ix2 p q) * broadcastTo S256x1024 _ broadcasts_S256x1_S256x1024 (ix2 p q)) = _
  rw [mean_at, spread]
  unfold k0_pay21 k0_pay22 k0_pay16 k0_pay20
  simp only [shapeCast_self]
  show _ * ((k0_pay19 a1 a2 a3 a4 x7 (ix2 p q) - broadcastTo S256x1024 _ broadcasts_S256x1_S256x1024 (ix2 p q)) - _) = _
  rw [mean_at]
  rfl

/-- The two accumulated rows after a point: what was there, the block's column sums added. -/
theorem row3_at (old : Vec Ideal S8x1024 .f32) (q : Fin 1024) :
    row3Step x0 x1 x2 x3 x4 x5 old (ix2 (0 : Fin 1) q)
      = old (ix2 (3 : Fin 8) q) + ∑ p : Fin 256, sumBlock x0 x1 x2 x3 x4 (ix2 p q) * x5 (ix2 p q) := by
  unfold row3Step k0_pay17 k0_pay16
  simp only [shapeCast_self]
  show View.ld old (Rect.unit (s := S8x1024) ![3, 0] S1x1024.size inb_S8x1024_S1x1024_3_0) (ix2 (0 : Fin 1) q) + shapeCast S1x1024 _ shapeCasts_S1024_S1x1024 (ix2 (0 : Fin 1) q) = _
  rw [shapeCast_a_1a_apply, column_sum]
  refine congrArg (· + _) (View.ld_unit_apply_of old _ _ _ _ _ fun ax => ?_)
  match ax with
  | ⟨0, _⟩ => rfl
  | ⟨1, _⟩ => exact (Nat.zero_add _).symm

theorem row4_at (old : Vec Ideal S8x1024 .f32) (q : Fin 1024) :
    row4Step x0 x1 x2 x3 x4 old (ix2 (0 : Fin 1) q)
      = old (ix2 (4 : Fin 8) q) + ∑ p : Fin 256, sumBlock x0 x1 x2 x3 x4 (ix2 p q) := by
  unfold row4Step k0_pay18
  simp only [shapeCast_self]
  show View.ld old (Rect.unit (s := S8x1024) ![4, 0] S1x1024.size inb_S8x1024_S1x1024_4_0) (ix2 (0 : Fin 1) q) + shapeCast S1x1024 _ shapeCasts_S1024_S1x1024 (ix2 (0 : Fin 1) q) = _
  rw [shapeCast_a_1a_apply, column_sum]
  refine congrArg (· + _) (View.ld_unit_apply_of old _ _ _ _ _ fun ax => ?_)
  match ax with
  | ⟨0, _⟩ => rfl
  | ⟨1, _⟩ => exact (Nat.zero_add _).symm

/-- The hidden gradient's block, put together from its four quarters. -/
theorem dhp_at (i : S256x4096.Idx) :
    dhpBlock x0 x2 x4 i = MlpMath.hidRow (inRow x0 (i 0)) (hidAt x2 (i 0)) (downAt x4) (i 1) := by
  have piece : ∀ (n : Fin 4) (o : Nat) (ho : o = n.val * 1024)
      (hd : ∀ a, (![o, 0] : Fin 2 → Nat) a + S1024x1024.size a ≤ S4096x1024.size a)
      (hh : ∀ a, (![0, o] : Fin 2 → Nat) a + S256x1024.size a ≤ S256x4096.size a) (x : S256x1024.Idx),
      k0_pay5 x0 (dnw x4 o hd) (hid x2 o hh) x
        = (fun i : S256x4096.Idx => MlpMath.hidRow (inRow x0 (i 0)) (hidAt x2 (i 0)) (downAt x4) (i 1))
            ((Rect.unit (s := S256x4096) ![0, o] S256x1024.size hh).emb x) := by
    intro n o ho hd hh x
    obtain ⟨p, q, rfl⟩ : ∃ (p : Fin 256) (q : Fin 1024), x = ix2 p q := ⟨x 0, x 1, eq_ix2 x⟩
    rw [quarter_at x0 x2 x4 n o ho hd hh p q]
    show _ = MlpMath.hidRow (inRow x0 _) (hidAt x2 _) (downAt x4) _
    have e0 : (Rect.unit (s := S256x4096) ![0, o] S256x1024.size hh).emb (ix2 p q) 0 = p :=
      Fin.ext (by show 0 + 1 * p.val = p.val; omega)
    have e1 : (Rect.unit (s := S256x4096) ![0, o] S256x1024.size hh).emb (ix2 p q) 1 = MlpMath.quarter n q :=
      Fin.ext (by show o + 1 * q.val = n.val * 1024 + q.val; omega)
    rw [e0, e1]
  unfold dhpBlock
  refine View.canon_apply_of_pieces (Val := Elt Ideal) (e := .bf16)
    (fun i : S256x4096.Idx => MlpMath.hidRow (inRow x0 (i 0)) (hidAt x2 (i 0)) (downAt x4) (i 1)) _ ?_ i ?_
  · intro pc hpc
    simp only [List.mem_cons, List.not_mem_nil, or_false] at hpc
    rcases hpc with rfl | rfl | rfl | rfl
    · exact piece 3 3072 rfl inb_S4096x1024_S1024x1024_3072_0 inb_S256x4096_S256x1024_0_3072
    · exact piece 2 2048 rfl inb_S4096x1024_S1024x1024_2048_0 inb_S256x4096_S256x1024_0_2048
    · exact piece 1 1024 rfl inb_S4096x1024_S1024x1024_1024_0 inb_S256x4096_S256x1024_0_1024
    · exact piece 0 0 rfl inb_S4096x1024_S1024x1024_0_0 inb_S256x4096_S256x1024_0_0
  · have h0 : (i 0).val < 256 := (i 0).isLt
    have h1 : (i 1).val < 4096 := (i 1).isLt
    have mem : ∀ (o : Nat) (hr : ∀ ax, (![0, o] : Fin 2 → Nat) ax + S256x1024.size ax ≤ S256x4096.size ax),
        o ≤ (i 1).val → (i 1).val < o + 1024 → i ∈ (Rect.unit (s := S256x4096) ![0, o] S256x1024.size hr).set := by
      intro o hr hl hu
      rw [Rect.mem_set_unit]
      intro ax
      match ax with
      | ⟨0, _⟩ => exact ⟨Nat.zero_le _, by show (i 0).val < 0 + 256; omega⟩
      | ⟨1, _⟩ => exact ⟨hl, hu⟩
    rcases (by omega : 3072 ≤ (i 1).val ∨ 2048 ≤ (i 1).val ∧ (i 1).val < 3072 ∨ 1024 ≤ (i 1).val ∧ (i 1).val < 2048 ∨ (i 1).val < 1024) with h | h | h | h
    · exact ⟨_, List.mem_cons_self, mem 3072 inb_S256x4096_S256x1024_0_3072 h (by omega)⟩
    · exact ⟨_, List.mem_cons_of_mem _ List.mem_cons_self, mem 2048 inb_S256x4096_S256x1024_0_2048 h.1 (by omega)⟩
    · exact ⟨_, List.mem_cons_of_mem _ (List.mem_cons_of_mem _ List.mem_cons_self), mem 1024 inb_S256x4096_S256x1024_0_1024 h.1 (by omega)⟩
    · exact ⟨_, List.mem_cons_of_mem _ (List.mem_cons_of_mem _ (List.mem_cons_of_mem _ List.mem_cons_self)), mem 0 inb_S256x4096_S256x1024_0_0 (Nat.zero_le _) (by omega)⟩

end Cert.MlpIdeal.Block

end
-- ==== Proof.Mlp.Entry.lean ====
/- What the windows of the MLP's backward call read: the elements of the launch's arrays, over the extended reals. -/
module

public import proofs.«01_k».proof.Proof.Mlp.Math
public import proofs.«01_k».proof.Proof.Gen.MlpIdeal.Frame
public import proofs.«01_k».proof.Proof.Gen.MlpRefIdeal.Read
public import Idealize.ShloMosaic.Lib.Pipeline.Value
public import Idealize.ShloMosaic.Lib.StableHlo.ReadAt

@[expose] public section

set_option maxRecDepth 16384

noncomputable section

namespace Cert.MlpIdeal.Entry

open Cert.MlpIdeal Cert.MlpIdeal.Gen
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD)

/-- The launch's arrays. -/
abbrev dr : MlpMath.Rows.Idx → EReal := m ((c : Thread nD τ).loc main_arg0)
abbrev r1 : MlpMath.Rows.Idx → EReal := m ((c : Thread nD τ).loc main_arg1)
abbrev g : MlpMath.Line.Idx → EReal := m ((c : Thread nD τ).loc main_arg2)
abbrev b : MlpMath.Line.Idx → EReal := m ((c : Thread nD τ).loc main_arg3)
abbrev wu : MlpMath.Up.Idx → EReal := m ((c : Thread nD τ).loc main_arg4)
abbrev wd : MlpMath.Rows.Idx → EReal := m ((c : Thread nD τ).loc main_arg5)

/-- The normed rows, their scales and the hidden rows, as the host computes them for both programs. -/
abbrev xh : MlpMath.Rows.Idx → EReal := Cert.MlpRefIdeal.Read.val_main_v22 (F := Ideal) (r1 m c)
abbrev rs : MlpMath.Column.Idx → EReal := Cert.MlpRefIdeal.Read.val_main_v17 (F := Ideal) (r1 m c)
abbrev hp : MlpMath.Hid.Idx → EReal := Cert.MlpRefIdeal.Read.val_main_v27 (F := Ideal) (r1 m c) (g m c) (b m c) (wu m c)

/-- What the host operations before the launch leave in the call's operands. -/
theorem V_xh : V m c main_v17 = xh m c := by
  unfold V; after_reads_simp; rfl

theorem V_rs : V m c main_v13 = rs m c := by
  unfold V; after_reads_simp; rfl

theorem V_hp : V m c main_v22 = hp m c := by
  unfold V; after_reads_simp; rfl

theorem V_dr : V m c main_v23 = dr m c := by
  unfold V; after_reads_simp; rfl

theorem V_wu : V m c main_v24 = wu m c := by
  unfold V; after_reads_simp; rfl

theorem V_wd : V m c main_v25 = wd m c := by
  unfold V; after_reads_simp; rfl

/-- The row of the array that row `r` of point `t`'s block is. -/
def row (t : Fin cfg0.N) (r : Fin 256) : Fin 4096 :=
  ⟨256 * t.val + r.val, by have h : t.val < 16 := lt_of_lt_of_eq t.isLt N_0; have := r.isLt; omega⟩

/-- Window 0 moves down the rows. -/
theorem rows0 (X : MlpMath.Rows.Idx → EReal) (t : Fin cfg0.N) (r : Fin 256) (q : Fin 1024) :
    ((cfg0.win 0).blk t).view.read (Elt Ideal) X (ix2 r q) = X (ix2 (row t r) q) := by
  have hi : win0_0.index t 0 = t.val ∧ win0_0.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_0.index t 0 * 256 + 1 * r.val = 256 * t.val + r.val; rw [hi.1]; omega
  | ⟨1, _⟩ => show win0_0.index t 1 * 1024 + 1 * q.val = q.val; rw [hi.2]; omega

/-- Window 1 moves down the rows. -/
theorem rows1 (X : MlpMath.Rows.Idx → EReal) (t : Fin cfg0.N) (r : Fin 256) (q : Fin 1024) :
    ((cfg0.win 1).blk t).view.read (Elt Ideal) X (ix2 r q) = X (ix2 (row t r) q) := by
  have hi : win0_1.index t 0 = t.val ∧ win0_1.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_1.index t 0 * 256 + 1 * r.val = 256 * t.val + r.val; rw [hi.1]; omega
  | ⟨1, _⟩ => show win0_1.index t 1 * 1024 + 1 * q.val = q.val; rw [hi.2]; omega

/-- Window 2 moves down the rows. -/
theorem rows2 (X : MlpMath.Hid.Idx → EReal) (t : Fin cfg0.N) (r : Fin 256) (q : Fin 4096) :
    ((cfg0.win 2).blk t).view.read (Elt Ideal) X (ix2 r q) = X (ix2 (row t r) q) := by
  have hi : win0_2.index t 0 = t.val ∧ win0_2.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_2.index t 0 * 256 + 1 * r.val = 256 * t.val + r.val; rw [hi.1]; omega
  | ⟨1, _⟩ => show win0_2.index t 1 * 4096 + 1 * q.val = q.val; rw [hi.2]; omega

/-- Window 5 moves down the rows. -/
theorem rows5 (X : MlpMath.Rows.Idx → EReal) (t : Fin cfg0.N) (r : Fin 256) (q : Fin 1024) :
    ((cfg0.win 5).blk t).view.read (Elt Ideal) X (ix2 r q) = X (ix2 (row t r) q) := by
  have hi : win0_5.index t 0 = t.val ∧ win0_5.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_5.index t 0 * 256 + 1 * r.val = 256 * t.val + r.val; rw [hi.1]; omega
  | ⟨1, _⟩ => show win0_5.index t 1 * 1024 + 1 * q.val = q.val; rw [hi.2]; omega

/-- Window 6 moves down the rows. -/
theorem rows6 (X : MlpMath.Column.Idx → EReal) (t : Fin cfg0.N) (r : Fin 256) (q : Fin 1) :
    ((cfg0.win 6).blk t).view.read (Elt Ideal) X (ix2 r q) = X (ix2 (row t r) q) := by
  have hi : win0_6.index t 0 = t.val ∧ win0_6.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_6.index t 0 * 256 + 1 * r.val = 256 * t.val + r.val; rw [hi.1]; omega
  | ⟨1, _⟩ => show win0_6.index t 1 * 1 + 1 * q.val = q.val; rw [hi.2]; omega

/-- Window 8 moves down the rows. -/
theorem rows8 (X : MlpMath.Hid.Idx → EReal) (t : Fin cfg0.N) (r : Fin 256) (q : Fin 4096) :
    ((cfg0.win 8).blk t).view.read (Elt Ideal) X (ix2 r q) = X (ix2 (row t r) q) := by
  have hi : win0_8.index t 0 = t.val ∧ win0_8.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_8.index t 0 * 256 + 1 * r.val = 256 * t.val + r.val; rw [hi.1]; omega
  | ⟨1, _⟩ => show win0_8.index t 1 * 4096 + 1 * q.val = q.val; rw [hi.2]; omega

/-- Window 9 moves down the rows. -/
theorem rows9 (X : MlpMath.Rows.Idx → EReal) (t : Fin cfg0.N) (r : Fin 256) (q : Fin 1024) :
    ((cfg0.win 9).blk t).view.read (Elt Ideal) X (ix2 r q) = X (ix2 (row t r) q) := by
  have hi : win0_9.index t 0 = t.val ∧ win0_9.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_9.index t 0 * 256 + 1 * r.val = 256 * t.val + r.val; rw [hi.1]; omega
  | ⟨1, _⟩ => show win0_9.index t 1 * 1024 + 1 * q.val = q.val; rw [hi.2]; omega

/-- Window 10 moves down the rows. -/
theorem rows10 (X : MlpMath.Rows.Idx → EReal) (t : Fin cfg0.N) (r : Fin 256) (q : Fin 1024) :
    ((cfg0.win 10).blk t).view.read (Elt Ideal) X (ix2 r q) = X (ix2 (row t r) q) := by
  have hi : win0_10.index t 0 = t.val ∧ win0_10.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_10.index t 0 * 256 + 1 * r.val = 256 * t.val + r.val; rw [hi.1]; omega
  | ⟨1, _⟩ => show win0_10.index t 1 * 1024 + 1 * q.val = q.val; rw [hi.2]; omega

/-- Window 3 is its whole array. -/
theorem whole3 (X : MlpMath.Up.Idx → EReal) (t : Fin cfg0.N) (r : Fin 1024) (q : Fin 4096) :
    ((cfg0.win 3).blk t).view.read (Elt Ideal) X (ix2 r q) = X (ix2 r q) := by
  have hi : win0_3.index t 0 = 0 ∧ win0_3.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_3.index t 0 * 1024 + 1 * r.val = r.val; rw [hi.1]; omega
  | ⟨1, _⟩ => show win0_3.index t 1 * 4096 + 1 * q.val = q.val; rw [hi.2]; omega

/-- Window 4 is its whole array. -/
theorem whole4 (X : MlpMath.Rows.Idx → EReal) (t : Fin cfg0.N) (r : Fin 4096) (q : Fin 1024) :
    ((cfg0.win 4).blk t).view.read (Elt Ideal) X (ix2 r q) = X (ix2 r q) := by
  have hi : win0_4.index t 0 = 0 ∧ win0_4.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_4.index t 0 * 4096 + 1 * r.val = r.val; rw [hi.1]; omega
  | ⟨1, _⟩ => show win0_4.index t 1 * 1024 + 1 * q.val = q.val; rw [hi.2]; omega

/-- Window 7 is its whole array. -/
theorem whole7 (X : MlpMath.Line.Idx → EReal) (t : Fin cfg0.N) (r : Fin 1) (q : Fin 1024) :
    ((cfg0.win 7).blk t).view.read (Elt Ideal) X (ix2 r q) = X (ix2 r q) := by
  have hi : win0_7.index t 0 = 0 ∧ win0_7.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_7.index t 0 * 1 + 1 * r.val = r.val; rw [hi.1]; omega
  | ⟨1, _⟩ => show win0_7.index t 1 * 1024 + 1 * q.val = q.val; rw [hi.2]; omega

/-- Window 11 is its whole array. -/
theorem whole11 (X : S8x1024.Idx → EReal) (t : Fin cfg0.N) (r : Fin 8) (q : Fin 1024) :
    ((cfg0.win 11).blk t).view.read (Elt Ideal) X (ix2 r q) = X (ix2 r q) := by
  have hi : win0_11.index t 0 = 0 ∧ win0_11.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_11.index t 0 * 8 + 1 * r.val = r.val; rw [hi.1]; omega
  | ⟨1, _⟩ => show win0_11.index t 1 * 1024 + 1 * q.val = q.val; rw [hi.2]; omega

theorem block0 (t : Fin cfg0.N) (r : Fin 256) (q : Fin 1024) : (iblk m c 0 t : Vec Ideal S256x1024 .bf16) (ix2 r q) = dr m c (ix2 (row t r) q) := by
  rw [← rows0 (dr m c) t r q]
  unfold iblk
  exact congrArg (fun X => ((cfg0.win 0).blk t).view.read (Elt Ideal) X (ix2 r q)) (V_dr m c)

theorem block1 (t : Fin cfg0.N) (r : Fin 256) (q : Fin 1024) : (iblk m c 1 t : Vec Ideal S256x1024 .f32) (ix2 r q) = dr m c (ix2 (row t r) q) := by
  rw [← rows1 (dr m c) t r q]
  unfold iblk
  exact congrArg (fun X => ((cfg0.win 1).blk t).view.read (Elt Ideal) X (ix2 r q)) (V_main_arg0 m c)

theorem block2 (t : Fin cfg0.N) (r : Fin 256) (q : Fin 4096) : (iblk m c 2 t : Vec Ideal S256x4096 .f32) (ix2 r q) = hp m c (ix2 (row t r) q) := by
  rw [← rows2 (hp m c) t r q]
  unfold iblk
  exact congrArg (fun X => ((cfg0.win 2).blk t).view.read (Elt Ideal) X (ix2 r q)) (V_hp m c)

theorem block3 (t : Fin cfg0.N) (r : Fin 1024) (q : Fin 4096) : (iblk m c 3 t : Vec Ideal S1024x4096 .bf16) (ix2 r q) = wu m c (ix2 r q) := by
  rw [← whole3 (wu m c) t r q]
  unfold iblk
  exact congrArg (fun X => ((cfg0.win 3).blk t).view.read (Elt Ideal) X (ix2 r q)) (V_wu m c)

theorem block4 (t : Fin cfg0.N) (r : Fin 4096) (q : Fin 1024) : (iblk m c 4 t : Vec Ideal S4096x1024 .bf16) (ix2 r q) = wd m c (ix2 r q) := by
  rw [← whole4 (wd m c) t r q]
  unfold iblk
  exact congrArg (fun X => ((cfg0.win 4).blk t).view.read (Elt Ideal) X (ix2 r q)) (V_wd m c)

theorem block5 (t : Fin cfg0.N) (r : Fin 256) (q : Fin 1024) : (iblk m c 5 t : Vec Ideal S256x1024 .f32) (ix2 r q) = xh m c (ix2 (row t r) q) := by
  rw [← rows5 (xh m c) t r q]
  unfold iblk
  exact congrArg (fun X => ((cfg0.win 5).blk t).view.read (Elt Ideal) X (ix2 r q)) (V_xh m c)

theorem block6 (t : Fin cfg0.N) (r : Fin 256) (q : Fin 1) : (iblk m c 6 t : Vec Ideal S256x1 .f32) (ix2 r q) = rs m c (ix2 (row t r) q) := by
  rw [← rows6 (rs m c) t r q]
  unfold iblk
  exact congrArg (fun X => ((cfg0.win 6).blk t).view.read (Elt Ideal) X (ix2 r q)) (V_rs m c)

theorem block7 (t : Fin cfg0.N) (r : Fin 1) (q : Fin 1024) : (iblk m c 7 t : Vec Ideal S1x1024 .f32) (ix2 r q) = g m c (ix2 r q) := by
  rw [← whole7 (g m c) t r q]
  unfold iblk
  exact congrArg (fun X => ((cfg0.win 7).blk t).view.read (Elt Ideal) X (ix2 r q)) (V_main_arg2 m c)

end Cert.MlpIdeal.Entry

end
-- ==== Proof.Mlp.Norm.lean ====
/- The gradient of the norm, in the two forms the programs compute it: the reference differentiates the mean, the variance and
   the reciprocal root one by one, the kernel uses the closed form. On finite rows they are the same number. -/
module

public import proofs.«01_k».proof.Proof.Mlp.Math

@[expose] public section

noncomputable section

namespace Cert.MlpMath

open Idealize.ShloMosaic Idealize.ShloMosaic.ValueIdx
open scoped BigOperators

/-- The other constants. -/
abbrev minusHalf : EReal := Ideal.ofBits .f32 0xBF000000#32
abbrev small : EReal := Ideal.ofBits .f32 0x3727C5AC#32

/-- The words' values. -/
theorem two_eq : two = ((2 : ℝ) : EReal) := by
  have h : two = (8388608 : ℝ) * (((2 ^ 22)⁻¹ : ℝ) : EReal) := by simp [two, Ideal.ofBits, Ideal.ieee]
  rw [h, ← EReal.coe_mul]; norm_num
theorem width_eq : width = ((1024 : ℝ) : EReal) := by
  have h : width = (8388608 : ℝ) * (((2 ^ 13)⁻¹ : ℝ) : EReal) := by simp [width, Ideal.ofBits, Ideal.ieee]
  rw [h, ← EReal.coe_mul]; norm_num
theorem minusHalf_eq : minusHalf = ((-(1 / 2) : ℝ) : EReal) := by
  have h : minusHalf = -((8388608 : ℝ) * (((2 ^ 24)⁻¹ : ℝ) : EReal)) := by simp [minusHalf, Ideal.ofBits, Ideal.ieee]
  rw [h, ← EReal.coe_mul, ← EReal.coe_neg]; norm_num
theorem alpha_eq : alpha = ((9975792 * (2 ^ 23)⁻¹ : ℝ) : EReal) := by
  rw [EReal.coe_mul]; simp [alpha, Ideal.ofBits, Ideal.ieee]

/-- A number, not an infinity. -/
def Finite (x : EReal) : Prop := ∃ r : ℝ, x = r

theorem Finite.add {x y : EReal} (hx : Finite x) (hy : Finite y) : Finite (x + y) := by
  obtain ⟨a, rfl⟩ := hx; obtain ⟨b, rfl⟩ := hy; exact ⟨a + b, (EReal.coe_add a b).symm⟩

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.max {x y : EReal} (hx : Finite x) (hy : Finite y) : Finite (max x y) := by
  rcases max_choice x y with h | h <;> rw [h] <;> assumption

theorem coe_sum {n : Nat} (f : Fin n → ℝ) : ∑ j : Fin n, (f j : EReal) = ((∑ j : Fin n, f j : ℝ) : EReal) := by
  induction n with
  | zero => simp
  | succ n ih => rw [Fin.sum_univ_succ, Fin.sum_univ_succ, ih, EReal.coe_add]

theorem Finite.sum {n : Nat} {f : Fin n → EReal} (h : ∀ j, Finite (f j)) : Finite (∑ j : Fin n, f j) := by
  choose r hr using h
  exact ⟨∑ j, r j, by rw [← coe_sum]; exact Finset.sum_congr rfl fun j _ => hr j⟩

theorem finite_two : Finite two := ⟨2, two_eq⟩
theorem finite_zero : Finite zero := ⟨0, by rw [zero, zero_word]; rfl⟩
theorem finite_alpha : Finite alpha := ⟨_, alpha_eq⟩

theorem small_pos : ∃ e : ℝ, 0 < e ∧ small = e := by
  refine ⟨10995116 * (2 ^ 40)⁻¹, by positivity, ?_⟩
  rw [EReal.coe_mul]
  simp [small, Ideal.ofBits, Ideal.ieee]

theorem finite_slope {h : EReal} (hh : Finite h) : Finite (slope h) := finite_two.mul (hh.max finite_zero)

theorem finite_hidRow {a : Fin 1024 → EReal} {h : Fin 4096 → EReal} {wd : Fin 4096 → Fin 1024 → EReal} (ha : ∀ j, Finite (a j))
    (hh : ∀ k, Finite (h k)) (hd : ∀ k j, Finite (wd k j)) (k : Fin 4096) : Finite (hidRow a h wd k) :=
  (Finite.sum fun j => (ha j).mul (hd k j)).mul (finite_slope (hh k))

theorem finite_sumRow {a r : Fin 1024 → EReal} {h : Fin 4096 → EReal} {wd : Fin 4096 → Fin 1024 → EReal}
    {wu : Fin 1024 → Fin 4096 → EReal} (ha : ∀ j, Finite (a j)) (hr : ∀ j, Finite (r j)) (hh : ∀ k, Finite (h k))
    (hd : ∀ k j, Finite (wd k j)) (hu : ∀ q k, Finite (wu q k)) (q : Fin 1024) : Finite (sumRow a r h wd wu q) :=
  (finite_alpha.mul (hr q)).add (Finite.sum fun k => (finite_hidRow ha hh hd k).mul (hu q k))

/-- Dividing a number by the row's width. -/
theorem div_width (x : ℝ) : Ideal.div (x : EReal) width = ((x * (1 / 1024) : ℝ) : EReal) := by
  rw [width_eq, Ideal.div_coe (by norm_num), ← EReal.coe_mul]

theorem zero_add_word (x : EReal) : zero + x = x := by rw [zero, zero_word, zero_add]

/-- A row's centred values and its variance: what the norm computes from a finite row. -/
theorem row_facts (x : Fin 1024 → ℝ) :
    ∃ (c : Fin 1024 → ℝ) (V : ℝ), 0 < V ∧ ∑ j, c j = 0
      ∧ (∀ j, (x j : EReal) - Ideal.div (zero + ∑ k : Fin 1024, (x k : EReal)) width = c j)
      ∧ Ideal.div (zero + ∑ k : Fin 1024, (c k : EReal) * (c k : EReal)) width + small = V := by
  obtain ⟨e, he, hs⟩ := small_pos
  refine ⟨fun j => x j - (∑ k, x k) * (1 / 1024), (∑ k, (x k - (∑ k, x k) * (1 / 1024)) * (x k - (∑ k, x k) * (1 / 1024))) * (1 / 1024) + e, ?_, ?_, ?_, ?_⟩
  · have : 0 ≤ ∑ k, (x k - (∑ k, x k) * (1 / 1024)) * (x k - (∑ k, x k) * (1 / 1024)) :=
      Finset.sum_nonneg fun k _ => mul_self_nonneg _
    positivity
  · rw [Finset.sum_sub_distrib, Finset.sum_const, Finset.card_univ, Fintype.card_fin, nsmul_eq_mul]
    push_cast
    ring
  · intro j
    rw [zero_add_word, coe_sum, div_width, ← EReal.coe_sub]
  · simp only [← EReal.coe_mul]
    rw [zero_add_word, coe_sum, div_width, hs, ← EReal.coe_add]

/-- The scale of a row is a number. -/
theorem scale_eq {V : ℝ} (hV : 0 < V) : Ideal.rsqrt (V : EReal) = (((Real.sqrt V)⁻¹ : ℝ) : EReal) := by
  rw [Ideal.rsqrt_coe, if_neg (not_lt.mpr hV.le), if_neg hV.ne']

/-- The gradient through the norm as the reference computes it, from the centred row `c`, the variance `V`, the scale `s` and
    the incoming gradient `y`. -/
def refShare (c y : Fin 1024 → EReal) (s V : EReal) : EReal :=
  zero + ∑ _k : Fin 1, Ideal.div ((zero + ∑ j : Fin 1024, c j * y j) * (minusHalf * Ideal.div s V)) width

def refRow (c y : Fin 1024 → EReal) (s V : EReal) (q : Fin 1024) : EReal :=
  (y q * s + refShare c y s V * (two * c q))
    + (zero + ∑ _k : Fin 1, Ideal.div ((zero + ∑ j : Fin 1024, -(y j * s)) + (zero + ∑ j : Fin 1024, -(refShare c y s V * (two * c j)))) width)

/-- The two forms agree. -/
theorem norm_row (c y : Fin 1024 → ℝ) (V : ℝ) (hV : 0 < V) (hc : ∑ j, c j = 0) (q : Fin 1024) :
    refRow (fun j => (c j : EReal)) (fun j => (y j : EReal)) (Ideal.rsqrt V) V q
      = normRow (Ideal.rsqrt V) (fun j => (y j : EReal)) (fun j => (c j : EReal) * Ideal.rsqrt V) q := by
  have hs : (Real.sqrt V)⁻¹ * (Real.sqrt V)⁻¹ = 1 / V := by
    rw [← mul_inv, Real.mul_self_sqrt hV.le, one_div]
  rw [scale_eq hV]
  generalize (Real.sqrt V)⁻¹ = s at hs
  have share : refShare (fun j => (c j : EReal)) (fun j => (y j : EReal)) s V
      = (((∑ j, c j * y j) * (-(1 / 2) * (s * (1 / V))) * (1 / 1024) : ℝ) : EReal) := by
    unfold refShare
    simp only [← EReal.coe_mul]
    rw [zero_add_word, zero_add_word, coe_sum, Ideal.div_coe hV.ne', minusHalf_eq, Fin.sum_univ_one]
    simp only [← EReal.coe_mul]
    rw [div_width]
  unfold refRow normRow
  rw [share, two_eq]
  generalize hk : (∑ j, c j * y j) * (-(1 / 2) * (s * (1 / V))) * (1 / 1024) = k
  simp only [← EReal.coe_mul, ← EReal.coe_neg, ← EReal.coe_add]
  rw [zero_add_word, zero_add_word, zero_add_word, coe_sum, coe_sum, coe_sum, coe_sum, Fin.sum_univ_one, ← EReal.coe_add, div_width, div_width, div_width]
  simp only [← EReal.coe_mul, ← EReal.coe_neg, ← EReal.coe_add, ← EReal.coe_sub]
  refine congrArg _ ?_
  have e1 : ∑ j, -(y j * s) = -((∑ j, y j) * s) := by rw [Finset.sum_neg_distrib, ← Finset.sum_mul]
  have e2 : ∑ j, -(k * (2 * c j)) = 0 := by rw [Finset.sum_neg_distrib, ← Finset.mul_sum, ← Finset.mul_sum, hc]; ring
  have e3 : ∑ j, y j * (c j * s) = (∑ j, c j * y j) * s := by
    rw [Finset.sum_mul]; exact Finset.sum_congr rfl fun j _ => by ring
  rw [e1, e2, e3, ← hk, ← hs]
  ring

end Cert.MlpMath

end
-- ==== Proof.Mlp.Reference.lean ====
/- The MLP's reference read at an index: every result is the gradient of Math.lean. The gradient through the norm is that on
   finite arrays. -/
module

public import proofs.«01_k».proof.Proof.Mlp.Norm
public import proofs.«01_k».proof.Proof.Gen.MlpRefIdeal.Read
public import Idealize.ShloMosaic.Lib.Pipeline.Value
public import Idealize.ShloMosaic.Lib.Pointwise.SelectCore

@[expose] public section

set_option maxRecDepth 16384

noncomputable section

namespace Cert.MlpRefIdeal.Mlp

open Cert.MlpRefIdeal Cert.MlpRefIdeal.Read Cert.MlpMath
open Idealize.ShloMosaic hiding ix1 ix2 ix3 eq_ix1 eq_ix2 eq_ix3
open Idealize.ShloMosaic.ValueIdx
open scoped BigOperators

variable (x0 x1 : Vec Ideal S4096x1024 .f32) (x2 x3 : Vec Ideal S1x1024 .f32) (x4 : Vec Ideal S1024x4096 .f32)
  (x5 : Vec Ideal S4096x1024 .f32)

/-- The hidden rows before the square. -/
abbrev hidden : Hid.Idx → EReal := val_main_v27 x1 x2 x3 x4

/-- Choosing zero where the hidden value is not positive changes nothing: the slope is zero there. -/
theorem choose_slope (h a : EReal) :
    Scalar.select (Ideal.cmp .ogt h zero) (a * (two * max h zero)) zero = a * slope h := by
  have hz : zero = 0 := zero_word
  by_cases hh : (0 : EReal) < h
  · have e : Ideal.cmp .ogt h zero = 1 := by
      unfold Ideal.cmp
      rw [hz]
      simp [hh]
    rw [Scalar.select_of_eq_one e]
    rfl
  · have e : Ideal.cmp .ogt h zero = 0 := by
      unfold Ideal.cmp
      rw [hz]
      simp [hh]
    rw [Scalar.select_of_eq_zero e]
    unfold MlpMath.slope
    rw [hz, max_eq_right (not_lt.mp hh), mul_zero, mul_zero]

theorem result_hid (p k : Fin 4096) : val_main_v39 x0 x1 x2 x3 x4 x5 (ix2 p k) = dHid x0 (hidden x1 x2 x3 x4) x5 p k := by
  rw [val_main_v39_apply, val_main_v30_apply, val_main_v37_apply, val_main_v38_apply, val_main_cst_9_apply, val_main_v29_apply,
    val_main_cst_6_apply, val_main_v34_apply, val_main_v33_apply, val_main_cst_8_apply, val_main_v28_apply, val_main_v36_apply]
  refine (choose_slope _ _).trans (congrArg (· * _) (Finset.sum_congr rfl fun j _ => ?_))
  rw [show lidx_main_v36 (ix2 p k) j = ix2 p j from eq_ix2 _, show ridx_main_v36 (ix2 p k) j = ix2 k j from eq_ix2 _]

theorem result_dhp (p k : Fin 4096) : val_main_v78 x0 x1 x2 x3 x4 x5 (ix2 p k) = dHid x0 (hidden x1 x2 x3 x4) x5 p k := by
  rw [val_main_v78_apply]
  exact result_hid x0 x1 x2 x3 x4 x5 p k

/-- The gradient before the norm. -/
theorem before (p : Fin 4096) (q : Fin 1024) :
    val_main_v43 x0 x1 x2 x3 x4 x5 (ix2 p q) = dSum x0 (hidden x1 x2 x3 x4) x4 x5 p q := by
  rw [val_main_v43_apply, val_main_v42_apply, val_main_v41_apply, val_main_cst_10_apply, val_main_v40_apply]
  refine congrArg (alpha * x0 (ix2 p q) + ·) (Finset.sum_congr rfl fun k _ => ?_)
  rw [show lidx_main_v40 (ix2 p q) k = ix2 p k from eq_ix2 _, show ridx_main_v40 (ix2 p q) k = ix2 q k from eq_ix2 _, result_hid]
  rfl

/-- The shift's gradient and the scale's. -/
theorem result_shift (q : Fin 1024) :
    val_main_v45 x0 x1 x2 x3 x4 x5 (ix2 (0 : Fin 1) q) = dShift x0 (hidden x1 x2 x3 x4) x4 x5 q := by
  rw [val_main_v45_apply, val_main_v44_apply, val_main_cst_11_apply]
  refine (zero_add_word _).trans (Finset.sum_congr rfl fun p _ => ?_)
  rw [← before]
  refine congrArg _ ((eq_ix2 _).trans (congrArg (ix2 p) (Fin.ext ?_)))
  show 0 * 1024 + q.val = q.val
  omega

theorem result_gain (q : Fin 1024) :
    val_main_v48 x0 x1 x2 x3 x4 x5 (ix2 (0 : Fin 1) q) = dGain x0 (hidden x1 x2 x3 x4) x4 x5 (val_main_v22 x1) q := by
  rw [val_main_v48_apply, val_main_v47_apply, val_main_cst_12_apply]
  refine (zero_add_word _).trans (Finset.sum_congr rfl fun p _ => ?_)
  rw [show idx_main_v47 (idx_main_v48 (ix2 (0 : Fin 1) q)) p = ix2 p q from
    (eq_ix2 _).trans (congrArg (ix2 p) (Fin.ext (by show 0 * 1024 + q.val = q.val; omega))), val_main_v46_apply, before]
  exact mul_comm _ _

/-- The array of small gradients: the scale's in row 3, the shift's in row 4, zeros in the others. -/
theorem result_vec (r : Fin 8) (q : Fin 1024) :
    val_main_v77 x0 x1 x2 x3 x4 x5 (ix2 r q)
      = if r.val = 3 then dGain x0 (hidden x1 x2 x3 x4) x4 x5 (val_main_v22 x1) q
        else if r.val = 4 then dShift x0 (hidden x1 x2 x3 x4) x4 x5 q else 0 := by
  unfold val_main_v77
  refine (concatenate_cons_apply _ _ _ _ _ _ _).trans ?_
  by_cases h : r.val < 3
  · refine (concatenateAt_cons _ _ _ _ _ _ _ _).trans ((dif_pos h).trans ?_)
    rw [if_neg (by omega), if_neg (by omega), val_main_v75_apply, val_main_cst_20_apply]
    exact zero_word
  refine (concatenateAt_cons _ _ _ _ _ _ _ _).trans ((dif_neg h).trans ((concatenateAt_cons _ _ _ _ _ _ _ _).trans ?_))
  by_cases h3 : r.val = 3
  · refine (dif_pos (show r.val - 3 < 1 by omega)).trans ?_
    rw [if_pos h3, ← result_gain]
    refine congrArg _ ((eq_ix2 _).trans (congrArg₂ ix2 (Fin.ext ?_) (Fin.ext rfl)))
    show r.val - 3 = 0
    omega
  refine (dif_neg (show ¬ r.val - 3 < 1 by omega)).trans ((concatenateAt_cons _ _ _ _ _ _ _ _).trans ?_)
  by_cases h4 : r.val = 4
  · refine (dif_pos (show r.val - 3 - 1 < 1 by omega)).trans ?_
    rw [if_neg h3, if_pos h4, ← result_shift]
    refine congrArg _ ((eq_ix2 _).trans (congrArg₂ ix2 (Fin.ext ?_) (Fin.ext rfl)))
    show r.val - 3 - 1 = 0
    omega
  · refine (dif_neg (show ¬ r.val - 3 - 1 < 1 by omega)).trans ((concatenateAt_singleton _ _ _ _ _ _).trans ?_)
    rw [if_neg h3, if_neg h4, val_main_v76_apply, val_main_cst_21_apply]
    exact zero_word

/-- A row's centred values, its variance and its scale. -/
abbrev centred (p : Fin 4096) : Fin 1024 → EReal := fun j => val_main_v14 x1 (ix2 p j)
abbrev variance (p : Fin 4096) : EReal := val_main_v16 x1 (ix2 p (0 : Fin 1))
abbrev scale (p : Fin 4096) : EReal := val_main_v17 x1 (ix2 p (0 : Fin 1))

/-- A row's gradient before the norm times the norm's scale. -/
abbrev incoming (p : Fin 4096) : Fin 1024 → EReal := fun j => dSum x0 (hidden x1 x2 x3 x4) x4 x5 p j * x2 (ix2 (0 : Fin 1) j)

theorem scaled (p : Fin 4096) (q : Fin 1024) : val_main_v50 x0 x1 x2 x3 x4 x5 (ix2 p q) = incoming x0 x1 x2 x3 x4 x5 p q := by
  rw [val_main_v50_apply, before, val_main_v49_apply]
  exact congrArg (_ * ·) (congrArg x2 (eq_ix2 _))

theorem through (p : Fin 4096) (q : Fin 1024) :
    val_main_v55 x0 x1 x2 x3 x4 x5 (ix2 p q) = incoming x0 x1 x2 x3 x4 x5 p q * scale x1 p := by
  rw [val_main_v55_apply, scaled, val_main_v54_apply]
  exact congrArg (_ * ·) (congrArg (val_main_v17 x1) (eq_ix2 _))

theorem against (p : Fin 4096) :
    val_main_v53 x0 x1 x2 x3 x4 x5 (ix2 p (0 : Fin 1))
      = zero + ∑ j : Fin 1024, centred x1 p j * incoming x0 x1 x2 x3 x4 x5 p j := by
  rw [val_main_v53_apply, val_main_v52_apply, val_main_cst_13_apply]
  refine congrArg (zero + ·) (Finset.sum_congr rfl fun j _ => ?_)
  rw [show idx_main_v52 (idx_main_v53 (ix2 p (0 : Fin 1))) j = ix2 p j from
    (eq_ix2 _).trans (congrArg (ix2 · j) (Fin.ext (by show p.val * 1 + 0 = p.val; omega))), val_main_v51_apply, scaled]
  rfl

theorem by_variance (p : Fin 4096) :
    val_main_v56 x0 x1 x2 x3 x4 x5 (ix2 p (0 : Fin 1))
      = (zero + ∑ j : Fin 1024, centred x1 p j * incoming x0 x1 x2 x3 x4 x5 p j) * (minusHalf * Ideal.div (scale x1 p) (variance x1 p)) := by
  rw [val_main_v56_apply, against, val_main_v20_apply, val_main_v19_apply, val_main_cst_5_apply, val_main_v18_apply]
  rfl

theorem share (p : Fin 4096) (q : Fin 1024) :
    val_main_v63 x0 x1 x2 x3 x4 x5 (ix2 p q) = refShare (centred x1 p) (incoming x0 x1 x2 x3 x4 x5 p) (scale x1 p) (variance x1 p) := by
  rw [val_main_v63_apply, val_main_v62_apply, val_main_cst_16_apply]
  unfold refShare
  refine congrArg (zero + ·) (Finset.sum_congr rfl fun k _ => ?_)
  rw [show idx_main_v62 (idx_main_v63 (ix2 p q)) k = ix2 p (0 : Fin 1) from
    (eq_ix2 _).trans (congrArg₂ ix2 (Fin.ext rfl) (Subsingleton.elim _ _)), val_main_v61_apply, by_variance, val_main_v60_apply, val_main_cst_15_apply]
  rfl

theorem spread (p : Fin 4096) (q : Fin 1024) :
    val_main_v64 x0 x1 x2 x3 x4 x5 (ix2 p q)
      = refShare (centred x1 p) (incoming x0 x1 x2 x3 x4 x5 p) (scale x1 p) (variance x1 p) * (two * centred x1 p q) := by
  rw [val_main_v64_apply, share, val_main_v8_apply, val_main_v7_apply, val_main_cst_1_apply]
  refine congrArg (fun z => refShare (centred x1 p) (incoming x0 x1 x2 x3 x4 x5 p) (scale x1 p) (variance x1 p) * (two * z)) ?_
  rw [val_main_v5_apply]
  show _ = val_main_v14 x1 (ix2 p q)
  rw [val_main_v14_apply, val_main_v4_apply, val_main_v13_apply]

theorem sum_through (p : Fin 4096) :
    val_main_v59 x0 x1 x2 x3 x4 x5 (ix2 p (0 : Fin 1)) = zero + ∑ j : Fin 1024, -(incoming x0 x1 x2 x3 x4 x5 p j * scale x1 p) := by
  rw [val_main_v59_apply, val_main_v58_apply, val_main_cst_14_apply]
  refine congrArg (zero + ·) (Finset.sum_congr rfl fun j _ => ?_)
  rw [show idx_main_v58 (idx_main_v59 (ix2 p (0 : Fin 1))) j = ix2 p j from
    (eq_ix2 _).trans (congrArg (ix2 · j) (Fin.ext (by show p.val * 1 + 0 = p.val; omega))), val_main_v57_apply, through]
  rfl

theorem sum_spread (p : Fin 4096) :
    val_main_v67 x0 x1 x2 x3 x4 x5 (ix2 p (0 : Fin 1))
      = zero + ∑ j : Fin 1024, -(refShare (centred x1 p) (incoming x0 x1 x2 x3 x4 x5 p) (scale x1 p) (variance x1 p) * (two * centred x1 p j)) := by
  rw [val_main_v67_apply, val_main_v66_apply, val_main_cst_17_apply]
  refine congrArg (zero + ·) (Finset.sum_congr rfl fun j _ => ?_)
  rw [show idx_main_v66 (idx_main_v67 (ix2 p (0 : Fin 1))) j = ix2 p j from
    (eq_ix2 _).trans (congrArg (ix2 · j) (Fin.ext (by show p.val * 1 + 0 = p.val; omega))), val_main_v65_apply, spread]
  rfl

/-- The gradient of the norm's input, one derivative at a time. -/
theorem result_ref (p : Fin 4096) (q : Fin 1024) :
    val_main_v74 x0 x1 x2 x3 x4 x5 (ix2 p q) = refRow (centred x1 p) (incoming x0 x1 x2 x3 x4 x5 p) (scale x1 p) (variance x1 p) q := by
  rw [val_main_v74_apply, val_main_v68_apply, through, spread, val_main_v73_apply, val_main_v72_apply, val_main_cst_19_apply]
  unfold refRow
  refine congrArg (fun z => _ + (zero + z)) (Finset.sum_congr rfl fun k _ => ?_)
  rw [show idx_main_v72 (idx_main_v73 (ix2 p q)) k = ix2 p (0 : Fin 1) from
    (eq_ix2 _).trans (congrArg₂ ix2 (Fin.ext rfl) (Subsingleton.elim _ _)), val_main_v71_apply, val_main_v69_apply, sum_through, sum_spread,
    val_main_v70_apply, val_main_cst_18_apply]
  rfl

/-- The centred row and the variance of a finite row. -/
theorem centre (p : Fin 4096) (j : Fin 1024) :
    centred x1 p j = x1 (ix2 p j) - Ideal.div (zero + ∑ k : Fin 1024, x1 (ix2 p k)) width := by
  show val_main_v14 x1 (ix2 p j) = _
  rw [val_main_v14_apply, val_main_v13_apply, val_main_v3_apply, val_main_v1_apply, val_main_v0_apply, val_main_v2_apply,
    val_main_cst_0_apply, val_main_cst_apply]
  refine congrArg (fun z => x1 (ix2 p j) - Ideal.div (zero + z) width) (Finset.sum_congr rfl fun k _ => ?_)
  exact congrArg x1 ((eq_ix2 _).trans (congrArg (ix2 · k) (Fin.ext rfl)))

theorem variance_eq (p : Fin 4096) :
    variance x1 p = Ideal.div (zero + ∑ k : Fin 1024, centred x1 p k * centred x1 p k) width + small := by
  show val_main_v16 x1 (ix2 p (0 : Fin 1)) = _
  rw [val_main_v16_apply, val_main_v12_apply, val_main_v10_apply, val_main_v9_apply, val_main_v11_apply, val_main_v15_apply,
    val_main_cst_2_apply, val_main_cst_3_apply, val_main_cst_4_apply]
  refine congrArg (fun z => Ideal.div (zero + z) width + small) (Finset.sum_congr rfl fun k _ => ?_)
  rw [show idx_main_v9 (idx_main_v10 (ix2 p (0 : Fin 1))) k = ix2 p k from
    (eq_ix2 _).trans (congrArg (ix2 · k) (Fin.ext rfl)), val_main_v6_apply, val_main_v5_apply]
  show _ = val_main_v14 x1 (ix2 p k) * val_main_v14 x1 (ix2 p k)
  rw [val_main_v14_apply, val_main_v4_apply, val_main_v13_apply]
  rfl

/-- A normed row. -/
theorem normed (p : Fin 4096) (q : Fin 1024) : val_main_v22 x1 (ix2 p q) = centred x1 p q * scale x1 p := by
  rw [val_main_v22_apply, val_main_v21_apply]
  exact congrArg (_ * ·) (congrArg (val_main_v17 x1) (eq_ix2 _))

theorem scale_root (p : Fin 4096) : scale x1 p = Ideal.rsqrt (variance x1 p) := by
  show val_main_v17 x1 (ix2 p (0 : Fin 1)) = _
  rw [val_main_v17_apply]
  rfl

section
variable (h1 : ∀ i, Finite (x1 i)) (h2 : ∀ i, Finite (x2 i)) (h3 : ∀ i, Finite (x3 i)) (h4 : ∀ i, Finite (x4 i))
include h1

theorem row_finite (p : Fin 4096) :
    ∃ (c : Fin 1024 → ℝ) (V : ℝ), 0 < V ∧ ∑ j, c j = 0 ∧ (∀ j, centred x1 p j = c j) ∧ variance x1 p = V := by
  choose x hx using fun j : Fin 1024 => h1 (ix2 p j)
  obtain ⟨c, V, hV, hc, hcj, hv⟩ := row_facts x
  have hrow : ∀ j, centred x1 p j = c j := fun j => by
    rw [centre, ← hcj]
    simp only [hx]
  refine ⟨c, V, hV, hc, hrow, ?_⟩
  rw [variance_eq]
  simp only [hrow]
  exact hv

theorem normed_finite (p : Fin 4096) (q : Fin 1024) : Finite (val_main_v22 x1 (ix2 p q)) := by
  obtain ⟨c, V, hV, -, hc, hv⟩ := row_finite x1 h1 p
  rw [normed, scale_root, hc, hv, scale_eq hV]
  exact Finite.mul ⟨_, rfl⟩ ⟨_, rfl⟩

include h2 h3 h4

theorem hidden_finite (i : Hid.Idx) : Finite (hidden x1 x2 x3 x4 i) := by
  obtain ⟨p, k, rfl⟩ : ∃ (p k : Fin 4096), i = ix2 p k := ⟨i 0, i 1, eq_ix2 i⟩
  show Finite (val_main_v27 x1 x2 x3 x4 (ix2 p k))
  rw [val_main_v27_apply]
  refine Finite.sum fun j => Finite.mul ?_ (h4 _)
  rw [show lidx_main_v27 (ix2 p k) j = ix2 p j from eq_ix2 _, val_main_v26_apply, val_main_v24_apply, val_main_v23_apply, val_main_v25_apply]
  exact ((normed_finite x1 h1 p j).mul (h2 _)).add (h3 _)

/-- On finite arrays the reference's gradient of the norm's input is the closed form. -/
theorem result_norm (h0 : ∀ i, Finite (x0 i)) (h5 : ∀ i, Finite (x5 i)) (p : Fin 4096) (q : Fin 1024) :
    val_main_v74 x0 x1 x2 x3 x4 x5 (ix2 p q)
      = dNorm x0 (hidden x1 x2 x3 x4) x4 x5 (val_main_v22 x1) (val_main_v17 x1) x2 p q := by
  obtain ⟨c, V, hV, hc0, hc, hv⟩ := row_finite x1 h1 p
  have hy : ∀ j, Finite (incoming x0 x1 x2 x3 x4 x5 p j) := fun j =>
    (finite_sumRow (fun _ => h0 _) (fun _ => h0 _) (fun _ => hidden_finite x1 x2 x3 x4 h1 h2 h3 h4 _) (fun _ _ => h5 _)
      (fun _ _ => h4 _) j).mul (h2 _)
  choose y hyj using hy
  have hx : (fun j => val_main_v22 x1 (ix2 p j)) = fun j => (c j : EReal) * Ideal.rsqrt V := funext fun j => by
    rw [normed, scale_root, hc, hv]
  rw [result_ref]
  unfold dNorm
  rw [hx, show centred x1 p = fun j => (c j : EReal) from funext hc,
    show incoming x0 x1 x2 x3 x4 x5 p = fun j => (y j : EReal) from funext hyj,
    show (fun j => dSum x0 (hidden x1 x2 x3 x4) x4 x5 p j * x2 (ix2 (0 : Fin 1) j)) = fun j => (y j : EReal) from funext hyj,
    show val_main_v17 x1 (ix2 p (0 : Fin 1)) = Ideal.rsqrt V from (scale_root x1 p).trans (congrArg Ideal.rsqrt hv),
    show scale x1 p = Ideal.rsqrt V from (scale_root x1 p).trans (congrArg Ideal.rsqrt hv), hv]
  exact norm_row c y V hV hc0 q

end

end Cert.MlpRefIdeal.Mlp

end
-- ==== Proof.Mlp.Arrays.lean ====
/- The MLP's backward call over the extended reals: the arrays it leaves, each the reference's value. The arrays that move with
   the rows are written once per grid point; the small gradients are added into over all the points and written once. -/
module

public import proofs.«01_k».proof.Proof.Mlp.Outs
public import proofs.«01_k».proof.Proof.Mlp.Payloads
public import proofs.«01_k».proof.Proof.Mlp.Entry
public import proofs.«01_k».proof.Proof.Mlp.Reference
public import proofs.«01_k».proof.Proof.Gen.MlpIdeal.Value
public import Idealize.ShloMosaic.Lib.WritesUnit

@[expose] public section

set_option maxRecDepth 16384

noncomputable section

namespace Cert.MlpIdeal.Mlp

open Cert.MlpIdeal Cert.MlpIdeal.Gen Cert.MlpIdeal.Block Cert.MlpIdeal.Entry
open Idealize.ShloMosaic hiding ix1 ix2 ix3 eq_ix1 eq_ix2 eq_ix3
open Idealize.ShloMosaic.ValueIdx Idealize.ShloMosaic.TcCoe Idealize.SL.Sem
open Cert.MlpRefIdeal.Read (val_main_v74 val_main_v77 val_main_v78 val_main_v79)
open Cert.MlpMath (Finite)
open scoped BigOperators

variable (m : (ℓ : Loc nD τ sig) → Buf (Elt Ideal) ℓ) (c : Dev nD)

/-- The blocks of a point's operands, row by row. -/
theorem in_row (t : Fin cfg0.N) (r : Fin 256) : inRow (iblk m c 0 t) r = fun j => dr m c (ix2 (row t r) j) :=
  funext fun j => block0 m c t r j
theorem hid_row (t : Fin cfg0.N) (r : Fin 256) : hidAt (iblk m c 2 t) r = fun k => hp m c (ix2 (row t r) k) :=
  funext fun k => block2 m c t r k
theorem down_all (t : Fin cfg0.N) : downAt (iblk m c 4 t) = fun k j => wd m c (ix2 k j) :=
  funext fun k => funext fun j => block4 m c t k j
theorem up_all (t : Fin cfg0.N) : upAt (iblk m c 3 t) = fun q k => wu m c (ix2 q k) :=
  funext fun q => funext fun k => block3 m c t q k

/-- The hidden gradient in a point's block. -/
theorem hid_at (t : Fin cfg0.N) (r : Fin 256) (k : Fin 4096) :
    dhpBlock (iblk m c 0 t) (iblk m c 2 t) (iblk m c 4 t) (ix2 r k) = MlpMath.dHid (dr m c) (hp m c) (wd m c) (row t r) k := by
  refine (dhp_at _ _ _ (ix2 r k)).trans ?_
  show MlpMath.hidRow (inRow (iblk m c 0 t) r) (hidAt (iblk m c 2 t) r) (downAt (iblk m c 4 t)) k = _
  rw [in_row, hid_row, down_all]
  rfl

/-- The gradient before the norm in a point's block. -/
theorem before_at (t : Fin cfg0.N) (r : Fin 256) (q : Fin 1024) :
    sumBlock (iblk m c 0 t) (iblk m c 1 t) (iblk m c 2 t) (iblk m c 3 t) (iblk m c 4 t) (ix2 r q)
      = MlpMath.dSum (dr m c) (hp m c) (wu m c) (wd m c) (row t r) q := by
  refine (sum_at _ _ _ _ _ r q).trans ?_
  rw [in_row, hid_row, down_all, up_all,
    show (fun j => (iblk m c 1 t : Vec Ideal S256x1024 .f32) (ix2 r j)) = fun j => dr m c (ix2 (row t r) j) from
      funext fun j => block1 m c t r j]
  rfl

/-- The gradient of the norm's input in a point's block. -/
theorem norm_block (t : Fin cfg0.N) (r : Fin 256) (q : Fin 1024) :
    d1Block (iblk m c 0 t) (iblk m c 1 t) (iblk m c 2 t) (iblk m c 3 t) (iblk m c 4 t) (iblk m c 5 t) (iblk m c 6 t) (iblk m c 7 t) (ix2 r q)
      = MlpMath.dNorm (dr m c) (hp m c) (wu m c) (wd m c) (xh m c) (rs m c) (g m c) (row t r) q := by
  refine (norm_at _ _ _ _ _ _ _ _ r q).trans ?_
  rw [show (fun j => sumBlock (iblk m c 0 t) (iblk m c 1 t) (iblk m c 2 t) (iblk m c 3 t) (iblk m c 4 t) (ix2 r j)
        * (iblk m c 7 t : Vec Ideal S1x1024 .f32) (ix2 (0 : Fin 1) j))
      = fun j => MlpMath.dSum (dr m c) (hp m c) (wu m c) (wd m c) (row t r) j * g m c (ix2 (0 : Fin 1) j) from
      funext fun j => congrArg₂ (· * ·) (before_at m c t r j) (block7 m c t 0 j),
    show (fun j => (iblk m c 5 t : Vec Ideal S256x1024 .f32) (ix2 r j)) = fun j => xh m c (ix2 (row t r) j) from
      funext fun j => block5 m c t r j]
  exact congrArg (fun s => MlpMath.normRow s _ _ q) (block6 m c t r 0)

/-- The point whose block holds row `p`. -/
def pt (p : Fin 4096) : Fin cfg0.N := ⟨p.val / 256, by have := p.isLt; rw [show cfg0.N = 16 from N_0]; omega⟩

/-- Result window 8 at the end: the hidden gradient. -/
theorem final8 : (dats m 0 c).arrAt 8 cfg0.N = val_main_v78 (dr m c) (r1 m c) (g m c) (b m c) (wu m c) (wd m c) := by
  refine (dats m 0 c).arrAt_eq_of_cover 8 _ (fun t _ => ?_) (fun i => ?_)
  · rw [Value.flushed8, left8]
    funext j
    obtain ⟨r, q, rfl⟩ : ∃ (r : Fin 256) (q : Fin 4096), j = ix2 r q := ⟨j 0, j 1, eq_ix2 j⟩
    exact (hid_at m c t r q).trans ((MlpRefIdeal.Mlp.result_dhp _ _ _ _ _ _ (row t r) q).symm.trans (rows8 _ t r q).symm)
  · have h0 : (i 0 : Nat) < 4096 := (i 0).isLt
    have h1 : (i 1 : Nat) < 4096 := (i 1).isLt
    refine ⟨pt (i 0), flush0_8 _, ?_⟩
    have hi : win0_8.index (pt (i 0)) 0 = (pt (i 0)).val ∧ win0_8.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v26_0).slice (win0_8.rect (pt (i 0)))).set
    rw [View.set_slice_whole, Rect.mem_set_unit]
    intro ax
    match ax with
    | ⟨0, _⟩ => show win0_8.index (pt (i 0)) 0 * 256 ≤ (i 0 : Nat) ∧ (i 0 : Nat) < win0_8.index (pt (i 0)) 0 * 256 + 256
                rw [hi.1, hp]; omega
    | ⟨1, _⟩ => show win0_8.index (pt (i 0)) 1 * 4096 ≤ (i 1 : Nat) ∧ (i 1 : Nat) < win0_8.index (pt (i 0)) 1 * 4096 + 4096
                rw [hi.2]; omega

/-- Every element of the launch's arrays is finite. -/
structure AllFinite : Prop where
  dr : ∀ i, Finite (dr m c i)
  r1 : ∀ i, Finite (r1 m c i)
  g : ∀ i, Finite (g m c i)
  b : ∀ i, Finite (b m c i)
  wu : ∀ i, Finite (wu m c i)
  wd : ∀ i, Finite (wd m c i)

/-- A point's block of the gradient through the norm is the reference's. -/
theorem norm_eq (hf : AllFinite m c) (t : Fin cfg0.N) (r : Fin 256) (q : Fin 1024) :
    d1Block (iblk m c 0 t) (iblk m c 1 t) (iblk m c 2 t) (iblk m c 3 t) (iblk m c 4 t) (iblk m c 5 t) (iblk m c 6 t) (iblk m c 7 t) (ix2 r q)
      = val_main_v74 (dr m c) (r1 m c) (g m c) (b m c) (wu m c) (wd m c) (ix2 (row t r) q) :=
  (norm_block m c t r q).trans (MlpRefIdeal.Mlp.result_norm _ _ _ _ _ _ hf.r1 hf.g hf.b hf.wu hf.dr hf.wd (row t r) q).symm

/-- Result window 9 at the end: the gradient of the norm's input. -/
theorem final9 (hf : AllFinite m c) :
    (dats m 0 c).arrAt 9 cfg0.N = val_main_v74 (dr m c) (r1 m c) (g m c) (b m c) (wu m c) (wd m c) := by
  refine (dats m 0 c).arrAt_eq_of_cover 9 _ (fun t _ => ?_) (fun i => ?_)
  · rw [Value.flushed9, left9]
    funext j
    obtain ⟨r, q, rfl⟩ : ∃ (r : Fin 256) (q : Fin 1024), j = ix2 r q := ⟨j 0, j 1, eq_ix2 j⟩
    exact (norm_eq m c hf t r q).trans (rows9 _ t r q).symm
  · have h0 : (i 0 : Nat) < 4096 := (i 0).isLt
    have h1 : (i 1 : Nat) < 1024 := (i 1).isLt
    refine ⟨pt (i 0), flush0_9 _, ?_⟩
    have hi : win0_9.index (pt (i 0)) 0 = (pt (i 0)).val ∧ win0_9.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v26_1).slice (win0_9.rect (pt (i 0)))).set
    rw [View.set_slice_whole, Rect.mem_set_unit]
    intro ax
    match ax with
    | ⟨0, _⟩ => show win0_9.index (pt (i 0)) 0 * 256 ≤ (i 0 : Nat) ∧ (i 0 : Nat) < win0_9.index (pt (i 0)) 0 * 256 + 256
                rw [hi.1, hp]; omega
    | ⟨1, _⟩ => show win0_9.index (pt (i 0)) 1 * 1024 ≤ (i 1 : Nat) ∧ (i 1 : Nat) < win0_9.index (pt (i 0)) 1 * 1024 + 1024
                rw [hi.2]; omega

/-- Result window 10 at the end: the same array in the narrower format. -/
theorem final10 (hf : AllFinite m c) :
    (dats m 0 c).arrAt 10 cfg0.N = val_main_v79 (dr m c) (r1 m c) (g m c) (b m c) (wu m c) (wd m c) := by
  refine (dats m 0 c).arrAt_eq_of_cover 10 _ (fun t _ => ?_) (fun i => ?_)
  · rw [Value.flushed10, left10]
    funext j
    obtain ⟨r, q, rfl⟩ : ∃ (r : Fin 256) (q : Fin 1024), j = ix2 r q := ⟨j 0, j 1, eq_ix2 j⟩
    exact (norm_eq m c hf t r q).trans (rows10 _ t r q).symm
  · have h0 : (i 0 : Nat) < 4096 := (i 0).isLt
    have h1 : (i 1 : Nat) < 1024 := (i 1).isLt
    refine ⟨pt (i 0), flush0_10 _, ?_⟩
    have hi : win0_10.index (pt (i 0)) 0 = (pt (i 0)).val ∧ win0_10.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v26_2).slice (win0_10.rect (pt (i 0)))).set
    rw [View.set_slice_whole, Rect.mem_set_unit]
    intro ax
    match ax with
    | ⟨0, _⟩ => show win0_10.index (pt (i 0)) 0 * 256 ≤ (i 0 : Nat) ∧ (i 0 : Nat) < win0_10.index (pt (i 0)) 0 * 256 + 256
                rw [hi.1, hp]; omega
    | ⟨1, _⟩ => show win0_10.index (pt (i 0)) 1 * 1024 ≤ (i 1 : Nat) ∧ (i 1 : Nat) < win0_10.index (pt (i 0)) 1 * 1024 + 1024
                rw [hi.2]; omega

/-- A row's share of the gradient of the norm's scale, and of its shift. -/
def gainShare (q : Fin 1024) (p : Fin 4096) : EReal :=
  MlpMath.dSum (dr m c) (hp m c) (wu m c) (wd m c) p q * xh m c (ix2 p q)
def shiftShare (q : Fin 1024) (p : Fin 4096) : EReal := MlpMath.dSum (dr m c) (hp m c) (wu m c) (wd m c) p q

/-- What point `n` adds to a sum over the rows. -/
def part (f : Fin 4096 → EReal) (n : Nat) : EReal := if h : n < cfg0.N then ∑ p : Fin 256, f (row ⟨n, h⟩ p) else 0

theorem gain_at (t : Fin cfg0.N) (q : Fin 1024) :
    ∑ p : Fin 256, sumBlock (iblk m c 0 t) (iblk m c 1 t) (iblk m c 2 t) (iblk m c 3 t) (iblk m c 4 t) (ix2 p q)
        * (iblk m c 5 t : Vec Ideal S256x1024 .f32) (ix2 p q) = part (gainShare m c q) t.val := by
  rw [part, dif_pos t.isLt]
  exact Finset.sum_congr rfl fun p _ => congrArg₂ (· * ·) (before_at m c t p q) (block5 m c t p q)

theorem shift_at (t : Fin cfg0.N) (q : Fin 1024) :
    ∑ p : Fin 256, sumBlock (iblk m c 0 t) (iblk m c 1 t) (iblk m c 2 t) (iblk m c 3 t) (iblk m c 4 t) (ix2 p q)
      = part (shiftShare m c q) t.val := by
  rw [part, dif_pos t.isLt]
  exact Finset.sum_congr rfl fun p _ => before_at m c t p q

/-- All sixteen points' parts are the sum over all the rows. -/
theorem all_parts (f : Fin 4096 → EReal) : ∑ x ∈ Finset.range 16, part f x = ∑ p, f p := by
  rw [Finset.sum_range]
  rw [← Fintype.sum_equiv (finProdFinEquiv (m := 16) (n := 256))
    (fun x => f (row ⟨x.1.val, by rw [show cfg0.N = 16 from N_0]; exact x.1.isLt⟩ x.2)) _ ?_]
  · rw [Fintype.sum_prod_type]
    refine Finset.sum_congr rfl fun n _ => ?_
    rw [part, dif_pos (by rw [show cfg0.N = 16 from N_0]; exact n.isLt)]
  · intro x
    have e : row ⟨x.1.val, by rw [show cfg0.N = 16 from N_0]; exact x.1.isLt⟩ x.2 = (finProdFinEquiv (m := 16) (n := 256)) x :=
      Fin.ext (Nat.add_comm _ _)
    rw [e]

/-- What the points up to `n` have added: the scale's gradient in row 3, the shift's in row 4. -/
def soFar (n : Nat) : Vec Ideal S8x1024 .f32 := fun i =>
  if (i 0).val = 3 then ∑ x ∈ Finset.range (n + 1), part (gainShare m c (i 1)) x
  else if (i 0).val = 4 then ∑ x ∈ Finset.range (n + 1), part (shiftShare m c (i 1)) x else 0

theorem row_at (k r : Fin 8) (q : Fin 1024) (h : r.val = k.val) : (ix2 r q : S8x1024.Idx) = ix2 k q := congrArg (ix2 · q) (Fin.ext h)

/-- Where an element of a one-row piece lies in the array. -/
theorem emb_row (o : Nat) (k : Fin 8) (hk : k.val = o) (inb : ∀ a, (![o, 0] : Fin 2 → Nat) a + S1x1024.size a ≤ S8x1024.size a) (q : Fin 1024) :
    (ix2 k q : S8x1024.Idx) = (Rect.unit (s := S8x1024) ![o, 0] S1x1024.size inb).emb (ix2 (0 : Fin 1) q) := by
  subst hk
  refine funext fun ax => Fin.ext ?_
  match ax with
  | ⟨0, _⟩ => rfl
  | ⟨1, _⟩ => show q.val = 0 + 1 * q.val; omega

/-- An element of another row is not in the piece. -/
theorem not_mem_row (o : Nat) (inb : ∀ a, (![o, 0] : Fin 2 → Nat) a + S1x1024.size a ≤ S8x1024.size a) (r : Fin 8) (q : Fin 1024) (h : r.val ≠ o) :
    (ix2 r q : S8x1024.Idx) ∉ (Rect.unit (s := S8x1024) ![o, 0] S1x1024.size inb).set := by
  intro hm
  rw [Rect.mem_set_unit] at hm
  have h2 : o ≤ r.val ∧ r.val < o + 1 := hm 0
  omega

theorem first_point (t : Fin cfg0.N) (h : t.val % 16 = 0) : (outsAt0 m c t.val t.isLt).2.2.2 = soFar m c 0 := by
  have ht : t.val = 0 := by have := lt_of_lt_of_eq t.isLt N_0; omega
  rw [outsAt0_A m c t h]
  dsimp only
  rw [out_A_11]
  funext i
  obtain ⟨r, q, rfl⟩ : ∃ (r : Fin 8) (q : Fin 1024), i = ix2 r q := ⟨i 0, i 1, eq_ix2 i⟩
  show _ = if r.val = 3 then ∑ x ∈ Finset.range 1, part (gainShare m c q) x
    else if r.val = 4 then ∑ x ∈ Finset.range 1, part (shiftShare m c q) x else 0
  by_cases h4 : r.val = 4
  · rw [if_neg (by omega), if_pos h4, row_at 4 r q h4, Finset.sum_range_one]
    refine (congrArg _ (emb_row 4 4 rfl inb_S8x1024_S1x1024_4_0 q)).trans
      ((View.canon_cons_emb (Val := Elt Ideal) (Rect.unit (s := S8x1024) ![4, 0] S1x1024.size inb_S8x1024_S1x1024_4_0) _ _ (ix2 (0 : Fin 1) q)).trans ?_)
    rw [row4_at, shift_at, ht]
    exact (congrArg (· + _) MlpMath.zero_word).trans (zero_add _)
  refine (View.canon_cons_of_not_mem _ _ (?_ : (ix2 r q : S8x1024.Idx) ∉ _)).trans ?_
  · exact not_mem_row 4 inb_S8x1024_S1x1024_4_0 r q h4
  by_cases h3 : r.val = 3
  · rw [if_pos h3, row_at 3 r q h3, Finset.sum_range_one]
    refine (congrArg _ (emb_row 3 3 rfl inb_S8x1024_S1x1024_3_0 q)).trans
      ((View.canon_cons_emb (Val := Elt Ideal) (Rect.unit (s := S8x1024) ![3, 0] S1x1024.size inb_S8x1024_S1x1024_3_0) _ _ (ix2 (0 : Fin 1) q)).trans ?_)
    rw [row3_at, gain_at, ht]
    exact (congrArg (· + _) MlpMath.zero_word).trans (zero_add _)
  rw [if_neg h3, if_neg h4]
  refine (View.canon_cons_of_not_mem _ _ (?_ : (ix2 r q : S8x1024.Idx) ∉ _)).trans ?_
  · exact not_mem_row 3 inb_S8x1024_S1x1024_3_0 r q h3
  · rw [View.canon_cons_unit_zero (S := S8x1024) hz2]
    exact MlpMath.zero_word

theorem later_point (t : Fin cfg0.N) (h : ¬t.val % 16 = 0)
    (ih : (outsAt0 m c (t.val - 1) (Nat.lt_of_le_of_lt (Nat.sub_le _ _) t.isLt)).2.2.2 = soFar m c (t.val - 1)) :
    (outsAt0 m c t.val t.isLt).2.2.2 = soFar m c t.val := by
  have hs : t.val - 1 + 1 = t.val := by omega
  rw [outsAt0_B m c t h]
  dsimp only
  rw [out_B_11, ih]
  funext i
  obtain ⟨r, q, rfl⟩ : ∃ (r : Fin 8) (q : Fin 1024), i = ix2 r q := ⟨i 0, i 1, eq_ix2 i⟩
  show _ = if r.val = 3 then ∑ x ∈ Finset.range (t.val + 1), part (gainShare m c q) x
    else if r.val = 4 then ∑ x ∈ Finset.range (t.val + 1), part (shiftShare m c q) x else 0
  by_cases h4 : r.val = 4
  · rw [if_neg (by omega), if_pos h4, Finset.sum_range_succ]
    refine (View.read_writes_cons_rows_of_mem (o := 4) _ _ inb_S8x1024_S1x1024_4_0 _ _ (ix2 r q) (ix2 (0 : Fin 1) q) rfl (by show r.val = 4 + 0; omega) rfl).trans ?_
    rw [row4_at, shift_at]
    refine congrArg (· + _) ?_
    show (if (4 : Nat) = 3 then _ else if (4 : Nat) = 4 then ∑ x ∈ Finset.range (t.val - 1 + 1), part (shiftShare m c q) x else 0) = _
    rw [if_neg (by decide), if_pos rfl, hs]
  refine (View.read_writes_cons_rows_of_not_mem (o := 4) (W := 1) _ _ inb_S8x1024_S1x1024_4_0 _ _ (ix2 r q) rfl rfl (by show r.val < 4 ∨ 4 + 1 ≤ r.val; omega)).trans ?_
  by_cases h3 : r.val = 3
  · rw [if_pos h3, Finset.sum_range_succ]
    refine (View.read_writes_cons_rows_of_mem (o := 3) _ _ inb_S8x1024_S1x1024_3_0 _ _ (ix2 r q) (ix2 (0 : Fin 1) q) rfl (by show r.val = 3 + 0; omega) rfl).trans ?_
    rw [row3_at, gain_at]
    refine congrArg (· + _) ?_
    show (if (3 : Nat) = 3 then ∑ x ∈ Finset.range (t.val - 1 + 1), part (gainShare m c q) x else _) = _
    rw [if_pos rfl, hs]
  · rw [if_neg h3, if_neg h4]
    refine (View.read_writes_cons_rows_of_not_mem (o := 3) (W := 1) _ _ inb_S8x1024_S1x1024_3_0 _ _ (ix2 r q) rfl rfl (by show r.val < 3 ∨ 3 + 1 ≤ r.val; omega)).trans ?_
    rw [View.writes_nil, Memref.IsWhole.read_unread]
    exact (if_neg h3).trans (if_neg h4)

theorem after_point : ∀ (n : Nat) (hn : n < cfg0.N), (outsAt0 m c n hn).2.2.2 = soFar m c n
  | 0, hn => first_point m c ⟨0, hn⟩ rfl
  | n + 1, hn => later_point m c ⟨n + 1, hn⟩ (by have := lt_of_lt_of_eq hn N_0; show ¬(n + 1) % 16 = 0; omega)
      (after_point n (Nat.lt_of_succ_lt hn))

/-- Result window 11 at the end: the small gradients. -/
theorem final11 : (dats m 0 c).arrAt 11 cfg0.N = val_main_v77 (dr m c) (r1 m c) (g m c) (b m c) (wu m c) (wd m c) := by
  refine (dats m 0 c).arrAt_eq_of_cover 11 _ (fun t hf => ?_) (fun i => ⟨t0_15, (flush0_11 t0_15).mpr rfl, ?_⟩)
  · have h15 : t.val = 15 := by have := (flush0_11 t).mp hf; have := lt_of_lt_of_eq t.isLt N_0; omega
    rw [Value.flushed11, after_point]
    funext j
    obtain ⟨r, q, rfl⟩ : ∃ (r : Fin 8) (q : Fin 1024), j = ix2 r q := ⟨j 0, j 1, eq_ix2 j⟩
    refine Eq.trans ?_ ((MlpRefIdeal.Mlp.result_vec _ _ _ _ _ _ r q).symm.trans (whole11 _ t r q).symm)
    show (if r.val = 3 then ∑ x ∈ Finset.range (t.val + 1), part (gainShare m c q) x
      else if r.val = 4 then ∑ x ∈ Finset.range (t.val + 1), part (shiftShare m c q) x else 0) = _
    rw [h15, all_parts, all_parts]
    rfl
  · have h0 : (i 0 : Nat) < 8 := (i 0).isLt
    have h1 : (i 1 : Nat) < 1024 := (i 1).isLt
    have hi : win0_11.index t0_15 0 = 0 ∧ win0_11.index t0_15 1 = 0 := by decide
    show i ∈ ((View.whole main_v26_3).slice (win0_11.rect t0_15)).set
    rw [View.set_slice_whole, Rect.mem_set_unit]
    intro ax
    match ax with
    | ⟨0, _⟩ => show win0_11.index t0_15 0 * 8 ≤ (i 0 : Nat) ∧ (i 0 : Nat) < win0_11.index t0_15 0 * 8 + 8
                rw [hi.1]; omega
    | ⟨1, _⟩ => show win0_11.index t0_15 1 * 1024 ≤ (i 1 : Nat) ∧ (i 1 : Nat) < win0_11.index t0_15 1 * 1024 + 1024
                rw [hi.2]; omega

end Cert.MlpIdeal.Mlp

end
-- ==== Proof.Mlp.Claim.lean ====
/- The claims about the MLP's backward call: both programs run, and from finite arrays the call's idealization ends with the
   arrays the reference's ends with. -/
module

public import proofs.«01_k».proof.Defs
public import proofs.«01_k».proof.Proof.Mlp.Arrays
public import proofs.«01_k».proof.Proof.Gen.Mlp.Frame
public import proofs.«01_k».proof.Proof.Gen.MlpRefIdeal.Run
public import proofs.«01_k».proof.Proof.Gen.Pre_finite
public import Idealize.ShloMosaic.Lib.Quiescent
public import Idealize.ShloMosaic.Lib.KernelVsHost

@[expose] public section

set_option maxRecDepth 16384

noncomputable section

namespace Cert.MlpClaim

open Idealize.ShloMosaic Idealize.ShloMosaic.TcCoe Idealize.SL.Sem
open Cert.MlpIdeal.Gen (dats)
open Cert.MlpMath (Finite)

theorem frame_program : Cert.quiescent_Mlp := fun m ρ _ => Cert.Mlp.Gen.frame m ρ

theorem frame_ideal : Cert.quiescent_MlpIdeal := fun m ρ _ => Cert.MlpIdeal.Gen.frame m ρ

/-- The reference's run leaves its arguments alone, and it has no semaphore. -/
theorem frame_reference : Cert.quiescent_MlpRefIdeal := fun m ρ _ =>
  (θ_run Cert.MlpRefIdeal.defs _ _).mono
    (fun r h => ⟨fun c => (h c).2.2.2.2, sem_eq_zero_of_no_sems rfl r.2⟩) (Cert.MlpRefIdeal.Value.run m ρ)

/-- A value whose magnitude is below infinity is a real. -/
theorem finite_of_olt (x : EReal)
    (h : FloatOps.cmpf (F := Ideal) (φ := .f32) .olt (FloatOps.hostAbsf (F := Ideal) (φ := .f32) x) (FloatOps.ofBits (F := Ideal) .f32 0x7F800000#32) = 1#1) :
    Finite x := by
  have hw := (Ideal.xori_weird_eq_hostAbsf_olt_inf x).trans h
  have hne : ¬ (x = ⊤ ∨ x = ⊥) := fun hx => by
    have e : FloatOps.weird (F := Ideal) (x : Ideal .f32) = 1#1 := by
      show BitVec.ofBool (decide (x = ⊤ ∨ x = ⊥)) = 1#1
      simp [hx]
    rw [e] at hw
    exact absurd hw (by decide)
  push Not at hne
  exact ⟨x.toReal, (EReal.coe_toReal hne.1 hne.2).symm⟩

/-- The precondition says that every element of the launch's arrays is finite. -/
theorem all_finite (m : (ℓ : Loc Cert.MlpIdeal.nD Cert.MlpIdeal.τ Cert.MlpIdeal.sig) → Buf (Elt Ideal) ℓ)
    (h : Cert.Pre_MlpIdeal_finite m) (c : Dev Cert.MlpIdeal.nD) : Cert.MlpIdeal.Mlp.AllFinite m c := by
  obtain ⟨e0, e1, e2, e3, e4, e5⟩ := h c
  exact ⟨fun i => finite_of_olt _ (congrFun e0 i), fun i => finite_of_olt _ (congrFun e1 i), fun i => finite_of_olt _ (congrFun e2 i),
    fun i => finite_of_olt _ (congrFun e3 i), fun i => finite_of_olt _ (congrFun e4 i), fun i => finite_of_olt _ (congrFun e5 i)⟩

/-- Result by result. -/
theorem equal : Cert.algebraic_MlpIdeal_MlpRefIdeal_pre_finite := by
  intro m g m' g' hpre hargs
  refine ⟨fun c => (dats m 0 c).arrAt 8 Cert.MlpIdeal.cfg0.N, fun c => (dats m 0 c).arrAt 9 Cert.MlpIdeal.cfg0.N,
    fun c => (dats m 0 c).arrAt 10 Cert.MlpIdeal.cfg0.N, fun c => (dats m 0 c).arrAt 11 Cert.MlpIdeal.cfg0.N,
    (θ_run Cert.MlpIdeal.defs _ _).mono (fun _ h => h) (Cert.MlpIdeal.Value.run_blocks m g),
    (θ_run Cert.MlpRefIdeal.defs _ _).mono (fun r h c => ?_) (Cert.MlpRefIdeal.Value.run m' g')⟩
  obtain ⟨a0, a1, a2, a3, a4, a5⟩ := hargs c
  obtain ⟨h0, h1, h2, h3, hargs'⟩ := h c
  have hf := all_finite m hpre c
  refine ⟨h0.trans ?_, h1.trans ?_, h2.trans ?_, h3.trans ?_, hargs'⟩
  · refine (Cert.MlpRefIdeal.Read.val_main_v78_eq _ _).trans ?_
    rw [a0, a1, a2, a3, a4, a5]
    exact (Cert.MlpIdeal.Mlp.final8 m c).symm
  · refine (Cert.MlpRefIdeal.Read.val_main_v74_eq _ _).trans ?_
    rw [a0, a1, a2, a3, a4, a5]
    exact (Cert.MlpIdeal.Mlp.final9 m c hf).symm
  · refine (Cert.MlpRefIdeal.Read.val_main_v79_eq _ _).trans ?_
    rw [a0, a1, a2, a3, a4, a5]
    exact (Cert.MlpIdeal.Mlp.final10 m c hf).symm
  · refine (Cert.MlpRefIdeal.Read.val_main_v77_eq _ _).trans ?_
    rw [a0, a1, a2, a3, a4, a5]
    exact (Cert.MlpIdeal.Mlp.final11 m c).symm

end Cert.MlpClaim

end
-- ==== Proof.Dx.Math.lean ====
/- The gradient of the block's input in plain mathematics over the extended reals: the scaled gradient of the residual sum plus
   seven products with the seven sections of the input projection. -/
module

public import Idealize.ShloMosaic.Lib.ValueIdx
public import Idealize.ShloMosaic.PureOps.Ideal.Laws

@[expose] public section

noncomputable section

namespace Cert.DxMath

open Idealize.ShloMosaic Idealize.ShloMosaic.ValueIdx
open scoped BigOperators

abbrev Rows : Shape := ⟨2, ![4096, 1024]⟩
abbrev Four : Shape := ⟨3, ![4, 4096, 1024]⟩
abbrev Two : Shape := ⟨3, ![2, 4096, 1024]⟩
abbrev Wide : Shape := ⟨2, ![1024, 7168]⟩

/-- The residual scale, as both programs write it. -/
abbrev alpha : EReal := Ideal.ofBits .f32 0x3F9837F0#32

/-- Column `k` of section `n`. -/
def wide (n : Fin 7) (k : Fin 1024) : Fin 7168 := ⟨1024 * n.val + k.val, by have := n.isLt; have := k.isLt; omega⟩

/-- The gradient of section `n` of the projected rows: four of the recurrence, one of the pooling, two of the gates. -/
def sect (dh : Four.Idx → EReal) (dp : Rows.Idx → EReal) (dg : Two.Idx → EReal) (n : Fin 7) (p : Fin 4096) (k : Fin 1024) : EReal :=
  match n with
  | 0 => dh (ix3 (0 : Fin 4) p k)
  | 1 => dh (ix3 (1 : Fin 4) p k)
  | 2 => dh (ix3 (2 : Fin 4) p k)
  | 3 => dh (ix3 (3 : Fin 4) p k)
  | 4 => dp (ix2 p k)
  | 5 => dg (ix3 (0 : Fin 2) p k)
  | 6 => dg (ix3 (1 : Fin 2) p k)

/-- The input's gradient at row `p`, column `q`. -/
def dx (d : Rows.Idx → EReal) (dh : Four.Idx → EReal) (dp : Rows.Idx → EReal) (dg : Two.Idx → EReal) (w : Wide.Idx → EReal)
    (p : Fin 4096) (q : Fin 1024) : EReal :=
  alpha * d (ix2 p q) + ∑ n : Fin 7, ∑ k : Fin 1024, sect dh dp dg n p k * w (ix2 q (wide n k))

/-- A sum over all 7168 columns goes section by section. -/
theorem sum_wide (f : Fin 7168 → EReal) : ∑ k : Fin 7168, f k = ∑ n : Fin 7, ∑ k : Fin 1024, f (wide n k) := by
  rw [← Fintype.sum_prod_type' (fun n k => f (wide n k))]
  refine (Fintype.sum_equiv (finProdFinEquiv (m := 7) (n := 1024)) (fun z => f (wide z.1 z.2)) f fun z => congrArg f ?_).symm
  exact Fin.ext (Nat.add_comm _ _)

/-- Seven terms added one after another onto a start. -/
theorem seven (a : EReal) (f : Fin 7 → EReal) : a + f 0 + f 1 + f 2 + f 3 + f 4 + f 5 + f 6 = a + ∑ n, f n := by
  rw [Fin.sum_univ_seven]
  simp only [add_assoc]

end Cert.DxMath

end
-- ==== Proof.Dx.Block.lean ====
/- What one grid point of the input gradient's kernel stores, read at an index over the extended reals. -/
module

public import proofs.«01_k».proof.Proof.Dx.Math
public import proofs.«01_k».proof.Proof.Gen.DxIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DxIdeal.Block

open Cert.DxIdeal Cert.DxIdeal.Gen
open Idealize.ShloMosaic Idealize.ShloMosaic.ValueIdx Cert.DxMath
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- A product with the second factor transposed. -/
theorem product {φ₁ φ₂ : FTy} (a : FVec Ideal S512x1024 φ₁) (b : FVec Ideal S1024x1024 φ₂) (p : Fin 512) (q : Fin 1024) :
    matmul dot_S512x1024_S1024x1024_S512x1024_1_1_0_0_n_n none a b (constant S512x1024 .f32 0x00000000#32) (ix2 p q)
      = ∑ k : Fin 1024, a (ix2 p k) * b (ix2 q k) := by
  refine (Ideal.matmul_transposedRhs_apply (M := 512) (K := 1024) (N := 1024) none a b _ p q).trans ?_
  rw [constant_apply, zero_word, zero_add]

variable (x0 : Vec Ideal S512x1024 .f32) (x1 : Vec Ideal S4x512x1024 .bf16) (x2 : Vec Ideal S512x1024 .bf16)
  (x3 : Vec Ideal S2x512x1024 .bf16) (x4 : Vec Ideal S1024x7168 .bf16) (x5 : Vec Ideal S8x128 .f32)

/-- Section `n` of a point's blocks. -/
def part (n : Fin 7) (p : Fin 512) (k : Fin 1024) : EReal :=
  match n with
  | 0 => x1 (ix3 (0 : Fin 4) p k)
  | 1 => x1 (ix3 (1 : Fin 4) p k)
  | 2 => x1 (ix3 (2 : Fin 4) p k)
  | 3 => x1 (ix3 (3 : Fin 4) p k)
  | 4 => x2 (ix2 p k)
  | 5 => x3 (ix3 (0 : Fin 2) p k)
  | 6 => x3 (ix3 (1 : Fin 2) p k)

/-- One of the four recurrence sections, as it is loaded and flattened. -/
theorem of_four (o : Nat) (n : Fin 4) (ho : o = n.val) (inb : ∀ a, (![o, 0, 0] : Fin 3 → Nat) a + S1x512x1024.size a ≤ S4x512x1024.size a)
    (p : Fin 512) (k : Fin 1024) :
    shapeCast S512x1024 (View.ld (Val := Elt Ideal) x1 (Rect.unit (s := S4x512x1024) ![o, 0, 0] S1x512x1024.size inb))
      shapeCasts_S1x512x1024_S512x1024 (ix2 p k) = x1 (ix3 n p k) := by
  subst ho
  rw [shapeCast_1ab_ab_apply]
  refine View.ld_unit_apply_of x1 _ _ _ _ _ fun ax => ?_
  match ax with
  | ⟨0, _⟩ => exact (Nat.add_zero _).symm
  | ⟨1, _⟩ => exact (Nat.zero_add _).symm
  | ⟨2, _⟩ => exact (Nat.zero_add _).symm

/-- One of the two gate sections, as it is loaded and flattened. -/
theorem of_two (o : Nat) (n : Fin 2) (ho : o = n.val) (inb : ∀ a, (![o, 0, 0] : Fin 3 → Nat) a + S1x512x1024.size a ≤ S2x512x1024.size a)
    (p : Fin 512) (k : Fin 1024) :
    shapeCast S512x1024 (View.ld (Val := Elt Ideal) x3 (Rect.unit (s := S2x512x1024) ![o, 0, 0] S1x512x1024.size inb))
      shapeCasts_S1x512x1024_S512x1024 (ix2 p k) = x3 (ix3 n p k) := by
  subst ho
  rw [shapeCast_1ab_ab_apply]
  refine View.ld_unit_apply_of x3 _ _ _ _ _ fun ax => ?_
  match ax with
  | ⟨0, _⟩ => exact (Nat.add_zero _).symm
  | ⟨1, _⟩ => exact (Nat.zero_add _).symm
  | ⟨2, _⟩ => exact (Nat.zero_add _).symm

/-- Section `n` of the projection's weights, as it is loaded. -/
theorem of_weights (o : Nat) (n : Fin 7) (ho : o = 1024 * n.val) (inb : ∀ a, (![0, o] : Fin 2 → Nat) a + S1024x1024.size a ≤ S1024x7168.size a)
    (q k : Fin 1024) :
    View.ld (Val := Elt Ideal) x4 (Rect.unit (s := S1024x7168) ![0, o] S1024x1024.size inb) (ix2 q k) = x4 (ix2 q (wide n k)) := by
  subst ho
  refine View.ld_unit_apply_of x4 _ _ _ _ _ fun ax => ?_
  match ax with
  | ⟨0, _⟩ => exact (Nat.zero_add _).symm
  | ⟨1, _⟩ => rfl

/-- The stored block. -/
theorem stored (p : Fin 512) (q : Fin 1024) :
    out0_6 (F := Ideal) x0 x1 x2 x3 x4 x5 (ix2 p q)
      = alpha * x0 (ix2 p q) + ∑ n : Fin 7, ∑ k : Fin 1024, part x1 x2 x3 n p k * x4 (ix2 q (wide n k)) := by
  unfold out0_6
  rw [View.canon_unit_zero (S := S512x1024) hz2]
  unfold k0_pay1 k0_pay7 k0_pay2 k0_pay3 k0_pay4 k0_pay5 k0_pay6 k0_pay8
  rw [View.ld_unit_zero (S := S512x1024) hz2, View.ld_unit_zero (S := S512x1024) hz2]
  simp only [shapeCast_self]
  refine Eq.trans ?_ (seven _ _)
  refine congrArg₂ (· + ·) (congrArg₂ (· + ·) (congrArg₂ (· + ·) (congrArg₂ (· + ·) (congrArg₂ (· + ·) (congrArg₂ (· + ·) (congrArg₂ (· + ·) rfl ?_) ?_) ?_) ?_) ?_) ?_) ?_
  · exact (product _ _ p q).trans (Finset.sum_congr rfl fun k _ => congrArg₂ (· * ·) (of_four x1 0 0 rfl _ p k) (of_weights x4 0 0 rfl _ q k))
  · exact (product _ _ p q).trans (Finset.sum_congr rfl fun k _ => congrArg₂ (· * ·) (of_four x1 1 1 rfl _ p k) (of_weights x4 1024 1 rfl _ q k))
  · exact (product _ _ p q).trans (Finset.sum_congr rfl fun k _ => congrArg₂ (· * ·) (of_four x1 2 2 rfl _ p k) (of_weights x4 2048 2 rfl _ q k))
  · exact (product _ _ p q).trans (Finset.sum_congr rfl fun k _ => congrArg₂ (· * ·) (of_four x1 3 3 rfl _ p k) (of_weights x4 3072 3 rfl _ q k))
  · exact (product _ _ p q).trans (Finset.sum_congr rfl fun k _ => congrArg₂ (· * ·) rfl (of_weights x4 4096 4 rfl _ q k))
  · exact (product _ _ p q).trans (Finset.sum_congr rfl fun k _ => congrArg₂ (· * ·) (of_two x3 0 0 rfl _ p k) (of_weights x4 5120 5 rfl _ q k))
  · exact (product _ _ p q).trans (Finset.sum_congr rfl fun k _ => congrArg₂ (· * ·) (of_two x3 1 1 rfl _ p k) (of_weights x4 6144 6 rfl _ q k))

end Cert.DxIdeal.Block

end
-- ==== Proof.Dx.Reference.lean ====
/- The reference of the input's gradient, read at an index over the extended reals. -/
module

public import proofs.«01_k».proof.Proof.Dx.Math
public import proofs.«01_k».proof.Proof.Gen.DxRefIdeal.Read
public import Idealize.ShloMosaic.Lib.ValueIdx
public import Idealize.ShloMosaic.Lib.Pointwise.SelectCore

@[expose] public section

set_option maxRecDepth 16384

noncomputable section

namespace Cert.DxRefIdeal.Grad

open Cert.DxRefIdeal Cert.DxRefIdeal.Read
open Idealize.ShloMosaic hiding ix1 ix2 ix3 eq_ix1 eq_ix2 eq_ix3
open Idealize.ShloMosaic.ValueIdx Cert.DxMath
open scoped BigOperators

variable (x0 : Rows.Idx → EReal) (x1 : Four.Idx → EReal) (x2 : Rows.Idx → EReal) (x3 : Two.Idx → EReal) (x4 : Wide.Idx → EReal)

/-- A row and column of a section that the reshape keeps. -/
theorem keep {n : Nat} (f : (⟨3, ![n, 4096, 1024]⟩ : Shape).Idx → EReal) (i j : (⟨3, ![n, 4096, 1024]⟩ : Shape).Idx)
    (h0 : (i 0).val = (j 0).val) (h1 : (i 1).val = (j 1).val) (h2 : (i 2).val = (j 2).val) : f i = f j := by
  refine congrArg f (funext fun ax => Fin.ext ?_)
  match ax with
  | ⟨0, _⟩ => exact h0
  | ⟨1, _⟩ => exact h1
  | ⟨2, _⟩ => exact h2

theorem flat_row (p : Fin 4096) (k : Fin 1024) : (p.val * 1024 + k.val) / 1024 % 4096 = p.val := by
  have := p.isLt; have := k.isLt; omega

theorem flat_col (p : Fin 4096) (k : Fin 1024) : (p.val * 1024 + k.val) % 1024 = k.val := by
  have := k.isLt; omega

theorem section0 (p : Fin 4096) (k : Fin 1024) : val_main_v1 (F := Ideal) x1 (ix2 p k) = x1 (ix3 (0 : Fin 4) p k) := by
  rw [val_main_v1_apply, val_main_v0_apply]
  exact keep x1 _ _ rfl (flat_row p k) (flat_col p k)

theorem section1 (p : Fin 4096) (k : Fin 1024) : val_main_v3 (F := Ideal) x1 (ix2 p k) = x1 (ix3 (1 : Fin 4) p k) := by
  rw [val_main_v3_apply, val_main_v2_apply]
  exact keep x1 _ _ rfl (flat_row p k) (flat_col p k)

theorem section2 (p : Fin 4096) (k : Fin 1024) : val_main_v5 (F := Ideal) x1 (ix2 p k) = x1 (ix3 (2 : Fin 4) p k) := by
  rw [val_main_v5_apply, val_main_v4_apply]
  exact keep x1 _ _ rfl (flat_row p k) (flat_col p k)

theorem section3 (p : Fin 4096) (k : Fin 1024) : val_main_v7 (F := Ideal) x1 (ix2 p k) = x1 (ix3 (3 : Fin 4) p k) := by
  rw [val_main_v7_apply, val_main_v6_apply]
  exact keep x1 _ _ rfl (flat_row p k) (flat_col p k)

theorem section5 (p : Fin 4096) (k : Fin 1024) : val_main_v9 (F := Ideal) x3 (ix2 p k) = x3 (ix3 (0 : Fin 2) p k) := by
  rw [val_main_v9_apply, val_main_v8_apply]
  exact keep x3 _ _ rfl (flat_row p k) (flat_col p k)

theorem section6 (p : Fin 4096) (k : Fin 1024) : val_main_v11 (F := Ideal) x3 (ix2 p k) = x3 (ix3 (1 : Fin 2) p k) := by
  rw [val_main_v11_apply, val_main_v10_apply]
  exact keep x3 _ _ rfl (flat_row p k) (flat_col p k)

/-- An index of a section, whose column is found by subtraction. -/
theorem found (f : Rows.Idx → EReal) (i : Rows.Idx) (p : Fin 4096) (k : Fin 1024) (h0 : (i 0).val = p.val) (h1 : (i 1).val = k.val) :
    f i = f (ix2 p k) :=
  congrArg f ((eq_ix2 i).trans (congrArg₂ ix2 (Fin.ext h0) (Fin.ext h1)))

/-- The seven sections lie side by side. -/
theorem joined (n : Fin 7) (p : Fin 4096) (k : Fin 1024) :
    val_main_v23 (F := Ideal) x1 x2 x3 (ix2 p (wide n k)) = sect x1 x2 x3 n p k := by
  have hk := k.isLt
  unfold val_main_v23
  refine (concatenate_cons_apply _ _ _ _ _ _ _).trans ((concatenateAt_cons _ _ _ _ _ _ _ _).trans ?_)
  match n with
  | 0 =>
    refine (dif_pos (show 1024 * 0 + k.val < 1024 by omega)).trans ?_
    exact (found (val_main_v1 (F := Ideal) x1) _ p k rfl (show 1024 * 0 + k.val = k.val by omega)).trans (section0 x1 p k)
  | 1 =>
    refine (dif_neg (show ¬ 1024 * 1 + k.val < 1024 by omega)).trans ((concatenateAt_cons _ _ _ _ _ _ _ _).trans ?_)
    refine (dif_pos (show 1024 * 1 + k.val - 1024 < 1024 by omega)).trans ?_
    exact (found (val_main_v3 (F := Ideal) x1) _ p k rfl (show 1024 * 1 + k.val - 1024 = k.val by omega)).trans (section1 x1 p k)
  | 2 =>
    refine (dif_neg (show ¬ 1024 * 2 + k.val < 1024 by omega)).trans ((concatenateAt_cons _ _ _ _ _ _ _ _).trans ?_)
    refine (dif_neg (show ¬ 1024 * 2 + k.val - 1024 < 1024 by omega)).trans ((concatenateAt_cons _ _ _ _ _ _ _ _).trans ?_)
    refine (dif_pos (show 1024 * 2 + k.val - 1024 - 1024 < 1024 by omega)).trans ?_
    exact (found (val_main_v5 (F := Ideal) x1) _ p k rfl (show 1024 * 2 + k.val - 1024 - 1024 = k.val by omega)).trans (section2 x1 p k)
  | 3 =>
    refine (dif_neg (show ¬ 1024 * 3 + k.val < 1024 by omega)).trans ((concatenateAt_cons _ _ _ _ _ _ _ _).trans ?_)
    refine (dif_neg (show ¬ 1024 * 3 + k.val - 1024 < 1024 by omega)).trans ((concatenateAt_cons _ _ _ _ _ _ _ _).trans ?_)
    refine (dif_neg (show ¬ 1024 * 3 + k.val - 1024 - 1024 < 1024 by omega)).trans ((concatenateAt_cons _ _ _ _ _ _ _ _).trans ?_)
    refine (dif_pos (show 1024 * 3 + k.val - 1024 - 1024 - 1024 < 1024 by omega)).trans ?_
    exact (found (val_main_v7 (F := Ideal) x1) _ p k rfl (show 1024 * 3 + k.val - 1024 - 1024 - 1024 = k.val by omega)).trans (section3 x1 p k)
  | 4 =>
    refine (dif_neg (show ¬ 1024 * 4 + k.val < 1024 by omega)).trans ((concatenateAt_cons _ _ _ _ _ _ _ _).trans ?_)
    refine (dif_neg (show ¬ 1024 * 4 + k.val - 1024 < 1024 by omega)).trans ((concatenateAt_cons _ _ _ _ _ _ _ _).trans ?_)
    refine (dif_neg (show ¬ 1024 * 4 + k.val - 1024 - 1024 < 1024 by omega)).trans ((concatenateAt_cons _ _ _ _ _ _ _ _).trans ?_)
    refine (dif_neg (show ¬ 1024 * 4 + k.val - 1024 - 1024 - 1024 < 1024 by omega)).trans ((concatenateAt_cons _ _ _ _ _ _ _ _).trans ?_)
    refine (dif_pos (show 1024 * 4 + k.val - 1024 - 1024 - 1024 - 1024 < 1024 by omega)).trans ?_
    exact found _ _ p k rfl (show 1024 * 4 + k.val - 1024 - 1024 - 1024 - 1024 = k.val by omega)
  | 5 =>
    refine (dif_neg (show ¬ 1024 * 5 + k.val < 1024 by omega)).trans ((concatenateAt_cons _ _ _ _ _ _ _ _).trans ?_)
    refine (dif_neg (show ¬ 1024 * 5 + k.val - 1024 < 1024 by omega)).trans ((concatenateAt_cons _ _ _ _ _ _ _ _).trans ?_)
    refine (dif_neg (show ¬ 1024 * 5 + k.val - 1024 - 1024 < 1024 by omega)).trans ((concatenateAt_cons _ _ _ _ _ _ _ _).trans ?_)
    refine (dif_neg (show ¬ 1024 * 5 + k.val - 1024 - 1024 - 1024 < 1024 by omega)).trans ((concatenateAt_cons _ _ _ _ _ _ _ _).trans ?_)
    refine (dif_neg (show ¬ 1024 * 5 + k.val - 1024 - 1024 - 1024 - 1024 < 1024 by omega)).trans ((concatenateAt_cons _ _ _ _ _ _ _ _).trans ?_)
    refine (dif_pos (show 1024 * 5 + k.val - 1024 - 1024 - 1024 - 1024 - 1024 < 1024 by omega)).trans ?_
    refine (found (val_main_v9 (F := Ideal) x3) _ p k ?_ ?_).trans (section5 x3 p k)
    · rfl
    · show 1024 * 5 + k.val - 1024 - 1024 - 1024 - 1024 - 1024 = k.val
      omega
  | 6 =>
    refine (dif_neg (show ¬ 1024 * 6 + k.val < 1024 by omega)).trans ((concatenateAt_cons _ _ _ _ _ _ _ _).trans ?_)
    refine (dif_neg (show ¬ 1024 * 6 + k.val - 1024 < 1024 by omega)).trans ((concatenateAt_cons _ _ _ _ _ _ _ _).trans ?_)
    refine (dif_neg (show ¬ 1024 * 6 + k.val - 1024 - 1024 < 1024 by omega)).trans ((concatenateAt_cons _ _ _ _ _ _ _ _).trans ?_)
    refine (dif_neg (show ¬ 1024 * 6 + k.val - 1024 - 1024 - 1024 < 1024 by omega)).trans ((concatenateAt_cons _ _ _ _ _ _ _ _).trans ?_)
    refine (dif_neg (show ¬ 1024 * 6 + k.val - 1024 - 1024 - 1024 - 1024 < 1024 by omega)).trans ((concatenateAt_cons _ _ _ _ _ _ _ _).trans ?_)
    refine (dif_neg (show ¬ 1024 * 6 + k.val - 1024 - 1024 - 1024 - 1024 - 1024 < 1024 by omega)).trans ((concatenateAt_singleton _ _ _ _ _ _).trans ?_)
    refine (found (val_main_v11 (F := Ideal) x3) _ p k ?_ ?_).trans (section6 x3 p k)
    · rfl
    · show 1024 * 6 + k.val - 1024 - 1024 - 1024 - 1024 - 1024 - 1024 = k.val
      omega

/-- The reference's result. -/
theorem result (p : Fin 4096) (q : Fin 1024) : val_main_v27 (F := Ideal) x0 x1 x2 x3 x4 (ix2 p q) = dx x0 x1 x2 x3 x4 p q := by
  rw [val_main_v27_apply, val_main_v24_apply, val_main_v26_apply, val_main_v25_apply, val_main_cst_1_apply]
  refine (add_comm _ _).trans (congrArg (alpha * x0 (ix2 p q) + ·) ((sum_wide _).trans ?_))
  refine Finset.sum_congr rfl fun n _ => Finset.sum_congr rfl fun k _ => ?_
  rw [show lidx_main_v24 (ix2 p q) (wide n k) = ix2 p (wide n k) from eq_ix2 _,
    show ridx_main_v24 (ix2 p q) (wide n k) = ix2 q (wide n k) from eq_ix2 _, joined]

end Cert.DxRefIdeal.Grad

end
-- ==== Proof.Dx.Arrays.lean ====
/- The input gradient's call over the extended reals: what its windows read, and the array it leaves, the reference's value. -/
module

public import proofs.«01_k».proof.Proof.Dx.Block
public import proofs.«01_k».proof.Proof.Dx.Reference
public import proofs.«01_k».proof.Proof.Gen.DxIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DxIdeal.Grad

open Cert.DxIdeal Cert.DxIdeal.Gen Cert.DxIdeal.Block Cert.DxMath
open Idealize.ShloMosaic hiding ix1 ix2 ix3 eq_ix1 eq_ix2 eq_ix3
open Idealize.ShloMosaic.ValueIdx Idealize.ShloMosaic.TcCoe Idealize.SL.Sem
open Cert.DxRefIdeal.Read (val_main_v27)
open scoped BigOperators

variable (m : (ℓ : Loc nD τ sig) → Buf (Elt Ideal) ℓ) (c : Dev nD)

/-- The launch's arrays. -/
abbrev d : Rows.Idx → EReal := m ((c : Thread nD τ).loc main_arg0)
abbrev dh : Four.Idx → EReal := m ((c : Thread nD τ).loc main_arg1)
abbrev dp : Rows.Idx → EReal := m ((c : Thread nD τ).loc main_arg2)
abbrev dg : Two.Idx → EReal := m ((c : Thread nD τ).loc main_arg3)
abbrev w : Wide.Idx → EReal := m ((c : Thread nD τ).loc main_arg4)

/-- The host's conversions change nothing over the extended reals. -/
theorem V_dh : V m c main_v0 = dh m c := by
  unfold V; after_reads_simp; rfl

theorem V_dp : V m c main_v1 = dp m c := by
  unfold V; after_reads_simp; rfl

theorem V_dg : V m c main_v2 = dg m c := by
  unfold V; after_reads_simp; rfl

theorem V_w : V m c main_v3 = w m c := by
  unfold V; after_reads_simp; rfl

/-- The row of the array that row `r` of point `t`'s block is. -/
def row (t : Fin cfg0.N) (r : Fin 512) : Fin 4096 :=
  ⟨512 * t.val + r.val, by have h : t.val < 8 := lt_of_lt_of_eq t.isLt N_0; have := r.isLt; omega⟩

theorem rows0 (X : Rows.Idx → EReal) (t : Fin cfg0.N) (r : Fin 512) (q : Fin 1024) :
    ((cfg0.win 0).blk t).view.read (Elt Ideal) X (ix2 r q) = X (ix2 (row t r) q) := by
  have hi : win0_0.index t 0 = t.val ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 512 + 1 * r.val = 512 * t.val + r.val; rw [hi.1]; omega
  | ⟨1, _⟩ => show win0_0.index t 1 * 1024 + 1 * q.val = q.val; rw [hi.2]; omega

theorem rows1 (X : Four.Idx → EReal) (t : Fin cfg0.N) (n : Fin 4) (r : Fin 512) (q : Fin 1024) :
    ((cfg0.win 1).blk t).view.read (Elt Ideal) X (ix3 n r q) = X (ix3 n (row t r) q) := by
  have hi : win0_1.index t 0 = 0 ∧ win0_1.index t 1 = t.val ∧ win0_1.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_1.index t 0 * 4 + 1 * n.val = n.val; rw [hi.1]; omega
  | ⟨1, _⟩ => show win0_1.index t 1 * 512 + 1 * r.val = 512 * t.val + r.val; rw [hi.2.1]; omega
  | ⟨2, _⟩ => show win0_1.index t 2 * 1024 + 1 * q.val = q.val; rw [hi.2.2]; omega

theorem rows2 (X : Rows.Idx → EReal) (t : Fin cfg0.N) (r : Fin 512) (q : Fin 1024) :
    ((cfg0.win 2).blk t).view.read (Elt Ideal) X (ix2 r q) = X (ix2 (row t r) q) := by
  have hi : win0_2.index t 0 = t.val ∧ win0_2.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_2.index t 0 * 512 + 1 * r.val = 512 * t.val + r.val; rw [hi.1]; omega
  | ⟨1, _⟩ => show win0_2.index t 1 * 1024 + 1 * q.val = q.val; rw [hi.2]; omega

theorem rows3 (X : Two.Idx → EReal) (t : Fin cfg0.N) (n : Fin 2) (r : Fin 512) (q : Fin 1024) :
    ((cfg0.win 3).blk t).view.read (Elt Ideal) X (ix3 n r q) = X (ix3 n (row t r) q) := by
  have hi : win0_3.index t 0 = 0 ∧ win0_3.index t 1 = t.val ∧ win0_3.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_3.index t 0 * 2 + 1 * n.val = n.val; rw [hi.1]; omega
  | ⟨1, _⟩ => show win0_3.index t 1 * 512 + 1 * r.val = 512 * t.val + r.val; rw [hi.2.1]; omega
  | ⟨2, _⟩ => show win0_3.index t 2 * 1024 + 1 * q.val = q.val; rw [hi.2.2]; omega

theorem whole4 (X : Wide.Idx → EReal) (t : Fin cfg0.N) (r : Fin 1024) (q : Fin 7168) :
    ((cfg0.win 4).blk t).view.read (Elt Ideal) X (ix2 r q) = X (ix2 r q) := by
  have hi : win0_4.index t 0 = 0 ∧ win0_4.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_4.index t 0 * 1024 + 1 * r.val = r.val; rw [hi.1]; omega
  | ⟨1, _⟩ => show win0_4.index t 1 * 7168 + 1 * q.val = q.val; rw [hi.2]; omega

theorem rows6 (X : Rows.Idx → EReal) (t : Fin cfg0.N) (r : Fin 512) (q : Fin 1024) :
    ((cfg0.win 6).blk t).view.read (Elt Ideal) X (ix2 r q) = X (ix2 (row t r) q) := by
  have hi : win0_6.index t 0 = t.val ∧ win0_6.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_6.index t 0 * 512 + 1 * r.val = 512 * t.val + r.val; rw [hi.1]; omega
  | ⟨1, _⟩ => show win0_6.index t 1 * 1024 + 1 * q.val = q.val; rw [hi.2]; omega

theorem block0 (t : Fin cfg0.N) (r : Fin 512) (q : Fin 1024) : (iblk m c 0 t : Vec Ideal S512x1024 .f32) (ix2 r q) = d m c (ix2 (row t r) q) := by
  rw [← rows0 (d m c) t r q]
  unfold iblk
  exact congrArg (fun X => ((cfg0.win 0).blk t).view.read (Elt Ideal) X (ix2 r q)) (V_main_arg0 m c)

theorem block1 (t : Fin cfg0.N) (n : Fin 4) (r : Fin 512) (q : Fin 1024) :
    (iblk m c 1 t : Vec Ideal S4x512x1024 .bf16) (ix3 n r q) = dh m c (ix3 n (row t r) q) := by
  rw [← rows1 (dh m c) t n r q]
  unfold iblk
  exact congrArg (fun X => ((cfg0.win 1).blk t).view.read (Elt Ideal) X (ix3 n r q)) (V_dh m c)

theorem block2 (t : Fin cfg0.N) (r : Fin 512) (q : Fin 1024) : (iblk m c 2 t : Vec Ideal S512x1024 .bf16) (ix2 r q) = dp m c (ix2 (row t r) q) := by
  rw [← rows2 (dp m c) t r q]
  unfold iblk
  exact congrArg (fun X => ((cfg0.win 2).blk t).view.read (Elt Ideal) X (ix2 r q)) (V_dp m c)

theorem block3 (t : Fin cfg0.N) (n : Fin 2) (r : Fin 512) (q : Fin 1024) :
    (iblk m c 3 t : Vec Ideal S2x512x1024 .bf16) (ix3 n r q) = dg m c (ix3 n (row t r) q) := by
  rw [← rows3 (dg m c) t n r q]
  unfold iblk
  exact congrArg (fun X => ((cfg0.win 3).blk t).view.read (Elt Ideal) X (ix3 n r q)) (V_dg m c)

theorem block4 (t : Fin cfg0.N) (r : Fin 1024) (q : Fin 7168) : (iblk m c 4 t : Vec Ideal S1024x7168 .bf16) (ix2 r q) = w m c (ix2 r q) := by
  rw [← whole4 (w m c) t r q]
  unfold iblk
  exact congrArg (fun X => ((cfg0.win 4).blk t).view.read (Elt Ideal) X (ix2 r q)) (V_w m c)

/-- Section by section, a point's blocks are the rows of the arrays. -/
theorem part_at (t : Fin cfg0.N) (n : Fin 7) (r : Fin 512) (k : Fin 1024) :
    part (iblk m c 1 t) (iblk m c 2 t) (iblk m c 3 t) n r k = sect (dh m c) (dp m c) (dg m c) n (row t r) k := by
  match n with
  | 0 => exact block1 m c t 0 r k
  | 1 => exact block1 m c t 1 r k
  | 2 => exact block1 m c t 2 r k
  | 3 => exact block1 m c t 3 r k
  | 4 => exact block2 m c t r k
  | 5 => exact block3 m c t 0 r k
  | 6 => exact block3 m c t 1 r k

/-- The block a point stores. -/
theorem stored_at (t : Fin cfg0.N) (r : Fin 512) (q : Fin 1024) :
    out0_6 (F := Ideal) (iblk m c 0 t) (iblk m c 1 t) (iblk m c 2 t) (iblk m c 3 t) (iblk m c 4 t) (iblk m c 5 t) (ix2 r q)
      = dx (d m c) (dh m c) (dp m c) (dg m c) (w m c) (row t r) q :=
  (stored _ _ _ _ _ _ r q).trans (congrArg₂ (· + ·) (congrArg (alpha * ·) (block0 m c t r q))
    (Finset.sum_congr rfl fun n _ => Finset.sum_congr rfl fun k _ => congrArg₂ (· * ·) (part_at m c t n r k) (block4 m c t q (wide n k))))

/-- The point whose block holds row `p`. -/
def pt (p : Fin 4096) : Fin cfg0.N := ⟨p.val / 512, by have := p.isLt; rw [show cfg0.N = 8 from N_0]; omega⟩

/-- The result at the end. -/
theorem final6 : (dats m 0 c).arrAt 6 cfg0.N = val_main_v27 (F := Ideal) (d m c) (dh m c) (dp m c) (dg m c) (w m c) := by
  refine (dats m 0 c).arrAt_eq_of_cover 6 _ (fun t _ => ?_) (fun i => ?_)
  · rw [Value.flushed6]
    funext j
    obtain ⟨r, q, rfl⟩ : ∃ (r : Fin 512) (q : Fin 1024), j = ix2 r q := ⟨j 0, j 1, eq_ix2 j⟩
    exact (stored_at m c t r q).trans ((DxRefIdeal.Grad.result _ _ _ _ _ (row t r) q).symm.trans (rows6 _ t r q).symm)
  · have h0 : (i 0 : Nat) < 4096 := (i 0).isLt
    have h1 : (i 1 : Nat) < 1024 := (i 1).isLt
    refine ⟨pt (i 0), flush0_6 _, ?_⟩
    have hi : win0_6.index (pt (i 0)) 0 = (pt (i 0)).val ∧ win0_6.index (pt (i 0)) 1 = 0 := by
      rcases fin_N0 (pt (i 0)) with h | h | h | h | h | h | h | h <;> rw [h] <;> decide
    have hp : (pt (i 0)).val = (i 0).val / 512 := rfl
    show i ∈ ((View.whole main_v4).slice (win0_6.rect (pt (i 0)))).set
    rw [View.set_slice_whole, Rect.mem_set_unit]
    intro ax
    match ax with
    | ⟨0, _⟩ => show win0_6.index (pt (i 0)) 0 * 512 ≤ (i 0 : Nat) ∧ (i 0 : Nat) < win0_6.index (pt (i 0)) 0 * 512 + 512
                rw [hi.1, hp]; omega
    | ⟨1, _⟩ => show win0_6.index (pt (i 0)) 1 * 1024 ≤ (i 1 : Nat) ∧ (i 1 : Nat) < win0_6.index (pt (i 0)) 1 * 1024 + 1024
                rw [hi.2]; omega

end Cert.DxIdeal.Grad

end
-- ==== Proof.Dx.Claim.lean ====
/- The claims about the input gradient's call: both programs run, and the call's idealization ends with the arrays the reference's ends
   with. -/
module

public import proofs.«01_k».proof.Defs
public import proofs.«01_k».proof.Proof.Dx.Arrays
public import proofs.«01_k».proof.Proof.Gen.Dx.Frame
public import proofs.«01_k».proof.Proof.Gen.DxRefIdeal.Run
public import Idealize.ShloMosaic.Lib.Quiescent

@[expose] public section

set_option maxRecDepth 16384

noncomputable section

namespace Cert.DxClaim

open Idealize.ShloMosaic Idealize.ShloMosaic.TcCoe Idealize.SL.Sem
open Cert.DxIdeal.Gen (dats)

theorem frame_program : Cert.quiescent_Dx := fun m ρ _ => Cert.Dx.Gen.frame m ρ

theorem frame_ideal : Cert.quiescent_DxIdeal := fun m ρ _ => Cert.DxIdeal.Gen.frame m ρ

/-- The reference's run leaves its arguments alone, and it has no semaphore. -/
theorem frame_reference : Cert.quiescent_DxRefIdeal := fun m ρ _ =>
  (θ_run Cert.DxRefIdeal.defs _ _).mono
    (fun r h => ⟨fun c => (h c).2, sem_eq_zero_of_no_sems rfl r.2⟩) (Cert.DxRefIdeal.Value.run m ρ)

/-- Result by result. -/
theorem equal : Cert.algebraic_DxIdeal_DxRefIdeal := by
  intro m g m' g' _ hargs
  refine ⟨fun c => (dats m 0 c).arrAt 6 Cert.DxIdeal.cfg0.N,
    (θ_run Cert.DxIdeal.defs _ _).mono (fun _ h => h) (Cert.DxIdeal.Value.run_blocks m g),
    (θ_run Cert.DxRefIdeal.defs _ _).mono (fun r h c => ?_) (Cert.DxRefIdeal.Value.run m' g')⟩
  obtain ⟨a0, a1, a2, a3, a4, a5⟩ := hargs c
  obtain ⟨h0, hargs'⟩ := h c
  refine ⟨h0.trans ?_, hargs'⟩
  · refine (Cert.DxRefIdeal.Read.val_main_v27_eq _ _ _ _ _).trans ?_
    rw [a0, a1, a2, a3, a4]
    exact (Cert.DxIdeal.Grad.final6 m c).symm

end Cert.DxClaim

end
-- ==== Proof.Dw.Math.lean ====
/- A weight's gradient in plain mathematics over the extended reals: the sum over the 4096 rows of an input's element times an
   output gradient's element. -/
module

public import Idealize.ShloMosaic.Lib.ValueIdx
public import Idealize.ShloMosaic.PureOps.Ideal.Laws

@[expose] public section

noncomputable section

namespace Cert.DwMath

open Idealize.ShloMosaic Idealize.ShloMosaic.ValueIdx
open scoped BigOperators

abbrev Rows : Shape := ⟨2, ![4096, 1024]⟩
abbrev Turned : Shape := ⟨2, ![1024, 4096]⟩
abbrev Hidden : Shape := ⟨2, ![4096, 4096]⟩
abbrev Four : Shape := ⟨3, ![4, 4096, 1024]⟩

/-- Input column `p` against output column `q`. -/
def dw (x : Rows.Idx → EReal) (g : Fin 4096 → Fin 4096 → EReal) (p : Fin 1024) (q : Fin 4096) : EReal :=
  ∑ t : Fin 4096, x (ix2 t p) * g t q

/-- Column `q` of the four sections laid side by side. -/
def side (dh : Four.Idx → EReal) (t q : Fin 4096) : EReal :=
  dh (ix3 (⟨q.val / 1024, by have := q.isLt; omega⟩ : Fin 4) t (⟨q.val % 1024, by omega⟩ : Fin 1024))

end Cert.DwMath

end
-- ==== Proof.DwUp.Block.lean ====
/- What one grid point of the up weight's gradient kernel stores, read at an index over the extended reals. -/
module

public import proofs.«01_k».proof.Proof.Dw.Math
public import proofs.«01_k».proof.Proof.Gen.DwUpIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwUpIdeal.Block

open Cert.DwUpIdeal Cert.DwUpIdeal.Gen
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- The product over all 4096 rows. -/
theorem product (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ t : Fin 4096, a (ix2 p t) * b (ix2 t q) := by
  refine (Ideal.matmul_plain_apply (M := 1024) (K := 4096) (N := 512) none a b _ p q).trans ?_
  rw [constant_apply, zero_word, zero_add]

variable (x0 : Vec Ideal S1024x4096 .bf16) (x1 : Vec Ideal S4096x512 .bf16) (x2 : Vec Ideal S8x128 .f32)

/-- The value both stores hold. -/
theorem value (p : Fin 1024) (q : Fin 512) : k0_pay1 x1 x0 (ix2 p q) = ∑ t : Fin 4096, x0 (ix2 p t) * x1 (ix2 t q) := by
  unfold k0_pay1
  rw [shapeCast_self, shapeCast_self]
  exact product _ _ p q

/-- The full-precision result's block. -/
theorem stored_wide (p : Fin 1024) (q : Fin 512) :
    out0_3 (F := Ideal) x0 x1 x2 (ix2 p q) = ∑ t : Fin 4096, x0 (ix2 p t) * x1 (ix2 t q) := by
  unfold out0_3
  rw [View.canon_unit_zero (S := S1024x512) hz2, View.ld_unit_zero (S := S4096x512) hz2, View.ld_unit_zero (S := S1024x4096) hz2]
  exact value x0 x1 p q

/-- The rounded result's block. -/
theorem stored_narrow (p : Fin 1024) (q : Fin 512) :
    out0_4 (F := Ideal) x0 x1 x2 (ix2 p q) = ∑ t : Fin 4096, x0 (ix2 p t) * x1 (ix2 t q) := by
  unfold out0_4
  rw [View.canon_unit_zero (S := S1024x512) hz2, View.ld_unit_zero (S := S4096x512) hz2, View.ld_unit_zero (S := S1024x4096) hz2]
  exact value x0 x1 p q

end Cert.DwUpIdeal.Block

end
-- ==== Proof.DwUp.Reference.lean ====
/- The reference of the up weight's gradient, read at an index over the extended reals. -/
module

public import proofs.«01_k».proof.Proof.Dw.Math
public import proofs.«01_k».proof.Proof.Gen.DwUpRefIdeal.Read
public import Idealize.ShloMosaic.Lib.ValueIdx
public import Idealize.ShloMosaic.Lib.Pointwise.SelectCore

@[expose] public section

set_option maxRecDepth 16384

noncomputable section

namespace Cert.DwUpRefIdeal.Grad

open Cert.DwUpRefIdeal Cert.DwUpRefIdeal.Read
open Idealize.ShloMosaic hiding ix1 ix2 ix3 eq_ix1 eq_ix2 eq_ix3
open Idealize.ShloMosaic.ValueIdx
open Cert.DwMath
open scoped BigOperators

variable (x0 : Rows.Idx → EReal) (x1 : Hidden.Idx → EReal)

/-- The full-precision result. -/
theorem result_wide (p : Fin 1024) (q : Fin 4096) :
    val_main_v3 (F := Ideal) x0 x1 (ix2 p q) = dw x0 (fun t q => x1 (ix2 t q)) p q := by
  rw [val_main_v3_apply, show idx_main_v3 (ix2 p q) = ix2 q p from eq_ix2 _, val_main_v2_apply]
  refine Finset.sum_congr rfl fun t _ => ?_
  rw [show lidx_main_v2 (ix2 q p) t = ix2 t q from eq_ix2 _, show ridx_main_v2 (ix2 q p) t = ix2 t p from eq_ix2 _]
  exact mul_comm _ _

/-- The rounded one: rounding changes nothing over the extended reals. -/
theorem result_narrow (p : Fin 1024) (q : Fin 4096) :
    val_main_v4 (F := Ideal) x0 x1 (ix2 p q) = dw x0 (fun t q => x1 (ix2 t q)) p q :=
  result_wide x0 x1 p q

end Cert.DwUpRefIdeal.Grad

end
-- ==== Proof.DwUp.Arrays.lean ====
/- The up weight's gradient call over the extended reals: what its windows read, and the arrays it leaves, the reference's values. -/
module

public import proofs.«01_k».proof.Proof.DwUp.Block
public import proofs.«01_k».proof.Proof.DwUp.Reference
public import proofs.«01_k».proof.Proof.Gen.DwUpIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwUpIdeal.Grad

open Cert.DwUpIdeal Cert.DwUpIdeal.Gen Cert.DwUpIdeal.Block Cert.DwMath
open Idealize.ShloMosaic hiding ix1 ix2 ix3 eq_ix1 eq_ix2 eq_ix3
open Idealize.ShloMosaic.ValueIdx
open Idealize.ShloMosaic.TcCoe Idealize.SL.Sem
open Cert.DwUpRefIdeal.Read (val_main_v3 val_main_v4)
open scoped BigOperators

variable (m : (ℓ : Loc nD τ sig) → Buf (Elt Ideal) ℓ) (c : Dev nD)

/-- The launch's arrays. -/
abbrev x : Rows.Idx → EReal := m ((c : Thread nD τ).loc main_arg0)
abbrev g : Hidden.Idx → EReal := m ((c : Thread nD τ).loc main_arg1)

/-- The first operand is the input turned. -/
theorem V_x (p : Fin 1024) (t : Fin 4096) : V m c main_v1 (ix2 p t) = x m c (ix2 t p) := by
  have h : V m c main_v1 = transpose (α := EReal) S1024x4096 [1, 0] (x m c) (by decide) := by
    unfold V; after_reads_simp; rfl
  rw [h]
  exact transpose_ix2_apply _ _ _ _

/-- The second operand. -/
theorem V_g : V m c main_v2 = g m c := by
  unfold V; after_reads_simp; rfl

/-- The column of the arrays that column `q` of point `t`'s block is. -/
def col (t : Fin cfg0.N) (q : Fin 512) : Fin 4096 :=
  ⟨512 * t.val + q.val, by have h : t.val < 8 := lt_of_lt_of_eq t.isLt N_0; have := q.isLt; omega⟩

theorem whole0 (X : Turned.Idx → EReal) (t : Fin cfg0.N) (p : Fin 1024) (k : Fin 4096) :
    ((cfg0.win 0).blk t).view.read (Elt Ideal) X (ix2 p k) = X (ix2 p k) := by
  have hi : win0_0.index t 0 = 0 ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 1024 + 1 * p.val = p.val; rw [hi.1]; omega
  | ⟨1, _⟩ => show win0_0.index t 1 * 4096 + 1 * k.val = k.val; rw [hi.2]; omega

theorem columns1 (X : Hidden.Idx → EReal) (t : Fin cfg0.N) (k : Fin 4096) (q : Fin 512) :
    ((cfg0.win 1).blk t).view.read (Elt Ideal) X (ix2 k q) = X (ix2 k (col t q)) := by
  have hi : win0_1.index t 0 = 0 ∧ win0_1.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_1.index t 0 * 4096 + 1 * k.val = k.val; rw [hi.1]; omega
  | ⟨1, _⟩ => show win0_1.index t 1 * 512 + 1 * q.val = 512 * t.val + q.val; rw [hi.2]; omega

theorem columns3 (X : Turned.Idx → EReal) (t : Fin cfg0.N) (p : Fin 1024) (q : Fin 512) :
    ((cfg0.win 3).blk t).view.read (Elt Ideal) X (ix2 p q) = X (ix2 p (col t q)) := by
  have hi : win0_3.index t 0 = 0 ∧ win0_3.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_3.index t 0 * 1024 + 1 * p.val = p.val; rw [hi.1]; omega
  | ⟨1, _⟩ => show win0_3.index t 1 * 512 + 1 * q.val = 512 * t.val + q.val; rw [hi.2]; omega

theorem columns4 (X : Turned.Idx → EReal) (t : Fin cfg0.N) (p : Fin 1024) (q : Fin 512) :
    ((cfg0.win 4).blk t).view.read (Elt Ideal) X (ix2 p q) = X (ix2 p (col t q)) := by
  have hi : win0_4.index t 0 = 0 ∧ win0_4.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_4.index t 0 * 1024 + 1 * p.val = p.val; rw [hi.1]; omega
  | ⟨1, _⟩ => show win0_4.index t 1 * 512 + 1 * q.val = 512 * t.val + q.val; rw [hi.2]; omega

theorem block0 (t : Fin cfg0.N) (p : Fin 1024) (k : Fin 4096) : (iblk m c 0 t : Vec Ideal S1024x4096 .bf16) (ix2 p k) = x m c (ix2 k p) := by
  rw [← V_x m c p k]
  unfold iblk
  exact whole0 _ t p k

theorem block1 (t : Fin cfg0.N) (k : Fin 4096) (q : Fin 512) : (iblk m c 1 t : Vec Ideal S4096x512 .bf16) (ix2 k q) = g m c (ix2 k (col t q)) := by
  rw [← columns1 (g m c) t k q]
  unfold iblk
  exact congrArg (fun X => ((cfg0.win 1).blk t).view.read (Elt Ideal) X (ix2 k q)) (V_g m c)

/-- A point's two blocks. -/
abbrev left (t : Fin cfg0.N) : S1024x4096.Idx → EReal := iblk m c 0 t
abbrev right (t : Fin cfg0.N) : S4096x512.Idx → EReal := iblk m c 1 t

/-- The sums over a point's blocks are the gradient's. -/
theorem sum_at (t : Fin cfg0.N) (p : Fin 1024) (q : Fin 512) :
    ∑ k : Fin 4096, left m c t (ix2 p k) * right m c t (ix2 k q)
      = dw (x m c) (fun k q => g m c (ix2 k q)) p (col t q) :=
  Finset.sum_congr rfl fun k _ => congrArg₂ (· * ·) (block0 m c t p k) (block1 m c t k q)

/-- The point whose block holds column `q`. -/
def pt (q : Fin 4096) : Fin cfg0.N := ⟨q.val / 512, by have := q.isLt; rw [show cfg0.N = 8 from N_0]; omega⟩

/-- The full-precision result at the end. -/
theorem final3 : (dats m 0 c).arrAt 3 cfg0.N = val_main_v3 (F := Ideal) (x m c) (g m c) := by
  refine (dats m 0 c).arrAt_eq_of_cover 3 _ (fun t _ => ?_) (fun i => ?_)
  · rw [Value.flushed3]
    funext j
    obtain ⟨p, q, rfl⟩ : ∃ (p : Fin 1024) (q : Fin 512), j = ix2 p q := ⟨j 0, j 1, eq_ix2 j⟩
    exact (stored_wide _ _ _ p q).trans ((sum_at m c t p q).trans ((DwUpRefIdeal.Grad.result_wide _ _ p (col t q)).symm.trans (columns3 _ t p q).symm))
  · have h0 : (i 0 : Nat) < 1024 := (i 0).isLt
    have h1 : (i 1 : Nat) < 4096 := (i 1).isLt
    refine ⟨pt (i 1), flush0_3 _, ?_⟩
    have hi : win0_3.index (pt (i 1)) 1 = (pt (i 1)).val ∧ win0_3.index (pt (i 1)) 0 = 0 := by
      rcases fin_N0 (pt (i 1)) with h | h | h | h | h | h | h | h <;> rw [h] <;> decide
    have hp : (pt (i 1)).val = (i 1).val / 512 := rfl
    show i ∈ ((View.whole main_v3_0).slice (win0_3.rect (pt (i 1)))).set
    rw [View.set_slice_whole, Rect.mem_set_unit]
    intro ax
    match ax with
    | ⟨0, _⟩ => show win0_3.index (pt (i 1)) 0 * 1024 ≤ (i 0 : Nat) ∧ (i 0 : Nat) < win0_3.index (pt (i 1)) 0 * 1024 + 1024
                rw [hi.2]; omega
    | ⟨1, _⟩ => show win0_3.index (pt (i 1)) 1 * 512 ≤ (i 1 : Nat) ∧ (i 1 : Nat) < win0_3.index (pt (i 1)) 1 * 512 + 512
                rw [hi.1, hp]; omega

/-- The rounded result at the end. -/
theorem final4 : (dats m 0 c).arrAt 4 cfg0.N = val_main_v4 (F := Ideal) (x m c) (g m c) := by
  refine (dats m 0 c).arrAt_eq_of_cover 4 _ (fun t _ => ?_) (fun i => ?_)
  · rw [Value.flushed4]
    funext j
    obtain ⟨p, q, rfl⟩ : ∃ (p : Fin 1024) (q : Fin 512), j = ix2 p q := ⟨j 0, j 1, eq_ix2 j⟩
    exact (stored_narrow _ _ _ p q).trans ((sum_at m c t p q).trans ((DwUpRefIdeal.Grad.result_narrow _ _ p (col t q)).symm.trans (columns4 _ t p q).symm))
  · have h0 : (i 0 : Nat) < 1024 := (i 0).isLt
    have h1 : (i 1 : Nat) < 4096 := (i 1).isLt
    refine ⟨pt (i 1), flush0_4 _, ?_⟩
    have hi : win0_4.index (pt (i 1)) 1 = (pt (i 1)).val ∧ win0_4.index (pt (i 1)) 0 = 0 := by
      rcases fin_N0 (pt (i 1)) with h | h | h | h | h | h | h | h <;> rw [h] <;> decide
    have hp : (pt (i 1)).val = (i 1).val / 512 := rfl
    show i ∈ ((View.whole main_v3_1).slice (win0_4.rect (pt (i 1)))).set
    rw [View.set_slice_whole, Rect.mem_set_unit]
    intro ax
    match ax with
    | ⟨0, _⟩ => show win0_4.index (pt (i 1)) 0 * 1024 ≤ (i 0 : Nat) ∧ (i 0 : Nat) < win0_4.index (pt (i 1)) 0 * 1024 + 1024
                rw [hi.2]; omega
    | ⟨1, _⟩ => show win0_4.index (pt (i 1)) 1 * 512 ≤ (i 1 : Nat) ∧ (i 1 : Nat) < win0_4.index (pt (i 1)) 1 * 512 + 512
                rw [hi.1, hp]; omega

end Cert.DwUpIdeal.Grad

end
-- ==== Proof.DwUp.Claim.lean ====
/- The claims about the up weight's gradient call: both programs run, and the call's idealization ends with the arrays the reference's ends
   with. -/
module

public import proofs.«01_k».proof.Defs
public import proofs.«01_k».proof.Proof.DwUp.Arrays
public import proofs.«01_k».proof.Proof.Gen.DwUp.Frame
public import proofs.«01_k».proof.Proof.Gen.DwUpRefIdeal.Run
public import Idealize.ShloMosaic.Lib.Quiescent

@[expose] public section

set_option maxRecDepth 16384

noncomputable section

namespace Cert.DwUpClaim

open Idealize.ShloMosaic Idealize.ShloMosaic.TcCoe Idealize.SL.Sem
open Cert.DwUpIdeal.Gen (dats)

theorem frame_program : Cert.quiescent_DwUp := fun m ρ _ => Cert.DwUp.Gen.frame m ρ

theorem frame_ideal : Cert.quiescent_DwUpIdeal := fun m ρ _ => Cert.DwUpIdeal.Gen.frame m ρ

/-- The reference's run leaves its arguments alone, and it has no semaphore. -/
theorem frame_reference : Cert.quiescent_DwUpRefIdeal := fun m ρ _ =>
  (θ_run Cert.DwUpRefIdeal.defs _ _).mono
    (fun r h => ⟨fun c => (h c).2.2, sem_eq_zero_of_no_sems rfl r.2⟩) (Cert.DwUpRefIdeal.Value.run m ρ)

/-- Result by result. -/
theorem equal : Cert.algebraic_DwUpIdeal_DwUpRefIdeal := by
  intro m g m' g' _ hargs
  refine ⟨fun c => (dats m 0 c).arrAt 3 Cert.DwUpIdeal.cfg0.N, fun c => (dats m 0 c).arrAt 4 Cert.DwUpIdeal.cfg0.N,
    (θ_run Cert.DwUpIdeal.defs _ _).mono (fun _ h => h) (Cert.DwUpIdeal.Value.run_blocks m g),
    (θ_run Cert.DwUpRefIdeal.defs _ _).mono (fun r h c => ?_) (Cert.DwUpRefIdeal.Value.run m' g')⟩
  obtain ⟨a0, a1, a2⟩ := hargs c
  obtain ⟨h0, h1, hargs'⟩ := h c
  refine ⟨h0.trans ?_, h1.trans ?_, hargs'⟩
  · refine (Cert.DwUpRefIdeal.Read.val_main_v3_eq _ _).trans ?_
    rw [a0, a1]
    exact (Cert.DwUpIdeal.Grad.final3 m c).symm
  · refine (Cert.DwUpRefIdeal.Read.val_main_v4_eq _ _).trans ?_
    rw [a0, a1]
    exact (Cert.DwUpIdeal.Grad.final4 m c).symm

end Cert.DwUpClaim

end
-- ==== Proof.DwDown.Block.lean ====
/- What one grid point of the down weight's gradient kernel stores, read at an index over the extended reals. -/
module

public import proofs.«01_k».proof.Proof.Dw.Math
public import proofs.«01_k».proof.Proof.Gen.DwDownIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwDownIdeal.Block

open Cert.DwDownIdeal Cert.DwDownIdeal.Gen
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- The product over all 4096 rows. -/
theorem product (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ t : Fin 4096, a (ix2 p t) * b (ix2 t q) := by
  refine (Ideal.matmul_plain_apply (M := 1024) (K := 4096) (N := 512) none a b _ p q).trans ?_
  rw [constant_apply, zero_word, zero_add]

variable (x0 : Vec Ideal S1024x4096 .bf16) (x1 : Vec Ideal S4096x512 .bf16)

/-- The value both stores hold. -/
theorem value (p : Fin 1024) (q : Fin 512) : k0_pay1 x1 x0 (ix2 q p) = ∑ t : Fin 4096, x0 (ix2 p t) * x1 (ix2 t q) := by
  unfold k0_pay1
  refine (transpose_ix2_apply _ _ _ _).trans ?_
  rw [shapeCast_self, shapeCast_self]
  exact product _ _ p q

/-- The full-precision result's block. -/
theorem stored_wide (p : Fin 1024) (q : Fin 512) :
    out0_2 (F := Ideal) x0 x1 (ix2 q p) = ∑ t : Fin 4096, x0 (ix2 p t) * x1 (ix2 t q) := by
  unfold out0_2
  rw [View.canon_unit_zero (S := S512x1024) hz2, View.ld_unit_zero (S := S4096x512) hz2, View.ld_unit_zero (S := S1024x4096) hz2]
  exact value x0 x1 p q

/-- The rounded result's block. -/
theorem stored_narrow (p : Fin 1024) (q : Fin 512) :
    out0_3 (F := Ideal) x0 x1 (ix2 q p) = ∑ t : Fin 4096, x0 (ix2 p t) * x1 (ix2 t q) := by
  unfold out0_3
  rw [View.canon_unit_zero (S := S512x1024) hz2, View.ld_unit_zero (S := S4096x512) hz2, View.ld_unit_zero (S := S1024x4096) hz2]
  exact value x0 x1 p q

end Cert.DwDownIdeal.Block

end
-- ==== Proof.DwDown.Reference.lean ====
/- The reference of the down weight's gradient, read at an index over the extended reals. -/
module

public import proofs.«01_k».proof.Proof.Dw.Math
public import proofs.«01_k».proof.Proof.Gen.DwDownRefIdeal.Read
public import Idealize.ShloMosaic.Lib.ValueIdx
public import Idealize.ShloMosaic.Lib.Pointwise.SelectCore

@[expose] public section

set_option maxRecDepth 16384

noncomputable section

namespace Cert.DwDownRefIdeal.Grad

open Cert.DwDownRefIdeal Cert.DwDownRefIdeal.Read
open Idealize.ShloMosaic hiding ix1 ix2 ix3 eq_ix1 eq_ix2 eq_ix3
open Idealize.ShloMosaic.ValueIdx
open Cert.DwMath
open scoped BigOperators

variable (x0 : Rows.Idx → EReal) (x1 : Hidden.Idx → EReal)

/-- The squared activation. -/
abbrev act : Hidden.Idx → EReal := val_main_v2 (F := Ideal) x1

/-- The full-precision result. -/
theorem result_wide (p : Fin 1024) (q : Fin 4096) :
    val_main_v5 (F := Ideal) x0 x1 (ix2 q p) = dw x0 (fun t q => act x1 (ix2 t q)) p q := by
  rw [val_main_v5_apply, show idx_main_v5 (ix2 q p) = ix2 p q from eq_ix2 _, val_main_v4_apply]
  refine Finset.sum_congr rfl fun t _ => ?_
  rw [show lidx_main_v4 (ix2 p q) t = ix2 t p from eq_ix2 _, show ridx_main_v4 (ix2 p q) t = ix2 t q from eq_ix2 _]

/-- The rounded one: rounding changes nothing over the extended reals. -/
theorem result_narrow (p : Fin 1024) (q : Fin 4096) :
    val_main_v6 (F := Ideal) x0 x1 (ix2 q p) = dw x0 (fun t q => act x1 (ix2 t q)) p q :=
  result_wide x0 x1 p q

end Cert.DwDownRefIdeal.Grad

end
-- ==== Proof.DwDown.Arrays.lean ====
/- The down weight's gradient call over the extended reals: what its windows read, and the arrays it leaves, the reference's values. -/
module

public import proofs.«01_k».proof.Proof.DwDown.Block
public import proofs.«01_k».proof.Proof.DwDown.Reference
public import proofs.«01_k».proof.Proof.Gen.DwDownIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwDownIdeal.Grad

open Cert.DwDownIdeal Cert.DwDownIdeal.Gen Cert.DwDownIdeal.Block Cert.DwMath
open Idealize.ShloMosaic hiding ix1 ix2 ix3 eq_ix1 eq_ix2 eq_ix3
open Idealize.ShloMosaic.ValueIdx
open Idealize.ShloMosaic.TcCoe Idealize.SL.Sem
open Cert.DwDownRefIdeal.Read (val_main_v2 val_main_v5 val_main_v6)
open scoped BigOperators

variable (m : (ℓ : Loc nD τ sig) → Buf (Elt Ideal) ℓ) (c : Dev nD)

/-- The launch's arrays. -/
abbrev x : Rows.Idx → EReal := m ((c : Thread nD τ).loc main_arg0)
abbrev g : Hidden.Idx → EReal := m ((c : Thread nD τ).loc main_arg1)

/-- The first operand is the input turned. -/
theorem V_x (p : Fin 1024) (t : Fin 4096) : V m c main_v1 (ix2 p t) = x m c (ix2 t p) := by
  have h : V m c main_v1 = transpose (α := EReal) S1024x4096 [1, 0] (x m c) (by decide) := by
    unfold V; after_reads_simp; rfl
  rw [h]
  exact transpose_ix2_apply _ _ _ _

/-- The second operand. -/
theorem V_g : V m c main_v4 = val_main_v2 (F := Ideal) (g m c) := by
  unfold V; after_reads_simp; rfl

/-- The column of the arrays that column `q` of point `t`'s block is. -/
def col (t : Fin cfg0.N) (q : Fin 512) : Fin 4096 :=
  ⟨512 * t.val + q.val, by have h : t.val < 8 := lt_of_lt_of_eq t.isLt N_0; have := q.isLt; omega⟩

theorem whole0 (X : Turned.Idx → EReal) (t : Fin cfg0.N) (p : Fin 1024) (k : Fin 4096) :
    ((cfg0.win 0).blk t).view.read (Elt Ideal) X (ix2 p k) = X (ix2 p k) := by
  have hi : win0_0.index t 0 = 0 ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 1024 + 1 * p.val = p.val; rw [hi.1]; omega
  | ⟨1, _⟩ => show win0_0.index t 1 * 4096 + 1 * k.val = k.val; rw [hi.2]; omega

theorem columns1 (X : Hidden.Idx → EReal) (t : Fin cfg0.N) (k : Fin 4096) (q : Fin 512) :
    ((cfg0.win 1).blk t).view.read (Elt Ideal) X (ix2 k q) = X (ix2 k (col t q)) := by
  have hi : win0_1.index t 0 = 0 ∧ win0_1.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_1.index t 0 * 4096 + 1 * k.val = k.val; rw [hi.1]; omega
  | ⟨1, _⟩ => show win0_1.index t 1 * 512 + 1 * q.val = 512 * t.val + q.val; rw [hi.2]; omega

theorem rows2 (X : Rows.Idx → EReal) (t : Fin cfg0.N) (q : Fin 512) (p : Fin 1024) :
    ((cfg0.win 2).blk t).view.read (Elt Ideal) X (ix2 q p) = X (ix2 (col t q) p) := by
  have hi : win0_2.index t 0 = t.val ∧ win0_2.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_2.index t 0 * 512 + 1 * q.val = 512 * t.val + q.val; rw [hi.1]; omega
  | ⟨1, _⟩ => show win0_2.index t 1 * 1024 + 1 * p.val = p.val; rw [hi.2]; omega

theorem rows3 (X : Rows.Idx → EReal) (t : Fin cfg0.N) (q : Fin 512) (p : Fin 1024) :
    ((cfg0.win 3).blk t).view.read (Elt Ideal) X (ix2 q p) = X (ix2 (col t q) p) := by
  have hi : win0_3.index t 0 = t.val ∧ win0_3.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_3.index t 0 * 512 + 1 * q.val = 512 * t.val + q.val; rw [hi.1]; omega
  | ⟨1, _⟩ => show win0_3.index t 1 * 1024 + 1 * p.val = p.val; rw [hi.2]; omega

theorem block0 (t : Fin cfg0.N) (p : Fin 1024) (k : Fin 4096) : (iblk m c 0 t : Vec Ideal S1024x4096 .bf16) (ix2 p k) = x m c (ix2 k p) := by
  rw [← V_x m c p k]
  unfold iblk
  exact whole0 _ t p k

theorem block1 (t : Fin cfg0.N) (k : Fin 4096) (q : Fin 512) : (iblk m c 1 t : Vec Ideal S4096x512 .bf16) (ix2 k q) = val_main_v2 (F := Ideal) (g m c) (ix2 k (col t q)) := by
  rw [← columns1 (val_main_v2 (F := Ideal) (g m c)) t k q]
  unfold iblk
  exact congrArg (fun X => ((cfg0.win 1).blk t).view.read (Elt Ideal) X (ix2 k q)) (V_g m c)

/-- A point's two blocks. -/
abbrev left (t : Fin cfg0.N) : S1024x4096.Idx → EReal := iblk m c 0 t
abbrev right (t : Fin cfg0.N) : S4096x512.Idx → EReal := iblk m c 1 t

/-- The sums over a point's blocks are the gradient's. -/
theorem sum_at (t : Fin cfg0.N) (p : Fin 1024) (q : Fin 512) :
    ∑ k : Fin 4096, left m c t (ix2 p k) * right m c t (ix2 k q)
      = dw (x m c) (fun k q => val_main_v2 (F := Ideal) (g m c) (ix2 k q)) p (col t q) :=
  Finset.sum_congr rfl fun k _ => congrArg₂ (· * ·) (block0 m c t p k) (block1 m c t k q)

/-- The point whose block holds column `q`. -/
def pt (q : Fin 4096) : Fin cfg0.N := ⟨q.val / 512, by have := q.isLt; rw [show cfg0.N = 8 from N_0]; omega⟩

/-- The full-precision result at the end. -/
theorem final2 : (dats m 0 c).arrAt 2 cfg0.N = val_main_v5 (F := Ideal) (x m c) (g m c) := by
  refine (dats m 0 c).arrAt_eq_of_cover 2 _ (fun t _ => ?_) (fun i => ?_)
  · rw [Value.flushed2]
    funext j
    obtain ⟨q, p, rfl⟩ : ∃ (q : Fin 512) (p : Fin 1024), j = ix2 q p := ⟨j 0, j 1, eq_ix2 j⟩
    exact (stored_wide _ _ p q).trans ((sum_at m c t p q).trans ((DwDownRefIdeal.Grad.result_wide _ _ p (col t q)).symm.trans (rows2 _ t q p).symm))
  · have h0 : (i 0 : Nat) < 4096 := (i 0).isLt
    have h1 : (i 1 : Nat) < 1024 := (i 1).isLt
    refine ⟨pt (i 0), flush0_2 _, ?_⟩
    have hi : win0_2.index (pt (i 0)) 0 = (pt (i 0)).val ∧ win0_2.index (pt (i 0)) 1 = 0 := by
      rcases fin_N0 (pt (i 0)) with h | h | h | h | h | h | h | h <;> rw [h] <;> decide
    have hp : (pt (i 0)).val = (i 0).val / 512 := rfl
    show i ∈ ((View.whole main_v5_0).slice (win0_2.rect (pt (i 0)))).set
    rw [View.set_slice_whole, Rect.mem_set_unit]
    intro ax
    match ax with
    | ⟨0, _⟩ => show win0_2.index (pt (i 0)) 0 * 512 ≤ (i 0 : Nat) ∧ (i 0 : Nat) < win0_2.index (pt (i 0)) 0 * 512 + 512
                rw [hi.1, hp]; omega
    | ⟨1, _⟩ => show win0_2.index (pt (i 0)) 1 * 1024 ≤ (i 1 : Nat) ∧ (i 1 : Nat) < win0_2.index (pt (i 0)) 1 * 1024 + 1024
                rw [hi.2]; omega

/-- The rounded result at the end. -/
theorem final3 : (dats m 0 c).arrAt 3 cfg0.N = val_main_v6 (F := Ideal) (x m c) (g m c) := by
  refine (dats m 0 c).arrAt_eq_of_cover 3 _ (fun t _ => ?_) (fun i => ?_)
  · rw [Value.flushed3]
    funext j
    obtain ⟨q, p, rfl⟩ : ∃ (q : Fin 512) (p : Fin 1024), j = ix2 q p := ⟨j 0, j 1, eq_ix2 j⟩
    exact (stored_narrow _ _ p q).trans ((sum_at m c t p q).trans ((DwDownRefIdeal.Grad.result_narrow _ _ p (col t q)).symm.trans (rows3 _ t q p).symm))
  · have h0 : (i 0 : Nat) < 4096 := (i 0).isLt
    have h1 : (i 1 : Nat) < 1024 := (i 1).isLt
    refine ⟨pt (i 0), flush0_3 _, ?_⟩
    have hi : win0_3.index (pt (i 0)) 0 = (pt (i 0)).val ∧ win0_3.index (pt (i 0)) 1 = 0 := by
      rcases fin_N0 (pt (i 0)) with h | h | h | h | h | h | h | h <;> rw [h] <;> decide
    have hp : (pt (i 0)).val = (i 0).val / 512 := rfl
    show i ∈ ((View.whole main_v5_1).slice (win0_3.rect (pt (i 0)))).set
    rw [View.set_slice_whole, Rect.mem_set_unit]
    intro ax
    match ax with
    | ⟨0, _⟩ => show win0_3.index (pt (i 0)) 0 * 512 ≤ (i 0 : Nat) ∧ (i 0 : Nat) < win0_3.index (pt (i 0)) 0 * 512 + 512
                rw [hi.1, hp]; omega
    | ⟨1, _⟩ => show win0_3.index (pt (i 0)) 1 * 1024 ≤ (i 1 : Nat) ∧ (i 1 : Nat) < win0_3.index (pt (i 0)) 1 * 1024 + 1024
                rw [hi.2]; omega

end Cert.DwDownIdeal.Grad

end
-- ==== Proof.DwDown.Claim.lean ====
/- The claims about the down weight's gradient call: both programs run, and the call's idealization ends with the arrays the reference's ends
   with. -/
module

public import proofs.«01_k».proof.Defs
public import proofs.«01_k».proof.Proof.DwDown.Arrays
public import proofs.«01_k».proof.Proof.Gen.DwDown.Frame
public import proofs.«01_k».proof.Proof.Gen.DwDownRefIdeal.Run
public import Idealize.ShloMosaic.Lib.Quiescent

@[expose] public section

set_option maxRecDepth 16384

noncomputable section

namespace Cert.DwDownClaim

open Idealize.ShloMosaic Idealize.ShloMosaic.TcCoe Idealize.SL.Sem
open Cert.DwDownIdeal.Gen (dats)

theorem frame_program : Cert.quiescent_DwDown := fun m ρ _ => Cert.DwDown.Gen.frame m ρ

theorem frame_ideal : Cert.quiescent_DwDownIdeal := fun m ρ _ => Cert.DwDownIdeal.Gen.frame m ρ

/-- The reference's run leaves its arguments alone, and it has no semaphore. -/
theorem frame_reference : Cert.quiescent_DwDownRefIdeal := fun m ρ _ =>
  (θ_run Cert.DwDownRefIdeal.defs _ _).mono
    (fun r h => ⟨fun c => (h c).2.2, sem_eq_zero_of_no_sems rfl r.2⟩) (Cert.DwDownRefIdeal.Value.run m ρ)

/-- Result by result. -/
theorem equal : Cert.algebraic_DwDownIdeal_DwDownRefIdeal := by
  intro m g m' g' _ hargs
  refine ⟨fun c => (dats m 0 c).arrAt 2 Cert.DwDownIdeal.cfg0.N, fun c => (dats m 0 c).arrAt 3 Cert.DwDownIdeal.cfg0.N,
    (θ_run Cert.DwDownIdeal.defs _ _).mono (fun _ h => h) (Cert.DwDownIdeal.Value.run_blocks m g),
    (θ_run Cert.DwDownRefIdeal.defs _ _).mono (fun r h c => ?_) (Cert.DwDownRefIdeal.Value.run m' g')⟩
  obtain ⟨a0, a1⟩ := hargs c
  obtain ⟨h0, h1, hargs'⟩ := h c
  refine ⟨h0.trans ?_, h1.trans ?_, hargs'⟩
  · refine (Cert.DwDownRefIdeal.Read.val_main_v5_eq _ _).trans ?_
    rw [a0, a1]
    exact (Cert.DwDownIdeal.Grad.final2 m c).symm
  · refine (Cert.DwDownRefIdeal.Read.val_main_v6_eq _ _).trans ?_
    rw [a0, a1]
    exact (Cert.DwDownIdeal.Grad.final3 m c).symm

end Cert.DwDownClaim

end
-- ==== Proof.DwIn.Block.lean ====
/- What one grid point of the recurrence weights' gradient kernel stores, read at an index over the extended reals. -/
module

public import proofs.«01_k».proof.Proof.Dw.Math
public import proofs.«01_k».proof.Proof.Gen.DwInIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwInIdeal.Block

open Cert.DwInIdeal Cert.DwInIdeal.Gen
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

theorem hz3 : (![0, 0, 0] : Fin 3 → Nat) = fun _ => 0 := funext fun a => by fin_cases a <;> rfl

/-- The product over all 4096 rows. -/
theorem product (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ t : Fin 4096, a (ix2 p t) * b (ix2 t q) := by
  refine (Ideal.matmul_plain_apply (M := 1024) (K := 4096) (N := 512) none a b _ p q).trans ?_
  rw [constant_apply, zero_word, zero_add]

variable (x0 : Vec Ideal S1024x4096 .bf16) (x1 : Vec Ideal S1x4096x512 .bf16) (x2 : Vec Ideal S8x128 .f32)

/-- The value both stores hold. -/
theorem value (p : Fin 1024) (q : Fin 512) : k0_pay1 x1 x0 (ix2 p q) = ∑ t : Fin 4096, x0 (ix2 p t) * x1 (ix3 (0 : Fin 1) t q) := by
  unfold k0_pay1
  rw [shapeCast_self]
  refine (product _ _ p q).trans (Finset.sum_congr rfl fun t _ => ?_)
  rw [shapeCast_1ab_ab_apply]

/-- The full-precision result's block. -/
theorem stored_wide (p : Fin 1024) (q : Fin 512) :
    out0_3 (F := Ideal) x0 x1 x2 (ix2 p q) = ∑ t : Fin 4096, x0 (ix2 p t) * x1 (ix3 (0 : Fin 1) t q) := by
  unfold out0_3
  rw [View.canon_unit_zero (S := S1024x512) hz2, View.ld_unit_zero (S := S1x4096x512) hz3, View.ld_unit_zero (S := S1024x4096) hz2]
  exact value x0 x1 p q

/-- The rounded result's block. -/
theorem stored_narrow (p : Fin 1024) (q : Fin 512) :
    out0_4 (F := Ideal) x0 x1 x2 (ix2 p q) = ∑ t : Fin 4096, x0 (ix2 p t) * x1 (ix3 (0 : Fin 1) t q) := by
  unfold out0_4
  rw [View.canon_unit_zero (S := S1024x512) hz2, View.ld_unit_zero (S := S1x4096x512) hz3, View.ld_unit_zero (S := S1024x4096) hz2]
  exact value x0 x1 p q

end Cert.DwInIdeal.Block

end
-- ==== Proof.DwIn.Reference.lean ====
/- The reference of the recurrence weights' gradient, read at an index over the extended reals. -/
module

public import proofs.«01_k».proof.Proof.Dw.Math
public import proofs.«01_k».proof.Proof.Gen.DwInRefIdeal.Read
public import Idealize.ShloMosaic.Lib.ValueIdx
public import Idealize.ShloMosaic.Lib.Pointwise.SelectCore

@[expose] public section

set_option maxRecDepth 16384

noncomputable section

namespace Cert.DwInRefIdeal.Grad

open Cert.DwInRefIdeal Cert.DwInRefIdeal.Read
open Idealize.ShloMosaic hiding ix1 ix2 ix3 eq_ix1 eq_ix2 eq_ix3
open Idealize.ShloMosaic.ValueIdx
open Cert.DwMath
open scoped BigOperators

variable (x0 : Rows.Idx → EReal) (x1 : Four.Idx → EReal)

/-- An element of a section that the reshape keeps. -/
theorem keep (f : Four.Idx → EReal) (i j : Four.Idx)
    (h0 : (i 0).val = (j 0).val) (h1 : (i 1).val = (j 1).val) (h2 : (i 2).val = (j 2).val) : f i = f j := by
  refine congrArg f (funext fun ax => Fin.ext ?_)
  match ax with
  | ⟨0, _⟩ => exact h0
  | ⟨1, _⟩ => exact h1
  | ⟨2, _⟩ => exact h2

theorem flat_row (p : Fin 4096) (k : Fin 1024) : (p.val * 1024 + k.val) / 1024 % 4096 = p.val := by
  have := p.isLt; have := k.isLt; omega

theorem flat_col (p : Fin 4096) (k : Fin 1024) : (p.val * 1024 + k.val) % 1024 = k.val := by
  have := k.isLt; omega

theorem section0 (p : Fin 4096) (k : Fin 1024) : val_main_v1 (F := Ideal) x1 (ix2 p k) = x1 (ix3 (0 : Fin 4) p k) := by
  rw [val_main_v1_apply, val_main_v0_apply]
  exact keep x1 _ _ rfl (flat_row p k) (flat_col p k)

theorem section1 (p : Fin 4096) (k : Fin 1024) : val_main_v3 (F := Ideal) x1 (ix2 p k) = x1 (ix3 (1 : Fin 4) p k) := by
  rw [val_main_v3_apply, val_main_v2_apply]
  exact keep x1 _ _ rfl (flat_row p k) (flat_col p k)

theorem section2 (p : Fin 4096) (k : Fin 1024) : val_main_v5 (F := Ideal) x1 (ix2 p k) = x1 (ix3 (2 : Fin 4) p k) := by
  rw [val_main_v5_apply, val_main_v4_apply]
  exact keep x1 _ _ rfl (flat_row p k) (flat_col p k)

theorem section3 (p : Fin 4096) (k : Fin 1024) : val_main_v7 (F := Ideal) x1 (ix2 p k) = x1 (ix3 (3 : Fin 4) p k) := by
  rw [val_main_v7_apply, val_main_v6_apply]
  exact keep x1 _ _ rfl (flat_row p k) (flat_col p k)

/-- An index of a section, whose column is found by subtraction. -/
theorem found (f : Rows.Idx → EReal) (i : Rows.Idx) (p : Fin 4096) (k : Fin 1024) (h0 : (i 0).val = p.val) (h1 : (i 1).val = k.val) :
    f i = f (ix2 p k) :=
  congrArg f ((eq_ix2 i).trans (congrArg₂ ix2 (Fin.ext h0) (Fin.ext h1)))

/-- Column `q`'s section and its place there. -/
theorem placed (n : Fin 4) (k : Fin 1024) (t q : Fin 4096) (h : q.val = 1024 * n.val + k.val) : side x1 t q = x1 (ix3 n t k) := by
  unfold side
  have hk := k.isLt
  exact keep x1 _ _ (show q.val / 1024 = n.val by omega) rfl (show q.val % 1024 = k.val by omega)

/-- The four sections lie side by side. -/
theorem joined (t q : Fin 4096) : val_main_v8 (F := Ideal) x1 (ix2 t q) = side x1 t q := by
  have hq := q.isLt
  unfold val_main_v8
  refine (concatenate_cons_apply _ _ _ _ _ _ _).trans ((concatenateAt_cons _ _ _ _ _ _ _ _).trans ?_)
  by_cases h0 : q.val < 1024
  · refine (dif_pos h0).trans ?_
    refine (found (val_main_v1 (F := Ideal) x1) _ t ⟨q.val, h0⟩ ?_ ?_).trans ((section0 x1 t _).trans (placed x1 0 _ t q ?_).symm)
    · rfl
    · rfl
    · show q.val = 1024 * 0 + q.val; omega
  refine (dif_neg h0).trans ((concatenateAt_cons _ _ _ _ _ _ _ _).trans ?_)
  by_cases h1 : q.val - 1024 < 1024
  · refine (dif_pos h1).trans ?_
    refine (found (val_main_v3 (F := Ideal) x1) _ t ⟨q.val - 1024, h1⟩ ?_ ?_).trans ((section1 x1 t _).trans (placed x1 1 _ t q ?_).symm)
    · rfl
    · rfl
    · show q.val = 1024 * 1 + (q.val - 1024); omega
  refine (dif_neg h1).trans ((concatenateAt_cons _ _ _ _ _ _ _ _).trans ?_)
  by_cases h2 : q.val - 1024 - 1024 < 1024
  · refine (dif_pos h2).trans ?_
    refine (found (val_main_v5 (F := Ideal) x1) _ t ⟨q.val - 1024 - 1024, h2⟩ ?_ ?_).trans ((section2 x1 t _).trans (placed x1 2 _ t q ?_).symm)
    · rfl
    · rfl
    · show q.val = 1024 * 2 + (q.val - 1024 - 1024); omega
  refine (dif_neg h2).trans ((concatenateAt_singleton _ _ _ _ _ _).trans ?_)
  have h3 : q.val - 1024 - 1024 - 1024 < 1024 := by omega
  refine (found (val_main_v7 (F := Ideal) x1) _ t ⟨q.val - 1024 - 1024 - 1024, h3⟩ ?_ ?_).trans ((section3 x1 t _).trans (placed x1 3 _ t q ?_).symm)
  · rfl
  · rfl
  · show q.val = 1024 * 3 + (q.val - 1024 - 1024 - 1024); omega

/-- The reference's result. -/
theorem result_narrow (p : Fin 1024) (q : Fin 4096) : val_main_v13 (F := Ideal) x0 x1 (ix2 p q) = dw x0 (side x1) p q := by
  show val_main_v12 (F := Ideal) x0 x1 (ix2 p q) = _
  rw [val_main_v12_apply, show idx_main_v12 (ix2 p q) = ix2 q p from eq_ix2 _, val_main_v11_apply]
  refine Finset.sum_congr rfl fun t _ => ?_
  rw [show lidx_main_v11 (ix2 q p) t = ix2 t q from eq_ix2 _, show ridx_main_v11 (ix2 q p) t = ix2 t p from eq_ix2 _, joined]
  exact mul_comm _ _

end Cert.DwInRefIdeal.Grad

end
-- ==== Proof.DwIn.Arrays.lean ====
/- The recurrence weights' gradient call over the extended reals: what its windows read, and the array it leaves, the reference's value. -/
module

public import proofs.«01_k».proof.Proof.DwIn.Block
public import proofs.«01_k».proof.Proof.DwIn.Reference
public import proofs.«01_k».proof.Proof.Gen.DwInIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwInIdeal.Grad

open Cert.DwInIdeal Cert.DwInIdeal.Gen Cert.DwInIdeal.Block Cert.DwMath
open Idealize.ShloMosaic hiding ix1 ix2 ix3 eq_ix1 eq_ix2 eq_ix3
open Idealize.ShloMosaic.ValueIdx
open Idealize.ShloMosaic.TcCoe Idealize.SL.Sem
open Cert.DwInRefIdeal.Read (val_main_v13)
open scoped BigOperators

variable (m : (ℓ : Loc nD τ sig) → Buf (Elt Ideal) ℓ) (c : Dev nD)

/-- The launch's arrays. -/
abbrev x : Rows.Idx → EReal := m ((c : Thread nD τ).loc main_arg0)
abbrev g : Four.Idx → EReal := m ((c : Thread nD τ).loc main_arg1)

/-- The first operand is the input turned. -/
theorem V_x (p : Fin 1024) (t : Fin 4096) : V m c main_v1 (ix2 p t) = x m c (ix2 t p) := by
  have h : V m c main_v1 = transpose (α := EReal) S1024x4096 [1, 0] (x m c) (by decide) := by
    unfold V; after_reads_simp; rfl
  rw [h]
  exact transpose_ix2_apply _ _ _ _

/-- The second operand. -/
theorem V_g : V m c main_v2 = g m c := by
  unfold V; after_reads_simp; rfl

/-- The column of the arrays that column `q` of point `t`'s block is. -/
def col (t : Fin cfg0.N) (q : Fin 512) : Fin 4096 :=
  ⟨512 * t.val + q.val, by have h : t.val < 8 := lt_of_lt_of_eq t.isLt N_0; have := q.isLt; omega⟩

theorem whole0 (X : Turned.Idx → EReal) (t : Fin cfg0.N) (p : Fin 1024) (k : Fin 4096) :
    ((cfg0.win 0).blk t).view.read (Elt Ideal) X (ix2 p k) = X (ix2 p k) := by
  have hi : win0_0.index t 0 = 0 ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 1024 + 1 * p.val = p.val; rw [hi.1]; omega
  | ⟨1, _⟩ => show win0_0.index t 1 * 4096 + 1 * k.val = k.val; rw [hi.2]; omega

theorem columns1 (X : Four.Idx → EReal) (t : Fin cfg0.N) (k : Fin 4096) (q : Fin 512) :
    ((cfg0.win 1).blk t).view.read (Elt Ideal) X (ix3 (0 : Fin 1) k q) = side X k (col t q) := by
  have hi : win0_1.index t 0 = t.val / 2 ∧ win0_1.index t 1 = 0 ∧ win0_1.index t 2 = t.val % 2 := by
    rcases fin_N0 t with rfl | rfl | rfl | rfl | rfl | rfl | rfl | rfl <;> decide
  have hq := q.isLt
  rw [View.read_apply]
  unfold side
  refine congrArg X (funext fun ax => Fin.ext ?_)
  match ax with
  | ⟨0, _⟩ => show win0_1.index t 0 * 1 + 1 * 0 = (512 * t.val + q.val) / 1024; rw [hi.1]; omega
  | ⟨1, _⟩ => show win0_1.index t 1 * 4096 + 1 * k.val = k.val; rw [hi.2.1]; omega
  | ⟨2, _⟩ => show win0_1.index t 2 * 512 + 1 * q.val = (512 * t.val + q.val) % 1024; rw [hi.2.2]; omega

theorem columns4 (X : Turned.Idx → EReal) (t : Fin cfg0.N) (p : Fin 1024) (q : Fin 512) :
    ((cfg0.win 4).blk t).view.read (Elt Ideal) X (ix2 p q) = X (ix2 p (col t q)) := by
  have hi : win0_4.index t 0 = 0 ∧ win0_4.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_4.index t 0 * 1024 + 1 * p.val = p.val; rw [hi.1]; omega
  | ⟨1, _⟩ => show win0_4.index t 1 * 512 + 1 * q.val = 512 * t.val + q.val; rw [hi.2]; omega

theorem block0 (t : Fin cfg0.N) (p : Fin 1024) (k : Fin 4096) : (iblk m c 0 t : Vec Ideal S1024x4096 .bf16) (ix2 p k) = x m c (ix2 k p) := by
  rw [← V_x m c p k]
  unfold iblk
  exact whole0 _ t p k

theorem block1 (t : Fin cfg0.N) (k : Fin 4096) (q : Fin 512) : (iblk m c 1 t : Vec Ideal S1x4096x512 .bf16) (ix3 (0 : Fin 1) k q) = side (g m c) k (col t q) := by
  rw [← columns1 (g m c) t k q]
  unfold iblk
  exact congrArg (fun X => ((cfg0.win 1).blk t).view.read (Elt Ideal) X (ix3 (0 : Fin 1) k q)) (V_g m c)

/-- A point's two blocks. -/
abbrev left (t : Fin cfg0.N) : S1024x4096.Idx → EReal := iblk m c 0 t
abbrev right (t : Fin cfg0.N) : S1x4096x512.Idx → EReal := iblk m c 1 t

/-- The sums over a point's blocks are the gradient's. -/
theorem sum_at (t : Fin cfg0.N) (p : Fin 1024) (q : Fin 512) :
    ∑ k : Fin 4096, left m c t (ix2 p k) * right m c t (ix3 (0 : Fin 1) k q)
      = dw (x m c) (side (g m c)) p (col t q) :=
  Finset.sum_congr rfl fun k _ => congrArg₂ (· * ·) (block0 m c t p k) (block1 m c t k q)

/-- The point whose block holds column `q`. -/
def pt (q : Fin 4096) : Fin cfg0.N := ⟨q.val / 512, by have := q.isLt; rw [show cfg0.N = 8 from N_0]; omega⟩

/-- The rounded result at the end. -/
theorem final4 : (dats m 0 c).arrAt 4 cfg0.N = val_main_v13 (F := Ideal) (x m c) (g m c) := by
  refine (dats m 0 c).arrAt_eq_of_cover 4 _ (fun t _ => ?_) (fun i => ?_)
  · rw [Value.flushed4]
    funext j
    obtain ⟨p, q, rfl⟩ : ∃ (p : Fin 1024) (q : Fin 512), j = ix2 p q := ⟨j 0, j 1, eq_ix2 j⟩
    exact (stored_narrow _ _ _ p q).trans ((sum_at m c t p q).trans ((DwInRefIdeal.Grad.result_narrow _ _ p (col t q)).symm.trans (columns4 _ t p q).symm))
  · have h0 : (i 0 : Nat) < 1024 := (i 0).isLt
    have h1 : (i 1 : Nat) < 4096 := (i 1).isLt
    refine ⟨pt (i 1), flush0_4 _, ?_⟩
    have hi : win0_4.index (pt (i 1)) 1 = (pt (i 1)).val ∧ win0_4.index (pt (i 1)) 0 = 0 := by
      rcases fin_N0 (pt (i 1)) with h | h | h | h | h | h | h | h <;> rw [h] <;> decide
    have hp : (pt (i 1)).val = (i 1).val / 512 := rfl
    show i ∈ ((View.whole main_v3_1).slice (win0_4.rect (pt (i 1)))).set
    rw [View.set_slice_whole, Rect.mem_set_unit]
    intro ax
    match ax with
    | ⟨0, _⟩ => show win0_4.index (pt (i 1)) 0 * 1024 ≤ (i 0 : Nat) ∧ (i 0 : Nat) < win0_4.index (pt (i 1)) 0 * 1024 + 1024
                rw [hi.2]; omega
    | ⟨1, _⟩ => show win0_4.index (pt (i 1)) 1 * 512 ≤ (i 1 : Nat) ∧ (i 1 : Nat) < win0_4.index (pt (i 1)) 1 * 512 + 512
                rw [hi.1, hp]; omega

end Cert.DwInIdeal.Grad

end
-- ==== Proof.DwIn.Claim.lean ====
/- The claims about the recurrence weights' gradient call: both programs run, and the call's idealization ends with the arrays the reference's ends
   with. -/
module

public import proofs.«01_k».proof.Defs
public import proofs.«01_k».proof.Proof.DwIn.Arrays
public import proofs.«01_k».proof.Proof.Gen.DwIn.Frame
public import proofs.«01_k».proof.Proof.Gen.DwInRefIdeal.Run
public import Idealize.ShloMosaic.Lib.Quiescent

@[expose] public section

set_option maxRecDepth 16384

noncomputable section

namespace Cert.DwInClaim

open Idealize.ShloMosaic Idealize.ShloMosaic.TcCoe Idealize.SL.Sem
open Cert.DwInIdeal.Gen (dats)

theorem frame_program : Cert.quiescent_DwIn := fun m ρ _ => Cert.DwIn.Gen.frame m ρ

theorem frame_ideal : Cert.quiescent_DwInIdeal := fun m ρ _ => Cert.DwInIdeal.Gen.frame m ρ

/-- The reference's run leaves its arguments alone, and it has no semaphore. -/
theorem frame_reference : Cert.quiescent_DwInRefIdeal := fun m ρ _ =>
  (θ_run Cert.DwInRefIdeal.defs _ _).mono
    (fun r h => ⟨fun c => (h c).2, sem_eq_zero_of_no_sems rfl r.2⟩) (Cert.DwInRefIdeal.Value.run m ρ)

/-- Result by result. -/
theorem equal : Cert.algebraic_DwInIdeal_DwInRefIdeal := by
  intro m g m' g' _ hargs
  refine ⟨fun c => (dats m 0 c).arrAt 4 Cert.DwInIdeal.cfg0.N,
    (θ_run Cert.DwInIdeal.defs _ _).mono (fun _ h c => (h c).2) (Cert.DwInIdeal.Value.run_blocks m g),
    (θ_run Cert.DwInRefIdeal.defs _ _).mono (fun r h c => ?_) (Cert.DwInRefIdeal.Value.run m' g')⟩
  obtain ⟨a0, a1, a2⟩ := hargs c
  obtain ⟨h0, hargs'⟩ := h c
  refine ⟨h0.trans ?_, hargs'⟩
  · refine (Cert.DwInRefIdeal.Read.val_main_v13_eq _ _).trans ?_
    rw [a0, a1]
    exact (Cert.DwInIdeal.Grad.final4 m c).symm

end Cert.DwInClaim

end
-- ==== Proof.Proj.Math.lean ====
/- The input projection in plain mathematics over the extended reals: section `n` at row `t`, column `q`. -/
module

public import Idealize.ShloMosaic.Lib.ValueIdx
public import Idealize.ShloMosaic.PureOps.Ideal.Laws

@[expose] public section

noncomputable section

namespace Cert.ProjMath

open Idealize.ShloMosaic Idealize.ShloMosaic.ValueIdx
open scoped BigOperators

abbrev Rows : Shape := ⟨2, ![4096, 1024]⟩
abbrev Turned : Shape := ⟨2, ![1024, 4096]⟩
abbrev Weights : Shape := ⟨2, ![1024, 7168]⟩
abbrev Sections : Shape := ⟨3, ![7, 4096, 1024]⟩

/-- The weight column that column `q` of section `n` takes. -/
def at_ (n : Fin 7) (q : Fin 1024) : Fin 7168 := ⟨1024 * n.val + q.val, by have := n.isLt; have := q.isLt; omega⟩

/-- Row `t` of the input against a weight column. -/
def proj (x : Rows.Idx → EReal) (w : Weights.Idx → EReal) (n : Fin 7) (t : Fin 4096) (q : Fin 1024) : EReal :=
  ∑ k : Fin 1024, x (ix2 t k) * w (ix2 k (at_ n q))

end Cert.ProjMath

end
-- ==== Proof.Proj.Block.lean ====
/- What one grid point of the projection's kernel stores, read at an index over the extended reals. -/
module

public import proofs.«01_k».proof.Proof.Proj.Math
public import proofs.«01_k».proof.Proof.Gen.ProjIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.ProjIdeal.Block

open Cert.ProjIdeal Cert.ProjIdeal.Gen Cert.ProjMath
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- The product of a block with a square of weights. -/
theorem product (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ t : Fin 1024, a (ix2 p t) * b (ix2 t q) := by
  refine (Ideal.matmul_plain_apply (M := 512) (K := 1024) (N := 1024) none a b _ p q).trans ?_
  rw [constant_apply, zero_word, zero_add]

variable (x0 : Vec Ideal S512x1024 .f32) (x1 : Vec Ideal S1024x7168 .bf16) (x2 : Vec Ideal S8x128 .f32)

/-- The block's row `p` against column `q` of section `n`. -/
def part (n : Fin 7) (p : Fin 512) (q : Fin 1024) : EReal := ∑ k : Fin 1024, x0 (ix2 p k) * x1 (ix2 k (at_ n q))

/-- A section's stored piece: the product with the section's square of weights. -/
def pieceOf (w : Vec Ideal S1024x1024 .bf16) : FVec Ideal S1x512x1024 .f32 :=
  shapeCast S1x512x1024 (matmul (φ₁ := .bf16) (φ₂ := .bf16) dot_S512x1024_S1024x1024_S512x1024_1_0_0_1_n_n none (x0 : FVec Ideal S512x1024 .bf16)
    (shapeCast S1024x1024 w shapeCasts_S1024x1024_S1024x1024)
    (constant S512x1024 .f32 0x00000000#32)) shapeCasts_S512x1024_S1x512x1024

/-- The stacked result at an index. -/
def stack (i : S7x512x1024.Idx) : EReal := part x0 x1 (i 0) (i 1) (i 2)

/-- One piece is the stack at the piece's section. -/
theorem section_piece (n : Fin 7) (N o : Nat) (hN : N = n.val) (ho : o = 1024 * n.val)
    (hw : ∀ ax, (![0, o] : Fin 2 → Nat) ax + S1024x1024.size ax ≤ S1024x7168.size ax)
    (hr : ∀ ax, (![N, 0, 0] : Fin 3 → Nat) ax + S1x512x1024.size ax ≤ S7x512x1024.size ax) (x : S1x512x1024.Idx) :
    pieceOf x0 (View.ld x1 (Rect.unit (s := S1024x7168) ![0, o] S1024x1024.size hw)) x
      = stack x0 x1 ((Rect.unit (s := S7x512x1024) ![N, 0, 0] S1x512x1024.size hr).emb x) := by
  obtain ⟨z, p, q, rfl⟩ : ∃ (z : Fin 1) (p : Fin 512) (q : Fin 1024), x = ix3 z p q := ⟨x 0, x 1, x 2, eq_ix3 x⟩
  obtain rfl : z = 0 := Subsingleton.elim _ _
  unfold pieceOf
  rw [shapeCast_ab_1ab_apply, shapeCast_self, product]
  unfold stack part
  refine Finset.sum_congr rfl fun k _ => congrArg₂ (· * ·) (congrArg x0 ?_) ?_
  · refine congrArg₂ ix2 (Fin.ext ?_) rfl
    show p.val = 0 + 1 * p.val; omega
  · refine View.ld_unit_apply_of x1 _ _ _ _ _ fun ax => ?_
    match ax with
    | ⟨0, _⟩ => show k.val = 0 + k.val; omega
    | ⟨1, _⟩ => show 1024 * (N + 1 * 0) + (0 + 1 * q.val) = o + q.val; omega

/-- The stacked result's block. -/
theorem stored_wide (i : S7x512x1024.Idx) : out0_3 (F := Ideal) x0 x1 x2 i = stack x0 x1 i := by
  unfold out0_3 k0_pay11
  rw [View.ld_unit_zero (S := S512x1024) hz2]
  refine View.canon_apply_of_pieces (Val := Elt Ideal) (e := .f32) (stack x0 x1) _ ?_ i ?_
  · intro pc hpc
    simp only [List.mem_cons, List.not_mem_nil, or_false] at hpc
    rcases hpc with rfl | rfl | rfl | rfl | rfl | rfl | rfl
    · intro x; exact section_piece x0 x1 6 6 6144 rfl rfl inb_S1024x7168_S1024x1024_0_6144 inb_S7x512x1024_S1x512x1024_6_0_0 x
    · intro x; exact section_piece x0 x1 5 5 5120 rfl rfl inb_S1024x7168_S1024x1024_0_5120 inb_S7x512x1024_S1x512x1024_5_0_0 x
    · intro x; exact section_piece x0 x1 4 4 4096 rfl rfl inb_S1024x7168_S1024x1024_0_4096 inb_S7x512x1024_S1x512x1024_4_0_0 x
    · intro x; exact section_piece x0 x1 3 3 3072 rfl rfl inb_S1024x7168_S1024x1024_0_3072 inb_S7x512x1024_S1x512x1024_3_0_0 x
    · intro x; exact section_piece x0 x1 2 2 2048 rfl rfl inb_S1024x7168_S1024x1024_0_2048 inb_S7x512x1024_S1x512x1024_2_0_0 x
    · intro x; exact section_piece x0 x1 1 1 1024 rfl rfl inb_S1024x7168_S1024x1024_0_1024 inb_S7x512x1024_S1x512x1024_1_0_0 x
    · intro x; exact section_piece x0 x1 0 0 0 rfl rfl inb_S1024x7168_S1024x1024_0_0 inb_S7x512x1024_S1x512x1024_0_0_0 x
  · have h0 : (i 0).val < 7 := (i 0).isLt
    have h1 : (i 1).val < 512 := (i 1).isLt
    have h2 : (i 2).val < 1024 := (i 2).isLt
    have mem : ∀ (N : Nat) (hr : ∀ ax, (![N, 0, 0] : Fin 3 → Nat) ax + S1x512x1024.size ax ≤ S7x512x1024.size ax),
        (i 0).val = N → i ∈ (Rect.unit (s := S7x512x1024) ![N, 0, 0] S1x512x1024.size hr).set := by
      intro N hr hN
      rw [Rect.mem_set_unit]
      intro ax
      match ax with
      | ⟨0, _⟩ => exact ⟨hN.ge, by show (i 0).val < N + 1; omega⟩
      | ⟨1, _⟩ => exact ⟨Nat.zero_le _, by show (i 1).val < 0 + 512; omega⟩
      | ⟨2, _⟩ => exact ⟨Nat.zero_le _, by show (i 2).val < 0 + 1024; omega⟩
    rcases (by omega : (i 0).val = 6 ∨ (i 0).val = 5 ∨ (i 0).val = 4 ∨ (i 0).val = 3 ∨ (i 0).val = 2 ∨ (i 0).val = 1 ∨ (i 0).val = 0) with h | h | h | h | h | h | h
    · exact ⟨_, List.mem_cons_self, mem 6 inb_S7x512x1024_S1x512x1024_6_0_0 h⟩
    · exact ⟨_, List.mem_cons_of_mem _ List.mem_cons_self, mem 5 inb_S7x512x1024_S1x512x1024_5_0_0 h⟩
    · exact ⟨_, List.mem_cons_of_mem _ (List.mem_cons_of_mem _ List.mem_cons_self), mem 4 inb_S7x512x1024_S1x512x1024_4_0_0 h⟩
    · exact ⟨_, List.mem_cons_of_mem _ (List.mem_cons_of_mem _ (List.mem_cons_of_mem _ List.mem_cons_self)), mem 3 inb_S7x512x1024_S1x512x1024_3_0_0 h⟩
    · exact ⟨_, List.mem_cons_of_mem _ (List.mem_cons_of_mem _ (List.mem_cons_of_mem _ (List.mem_cons_of_mem _ List.mem_cons_self))), mem 2 inb_S7x512x1024_S1x512x1024_2_0_0 h⟩
    · exact ⟨_, List.mem_cons_of_mem _ (List.mem_cons_of_mem _ (List.mem_cons_of_mem _ (List.mem_cons_of_mem _ (List.mem_cons_of_mem _ List.mem_cons_self)))), mem 1 inb_S7x512x1024_S1x512x1024_1_0_0 h⟩
    · exact ⟨_, List.mem_cons_of_mem _ (List.mem_cons_of_mem _ (List.mem_cons_of_mem _ (List.mem_cons_of_mem _ (List.mem_cons_of_mem _ (List.mem_cons_of_mem _ List.mem_cons_self))))), mem 0 inb_S7x512x1024_S1x512x1024_0_0_0 h⟩

/-- The turned input's block. -/
theorem stored_turned (k : Fin 1024) (p : Fin 512) : out0_4 (F := Ideal) x0 x1 x2 (ix2 k p) = x0 (ix2 p k) := by
  unfold out0_4
  rw [View.canon_unit_zero (S := S1024x512) hz2, View.ld_unit_zero (S := S512x1024) hz2]
  unfold k0_pay5
  exact transpose_ix2_apply _ _ _ _

end Cert.ProjIdeal.Block

end
-- ==== Proof.Proj.Reference.lean ====
/- The projection's reference, read at an index over the extended reals. -/
module

public import proofs.«01_k».proof.Proof.Proj.Math
public import proofs.«01_k».proof.Proof.Gen.ProjRefIdeal.Read
public import Idealize.ShloMosaic.Lib.ValueIdx
public import Idealize.ShloMosaic.Lib.Pointwise.SelectCore

@[expose] public section

set_option maxRecDepth 16384

noncomputable section

namespace Cert.ProjRefIdeal.Grad

open Cert.ProjRefIdeal Cert.ProjRefIdeal.Read
open Idealize.ShloMosaic hiding ix1 ix2 ix3 eq_ix1 eq_ix2 eq_ix3
open Idealize.ShloMosaic.ValueIdx
open Cert.ProjMath
open scoped BigOperators

variable (x0 : Rows.Idx → EReal) (x1 : Weights.Idx → EReal)

/-- The whole product. -/
theorem whole (t : Fin 4096) (q : Fin 7168) : val_main_v0 (F := Ideal) x0 x1 (ix2 t q) = ∑ k : Fin 1024, x0 (ix2 t k) * x1 (ix2 k q) := by
  rw [val_main_v0_apply]
  refine Finset.sum_congr rfl fun k _ => ?_
  rw [show lidx_main_v0 (ix2 t q) k = ix2 t k from eq_ix2 _, show ridx_main_v0 (ix2 t q) k = ix2 k q from eq_ix2 _]

/-- An element of the product found at a section's place is the section's. -/
theorem placed (i : S4096x7168.Idx) (n : Fin 7) (t : Fin 4096) (q : Fin 1024) (h0 : (i 0).val = t.val) (h1 : (i 1).val = 1024 * n.val + q.val) :
    val_main_v0 (F := Ideal) x0 x1 i = proj x0 x1 n t q := by
  have hi : i = ix2 t (at_ n q) := (eq_ix2 i).trans (congrArg₂ ix2 (Fin.ext h0) (Fin.ext h1))
  rw [hi, whole]
  rfl

theorem section0 (j : S1x4096x1024.Idx) : val_main_v8 (F := Ideal) x0 x1 j = proj x0 x1 0 (j 1) (j 2) := by
  rw [val_main_v8_apply, val_main_v1_apply]
  exact placed x0 x1 _ 0 (j 1) (j 2) rfl (show (j 2).val = 1024 * 0 + (j 2).val by omega)

theorem section1 (j : S1x4096x1024.Idx) : val_main_v9 (F := Ideal) x0 x1 j = proj x0 x1 1 (j 1) (j 2) := by
  rw [val_main_v9_apply, val_main_v2_apply]
  exact placed x0 x1 _ 1 (j 1) (j 2) rfl rfl

theorem section2 (j : S1x4096x1024.Idx) : val_main_v10 (F := Ideal) x0 x1 j = proj x0 x1 2 (j 1) (j 2) := by
  rw [val_main_v10_apply, val_main_v3_apply]
  exact placed x0 x1 _ 2 (j 1) (j 2) rfl rfl

theorem section3 (j : S1x4096x1024.Idx) : val_main_v11 (F := Ideal) x0 x1 j = proj x0 x1 3 (j 1) (j 2) := by
  rw [val_main_v11_apply, val_main_v4_apply]
  exact placed x0 x1 _ 3 (j 1) (j 2) rfl rfl

theorem section4 (j : S1x4096x1024.Idx) : val_main_v12 (F := Ideal) x0 x1 j = proj x0 x1 4 (j 1) (j 2) := by
  rw [val_main_v12_apply, val_main_v5_apply]
  exact placed x0 x1 _ 4 (j 1) (j 2) rfl rfl

theorem section5 (j : S1x4096x1024.Idx) : val_main_v13 (F := Ideal) x0 x1 j = proj x0 x1 5 (j 1) (j 2) := by
  rw [val_main_v13_apply, val_main_v6_apply]
  exact placed x0 x1 _ 5 (j 1) (j 2) rfl rfl

theorem section6 (j : S1x4096x1024.Idx) : val_main_v14 (F := Ideal) x0 x1 j = proj x0 x1 6 (j 1) (j 2) := by
  rw [val_main_v14_apply, val_main_v7_apply]
  exact placed x0 x1 _ 6 (j 1) (j 2) rfl rfl

/-- Section `n` of the stacked result. -/
theorem stacked (n : Fin 7) (t : Fin 4096) (q : Fin 1024) : val_main_v15 (F := Ideal) x0 x1 (ix3 n t q) = proj x0 x1 n t q := by
  unfold val_main_v15
  refine (concatenate_cons_apply _ _ _ _ _ _ _).trans ((concatenateAt_cons _ _ _ _ _ _ _ _).trans ?_)
  by_cases h0 : n.val < 1
  · refine (dif_pos h0).trans ((section0 x0 x1 _).trans ?_)
    exact congrArg (fun z => proj x0 x1 z t q) (Fin.ext (show 0 = n.val by omega))
  refine (dif_neg h0).trans ((concatenateAt_cons _ _ _ _ _ _ _ _).trans ?_)
  by_cases h1 : n.val - 1 < 1
  · refine (dif_pos h1).trans ((section1 x0 x1 _).trans ?_)
    exact congrArg (fun z => proj x0 x1 z t q) (Fin.ext (show 1 = n.val by omega))
  refine (dif_neg h1).trans ((concatenateAt_cons _ _ _ _ _ _ _ _).trans ?_)
  by_cases h2 : n.val - 1 - 1 < 1
  · refine (dif_pos h2).trans ((section2 x0 x1 _).trans ?_)
    exact congrArg (fun z => proj x0 x1 z t q) (Fin.ext (show 2 = n.val by omega))
  refine (dif_neg h2).trans ((concatenateAt_cons _ _ _ _ _ _ _ _).trans ?_)
  by_cases h3 : n.val - 1 - 1 - 1 < 1
  · refine (dif_pos h3).trans ((section3 x0 x1 _).trans ?_)
    exact congrArg (fun z => proj x0 x1 z t q) (Fin.ext (show 3 = n.val by omega))
  refine (dif_neg h3).trans ((concatenateAt_cons _ _ _ _ _ _ _ _).trans ?_)
  by_cases h4 : n.val - 1 - 1 - 1 - 1 < 1
  · refine (dif_pos h4).trans ((section4 x0 x1 _).trans ?_)
    exact congrArg (fun z => proj x0 x1 z t q) (Fin.ext (show 4 = n.val by omega))
  refine (dif_neg h4).trans ((concatenateAt_cons _ _ _ _ _ _ _ _).trans ?_)
  by_cases h5 : n.val - 1 - 1 - 1 - 1 - 1 < 1
  · refine (dif_pos h5).trans ((section5 x0 x1 _).trans ?_)
    exact congrArg (fun z => proj x0 x1 z t q) (Fin.ext (show 5 = n.val by omega))
  refine (dif_neg h5).trans ((concatenateAt_singleton _ _ _ _ _ _).trans ?_)
  refine (section6 x0 x1 _).trans ?_
  have := n.isLt
  exact congrArg (fun z => proj x0 x1 z t q) (Fin.ext (show 6 = n.val by omega))

/-- The turned input. -/
theorem turned (k : Fin 1024) (t : Fin 4096) : val_main_v17 (F := Ideal) x0 (ix2 k t) = x0 (ix2 t k) := by
  rw [val_main_v17_apply, val_main_v16_apply]
  exact congrArg x0 (eq_ix2 _)

end Cert.ProjRefIdeal.Grad

end
-- ==== Proof.Proj.Arrays.lean ====
/- The input projection's call over the extended reals: what its windows read, and the arrays it leaves, the reference's
   values. -/
module

public import proofs.«01_k».proof.Proof.Proj.Block
public import proofs.«01_k».proof.Proof.Proj.Reference
public import proofs.«01_k».proof.Proof.Gen.ProjIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.ProjIdeal.Grad

open Cert.ProjIdeal Cert.ProjIdeal.Gen Cert.ProjIdeal.Block Cert.ProjMath
open Idealize.ShloMosaic hiding ix1 ix2 ix3 eq_ix1 eq_ix2 eq_ix3
open Idealize.ShloMosaic.ValueIdx
open Idealize.ShloMosaic.TcCoe Idealize.SL.Sem
open Cert.ProjRefIdeal.Read (val_main_v15 val_main_v17)
open scoped BigOperators

variable (m : (ℓ : Loc nD τ sig) → Buf (Elt Ideal) ℓ) (c : Dev nD)

/-- The launch's arrays. -/
abbrev x : Rows.Idx → EReal := m ((c : Thread nD τ).loc main_arg0)
abbrev w : Weights.Idx → EReal := m ((c : Thread nD τ).loc main_arg1)

theorem V_x : V m c main_arg0 = x m c := by
  unfold V; after_reads_simp

/-- The weights, whose rounding changes nothing here. -/
theorem V_w : V m c main_v0 = w m c := by
  unfold V; after_reads_simp; rfl

/-- The row of the arrays that row `p` of point `t`'s block is. -/
def row (t : Fin cfg0.N) (p : Fin 512) : Fin 4096 :=
  ⟨512 * t.val + p.val, by have h : t.val < 8 := lt_of_lt_of_eq t.isLt N_0; have := p.isLt; omega⟩

theorem rows0 (X : Rows.Idx → EReal) (t : Fin cfg0.N) (p : Fin 512) (k : Fin 1024) :
    ((cfg0.win 0).blk t).view.read (Elt Ideal) X (ix2 p k) = X (ix2 (row t p) k) := by
  have hi : win0_0.index t 0 = t.val ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 512 + 1 * p.val = 512 * t.val + p.val; rw [hi.1]; omega
  | ⟨1, _⟩ => show win0_0.index t 1 * 1024 + 1 * k.val = k.val; rw [hi.2]; omega

theorem whole1 (X : Weights.Idx → EReal) (t : Fin cfg0.N) (k : Fin 1024) (q : Fin 7168) :
    ((cfg0.win 1).blk t).view.read (Elt Ideal) X (ix2 k q) = X (ix2 k q) := by
  have hi : win0_1.index t 0 = 0 ∧ win0_1.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_1.index t 0 * 1024 + 1 * k.val = k.val; rw [hi.1]; omega
  | ⟨1, _⟩ => show win0_1.index t 1 * 7168 + 1 * q.val = q.val; rw [hi.2]; omega

theorem rows3 (X : Sections.Idx → EReal) (t : Fin cfg0.N) (n : Fin 7) (p : Fin 512) (q : Fin 1024) :
    ((cfg0.win 3).blk t).view.read (Elt Ideal) X (ix3 n p q) = X (ix3 n (row t p) q) := by
  have hi : win0_3.index t 0 = 0 ∧ win0_3.index t 1 = t.val ∧ win0_3.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_3.index t 0 * 7 + 1 * n.val = n.val; rw [hi.1]; omega
  | ⟨1, _⟩ => show win0_3.index t 1 * 512 + 1 * p.val = 512 * t.val + p.val; rw [hi.2.1]; omega
  | ⟨2, _⟩ => show win0_3.index t 2 * 1024 + 1 * q.val = q.val; rw [hi.2.2]; omega

theorem columns4 (X : Turned.Idx → EReal) (t : Fin cfg0.N) (k : Fin 1024) (p : Fin 512) :
    ((cfg0.win 4).blk t).view.read (Elt Ideal) X (ix2 k p) = X (ix2 k (row t p)) := by
  have hi : win0_4.index t 0 = 0 ∧ win0_4.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_4.index t 0 * 1024 + 1 * k.val = k.val; rw [hi.1]; omega
  | ⟨1, _⟩ => show win0_4.index t 1 * 512 + 1 * p.val = 512 * t.val + p.val; rw [hi.2]; omega

theorem block0 (t : Fin cfg0.N) (p : Fin 512) (k : Fin 1024) : (iblk m c 0 t : Vec Ideal S512x1024 .f32) (ix2 p k) = x m c (ix2 (row t p) k) := by
  rw [← rows0 (x m c) t p k]
  unfold iblk
  exact congrArg (fun X => ((cfg0.win 0).blk t).view.read (Elt Ideal) X (ix2 p k)) (V_x m c)

theorem block1 (t : Fin cfg0.N) (k : Fin 1024) (q : Fin 7168) : (iblk m c 1 t : Vec Ideal S1024x7168 .bf16) (ix2 k q) = w m c (ix2 k q) := by
  rw [← whole1 (w m c) t k q]
  unfold iblk
  exact congrArg (fun X => ((cfg0.win 1).blk t).view.read (Elt Ideal) X (ix2 k q)) (V_w m c)

/-- A block's sums are the sections'. -/
theorem part_at (t : Fin cfg0.N) (n : Fin 7) (p : Fin 512) (q : Fin 1024) :
    part (iblk m c 0 t) (iblk m c 1 t) n p q = proj (x m c) (w m c) n (row t p) q :=
  Finset.sum_congr rfl fun k _ => congrArg₂ (· * ·) (block0 m c t p k) (block1 m c t k (at_ n q))

/-- The point whose block holds row `r`. -/
def pt (r : Fin 4096) : Fin cfg0.N := ⟨r.val / 512, by have := r.isLt; rw [show cfg0.N = 8 from N_0]; omega⟩

/-- The sections at the end. -/
theorem final3 : (dats m 0 c).arrAt 3 cfg0.N = val_main_v15 (F := Ideal) (x m c) (w m c) := by
  refine (dats m 0 c).arrAt_eq_of_cover 3 _ (fun t _ => ?_) (fun i => ?_)
  · rw [Value.flushed3]
    funext j
    obtain ⟨n, p, q, rfl⟩ : ∃ (n : Fin 7) (p : Fin 512) (q : Fin 1024), j = ix3 n p q := ⟨j 0, j 1, j 2, eq_ix3 j⟩
    exact (stored_wide _ _ _ (ix3 n p q)).trans ((part_at m c t n p q).trans ((ProjRefIdeal.Grad.stacked _ _ n (row t p) q).symm.trans (rows3 _ t n p q).symm))
  · have h0 : (i 0 : Nat) < 7 := (i 0).isLt
    have h1 : (i 1 : Nat) < 4096 := (i 1).isLt
    have h2 : (i 2 : Nat) < 1024 := (i 2).isLt
    refine ⟨pt (i 1), flush0_3 _, ?_⟩
    have hi : win0_3.index (pt (i 1)) 1 = (pt (i 1)).val ∧ win0_3.index (pt (i 1)) 0 = 0 ∧ win0_3.index (pt (i 1)) 2 = 0 := by
      rcases fin_N0 (pt (i 1)) with h | h | h | h | h | h | h | h <;> rw [h] <;> decide
    have hp : (pt (i 1)).val = (i 1).val / 512 := rfl
    show i ∈ ((View.whole main_v1_0).slice (win0_3.rect (pt (i 1)))).set
    rw [View.set_slice_whole, Rect.mem_set_unit]
    intro ax
    match ax with
    | ⟨0, _⟩ => show win0_3.index (pt (i 1)) 0 * 7 ≤ (i 0 : Nat) ∧ (i 0 : Nat) < win0_3.index (pt (i 1)) 0 * 7 + 7
                rw [hi.2.1]; omega
    | ⟨1, _⟩ => show win0_3.index (pt (i 1)) 1 * 512 ≤ (i 1 : Nat) ∧ (i 1 : Nat) < win0_3.index (pt (i 1)) 1 * 512 + 512
                rw [hi.1, hp]; omega
    | ⟨2, _⟩ => show win0_3.index (pt (i 1)) 2 * 1024 ≤ (i 2 : Nat) ∧ (i 2 : Nat) < win0_3.index (pt (i 1)) 2 * 1024 + 1024
                rw [hi.2.2]; omega

/-- The turned input at the end. -/
theorem final4 : (dats m 0 c).arrAt 4 cfg0.N = val_main_v17 (F := Ideal) (x m c) := by
  refine (dats m 0 c).arrAt_eq_of_cover 4 _ (fun t _ => ?_) (fun i => ?_)
  · rw [Value.flushed4]
    funext j
    obtain ⟨k, p, rfl⟩ : ∃ (k : Fin 1024) (p : Fin 512), j = ix2 k p := ⟨j 0, j 1, eq_ix2 j⟩
    exact (stored_turned _ _ _ k p).trans ((block0 m c t p k).trans ((ProjRefIdeal.Grad.turned _ k (row t p)).symm.trans (columns4 _ t k p).symm))
  · have h0 : (i 0 : Nat) < 1024 := (i 0).isLt
    have h1 : (i 1 : Nat) < 4096 := (i 1).isLt
    refine ⟨pt (i 1), flush0_4 _, ?_⟩
    have hi : win0_4.index (pt (i 1)) 1 = (pt (i 1)).val ∧ win0_4.index (pt (i 1)) 0 = 0 := by
      rcases fin_N0 (pt (i 1)) with h | h | h | h | h | h | h | h <;> rw [h] <;> decide
    have hp : (pt (i 1)).val = (i 1).val / 512 := rfl
    show i ∈ ((View.whole main_v1_1).slice (win0_4.rect (pt (i 1)))).set
    rw [View.set_slice_whole, Rect.mem_set_unit]
    intro ax
    match ax with
    | ⟨0, _⟩ => show win0_4.index (pt (i 1)) 0 * 1024 ≤ (i 0 : Nat) ∧ (i 0 : Nat) < win0_4.index (pt (i 1)) 0 * 1024 + 1024
                rw [hi.2]; omega
    | ⟨1, _⟩ => show win0_4.index (pt (i 1)) 1 * 512 ≤ (i 1 : Nat) ∧ (i 1 : Nat) < win0_4.index (pt (i 1)) 1 * 512 + 512
                rw [hi.1, hp]; omega

end Cert.ProjIdeal.Grad

end
-- ==== Proof.Proj.Claim.lean ====
/- The claims about the input projection's call: both programs run, and the call's idealization ends with the arrays the reference's ends
   with. -/
module

public import proofs.«01_k».proof.Defs
public import proofs.«01_k».proof.Proof.Proj.Arrays
public import proofs.«01_k».proof.Proof.Gen.Proj.Frame
public import proofs.«01_k».proof.Proof.Gen.ProjRefIdeal.Run
public import Idealize.ShloMosaic.Lib.Quiescent

@[expose] public section

set_option maxRecDepth 16384

noncomputable section

namespace Cert.ProjClaim

open Idealize.ShloMosaic Idealize.ShloMosaic.TcCoe Idealize.SL.Sem
open Cert.ProjIdeal.Gen (dats)

theorem frame_program : Cert.quiescent_Proj := fun m ρ _ => Cert.Proj.Gen.frame m ρ

theorem frame_ideal : Cert.quiescent_ProjIdeal := fun m ρ _ => Cert.ProjIdeal.Gen.frame m ρ

/-- The reference's run leaves its arguments alone, and it has no semaphore. -/
theorem frame_reference : Cert.quiescent_ProjRefIdeal := fun m ρ _ =>
  (θ_run Cert.ProjRefIdeal.defs _ _).mono
    (fun r h => ⟨fun c => (h c).2.2, sem_eq_zero_of_no_sems rfl r.2⟩) (Cert.ProjRefIdeal.Value.run m ρ)

/-- Result by result. -/
theorem equal : Cert.algebraic_ProjIdeal_ProjRefIdeal := by
  intro m g m' g' _ hargs
  refine ⟨fun c => (dats m 0 c).arrAt 3 Cert.ProjIdeal.cfg0.N, fun c => (dats m 0 c).arrAt 4 Cert.ProjIdeal.cfg0.N,
    (θ_run Cert.ProjIdeal.defs _ _).mono (fun _ h => h) (Cert.ProjIdeal.Value.run_blocks m g),
    (θ_run Cert.ProjRefIdeal.defs _ _).mono (fun r h c => ?_) (Cert.ProjRefIdeal.Value.run m' g')⟩
  obtain ⟨a0, a1, a2⟩ := hargs c
  obtain ⟨h0, h1, hargs'⟩ := h c
  refine ⟨h0.trans ?_, h1.trans ?_, hargs'⟩
  · refine (Cert.ProjRefIdeal.Read.val_main_v15_eq _ _).trans ?_
    rw [a0, a1]
    exact (Cert.ProjIdeal.Grad.final3 m c).symm
  · refine (Cert.ProjRefIdeal.Read.val_main_v17_eq _).trans ?_
    rw [a0]
    exact (Cert.ProjIdeal.Grad.final4 m c).symm

end Cert.ProjClaim

end
-- ==== Proof.PoolB.Math.lean ====
/- The pooling's gradient in plain mathematics over the extended reals. Each token's gradient, divided by how many tokens its
   window held, goes to every token of the window; so a token receives the quotients of the window of tokens from itself on,
   less its own gradient. -/
module

public import Idealize.ShloMosaic.Lib.ValueIdx
public import Idealize.ShloMosaic.PureOps.Ideal.Laws

@[expose] public section

noncomputable section

namespace Cert.PoolMath

open Idealize.ShloMosaic Idealize.ShloMosaic.ValueIdx
open scoped BigOperators

abbrev Tokens : Shape := ⟨3, ![2, 2048, 1024]⟩

/-- A sequence continued by zeros. -/
def ext (y : Fin 2048 → EReal) (n : ℕ) : EReal := if h : n < 2048 then y ⟨n, h⟩ else 0

/-- The sum of the `w` terms from `s` on. -/
def win (y : Fin 2048 → EReal) (w s : ℕ) : EReal := ∑ j ∈ Finset.range w, ext y (s + j)

theorem ext_of_lt (y : Fin 2048 → EReal) (t : Fin 2048) : ext y t.val = y t := dif_pos t.isLt

theorem win_one (y : Fin 2048 → EReal) (t : Fin 2048) : win y 1 t.val = y t := by
  unfold win
  rw [Finset.sum_range_one]
  exact ext_of_lt y t

/-- Two windows end to end. -/
theorem win_add (y : Fin 2048 → EReal) (a b s : ℕ) : win y a s + win y b (s + a) = win y (a + b) s := by
  unfold win
  rw [Finset.sum_range_add]
  exact congrArg _ (Finset.sum_congr rfl fun j _ => by rw [Nat.add_assoc])

/-- Past the end a window holds nothing. -/
theorem win_past (y : Fin 2048 → EReal) (w s : ℕ) (h : 2048 ≤ s) : win y w s = 0 :=
  Finset.sum_eq_zero fun j _ => dif_neg (by omega)

theorem ext_win (y : Fin 2048 → EReal) (w n : ℕ) : ext (fun t => win y w t.val) n = win y w n := by
  unfold ext
  split
  · rfl
  · exact (win_past y w n (by omega)).symm

/-- The window as a sum over all tokens, those outside it counting nothing. -/
theorem sum_indicator (y : Fin 2048 → EReal) (w s : ℕ) :
    ∑ t : Fin 2048, y t * (if s ≤ t.val ∧ t.val < s + w then 1 else 0) = win y w s := by
  have h1 : ∀ t : Fin 2048, y t * (if s ≤ t.val ∧ t.val < s + w then 1 else 0)
      = (fun n : ℕ => if s ≤ n ∧ n < s + w then ext y n else 0) t.val := by
    intro t
    show _ = if s ≤ t.val ∧ t.val < s + w then ext y t.val else 0
    rw [ext_of_lt]
    split
    · exact mul_one _
    · exact mul_zero _
  rw [Finset.sum_congr rfl fun t _ => h1 t, Fin.sum_univ_eq_sum_range (fun n : ℕ => if s ≤ n ∧ n < s + w then ext y n else 0) 2048,
    ← Finset.sum_filter]
  have h2 : win y w s = ∑ n ∈ Finset.Ico s (s + w), ext y n := by
    rw [Finset.sum_Ico_eq_sum_range, Nat.add_sub_cancel_left]
    rfl
  rw [h2]
  refine Finset.sum_subset (fun n hn => ?_) (fun n hn hx => ?_)
  · have := (Finset.mem_filter.mp hn).2
    exact Finset.mem_Ico.mpr this
  · have hI := Finset.mem_Ico.mp hn
    refine dif_neg fun hlt => hx (Finset.mem_filter.mpr ⟨Finset.mem_range.mpr hlt, hI⟩)

/-- A group's window. -/
def width (g : Fin 4) : ℕ := 2 <<< g.val

/-- How many tokens the window of token `t` held. -/
def count (g : Fin 4) (t : Fin 2048) : EReal :=
  FloatOps.sitofp (F := Ideal) .f32 (IntOp.minsi (BitVec.ofNat 32 t.val + 1#32) (BitVec.ofNat 32 (width g)))

/-- The column that column `q` of group `g` is. -/
def col (g : Fin 4) (q : Fin 256) : Fin 1024 := ⟨256 * g.val + q.val, by have := g.isLt; have := q.isLt; omega⟩

/-- The gradient that token `s` receives. -/
def grad (d : Tokens.Idx → EReal) (b : Fin 2) (s : Fin 2048) (g : Fin 4) (q : Fin 256) : EReal :=
  -d (ix3 b s (col g q)) + win (fun t => Ideal.div (d (ix3 b t (col g q))) (count g t)) (width g) s.val

/-! ## Words -/

/-- A word shifted left by the group's number is the group's window. -/
theorem shifted (g : Fin 4) : IntOp.shli .scalar 2#32 (BitVec.ofNat 32 g.val) = BitVec.ofNat 32 (width g) := by
  fin_cases g <;> rfl

theorem shifted_host (g : Fin 4) : IntOp.shli .host 2#32 (BitVec.ofNat 32 g.val) = BitVec.ofNat 32 (width g) := by
  fin_cases g <;> rfl

theorem word_toInt (n : ℕ) (h : n < 4096) : (BitVec.ofNat 32 n).toInt = n := by
  rw [BitVec.toInt_ofNat']
  simp only [Int.bmod_def]
  omega

theorem word_sub (t s : ℕ) (ht : t < 2048) (hs : s < 2048) : (BitVec.ofNat 32 t - BitVec.ofNat 32 s).toInt = (t : ℤ) - s := by
  rw [BitVec.toInt_sub, word_toInt t (by omega), word_toInt s (by omega)]
  simp only [Int.bmod_def]
  omega

theorem width_le (g : Fin 4) : width g ≤ 16 := by fin_cases g <;> decide

/-- The bit "not before `s`, and within the window", as a number. -/
theorem inside (g : Fin 4) (t s : Fin 2048) :
    FloatOps.uitofp (F := Ideal) .f32 (IntOp.andi (IntOp.cmpi .sge (BitVec.ofNat 32 t.val - BitVec.ofNat 32 s.val) 0#32)
      (IntOp.cmpi .slt (BitVec.ofNat 32 t.val - BitVec.ofNat 32 s.val) (BitVec.ofNat 32 (width g))))
      = (if s.val ≤ t.val ∧ t.val < s.val + width g then (1 : EReal) else 0) := by
  have hw := width_le g
  have hs := word_sub t.val s.val t.isLt s.isLt
  have ha : BitVec.sle 0#32 (BitVec.ofNat 32 t.val - BitVec.ofNat 32 s.val) = decide (s.val ≤ t.val) := by
    unfold BitVec.sle
    rw [hs]
    exact decide_eq_decide.mpr (by show (0 : ℤ) ≤ _ ↔ _; omega)
  have hb : BitVec.slt (BitVec.ofNat 32 t.val - BitVec.ofNat 32 s.val) (BitVec.ofNat 32 (width g)) = decide (t.val < s.val + width g) := by
    unfold BitVec.slt
    rw [hs, word_toInt _ (by omega)]
    exact decide_eq_decide.mpr (by omega)
  show FloatOps.uitofp (F := Ideal) .f32 (IntOp.andi (BitVec.ofBool (BitVec.sle 0#32 _)) (BitVec.ofBool (BitVec.slt _ _))) = _
  rw [ha, hb]
  by_cases h1 : s.val ≤ t.val <;> by_cases h2 : t.val < s.val + width g <;>
    simp [h1, h2, IntOp.andi, FloatOps.uitofp]

end Cert.PoolMath

end
-- ==== Proof.PoolB.Block.lean ====
/- What one grid point of the pooling's backward kernel stores, read at an index over the extended reals. The kernel doubles a
   window four times, each time adding the sequence moved forward by the window's length with zeros after its end. -/
module

public import proofs.«01_k».proof.Proof.PoolB.Math
public import proofs.«01_k».proof.Proof.Gen.PoolBIdeal.Frame
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.PoolBIdeal.Block

open Cert.PoolBIdeal Cert.PoolBIdeal.Gen
open Idealize.ShloMosaic Idealize.ShloMosaic.ValueIdx
open Cert.PoolMath
open scoped BigOperators

theorem zero_word : Ideal.ofBits .f32 0x00000000#32 = 0 := by simp [Ideal.ofBits, Ideal.ieee]

theorem hz3 : (![0, 0, 0] : Fin 3 → Nat) = fun _ => 0 := funext fun a => by fin_cases a <;> rfl

/-- Is a row before a bound? -/
theorem before (s : Fin 2048) (n : ℕ) (hn : n < 4096) :
    IntOp.cmpi .slt (BitVec.ofNat 32 s.val) (BitVec.ofNat 32 n) = BitVec.ofBool (decide (s.val < n)) := by
  show BitVec.ofBool (BitVec.slt _ _) = _
  refine congrArg BitVec.ofBool ?_
  unfold BitVec.slt
  rw [word_toInt _ hn, word_toInt _ (by have := s.isLt; omega)]
  exact decide_eq_decide.mpr (by omega)

/-- The array moved forward by `k` rows, zeros after its end. -/
def moved (k : ℕ) (y : FVec Ideal S2048x256 .f32) : FVec Ideal S2048x256 .f32 :=
  select (cmpi .slt (iota .tc S2048x256 32 [0] iota_S2048x256_d0_w32) (broadcast S2048x256 (BitVec.ofNat 32 (2048 - k))))
    (dynamicRotate 0 (BitVec.ofNat 32 (2048 - k)) none y rotates_S2048x256_d0)
    (broadcast S2048x256 (Scalar.ofBits .f32 0x00000000#32 : Ideal .f32))

theorem moved_at (k : ℕ) (h0 : 0 < k) (hk : k ≤ 16) (y : FVec Ideal S2048x256 .f32) (s : Fin 2048) (q : Fin 256) :
    moved k y (ix2 s q) = ext (fun t => y (ix2 t q)) (s.val + k) := by
  have hs := s.isLt
  have hc : (cmpi .slt (iota .tc S2048x256 32 [0] iota_S2048x256_d0_w32) (broadcast S2048x256 (BitVec.ofNat 32 (2048 - k)))) (ix2 s q)
      = BitVec.ofBool (decide (s.val < 2048 - k)) := by
    refine Eq.trans (congrArg (fun n => IntOp.cmpi .slt (BitVec.ofNat 32 n) (BitVec.ofNat 32 (2048 - k))) ?_) (before s (2048 - k) (by omega))
    show 0 * 2048 + s.val = s.val
    omega
  unfold moved
  rw [select_apply, hc]
  unfold ext
  by_cases h : s.val < 2048 - k
  · rw [decide_eq_true h, dif_pos (by omega)]
    show dynamicRotate 0 (BitVec.ofNat 32 (2048 - k)) none y rotates_S2048x256_d0 (ix2 s q) = _
    refine congrArg y (funext fun ax => Fin.ext ?_)
    match ax with
    | ⟨0, _⟩ =>
      show (s.val + 2048 - ((BitVec.ofNat 32 (2048 - k)).toNat + 0) % 2048) % 2048 = s.val + k
      rw [BitVec.toNat_ofNat]
      omega
    | ⟨1, _⟩ => rfl
  · rw [decide_eq_false h, dif_neg (by omega)]
    exact zero_word

/-- One doubling. -/
theorem doubled (k : ℕ) (h0 : 0 < k) (hk : k ≤ 16) (y : FVec Ideal S2048x256 .f32) (u : Fin 2048 → EReal) (q : Fin 256)
    (hy : ∀ t : Fin 2048, y (ix2 t q) = win u k t.val) (s : Fin 2048) :
    addf y (moved k y) (ix2 s q) = win u (k + k) s.val := by
  refine (congrArg₂ (· + ·) (hy s) ((moved_at k h0 hk y s q).trans ?_)).trans (win_add u k k s.val)
  rw [show (fun t => y (ix2 t q)) = fun t : Fin 2048 => win u k t.val from funext hy]
  exact ext_win u k _

variable (i : grid0.Coords) (x0 : Vec Ideal S1x2048x256 .f32) (x1 : Vec Ideal S8x128 .f32)

/-- The block's quotients. -/
def quot (g : Fin 4) (q : Fin 256) (t : Fin 2048) : EReal := Ideal.div (x0 (ix3 (0 : Fin 1) t q)) (count g t)

theorem plain (s : Fin 2048) (q : Fin 256) : k0_pay2 x0 (ix2 s q) = x0 (ix3 (0 : Fin 1) s q) := by
  unfold k0_pay2
  exact shapeCast_1ab_ab_apply _ _ _ _

/-- The quotients, as the kernel computes them. -/
theorem divided (g : Fin 4) (hg : (i 1).val = g.val) (t : Fin 2048) (q : Fin 256) :
    divf (k0_pay2 x0) (sitofp .f32 (minsi (addi (iota .tc S2048x256 32 [0] iota_S2048x256_d0_w32) (broadcast S2048x256 1#32))
      (broadcast S2048x256 (Scalar.shli 2#32 (BitVec.ofNat 32 (i 1).val))))) (ix2 t q) = quot x0 g q t := by
  have h1 : (0 * 2048 + t.val) = t.val := by omega
  show Ideal.div (k0_pay2 x0 (ix2 t q)) (FloatOps.sitofp (F := Ideal) .f32 (IntOp.minsi (BitVec.ofNat 32 (0 * 2048 + t.val) + 1#32)
    (IntOp.shli .scalar 2#32 (BitVec.ofNat 32 (i 1).val)))) = _
  rw [plain, h1, hg, shifted]
  rfl

theorem two (g : Fin 4) (hg : (i 1).val = g.val) (s : Fin 2048) (q : Fin 256) : k0_pay3 i x0 (ix2 s q) = win (quot x0 g q) 2 s.val :=
  doubled 1 (by decide) (by decide) _ (quot x0 g q) q (fun t => (divided i x0 g hg t q).trans (win_one _ t).symm) s

theorem four (g : Fin 4) (hg : (i 1).val = g.val) (s : Fin 2048) (q : Fin 256) : k0_pay4 i x0 (ix2 s q) = win (quot x0 g q) 4 s.val :=
  doubled 2 (by decide) (by decide) _ (quot x0 g q) q (fun t => two i x0 g hg t q) s

theorem eight (g : Fin 4) (hg : (i 1).val = g.val) (s : Fin 2048) (q : Fin 256) :
    addf (k0_pay4 i x0) (moved 4 (k0_pay4 i x0)) (ix2 s q) = win (quot x0 g q) 8 s.val :=
  doubled 4 (by decide) (by decide) _ (quot x0 g q) q (fun t => four i x0 g hg t q) s

theorem sixteen (g : Fin 4) (hg : (i 1).val = g.val) (s : Fin 2048) (q : Fin 256) :
    addf (addf (k0_pay4 i x0) (moved 4 (k0_pay4 i x0))) (moved 8 (addf (k0_pay4 i x0) (moved 4 (k0_pay4 i x0)))) (ix2 s q)
      = win (quot x0 g q) 16 s.val :=
  doubled 8 (by decide) (by decide) _ (quot x0 g q) q (fun t => eight i x0 g hg t q) s

/-- The window that the group takes. -/
theorem chosen (g : Fin 4) (hg : (i 1).val = g.val) (s : Fin 2048) (q : Fin 256) :
    Scalar.select (Scalar.cmpi .eq (BitVec.ofNat 32 (i 1).val) 0#32) (k0_pay3 i x0)
      (Scalar.select (Scalar.cmpi .eq (BitVec.ofNat 32 (i 1).val) 1#32) (k0_pay4 i x0) (k0_pay5 i x0)) (ix2 s q)
      = win (quot x0 g q) (width g) s.val := by
  have h5 : k0_pay5 i x0 = Scalar.select (Scalar.cmpi .eq (BitVec.ofNat 32 (i 1).val) 2#32)
      (addf (k0_pay4 i x0) (moved 4 (k0_pay4 i x0)))
      (addf (addf (k0_pay4 i x0) (moved 4 (k0_pay4 i x0))) (moved 8 (addf (k0_pay4 i x0) (moved 4 (k0_pay4 i x0))))) := rfl
  rw [h5, hg]
  match g, hg with
  | ⟨0, _⟩, hg => exact two i x0 _ hg s q
  | ⟨1, _⟩, hg => exact four i x0 _ hg s q
  | ⟨2, _⟩, hg => exact eight i x0 _ hg s q
  | ⟨3, _⟩, hg => exact sixteen i x0 _ hg s q

/-- The block. -/
theorem stored (g : Fin 4) (hg : (i 1).val = g.val) (s : Fin 2048) (q : Fin 256) :
    out0_2 (F := Ideal) i x0 x1 (ix3 (0 : Fin 1) s q) = -x0 (ix3 (0 : Fin 1) s q) + win (quot x0 g q) (width g) s.val := by
  unfold out0_2
  rw [View.canon_unit_zero (S := S1x2048x256) hz3, View.ld_unit_zero (S := S1x2048x256) hz3]
  unfold k0_pay1
  refine (shapeCast_ab_1ab_apply _ _ _ _ _).trans ?_
  refine (congrArg₂ (fun a b : EReal => a - b) (chosen i x0 g hg s q) (plain x0 s q)).trans ?_
  rw [sub_eq_add_neg, add_comm]

end Cert.PoolBIdeal.Block

end
-- ==== Proof.PoolB.Reference.lean ====
/- The reference of the pooling's gradient, read at an index over the extended reals. -/
module

public import proofs.«01_k».proof.Proof.PoolB.Math
public import proofs.«01_k».proof.Proof.Gen.PoolBRefIdeal.Read
public import Idealize.ShloMosaic.Lib.ValueIdx

@[expose] public section

set_option maxRecDepth 16384

noncomputable section

namespace Cert.PoolBRefIdeal.Grad

open Cert.PoolBRefIdeal Cert.PoolBRefIdeal.Read
open Idealize.ShloMosaic Idealize.ShloMosaic.ValueIdx
open Cert.PoolMath
open scoped BigOperators

variable (x0 : Tokens.Idx → EReal)

/-- The windows. -/
theorem window (i : S4.Idx) : val_main_v6 (F := Ideal) i = BitVec.ofNat 32 (width (i 0)) := by
  rw [val_main_v6_apply]
  exact shifted_host (i 0)

/-- The indicator of the windows. -/
theorem indicator (g : Fin 4) (t s : Fin 2048) :
    val_main_v22 (F := Ideal) (ix3 g t s) = if s.val ≤ t.val ∧ t.val < s.val + width g then 1 else 0 := by
  rw [val_main_v22_apply, val_main_v21_apply, val_main_v20_apply, val_main_v19_apply, val_main_v13_apply, val_main_v18_apply,
    val_main_v16_apply, val_main_v15_apply, val_main_v17_apply, val_main_v14_apply, window]
  exact inside g t s

/-- The counts. -/
theorem counted (t : Fin 2048) (g : Fin 4) : val_main_v30 (F := Ideal) (ix2 t g) = count g t := by
  rw [val_main_v30_apply, val_main_v29_apply, val_main_v28_apply, val_main_v26_apply, window]
  rfl

/-- The gradient's groups. -/
theorem split (b : Fin 2) (t : Fin 2048) (g : Fin 4) (q : Fin 256) : val_main_v0 (F := Ideal) x0 (ix4 b t g q) = x0 (ix3 b t (col g q)) := by
  rw [val_main_v0_apply]
  have hb := b.isLt; have ht := t.isLt; have hg := g.isLt; have hq := q.isLt
  refine congrArg x0 ((eq_ix3 _).trans ?_)
  refine congr (congrArg₂ ix3 (Fin.ext ?_) (Fin.ext ?_)) (Fin.ext ?_)
  · show (((b.val * 2048 + t.val) * 4 + g.val) * 256 + q.val) / 2097152 = b.val; omega
  · show (((b.val * 2048 + t.val) * 4 + g.val) * 256 + q.val) / 1024 % 2048 = t.val; omega
  · show (((b.val * 2048 + t.val) * 4 + g.val) * 256 + q.val) % 1024 = 256 * g.val + q.val; omega

/-- The quotients. -/
theorem quotient (b : Fin 2) (t : Fin 2048) (g : Fin 4) (q : Fin 256) :
    val_main_v40 (F := Ideal) x0 (ix4 b t g q) = Ideal.div (x0 (ix3 b t (col g q))) (count g t) := by
  rw [val_main_v40_apply, split, val_main_v39_apply, val_main_v34_apply, val_main_v33_apply]
  refine congrArg _ (Eq.trans (congrArg _ ?_) (counted t g))
  exact eq_ix2 _

/-- The quotients' windows. -/
theorem gathered (b : Fin 2) (s : Fin 2048) (g : Fin 4) (q : Fin 256) :
    val_main_v43 (F := Ideal) x0 (ix4 b s g q) = win (fun t => Ideal.div (x0 (ix3 b t (col g q))) (count g t)) (width g) s.val := by
  rw [val_main_v43_apply, val_main_v42_apply, ← sum_indicator]
  refine Finset.sum_congr rfl fun t _ => congrArg₂ (· * ·) ?_ ?_
  · rw [val_main_v41_apply, ← quotient x0 b t g q]
    exact congrArg _ (eq_ix4 _)
  · rw [← indicator g t s]
    exact congrArg _ (eq_ix3 _)

/-- The result. -/
theorem result (b : Fin 2) (s : Fin 2048) (g : Fin 4) (q : Fin 256) : val_main_v46 (F := Ideal) x0 (ix3 b s (col g q)) = grad x0 b s g q := by
  show val_main_v45 (F := Ideal) x0 (ix3 b s (col g q)) = _
  rw [val_main_v45_apply]
  have hb := b.isLt; have hs := s.isLt; have hg := g.isLt; have hq := q.isLt
  have hi : idx_main_v45 (ix3 b s (col g q)) = ix4 b s g q := by
    refine (eq_ix4 _).trans ?_
    refine congr (congr (congrArg₂ ix4 (Fin.ext ?_) (Fin.ext ?_)) (Fin.ext ?_)) (Fin.ext ?_)
    · show ((b.val * 2048 + s.val) * 1024 + (256 * g.val + q.val)) / 2097152 = b.val; omega
    · show ((b.val * 2048 + s.val) * 1024 + (256 * g.val + q.val)) / 1024 % 2048 = s.val; omega
    · show ((b.val * 2048 + s.val) * 1024 + (256 * g.val + q.val)) / 256 % 4 = g.val; omega
    · show ((b.val * 2048 + s.val) * 1024 + (256 * g.val + q.val)) % 256 = q.val; omega
  rw [hi, val_main_v44_apply, gathered, val_main_v38_apply, split]
  rfl

end Cert.PoolBRefIdeal.Grad

end
-- ==== Proof.PoolB.Arrays.lean ====
/- The pooling's backward call over the extended reals: what its windows read, and the array it leaves, the reference's value. -/
module

public import proofs.«01_k».proof.Proof.PoolB.Block
public import proofs.«01_k».proof.Proof.PoolB.Reference
public import proofs.«01_k».proof.Proof.Gen.PoolBIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.PoolBIdeal.Grad

open Cert.PoolBIdeal Cert.PoolBIdeal.Gen Cert.PoolBIdeal.Block Cert.PoolMath
open Idealize.ShloMosaic hiding ix1 ix2 ix3 eq_ix1 eq_ix2 eq_ix3
open Idealize.ShloMosaic.ValueIdx
open Idealize.ShloMosaic.TcCoe Idealize.SL.Sem
open Cert.PoolBRefIdeal.Read (val_main_v46)
open scoped BigOperators

variable (m : (ℓ : Loc nD τ sig) → Buf (Elt Ideal) ℓ) (c : Dev nD)

/-- The launch's array. -/
abbrev d : Tokens.Idx → EReal := m ((c : Thread nD τ).loc main_arg0)

theorem V_d : V m c main_arg0 = d m c := by
  first | rfl | (unfold V; after_reads_simp)

/-- The sequence and the group that a point is. -/
def seq (t : Fin cfg0.N) : Fin 2 := ⟨t.val / 4, by have h : t.val < 8 := lt_of_lt_of_eq t.isLt N_0; omega⟩
def grp (t : Fin cfg0.N) : Fin 4 := ⟨t.val % 4, by omega⟩

/-- The point's second coordinate is its group. -/
theorem coord (t : Fin cfg0.N) : (grid0.coords t 1).val = (grp t).val := by
  rcases fin_N0 t with rfl | rfl | rfl | rfl | rfl | rfl | rfl | rfl <;> decide

theorem part0 (X : Tokens.Idx → EReal) (t : Fin cfg0.N) (s : Fin 2048) (q : Fin 256) :
    ((cfg0.win 0).blk t).view.read (Elt Ideal) X (ix3 (0 : Fin 1) s q) = X (ix3 (seq t) s (col (grp t) q)) := by
  have hi : win0_0.index t 0 = t.val / 4 ∧ win0_0.index t 1 = 0 ∧ win0_0.index t 2 = t.val % 4 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 1 + 1 * 0 = t.val / 4; rw [hi.1]; omega
  | ⟨1, _⟩ => show win0_0.index t 1 * 2048 + 1 * s.val = s.val; rw [hi.2.1]; omega
  | ⟨2, _⟩ => show win0_0.index t 2 * 256 + 1 * q.val = 256 * (t.val % 4) + q.val; rw [hi.2.2]; omega

theorem part2 (X : Tokens.Idx → EReal) (t : Fin cfg0.N) (s : Fin 2048) (q : Fin 256) :
    ((cfg0.win 2).blk t).view.read (Elt Ideal) X (ix3 (0 : Fin 1) s q) = X (ix3 (seq t) s (col (grp t) q)) := by
  have hi : win0_2.index t 0 = t.val / 4 ∧ win0_2.index t 1 = 0 ∧ win0_2.index t 2 = t.val % 4 := by
    rcases fin_N0 t with rfl | rfl | rfl | rfl | rfl | rfl | rfl | rfl <;> decide
  rw [View.read_apply]
  refine congrArg X (funext fun ax => Fin.ext ?_)
  match ax with
  | ⟨0, _⟩ => show win0_2.index t 0 * 1 + 1 * 0 = t.val / 4; rw [hi.1]; omega
  | ⟨1, _⟩ => show win0_2.index t 1 * 2048 + 1 * s.val = s.val; rw [hi.2.1]; omega
  | ⟨2, _⟩ => show win0_2.index t 2 * 256 + 1 * q.val = 256 * (t.val % 4) + q.val; rw [hi.2.2]; omega

theorem block0 (t : Fin cfg0.N) (s : Fin 2048) (q : Fin 256) :
    (iblk m c 0 t : Vec Ideal S1x2048x256 .f32) (ix3 (0 : Fin 1) s q) = d m c (ix3 (seq t) s (col (grp t) q)) := by
  rw [← part0 (d m c) t s q]
  unfold iblk
  exact congrArg (fun X => ((cfg0.win 0).blk t).view.read (Elt Ideal) X (ix3 (0 : Fin 1) s q)) (V_d m c)

/-- A point's block of gradients. -/
abbrev blk (t : Fin cfg0.N) : S1x2048x256.Idx → EReal := iblk m c 0 t

theorem grad_at (t : Fin cfg0.N) (s : Fin 2048) (q : Fin 256) :
    -blk m c t (ix3 (0 : Fin 1) s q) + win (quot (blk m c t) (grp t) q) (width (grp t)) s.val = grad (d m c) (seq t) s (grp t) q := by
  unfold grad
  refine congrArg₂ (· + ·) (congrArg _ (block0 m c t s q)) (congrArg (fun u => win u (width (grp t)) s.val) (funext fun r => ?_))
  exact congrArg (fun z => Ideal.div z (count (grp t) r)) (block0 m c t r q)

/-- The point of a sequence's column. -/
def pt (b : Fin 2) (q : Fin 1024) : Fin cfg0.N :=
  ⟨4 * b.val + q.val / 256, by have := b.isLt; have := q.isLt; rw [show cfg0.N = 8 from N_0]; omega⟩

/-- The gradient at the end. -/
theorem final2 : (dats m 0 c).arrAt 2 cfg0.N = val_main_v46 (F := Ideal) (d m c) := by
  refine (dats m 0 c).arrAt_eq_of_cover 2 _ (fun t _ => ?_) (fun i => ?_)
  · rw [Value.flushed2]
    funext j
    obtain ⟨z, s, q, rfl⟩ : ∃ (z : Fin 1) (s : Fin 2048) (q : Fin 256), j = ix3 z s q := ⟨j 0, j 1, j 2, eq_ix3 j⟩
    obtain rfl : z = 0 := Subsingleton.elim _ _
    exact (stored _ _ _ (grp t) (coord t) s q).trans ((grad_at m c t s q).trans
      ((PoolBRefIdeal.Grad.result _ (seq t) s (grp t) q).symm.trans (part2 _ t s q).symm))
  · have h0 : (i 0 : Nat) < 2 := (i 0).isLt
    have h1 : (i 1 : Nat) < 2048 := (i 1).isLt
    have h2 : (i 2 : Nat) < 1024 := (i 2).isLt
    refine ⟨pt (i 0) (i 2), flush0_2 _, ?_⟩
    have hi : win0_2.index (pt (i 0) (i 2)) 0 = (pt (i 0) (i 2)).val / 4 ∧ win0_2.index (pt (i 0) (i 2)) 1 = 0
        ∧ win0_2.index (pt (i 0) (i 2)) 2 = (pt (i 0) (i 2)).val % 4 := by
      rcases fin_N0 (pt (i 0) (i 2)) with h | h | h | h | h | h | h | h <;> rw [h] <;> decide
    have hp : (pt (i 0) (i 2)).val = 4 * (i 0).val + (i 2).val / 256 := rfl
    show i ∈ ((View.whole main_v0).slice (win0_2.rect (pt (i 0) (i 2)))).set
    rw [View.set_slice_whole, Rect.mem_set_unit]
    intro ax
    match ax with
    | ⟨0, _⟩ => show win0_2.index (pt (i 0) (i 2)) 0 * 1 ≤ (i 0 : Nat) ∧ (i 0 : Nat) < win0_2.index (pt (i 0) (i 2)) 0 * 1 + 1
                rw [hi.1, hp]; omega
    | ⟨1, _⟩ => show win0_2.index (pt (i 0) (i 2)) 1 * 2048 ≤ (i 1 : Nat) ∧ (i 1 : Nat) < win0_2.index (pt (i 0) (i 2)) 1 * 2048 + 2048
                rw [hi.2.1]; omega
    | ⟨2, _⟩ => show win0_2.index (pt (i 0) (i 2)) 2 * 256 ≤ (i 2 : Nat) ∧ (i 2 : Nat) < win0_2.index (pt (i 0) (i 2)) 2 * 256 + 256
                rw [hi.2.2, hp]; omega

end Cert.PoolBIdeal.Grad

end
-- ==== Proof.PoolB.Claim.lean ====
/- The claims about the pooling's backward call: both programs run, and the call's idealization ends with the arrays the reference's ends
   with. -/
module

public import proofs.«01_k».proof.Defs
public import proofs.«01_k».proof.Proof.PoolB.Arrays
public import proofs.«01_k».proof.Proof.Gen.PoolB.Frame
public import proofs.«01_k».proof.Proof.Gen.PoolBRefIdeal.Run
public import Idealize.ShloMosaic.Lib.Quiescent

@[expose] public section

set_option maxRecDepth 16384

noncomputable section

namespace Cert.PoolBClaim

open Idealize.ShloMosaic Idealize.ShloMosaic.TcCoe Idealize.SL.Sem
open Cert.PoolBIdeal.Gen (dats)

theorem frame_program : Cert.quiescent_PoolB := fun m ρ _ => Cert.PoolB.Gen.frame m ρ

theorem frame_ideal : Cert.quiescent_PoolBIdeal := fun m ρ _ => Cert.PoolBIdeal.Gen.frame m ρ

/-- The reference's run leaves its arguments alone, and it has no semaphore. -/
theorem frame_reference : Cert.quiescent_PoolBRefIdeal := fun m ρ _ =>
  (θ_run Cert.PoolBRefIdeal.defs _ _).mono
    (fun r h => ⟨fun c => (h c).2, sem_eq_zero_of_no_sems rfl r.2⟩) (Cert.PoolBRefIdeal.Value.run m ρ)

/-- Result by result. -/
theorem equal : Cert.algebraic_PoolBIdeal_PoolBRefIdeal := by
  intro m g m' g' _ hargs
  refine ⟨fun c => (dats m 0 c).arrAt 2 Cert.PoolBIdeal.cfg0.N,
    (θ_run Cert.PoolBIdeal.defs _ _).mono (fun _ h => h) (Cert.PoolBIdeal.Value.run_blocks m g),
    (θ_run Cert.PoolBRefIdeal.defs _ _).mono (fun r h c => ?_) (Cert.PoolBRefIdeal.Value.run m' g')⟩
  obtain ⟨a0, a1⟩ := hargs c
  obtain ⟨h0, hargs'⟩ := h c
  refine ⟨h0.trans ?_, hargs'⟩
  · refine (Cert.PoolBRefIdeal.Read.val_main_v46_eq _).trans ?_
    rw [a0]
    exact (Cert.PoolBIdeal.Grad.final2 m c).symm

end Cert.PoolBClaim

end
-- ==== Proof.DwOut.Block.lean ====
/- What one grid point of the output projection weight's gradient kernel stores, read at an index over the extended reals. -/
module

public import proofs.«01_k».proof.Proof.Dw.Math
public import proofs.«01_k».proof.Proof.Gen.DwOutIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwOutIdeal.Block

open Cert.DwOutIdeal Cert.DwOutIdeal.Gen
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- The product over all 4096 rows. -/
theorem product (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ t : Fin 4096, a (ix2 p t) * b (ix2 t q) := by
  refine (Ideal.matmul_plain_apply (M := 1024) (K := 4096) (N := 512) none a b _ p q).trans ?_
  rw [constant_apply, zero_word, zero_add]

variable (x0 : Vec Ideal S1024x4096 .bf16) (x1 : Vec Ideal S4096x512 .bf16)

/-- The value both stores hold. -/
theorem value (p : Fin 1024) (q : Fin 512) : k0_pay1 x1 x0 (ix2 p q) = ∑ t : Fin 4096, x0 (ix2 p t) * x1 (ix2 t q) := by
  unfold k0_pay1
  rw [shapeCast_self, shapeCast_self]
  exact product _ _ p q

/-- The full-precision result's block. -/
theorem stored_wide (p : Fin 1024) (q : Fin 512) :
    out0_2 (F := Ideal) x0 x1 (ix2 p q) = ∑ t : Fin 4096, x0 (ix2 p t) * x1 (ix2 t q) := by
  unfold out0_2
  rw [View.canon_unit_zero (S := S1024x512) hz2, View.ld_unit_zero (S := S4096x512) hz2, View.ld_unit_zero (S := S1024x4096) hz2]
  exact value x0 x1 p q

/-- The rounded result's block. -/
theorem stored_narrow (p : Fin 1024) (q : Fin 512) :
    out0_3 (F := Ideal) x0 x1 (ix2 p q) = ∑ t : Fin 4096, x0 (ix2 p t) * x1 (ix2 t q) := by
  unfold out0_3
  rw [View.canon_unit_zero (S := S1024x512) hz2, View.ld_unit_zero (S := S4096x512) hz2, View.ld_unit_zero (S := S1024x4096) hz2]
  exact value x0 x1 p q

end Cert.DwOutIdeal.Block

end
-- ==== Proof.Dw.Square.lean ====
/- A weight's gradient where both arrays have 1024 columns. -/
module

public import proofs.«01_k».proof.Proof.Dw.Math

@[expose] public section

noncomputable section

namespace Cert.DwMath

open Idealize.ShloMosaic Idealize.ShloMosaic.ValueIdx
open scoped BigOperators

abbrev Square : Shape := ⟨2, ![1024, 1024]⟩

/-- The input as two sequences, each turned. -/
abbrev Sequences : Shape := ⟨3, ![2, 1024, 2048]⟩

/-- The row that row `s` of sequence `b` is. -/
def at_ (b : Fin 2) (s : Fin 2048) : Fin 4096 := ⟨2048 * b.val + s.val, by have := b.isLt; have := s.isLt; omega⟩

/-- Input column `p` against output column `q`. -/
def square (x g : Rows.Idx → EReal) (p q : Fin 1024) : EReal := ∑ t : Fin 4096, x (ix2 t p) * g (ix2 t q)

/-- A sum over the rows is the first sequence's rows' and the second's. -/
theorem two_sequences (f : Fin 4096 → EReal) :
    ∑ t : Fin 4096, f t
      = (∑ s : Fin 2048, f ⟨s.val, by have := s.isLt; omega⟩) + ∑ s : Fin 2048, f ⟨2048 + s.val, by have := s.isLt; omega⟩ :=
  Fin.sum_univ_add (a := 2048) (b := 2048) f

/-- The pooled input, and its four groups' weights. -/
abbrev Groups : Shape := ⟨3, ![4096, 4, 256]⟩
abbrev Four256 : Shape := ⟨3, ![4, 256, 256]⟩

/-- The column that column `q` of group `g` is. -/
def in_ (g : Fin 4) (q : Fin 256) : Fin 1024 := ⟨256 * g.val + q.val, by have := g.isLt; have := q.isLt; omega⟩

/-- Group `g`'s input column `p` against its output column `q`. -/
def group (x : Groups.Idx → EReal) (d : Rows.Idx → EReal) (g : Fin 4) (p q : Fin 256) : EReal :=
  ∑ t : Fin 4096, x (ix3 t g p) * d (ix2 t (in_ g q))

end Cert.DwMath

end
-- ==== Proof.DwOut.Reference.lean ====
/- The reference of the output projection weight's gradient, read at an index over the extended reals. -/
module

public import proofs.«01_k».proof.Proof.Dw.Square
public import proofs.«01_k».proof.Proof.Gen.DwOutRefIdeal.Read
public import Idealize.ShloMosaic.Lib.ValueIdx

@[expose] public section

set_option maxRecDepth 16384

noncomputable section

namespace Cert.DwOutRefIdeal.Grad

open Cert.DwOutRefIdeal Cert.DwOutRefIdeal.Read
open Idealize.ShloMosaic Idealize.ShloMosaic.ValueIdx
open Cert.DwMath
open scoped BigOperators

variable (x0 x1 : Rows.Idx → EReal)

/-- The full-precision result. -/
theorem result_wide (p q : Fin 1024) : val_main_v3 (F := Ideal) x0 x1 (ix2 p q) = square x0 x1 p q := by
  rw [val_main_v3_apply, show idx_main_v3 (ix2 p q) = ix2 q p from eq_ix2 _, val_main_v2_apply]
  refine Finset.sum_congr rfl fun t _ => ?_
  rw [show lidx_main_v2 (ix2 q p) t = ix2 t q from eq_ix2 _, show ridx_main_v2 (ix2 q p) t = ix2 t p from eq_ix2 _]
  exact mul_comm _ _

/-- The rounded one: rounding changes nothing over the extended reals. -/
theorem result_narrow (p q : Fin 1024) : val_main_v4 (F := Ideal) x0 x1 (ix2 p q) = square x0 x1 p q :=
  result_wide x0 x1 p q

end Cert.DwOutRefIdeal.Grad

end
-- ==== Proof.DwOut.Arrays.lean ====
/- The output projection weight's gradient call over the extended reals: what its windows read, and the arrays it leaves, the reference's values. -/
module

public import proofs.«01_k».proof.Proof.DwOut.Block
public import proofs.«01_k».proof.Proof.DwOut.Reference
public import proofs.«01_k».proof.Proof.Gen.DwOutIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwOutIdeal.Grad

open Cert.DwOutIdeal Cert.DwOutIdeal.Gen Cert.DwOutIdeal.Block Cert.DwMath
open Idealize.ShloMosaic hiding ix1 ix2 ix3 eq_ix1 eq_ix2 eq_ix3
open Idealize.ShloMosaic.ValueIdx
open Idealize.ShloMosaic.TcCoe Idealize.SL.Sem
open Cert.DwOutRefIdeal.Read (val_main_v3 val_main_v4)
open scoped BigOperators

variable (m : (ℓ : Loc nD τ sig) → Buf (Elt Ideal) ℓ) (c : Dev nD)

/-- The launch's arrays. -/
abbrev x : Rows.Idx → EReal := m ((c : Thread nD τ).loc main_arg0)
abbrev g : Rows.Idx → EReal := m ((c : Thread nD τ).loc main_arg1)

/-- The first operand is the input turned. -/
theorem V_x (p : Fin 1024) (t : Fin 4096) : V m c main_v1 (ix2 p t) = x m c (ix2 t p) := by
  have h : V m c main_v1 = transpose (α := EReal) S1024x4096 [1, 0] (x m c) (by decide) := by
    unfold V; after_reads_simp; rfl
  rw [h]
  exact transpose_ix2_apply _ _ _ _

/-- The second operand. -/
theorem V_g : V m c main_v2 = g m c := by
  unfold V; after_reads_simp; rfl

/-- The column of the arrays that column `q` of point `t`'s block is. -/
def col (t : Fin cfg0.N) (q : Fin 512) : Fin 1024 :=
  ⟨512 * t.val + q.val, by have h : t.val < 2 := lt_of_lt_of_eq t.isLt N_0; have := q.isLt; omega⟩

theorem whole0 (X : Turned.Idx → EReal) (t : Fin cfg0.N) (p : Fin 1024) (k : Fin 4096) :
    ((cfg0.win 0).blk t).view.read (Elt Ideal) X (ix2 p k) = X (ix2 p k) := by
  have hi : win0_0.index t 0 = 0 ∧ win0_0.index t 1 = 0 := by
    rcases fin_N0 t with rfl | rfl <;> decide
  rw [View.read_apply]
  refine congrArg X (funext fun ax => Fin.ext ?_)
  match ax with
  | ⟨0, _⟩ => show win0_0.index t 0 * 1024 + 1 * p.val = p.val; rw [hi.1]; omega
  | ⟨1, _⟩ => show win0_0.index t 1 * 4096 + 1 * k.val = k.val; rw [hi.2]; omega

theorem columns1 (X : Rows.Idx → EReal) (t : Fin cfg0.N) (k : Fin 4096) (q : Fin 512) :
    ((cfg0.win 1).blk t).view.read (Elt Ideal) X (ix2 k q) = X (ix2 k (col t q)) := by
  have hi : win0_1.index t 0 = 0 ∧ win0_1.index t 1 = t.val := by
    rcases fin_N0 t with rfl | rfl <;> decide
  rw [View.read_apply]
  refine congrArg X (funext fun ax => Fin.ext ?_)
  match ax with
  | ⟨0, _⟩ => show win0_1.index t 0 * 4096 + 1 * k.val = k.val; rw [hi.1]; omega
  | ⟨1, _⟩ => show win0_1.index t 1 * 512 + 1 * q.val = 512 * t.val + q.val; rw [hi.2]; omega

theorem columns2 (X : Square.Idx → EReal) (t : Fin cfg0.N) (p : Fin 1024) (q : Fin 512) :
    ((cfg0.win 2).blk t).view.read (Elt Ideal) X (ix2 p q) = X (ix2 p (col t q)) := by
  have hi : win0_2.index t 0 = 0 ∧ win0_2.index t 1 = t.val := by
    rcases fin_N0 t with rfl | rfl <;> decide
  rw [View.read_apply]
  refine congrArg X (funext fun ax => Fin.ext ?_)
  match ax with
  | ⟨0, _⟩ => show win0_2.index t 0 * 1024 + 1 * p.val = p.val; rw [hi.1]; omega
  | ⟨1, _⟩ => show win0_2.index t 1 * 512 + 1 * q.val = 512 * t.val + q.val; rw [hi.2]; omega

theorem columns3 (X : Square.Idx → EReal) (t : Fin cfg0.N) (p : Fin 1024) (q : Fin 512) :
    ((cfg0.win 3).blk t).view.read (Elt Ideal) X (ix2 p q) = X (ix2 p (col t q)) := by
  have hi : win0_3.index t 0 = 0 ∧ win0_3.index t 1 = t.val := by
    rcases fin_N0 t with rfl | rfl <;> decide
  rw [View.read_apply]
  refine congrArg X (funext fun ax => Fin.ext ?_)
  match ax with
  | ⟨0, _⟩ => show win0_3.index t 0 * 1024 + 1 * p.val = p.val; rw [hi.1]; omega
  | ⟨1, _⟩ => show win0_3.index t 1 * 512 + 1 * q.val = 512 * t.val + q.val; rw [hi.2]; omega

theorem block0 (t : Fin cfg0.N) (p : Fin 1024) (k : Fin 4096) : (iblk m c 0 t : Vec Ideal S1024x4096 .bf16) (ix2 p k) = x m c (ix2 k p) := by
  rw [← V_x m c p k]
  unfold iblk
  exact whole0 _ t p k

theorem block1 (t : Fin cfg0.N) (k : Fin 4096) (q : Fin 512) : (iblk m c 1 t : Vec Ideal S4096x512 .bf16) (ix2 k q) = g m c (ix2 k (col t q)) := by
  rw [← columns1 (g m c) t k q]
  unfold iblk
  exact congrArg (fun X => ((cfg0.win 1).blk t).view.read (Elt Ideal) X (ix2 k q)) (V_g m c)

/-- A point's two blocks. -/
abbrev left (t : Fin cfg0.N) : S1024x4096.Idx → EReal := iblk m c 0 t
abbrev right (t : Fin cfg0.N) : S4096x512.Idx → EReal := iblk m c 1 t

/-- The sums over a point's blocks are the gradient's. -/
theorem sum_at (t : Fin cfg0.N) (p : Fin 1024) (q : Fin 512) :
    ∑ k : Fin 4096, left m c t (ix2 p k) * right m c t (ix2 k q)
      = square (x m c) (g m c) p (col t q) :=
  Finset.sum_congr rfl fun k _ => congrArg₂ (· * ·) (block0 m c t p k) (block1 m c t k q)

/-- The point whose block holds column `q`. -/
def pt (q : Fin 1024) : Fin cfg0.N := ⟨q.val / 512, by have := q.isLt; rw [show cfg0.N = 2 from N_0]; omega⟩

/-- The full-precision result at the end. -/
theorem final2 : (dats m 0 c).arrAt 2 cfg0.N = val_main_v3 (F := Ideal) (x m c) (g m c) := by
  refine (dats m 0 c).arrAt_eq_of_cover 2 _ (fun t _ => ?_) (fun i => ?_)
  · rw [Value.flushed2]
    funext j
    obtain ⟨p, q, rfl⟩ : ∃ (p : Fin 1024) (q : Fin 512), j = ix2 p q := ⟨j 0, j 1, eq_ix2 j⟩
    exact (stored_wide _ _ p q).trans ((sum_at m c t p q).trans ((DwOutRefIdeal.Grad.result_wide _ _ p (col t q)).symm.trans (columns2 _ t p q).symm))
  · have h0 : (i 0 : Nat) < 1024 := (i 0).isLt
    have h1 : (i 1 : Nat) < 1024 := (i 1).isLt
    refine ⟨pt (i 1), flush0_2 _, ?_⟩
    have hi : win0_2.index (pt (i 1)) 1 = (pt (i 1)).val ∧ win0_2.index (pt (i 1)) 0 = 0 := by
      rcases fin_N0 (pt (i 1)) with h | h <;> rw [h] <;> decide
    have hp : (pt (i 1)).val = (i 1).val / 512 := rfl
    show i ∈ ((View.whole main_v3_0).slice (win0_2.rect (pt (i 1)))).set
    rw [View.set_slice_whole, Rect.mem_set_unit]
    intro ax
    match ax with
    | ⟨0, _⟩ => show win0_2.index (pt (i 1)) 0 * 1024 ≤ (i 0 : Nat) ∧ (i 0 : Nat) < win0_2.index (pt (i 1)) 0 * 1024 + 1024
                rw [hi.2]; omega
    | ⟨1, _⟩ => show win0_2.index (pt (i 1)) 1 * 512 ≤ (i 1 : Nat) ∧ (i 1 : Nat) < win0_2.index (pt (i 1)) 1 * 512 + 512
                rw [hi.1, hp]; omega

/-- The rounded result at the end. -/
theorem final3 : (dats m 0 c).arrAt 3 cfg0.N = val_main_v4 (F := Ideal) (x m c) (g m c) := by
  refine (dats m 0 c).arrAt_eq_of_cover 3 _ (fun t _ => ?_) (fun i => ?_)
  · rw [Value.flushed3]
    funext j
    obtain ⟨p, q, rfl⟩ : ∃ (p : Fin 1024) (q : Fin 512), j = ix2 p q := ⟨j 0, j 1, eq_ix2 j⟩
    exact (stored_narrow _ _ p q).trans ((sum_at m c t p q).trans ((DwOutRefIdeal.Grad.result_narrow _ _ p (col t q)).symm.trans (columns3 _ t p q).symm))
  · have h0 : (i 0 : Nat) < 1024 := (i 0).isLt
    have h1 : (i 1 : Nat) < 1024 := (i 1).isLt
    refine ⟨pt (i 1), flush0_3 _, ?_⟩
    have hi : win0_3.index (pt (i 1)) 1 = (pt (i 1)).val ∧ win0_3.index (pt (i 1)) 0 = 0 := by
      rcases fin_N0 (pt (i 1)) with h | h <;> rw [h] <;> decide
    have hp : (pt (i 1)).val = (i 1).val / 512 := rfl
    show i ∈ ((View.whole main_v3_1).slice (win0_3.rect (pt (i 1)))).set
    rw [View.set_slice_whole, Rect.mem_set_unit]
    intro ax
    match ax with
    | ⟨0, _⟩ => show win0_3.index (pt (i 1)) 0 * 1024 ≤ (i 0 : Nat) ∧ (i 0 : Nat) < win0_3.index (pt (i 1)) 0 * 1024 + 1024
                rw [hi.2]; omega
    | ⟨1, _⟩ => show win0_3.index (pt (i 1)) 1 * 512 ≤ (i 1 : Nat) ∧ (i 1 : Nat) < win0_3.index (pt (i 1)) 1 * 512 + 512
                rw [hi.1, hp]; omega

end Cert.DwOutIdeal.Grad

end
-- ==== Proof.DwOut.Claim.lean ====
/- The claims about the output projection weight's gradient call: both programs run, and the call's idealization ends with the arrays the reference's ends
   with. -/
module

public import proofs.«01_k».proof.Defs
public import proofs.«01_k».proof.Proof.DwOut.Arrays
public import proofs.«01_k».proof.Proof.Gen.DwOut.Frame
public import proofs.«01_k».proof.Proof.Gen.DwOutRefIdeal.Run
public import Idealize.ShloMosaic.Lib.Quiescent

@[expose] public section

set_option maxRecDepth 16384

noncomputable section

namespace Cert.DwOutClaim

open Idealize.ShloMosaic Idealize.ShloMosaic.TcCoe Idealize.SL.Sem
open Cert.DwOutIdeal.Gen (dats)

theorem frame_program : Cert.quiescent_DwOut := fun m ρ _ => Cert.DwOut.Gen.frame m ρ

theorem frame_ideal : Cert.quiescent_DwOutIdeal := fun m ρ _ => Cert.DwOutIdeal.Gen.frame m ρ

/-- The reference's run leaves its arguments alone, and it has no semaphore. -/
theorem frame_reference : Cert.quiescent_DwOutRefIdeal := fun m ρ _ =>
  (θ_run Cert.DwOutRefIdeal.defs _ _).mono
    (fun r h => ⟨fun c => (h c).2.2, sem_eq_zero_of_no_sems rfl r.2⟩) (Cert.DwOutRefIdeal.Value.run m ρ)

/-- Result by result. -/
theorem equal : Cert.algebraic_DwOutIdeal_DwOutRefIdeal := by
  intro m g m' g' _ hargs
  refine ⟨fun c => (dats m 0 c).arrAt 2 Cert.DwOutIdeal.cfg0.N, fun c => (dats m 0 c).arrAt 3 Cert.DwOutIdeal.cfg0.N,
    (θ_run Cert.DwOutIdeal.defs _ _).mono (fun _ h => h) (Cert.DwOutIdeal.Value.run_blocks m g),
    (θ_run Cert.DwOutRefIdeal.defs _ _).mono (fun r h c => ?_) (Cert.DwOutRefIdeal.Value.run m' g')⟩
  obtain ⟨a0, a1⟩ := hargs c
  obtain ⟨h0, h1, hargs'⟩ := h c
  refine ⟨h0.trans ?_, h1.trans ?_, hargs'⟩
  · refine (Cert.DwOutRefIdeal.Read.val_main_v3_eq _ _).trans ?_
    rw [a0, a1]
    exact (Cert.DwOutIdeal.Grad.final2 m c).symm
  · refine (Cert.DwOutRefIdeal.Read.val_main_v4_eq _ _).trans ?_
    rw [a0, a1]
    exact (Cert.DwOutIdeal.Grad.final3 m c).symm

end Cert.DwOutClaim

end
-- ==== Proof.DwA.Block.lean ====
/- What one grid point of the recurrence branch's weight gradient kernel stores, read at an index over the extended reals. -/
module

public import proofs.«01_k».proof.Proof.Dw.Math
public import proofs.«01_k».proof.Proof.Gen.DwAIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwAIdeal.Block

open Cert.DwAIdeal Cert.DwAIdeal.Gen
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- The product over one sequence's rows. -/
theorem product (a : FVec Ideal S1024x2048 .bf16) (b : FVec Ideal S2048x512 .bf16) (p : Fin 1024) (q : Fin 512) :
    matmul dot_S1024x2048_S2048x512_S1024x512_1_0_0_1_n_n none a b (constant S1024x512 .f32 0x00000000#32) (ix2 p q)
      = ∑ t : Fin 2048, a (ix2 p t) * b (ix2 t q) := by
  refine (Ideal.matmul_plain_apply (M := 1024) (K := 2048) (N := 512) none a b _ p q).trans ?_
  rw [constant_apply, zero_word, zero_add]

variable (x0 : Vec Ideal S2x1024x2048 .bf16) (x1 : Vec Ideal S4096x512 .bf16)

/-- The first sequence's sum and the second's. -/
def both (p : Fin 1024) (q : Fin 512) : EReal :=
  (∑ s : Fin 2048, x0 (ix3 (0 : Fin 2) p s) * x1 (ix2 ⟨s.val, by have := s.isLt; omega⟩ q))
    + ∑ s : Fin 2048, x0 (ix3 (1 : Fin 2) p s) * x1 (ix2 ⟨2048 + s.val, by have := s.isLt; omega⟩ q)

/-- The value both stores hold. -/
theorem value (p : Fin 1024) (q : Fin 512) : k0_pay1 x1 (View.ld x0 r0_1) (View.ld x0 r0_2) (ix2 p q) = both x0 x1 p q := by
  unfold k0_pay1 both
  refine congrArg₂ (· + ·) ((congrArg₂ (· + ·) zero_word rfl).trans ((zero_add _).trans ?_)) ?_
  · refine (product _ _ p q).trans (Finset.sum_congr rfl fun s _ => congrArg₂ (· * ·) ?_ ?_)
    · rw [shapeCast_1ab_ab_apply]
      refine View.ld_unit_apply_of x0 _ _ _ _ _ fun ax => ?_
      match ax with
      | ⟨0, _⟩ => rfl
      | ⟨1, _⟩ => show p.val = 0 + p.val; omega
      | ⟨2, _⟩ => show s.val = 0 + s.val; omega
    · rw [shapeCast_self]
      refine congrArg x1 (funext fun ax => Fin.ext ?_)
      match ax with
      | ⟨0, _⟩ => show 0 + s.val = s.val; omega
      | ⟨1, _⟩ => show 0 + q.val = q.val; omega
  · refine (product _ _ p q).trans (Finset.sum_congr rfl fun s _ => congrArg₂ (· * ·) ?_ ?_)
    · rw [shapeCast_1ab_ab_apply]
      refine View.ld_unit_apply_of x0 _ _ _ _ _ fun ax => ?_
      match ax with
      | ⟨0, _⟩ => rfl
      | ⟨1, _⟩ => show p.val = 0 + p.val; omega
      | ⟨2, _⟩ => show s.val = 0 + s.val; omega
    · rw [shapeCast_self]
      refine congrArg x1 (funext fun ax => Fin.ext ?_)
      match ax with
      | ⟨0, _⟩ => show 2048 + s.val = 2048 + s.val; omega
      | ⟨1, _⟩ => show 0 + q.val = q.val; omega

/-- The full-precision result's block. -/
theorem stored_wide (p : Fin 1024) (q : Fin 512) : out0_2 (F := Ideal) x0 x1 (ix2 p q) = both x0 x1 p q := by
  unfold out0_2
  rw [View.canon_unit_zero (S := S1024x512) hz2, View.ld_unit_zero (S := S4096x512) hz2]
  exact value x0 x1 p q

/-- The rounded result's block. -/
theorem stored_narrow (p : Fin 1024) (q : Fin 512) : out0_3 (F := Ideal) x0 x1 (ix2 p q) = both x0 x1 p q := by
  unfold out0_3
  rw [View.canon_unit_zero (S := S1024x512) hz2, View.ld_unit_zero (S := S4096x512) hz2]
  exact value x0 x1 p q

end Cert.DwAIdeal.Block

end
-- ==== Proof.DwA.Reference.lean ====
/- The reference of the recurrence branch's weight's gradient, read at an index over the extended reals. -/
module

public import proofs.«01_k».proof.Proof.Dw.Square
public import proofs.«01_k».proof.Proof.Gen.DwARefIdeal.Read
public import Idealize.ShloMosaic.Lib.ValueIdx

@[expose] public section

set_option maxRecDepth 16384

noncomputable section

namespace Cert.DwARefIdeal.Grad

open Cert.DwARefIdeal Cert.DwARefIdeal.Read
open Idealize.ShloMosaic Idealize.ShloMosaic.ValueIdx
open Cert.DwMath
open scoped BigOperators

variable (x0 x1 : Rows.Idx → EReal)

/-- The full-precision result. -/
theorem result_wide (p q : Fin 1024) : val_main_v3 (F := Ideal) x0 x1 (ix2 p q) = square x0 x1 p q := by
  rw [val_main_v3_apply, show idx_main_v3 (ix2 p q) = ix2 q p from eq_ix2 _, val_main_v2_apply]
  refine Finset.sum_congr rfl fun t _ => ?_
  rw [show lidx_main_v2 (ix2 q p) t = ix2 t q from eq_ix2 _, show ridx_main_v2 (ix2 q p) t = ix2 t p from eq_ix2 _]
  exact mul_comm _ _

/-- The rounded one: rounding changes nothing over the extended reals. -/
theorem result_narrow (p q : Fin 1024) : val_main_v4 (F := Ideal) x0 x1 (ix2 p q) = square x0 x1 p q :=
  result_wide x0 x1 p q

end Cert.DwARefIdeal.Grad

end
-- ==== Proof.DwA.Arrays.lean ====
/- The recurrence branch's weight's gradient call over the extended reals: what its windows read, and the arrays it leaves, the reference's values. -/
module

public import proofs.«01_k».proof.Proof.DwA.Block
public import proofs.«01_k».proof.Proof.DwA.Reference
public import proofs.«01_k».proof.Proof.Gen.DwAIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwAIdeal.Grad

open Cert.DwAIdeal Cert.DwAIdeal.Gen Cert.DwAIdeal.Block Cert.DwMath
open Idealize.ShloMosaic hiding ix1 ix2 ix3 eq_ix1 eq_ix2 eq_ix3
open Idealize.ShloMosaic.ValueIdx
open Idealize.ShloMosaic.TcCoe Idealize.SL.Sem
open Cert.DwARefIdeal.Read (val_main_v3 val_main_v4)
open scoped BigOperators

variable (m : (ℓ : Loc nD τ sig) → Buf (Elt Ideal) ℓ) (c : Dev nD)

/-- The launch's arrays. -/
abbrev x : Rows.Idx → EReal := m ((c : Thread nD τ).loc main_arg0)
abbrev g : Rows.Idx → EReal := m ((c : Thread nD τ).loc main_arg1)

/-- The first operand is the input with each sequence turned. -/
theorem V_x (b : Fin 2) (p : Fin 1024) (s : Fin 2048) : V m c main_v2 (ix3 b p s) = x m c (ix2 (at_ b s) p) := by
  have h : V m c main_v2 = transpose (α := EReal) S2x1024x2048 [0, 2, 1] (shapeCast S2x2048x1024 (x m c) (by decide)) (by decide) := by
    unfold V; after_reads_simp; rfl
  rw [h]
  refine (transpose_apply [0, 2, 1] _ _ (ix3 b p s) (ix3 b s p) (fun ax => by match ax with | ⟨0, _⟩ => rfl | ⟨1, _⟩ => rfl | ⟨2, _⟩ => rfl)).trans ?_
  refine shapeCast_apply _ _ (ix3 b s p) (ix2 (at_ b s) p) ?_
  rw [Shape.rowMajor_val_two, Shape.rowMajor_val_three]
  show (2048 * b.val + s.val) * 1024 + p.val = (b.val * 2048 + s.val) * 1024 + p.val
  omega

/-- The second operand. -/
theorem V_g : V m c main_v3 = g m c := by
  unfold V; after_reads_simp; rfl

/-- The column of the arrays that column `q` of point `t`'s block is. -/
def col (t : Fin cfg0.N) (q : Fin 512) : Fin 1024 :=
  ⟨512 * t.val + q.val, by have h : t.val < 2 := lt_of_lt_of_eq t.isLt N_0; have := q.isLt; omega⟩

theorem whole0 (X : Sequences.Idx → EReal) (t : Fin cfg0.N) (b : Fin 2) (p : Fin 1024) (s : Fin 2048) :
    ((cfg0.win 0).blk t).view.read (Elt Ideal) X (ix3 b p s) = X (ix3 b p s) := by
  have hi : win0_0.index t 0 = 0 ∧ win0_0.index t 1 = 0 ∧ win0_0.index t 2 = 0 := by
    rcases fin_N0 t with rfl | rfl <;> decide
  rw [View.read_apply]
  refine congrArg X (funext fun ax => Fin.ext ?_)
  match ax with
  | ⟨0, _⟩ => show win0_0.index t 0 * 2 + 1 * b.val = b.val; rw [hi.1]; omega
  | ⟨1, _⟩ => show win0_0.index t 1 * 1024 + 1 * p.val = p.val; rw [hi.2.1]; omega
  | ⟨2, _⟩ => show win0_0.index t 2 * 2048 + 1 * s.val = s.val; rw [hi.2.2]; omega

theorem columns1 (X : Rows.Idx → EReal) (t : Fin cfg0.N) (k : Fin 4096) (q : Fin 512) :
    ((cfg0.win 1).blk t).view.read (Elt Ideal) X (ix2 k q) = X (ix2 k (col t q)) := by
  have hi : win0_1.index t 0 = 0 ∧ win0_1.index t 1 = t.val := by
    rcases fin_N0 t with rfl | rfl <;> decide
  rw [View.read_apply]
  refine congrArg X (funext fun ax => Fin.ext ?_)
  match ax with
  | ⟨0, _⟩ => show win0_1.index t 0 * 4096 + 1 * k.val = k.val; rw [hi.1]; omega
  | ⟨1, _⟩ => show win0_1.index t 1 * 512 + 1 * q.val = 512 * t.val + q.val; rw [hi.2]; omega

theorem columns2 (X : Square.Idx → EReal) (t : Fin cfg0.N) (p : Fin 1024) (q : Fin 512) :
    ((cfg0.win 2).blk t).view.read (Elt Ideal) X (ix2 p q) = X (ix2 p (col t q)) := by
  have hi : win0_2.index t 0 = 0 ∧ win0_2.index t 1 = t.val := by
    rcases fin_N0 t with rfl | rfl <;> decide
  rw [View.read_apply]
  refine congrArg X (funext fun ax => Fin.ext ?_)
  match ax with
  | ⟨0, _⟩ => show win0_2.index t 0 * 1024 + 1 * p.val = p.val; rw [hi.1]; omega
  | ⟨1, _⟩ => show win0_2.index t 1 * 512 + 1 * q.val = 512 * t.val + q.val; rw [hi.2]; omega

theorem columns3 (X : Square.Idx → EReal) (t : Fin cfg0.N) (p : Fin 1024) (q : Fin 512) :
    ((cfg0.win 3).blk t).view.read (Elt Ideal) X (ix2 p q) = X (ix2 p (col t q)) := by
  have hi : win0_3.index t 0 = 0 ∧ win0_3.index t 1 = t.val := by
    rcases fin_N0 t with rfl | rfl <;> decide
  rw [View.read_apply]
  refine congrArg X (funext fun ax => Fin.ext ?_)
  match ax with
  | ⟨0, _⟩ => show win0_3.index t 0 * 1024 + 1 * p.val = p.val; rw [hi.1]; omega
  | ⟨1, _⟩ => show win0_3.index t 1 * 512 + 1 * q.val = 512 * t.val + q.val; rw [hi.2]; omega

theorem block0 (t : Fin cfg0.N) (b : Fin 2) (p : Fin 1024) (s : Fin 2048) :
    (iblk m c 0 t : Vec Ideal S2x1024x2048 .bf16) (ix3 b p s) = x m c (ix2 (at_ b s) p) := by
  rw [← V_x m c b p s]
  unfold iblk
  exact whole0 _ t b p s

theorem block1 (t : Fin cfg0.N) (k : Fin 4096) (q : Fin 512) : (iblk m c 1 t : Vec Ideal S4096x512 .bf16) (ix2 k q) = g m c (ix2 k (col t q)) := by
  rw [← columns1 (g m c) t k q]
  unfold iblk
  exact congrArg (fun X => ((cfg0.win 1).blk t).view.read (Elt Ideal) X (ix2 k q)) (V_g m c)

/-- The sums over a point's blocks are the gradient's. -/
theorem sum_at (t : Fin cfg0.N) (p : Fin 1024) (q : Fin 512) :
    both (iblk m c 0 t) (iblk m c 1 t) p q = square (x m c) (g m c) p (col t q) := by
  unfold both square
  rw [two_sequences]
  refine congrArg₂ (· + ·) (Finset.sum_congr rfl fun s _ => ?_) (Finset.sum_congr rfl fun s _ => ?_)
  · exact congrArg₂ (· * ·) ((block0 m c t 0 p s).trans (congrArg (fun z => x m c (ix2 z p)) (Fin.ext (show 2048 * 0 + s.val = s.val by omega)))) (block1 m c t _ q)
  · exact congrArg₂ (· * ·) ((block0 m c t 1 p s).trans (congrArg (fun z => x m c (ix2 z p)) (Fin.ext (show 2048 * 1 + s.val = 2048 + s.val by omega)))) (block1 m c t _ q)

/-- The point whose block holds column `q`. -/
def pt (q : Fin 1024) : Fin cfg0.N := ⟨q.val / 512, by have := q.isLt; rw [show cfg0.N = 2 from N_0]; omega⟩

/-- The full-precision result at the end. -/
theorem final2 : (dats m 0 c).arrAt 2 cfg0.N = val_main_v3 (F := Ideal) (x m c) (g m c) := by
  refine (dats m 0 c).arrAt_eq_of_cover 2 _ (fun t _ => ?_) (fun i => ?_)
  · rw [Value.flushed2]
    funext j
    obtain ⟨p, q, rfl⟩ : ∃ (p : Fin 1024) (q : Fin 512), j = ix2 p q := ⟨j 0, j 1, eq_ix2 j⟩
    exact (stored_wide _ _ p q).trans ((sum_at m c t p q).trans ((DwARefIdeal.Grad.result_wide _ _ p (col t q)).symm.trans (columns2 _ t p q).symm))
  · have h0 : (i 0 : Nat) < 1024 := (i 0).isLt
    have h1 : (i 1 : Nat) < 1024 := (i 1).isLt
    refine ⟨pt (i 1), flush0_2 _, ?_⟩
    have hi : win0_2.index (pt (i 1)) 1 = (pt (i 1)).val ∧ win0_2.index (pt (i 1)) 0 = 0 := by
      rcases fin_N0 (pt (i 1)) with h | h <;> rw [h] <;> decide
    have hp : (pt (i 1)).val = (i 1).val / 512 := rfl
    show i ∈ ((View.whole main_v4_0).slice (win0_2.rect (pt (i 1)))).set
    rw [View.set_slice_whole, Rect.mem_set_unit]
    intro ax
    match ax with
    | ⟨0, _⟩ => show win0_2.index (pt (i 1)) 0 * 1024 ≤ (i 0 : Nat) ∧ (i 0 : Nat) < win0_2.index (pt (i 1)) 0 * 1024 + 1024
                rw [hi.2]; omega
    | ⟨1, _⟩ => show win0_2.index (pt (i 1)) 1 * 512 ≤ (i 1 : Nat) ∧ (i 1 : Nat) < win0_2.index (pt (i 1)) 1 * 512 + 512
                rw [hi.1, hp]; omega

/-- The rounded result at the end. -/
theorem final3 : (dats m 0 c).arrAt 3 cfg0.N = val_main_v4 (F := Ideal) (x m c) (g m c) := by
  refine (dats m 0 c).arrAt_eq_of_cover 3 _ (fun t _ => ?_) (fun i => ?_)
  · rw [Value.flushed3]
    funext j
    obtain ⟨p, q, rfl⟩ : ∃ (p : Fin 1024) (q : Fin 512), j = ix2 p q := ⟨j 0, j 1, eq_ix2 j⟩
    exact (stored_narrow _ _ p q).trans ((sum_at m c t p q).trans ((DwARefIdeal.Grad.result_narrow _ _ p (col t q)).symm.trans (columns3 _ t p q).symm))
  · have h0 : (i 0 : Nat) < 1024 := (i 0).isLt
    have h1 : (i 1 : Nat) < 1024 := (i 1).isLt
    refine ⟨pt (i 1), flush0_3 _, ?_⟩
    have hi : win0_3.index (pt (i 1)) 1 = (pt (i 1)).val ∧ win0_3.index (pt (i 1)) 0 = 0 := by
      rcases fin_N0 (pt (i 1)) with h | h <;> rw [h] <;> decide
    have hp : (pt (i 1)).val = (i 1).val / 512 := rfl
    show i ∈ ((View.whole main_v4_1).slice (win0_3.rect (pt (i 1)))).set
    rw [View.set_slice_whole, Rect.mem_set_unit]
    intro ax
    match ax with
    | ⟨0, _⟩ => show win0_3.index (pt (i 1)) 0 * 1024 ≤ (i 0 : Nat) ∧ (i 0 : Nat) < win0_3.index (pt (i 1)) 0 * 1024 + 1024
                rw [hi.2]; omega
    | ⟨1, _⟩ => show win0_3.index (pt (i 1)) 1 * 512 ≤ (i 1 : Nat) ∧ (i 1 : Nat) < win0_3.index (pt (i 1)) 1 * 512 + 512
                rw [hi.1, hp]; omega

end Cert.DwAIdeal.Grad

end
-- ==== Proof.DwA.Claim.lean ====
/- The claims about the recurrence branch's weight gradient call: both programs run, and the call's idealization ends with the arrays the reference's ends
   with. -/
module

public import proofs.«01_k».proof.Defs
public import proofs.«01_k».proof.Proof.DwA.Arrays
public import proofs.«01_k».proof.Proof.Gen.DwA.Frame
public import proofs.«01_k».proof.Proof.Gen.DwARefIdeal.Run
public import Idealize.ShloMosaic.Lib.Quiescent

@[expose] public section

set_option maxRecDepth 16384

noncomputable section

namespace Cert.DwAClaim

open Idealize.ShloMosaic Idealize.ShloMosaic.TcCoe Idealize.SL.Sem
open Cert.DwAIdeal.Gen (dats)

theorem frame_program : Cert.quiescent_DwA := fun m ρ _ => Cert.DwA.Gen.frame m ρ

theorem frame_ideal : Cert.quiescent_DwAIdeal := fun m ρ _ => Cert.DwAIdeal.Gen.frame m ρ

/-- The reference's run leaves its arguments alone, and it has no semaphore. -/
theorem frame_reference : Cert.quiescent_DwARefIdeal := fun m ρ _ =>
  (θ_run Cert.DwARefIdeal.defs _ _).mono
    (fun r h => ⟨fun c => (h c).2.2, sem_eq_zero_of_no_sems rfl r.2⟩) (Cert.DwARefIdeal.Value.run m ρ)

/-- Result by result. -/
theorem equal : Cert.algebraic_DwAIdeal_DwARefIdeal := by
  intro m g m' g' _ hargs
  refine ⟨fun c => (dats m 0 c).arrAt 2 Cert.DwAIdeal.cfg0.N, fun c => (dats m 0 c).arrAt 3 Cert.DwAIdeal.cfg0.N,
    (θ_run Cert.DwAIdeal.defs _ _).mono (fun _ h => h) (Cert.DwAIdeal.Value.run_blocks m g),
    (θ_run Cert.DwARefIdeal.defs _ _).mono (fun r h c => ?_) (Cert.DwARefIdeal.Value.run m' g')⟩
  obtain ⟨a0, a1⟩ := hargs c
  obtain ⟨h0, h1, hargs'⟩ := h c
  refine ⟨h0.trans ?_, h1.trans ?_, hargs'⟩
  · refine (Cert.DwARefIdeal.Read.val_main_v3_eq _ _).trans ?_
    rw [a0, a1]
    exact (Cert.DwAIdeal.Grad.final2 m c).symm
  · refine (Cert.DwARefIdeal.Read.val_main_v4_eq _ _).trans ?_
    rw [a0, a1]
    exact (Cert.DwAIdeal.Grad.final3 m c).symm

end Cert.DwAClaim

end
-- ==== Proof.DwPool.Block.lean ====
/- What one grid point of the pooling branch's weight gradient kernel stores, read at an index over the extended reals. -/
module

public import proofs.«01_k».proof.Proof.Gen.DwPoolIdeal.Frame
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwPoolIdeal.Block

open Cert.DwPoolIdeal Cert.DwPoolIdeal.Gen
open Idealize.ShloMosaic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl
theorem hz3 : (![0, 0, 0] : Fin 3 → Nat) = fun _ => 0 := funext fun a => by fin_cases a <;> rfl

/-- The product over all 4096 rows. -/
theorem product (a : FVec Ideal S256x4096 .bf16) (b : FVec Ideal S4096x256 .bf16) (p q : Fin 256) :
    matmul dot_S256x4096_S4096x256_S256x256_1_0_0_1_n_n none a b (constant S256x256 .f32 0x00000000#32) (ix2 p q)
      = ∑ t : Fin 4096, a (ix2 p t) * b (ix2 t q) := by
  refine (Ideal.matmul_plain_apply (M := 256) (K := 4096) (N := 256) none a b _ p q).trans ?_
  rw [constant_apply, zero_word, zero_add]

variable (x0 : Vec Ideal S256x4096 .bf16) (x1 : Vec Ideal S4096x256 .bf16)

/-- The value both stores hold. -/
theorem value (p q : Fin 256) : k0_pay1 x1 x0 (ix3 (0 : Fin 1) p q) = ∑ t : Fin 4096, x0 (ix2 p t) * x1 (ix2 t q) := by
  unfold k0_pay1
  rw [shapeCast_ab_1ab_apply, shapeCast_self, shapeCast_self]
  exact product _ _ p q

/-- The full-precision result's block. -/
theorem stored_wide (p q : Fin 256) :
    out0_2 (F := Ideal) x0 x1 (ix3 (0 : Fin 1) p q) = ∑ t : Fin 4096, x0 (ix2 p t) * x1 (ix2 t q) := by
  unfold out0_2
  rw [View.canon_unit_zero (S := S1x256x256) hz3, View.ld_unit_zero (S := S4096x256) hz2, View.ld_unit_zero (S := S256x4096) hz2]
  exact value x0 x1 p q

/-- The rounded result's block. -/
theorem stored_narrow (p q : Fin 256) :
    out0_3 (F := Ideal) x0 x1 (ix3 (0 : Fin 1) p q) = ∑ t : Fin 4096, x0 (ix2 p t) * x1 (ix2 t q) := by
  unfold out0_3
  rw [View.canon_unit_zero (S := S1x256x256) hz3, View.ld_unit_zero (S := S4096x256) hz2, View.ld_unit_zero (S := S256x4096) hz2]
  exact value x0 x1 p q

end Cert.DwPoolIdeal.Block

end
-- ==== Proof.DwPool.Reference.lean ====
/- The reference of the pooling branch's weight gradient, read at an index over the extended reals. -/
module

public import proofs.«01_k».proof.Proof.Dw.Square
public import proofs.«01_k».proof.Proof.Gen.DwPoolRefIdeal.Read
public import Idealize.ShloMosaic.Lib.ValueIdx

@[expose] public section

set_option maxRecDepth 16384

noncomputable section

namespace Cert.DwPoolRefIdeal.Grad

open Cert.DwPoolRefIdeal Cert.DwPoolRefIdeal.Read
open Idealize.ShloMosaic Idealize.ShloMosaic.ValueIdx
open Cert.DwMath
open scoped BigOperators

variable (x0 : Groups.Idx → EReal) (x1 : Rows.Idx → EReal)

/-- The full-precision result. -/
theorem result_wide (g : Fin 4) (p q : Fin 256) : val_main_v7 (F := Ideal) x0 x1 (ix3 g p q) = group x0 x1 g p q := by
  rw [val_main_v7_apply, show idx_main_v7 (ix3 g p q) = ix3 g q p from eq_ix3 _, val_main_v6_apply]
  refine Finset.sum_congr rfl fun t _ => ?_
  rw [show lidx_main_v6 (ix3 g q p) t = ix3 g q t from eq_ix3 _, show ridx_main_v6 (ix3 g q p) t = ix3 t g p from eq_ix3 _,
    val_main_v5_apply, val_main_v4_apply, mul_comm]
  refine congrArg₂ (· * ·) rfl (congrArg x1 ((eq_ix2 _).trans (congrArg₂ ix2 (Fin.ext ?_) (Fin.ext ?_))))
  · show ((t.val * 4 + g.val) * 256 + q.val) / 1024 = t.val
    have := g.isLt; have := q.isLt; omega
  · show ((t.val * 4 + g.val) * 256 + q.val) % 1024 = 256 * g.val + q.val
    have := g.isLt; have := q.isLt; omega

/-- The rounded one: rounding changes nothing over the extended reals. -/
theorem result_narrow (g : Fin 4) (p q : Fin 256) : val_main_v8 (F := Ideal) x0 x1 (ix3 g p q) = group x0 x1 g p q :=
  result_wide x0 x1 g p q

end Cert.DwPoolRefIdeal.Grad

end
-- ==== Proof.DwPool.Arrays.lean ====
/- The pooling branch's weight gradient call over the extended reals: what its windows read, and the arrays it leaves, the
   reference's values. -/
module

public import proofs.«01_k».proof.Proof.DwPool.Block
public import proofs.«01_k».proof.Proof.DwPool.Reference
public import proofs.«01_k».proof.Proof.Gen.DwPoolIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwPoolIdeal.Grad

open Cert.DwPoolIdeal Cert.DwPoolIdeal.Gen Cert.DwPoolIdeal.Block Cert.DwMath
open Idealize.ShloMosaic hiding ix1 ix2 ix3 eq_ix1 eq_ix2 eq_ix3
open Idealize.ShloMosaic.ValueIdx
open Idealize.ShloMosaic.TcCoe Idealize.SL.Sem
open Cert.DwPoolRefIdeal.Read (val_main_v7 val_main_v8)
open scoped BigOperators

variable (m : (ℓ : Loc nD τ sig) → Buf (Elt Ideal) ℓ) (c : Dev nD)

/-- The launch's arrays. -/
abbrev x : Groups.Idx → EReal := m ((c : Thread nD τ).loc main_arg0)
abbrev d : Rows.Idx → EReal := m ((c : Thread nD τ).loc main_arg1)

/-- The first operand is the pooled input, its groups side by side, turned. -/
theorem V_x (g : Fin 4) (p : Fin 256) (t : Fin 4096) : V m c main_v2 (ix2 (in_ g p) t) = x m c (ix3 t g p) := by
  have h : V m c main_v2 = transpose (α := EReal) S1024x4096 [1, 0] (shapeCast S4096x1024 (x m c) (by decide)) (by decide) := by
    unfold V; after_reads_simp; rfl
  rw [h]
  refine (transpose_ix2_apply _ _ _ _).trans (shapeCast_apply _ _ (ix2 t (in_ g p)) (ix3 t g p) ?_)
  rw [Shape.rowMajor_val_two, Shape.rowMajor_val_three]
  show (t.val * 4 + g.val) * 256 + p.val = t.val * 1024 + (256 * g.val + p.val)
  omega

/-- The second operand. -/
theorem V_d : V m c main_v3 = d m c := by
  unfold V; after_reads_simp; rfl

/-- The group that a point is. -/
def grp (t : Fin cfg0.N) : Fin 4 := ⟨t.val, lt_of_lt_of_eq t.isLt N_0⟩

theorem rows0 (X : Turned.Idx → EReal) (t : Fin cfg0.N) (p : Fin 256) (k : Fin 4096) :
    ((cfg0.win 0).blk t).view.read (Elt Ideal) X (ix2 p k) = X (ix2 (in_ (grp t) p) k) := by
  have hi : win0_0.index t 0 = t.val ∧ win0_0.index t 1 = 0 := by
    rcases fin_N0 t with rfl | rfl | rfl | rfl <;> decide
  rw [View.read_apply]
  refine congrArg X (funext fun ax => Fin.ext ?_)
  match ax with
  | ⟨0, _⟩ => show win0_0.index t 0 * 256 + 1 * p.val = 256 * t.val + p.val; rw [hi.1]; omega
  | ⟨1, _⟩ => show win0_0.index t 1 * 4096 + 1 * k.val = k.val; rw [hi.2]; omega

theorem columns1 (X : Rows.Idx → EReal) (t : Fin cfg0.N) (k : Fin 4096) (q : Fin 256) :
    ((cfg0.win 1).blk t).view.read (Elt Ideal) X (ix2 k q) = X (ix2 k (in_ (grp t) q)) := by
  have hi : win0_1.index t 0 = 0 ∧ win0_1.index t 1 = t.val := by
    rcases fin_N0 t with rfl | rfl | rfl | rfl <;> decide
  rw [View.read_apply]
  refine congrArg X (funext fun ax => Fin.ext ?_)
  match ax with
  | ⟨0, _⟩ => show win0_1.index t 0 * 4096 + 1 * k.val = k.val; rw [hi.1]; omega
  | ⟨1, _⟩ => show win0_1.index t 1 * 256 + 1 * q.val = 256 * t.val + q.val; rw [hi.2]; omega

theorem group2 (X : Four256.Idx → EReal) (t : Fin cfg0.N) (p q : Fin 256) :
    ((cfg0.win 2).blk t).view.read (Elt Ideal) X (ix3 (0 : Fin 1) p q) = X (ix3 (grp t) p q) := by
  have hi : win0_2.index t 0 = t.val ∧ win0_2.index t 1 = 0 ∧ win0_2.index t 2 = 0 := by
    rcases fin_N0 t with rfl | rfl | rfl | rfl <;> decide
  rw [View.read_apply]
  refine congrArg X (funext fun ax => Fin.ext ?_)
  match ax with
  | ⟨0, _⟩ => show win0_2.index t 0 * 1 + 1 * 0 = t.val; rw [hi.1]; omega
  | ⟨1, _⟩ => show win0_2.index t 1 * 256 + 1 * p.val = p.val; rw [hi.2.1]; omega
  | ⟨2, _⟩ => show win0_2.index t 2 * 256 + 1 * q.val = q.val; rw [hi.2.2]; omega

theorem group3 (X : Four256.Idx → EReal) (t : Fin cfg0.N) (p q : Fin 256) :
    ((cfg0.win 3).blk t).view.read (Elt Ideal) X (ix3 (0 : Fin 1) p q) = X (ix3 (grp t) p q) := by
  have hi : win0_3.index t 0 = t.val ∧ win0_3.index t 1 = 0 ∧ win0_3.index t 2 = 0 := by
    rcases fin_N0 t with rfl | rfl | rfl | rfl <;> decide
  rw [View.read_apply]
  refine congrArg X (funext fun ax => Fin.ext ?_)
  match ax with
  | ⟨0, _⟩ => show win0_3.index t 0 * 1 + 1 * 0 = t.val; rw [hi.1]; omega
  | ⟨1, _⟩ => show win0_3.index t 1 * 256 + 1 * p.val = p.val; rw [hi.2.1]; omega
  | ⟨2, _⟩ => show win0_3.index t 2 * 256 + 1 * q.val = q.val; rw [hi.2.2]; omega

theorem block0 (t : Fin cfg0.N) (p : Fin 256) (k : Fin 4096) : (iblk m c 0 t : Vec Ideal S256x4096 .bf16) (ix2 p k) = x m c (ix3 k (grp t) p) := by
  rw [← V_x m c (grp t) p k]
  unfold iblk
  exact rows0 _ t p k

theorem block1 (t : Fin cfg0.N) (k : Fin 4096) (q : Fin 256) : (iblk m c 1 t : Vec Ideal S4096x256 .bf16) (ix2 k q) = d m c (ix2 k (in_ (grp t) q)) := by
  rw [← columns1 (d m c) t k q]
  unfold iblk
  exact congrArg (fun X => ((cfg0.win 1).blk t).view.read (Elt Ideal) X (ix2 k q)) (V_d m c)

/-- A point's two blocks. -/
abbrev left (t : Fin cfg0.N) : S256x4096.Idx → EReal := iblk m c 0 t
abbrev right (t : Fin cfg0.N) : S4096x256.Idx → EReal := iblk m c 1 t

/-- The sums over a point's blocks are the gradient's. -/
theorem sum_at (t : Fin cfg0.N) (p q : Fin 256) :
    ∑ k : Fin 4096, left m c t (ix2 p k) * right m c t (ix2 k q) = group (x m c) (d m c) (grp t) p q :=
  Finset.sum_congr rfl fun k _ => congrArg₂ (· * ·) (block0 m c t p k) (block1 m c t k q)

/-- The point of a group. -/
def pt (g : Fin 4) : Fin cfg0.N := ⟨g.val, lt_of_lt_of_eq g.isLt N_0.symm⟩

/-- The full-precision result at the end. -/
theorem final2 : (dats m 0 c).arrAt 2 cfg0.N = val_main_v7 (F := Ideal) (x m c) (d m c) := by
  refine (dats m 0 c).arrAt_eq_of_cover 2 _ (fun t _ => ?_) (fun i => ?_)
  · rw [Value.flushed2]
    funext j
    obtain ⟨z, p, q, rfl⟩ : ∃ (z : Fin 1) (p q : Fin 256), j = ix3 z p q := ⟨j 0, j 1, j 2, eq_ix3 j⟩
    obtain rfl : z = 0 := Subsingleton.elim _ _
    exact (stored_wide _ _ p q).trans ((sum_at m c t p q).trans ((DwPoolRefIdeal.Grad.result_wide _ _ (grp t) p q).symm.trans (group2 _ t p q).symm))
  · have h0 : (i 0 : Nat) < 4 := (i 0).isLt
    have h1 : (i 1 : Nat) < 256 := (i 1).isLt
    have h2 : (i 2 : Nat) < 256 := (i 2).isLt
    refine ⟨pt (i 0), flush0_2 _, ?_⟩
    have hi : win0_2.index (pt (i 0)) 0 = (pt (i 0)).val ∧ win0_2.index (pt (i 0)) 1 = 0 ∧ win0_2.index (pt (i 0)) 2 = 0 := by
      rcases fin_N0 (pt (i 0)) with h | h | h | h <;> rw [h] <;> decide
    have hp : (pt (i 0)).val = (i 0).val := rfl
    show i ∈ ((View.whole main_v4_0).slice (win0_2.rect (pt (i 0)))).set
    rw [View.set_slice_whole, Rect.mem_set_unit]
    intro ax
    match ax with
    | ⟨0, _⟩ => show win0_2.index (pt (i 0)) 0 * 1 ≤ (i 0 : Nat) ∧ (i 0 : Nat) < win0_2.index (pt (i 0)) 0 * 1 + 1
                rw [hi.1, hp]; omega
    | ⟨1, _⟩ => show win0_2.index (pt (i 0)) 1 * 256 ≤ (i 1 : Nat) ∧ (i 1 : Nat) < win0_2.index (pt (i 0)) 1 * 256 + 256
                rw [hi.2.1]; omega
    | ⟨2, _⟩ => show win0_2.index (pt (i 0)) 2 * 256 ≤ (i 2 : Nat) ∧ (i 2 : Nat) < win0_2.index (pt (i 0)) 2 * 256 + 256
                rw [hi.2.2]; omega

/-- The rounded result at the end. -/
theorem final3 : (dats m 0 c).arrAt 3 cfg0.N = val_main_v8 (F := Ideal) (x m c) (d m c) := by
  refine (dats m 0 c).arrAt_eq_of_cover 3 _ (fun t _ => ?_) (fun i => ?_)
  · rw [Value.flushed3]
    funext j
    obtain ⟨z, p, q, rfl⟩ : ∃ (z : Fin 1) (p q : Fin 256), j = ix3 z p q := ⟨j 0, j 1, j 2, eq_ix3 j⟩
    obtain rfl : z = 0 := Subsingleton.elim _ _
    exact (stored_narrow _ _ p q).trans ((sum_at m c t p q).trans ((DwPoolRefIdeal.Grad.result_narrow _ _ (grp t) p q).symm.trans (group3 _ t p q).symm))
  · have h0 : (i 0 : Nat) < 4 := (i 0).isLt
    have h1 : (i 1 : Nat) < 256 := (i 1).isLt
    have h2 : (i 2 : Nat) < 256 := (i 2).isLt
    refine ⟨pt (i 0), flush0_3 _, ?_⟩
    have hi : win0_3.index (pt (i 0)) 0 = (pt (i 0)).val ∧ win0_3.index (pt (i 0)) 1 = 0 ∧ win0_3.index (pt (i 0)) 2 = 0 := by
      rcases fin_N0 (pt (i 0)) with h | h | h | h <;> rw [h] <;> decide
    have hp : (pt (i 0)).val = (i 0).val := rfl
    show i ∈ ((View.whole main_v4_1).slice (win0_3.rect (pt (i 0)))).set
    rw [View.set_slice_whole, Rect.mem_set_unit]
    intro ax
    match ax with
    | ⟨0, _⟩ => show win0_3.index (pt (i 0)) 0 * 1 ≤ (i 0 : Nat) ∧ (i 0 : Nat) < win0_3.index (pt (i 0)) 0 * 1 + 1
                rw [hi.1, hp]; omega
    | ⟨1, _⟩ => show win0_3.index (pt (i 0)) 1 * 256 ≤ (i 1 : Nat) ∧ (i 1 : Nat) < win0_3.index (pt (i 0)) 1 * 256 + 256
                rw [hi.2.1]; omega
    | ⟨2, _⟩ => show win0_3.index (pt (i 0)) 2 * 256 ≤ (i 2 : Nat) ∧ (i 2 : Nat) < win0_3.index (pt (i 0)) 2 * 256 + 256
                rw [hi.2.2]; omega

end Cert.DwPoolIdeal.Grad

end
-- ==== Proof.DwPool.Claim.lean ====
/- The claims about the pooling branch's weight gradient call: both programs run, and the call's idealization ends with the arrays the reference's ends
   with. -/
module

public import proofs.«01_k».proof.Defs
public import proofs.«01_k».proof.Proof.DwPool.Arrays
public import proofs.«01_k».proof.Proof.Gen.DwPool.Frame
public import proofs.«01_k».proof.Proof.Gen.DwPoolRefIdeal.Run
public import Idealize.ShloMosaic.Lib.Quiescent

@[expose] public section

set_option maxRecDepth 16384

noncomputable section

namespace Cert.DwPoolClaim

open Idealize.ShloMosaic Idealize.ShloMosaic.TcCoe Idealize.SL.Sem
open Cert.DwPoolIdeal.Gen (dats)

theorem frame_program : Cert.quiescent_DwPool := fun m ρ _ => Cert.DwPool.Gen.frame m ρ

theorem frame_ideal : Cert.quiescent_DwPoolIdeal := fun m ρ _ => Cert.DwPoolIdeal.Gen.frame m ρ

/-- The reference's run leaves its arguments alone, and it has no semaphore. -/
theorem frame_reference : Cert.quiescent_DwPoolRefIdeal := fun m ρ _ =>
  (θ_run Cert.DwPoolRefIdeal.defs _ _).mono
    (fun r h => ⟨fun c => (h c).2.2, sem_eq_zero_of_no_sems rfl r.2⟩) (Cert.DwPoolRefIdeal.Value.run m ρ)

/-- Result by result. -/
theorem equal : Cert.algebraic_DwPoolIdeal_DwPoolRefIdeal := by
  intro m g m' g' _ hargs
  refine ⟨fun c => (dats m 0 c).arrAt 2 Cert.DwPoolIdeal.cfg0.N, fun c => (dats m 0 c).arrAt 3 Cert.DwPoolIdeal.cfg0.N,
    (θ_run Cert.DwPoolIdeal.defs _ _).mono (fun _ h => h) (Cert.DwPoolIdeal.Value.run_blocks m g),
    (θ_run Cert.DwPoolRefIdeal.defs _ _).mono (fun r h c => ?_) (Cert.DwPoolRefIdeal.Value.run m' g')⟩
  obtain ⟨a0, a1⟩ := hargs c
  obtain ⟨h0, h1, hargs'⟩ := h c
  refine ⟨h0.trans ?_, h1.trans ?_, hargs'⟩
  · refine (Cert.DwPoolRefIdeal.Read.val_main_v7_eq _ _).trans ?_
    rw [a0, a1]
    exact (Cert.DwPoolIdeal.Grad.final2 m c).symm
  · refine (Cert.DwPoolRefIdeal.Read.val_main_v8_eq _ _).trans ?_
    rw [a0, a1]
    exact (Cert.DwPoolIdeal.Grad.final3 m c).symm

end Cert.DwPoolClaim

end
-- ==== Proof.MlpF.Blocks.lean ====
/- What the MLP's forward kernel leaves in each result's buffer at one grid point, as a term over the point's blocks: the
   first point (case A) and the later ones (case B), which differ only in the buffer that is added into. -/
module

public import proofs.«01_k».proof.Proof.Gen.MlpFIdeal.Frame
public import Idealize.ShloMosaic.Lib.Pipeline.Value

@[expose] public section

set_option maxRecDepth 16384

noncomputable section

namespace Cert.MlpFIdeal.Block

open Cert.MlpFIdeal Cert.MlpFIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- A quarter of the first weight's columns. -/
abbrev upw (x1 : Vec F S1024x4096 .bf16) (n : Nat) (inb : ∀ a, (![0, n] : Fin 2 → Nat) a + S1024x1024.size a ≤ S1024x4096.size a) :
    Vec F S1024x1024 .bf16 := View.ld x1 (Rect.unit (s := S1024x4096) ![0, n] S1024x1024.size inb)

/-- A quarter of the second weight's rows. -/
abbrev dnw (x2 : Vec F S4096x1024 .bf16) (n : Nat) (inb : ∀ a, (![n, 0] : Fin 2 → Nat) a + S1024x1024.size a ≤ S4096x1024.size a) :
    Vec F S1024x1024 .bf16 := View.ld x2 (Rect.unit (s := S4096x1024) ![n, 0] S1024x1024.size inb)

section
variable (x0 : Vec F S256x1024 .bf16) (x1 : Vec F S1024x4096 .bf16) (x2 : Vec F S4096x1024 .bf16) (x3 x4 : Vec F S256x1024 .f32)
  (x5 x6 x7 x8 : Vec F S1x1024 .f32)

/-- The hidden rows, before and after the square: four column blocks. -/
def hpBlock : Vec F S256x4096 .f32 :=
  View.canon [⟨Rect.unit ![0, 3072] S256x1024.size inb_S256x4096_S256x1024_0_3072, k0_pay13 (k0_pay4 x0) (upw x1 3072 inb_S1024x4096_S1024x1024_0_3072)⟩,
    ⟨Rect.unit ![0, 2048] S256x1024.size inb_S256x4096_S256x1024_0_2048, k0_pay10 (k0_pay4 x0) (upw x1 2048 inb_S1024x4096_S1024x1024_0_2048)⟩,
    ⟨Rect.unit ![0, 1024] S256x1024.size inb_S256x4096_S256x1024_0_1024, k0_pay8 x0 (upw x1 1024 inb_S1024x4096_S1024x1024_0_1024)⟩,
    ⟨Rect.unit ![0, 0] S256x1024.size inb_S256x4096_S256x1024_0_0, k0_pay5 x0 (upw x1 0 inb_S1024x4096_S1024x1024_0_0)⟩]
def h3 : Vec F S256x1024 .bf16 := k0_pay14 (k0_pay4 x0) (upw x1 3072 inb_S1024x4096_S1024x1024_0_3072)
def hBlock : Vec F S256x4096 .bf16 :=
  View.canon [⟨Rect.unit ![0, 3072] S256x1024.size inb_S256x4096_S256x1024_0_3072, h3 x0 x1⟩,
    ⟨Rect.unit ![0, 2048] S256x1024.size inb_S256x4096_S256x1024_0_2048, k0_pay11 (k0_pay4 x0) (upw x1 2048 inb_S1024x4096_S1024x1024_0_2048)⟩,
    ⟨Rect.unit ![0, 1024] S256x1024.size inb_S256x4096_S256x1024_0_1024, k0_pay9 (k0_pay8 x0 (upw x1 1024 inb_S1024x4096_S1024x1024_0_1024))⟩,
    ⟨Rect.unit ![0, 0] S256x1024.size inb_S256x4096_S256x1024_0_0, k0_pay6 x0 (upw x1 0 inb_S1024x4096_S1024x1024_0_0)⟩]

/-- The residual, three of its four quarters added, and the second weight's last quarter. -/
def part3 : Vec F S256x1024 .f32 :=
  k0_pay12 (k0_pay4 x0) (k0_pay7 x0 x3 x5 x6 (upw x1 0 inb_S1024x4096_S1024x1024_0_0) (dnw x2 0 inb_S4096x1024_S1024x1024_0_0))
    (k0_pay8 x0 (upw x1 1024 inb_S1024x4096_S1024x1024_0_1024)) (dnw x2 1024 inb_S4096x1024_S1024x1024_1024_0)
    (upw x1 2048 inb_S1024x4096_S1024x1024_0_2048) (dnw x2 2048 inb_S4096x1024_S1024x1024_2048_0)
abbrev dn3 : Vec F S1024x1024 .bf16 := dnw x2 3072 inb_S4096x1024_S1024x1024_3072_0

/-- The normed rows, the difference from the target, the loss's gradient at the norm's output and at its input. -/
def normBlock : Vec F S256x1024 .f32 := k0_pay17 (part3 x0 x1 x2 x3 x5 x6) (h3 x0 x1) (dn3 x2)
def errBlock : Vec F S256x1024 .f32 := k0_pay18 (part3 x0 x1 x2 x3 x5 x6) (h3 x0 x1) (dn3 x2) x7 x8 x4
def dyBlock : Vec F S256x1024 .f32 := k0_pay19 (part3 x0 x1 x2 x3 x5 x6) (h3 x0 x1) (dn3 x2) x7 x8 x4
def drBlock : Vec F S256x1024 .f32 :=
  k0_pay23 (k0_pay16 (part3 x0 x1 x2 x3 x5 x6) (h3 x0 x1) (dn3 x2)) (normBlock x0 x1 x2 x3 x5 x6) (dyBlock x0 x1 x2 x3 x4 x5 x6 x7 x8) x7

/-- The accumulated rows after a point: what was there, the block's column sums added. -/
def row5Step (old : Vec F S8x1024 .f32) : Vec F S1x1024 .f32 :=
  k0_pay20 (part3 x0 x1 x2 x3 x5 x6) (h3 x0 x1) (dn3 x2) x7 x8 x4 (View.ld old (Rect.unit (s := S8x1024) ![5, 0] S1x1024.size inb_S8x1024_S1x1024_5_0))
def row6Step (old : Vec F S8x1024 .f32) : Vec F S1x1024 .f32 :=
  k0_pay21 (dyBlock x0 x1 x2 x3 x4 x5 x6 x7 x8) (View.ld old (Rect.unit (s := S8x1024) ![6, 0] S1x1024.size inb_S8x1024_S1x1024_6_0))
def row7Step (old : Vec F S8x1024 .f32) : Vec F S1x1024 .f32 :=
  k0_pay22 (errBlock x0 x1 x2 x3 x4 x5 x6 x7 x8) (View.ld old (Rect.unit (s := S8x1024) ![7, 0] S1x1024.size inb_S8x1024_S1x1024_7_0))

end

section
variable (c : Dev nD) (i : grid0.Coords) (a1 : Memref sig .tc .vmem S256x1024 .bf16) (h1 : a1.IsWhole) (a2 : Memref sig .tc .vmem S1024x4096 .bf16) (h2 : a2.IsWhole) (a3 : Memref sig .tc .vmem S4096x1024 .bf16) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S256x4096 .f32) (h10 : a10.IsWhole) (a11 : Memref sig .tc .vmem S256x4096 .bf16) (h11 : a11.IsWhole) (a12 : Memref sig .tc .vmem S256x1024 .f32) (h12 : a12.IsWhole) (a13 : Memref sig .tc .vmem S256x1024 .bf16) (h13 : a13.IsWhole) (a14 : Memref sig .tc .vmem S1024x256 .bf16) (h14 : a14.IsWhole) (a15 : Memref sig .tc .vmem S8x1024 .f32) (h15 : a15.IsWhole)
  (hc : cond0_0 i) (x0 : Vec F S256x1024 .bf16) (x1 : Vec F S1024x4096 .bf16) (x2 : Vec F S4096x1024 .bf16) (x3 : Vec F S256x1024 .f32) (x4 : Vec F S256x1024 .f32) (x5 : Vec F S1x1024 .f32) (x6 : Vec F S1x1024 .f32) (x7 : Vec F S1x1024 .f32) (x8 : Vec F S1x1024 .f32)

/-- Case A: the hidden rows before the square. -/
theorem out_A_9 : out0_A_9 c i a1 h1 a2 h2 a3 h3 a4 h4 a5 h5 a6 h6 a7 h7 a8 h8 a9 h9 a10 h10 a11 h11 a12 h12 a13 h13 a14 h14 a15 h15 hc x0 x1 x2 x3 x4 x5 x6 x7 x8 = hpBlock x0 x1 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case A: the squared hidden rows. -/
theorem out_A_10 : out0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8 = hBlock x0 x1 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case A: the gradient at the norm's input. -/
theorem out_A_11 : out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 = drBlock x0 x1 x2 x3 x4 x5 x6 x7 x8 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case A: its rounded copy. -/
theorem out_A_12 : out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay1 (drBlock x0 x1 x2 x3 x4 x5 x6 x7 x8) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case A: its transposed copy. -/
theorem out_A_13 : out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay2 (drBlock x0 x1 x2 x3 x4 x5 x6 x7 x8) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S1024x256) hz2]
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

end

section
variable (c : Dev nD) (i : grid0.Coords) (a1 : Memref sig .tc .vmem S256x1024 .bf16) (h1 : a1.IsWhole) (a2 : Memref sig .tc .vmem S1024x4096 .bf16) (h2 : a2.IsWhole) (a3 : Memref sig .tc .vmem S4096x1024 .bf16) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S256x4096 .f32) (h10 : a10.IsWhole) (a11 : Memref sig .tc .vmem S256x4096 .bf16) (h11 : a11.IsWhole) (a12 : Memref sig .tc .vmem S256x1024 .f32) (h12 : a12.IsWhole) (a13 : Memref sig .tc .vmem S256x1024 .bf16) (h13 : a13.IsWhole) (a14 : Memref sig .tc .vmem S1024x256 .bf16) (h14 : a14.IsWhole) (a15 : Memref sig .tc .vmem S8x1024 .f32) (h15 : a15.IsWhole)
  (hc : ¬cond0_0 i) (x0 : Vec F S256x1024 .bf16) (x1 : Vec F S1024x4096 .bf16) (x2 : Vec F S4096x1024 .bf16) (x3 : Vec F S256x1024 .f32) (x4 : Vec F S256x1024 .f32) (x5 : Vec F S1x1024 .f32) (x6 : Vec F S1x1024 .f32) (x7 : Vec F S1x1024 .f32) (x8 : Vec F S1x1024 .f32) (xo : Vec F S8x1024 .f32)

/-- Case B: the hidden rows before the square. -/
theorem out_B_9 : out0_B_9 c i a1 h1 a2 h2 a3 h3 a4 h4 a5 h5 a6 h6 a7 h7 a8 h8 a9 h9 a10 h10 a11 h11 a12 h12 a13 h13 a14 h14 a15 h15 hc x0 x1 x2 x3 x4 x5 x6 x7 x8 xo = hpBlock x0 x1 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun0_B
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case B: the squared hidden rows. -/
theorem out_B_10 : out0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 xo = hBlock x0 x1 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun0_B
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case B: the gradient at the norm's input. -/
theorem out_B_11 : out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 xo = drBlock x0 x1 x2 x3 x4 x5 x6 x7 x8 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun0_B
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case B: its rounded copy. -/
theorem out_B_12 : out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 xo = k0_pay1 (drBlock x0 x1 x2 x3 x4 x5 x6 x7 x8) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun0_B
  dsimp only
  sl_unfold_words
  rw [View.canon_unit_zero (S := S256x1024) hz2]
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

/-- Case B: its transposed copy. -/
theorem out_B_13 : out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 xo = k0_pay2 (drBlock x0 x1 x2 x3 x4 x5 x6 x7 x8) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun0_B
  dsimp only
  sl_unfold_words
  rw [View.canon_unit_zero (S := S1024x256) hz2]
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rfl

end

end Cert.MlpFIdeal.Block

end
-- ==== Proof.MlpF.Sums.lean ====
/- The buffer the MLP's forward kernel adds the norm's two parameter gradients and the loss into: its contents after the first
   grid point and after a later one. Only rows 5, 6 and 7 are added into; the first point clears the others. -/
module

public import proofs.«01_k».proof.Proof.MlpF.Blocks
public import Idealize.ShloMosaic.Lib.WritesUnit
public import Idealize.ShloMosaic.Lib.VecWindow

@[expose] public section

set_option maxRecDepth 16384

noncomputable section

namespace Cert.MlpFIdeal.Block

open Cert.MlpFIdeal Cert.MlpFIdeal.Gen
open Idealize.ShloMosaic Idealize.ShloMosaic.TcCoe Idealize.ShloMosaic.Tactic Idealize.SL.Sem

variable {F : FTy → Type} [FloatOps F]

/-- A row read out of the buffer does not see a store into an earlier row. -/
theorem row_past (v : View sig .tc .vmem S8x1024 .f32) (o k : Nat) (h : o < k)
    (ho : ∀ a, (![o, 0] : Fin 2 → Nat) a + S1x1024.size a ≤ S8x1024.size a)
    (hk : ∀ a, (![k, 0] : Fin 2 → Nat) a + S1x1024.size a ≤ S8x1024.size a) (w : Vec F S1x1024 .f32)
    (L : List (View.Piece (Elt F) S8x1024 .f32)) :
    View.ld (v.read (Elt F) (v.writes (Elt F) v.junk (⟨Rect.unit (s := S8x1024) ![o, 0] S1x1024.size ho, w⟩ :: L))) (Rect.unit (s := S8x1024) ![k, 0] S1x1024.size hk)
      = View.ld (v.read (Elt F) (v.writes (Elt F) v.junk L)) (Rect.unit (s := S8x1024) ![k, 0] S1x1024.size hk) := by
  funext x
  refine View.read_writes_cons_rows_of_not_mem (o := o) (W := 1) v v.junk ho w L _ rfl rfl (Or.inr ?_)
  show o + 1 ≤ k + 1 * (x 0).val
  omega

/-- A row read back after the whole buffer was stored, and then the rows before it. -/
theorem read5 (v : View sig .tc .vmem S8x1024 .f32) (w : Vec F S8x1024 .f32) :
    v.readCov [⟨Rect.unit (s := S8x1024) ![0, 0] S8x1024.size inb_S8x1024_S8x1024_0_0, w⟩]
        (Rect.unit (s := S8x1024) ![5, 0] S1x1024.size inb_S8x1024_S1x1024_5_0).toLoadRect
      = View.ld w (Rect.unit (s := S8x1024) ![5, 0] S1x1024.size inb_S8x1024_S1x1024_5_0) := by
  unfold View.readCov
  rw [View.readAt_eq_ld]
  exact congrArg (fun z => View.ld z _) (View.read_writes_full v v.junk inb_S8x1024_S8x1024_0_0 w [])

theorem read6 (v : View sig .tc .vmem S8x1024 .f32) (w5 : Vec F S1x1024 .f32) (w : Vec F S8x1024 .f32) :
    v.readCov [⟨Rect.unit (s := S8x1024) ![5, 0] S1x1024.size inb_S8x1024_S1x1024_5_0, w5⟩,
        ⟨Rect.unit (s := S8x1024) ![0, 0] S8x1024.size inb_S8x1024_S8x1024_0_0, w⟩]
        (Rect.unit (s := S8x1024) ![6, 0] S1x1024.size inb_S8x1024_S1x1024_6_0).toLoadRect
      = View.ld w (Rect.unit (s := S8x1024) ![6, 0] S1x1024.size inb_S8x1024_S1x1024_6_0) := by
  unfold View.readCov
  rw [View.readAt_eq_ld]
  refine (row_past v 5 6 (by decide) inb_S8x1024_S1x1024_5_0 inb_S8x1024_S1x1024_6_0 w5 _).trans ?_
  exact congrArg (fun z => View.ld z _) (View.read_writes_full v v.junk inb_S8x1024_S8x1024_0_0 w [])

theorem read7 (v : View sig .tc .vmem S8x1024 .f32) (w6 w5 : Vec F S1x1024 .f32) (w : Vec F S8x1024 .f32) :
    v.readCov [⟨Rect.unit (s := S8x1024) ![6, 0] S1x1024.size inb_S8x1024_S1x1024_6_0, w6⟩,
        ⟨Rect.unit (s := S8x1024) ![5, 0] S1x1024.size inb_S8x1024_S1x1024_5_0, w5⟩,
        ⟨Rect.unit (s := S8x1024) ![0, 0] S8x1024.size inb_S8x1024_S8x1024_0_0, w⟩]
        (Rect.unit (s := S8x1024) ![7, 0] S1x1024.size inb_S8x1024_S1x1024_7_0).toLoadRect
      = View.ld w (Rect.unit (s := S8x1024) ![7, 0] S1x1024.size inb_S8x1024_S1x1024_7_0) := by
  unfold View.readCov
  rw [View.readAt_eq_ld]
  refine (row_past v 6 7 (by decide) inb_S8x1024_S1x1024_6_0 inb_S8x1024_S1x1024_7_0 w6 _).trans ?_
  refine (row_past v 5 7 (by decide) inb_S8x1024_S1x1024_5_0 inb_S8x1024_S1x1024_7_0 w5 _).trans ?_
  exact congrArg (fun z => View.ld z _) (View.read_writes_full v v.junk inb_S8x1024_S8x1024_0_0 w [])

section
variable (c : Dev nD) (i : grid0.Coords) (a1 : Memref sig .tc .vmem S256x1024 .bf16) (h1 : a1.IsWhole) (a2 : Memref sig .tc .vmem S1024x4096 .bf16) (h2 : a2.IsWhole) (a3 : Memref sig .tc .vmem S4096x1024 .bf16) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S256x4096 .f32) (h10 : a10.IsWhole) (a11 : Memref sig .tc .vmem S256x4096 .bf16) (h11 : a11.IsWhole) (a12 : Memref sig .tc .vmem S256x1024 .f32) (h12 : a12.IsWhole) (a13 : Memref sig .tc .vmem S256x1024 .bf16) (h13 : a13.IsWhole) (a14 : Memref sig .tc .vmem S1024x256 .bf16) (h14 : a14.IsWhole) (a15 : Memref sig .tc .vmem S8x1024 .f32) (h15 : a15.IsWhole)
  (hc : cond0_0 i) (x0 : Vec F S256x1024 .bf16) (x1 : Vec F S1024x4096 .bf16) (x2 : Vec F S4096x1024 .bf16) (x3 : Vec F S256x1024 .f32) (x4 : Vec F S256x1024 .f32) (x5 : Vec F S1x1024 .f32) (x6 : Vec F S1x1024 .f32) (x7 : Vec F S1x1024 .f32) (x8 : Vec F S1x1024 .f32)

/-- Case A: what is left. -/
theorem out_A_14 : out0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 = View.canon [⟨Rect.unit (s := S8x1024) ![7, 0] S1x1024.size inb_S8x1024_S1x1024_7_0, row7Step x0 x1 x2 x3 x4 x5 x6 x7 x8 k0_pay3⟩,
      ⟨Rect.unit (s := S8x1024) ![6, 0] S1x1024.size inb_S8x1024_S1x1024_6_0, row6Step x0 x1 x2 x3 x4 x5 x6 x7 x8 k0_pay3⟩,
      ⟨Rect.unit (s := S8x1024) ![5, 0] S1x1024.size inb_S8x1024_S1x1024_5_0, row5Step x0 x1 x2 x3 x4 x5 x6 x7 x8 k0_pay3⟩,
      ⟨Rect.unit (s := S8x1024) ![0, 0] S8x1024.size inb_S8x1024_S8x1024_0_0, k0_pay3⟩] := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  rw [read7 a15.view, read6 a15.view, read5 a15.view]
  rfl

end

section
variable (c : Dev nD) (i : grid0.Coords) (a1 : Memref sig .tc .vmem S256x1024 .bf16) (h1 : a1.IsWhole) (a2 : Memref sig .tc .vmem S1024x4096 .bf16) (h2 : a2.IsWhole) (a3 : Memref sig .tc .vmem S4096x1024 .bf16) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S256x4096 .f32) (h10 : a10.IsWhole) (a11 : Memref sig .tc .vmem S256x4096 .bf16) (h11 : a11.IsWhole) (a12 : Memref sig .tc .vmem S256x1024 .f32) (h12 : a12.IsWhole) (a13 : Memref sig .tc .vmem S256x1024 .bf16) (h13 : a13.IsWhole) (a14 : Memref sig .tc .vmem S1024x256 .bf16) (h14 : a14.IsWhole) (a15 : Memref sig .tc .vmem S8x1024 .f32) (h15 : a15.IsWhole)
  (hc : ¬cond0_0 i) (x0 : Vec F S256x1024 .bf16) (x1 : Vec F S1024x4096 .bf16) (x2 : Vec F S4096x1024 .bf16) (x3 : Vec F S256x1024 .f32) (x4 : Vec F S256x1024 .f32) (x5 : Vec F S1x1024 .f32) (x6 : Vec F S1x1024 .f32) (x7 : Vec F S1x1024 .f32) (x8 : Vec F S1x1024 .f32) (xo : Vec F S8x1024 .f32)

/-- Case B: what is left, over what the point before left. -/
theorem out_B_14 : out0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 xo
    = a15.view.read (Elt F) (a15.view.writes (Elt F) (h15.unread xo) [⟨Rect.unit (s := S8x1024) ![7, 0] S1x1024.size inb_S8x1024_S1x1024_7_0, row7Step x0 x1 x2 x3 x4 x5 x6 x7 x8 xo⟩,
      ⟨Rect.unit (s := S8x1024) ![6, 0] S1x1024.size inb_S8x1024_S1x1024_6_0, row6Step x0 x1 x2 x3 x4 x5 x6 x7 x8 xo⟩,
      ⟨Rect.unit (s := S8x1024) ![5, 0] S1x1024.size inb_S8x1024_S1x1024_5_0, row5Step x0 x1 x2 x3 x4 x5 x6 x7 x8 xo⟩]) := by
  unfold out0_B_14
  unfold kernelRun0_B
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x1024) hz2, View.ld_unit_zero (S := S1x1024) hz2]
  simp only [h15.read_unread]
  rfl

end

end Cert.MlpFIdeal.Block

end
-- ==== Proof.MlpF.Outs.lean ====
/- What every grid point of the MLP's forward kernel leaves in the results that move with the rows: the same term over the
   point's blocks at the first point and at the later ones. -/
module

public import proofs.«01_k».proof.Proof.MlpF.Sums

@[expose] public section

set_option maxRecDepth 16384

noncomputable section

namespace Cert.MlpFIdeal.Block

open Cert.MlpFIdeal Cert.MlpFIdeal.Gen
open Idealize.ShloMosaic Idealize.ShloMosaic.TcCoe Idealize.SL.Sem

variable {F : FTy → Type} [FloatOps F] (m : (ℓ : Loc nD τ sig) → Buf (Elt F) ℓ) (c : Dev nD) (t : Fin cfg0.N)

/-- The gradient at the norm's input in point `t`'s block. -/
abbrev drAt : Vec F S256x1024 .f32 := drBlock (iblk m c 0 t) (iblk m c 1 t) (iblk m c 2 t) (iblk m c 3 t) (iblk m c 4 t) (iblk m c 5 t) (iblk m c 6 t) (iblk m c 7 t) (iblk m c 8 t)

theorem left9 : (outsAt0 m c t.val t.isLt).1 = hpBlock (iblk m c 0 t) (iblk m c 1 t) := by
  by_cases h : t.val % 16 = 0
  · rw [outsAt0_A m c t h]
    dsimp only
    rw [out_A_9]
  · rw [outsAt0_B m c t h]
    dsimp only
    rw [out_B_9]

theorem left10 : (outsAt0 m c t.val t.isLt).2.1 = hBlock (iblk m c 0 t) (iblk m c 1 t) := by
  by_cases h : t.val % 16 = 0
  · rw [outsAt0_A m c t h]
    dsimp only
    rw [out_A_10]
  · rw [outsAt0_B m c t h]
    dsimp only
    rw [out_B_10]

theorem left11 : (outsAt0 m c t.val t.isLt).2.2.1 = drAt m c t := by
  by_cases h : t.val % 16 = 0
  · rw [outsAt0_A m c t h]
    dsimp only
    rw [out_A_11]
  · rw [outsAt0_B m c t h]
    dsimp only
    rw [out_B_11]

theorem left12 : (outsAt0 m c t.val t.isLt).2.2.2.1 = k0_pay1 (drAt m c t) := by
  by_cases h : t.val % 16 = 0
  · rw [outsAt0_A m c t h]
    dsimp only
    rw [out_A_12]
  · rw [outsAt0_B m c t h]
    dsimp only
    rw [out_B_12]

theorem left13 : (outsAt0 m c t.val t.isLt).2.2.2.2.1 = k0_pay2 (drAt m c t) := by
  by_cases h : t.val % 16 = 0
  · rw [outsAt0_A m c t h]
    dsimp only
    rw [out_A_13]
  · rw [outsAt0_B m c t h]
    dsimp only
    rw [out_B_13]

end Cert.MlpFIdeal.Block

end
-- ==== Proof.MlpF.Math.lean ====
/- The MLP's forward rows, the second layer norm, the loss and the loss's gradient at the norm's input, as functions of one row:
   what both programs compute. -/
module

public import proofs.«01_k».proof.Proof.Mlp.Norm

@[expose] public section

noncomputable section

namespace Cert.MlpFMath

open Cert.MlpMath
open Idealize.ShloMosaic Idealize.ShloMosaic.ValueIdx
open scoped BigOperators

/-- The other constants. -/
abbrev half : EReal := Ideal.ofBits .f32 0x3F000000#32
abbrev one : EReal := Ideal.ofBits .f32 0x3F800000#32

theorem half_eq : half = ((1 / 2 : ℝ) : EReal) := by
  have h : half = (8388608 : ℝ) * (((2 ^ 24)⁻¹ : ℝ) : EReal) := by simp [half, Ideal.ofBits, Ideal.ieee]
  rw [h, ← EReal.coe_mul]; norm_num

theorem one_eq : one = ((1 : ℝ) : EReal) := by
  have h : one = (8388608 : ℝ) * (((2 ^ 23)⁻¹ : ℝ) : EReal) := by simp [one, Ideal.ofBits, Ideal.ieee]
  rw [h, ← EReal.coe_mul]; norm_num

/-- A row scaled and shifted. -/
def lineRow (x g b : Fin 1024 → EReal) (j : Fin 1024) : EReal := x j * g j + b j

/-- The hidden row before the squared ReLU, and the squared ReLU. -/
def hidRow (a : Fin 1024 → EReal) (wu : Fin 1024 → Fin 4096 → EReal) (k : Fin 4096) : EReal := ∑ j : Fin 1024, a j * wu j k
def square (h : EReal) : EReal := max h zero * max h zero

/-- The residual row: the scaled input and the MLP's output. -/
def resRow (a : Fin 1024 → EReal) (wu : Fin 1024 → Fin 4096 → EReal) (wd : Fin 4096 → Fin 1024 → EReal) (q : Fin 1024) : EReal :=
  alpha * a q + ∑ k : Fin 4096, square (hidRow a wu k) * wd k q

/-- The four quarters of the hidden columns are added one after the other. -/
theorem resRow_quarters (a : Fin 1024 → EReal) (wu : Fin 1024 → Fin 4096 → EReal) (wd : Fin 4096 → Fin 1024 → EReal) (q : Fin 1024) :
    resRow a wu wd q
      = alpha * a q + ∑ k : Fin 1024, square (hidRow a wu (quarter 0 k)) * wd (quarter 0 k) q
          + ∑ k : Fin 1024, square (hidRow a wu (quarter 1 k)) * wd (quarter 1 k) q
          + ∑ k : Fin 1024, square (hidRow a wu (quarter 2 k)) * wd (quarter 2 k) q
          + ∑ k : Fin 1024, square (hidRow a wu (quarter 3 k)) * wd (quarter 3 k) q := by
  unfold resRow
  rw [sum_quarters (fun k => square (hidRow a wu k) * wd k q), ← add_assoc, ← add_assoc, ← add_assoc]

/-- The layer norm of a row, before its scale and shift. -/
def centre (r : Fin 1024 → EReal) (q : Fin 1024) : EReal := r q - Ideal.div (∑ j : Fin 1024, r j) width
def variance (r : Fin 1024 → EReal) : EReal := Ideal.div (∑ j : Fin 1024, centre r j * centre r j) width + small
def normed (r : Fin 1024 → EReal) (q : Fin 1024) : EReal := centre r q * Ideal.rsqrt (variance r)

/-- The difference from the target, the loss's share, the gradient at the norm's output and at its input. -/
def err (r g b t : Fin 1024 → EReal) (q : Fin 1024) : EReal := lineRow (normed r) g b q - t q
def lossAt (r g b t : Fin 1024 → EReal) (q : Fin 1024) : EReal := Ideal.div (half * err r g b t q * err r g b t q) width
def outGrad (r g b t : Fin 1024 → EReal) (q : Fin 1024) : EReal := Ideal.div (err r g b t q) width
def inGrad (r g b t : Fin 1024 → EReal) (q : Fin 1024) : EReal :=
  normRow (Ideal.rsqrt (variance r)) (fun j => outGrad r g b t j * g j) (normed r) q

/-- The derivative of half a square over the width. -/
theorem grad_word (e : EReal) : Ideal.div (zero + ∑ _k : Fin 1, half * one) width * (two * e) = Ideal.div e width := by
  rw [Fin.sum_univ_one, zero_add_word, half_eq, one_eq, ← EReal.coe_mul, div_width, two_eq, ← mul_assoc, ← EReal.coe_mul, width_eq,
    Ideal.div_coe (by norm_num), mul_comm]
  norm_num

/-- A half taken out of a sum of finite squares. -/
theorem loss_sum {n : Nat} (e : Fin n → EReal) (he : ∀ p, Finite (e p)) :
    half * (zero + ∑ p : Fin n, Ideal.div (e p * e p) width) = ∑ p : Fin n, Ideal.div (half * e p * e p) width := by
  choose x hx using he
  simp only [hx, half_eq, ← EReal.coe_mul, div_width]
  rw [zero_add_word, coe_sum, coe_sum, ← EReal.coe_mul, Finset.mul_sum]
  exact congrArg _ (Finset.sum_congr rfl fun p _ => by ring)

theorem finite_line {x g b : Fin 1024 → EReal} (hx : ∀ j, Finite (x j)) (hg : ∀ j, Finite (g j)) (hb : ∀ j, Finite (b j)) (j : Fin 1024) :
    Finite (lineRow x g b j) := ((hx j).mul (hg j)).add (hb j)

theorem finite_res {a : Fin 1024 → EReal} {wu : Fin 1024 → Fin 4096 → EReal} {wd : Fin 4096 → Fin 1024 → EReal} (ha : ∀ j, Finite (a j))
    (hu : ∀ j k, Finite (wu j k)) (hd : ∀ k j, Finite (wd k j)) (q : Fin 1024) : Finite (resRow a wu wd q) := by
  have hs : ∀ k, Finite (square (hidRow a wu k)) := fun k => by
    have hm := (Finite.sum fun j => (ha j).mul (hu j k)).max finite_zero
    exact hm.mul hm
  exact (finite_alpha.mul (ha q)).add (Finite.sum fun k => (hs k).mul (hd k q))

/-- The norm of a finite row: its centred values sum to nothing, and its variance is positive. -/
theorem finite_row (r : Fin 1024 → EReal) (hr : ∀ j, Finite (r j)) :
    ∃ (c : Fin 1024 → ℝ) (V : ℝ), 0 < V ∧ ∑ j, c j = 0 ∧ (∀ j, centre r j = c j) ∧ variance r = V := by
  choose x hx using hr
  obtain ⟨c, V, hV, hc, hcj, hv⟩ := row_facts x
  have hrow : ∀ j, centre r j = c j := fun j => by
    rw [← hcj, zero_add_word]
    unfold centre
    simp only [hx]
  refine ⟨c, V, hV, hc, hrow, ?_⟩
  rw [← hv, zero_add_word]
  unfold variance
  simp only [hrow]

theorem finite_err {r g b t : Fin 1024 → EReal} (hr : ∀ j, Finite (r j)) (hg : ∀ j, Finite (g j)) (hb : ∀ j, Finite (b j))
    (ht : ∀ j, Finite (t j)) (q : Fin 1024) : Finite (err r g b t q) := by
  obtain ⟨c, V, hV, -, hc, hv⟩ := finite_row r hr
  have hn : ∀ j, Finite (normed r j) := fun j => by
    unfold normed
    rw [hc, hv, scale_eq hV]
    exact Finite.mul ⟨_, rfl⟩ ⟨_, rfl⟩
  obtain ⟨x, hx⟩ := finite_line hn hg hb q
  obtain ⟨y, hy⟩ := ht q
  exact ⟨x - y, by unfold err; rw [hx, hy, EReal.coe_sub]⟩

theorem finite_outGrad {r g b t : Fin 1024 → EReal} (hr : ∀ j, Finite (r j)) (hg : ∀ j, Finite (g j)) (hb : ∀ j, Finite (b j))
    (ht : ∀ j, Finite (t j)) (q : Fin 1024) : Finite (outGrad r g b t q) := by
  obtain ⟨x, hx⟩ := finite_err hr hg hb ht q
  exact ⟨_, by unfold outGrad; rw [hx, div_width]⟩

/-- The reference's gradient through the norm of a finite row is the closed form. -/
theorem ref_row {r g b t : Fin 1024 → EReal} (hr : ∀ j, Finite (r j)) (hg : ∀ j, Finite (g j)) (hb : ∀ j, Finite (b j))
    (ht : ∀ j, Finite (t j)) (q : Fin 1024) :
    refRow (centre r) (fun j => outGrad r g b t j * g j) (Ideal.rsqrt (variance r)) (variance r) q = inGrad r g b t q := by
  obtain ⟨c, V, hV, hc0, hc, hv⟩ := finite_row r hr
  choose y hy using fun j => (finite_outGrad hr hg hb ht j).mul (hg j)
  have hn : normed r = fun j => (c j : EReal) * Ideal.rsqrt V := funext fun j => by unfold normed; rw [hc, hv]
  unfold inGrad
  rw [hn, show centre r = fun j => (c j : EReal) from funext hc, show (fun j => outGrad r g b t j * g j) = fun j => (y j : EReal) from funext hy, hv]
  exact norm_row c y V hV hc0 q

/-- The arrays' shapes are `Mlp`'s; row `p` of the residual. -/
def inputRow (x : Rows.Idx → EReal) (g b : Line.Idx → EReal) (p : Fin 4096) : Fin 1024 → EReal :=
  lineRow (fun j => x (ix2 p j)) (fun j => g (ix2 (0 : Fin 1) j)) (fun j => b (ix2 (0 : Fin 1) j))
def residual (x : Rows.Idx → EReal) (g b : Line.Idx → EReal) (wu : Up.Idx → EReal) (wd : Rows.Idx → EReal) (p : Fin 4096) : Fin 1024 → EReal :=
  resRow (inputRow x g b p) (fun j k => wu (ix2 j k)) (fun k j => wd (ix2 k j))

end Cert.MlpFMath

end
-- ==== Proof.MlpF.Payloads.lean ====
/- What one grid point of the MLP's forward kernel stores, read at an index over the extended reals. -/
module

public import proofs.«01_k».proof.Proof.MlpF.Blocks
public import proofs.«01_k».proof.Proof.MlpF.Math
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.ValueKit.Tiles
public import Idealize.ShloMosaic.PureOps.Ideal.Laws

@[expose] public section

set_option maxRecDepth 16384

noncomputable section

namespace Cert.MlpFIdeal.Block

open Cert.MlpFIdeal Cert.MlpFIdeal.Gen
open Cert.MlpFMath (lineRow square centre variance normed err lossAt outGrad inGrad)
open Cert.MlpMath (quarter)
open Idealize.ShloMosaic Idealize.ShloMosaic.ValueIdx Idealize.SL.Sem
open scoped BigOperators

/-- A plain product. -/
theorem product {φ₁ φ₂ : FTy} (a : FVec Ideal S256x1024 φ₁) (b : FVec Ideal S1024x1024 φ₂) (p : Fin 256) (q : Fin 1024) :
    matmul dot_S256x1024_S1024x1024_S256x1024_1_0_0_1_n_n none a b (constant S256x1024 .f32 0x00000000#32) (ix2 p q)
      = ∑ k : Fin 1024, a (ix2 p k) * b (ix2 k q) := by
  refine (Ideal.matmul_plain_apply (M := 256) (K := 1024) (N := 1024) none a b _ p q).trans ?_
  rw [constant_apply, MlpMath.zero_word, zero_add]

/-- A sum over the rows of a block. -/
theorem column_sum (a : FVec Ideal S256x1024 .f32) (q : Fin 1024) :
    multiReduction .add [0] S1024 a 0x00000000#32 reduces_S256x1024_S1024 (.inl rfl) rfl (ix1 q) = ∑ p : Fin 256, a (ix2 p q) := by
  refine (Ideal.multiReduction_add_single _ _ _ _ _ _).trans (Finset.sum_congr rfl fun p _ => ?_)
  refine congrArg a (?_ : reduces_S256x1024_S1024.lift (ix1 q) p = ix2 p q)
  funext ax
  match ax with
  | ⟨0, _⟩ => rfl
  | ⟨1, _⟩ => rfl

/-- A sum along a row of a block. -/
theorem row_sum (a : FVec Ideal S256x1024 .f32) (p : Fin 256) :
    multiReduction .add [1] S256 a 0x00000000#32 reduces_S256x1024_S256 (.inl rfl) rfl (ix1 p) = ∑ q : Fin 1024, a (ix2 p q) := by
  refine (Ideal.multiReduction_add_single _ _ _ _ _ _).trans (Finset.sum_congr rfl fun q _ => ?_)
  refine congrArg a (?_ : reduces_S256x1024_S256.lift (ix1 p) q = ix2 p q)
  funext ax
  match ax with
  | ⟨0, _⟩ => rfl
  | ⟨1, _⟩ => rfl

/-- A column spread over the row. -/
theorem spread (a : FVec Ideal S256x1 .f32) (p : Fin 256) (q : Fin 1024) :
    broadcastTo S256x1024 a broadcasts_S256x1_S256x1024 (ix2 p q) = a (ix2 p (0 : Fin 1)) := by
  refine broadcastTo_apply _ _ _ (ix2 p (0 : Fin 1)) fun ax => ?_
  match ax with
  | ⟨0, _⟩ => rfl
  | ⟨1, _⟩ => rfl

/-- A row's mean, and the mean spread over the row. -/
theorem mean_of (a : FVec Ideal S256x1024 .f32) (p : Fin 256) :
    divf (shapeCast S256x1 (multiReduction .add [1] S256 a 0x00000000#32 reduces_S256x1024_S256 (.inl rfl) rfl)
        shapeCasts_S256_S256x1) (broadcast S256x1 (Scalar.ofBits (F := Ideal) .f32 0x44800000#32)) (ix2 p (0 : Fin 1))
      = Ideal.div (∑ j : Fin 1024, a (ix2 p j)) MlpMath.width := by
  show Ideal.div (shapeCast S256x1 _ shapeCasts_S256_S256x1 (ix2 p (0 : Fin 1))) _ = _
  rw [shapeCast_a_a1_apply, row_sum]
  rfl

theorem mean_at (a : FVec Ideal S256x1024 .f32) (p : Fin 256) (q : Fin 1024) :
    broadcastTo S256x1024 (divf (shapeCast S256x1 (multiReduction .add [1] S256 a 0x00000000#32 reduces_S256x1024_S256 (.inl rfl) rfl)
        shapeCasts_S256_S256x1) (broadcast S256x1 (Scalar.ofBits (F := Ideal) .f32 0x44800000#32))) broadcasts_S256x1_S256x1024 (ix2 p q)
      = Ideal.div (∑ j : Fin 1024, a (ix2 p j)) MlpMath.width := by
  rw [spread, mean_of]

/-- A row of a block, and of a one-row block. -/
abbrev rowOf (x : FVec Ideal S256x1024 .f32) (p : Fin 256) : Fin 1024 → EReal := fun j => x (ix2 p j)
abbrev lineOf (x : FVec Ideal S1x1024 .f32) : Fin 1024 → EReal := fun j => x (ix2 (0 : Fin 1) j)

/-- The residual: three quarters of it and the product for the last one. -/
def last (a : FVec Ideal S256x1024 .f32) (h : FVec Ideal S256x1024 .bf16) (w : FVec Ideal S1024x1024 .bf16) : FVec Ideal S256x1024 .f32 :=
  addf a (matmul dot_S256x1024_S1024x1024_S256x1024_1_0_0_1_n_n none h w (constant S256x1024 .f32 0x00000000#32))

section
variable (a : FVec Ideal S256x1024 .f32) (h : FVec Ideal S256x1024 .bf16) (w : FVec Ideal S1024x1024 .bf16) (g b : FVec Ideal S1x1024 .f32)
  (t : FVec Ideal S256x1024 .f32) (p : Fin 256) (q : Fin 1024)

/-- The norm of the residual's rows, the difference from the target and the gradient at the norm's output. -/
theorem centre_at : k0_pay15 a h w (ix2 p q) = centre (rowOf (last a h w) p) q := by
  unfold k0_pay15
  simp only [shapeCast_self]
  show last a h w (ix2 p q) - broadcastTo S256x1024 _ broadcasts_S256x1_S256x1024 (ix2 p q) = _
  rw [mean_at]
  rfl

theorem scale_at : k0_pay16 a h w (ix2 p (0 : Fin 1)) = Ideal.rsqrt (variance (rowOf (last a h w) p)) := by
  unfold k0_pay16
  refine (congrArg (fun z => Ideal.rsqrt (z + MlpMath.small)) (mean_of (mulf (k0_pay15 a h w) (k0_pay15 a h w)) p)).trans ?_
  refine congrArg (fun z => Ideal.rsqrt (Ideal.div z MlpMath.width + MlpMath.small)) (Finset.sum_congr rfl fun j _ => ?_)
  exact congrArg₂ (· * ·) (centre_at a h w p j) (centre_at a h w p j)

theorem normed_at : k0_pay17 a h w (ix2 p q) = normed (rowOf (last a h w) p) q := by
  unfold k0_pay17
  show k0_pay15 a h w (ix2 p q) * broadcastTo S256x1024 (k0_pay16 a h w) broadcasts_S256x1_S256x1024 (ix2 p q) = _
  rw [spread, centre_at, scale_at]
  rfl

theorem err_at : k0_pay18 a h w g b t (ix2 p q) = err (rowOf (last a h w) p) (lineOf g) (lineOf b) (rowOf t p) q := by
  unfold k0_pay18
  show k0_pay17 a h w (ix2 p q) * broadcastTo S256x1024 g broadcasts_S1x1024_S256x1024 (ix2 p q)
    + broadcastTo S256x1024 b broadcasts_S1x1024_S256x1024 (ix2 p q) - t (ix2 p q) = _
  rw [broadcastTo_1b_ab_apply, broadcastTo_1b_ab_apply, normed_at]
  rfl

theorem out_at : k0_pay19 a h w g b t (ix2 p q) = outGrad (rowOf (last a h w) p) (lineOf g) (lineOf b) (rowOf t p) q := by
  unfold k0_pay19
  exact congrArg (fun z => Ideal.div z MlpMath.width) (err_at a h w g b t p q)

/-- The gradient through the norm. -/
theorem through_at (s : FVec Ideal S256x1 .f32) (x y : FVec Ideal S256x1024 .f32) :
    k0_pay23 s x y g (ix2 p q)
      = MlpMath.normRow (s (ix2 p (0 : Fin 1))) (fun j => y (ix2 p j) * g (ix2 (0 : Fin 1) j)) (rowOf x p) q := by
  have hy : ∀ j, mulf y (broadcastTo S256x1024 g broadcasts_S1x1024_S256x1024) (ix2 p j) = y (ix2 p j) * g (ix2 (0 : Fin 1) j) := fun j =>
    congrArg (y (ix2 p j) * ·) (broadcastTo_1b_ab_apply _ _ _ _)
  unfold MlpMath.normRow
  simp only [← hy]
  unfold k0_pay23
  generalize mulf y (broadcastTo S256x1024 g broadcasts_S1x1024_S256x1024) = z
  show broadcastTo S256x1024 s broadcasts_S256x1_S256x1024 (ix2 p q)
    * ((z (ix2 p q) - broadcastTo S256x1024 _ broadcasts_S256x1_S256x1024 (ix2 p q))
      - x (ix2 p q) * broadcastTo S256x1024 _ broadcasts_S256x1_S256x1024 (ix2 p q)) = _
  rw [mean_at, mean_at, spread]
  rfl

end

variable (x0 : Vec Ideal S256x1024 .bf16) (x1 : Vec Ideal S1024x4096 .bf16) (x2 : Vec Ideal S4096x1024 .bf16)
  (x3 x4 : Vec Ideal S256x1024 .f32) (x5 x6 x7 x8 : Vec Ideal S1x1024 .f32)

/-- The later quarters of the hidden rows are the same term as the first. -/
theorem pay8 (w : Vec Ideal S1024x1024 .bf16) : k0_pay8 x0 w = k0_pay5 x0 w := rfl
theorem pay10 (w : Vec Ideal S1024x1024 .bf16) : k0_pay10 (k0_pay4 x0) w = k0_pay5 x0 w := rfl
theorem pay13 (w : Vec Ideal S1024x1024 .bf16) : k0_pay13 (k0_pay4 x0) w = k0_pay5 x0 w := rfl
theorem pay9 (w : Vec Ideal S1024x1024 .bf16) : k0_pay9 (k0_pay5 x0 w) = k0_pay6 x0 w := rfl
theorem pay11 (w : Vec Ideal S1024x1024 .bf16) : k0_pay11 (k0_pay4 x0) w = k0_pay6 x0 w := rfl
theorem pay14 (w : Vec Ideal S1024x1024 .bf16) : k0_pay14 (k0_pay4 x0) w = k0_pay6 x0 w := rfl

/-- The weights as functions of row and column, and a row of the input. -/
abbrev inRow (p : Fin 256) : Fin 1024 → EReal := fun j => x0 (ix2 p j)
abbrev upAt : Fin 1024 → Fin 4096 → EReal := fun j k => x1 (ix2 j k)
abbrev downAt : Fin 4096 → Fin 1024 → EReal := fun k j => x2 (ix2 k j)

/-- Quarter `n` of the hidden rows, before and after the square. -/
theorem hp_quarter (n : Fin 4) (o : Nat) (ho : o = n.val * 1024)
    (hu : ∀ a, (![0, o] : Fin 2 → Nat) a + S1024x1024.size a ≤ S1024x4096.size a) (p : Fin 256) (q : Fin 1024) :
    k0_pay5 x0 (upw x1 o hu) (ix2 p q) = MlpFMath.hidRow (inRow x0 p) (upAt x1) (quarter n q) := by
  subst ho
  unfold k0_pay5 k0_pay4
  simp only [shapeCast_self]
  refine (product (φ₁ := .bf16) (φ₂ := .bf16) x0 (upw x1 _ hu) p q).trans (Finset.sum_congr rfl fun k _ => congrArg (x0 (ix2 p k) * ·) ?_)
  refine View.ld_unit_apply_of x1 _ _ _ _ _ fun ax => ?_
  match ax with
  | ⟨0, _⟩ => exact (Nat.zero_add _).symm
  | ⟨1, _⟩ => rfl

theorem h_quarter (n : Fin 4) (o : Nat) (ho : o = n.val * 1024)
    (hu : ∀ a, (![0, o] : Fin 2 → Nat) a + S1024x1024.size a ≤ S1024x4096.size a) (p : Fin 256) (q : Fin 1024) :
    k0_pay6 x0 (upw x1 o hu) (ix2 p q) = square (MlpFMath.hidRow (inRow x0 p) (upAt x1) (quarter n q)) := by
  unfold k0_pay6
  exact congrArg square (hp_quarter x0 x1 n o ho hu p q)

/-- A quarter of the second weight. -/
theorem down_at (n : Fin 4) (o : Nat) (ho : o = n.val * 1024) (hd : ∀ a, (![o, 0] : Fin 2 → Nat) a + S1024x1024.size a ≤ S4096x1024.size a)
    (k q : Fin 1024) : dnw x2 o hd (ix2 k q) = downAt x2 (quarter n k) q := by
  subst ho
  refine View.ld_unit_apply_of x2 _ _ _ _ _ fun ax => ?_
  match ax with
  | ⟨0, _⟩ => rfl
  | ⟨1, _⟩ => exact (Nat.zero_add _).symm

/-- A quarter's share of the residual. -/
theorem share (n : Fin 4) (o : Nat) (ho : o = n.val * 1024)
    (hu : ∀ a, (![0, o] : Fin 2 → Nat) a + S1024x1024.size a ≤ S1024x4096.size a)
    (hd : ∀ a, (![o, 0] : Fin 2 → Nat) a + S1024x1024.size a ≤ S4096x1024.size a) (p : Fin 256) (q : Fin 1024) :
    matmul (φ₁ := .bf16) (φ₂ := .bf16) dot_S256x1024_S1024x1024_S256x1024_1_0_0_1_n_n none (k0_pay6 x0 (upw x1 o hu)) (dnw x2 o hd)
        (constant S256x1024 .f32 0x00000000#32) (ix2 p q)
      = ∑ k : Fin 1024, square (MlpFMath.hidRow (inRow x0 p) (upAt x1) (quarter n k)) * downAt x2 (quarter n k) q := by
  rw [product]
  exact Finset.sum_congr rfl fun k _ => congrArg₂ (· * ·) (h_quarter x0 x1 n o ho hu p k) (down_at x2 n o ho hd k q)

/-- The residual in the block. -/
abbrev resBlock : FVec Ideal S256x1024 .f32 := last (part3 x0 x1 x2 x3 x5 x6) (h3 x0 x1) (dn3 x2)

/-- It is the row's, where the rounded input is the scaled and shifted row. -/
theorem res_at (p : Fin 256) (hx : inRow x0 p = lineRow (rowOf x3 p) (lineOf x5) (lineOf x6)) (q : Fin 1024) :
    resBlock x0 x1 x2 x3 x5 x6 (ix2 p q)
      = MlpFMath.resRow (lineRow (rowOf x3 p) (lineOf x5) (lineOf x6)) (upAt x1) (downAt x2) q := by
  rw [MlpFMath.resRow_quarters, ← hx,
    ← share x0 x1 x2 0 0 rfl inb_S1024x4096_S1024x1024_0_0 inb_S4096x1024_S1024x1024_0_0,
    ← share x0 x1 x2 1 1024 rfl inb_S1024x4096_S1024x1024_0_1024 inb_S4096x1024_S1024x1024_1024_0,
    ← share x0 x1 x2 2 2048 rfl inb_S1024x4096_S1024x1024_0_2048 inb_S4096x1024_S1024x1024_2048_0,
    ← share x0 x1 x2 3 3072 rfl inb_S1024x4096_S1024x1024_0_3072 inb_S4096x1024_S1024x1024_3072_0, hx]
  unfold resBlock last part3 k0_pay12 k0_pay7 h3
  simp only [shapeCast_self, pay8, pay9, pay11, pay14]
  have e : lineRow (rowOf x3 p) (lineOf x5) (lineOf x6) q = x3 (ix2 p q) * broadcastTo S256x1024 x5 broadcasts_S1x1024_S256x1024 (ix2 p q)
      + broadcastTo S256x1024 x6 broadcasts_S1x1024_S256x1024 (ix2 p q) := by
    rw [broadcastTo_1b_ab_apply, broadcastTo_1b_ab_apply]
    rfl
  rw [e]
  rfl

/-- The accumulated rows after a point: what was there, the block's column sums added. -/
theorem row5_at (old : Vec Ideal S8x1024 .f32) (q : Fin 1024) :
    row5Step x0 x1 x2 x3 x4 x5 x6 x7 x8 old (ix2 (0 : Fin 1) q)
      = old (ix2 (5 : Fin 8) q) + ∑ p : Fin 256, outGrad (rowOf (resBlock x0 x1 x2 x3 x5 x6) p) (lineOf x7) (lineOf x8) (rowOf x4 p) q
          * normed (rowOf (resBlock x0 x1 x2 x3 x5 x6) p) q := by
  simp only [← out_at, ← normed_at]
  unfold row5Step k0_pay20
  simp only [shapeCast_self]
  show View.ld old (Rect.unit (s := S8x1024) ![5, 0] S1x1024.size inb_S8x1024_S1x1024_5_0) (ix2 (0 : Fin 1) q) + shapeCast S1x1024 _ shapeCasts_S1024_S1x1024 (ix2 (0 : Fin 1) q) = _
  rw [shapeCast_a_1a_apply, column_sum]
  refine congrArg (· + _) (View.ld_unit_apply_of old _ _ _ _ _ fun ax => ?_)
  match ax with
  | ⟨0, _⟩ => rfl
  | ⟨1, _⟩ => exact (Nat.zero_add _).symm

theorem row6_at (old : Vec Ideal S8x1024 .f32) (q : Fin 1024) :
    row6Step x0 x1 x2 x3 x4 x5 x6 x7 x8 old (ix2 (0 : Fin 1) q)
      = old (ix2 (6 : Fin 8) q) + ∑ p : Fin 256, outGrad (rowOf (resBlock x0 x1 x2 x3 x5 x6) p) (lineOf x7) (lineOf x8) (rowOf x4 p) q := by
  simp only [← out_at]
  unfold row6Step k0_pay21
  simp only [shapeCast_self]
  show View.ld old (Rect.unit (s := S8x1024) ![6, 0] S1x1024.size inb_S8x1024_S1x1024_6_0) (ix2 (0 : Fin 1) q) + shapeCast S1x1024 _ shapeCasts_S1024_S1x1024 (ix2 (0 : Fin 1) q) = _
  rw [shapeCast_a_1a_apply, column_sum]
  refine congrArg (· + _) (View.ld_unit_apply_of old _ _ _ _ _ fun ax => ?_)
  match ax with
  | ⟨0, _⟩ => rfl
  | ⟨1, _⟩ => exact (Nat.zero_add _).symm

theorem row7_at (old : Vec Ideal S8x1024 .f32) (q : Fin 1024) :
    row7Step x0 x1 x2 x3 x4 x5 x6 x7 x8 old (ix2 (0 : Fin 1) q)
      = old (ix2 (7 : Fin 8) q) + ∑ p : Fin 256, lossAt (rowOf (resBlock x0 x1 x2 x3 x5 x6) p) (lineOf x7) (lineOf x8) (rowOf x4 p) q := by
  unfold lossAt
  simp only [← err_at]
  unfold row7Step k0_pay22
  simp only [shapeCast_self]
  show View.ld old (Rect.unit (s := S8x1024) ![7, 0] S1x1024.size inb_S8x1024_S1x1024_7_0) (ix2 (0 : Fin 1) q) + shapeCast S1x1024 _ shapeCasts_S1024_S1x1024 (ix2 (0 : Fin 1) q) = _
  rw [shapeCast_a_1a_apply, column_sum]
  refine congrArg₂ (· + ·) (View.ld_unit_apply_of old _ _ _ _ _ fun ax => ?_) rfl
  match ax with
  | ⟨0, _⟩ => rfl
  | ⟨1, _⟩ => exact (Nat.zero_add _).symm

/-- The gradient at the norm's input in the block. -/
theorem dr_at (p : Fin 256) (q : Fin 1024) :
    drBlock x0 x1 x2 x3 x4 x5 x6 x7 x8 (ix2 p q)
      = inGrad (rowOf (resBlock x0 x1 x2 x3 x5 x6) p) (lineOf x7) (lineOf x8) (rowOf x4 p) q := by
  unfold drBlock normBlock dyBlock
  rw [through_at, scale_at]
  unfold inGrad
  simp only [out_at]
  refine congrArg (fun z => MlpMath.normRow _ _ z q) (funext fun j => ?_)
  exact normed_at _ _ _ p j

/-- A block put together from its four column quarters. -/
theorem quarters {e : EltTy} (f : S256x4096.Idx → Elt Ideal e) (w : Fin 4 → Vec Ideal S256x1024 e)
    (hw : ∀ (n : Fin 4) (p : Fin 256) (q : Fin 1024), w n (ix2 p q) = f (ix2 p (quarter n q))) (i : S256x4096.Idx) :
    View.canon (Val := Elt Ideal) (e := e) [⟨Rect.unit (s := S256x4096) ![0, 3072] S256x1024.size inb_S256x4096_S256x1024_0_3072, w 3⟩,
      ⟨Rect.unit (s := S256x4096) ![0, 2048] S256x1024.size inb_S256x4096_S256x1024_0_2048, w 2⟩,
      ⟨Rect.unit (s := S256x4096) ![0, 1024] S256x1024.size inb_S256x4096_S256x1024_0_1024, w 1⟩,
      ⟨Rect.unit (s := S256x4096) ![0, 0] S256x1024.size inb_S256x4096_S256x1024_0_0, w 0⟩] i = f i := by
  have piece : ∀ (n : Fin 4) (o : Nat) (_ : o = n.val * 1024)
      (hh : ∀ a, (![0, o] : Fin 2 → Nat) a + S256x1024.size a ≤ S256x4096.size a) (x : S256x1024.Idx),
      w n x = f ((Rect.unit (s := S256x4096) ![0, o] S256x1024.size hh).emb x) := by
    intro n o ho hh x
    obtain ⟨p, q, rfl⟩ : ∃ (p : Fin 256) (q : Fin 1024), x = ix2 p q := ⟨x 0, x 1, eq_ix2 x⟩
    refine (hw n p q).trans (congrArg f (funext fun ax => Fin.ext ?_))
    match ax with
    | ⟨0, _⟩ => show p.val = 0 + 1 * p.val; omega
    | ⟨1, _⟩ => show n.val * 1024 + q.val = o + 1 * q.val; omega
  refine View.canon_apply_of_pieces (Val := Elt Ideal) (e := e) f _ ?_ i ?_
  · intro pc hpc
    simp only [List.mem_cons, List.not_mem_nil, or_false] at hpc
    rcases hpc with rfl | rfl | rfl | rfl
    · exact piece 3 3072 rfl inb_S256x4096_S256x1024_0_3072
    · exact piece 2 2048 rfl inb_S256x4096_S256x1024_0_2048
    · exact piece 1 1024 rfl inb_S256x4096_S256x1024_0_1024
    · exact piece 0 0 rfl inb_S256x4096_S256x1024_0_0
  · have h0 : (i 0).val < 256 := (i 0).isLt
    have h1 : (i 1).val < 4096 := (i 1).isLt
    have mem : ∀ (o : Nat) (hr : ∀ ax, (![0, o] : Fin 2 → Nat) ax + S256x1024.size ax ≤ S256x4096.size ax),
        o ≤ (i 1).val → (i 1).val < o + 1024 → i ∈ (Rect.unit (s := S256x4096) ![0, o] S256x1024.size hr).set := by
      intro o hr hl hu
      rw [Rect.mem_set_unit]
      intro ax
      match ax with
      | ⟨0, _⟩ => exact ⟨Nat.zero_le _, by show (i 0).val < 0 + 256; omega⟩
      | ⟨1, _⟩ => exact ⟨hl, hu⟩
    rcases (by omega : 3072 ≤ (i 1).val ∨ 2048 ≤ (i 1).val ∧ (i 1).val < 3072 ∨ 1024 ≤ (i 1).val ∧ (i 1).val < 2048 ∨ (i 1).val < 1024) with h | h | h | h
    · exact ⟨_, List.mem_cons_self, mem 3072 inb_S256x4096_S256x1024_0_3072 h (by omega)⟩
    · exact ⟨_, List.mem_cons_of_mem _ List.mem_cons_self, mem 2048 inb_S256x4096_S256x1024_0_2048 h.1 (by omega)⟩
    · exact ⟨_, List.mem_cons_of_mem _ (List.mem_cons_of_mem _ List.mem_cons_self), mem 1024 inb_S256x4096_S256x1024_0_1024 h.1 (by omega)⟩
    · exact ⟨_, List.mem_cons_of_mem _ (List.mem_cons_of_mem _ (List.mem_cons_of_mem _ List.mem_cons_self)), mem 0 inb_S256x4096_S256x1024_0_0 (Nat.zero_le _) (by omega)⟩

/-- The four quarters of the first weight. -/
def upq (n : Fin 4) : Vec Ideal S1024x1024 .bf16 := match n with
  | 0 => upw x1 0 inb_S1024x4096_S1024x1024_0_0
  | 1 => upw x1 1024 inb_S1024x4096_S1024x1024_0_1024
  | 2 => upw x1 2048 inb_S1024x4096_S1024x1024_0_2048
  | 3 => upw x1 3072 inb_S1024x4096_S1024x1024_0_3072

/-- The hidden rows' blocks, before and after the square. -/
theorem hp_at (p : Fin 256) (k : Fin 4096) :
    hpBlock x0 x1 (ix2 p k) = MlpFMath.hidRow (inRow x0 p) (upAt x1) k := by
  refine quarters (e := .f32) (fun i => MlpFMath.hidRow (inRow x0 (i 0)) (upAt x1) (i 1)) (fun n => k0_pay5 x0 (upq x1 n)) (fun n p q => ?_) (ix2 p k)
  match n with
  | 0 => exact hp_quarter x0 x1 0 0 rfl _ p q
  | 1 => exact hp_quarter x0 x1 1 1024 rfl _ p q
  | 2 => exact hp_quarter x0 x1 2 2048 rfl _ p q
  | 3 => exact hp_quarter x0 x1 3 3072 rfl _ p q

theorem h_at (p : Fin 256) (k : Fin 4096) :
    hBlock x0 x1 (ix2 p k) = square (MlpFMath.hidRow (inRow x0 p) (upAt x1) k) := by
  refine quarters (e := .bf16) (fun i => square (MlpFMath.hidRow (inRow x0 (i 0)) (upAt x1) (i 1))) (fun n => k0_pay6 x0 (upq x1 n)) (fun n p q => ?_) (ix2 p k)
  match n with
  | 0 => exact h_quarter x0 x1 0 0 rfl _ p q
  | 1 => exact h_quarter x0 x1 1 1024 rfl _ p q
  | 2 => exact h_quarter x0 x1 2 2048 rfl _ p q
  | 3 => exact h_quarter x0 x1 3 3072 rfl _ p q

end Cert.MlpFIdeal.Block

end
-- ==== Proof.MlpF.Entry.lean ====
/- What the windows of the MLP's forward call read: the elements of the launch's arrays, over the extended reals. -/
module

public import proofs.«01_k».proof.Proof.MlpF.Math
public import proofs.«01_k».proof.Proof.Gen.MlpFIdeal.Frame
public import proofs.«01_k».proof.Proof.Gen.MlpFRefIdeal.Read
public import Idealize.ShloMosaic.Lib.Pipeline.Value
public import Idealize.ShloMosaic.Lib.StableHlo.ReadAt

@[expose] public section

set_option maxRecDepth 16384

noncomputable section

namespace Cert.MlpFIdeal.Entry

open Cert.MlpFIdeal Cert.MlpFIdeal.Gen
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD)

/-- The launch's arrays. -/
abbrev xh : MlpMath.Rows.Idx → EReal := m ((c : Thread nD τ).loc main_arg0)
abbrev tgt : MlpMath.Rows.Idx → EReal := m ((c : Thread nD τ).loc main_arg1)
abbrev g1 : MlpMath.Line.Idx → EReal := m ((c : Thread nD τ).loc main_arg2)
abbrev b1 : MlpMath.Line.Idx → EReal := m ((c : Thread nD τ).loc main_arg3)
abbrev wu : MlpMath.Up.Idx → EReal := m ((c : Thread nD τ).loc main_arg4)
abbrev wd : MlpMath.Rows.Idx → EReal := m ((c : Thread nD τ).loc main_arg5)
abbrev g2 : MlpMath.Line.Idx → EReal := m ((c : Thread nD τ).loc main_arg6)
abbrev b2 : MlpMath.Line.Idx → EReal := m ((c : Thread nD τ).loc main_arg7)

/-- The scaled and shifted rows, as the host computes them for both programs. -/
abbrev xin : MlpMath.Rows.Idx → EReal := Cert.MlpFRefIdeal.Read.val_main_v3 (F := Ideal) (xh m c) (g1 m c) (b1 m c)

/-- What the host operations before the launch leave in the call's operands. -/
theorem V_xin : V m c main_v4 = xin m c := by
  unfold V; after_reads_simp; rfl

theorem V_wu : V m c main_v5 = wu m c := by
  unfold V; after_reads_simp; rfl

theorem V_wd : V m c main_v6 = wd m c := by
  unfold V; after_reads_simp; rfl

/-- The row of the array that row `r` of point `t`'s block is. -/
def row (t : Fin cfg0.N) (r : Fin 256) : Fin 4096 :=
  ⟨256 * t.val + r.val, by have h : t.val < 16 := lt_of_lt_of_eq t.isLt N_0; have := r.isLt; omega⟩

/-- Window 0 moves down the rows. -/
theorem rows0 (X : MlpMath.Rows.Idx → EReal) (t : Fin cfg0.N) (r : Fin 256) (q : Fin 1024) :
    ((cfg0.win 0).blk t).view.read (Elt Ideal) X (ix2 r q) = X (ix2 (row t r) q) := by
  have hi : win0_0.index t 0 = t.val ∧ win0_0.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_0.index t 0 * 256 + 1 * r.val = 256 * t.val + r.val; rw [hi.1]; omega
  | ⟨1, _⟩ => show win0_0.index t 1 * 1024 + 1 * q.val = q.val; rw [hi.2]; omega

/-- Window 1 is its whole array. -/
theorem whole1 (X : MlpMath.Up.Idx → EReal) (t : Fin cfg0.N) (r : Fin 1024) (q : Fin 4096) :
    ((cfg0.win 1).blk t).view.read (Elt Ideal) X (ix2 r q) = X (ix2 r q) := by
  have hi : win0_1.index t 0 = 0 ∧ win0_1.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_1.index t 0 * 1024 + 1 * r.val = r.val; rw [hi.1]; omega
  | ⟨1, _⟩ => show win0_1.index t 1 * 4096 + 1 * q.val = q.val; rw [hi.2]; omega

/-- Window 2 is its whole array. -/
theorem whole2 (X : MlpMath.Rows.Idx → EReal) (t : Fin cfg0.N) (r : Fin 4096) (q : Fin 1024) :
    ((cfg0.win 2).blk t).view.read (Elt Ideal) X (ix2 r q) = X (ix2 r q) := by
  have hi : win0_2.index t 0 = 0 ∧ win0_2.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_2.index t 0 * 4096 + 1 * r.val = r.val; rw [hi.1]; omega
  | ⟨1, _⟩ => show win0_2.index t 1 * 1024 + 1 * q.val = q.val; rw [hi.2]; omega

/-- Window 3 moves down the rows. -/
theorem rows3 (X : MlpMath.Rows.Idx → EReal) (t : Fin cfg0.N) (r : Fin 256) (q : Fin 1024) :
    ((cfg0.win 3).blk t).view.read (Elt Ideal) X (ix2 r q) = X (ix2 (row t r) q) := by
  have hi : win0_3.index t 0 = t.val ∧ win0_3.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_3.index t 0 * 256 + 1 * r.val = 256 * t.val + r.val; rw [hi.1]; omega
  | ⟨1, _⟩ => show win0_3.index t 1 * 1024 + 1 * q.val = q.val; rw [hi.2]; omega

/-- Window 4 moves down the rows. -/
theorem rows4 (X : MlpMath.Rows.Idx → EReal) (t : Fin cfg0.N) (r : Fin 256) (q : Fin 1024) :
    ((cfg0.win 4).blk t).view.read (Elt Ideal) X (ix2 r q) = X (ix2 (row t r) q) := by
  have hi : win0_4.index t 0 = t.val ∧ win0_4.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_4.index t 0 * 256 + 1 * r.val = 256 * t.val + r.val; rw [hi.1]; omega
  | ⟨1, _⟩ => show win0_4.index t 1 * 1024 + 1 * q.val = q.val; rw [hi.2]; omega

/-- Window 5 is its whole array. -/
theorem whole5 (X : MlpMath.Line.Idx → EReal) (t : Fin cfg0.N) (r : Fin 1) (q : Fin 1024) :
    ((cfg0.win 5).blk t).view.read (Elt Ideal) X (ix2 r q) = X (ix2 r q) := by
  have hi : win0_5.index t 0 = 0 ∧ win0_5.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_5.index t 0 * 1 + 1 * r.val = r.val; rw [hi.1]; omega
  | ⟨1, _⟩ => show win0_5.index t 1 * 1024 + 1 * q.val = q.val; rw [hi.2]; omega

/-- Window 6 is its whole array. -/
theorem whole6 (X : MlpMath.Line.Idx → EReal) (t : Fin cfg0.N) (r : Fin 1) (q : Fin 1024) :
    ((cfg0.win 6).blk t).view.read (Elt Ideal) X (ix2 r q) = X (ix2 r q) := by
  have hi : win0_6.index t 0 = 0 ∧ win0_6.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_6.index t 0 * 1 + 1 * r.val = r.val; rw [hi.1]; omega
  | ⟨1, _⟩ => show win0_6.index t 1 * 1024 + 1 * q.val = q.val; rw [hi.2]; omega

/-- Window 7 is its whole array. -/
theorem whole7 (X : MlpMath.Line.Idx → EReal) (t : Fin cfg0.N) (r : Fin 1) (q : Fin 1024) :
    ((cfg0.win 7).blk t).view.read (Elt Ideal) X (ix2 r q) = X (ix2 r q) := by
  have hi : win0_7.index t 0 = 0 ∧ win0_7.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_7.index t 0 * 1 + 1 * r.val = r.val; rw [hi.1]; omega
  | ⟨1, _⟩ => show win0_7.index t 1 * 1024 + 1 * q.val = q.val; rw [hi.2]; omega

/-- Window 8 is its whole array. -/
theorem whole8 (X : MlpMath.Line.Idx → EReal) (t : Fin cfg0.N) (r : Fin 1) (q : Fin 1024) :
    ((cfg0.win 8).blk t).view.read (Elt Ideal) X (ix2 r q) = X (ix2 r q) := by
  have hi : win0_8.index t 0 = 0 ∧ win0_8.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_8.index t 0 * 1 + 1 * r.val = r.val; rw [hi.1]; omega
  | ⟨1, _⟩ => show win0_8.index t 1 * 1024 + 1 * q.val = q.val; rw [hi.2]; omega

/-- Window 9 moves down the rows. -/
theorem rows9 (X : MlpMath.Hid.Idx → EReal) (t : Fin cfg0.N) (r : Fin 256) (q : Fin 4096) :
    ((cfg0.win 9).blk t).view.read (Elt Ideal) X (ix2 r q) = X (ix2 (row t r) q) := by
  have hi : win0_9.index t 0 = t.val ∧ win0_9.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_9.index t 0 * 256 + 1 * r.val = 256 * t.val + r.val; rw [hi.1]; omega
  | ⟨1, _⟩ => show win0_9.index t 1 * 4096 + 1 * q.val = q.val; rw [hi.2]; omega

/-- Window 10 moves down the rows. -/
theorem rows10 (X : MlpMath.Hid.Idx → EReal) (t : Fin cfg0.N) (r : Fin 256) (q : Fin 4096) :
    ((cfg0.win 10).blk t).view.read (Elt Ideal) X (ix2 r q) = X (ix2 (row t r) q) := by
  have hi : win0_10.index t 0 = t.val ∧ win0_10.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_10.index t 0 * 256 + 1 * r.val = 256 * t.val + r.val; rw [hi.1]; omega
  | ⟨1, _⟩ => show win0_10.index t 1 * 4096 + 1 * q.val = q.val; rw [hi.2]; omega

/-- Window 11 moves down the rows. -/
theorem rows11 (X : MlpMath.Rows.Idx → EReal) (t : Fin cfg0.N) (r : Fin 256) (q : Fin 1024) :
    ((cfg0.win 11).blk t).view.read (Elt Ideal) X (ix2 r q) = X (ix2 (row t r) q) := by
  have hi : win0_11.index t 0 = t.val ∧ win0_11.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_11.index t 0 * 256 + 1 * r.val = 256 * t.val + r.val; rw [hi.1]; omega
  | ⟨1, _⟩ => show win0_11.index t 1 * 1024 + 1 * q.val = q.val; rw [hi.2]; omega

/-- Window 12 moves down the rows. -/
theorem rows12 (X : MlpMath.Rows.Idx → EReal) (t : Fin cfg0.N) (r : Fin 256) (q : Fin 1024) :
    ((cfg0.win 12).blk t).view.read (Elt Ideal) X (ix2 r q) = X (ix2 (row t r) q) := by
  have hi : win0_12.index t 0 = t.val ∧ win0_12.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_12.index t 0 * 256 + 1 * r.val = 256 * t.val + r.val; rw [hi.1]; omega
  | ⟨1, _⟩ => show win0_12.index t 1 * 1024 + 1 * q.val = q.val; rw [hi.2]; omega

/-- Window 13 moves along the columns. -/
theorem cols13 (X : S1024x4096.Idx → EReal) (t : Fin cfg0.N) (r : Fin 1024) (q : Fin 256) :
    ((cfg0.win 13).blk t).view.read (Elt Ideal) X (ix2 r q) = X (ix2 r (row t q)) := by
  have hi : win0_13.index t 0 = 0 ∧ win0_13.index t 1 = t.val := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_13.index t 0 * 1024 + 1 * r.val = r.val; rw [hi.1]; omega
  | ⟨1, _⟩ => show win0_13.index t 1 * 256 + 1 * q.val = 256 * t.val + q.val; rw [hi.2]; omega

/-- Window 14 is its whole array. -/
theorem whole14 (X : S8x1024.Idx → EReal) (t : Fin cfg0.N) (r : Fin 8) (q : Fin 1024) :
    ((cfg0.win 14).blk t).view.read (Elt Ideal) X (ix2 r q) = X (ix2 r q) := by
  have hi : win0_14.index t 0 = 0 ∧ win0_14.index t 1 = 0 := by
    rcases fin_N0 t with rfl | rfl | rfl | rfl | rfl | rfl | rfl | rfl | rfl | rfl | rfl | rfl | rfl | rfl | rfl | rfl <;> decide
  rw [View.read_apply]
  refine congrArg X (funext fun ax => Fin.ext ?_)
  match ax with
  | ⟨0, _⟩ => show win0_14.index t 0 * 8 + 1 * r.val = r.val; rw [hi.1]; omega
  | ⟨1, _⟩ => show win0_14.index t 1 * 1024 + 1 * q.val = q.val; rw [hi.2]; omega

theorem block0 (t : Fin cfg0.N) (r : Fin 256) (q : Fin 1024) : (iblk m c 0 t : Vec Ideal S256x1024 .bf16) (ix2 r q) = xin m c (ix2 (row t r) q) := by
  rw [← rows0 (xin m c) t r q]
  unfold iblk
  exact congrArg (fun X => ((cfg0.win 0).blk t).view.read (Elt Ideal) X (ix2 r q)) (V_xin m c)

theorem block1 (t : Fin cfg0.N) (r : Fin 1024) (q : Fin 4096) : (iblk m c 1 t : Vec Ideal S1024x4096 .bf16) (ix2 r q) = wu m c (ix2 r q) := by
  rw [← whole1 (wu m c) t r q]
  unfold iblk
  exact congrArg (fun X => ((cfg0.win 1).blk t).view.read (Elt Ideal) X (ix2 r q)) (V_wu m c)

theorem block2 (t : Fin cfg0.N) (r : Fin 4096) (q : Fin 1024) : (iblk m c 2 t : Vec Ideal S4096x1024 .bf16) (ix2 r q) = wd m c (ix2 r q) := by
  rw [← whole2 (wd m c) t r q]
  unfold iblk
  exact congrArg (fun X => ((cfg0.win 2).blk t).view.read (Elt Ideal) X (ix2 r q)) (V_wd m c)

theorem block3 (t : Fin cfg0.N) (r : Fin 256) (q : Fin 1024) : (iblk m c 3 t : Vec Ideal S256x1024 .f32) (ix2 r q) = xh m c (ix2 (row t r) q) := by
  rw [← rows3 (xh m c) t r q]
  unfold iblk
  exact congrArg (fun X => ((cfg0.win 3).blk t).view.read (Elt Ideal) X (ix2 r q)) (V_main_arg0 m c)

theorem block4 (t : Fin cfg0.N) (r : Fin 256) (q : Fin 1024) : (iblk m c 4 t : Vec Ideal S256x1024 .f32) (ix2 r q) = tgt m c (ix2 (row t r) q) := by
  rw [← rows4 (tgt m c) t r q]
  unfold iblk
  exact congrArg (fun X => ((cfg0.win 4).blk t).view.read (Elt Ideal) X (ix2 r q)) (V_main_arg1 m c)

theorem block5 (t : Fin cfg0.N) (r : Fin 1) (q : Fin 1024) : (iblk m c 5 t : Vec Ideal S1x1024 .f32) (ix2 r q) = g1 m c (ix2 r q) := by
  rw [← whole5 (g1 m c) t r q]
  unfold iblk
  exact congrArg (fun X => ((cfg0.win 5).blk t).view.read (Elt Ideal) X (ix2 r q)) (V_main_arg2 m c)

theorem block6 (t : Fin cfg0.N) (r : Fin 1) (q : Fin 1024) : (iblk m c 6 t : Vec Ideal S1x1024 .f32) (ix2 r q) = b1 m c (ix2 r q) := by
  rw [← whole6 (b1 m c) t r q]
  unfold iblk
  exact congrArg (fun X => ((cfg0.win 6).blk t).view.read (Elt Ideal) X (ix2 r q)) (V_main_arg3 m c)

theorem block7 (t : Fin cfg0.N) (r : Fin 1) (q : Fin 1024) : (iblk m c 7 t : Vec Ideal S1x1024 .f32) (ix2 r q) = g2 m c (ix2 r q) := by
  rw [← whole7 (g2 m c) t r q]
  unfold iblk
  exact congrArg (fun X => ((cfg0.win 7).blk t).view.read (Elt Ideal) X (ix2 r q)) (V_main_arg6 m c)

theorem block8 (t : Fin cfg0.N) (r : Fin 1) (q : Fin 1024) : (iblk m c 8 t : Vec Ideal S1x1024 .f32) (ix2 r q) = b2 m c (ix2 r q) := by
  rw [← whole8 (b2 m c) t r q]
  unfold iblk
  exact congrArg (fun X => ((cfg0.win 8).blk t).view.read (Elt Ideal) X (ix2 r q)) (V_main_arg7 m c)

end Cert.MlpFIdeal.Entry

end
-- ==== Proof.MlpF.Reference.lean ====
/- The reference read at an index: every result is the array of Math.lean. The loss and the gradient through the norm are those on
   finite arrays. -/
module

public import proofs.«01_k».proof.Proof.MlpF.Math
public import proofs.«01_k».proof.Proof.Gen.MlpFRefIdeal.Read
public import Idealize.ShloMosaic.Lib.Pipeline.Value
public import Idealize.ShloMosaic.Lib.Pointwise.SelectCore

@[expose] public section

set_option maxRecDepth 16384

noncomputable section

namespace Cert.MlpFRefIdeal.Mlp

open Cert.MlpFRefIdeal Cert.MlpFRefIdeal.Read Cert.MlpMath Cert.MlpFMath
open Idealize.ShloMosaic hiding ix1 ix2 ix3 eq_ix1 eq_ix2 eq_ix3
open Idealize.ShloMosaic.ValueIdx
open scoped BigOperators

variable (x0 x1 : Vec Ideal S4096x1024 .f32) (x2 x3 : Vec Ideal S1x1024 .f32) (x4 : Vec Ideal S1024x4096 .f32)
  (x5 : Vec Ideal S4096x1024 .f32) (x6 x7 : Vec Ideal S1x1024 .f32)

/-- The rows after the first scale and shift, the hidden rows and the residual. -/
theorem result_input (p : Fin 4096) (q : Fin 1024) : val_main_v3 x0 x2 x3 (ix2 p q) = inputRow x0 x2 x3 p q := by
  rw [val_main_v3_apply, val_main_v1_apply, val_main_v0_apply, val_main_v2_apply]
  exact congrArg₂ (fun g b => x0 (ix2 p q) * g + b) (congrArg x2 (eq_ix2 _)) (congrArg x3 (eq_ix2 _))

theorem result_hidden (p k : Fin 4096) :
    val_main_v4 x0 x2 x3 x4 (ix2 p k) = hidRow (inputRow x0 x2 x3 p) (fun j k => x4 (ix2 j k)) k := by
  rw [val_main_v4_apply]
  refine Finset.sum_congr rfl fun j _ => ?_
  rw [show lidx_main_v4 (ix2 p k) j = ix2 p j from eq_ix2 _, show ridx_main_v4 (ix2 p k) j = ix2 j k from eq_ix2 _, result_input]

theorem result_square (p k : Fin 4096) :
    val_main_v6 x0 x2 x3 x4 (ix2 p k) = square (hidRow (inputRow x0 x2 x3 p) (fun j k => x4 (ix2 j k)) k) := by
  rw [val_main_v6_apply, val_main_v5_apply, val_main_call0_v0_apply, val_main_call0_cst_apply, result_hidden]
  rfl

theorem result_residual (p : Fin 4096) (q : Fin 1024) :
    val_main_v10 x0 x2 x3 x4 x5 (ix2 p q) = residual x0 x2 x3 x4 x5 p q := by
  rw [val_main_v10_apply, val_main_v8_apply, val_main_v7_apply, val_main_cst_apply, result_input, val_main_v9_apply]
  refine congrArg (alpha * inputRow x0 x2 x3 p q + ·) (Finset.sum_congr rfl fun k _ => ?_)
  rw [show lidx_main_v9 (ix2 p q) k = ix2 p k from eq_ix2 _, show ridx_main_v9 (ix2 p q) k = ix2 k q from eq_ix2 _, result_square]

/-- A row's centred values, its variance and its scale. -/
abbrev centred (p : Fin 4096) : Fin 1024 → EReal := fun j => val_main_v25 x0 x2 x3 x4 x5 (ix2 p j)
abbrev varOf (p : Fin 4096) : EReal := val_main_v27 x0 x2 x3 x4 x5 (ix2 p (0 : Fin 1))
abbrev scale (p : Fin 4096) : EReal := val_main_v28 x0 x2 x3 x4 x5 (ix2 p (0 : Fin 1))

/-- The centred row and its variance. -/
theorem centred_eq (p : Fin 4096) (j : Fin 1024) :
    centred x0 x2 x3 x4 x5 p j = val_main_v10 x0 x2 x3 x4 x5 (ix2 p j) - Ideal.div (zero + ∑ k : Fin 1024, val_main_v10 x0 x2 x3 x4 x5 (ix2 p k)) width := by
  show val_main_v25 x0 x2 x3 x4 x5 (ix2 p j) = _
  rw [val_main_v25_apply, val_main_v24_apply, val_main_v14_apply, val_main_v12_apply, val_main_v11_apply, val_main_v13_apply,
    val_main_cst_1_apply, val_main_cst_0_apply]
  refine congrArg (fun z => val_main_v10 x0 x2 x3 x4 x5 (ix2 p j) - Ideal.div (zero + z) width) (Finset.sum_congr rfl fun k _ => ?_)
  exact congrArg (val_main_v10 x0 x2 x3 x4 x5) ((eq_ix2 _).trans (congrArg (ix2 · k) (Fin.ext rfl)))

theorem variance_of (p : Fin 4096) :
    varOf x0 x2 x3 x4 x5 p = Ideal.div (zero + ∑ k : Fin 1024, centred x0 x2 x3 x4 x5 p k * centred x0 x2 x3 x4 x5 p k) width + small := by
  show val_main_v27 x0 x2 x3 x4 x5 (ix2 p (0 : Fin 1)) = _
  rw [val_main_v27_apply, val_main_v23_apply, val_main_v21_apply, val_main_v20_apply, val_main_v22_apply, val_main_v26_apply,
    val_main_cst_3_apply, val_main_cst_4_apply, val_main_cst_5_apply]
  refine congrArg (fun z => Ideal.div (zero + z) width + small) (Finset.sum_congr rfl fun k _ => ?_)
  rw [show idx_main_v20 (idx_main_v21 (ix2 p (0 : Fin 1))) k = ix2 p k from
    (eq_ix2 _).trans (congrArg (ix2 · k) (Fin.ext rfl)), val_main_v17_apply, val_main_v16_apply]
  show _ = val_main_v25 x0 x2 x3 x4 x5 (ix2 p k) * val_main_v25 x0 x2 x3 x4 x5 (ix2 p k)
  rw [val_main_v25_apply, val_main_v15_apply, val_main_v24_apply]
  rfl

/-- A normed row. -/
theorem normed_at (p : Fin 4096) (q : Fin 1024) : val_main_v33 x0 x2 x3 x4 x5 (ix2 p q) = centred x0 x2 x3 x4 x5 p q * scale x0 x2 x3 x4 x5 p := by
  rw [val_main_v33_apply, val_main_v32_apply]
  exact congrArg (_ * ·) (congrArg (val_main_v28 x0 x2 x3 x4 x5) (eq_ix2 _))

theorem scale_root (p : Fin 4096) : scale x0 x2 x3 x4 x5 p = Ideal.rsqrt (varOf x0 x2 x3 x4 x5 p) := by
  show val_main_v28 x0 x2 x3 x4 x5 (ix2 p (0 : Fin 1)) = _
  rw [val_main_v28_apply]
  rfl

/-- The norm's forward part is that of Math.lean. -/
theorem centred_row (p : Fin 4096) : centred x0 x2 x3 x4 x5 p = centre (residual x0 x2 x3 x4 x5 p) := funext fun j => by
  rw [centred_eq, zero_add_word]
  simp only [result_residual]
  rfl

theorem variance_row (p : Fin 4096) : varOf x0 x2 x3 x4 x5 p = MlpFMath.variance (residual x0 x2 x3 x4 x5 p) := by
  rw [variance_of, zero_add_word, centred_row]
  rfl

theorem scale_row (p : Fin 4096) : scale x0 x2 x3 x4 x5 p = Ideal.rsqrt (MlpFMath.variance (residual x0 x2 x3 x4 x5 p)) := by
  rw [scale_root, variance_row]

theorem normed_row (p : Fin 4096) (q : Fin 1024) : val_main_v33 x0 x2 x3 x4 x5 (ix2 p q) = normed (residual x0 x2 x3 x4 x5 p) q := by
  rw [normed_at, centred_row, scale_row]
  rfl

/-- A row of an array, and of a scale or shift. -/
abbrev rowOf (x : Vec Ideal S4096x1024 .f32) (p : Fin 4096) : Fin 1024 → EReal := fun j => x (ix2 p j)
abbrev lineOf (x : Vec Ideal S1x1024 .f32) : Fin 1024 → EReal := fun j => x (ix2 (0 : Fin 1) j)

/-- The difference from the target, and the loss's gradient at the norm's output. -/
theorem result_err (p : Fin 4096) (q : Fin 1024) :
    val_main_v38 x0 x1 x2 x3 x4 x5 x6 x7 (ix2 p q) = err (residual x0 x2 x3 x4 x5 p) (lineOf x6) (lineOf x7) (rowOf x1 p) q := by
  rw [val_main_v38_apply, val_main_v37_apply, val_main_v35_apply, normed_row, val_main_v34_apply, val_main_v36_apply]
  exact congrArg₂ (fun g b => normed (residual x0 x2 x3 x4 x5 p) q * g + b - x1 (ix2 p q)) (congrArg x6 (eq_ix2 _)) (congrArg x7 (eq_ix2 _))

theorem result_out (p : Fin 4096) (q : Fin 1024) :
    val_main_v55 x0 x1 x2 x3 x4 x5 x6 x7 (ix2 p q) = outGrad (residual x0 x2 x3 x4 x5 p) (lineOf x6) (lineOf x7) (rowOf x1 p) q := by
  rw [val_main_v55_apply, val_main_v54_apply, val_main_v52_apply, val_main_v51_apply, val_main_cst_13_apply, val_main_v53_apply,
    val_main_cst_14_apply, val_main_v41_apply, val_main_v40_apply, val_main_cst_7_apply, result_err]
  refine (congrArg (fun z => Ideal.div (zero + z) width * (two * _)) (Finset.sum_congr rfl fun k _ => ?_)).trans (grad_word _)
  rw [val_main_v50_apply, val_main_v49_apply, val_main_v48_apply, val_main_cst_12_apply, val_main_cst_11_apply]
  first | rfl | exact mul_comm _ _

/-- The small gradients and the loss's row. -/
theorem result_shift (q : Fin 1024) :
    val_main_v57 x0 x1 x2 x3 x4 x5 x6 x7 (ix2 (0 : Fin 1) q)
      = ∑ p : Fin 4096, outGrad (residual x0 x2 x3 x4 x5 p) (lineOf x6) (lineOf x7) (rowOf x1 p) q := by
  rw [val_main_v57_apply, val_main_v56_apply, val_main_cst_15_apply]
  refine (zero_add_word _).trans (Finset.sum_congr rfl fun p _ => ?_)
  rw [← result_out]
  refine congrArg _ ((eq_ix2 _).trans (congrArg (ix2 p) (Fin.ext ?_)))
  show 0 * 1024 + q.val = q.val
  omega

theorem result_gain (q : Fin 1024) :
    val_main_v60 x0 x1 x2 x3 x4 x5 x6 x7 (ix2 (0 : Fin 1) q)
      = ∑ p : Fin 4096, outGrad (residual x0 x2 x3 x4 x5 p) (lineOf x6) (lineOf x7) (rowOf x1 p) q * normed (residual x0 x2 x3 x4 x5 p) q := by
  rw [val_main_v60_apply, val_main_v59_apply, val_main_cst_16_apply]
  refine (zero_add_word _).trans (Finset.sum_congr rfl fun p _ => ?_)
  rw [show idx_main_v59 (idx_main_v60 (ix2 (0 : Fin 1) q)) p = ix2 p q from
    (eq_ix2 _).trans (congrArg (ix2 p) (Fin.ext (by show 0 * 1024 + q.val = q.val; omega))), val_main_v58_apply, result_out, normed_row]
  exact mul_comm _ _

/-- A row's gradient after the norm's scale, times that scale. -/
abbrev incoming (p : Fin 4096) : Fin 1024 → EReal := fun j => val_main_v55 x0 x1 x2 x3 x4 x5 x6 x7 (ix2 p j) * x6 (ix2 (0 : Fin 1) j)

theorem scaled (p : Fin 4096) (q : Fin 1024) : val_main_v62 x0 x1 x2 x3 x4 x5 x6 x7 (ix2 p q) = incoming x0 x1 x2 x3 x4 x5 x6 x7 p q := by
  rw [val_main_v62_apply, val_main_v61_apply]
  exact congrArg (_ * ·) (congrArg x6 (eq_ix2 _))

theorem through (p : Fin 4096) (q : Fin 1024) :
    val_main_v67 x0 x1 x2 x3 x4 x5 x6 x7 (ix2 p q) = incoming x0 x1 x2 x3 x4 x5 x6 x7 p q * scale x0 x2 x3 x4 x5 p := by
  rw [val_main_v67_apply, scaled, val_main_v66_apply]
  exact congrArg (_ * ·) (congrArg (val_main_v28 x0 x2 x3 x4 x5) (eq_ix2 _))

theorem against (p : Fin 4096) :
    val_main_v65 x0 x1 x2 x3 x4 x5 x6 x7 (ix2 p (0 : Fin 1))
      = zero + ∑ j : Fin 1024, centred x0 x2 x3 x4 x5 p j * incoming x0 x1 x2 x3 x4 x5 x6 x7 p j := by
  rw [val_main_v65_apply, val_main_v64_apply, val_main_cst_17_apply]
  refine congrArg (zero + ·) (Finset.sum_congr rfl fun j _ => ?_)
  rw [show idx_main_v64 (idx_main_v65 (ix2 p (0 : Fin 1))) j = ix2 p j from
    (eq_ix2 _).trans (congrArg (ix2 · j) (Fin.ext (by show p.val * 1 + 0 = p.val; omega))), val_main_v63_apply, scaled]
  rfl

theorem by_variance (p : Fin 4096) :
    val_main_v68 x0 x1 x2 x3 x4 x5 x6 x7 (ix2 p (0 : Fin 1))
      = (zero + ∑ j : Fin 1024, centred x0 x2 x3 x4 x5 p j * incoming x0 x1 x2 x3 x4 x5 x6 x7 p j) * (minusHalf * Ideal.div (scale x0 x2 x3 x4 x5 p) (varOf x0 x2 x3 x4 x5 p)) := by
  rw [val_main_v68_apply, against, val_main_v31_apply, val_main_v30_apply, val_main_cst_6_apply, val_main_v29_apply]
  rfl

theorem share (p : Fin 4096) (q : Fin 1024) :
    val_main_v75 x0 x1 x2 x3 x4 x5 x6 x7 (ix2 p q) = refShare (centred x0 x2 x3 x4 x5 p) (incoming x0 x1 x2 x3 x4 x5 x6 x7 p) (scale x0 x2 x3 x4 x5 p) (varOf x0 x2 x3 x4 x5 p) := by
  rw [val_main_v75_apply, val_main_v74_apply, val_main_cst_20_apply]
  unfold refShare
  refine congrArg (zero + ·) (Finset.sum_congr rfl fun k _ => ?_)
  rw [show idx_main_v74 (idx_main_v75 (ix2 p q)) k = ix2 p (0 : Fin 1) from
    (eq_ix2 _).trans (congrArg₂ ix2 (Fin.ext rfl) (Subsingleton.elim _ _)), val_main_v73_apply, by_variance, val_main_v72_apply, val_main_cst_19_apply]
  rfl

theorem spread (p : Fin 4096) (q : Fin 1024) :
    val_main_v76 x0 x1 x2 x3 x4 x5 x6 x7 (ix2 p q)
      = refShare (centred x0 x2 x3 x4 x5 p) (incoming x0 x1 x2 x3 x4 x5 x6 x7 p) (scale x0 x2 x3 x4 x5 p) (varOf x0 x2 x3 x4 x5 p) * (two * centred x0 x2 x3 x4 x5 p q) := by
  rw [val_main_v76_apply, share, val_main_v19_apply, val_main_v18_apply, val_main_cst_2_apply]
  refine congrArg (fun z => refShare (centred x0 x2 x3 x4 x5 p) (incoming x0 x1 x2 x3 x4 x5 x6 x7 p) (scale x0 x2 x3 x4 x5 p) (varOf x0 x2 x3 x4 x5 p) * (two * z)) ?_
  rw [val_main_v16_apply]
  show _ = val_main_v25 x0 x2 x3 x4 x5 (ix2 p q)
  rw [val_main_v25_apply, val_main_v15_apply, val_main_v24_apply]

theorem sum_through (p : Fin 4096) :
    val_main_v71 x0 x1 x2 x3 x4 x5 x6 x7 (ix2 p (0 : Fin 1)) = zero + ∑ j : Fin 1024, -(incoming x0 x1 x2 x3 x4 x5 x6 x7 p j * scale x0 x2 x3 x4 x5 p) := by
  rw [val_main_v71_apply, val_main_v70_apply, val_main_cst_18_apply]
  refine congrArg (zero + ·) (Finset.sum_congr rfl fun j _ => ?_)
  rw [show idx_main_v70 (idx_main_v71 (ix2 p (0 : Fin 1))) j = ix2 p j from
    (eq_ix2 _).trans (congrArg (ix2 · j) (Fin.ext (by show p.val * 1 + 0 = p.val; omega))), val_main_v69_apply, through]
  rfl

theorem sum_spread (p : Fin 4096) :
    val_main_v79 x0 x1 x2 x3 x4 x5 x6 x7 (ix2 p (0 : Fin 1))
      = zero + ∑ j : Fin 1024, -(refShare (centred x0 x2 x3 x4 x5 p) (incoming x0 x1 x2 x3 x4 x5 x6 x7 p) (scale x0 x2 x3 x4 x5 p) (varOf x0 x2 x3 x4 x5 p) * (two * centred x0 x2 x3 x4 x5 p j)) := by
  rw [val_main_v79_apply, val_main_v78_apply, val_main_cst_21_apply]
  refine congrArg (zero + ·) (Finset.sum_congr rfl fun j _ => ?_)
  rw [show idx_main_v78 (idx_main_v79 (ix2 p (0 : Fin 1))) j = ix2 p j from
    (eq_ix2 _).trans (congrArg (ix2 · j) (Fin.ext (by show p.val * 1 + 0 = p.val; omega))), val_main_v77_apply, spread]
  rfl

/-- The gradient of the norm's input, one derivative at a time. -/
theorem result_ref (p : Fin 4096) (q : Fin 1024) :
    val_main_v86 x0 x1 x2 x3 x4 x5 x6 x7 (ix2 p q) = refRow (centred x0 x2 x3 x4 x5 p) (incoming x0 x1 x2 x3 x4 x5 x6 x7 p) (scale x0 x2 x3 x4 x5 p) (varOf x0 x2 x3 x4 x5 p) q := by
  rw [val_main_v86_apply, val_main_v80_apply, through, spread, val_main_v85_apply, val_main_v84_apply, val_main_cst_23_apply]
  unfold refRow
  refine congrArg (fun z => _ + (zero + z)) (Finset.sum_congr rfl fun k _ => ?_)
  rw [show idx_main_v84 (idx_main_v85 (ix2 p q)) k = ix2 p (0 : Fin 1) from
    (eq_ix2 _).trans (congrArg₂ ix2 (Fin.ext rfl) (Subsingleton.elim _ _)), val_main_v83_apply, val_main_v81_apply, sum_through, sum_spread,
    val_main_v82_apply, val_main_cst_22_apply]
  rfl

/-- The gradient's transpose in the narrower format. -/
theorem result_turned (q : Fin 1024) (p : Fin 4096) :
    val_main_v92 x0 x1 x2 x3 x4 x5 x6 x7 (ix2 q p) = val_main_v86 x0 x1 x2 x3 x4 x5 x6 x7 (ix2 p q) := by
  rw [val_main_v92_apply, val_main_v91_apply, show idx_main_v91 (ix2 q p) = ix2 p q from eq_ix2 _]
  generalize val_main_v86 x0 x1 x2 x3 x4 x5 x6 x7 (ix2 p q) = z
  rfl

section
variable (h0 : ∀ i, Finite (x0 i)) (h1 : ∀ i, Finite (x1 i)) (h2 : ∀ i, Finite (x2 i)) (h3 : ∀ i, Finite (x3 i))
  (h4 : ∀ i, Finite (x4 i)) (h5 : ∀ i, Finite (x5 i)) (h6 : ∀ i, Finite (x6 i)) (h7 : ∀ i, Finite (x7 i))
include h0 h2 h3 h4 h5

theorem residual_finite (p : Fin 4096) (q : Fin 1024) : Finite (residual x0 x2 x3 x4 x5 p q) :=
  finite_res (fun j => finite_line (fun _ => h0 _) (fun _ => h2 _) (fun _ => h3 _) j) (fun _ _ => h4 _) (fun _ _ => h5 _) q

include h1 h6 h7

/-- On finite arrays the reference's gradient of the norm's input is the closed form. -/
theorem result_norm (p : Fin 4096) (q : Fin 1024) :
    val_main_v86 x0 x1 x2 x3 x4 x5 x6 x7 (ix2 p q)
      = inGrad (residual x0 x2 x3 x4 x5 p) (lineOf x6) (lineOf x7) (rowOf x1 p) q := by
  rw [result_ref, centred_row, scale_row, variance_row,
    show incoming x0 x1 x2 x3 x4 x5 x6 x7 p = fun j => outGrad (residual x0 x2 x3 x4 x5 p) (lineOf x6) (lineOf x7) (rowOf x1 p) j * lineOf x6 j
      from funext fun j => congrArg (· * lineOf x6 j) (result_out x0 x1 x2 x3 x4 x5 x6 x7 p j)]
  exact ref_row (residual_finite x0 x2 x3 x4 x5 h0 h2 h3 h4 h5 p) (fun _ => h6 _) (fun _ => h7 _) (fun _ => h1 _) q

/-- On finite arrays the half may be taken into the sum of the squares. -/
theorem result_loss (q : Fin 1024) :
    val_main_v47 x0 x1 x2 x3 x4 x5 x6 x7 (ix2 (0 : Fin 1) q)
      = ∑ p : Fin 4096, lossAt (residual x0 x2 x3 x4 x5 p) (lineOf x6) (lineOf x7) (rowOf x1 p) q := by
  rw [val_main_v47_apply, val_main_v46_apply, val_main_cst_10_apply, val_main_v45_apply, val_main_v44_apply, val_main_cst_9_apply]
  refine Eq.trans (congrArg (fun z => half * (zero + z)) (Finset.sum_congr rfl fun p _ => ?_))
    (loss_sum (fun p : Fin 4096 => err (residual x0 x2 x3 x4 x5 p) (lineOf x6) (lineOf x7) (rowOf x1 p) q)
      fun p => finite_err (residual_finite x0 x2 x3 x4 x5 h0 h2 h3 h4 h5 p) (fun _ => h6 _) (fun _ => h7 _) (fun _ => h1 _) q)
  rw [show idx_main_v44 (idx_main_v45 (ix2 (0 : Fin 1) q)) p = ix2 p q from eq_ix2 _, val_main_v43_apply, val_main_v39_apply, result_err,
    val_main_v42_apply, val_main_cst_8_apply]
  rfl

/-- The array of small gradients: the scale's in row 5, the shift's in row 6, the loss's in row 7, zeros in the others. -/
theorem result_vec (r : Fin 8) (q : Fin 1024) :
    val_main_v88 x0 x1 x2 x3 x4 x5 x6 x7 (ix2 r q)
      = if r.val = 5 then ∑ p : Fin 4096, outGrad (residual x0 x2 x3 x4 x5 p) (lineOf x6) (lineOf x7) (rowOf x1 p) q * normed (residual x0 x2 x3 x4 x5 p) q
        else if r.val = 6 then ∑ p : Fin 4096, outGrad (residual x0 x2 x3 x4 x5 p) (lineOf x6) (lineOf x7) (rowOf x1 p) q
        else if r.val = 7 then ∑ p : Fin 4096, lossAt (residual x0 x2 x3 x4 x5 p) (lineOf x6) (lineOf x7) (rowOf x1 p) q else 0 := by
  unfold val_main_v88
  refine (concatenate_cons_apply _ _ _ _ _ _ _).trans ?_
  by_cases h : r.val < 5
  · refine (concatenateAt_cons _ _ _ _ _ _ _ _).trans ((dif_pos h).trans ?_)
    rw [if_neg (by omega), if_neg (by omega), if_neg (by omega), val_main_v87_apply, val_main_cst_24_apply]
    exact zero_word
  refine (concatenateAt_cons _ _ _ _ _ _ _ _).trans ((dif_neg h).trans ((concatenateAt_cons _ _ _ _ _ _ _ _).trans ?_))
  by_cases h5' : r.val = 5
  · refine (dif_pos (show r.val - 5 < 1 by omega)).trans ?_
    rw [if_pos h5', ← result_gain]
    refine congrArg _ ((eq_ix2 _).trans (congrArg₂ ix2 (Fin.ext ?_) (Fin.ext rfl)))
    show r.val - 5 = 0
    omega
  refine (dif_neg (show ¬ r.val - 5 < 1 by omega)).trans ((concatenateAt_cons _ _ _ _ _ _ _ _).trans ?_)
  by_cases h6' : r.val = 6
  · refine (dif_pos (show r.val - 5 - 1 < 1 by omega)).trans ?_
    rw [if_neg h5', if_pos h6', ← result_shift]
    refine congrArg _ ((eq_ix2 _).trans (congrArg₂ ix2 (Fin.ext ?_) (Fin.ext rfl)))
    show r.val - 5 - 1 = 0
    omega
  · refine (dif_neg (show ¬ r.val - 5 - 1 < 1 by omega)).trans ((concatenateAt_singleton _ _ _ _ _ _).trans ?_)
    rw [if_neg h5', if_neg h6', if_pos (by omega), ← result_loss x0 x1 x2 x3 x4 x5 x6 x7 h0 h1 h2 h3 h4 h5 h6 h7]
    refine congrArg _ ((eq_ix2 _).trans (congrArg₂ ix2 (Fin.ext ?_) (Fin.ext rfl)))
    show r.val - 5 - 1 - 1 = 0
    omega

end

end Cert.MlpFRefIdeal.Mlp

end
-- ==== Proof.MlpF.Arrays.lean ====
/- The MLP's forward call over the extended reals: the arrays it leaves, each the reference's value. The arrays that move with
   the rows are written once per grid point; the small gradients and the loss are added into over all the points and written once. -/
module

public import proofs.«01_k».proof.Proof.MlpF.Outs
public import proofs.«01_k».proof.Proof.MlpF.Payloads
public import proofs.«01_k».proof.Proof.MlpF.Entry
public import proofs.«01_k».proof.Proof.MlpF.Reference
public import proofs.«01_k».proof.Proof.Gen.MlpFIdeal.Value
public import Idealize.ShloMosaic.Lib.WritesUnit

@[expose] public section

set_option maxRecDepth 16384

noncomputable section

namespace Cert.MlpFIdeal.Mlp

open Cert.MlpFIdeal Cert.MlpFIdeal.Gen Cert.MlpFIdeal.Block Cert.MlpFIdeal.Entry
open Idealize.ShloMosaic hiding ix1 ix2 ix3 eq_ix1 eq_ix2 eq_ix3
open Idealize.ShloMosaic.ValueIdx Idealize.ShloMosaic.TcCoe Idealize.SL.Sem
open Cert.MlpFRefIdeal.Read (val_main_v4 val_main_v86 val_main_v88 val_main_v89 val_main_v90 val_main_v92)
open Cert.MlpMath (Finite)
open Cert.MlpFMath (inputRow residual lineRow normed lossAt outGrad inGrad)
open scoped BigOperators

variable (m : (ℓ : Loc nD τ sig) → Buf (Elt Ideal) ℓ) (c : Dev nD)

/-- The residual row of the launch's arrays, and a row of the target. -/
abbrev resRowAt (p : Fin 4096) : Fin 1024 → EReal := residual (xh m c) (g1 m c) (b1 m c) (wu m c) (wd m c) p
abbrev tgtRow (p : Fin 4096) : Fin 1024 → EReal := fun j => tgt m c (ix2 p j)
abbrev line (x : MlpMath.Line.Idx → EReal) : Fin 1024 → EReal := fun j => x (ix2 (0 : Fin 1) j)

/-- The blocks of a point's operands, row by row. -/
theorem in_row (t : Fin cfg0.N) (r : Fin 256) : inRow (iblk m c 0 t) r = inputRow (xh m c) (g1 m c) (b1 m c) (row t r) :=
  funext fun j => (block0 m c t r j).trans (MlpFRefIdeal.Mlp.result_input _ _ _ (row t r) j)
theorem line_row (t : Fin cfg0.N) (r : Fin 256) :
    lineRow (rowOf (iblk m c 3 t) r) (lineOf (iblk m c 5 t)) (lineOf (iblk m c 6 t)) = inputRow (xh m c) (g1 m c) (b1 m c) (row t r) :=
  funext fun j => congrArg₂ (· + ·) (congrArg₂ (· * ·) (block3 m c t r j) (block5 m c t 0 j)) (block6 m c t 0 j)
theorem up_all (t : Fin cfg0.N) : upAt (iblk m c 1 t) = fun q k => wu m c (ix2 q k) :=
  funext fun q => funext fun k => block1 m c t q k
theorem down_all (t : Fin cfg0.N) : downAt (iblk m c 2 t) = fun k j => wd m c (ix2 k j) :=
  funext fun k => funext fun j => block2 m c t k j
theorem tgt_row (t : Fin cfg0.N) (r : Fin 256) : rowOf (iblk m c 4 t) r = tgtRow m c (row t r) := funext fun j => block4 m c t r j
theorem gain_line (t : Fin cfg0.N) : lineOf (iblk m c 7 t) = line (g2 m c) := funext fun j => block7 m c t 0 j
theorem shift_line (t : Fin cfg0.N) : lineOf (iblk m c 8 t) = line (b2 m c) := funext fun j => block8 m c t 0 j

/-- The residual in a point's block. -/
theorem res_row (t : Fin cfg0.N) (r : Fin 256) :
    rowOf (resBlock (iblk m c 0 t) (iblk m c 1 t) (iblk m c 2 t) (iblk m c 3 t) (iblk m c 5 t) (iblk m c 6 t)) r = resRowAt m c (row t r) := by
  funext q
  refine (res_at _ _ _ _ _ _ r ((in_row m c t r).trans (line_row m c t r).symm) q).trans ?_
  rw [line_row, up_all, down_all]
  rfl

/-- The hidden rows in a point's block, before and after the square. -/
theorem hid_at (t : Fin cfg0.N) (r : Fin 256) (k : Fin 4096) :
    hpBlock (iblk m c 0 t) (iblk m c 1 t) (ix2 r k) = val_main_v4 (xh m c) (g1 m c) (b1 m c) (wu m c) (ix2 (row t r) k) := by
  refine (hp_at _ _ r k).trans ?_
  rw [in_row, up_all]
  exact (MlpFRefIdeal.Mlp.result_hidden _ _ _ _ (row t r) k).symm

theorem square_at (t : Fin cfg0.N) (r : Fin 256) (k : Fin 4096) :
    hBlock (iblk m c 0 t) (iblk m c 1 t) (ix2 r k) = val_main_v89 (xh m c) (g1 m c) (b1 m c) (wu m c) (ix2 (row t r) k) := by
  refine (h_at _ _ r k).trans ?_
  rw [in_row, up_all]
  exact (MlpFRefIdeal.Mlp.result_square _ _ _ _ (row t r) k).symm

/-- Every element of the launch's arrays is finite. -/
structure AllFinite : Prop where
  xh : ∀ i, Finite (xh m c i)
  tgt : ∀ i, Finite (tgt m c i)
  g1 : ∀ i, Finite (g1 m c i)
  b1 : ∀ i, Finite (b1 m c i)
  wu : ∀ i, Finite (wu m c i)
  wd : ∀ i, Finite (wd m c i)
  g2 : ∀ i, Finite (g2 m c i)
  b2 : ∀ i, Finite (b2 m c i)

/-- A point's block of the gradient through the norm is the reference's. -/
theorem norm_eq (hf : AllFinite m c) (t : Fin cfg0.N) (r : Fin 256) (q : Fin 1024) :
    drAt m c t (ix2 r q) = val_main_v86 (xh m c) (tgt m c) (g1 m c) (b1 m c) (wu m c) (wd m c) (g2 m c) (b2 m c) (ix2 (row t r) q) := by
  refine (dr_at _ _ _ _ _ _ _ _ _ r q).trans ?_
  rw [res_row, tgt_row, gain_line, shift_line]
  exact (MlpFRefIdeal.Mlp.result_norm _ _ _ _ _ _ _ _ hf.xh hf.tgt hf.g1 hf.b1 hf.wu hf.wd hf.g2 hf.b2 (row t r) q).symm

/-- The same block turned round. -/
theorem turned_at (hf : AllFinite m c) (t : Fin cfg0.N) (q : Fin 1024) (r : Fin 256) :
    k0_pay2 (drAt m c t) (ix2 q r) = val_main_v92 (F := Ideal) (xh m c) (tgt m c) (g1 m c) (b1 m c) (wu m c) (wd m c) (g2 m c) (b2 m c) (ix2 q (row t r)) := by
  unfold k0_pay2
  exact (transpose_ix2_apply _ _ _ _).trans ((norm_eq m c hf t r q).trans (MlpFRefIdeal.Mlp.result_turned _ _ _ _ _ _ _ _ q (row t r)).symm)

/-- The point whose block holds row `p`. -/
def pt (p : Fin 4096) : Fin cfg0.N := ⟨p.val / 256, by have := p.isLt; rw [show cfg0.N = 16 from N_0]; omega⟩

/-- Result window 9 at the end: the hidden rows. -/
theorem final9 : (dats m 0 c).arrAt 9 cfg0.N = val_main_v4 (xh m c) (g1 m c) (b1 m c) (wu m c) := by
  refine (dats m 0 c).arrAt_eq_of_cover 9 _ (fun t _ => ?_) (fun i => ?_)
  · rw [Value.flushed9, left9]
    funext j
    obtain ⟨r, q, rfl⟩ : ∃ (r : Fin 256) (q : Fin 4096), j = ix2 r q := ⟨j 0, j 1, eq_ix2 j⟩
    exact (hid_at m c t r q).trans (rows9 _ t r q).symm
  · have h0 : (i 0 : Nat) < 4096 := (i 0).isLt
    have h1 : (i 1 : Nat) < 4096 := (i 1).isLt
    refine ⟨pt (i 0), flush0_9 _, ?_⟩
    have hi : win0_9.index (pt (i 0)) 0 = (pt (i 0)).val ∧ win0_9.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v7_0).slice (win0_9.rect (pt (i 0)))).set
    rw [View.set_slice_whole, Rect.mem_set_unit]
    intro ax
    match ax with
    | ⟨0, _⟩ => show win0_9.index (pt (i 0)) 0 * 256 ≤ (i 0 : Nat) ∧ (i 0 : Nat) < win0_9.index (pt (i 0)) 0 * 256 + 256
                rw [hi.1, hp]; omega
    | ⟨1, _⟩ => show win0_9.index (pt (i 0)) 1 * 4096 ≤ (i 1 : Nat) ∧ (i 1 : Nat) < win0_9.index (pt (i 0)) 1 * 4096 + 4096
                rw [hi.2]; omega

/-- Result window 10 at the end: their squares, in the narrower format. -/
theorem final10 : (dats m 0 c).arrAt 10 cfg0.N = val_main_v89 (xh m c) (g1 m c) (b1 m c) (wu m c) := by
  refine (dats m 0 c).arrAt_eq_of_cover 10 _ (fun t _ => ?_) (fun i => ?_)
  · rw [Value.flushed10, left10]
    funext j
    obtain ⟨r, q, rfl⟩ : ∃ (r : Fin 256) (q : Fin 4096), j = ix2 r q := ⟨j 0, j 1, eq_ix2 j⟩
    exact (square_at m c t r q).trans (rows10 _ t r q).symm
  · have h0 : (i 0 : Nat) < 4096 := (i 0).isLt
    have h1 : (i 1 : Nat) < 4096 := (i 1).isLt
    refine ⟨pt (i 0), flush0_10 _, ?_⟩
    have hi : win0_10.index (pt (i 0)) 0 = (pt (i 0)).val ∧ win0_10.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v7_1).slice (win0_10.rect (pt (i 0)))).set
    rw [View.set_slice_whole, Rect.mem_set_unit]
    intro ax
    match ax with
    | ⟨0, _⟩ => show win0_10.index (pt (i 0)) 0 * 256 ≤ (i 0 : Nat) ∧ (i 0 : Nat) < win0_10.index (pt (i 0)) 0 * 256 + 256
                rw [hi.1, hp]; omega
    | ⟨1, _⟩ => show win0_10.index (pt (i 0)) 1 * 4096 ≤ (i 1 : Nat) ∧ (i 1 : Nat) < win0_10.index (pt (i 0)) 1 * 4096 + 4096
                rw [hi.2]; omega

/-- Result window 11 at the end: the gradient at the norm's input. -/
theorem final11 (hf : AllFinite m c) : (dats m 0 c).arrAt 11 cfg0.N = val_main_v86 (xh m c) (tgt m c) (g1 m c) (b1 m c) (wu m c) (wd m c) (g2 m c) (b2 m c) := by
  refine (dats m 0 c).arrAt_eq_of_cover 11 _ (fun t _ => ?_) (fun i => ?_)
  · rw [Value.flushed11, left11]
    funext j
    obtain ⟨r, q, rfl⟩ : ∃ (r : Fin 256) (q : Fin 1024), j = ix2 r q := ⟨j 0, j 1, eq_ix2 j⟩
    exact (norm_eq m c hf t r q).trans (rows11 _ t r q).symm
  · have h0 : (i 0 : Nat) < 4096 := (i 0).isLt
    have h1 : (i 1 : Nat) < 1024 := (i 1).isLt
    refine ⟨pt (i 0), flush0_11 _, ?_⟩
    have hi : win0_11.index (pt (i 0)) 0 = (pt (i 0)).val ∧ win0_11.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v7_2).slice (win0_11.rect (pt (i 0)))).set
    rw [View.set_slice_whole, Rect.mem_set_unit]
    intro ax
    match ax with
    | ⟨0, _⟩ => show win0_11.index (pt (i 0)) 0 * 256 ≤ (i 0 : Nat) ∧ (i 0 : Nat) < win0_11.index (pt (i 0)) 0 * 256 + 256
                rw [hi.1, hp]; omega
    | ⟨1, _⟩ => show win0_11.index (pt (i 0)) 1 * 1024 ≤ (i 1 : Nat) ∧ (i 1 : Nat) < win0_11.index (pt (i 0)) 1 * 1024 + 1024
                rw [hi.2]; omega

/-- Result window 12 at the end: the same array in the narrower format. -/
theorem final12 (hf : AllFinite m c) : (dats m 0 c).arrAt 12 cfg0.N = val_main_v90 (xh m c) (tgt m c) (g1 m c) (b1 m c) (wu m c) (wd m c) (g2 m c) (b2 m c) := by
  refine (dats m 0 c).arrAt_eq_of_cover 12 _ (fun t _ => ?_) (fun i => ?_)
  · rw [Value.flushed12, left12]
    funext j
    obtain ⟨r, q, rfl⟩ : ∃ (r : Fin 256) (q : Fin 1024), j = ix2 r q := ⟨j 0, j 1, eq_ix2 j⟩
    exact (norm_eq m c hf t r q).trans (rows12 _ t r q).symm
  · have h0 : (i 0 : Nat) < 4096 := (i 0).isLt
    have h1 : (i 1 : Nat) < 1024 := (i 1).isLt
    refine ⟨pt (i 0), flush0_12 _, ?_⟩
    have hi : win0_12.index (pt (i 0)) 0 = (pt (i 0)).val ∧ win0_12.index (pt (i 0)) 1 = 0 := by
      rcases fin_N0 (pt (i 0)) with h | h | h | h | h | h | h | h | h | h | h | h | h | h | h | h <;> rw [h] <;> decide
    have hp : (pt (i 0)).val = (i 0).val / 256 := rfl
    show i ∈ ((View.whole main_v7_3).slice (win0_12.rect (pt (i 0)))).set
    rw [View.set_slice_whole, Rect.mem_set_unit]
    intro ax
    match ax with
    | ⟨0, _⟩ => show win0_12.index (pt (i 0)) 0 * 256 ≤ (i 0 : Nat) ∧ (i 0 : Nat) < win0_12.index (pt (i 0)) 0 * 256 + 256
                rw [hi.1, hp]; omega
    | ⟨1, _⟩ => show win0_12.index (pt (i 0)) 1 * 1024 ≤ (i 1 : Nat) ∧ (i 1 : Nat) < win0_12.index (pt (i 0)) 1 * 1024 + 1024
                rw [hi.2]; omega

/-- Result window 13 at the end: its transpose in the narrower format. -/
theorem final13 (hf : AllFinite m c) : (dats m 0 c).arrAt 13 cfg0.N = val_main_v92 (xh m c) (tgt m c) (g1 m c) (b1 m c) (wu m c) (wd m c) (g2 m c) (b2 m c) := by
  refine (dats m 0 c).arrAt_eq_of_cover 13 _ (fun t _ => ?_) (fun i => ?_)
  · rw [Value.flushed13, left13]
    funext j
    obtain ⟨r, q, rfl⟩ : ∃ (r : Fin 1024) (q : Fin 256), j = ix2 r q := ⟨j 0, j 1, eq_ix2 j⟩
    exact (turned_at m c hf t r q).trans (cols13 _ t r q).symm
  · have h0 : (i 0 : Nat) < 1024 := (i 0).isLt
    have h1 : (i 1 : Nat) < 4096 := (i 1).isLt
    refine ⟨pt (i 1), flush0_13 _, ?_⟩
    have hi : win0_13.index (pt (i 1)) 0 = 0 ∧ win0_13.index (pt (i 1)) 1 = (pt (i 1)).val := by
      rcases fin_N0 (pt (i 1)) with h | h | h | h | h | h | h | h | h | h | h | h | h | h | h | h <;> rw [h] <;> decide
    have hp : (pt (i 1)).val = (i 1).val / 256 := rfl
    show i ∈ ((View.whole main_v7_4).slice (win0_13.rect (pt (i 1)))).set
    rw [View.set_slice_whole, Rect.mem_set_unit]
    intro ax
    match ax with
    | ⟨0, _⟩ => show win0_13.index (pt (i 1)) 0 * 1024 ≤ (i 0 : Nat) ∧ (i 0 : Nat) < win0_13.index (pt (i 1)) 0 * 1024 + 1024
                rw [hi.1]; omega
    | ⟨1, _⟩ => show win0_13.index (pt (i 1)) 1 * 256 ≤ (i 1 : Nat) ∧ (i 1 : Nat) < win0_13.index (pt (i 1)) 1 * 256 + 256
                rw [hi.2, hp]; omega

/-- A row's share of the gradient of the norm's scale, of its shift and of the loss. -/
def gainShare (q : Fin 1024) (p : Fin 4096) : EReal :=
  outGrad (resRowAt m c p) (line (g2 m c)) (line (b2 m c)) (tgtRow m c p) q * normed (resRowAt m c p) q
def shiftShare (q : Fin 1024) (p : Fin 4096) : EReal := outGrad (resRowAt m c p) (line (g2 m c)) (line (b2 m c)) (tgtRow m c p) q
def lossShare (q : Fin 1024) (p : Fin 4096) : EReal := lossAt (resRowAt m c p) (line (g2 m c)) (line (b2 m c)) (tgtRow m c p) q

/-- What point `n` adds to a sum over the rows. -/
def part (f : Fin 4096 → EReal) (n : Nat) : EReal := if h : n < cfg0.N then ∑ p : Fin 256, f (row ⟨n, h⟩ p) else 0

/-- Each accumulated row after point `t`. -/
theorem gain_at (t : Fin cfg0.N) (old : Vec Ideal S8x1024 .f32) (q : Fin 1024) :
    row5Step (iblk m c 0 t) (iblk m c 1 t) (iblk m c 2 t) (iblk m c 3 t) (iblk m c 4 t) (iblk m c 5 t) (iblk m c 6 t) (iblk m c 7 t) (iblk m c 8 t) old (ix2 (0 : Fin 1) q)
      = old (ix2 (5 : Fin 8) q) + part (gainShare m c q) t.val := by
  rw [row5_at, gain_line, shift_line, part, dif_pos t.isLt]
  simp only [res_row, tgt_row]
  rfl

theorem shift_at (t : Fin cfg0.N) (old : Vec Ideal S8x1024 .f32) (q : Fin 1024) :
    row6Step (iblk m c 0 t) (iblk m c 1 t) (iblk m c 2 t) (iblk m c 3 t) (iblk m c 4 t) (iblk m c 5 t) (iblk m c 6 t) (iblk m c 7 t) (iblk m c 8 t) old (ix2 (0 : Fin 1) q)
      = old (ix2 (6 : Fin 8) q) + part (shiftShare m c q) t.val := by
  rw [row6_at, gain_line, shift_line, part, dif_pos t.isLt]
  simp only [res_row, tgt_row]
  rfl

theorem loss_at (t : Fin cfg0.N) (old : Vec Ideal S8x1024 .f32) (q : Fin 1024) :
    row7Step (iblk m c 0 t) (iblk m c 1 t) (iblk m c 2 t) (iblk m c 3 t) (iblk m c 4 t) (iblk m c 5 t) (iblk m c 6 t) (iblk m c 7 t) (iblk m c 8 t) old (ix2 (0 : Fin 1) q)
      = old (ix2 (7 : Fin 8) q) + part (lossShare m c q) t.val := by
  rw [row7_at, gain_line, shift_line, part, dif_pos t.isLt]
  simp only [res_row, tgt_row]
  rfl

/-- All sixteen points' parts are the sum over all the rows. -/
theorem all_parts (f : Fin 4096 → EReal) : ∑ x ∈ Finset.range 16, part f x = ∑ p, f p := by
  rw [Finset.sum_range]
  rw [← Fintype.sum_equiv (finProdFinEquiv (m := 16) (n := 256))
    (fun x => f (row ⟨x.1.val, by rw [show cfg0.N = 16 from N_0]; exact x.1.isLt⟩ x.2)) _ ?_]
  · rw [Fintype.sum_prod_type]
    refine Finset.sum_congr rfl fun n _ => ?_
    rw [part, dif_pos (by rw [show cfg0.N = 16 from N_0]; exact n.isLt)]
  · intro x
    have e : row ⟨x.1.val, by rw [show cfg0.N = 16 from N_0]; exact x.1.isLt⟩ x.2 = (finProdFinEquiv (m := 16) (n := 256)) x :=
      Fin.ext (Nat.add_comm _ _)
    rw [e]

/-- What the points up to `n` have added: the scale's gradient in row 5, the shift's in row 6, the loss in row 7. -/
def soFar (n : Nat) : Vec Ideal S8x1024 .f32 := fun i =>
  if (i 0).val = 5 then ∑ x ∈ Finset.range (n + 1), part (gainShare m c (i 1)) x
  else if (i 0).val = 6 then ∑ x ∈ Finset.range (n + 1), part (shiftShare m c (i 1)) x
  else if (i 0).val = 7 then ∑ x ∈ Finset.range (n + 1), part (lossShare m c (i 1)) x else 0

/-- It row by row. -/
theorem soFar5 (n : Nat) (q : Fin 1024) : soFar m c n (ix2 (5 : Fin 8) q) = ∑ x ∈ Finset.range (n + 1), part (gainShare m c q) x := rfl
theorem soFar6 (n : Nat) (q : Fin 1024) : soFar m c n (ix2 (6 : Fin 8) q) = ∑ x ∈ Finset.range (n + 1), part (shiftShare m c q) x := rfl
theorem soFar7 (n : Nat) (q : Fin 1024) : soFar m c n (ix2 (7 : Fin 8) q) = ∑ x ∈ Finset.range (n + 1), part (lossShare m c q) x := rfl
theorem soFar_other (n : Nat) (r : Fin 8) (q : Fin 1024) (h5 : r.val ≠ 5) (h6 : r.val ≠ 6) (h7 : r.val ≠ 7) : soFar m c n (ix2 r q) = 0 :=
  (if_neg h5).trans ((if_neg h6).trans (if_neg h7))

theorem row_at (k r : Fin 8) (q : Fin 1024) (h : r.val = k.val) : (ix2 r q : S8x1024.Idx) = ix2 k q := congrArg (ix2 · q) (Fin.ext h)

/-- Where an element of a one-row piece lies in the array. -/
theorem emb_row (o : Nat) (k : Fin 8) (hk : k.val = o) (inb : ∀ a, (![o, 0] : Fin 2 → Nat) a + S1x1024.size a ≤ S8x1024.size a) (q : Fin 1024) :
    (ix2 k q : S8x1024.Idx) = (Rect.unit (s := S8x1024) ![o, 0] S1x1024.size inb).emb (ix2 (0 : Fin 1) q) := by
  subst hk
  refine funext fun ax => Fin.ext ?_
  match ax with
  | ⟨0, _⟩ => rfl
  | ⟨1, _⟩ => show q.val = 0 + 1 * q.val; omega

/-- An element of another row is not in the piece. -/
theorem not_mem_row (o : Nat) (inb : ∀ a, (![o, 0] : Fin 2 → Nat) a + S1x1024.size a ≤ S8x1024.size a) (r : Fin 8) (q : Fin 1024) (h : r.val ≠ o) :
    (ix2 r q : S8x1024.Idx) ∉ (Rect.unit (s := S8x1024) ![o, 0] S1x1024.size inb).set := by
  intro hm
  rw [Rect.mem_set_unit] at hm
  have h2 : o ≤ r.val ∧ r.val < o + 1 := hm 0
  omega

theorem first_point (t : Fin cfg0.N) (h : t.val % 16 = 0) : (outsAt0 m c t.val t.isLt).2.2.2.2.2 = soFar m c 0 := by
  have ht : t.val = 0 := by have := lt_of_lt_of_eq t.isLt N_0; omega
  rw [outsAt0_A m c t h]
  dsimp only
  rw [out_A_14]
  funext i
  obtain ⟨r, q, rfl⟩ : ∃ (r : Fin 8) (q : Fin 1024), i = ix2 r q := ⟨i 0, i 1, eq_ix2 i⟩
  by_cases h7 : r.val = 7
  · rw [row_at 7 r q h7, soFar7, Finset.sum_range_one]
    refine (congrArg _ (emb_row 7 7 rfl inb_S8x1024_S1x1024_7_0 q)).trans
      ((View.canon_cons_emb (Val := Elt Ideal) (Rect.unit (s := S8x1024) ![7, 0] S1x1024.size inb_S8x1024_S1x1024_7_0) _ _ (ix2 (0 : Fin 1) q)).trans ?_)
    rw [loss_at, ht]
    exact (congrArg (· + _) MlpMath.zero_word).trans (zero_add _)
  refine (View.canon_cons_of_not_mem _ _ (?_ : (ix2 r q : S8x1024.Idx) ∉ _)).trans ?_
  · exact not_mem_row 7 inb_S8x1024_S1x1024_7_0 r q h7
  by_cases h6 : r.val = 6
  · rw [row_at 6 r q h6, soFar6, Finset.sum_range_one]
    refine (congrArg _ (emb_row 6 6 rfl inb_S8x1024_S1x1024_6_0 q)).trans
      ((View.canon_cons_emb (Val := Elt Ideal) (Rect.unit (s := S8x1024) ![6, 0] S1x1024.size inb_S8x1024_S1x1024_6_0) _ _ (ix2 (0 : Fin 1) q)).trans ?_)
    rw [shift_at, ht]
    exact (congrArg (· + _) MlpMath.zero_word).trans (zero_add _)
  refine (View.canon_cons_of_not_mem _ _ (?_ : (ix2 r q : S8x1024.Idx) ∉ _)).trans ?_
  · exact not_mem_row 6 inb_S8x1024_S1x1024_6_0 r q h6
  by_cases h5 : r.val = 5
  · rw [row_at 5 r q h5, soFar5, Finset.sum_range_one]
    refine (congrArg _ (emb_row 5 5 rfl inb_S8x1024_S1x1024_5_0 q)).trans
      ((View.canon_cons_emb (Val := Elt Ideal) (Rect.unit (s := S8x1024) ![5, 0] S1x1024.size inb_S8x1024_S1x1024_5_0) _ _ (ix2 (0 : Fin 1) q)).trans ?_)
    rw [gain_at, ht]
    exact (congrArg (· + _) MlpMath.zero_word).trans (zero_add _)
  refine (View.canon_cons_of_not_mem _ _ (?_ : (ix2 r q : S8x1024.Idx) ∉ _)).trans ?_
  · exact not_mem_row 5 inb_S8x1024_S1x1024_5_0 r q h5
  rw [View.canon_cons_unit_zero (S := S8x1024) hz2, soFar_other m c 0 r q h5 h6 h7]
  exact MlpMath.zero_word

theorem later_point (t : Fin cfg0.N) (h : ¬t.val % 16 = 0)
    (ih : (outsAt0 m c (t.val - 1) (Nat.lt_of_le_of_lt (Nat.sub_le _ _) t.isLt)).2.2.2.2.2 = soFar m c (t.val - 1)) :
    (outsAt0 m c t.val t.isLt).2.2.2.2.2 = soFar m c t.val := by
  have hs : t.val - 1 + 1 = t.val := by omega
  rw [outsAt0_B m c t h]
  dsimp only
  rw [out_B_14, ih]
  funext i
  obtain ⟨r, q, rfl⟩ : ∃ (r : Fin 8) (q : Fin 1024), i = ix2 r q := ⟨i 0, i 1, eq_ix2 i⟩
  by_cases h7 : r.val = 7
  · rw [row_at 7 r q h7, soFar7, Finset.sum_range_succ]
    refine (View.read_writes_cons_rows_of_mem (o := 7) _ _ inb_S8x1024_S1x1024_7_0 _ _ (ix2 (7 : Fin 8) q) (ix2 (0 : Fin 1) q) rfl rfl rfl).trans ?_
    rw [loss_at, soFar7, hs]
  refine (View.read_writes_cons_rows_of_not_mem (o := 7) (W := 1) _ _ inb_S8x1024_S1x1024_7_0 _ _ (ix2 r q) rfl rfl (by show r.val < 7 ∨ 7 + 1 ≤ r.val; omega)).trans ?_
  by_cases h6 : r.val = 6
  · rw [row_at 6 r q h6, soFar6, Finset.sum_range_succ]
    refine (View.read_writes_cons_rows_of_mem (o := 6) _ _ inb_S8x1024_S1x1024_6_0 _ _ (ix2 (6 : Fin 8) q) (ix2 (0 : Fin 1) q) rfl rfl rfl).trans ?_
    rw [shift_at, soFar6, hs]
  refine (View.read_writes_cons_rows_of_not_mem (o := 6) (W := 1) _ _ inb_S8x1024_S1x1024_6_0 _ _ (ix2 r q) rfl rfl (by show r.val < 6 ∨ 6 + 1 ≤ r.val; omega)).trans ?_
  by_cases h5 : r.val = 5
  · rw [row_at 5 r q h5, soFar5, Finset.sum_range_succ]
    refine (View.read_writes_cons_rows_of_mem (o := 5) _ _ inb_S8x1024_S1x1024_5_0 _ _ (ix2 (5 : Fin 8) q) (ix2 (0 : Fin 1) q) rfl rfl rfl).trans ?_
    rw [gain_at, soFar5, hs]
  refine (View.read_writes_cons_rows_of_not_mem (o := 5) (W := 1) _ _ inb_S8x1024_S1x1024_5_0 _ _ (ix2 r q) rfl rfl (by show r.val < 5 ∨ 5 + 1 ≤ r.val; omega)).trans ?_
  rw [View.writes_nil, Memref.IsWhole.read_unread, soFar_other m c _ r q h5 h6 h7, soFar_other m c _ r q h5 h6 h7]

theorem after_point : ∀ (n : Nat) (hn : n < cfg0.N), (outsAt0 m c n hn).2.2.2.2.2 = soFar m c n
  | 0, hn => first_point m c ⟨0, hn⟩ rfl
  | n + 1, hn => later_point m c ⟨n + 1, hn⟩ (by have := lt_of_lt_of_eq hn N_0; show ¬(n + 1) % 16 = 0; omega)
      (after_point n (Nat.lt_of_succ_lt hn))

/-- Result window 14 at the end: the small gradients and the loss. -/
theorem final14 (hf : AllFinite m c) : (dats m 0 c).arrAt 14 cfg0.N = val_main_v88 (xh m c) (tgt m c) (g1 m c) (b1 m c) (wu m c) (wd m c) (g2 m c) (b2 m c) := by
  refine (dats m 0 c).arrAt_eq_of_cover 14 _ (fun t hl => ?_) (fun i => ⟨t0_15, (flush0_14 t0_15).mpr rfl, ?_⟩)
  · have h15 : t.val = 15 := by have := (flush0_14 t).mp hl; have := lt_of_lt_of_eq t.isLt N_0; omega
    rw [Value.flushed14, after_point]
    funext j
    obtain ⟨r, q, rfl⟩ : ∃ (r : Fin 8) (q : Fin 1024), j = ix2 r q := ⟨j 0, j 1, eq_ix2 j⟩
    refine Eq.trans ?_ ((MlpFRefIdeal.Mlp.result_vec _ _ _ _ _ _ _ _ hf.xh hf.tgt hf.g1 hf.b1 hf.wu hf.wd hf.g2 hf.b2 r q).symm.trans (whole14 _ t r q).symm)
    show (if r.val = 5 then ∑ x ∈ Finset.range (t.val + 1), part (gainShare m c q) x
      else if r.val = 6 then ∑ x ∈ Finset.range (t.val + 1), part (shiftShare m c q) x
      else if r.val = 7 then ∑ x ∈ Finset.range (t.val + 1), part (lossShare m c q) x else 0) = _
    rw [h15, all_parts, all_parts, all_parts]
    rfl
  · have h0 : (i 0 : Nat) < 8 := (i 0).isLt
    have h1 : (i 1 : Nat) < 1024 := (i 1).isLt
    have hi : win0_14.index t0_15 0 = 0 ∧ win0_14.index t0_15 1 = 0 := by decide
    show i ∈ ((View.whole main_v7_5).slice (win0_14.rect t0_15)).set
    rw [View.set_slice_whole, Rect.mem_set_unit]
    intro ax
    match ax with
    | ⟨0, _⟩ => show win0_14.index t0_15 0 * 8 ≤ (i 0 : Nat) ∧ (i 0 : Nat) < win0_14.index t0_15 0 * 8 + 8
                rw [hi.1]; omega
    | ⟨1, _⟩ => show win0_14.index t0_15 1 * 1024 ≤ (i 1 : Nat) ∧ (i 1 : Nat) < win0_14.index t0_15 1 * 1024 + 1024
                rw [hi.2]; omega

end Cert.MlpFIdeal.Mlp

end
-- ==== Proof.MlpF.Claim.lean ====
/- The claims about the MLP's forward call: both programs run, and from finite arrays the call's idealization ends with the
   arrays the reference's ends with. -/
module

public import proofs.«01_k».proof.Defs
public import proofs.«01_k».proof.Proof.MlpF.Arrays
public import proofs.«01_k».proof.Proof.Gen.MlpF.Frame
public import proofs.«01_k».proof.Proof.Gen.MlpFRefIdeal.Run
public import proofs.«01_k».proof.Proof.Gen.Pre_finite_mlp
public import Idealize.ShloMosaic.Lib.Quiescent
public import Idealize.ShloMosaic.Lib.KernelVsHost

@[expose] public section

set_option maxRecDepth 16384

noncomputable section

namespace Cert.MlpFClaim

open Idealize.ShloMosaic Idealize.ShloMosaic.TcCoe Idealize.SL.Sem
open Cert.MlpFIdeal.Gen (dats)
open Cert.MlpMath (Finite)

theorem frame_program : Cert.quiescent_MlpF := fun m ρ _ => Cert.MlpF.Gen.frame m ρ

theorem frame_ideal : Cert.quiescent_MlpFIdeal := fun m ρ _ => Cert.MlpFIdeal.Gen.frame m ρ

/-- The reference's run leaves its arguments alone, and it has no semaphore. -/
theorem frame_reference : Cert.quiescent_MlpFRefIdeal := fun m ρ _ =>
  (θ_run Cert.MlpFRefIdeal.defs _ _).mono
    (fun r h => ⟨fun c => (h c).2.2.2.2.2.2, sem_eq_zero_of_no_sems rfl r.2⟩) (Cert.MlpFRefIdeal.Value.run m ρ)

/-- A value whose magnitude is below infinity is a real. -/
theorem finite_of_olt (x : EReal)
    (h : FloatOps.cmpf (F := Ideal) (φ := .f32) .olt (FloatOps.hostAbsf (F := Ideal) (φ := .f32) x) (FloatOps.ofBits (F := Ideal) .f32 0x7F800000#32) = 1#1) :
    Finite x := by
  have hw := (Ideal.xori_weird_eq_hostAbsf_olt_inf x).trans h
  have hne : ¬ (x = ⊤ ∨ x = ⊥) := fun hx => by
    have e : FloatOps.weird (F := Ideal) (x : Ideal .f32) = 1#1 := by
      show BitVec.ofBool (decide (x = ⊤ ∨ x = ⊥)) = 1#1
      simp [hx]
    rw [e] at hw
    exact absurd hw (by decide)
  push Not at hne
  exact ⟨x.toReal, (EReal.coe_toReal hne.1 hne.2).symm⟩

/-- The precondition says that every element of the launch's arrays is finite. -/
theorem all_finite (m : (ℓ : Loc Cert.MlpFIdeal.nD Cert.MlpFIdeal.τ Cert.MlpFIdeal.sig) → Buf (Elt Ideal) ℓ)
    (h : Cert.Pre_MlpFIdeal_finite_mlp m) (c : Dev Cert.MlpFIdeal.nD) : Cert.MlpFIdeal.Mlp.AllFinite m c := by
  obtain ⟨e0, e1, e2, e3, e4, e5, e6, e7⟩ := h c
  exact ⟨fun i => finite_of_olt _ (congrFun e0 i), fun i => finite_of_olt _ (congrFun e1 i), fun i => finite_of_olt _ (congrFun e2 i),
    fun i => finite_of_olt _ (congrFun e3 i), fun i => finite_of_olt _ (congrFun e4 i), fun i => finite_of_olt _ (congrFun e5 i),
    fun i => finite_of_olt _ (congrFun e6 i), fun i => finite_of_olt _ (congrFun e7 i)⟩

/-- Result by result. -/
theorem equal : Cert.algebraic_MlpFIdeal_MlpFRefIdeal_pre_finite_mlp := by
  intro m g m' g' hpre hargs
  refine ⟨fun c => (dats m 0 c).arrAt 9 Cert.MlpFIdeal.cfg0.N,
    fun c => (dats m 0 c).arrAt 10 Cert.MlpFIdeal.cfg0.N,
    fun c => (dats m 0 c).arrAt 11 Cert.MlpFIdeal.cfg0.N,
    fun c => (dats m 0 c).arrAt 12 Cert.MlpFIdeal.cfg0.N,
    fun c => (dats m 0 c).arrAt 13 Cert.MlpFIdeal.cfg0.N,
    fun c => (dats m 0 c).arrAt 14 Cert.MlpFIdeal.cfg0.N,
    (θ_run Cert.MlpFIdeal.defs _ _).mono (fun _ h => h) (Cert.MlpFIdeal.Value.run_blocks m g),
    (θ_run Cert.MlpFRefIdeal.defs _ _).mono (fun r h c => ?_) (Cert.MlpFRefIdeal.Value.run m' g')⟩
  obtain ⟨a0, a1, a2, a3, a4, a5, a6, a7⟩ := hargs c
  obtain ⟨h0, h1, h2, h3, h4, h5, hargs'⟩ := h c
  have hf := all_finite m hpre c
  refine ⟨h0.trans ?_, h1.trans ?_, h2.trans ?_, h3.trans ?_, h4.trans ?_, h5.trans ?_, hargs'⟩
  · refine (Cert.MlpFRefIdeal.Read.val_main_v4_eq _ _ _ _).trans ?_
    rw [a0, a2, a3, a4]
    exact (Cert.MlpFIdeal.Mlp.final9 m c).symm
  · refine (Cert.MlpFRefIdeal.Read.val_main_v89_eq _ _ _ _).trans ?_
    rw [a0, a2, a3, a4]
    exact (Cert.MlpFIdeal.Mlp.final10 m c).symm
  · refine (Cert.MlpFRefIdeal.Read.val_main_v86_eq _ _).trans ?_
    rw [a0, a1, a2, a3, a4, a5, a6, a7]
    exact (Cert.MlpFIdeal.Mlp.final11 m c hf).symm
  · refine (Cert.MlpFRefIdeal.Read.val_main_v90_eq _ _).trans ?_
    rw [a0, a1, a2, a3, a4, a5, a6, a7]
    exact (Cert.MlpFIdeal.Mlp.final12 m c hf).symm
  · refine (Cert.MlpFRefIdeal.Read.val_main_v92_eq _ _).trans ?_
    rw [a0, a1, a2, a3, a4, a5, a6, a7]
    exact (Cert.MlpFIdeal.Mlp.final13 m c hf).symm
  · refine (Cert.MlpFRefIdeal.Read.val_main_v88_eq _ _).trans ?_
    rw [a0, a1, a2, a3, a4, a5, a6, a7]
    exact (Cert.MlpFIdeal.Mlp.final14 m c hf).symm

end Cert.MlpFClaim

end
-- ==== Proof.MixF.Math.lean ====
/- The merge's forward rows: the recurrence branch through its weight, the two gated branches, the residual before the first layer
   norm, and the norm's output. What both programs compute. -/
module

public import proofs.«01_k».proof.Proof.MlpF.Math

@[expose] public section

noncomputable section

namespace Cert.MixFMath

open Cert.MlpMath (alpha)
open Cert.MlpFMath (lineRow normed variance)
open Idealize.ShloMosaic Idealize.ShloMosaic.ValueIdx
open scoped BigOperators

/-- A row times a square of weights. -/
def prodRow (x : Fin 1024 → EReal) (w : Fin 1024 → Fin 1024 → EReal) (q : Fin 1024) : EReal := ∑ k : Fin 1024, x k * w k q

/-- The two branches, each under its gate. -/
def mergedRow (x za zb b s : Fin 1024 → EReal) (w : Fin 1024 → Fin 1024 → EReal) (q : Fin 1024) : EReal :=
  Ideal.logistic (za q) * prodRow x w q + Ideal.logistic (zb q) * (b q * s q)

/-- The residual row: the scaled input and the merged row through the output weight. -/
def resRow (x za zb b s : Fin 1024 → EReal) (w : Fin 1024 → Fin 1024 → EReal) (y : Fin 1024 → EReal) (o : Fin 1024 → Fin 1024 → EReal)
    (q : Fin 1024) : EReal := alpha * y q + prodRow (mergedRow x za zb b s w) o q

/-- The arrays' shapes. -/
abbrev Rows : Shape := ⟨2, ![4096, 1024]⟩
abbrev Seven : Shape := ⟨3, ![7, 4096, 1024]⟩
abbrev Square : Shape := ⟨2, ![1024, 1024]⟩
abbrev Line : Shape := ⟨2, ![1, 1024]⟩

/-- A row of an array, of a section, of a scale or shift, and a weight by row and column. -/
abbrev rowAt (x : Rows.Idx → EReal) (p : Fin 4096) : Fin 1024 → EReal := fun j => x (ix2 p j)
abbrev secAt (x : Seven.Idx → EReal) (n : Fin 7) (p : Fin 4096) : Fin 1024 → EReal := fun j => x (ix3 n p j)
abbrev lineAt (x : Line.Idx → EReal) : Fin 1024 → EReal := fun j => x (ix2 (0 : Fin 1) j)
abbrev weight (x : Square.Idx → EReal) : Fin 1024 → Fin 1024 → EReal := fun k j => x (ix2 k j)

/-- Row `p` of the merged array and of the residual. -/
def merged (x : Rows.Idx → EReal) (z : Seven.Idx → EReal) (b : Rows.Idx → EReal) (w : Square.Idx → EReal) (s : Line.Idx → EReal)
    (p : Fin 4096) : Fin 1024 → EReal :=
  mergedRow (rowAt x p) (secAt z 5 p) (secAt z 6 p) (rowAt b p) (lineAt s) (weight w)
def residual (x : Rows.Idx → EReal) (z : Seven.Idx → EReal) (b y : Rows.Idx → EReal) (w o : Square.Idx → EReal) (s : Line.Idx → EReal)
    (p : Fin 4096) : Fin 1024 → EReal :=
  resRow (rowAt x p) (secAt z 5 p) (secAt z 6 p) (rowAt b p) (lineAt s) (weight w) (rowAt y p) (weight o)

end Cert.MixFMath

end
-- ==== Proof.MixF.Block.lean ====
/- What one grid point of the merge's forward kernel stores, read at an index over the extended reals. -/
module

public import proofs.«01_k».proof.Proof.MixF.Math
public import proofs.«01_k».proof.Proof.Gen.MixFIdeal.Frame
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.ValueKit.Tiles
public import Idealize.ShloMosaic.PureOps.Ideal.Laws

@[expose] public section

set_option maxRecDepth 16384

noncomputable section

namespace Cert.MixFIdeal.Block

open Cert.MixFIdeal Cert.MixFIdeal.Gen
open Cert.MixFMath (prodRow mergedRow resRow)
open Cert.MlpFMath (lineRow centre variance normed)
open Idealize.ShloMosaic Idealize.ShloMosaic.ValueIdx
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- A plain product. -/
theorem product {φ₁ φ₂ : FTy} (a : FVec Ideal S512x1024 φ₁) (b : FVec Ideal S1024x1024 φ₂) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_plain_apply (M := 512) (K := 1024) (N := 1024) none a b _ p q).trans ?_
  rw [constant_apply, MlpMath.zero_word, zero_add]

/-- The sums along the rows of a block. -/
abbrev rowSums (a : FVec Ideal S512x1024 .f32) : FVec Ideal S512 .f32 :=
  multiReduction .add [1] S512 a 0x00000000#32 reduces_S512x1024_S512 (.inl rfl) rfl

theorem row_sum (a : FVec Ideal S512x1024 .f32) (p : Fin 512) : rowSums a (ix1 p) = ∑ q : Fin 1024, a (ix2 p q) := by
  refine (Ideal.multiReduction_add_single _ _ _ _ _ _).trans (Finset.sum_congr rfl fun q _ => ?_)
  refine congrArg a (?_ : reduces_S512x1024_S512.lift (ix1 p) q = ix2 p q)
  funext ax
  match ax with
  | ⟨0, _⟩ => rfl
  | ⟨1, _⟩ => rfl

/-- A column spread over the row. -/
theorem spread (a : FVec Ideal S512x1 .f32) (p : Fin 512) (q : Fin 1024) :
    broadcastTo S512x1024 a broadcasts_S512x1_S512x1024 (ix2 p q) = a (ix2 p (0 : Fin 1)) := by
  refine broadcastTo_apply _ _ _ (ix2 p (0 : Fin 1)) fun ax => ?_
  match ax with
  | ⟨0, _⟩ => rfl
  | ⟨1, _⟩ => rfl

/-- A row's mean. -/
theorem mean_of (a : FVec Ideal S512x1024 .f32) (p : Fin 512) :
    divf (shapeCast S512x1 (rowSums a) shapeCasts_S512_S512x1) (broadcast S512x1 (Scalar.ofBits (F := Ideal) .f32 0x44800000#32))
        (ix2 p (0 : Fin 1))
      = Ideal.div (∑ j : Fin 1024, a (ix2 p j)) MlpMath.width := by
  show Ideal.div (shapeCast S512x1 _ shapeCasts_S512_S512x1 (ix2 p (0 : Fin 1))) _ = _
  rw [shapeCast_a_a1_apply, row_sum]
  rfl

/-- A row of a block, of a section's block and of a one-row block, and a weight by row and column. -/
abbrev rowOf (x : FVec Ideal S512x1024 .f32) (p : Fin 512) : Fin 1024 → EReal := fun j => x (ix2 p j)
abbrev secOf (x : FVec Ideal S1x512x1024 .f32) (p : Fin 512) : Fin 1024 → EReal := fun j => x (ix3 (0 : Fin 1) p j)
abbrev lineOf (x : FVec Ideal S1x1024 .f32) : Fin 1024 → EReal := fun j => x (ix2 (0 : Fin 1) j)
abbrev matOf (x : FVec Ideal S1024x1024 .bf16) : Fin 1024 → Fin 1024 → EReal := fun k j => x (ix2 k j)
abbrev inRow (x : FVec Ideal S512x1024 .bf16) (p : Fin 512) : Fin 1024 → EReal := fun j => x (ix2 p j)

section
variable (a : FVec Ideal S512x1024 .f32) (g b : Vec Ideal S1x1024 .f32) (p : Fin 512) (q : Fin 1024)

/-- The norm of a block's rows. -/
theorem centre_at : k0_pay1 a (rowSums a) (ix2 p q) = centre (rowOf a p) q := by
  unfold k0_pay1
  show a (ix2 p q) - broadcastTo S512x1024 _ broadcasts_S512x1_S512x1024 (ix2 p q) = _
  rw [spread, mean_of]
  rfl

theorem scale_at : k0_pay2 a (rowSums a) (ix2 p (0 : Fin 1)) = Ideal.rsqrt (variance (rowOf a p)) := by
  unfold k0_pay2
  refine (congrArg (fun z => Ideal.rsqrt (z + MlpMath.small)) (mean_of (mulf (k0_pay1 a (rowSums a)) (k0_pay1 a (rowSums a))) p)).trans ?_
  refine congrArg (fun z => Ideal.rsqrt (Ideal.div z MlpMath.width + MlpMath.small)) (Finset.sum_congr rfl fun j _ => ?_)
  exact congrArg₂ (· * ·) (centre_at a p j) (centre_at a p j)

theorem normed_at : k0_pay3 a (rowSums a) (ix2 p q) = normed (rowOf a p) q := by
  unfold k0_pay3
  show k0_pay1 a (rowSums a) (ix2 p q) * broadcastTo S512x1024 (k0_pay2 a (rowSums a)) broadcasts_S512x1_S512x1024 (ix2 p q) = _
  rw [spread, centre_at, scale_at]
  rfl

theorem out_at : k0_pay4 a (rowSums a) g b (ix2 p q) = lineRow (normed (rowOf a p)) (lineOf g) (lineOf b) q := by
  unfold k0_pay4
  show k0_pay3 a (rowSums a) (ix2 p q) * broadcastTo S512x1024 g broadcasts_S1x1024_S512x1024 (ix2 p q)
    + broadcastTo S512x1024 b broadcasts_S1x1024_S512x1024 (ix2 p q) = _
  rw [broadcastTo_1b_ab_apply, broadcastTo_1b_ab_apply, normed_at]
  rfl

end

variable (x0 : Vec Ideal S512x1024 .bf16) (x1 x2 : Vec Ideal S1x512x1024 .f32) (x3 x4 : Vec Ideal S512x1024 .f32)
  (x5 x6 : Vec Ideal S1024x1024 .bf16) (x7 x8 x9 : Vec Ideal S1x1024 .f32)

/-- The recurrence branch through its weight. -/
theorem branch (p : Fin 512) (q : Fin 1024) : k0_pay7 x0 x5 (ix2 p q) = prodRow (inRow x0 p) (matOf x5) q := by
  unfold k0_pay7
  rw [shapeCast_self, shapeCast_self]
  exact product _ _ p q

/-- The merged rows. -/
theorem merged_at (p : Fin 512) (q : Fin 1024) :
    k0_pay8 x0 x5 x1 x2 x3 x7 (ix2 p q) = mergedRow (inRow x0 p) (secOf x1 p) (secOf x2 p) (rowOf x3 p) (lineOf x7) (matOf x5) q := by
  unfold k0_pay8
  show Ideal.logistic (shapeCast S512x1024 x1 shapeCasts_S1x512x1024_S512x1024 (ix2 p q)) * k0_pay7 x0 x5 (ix2 p q)
    + Ideal.logistic (shapeCast S512x1024 x2 shapeCasts_S1x512x1024_S512x1024 (ix2 p q))
      * (x3 (ix2 p q) * broadcastTo S512x1024 x7 broadcasts_S1x1024_S512x1024 (ix2 p q)) = _
  rw [shapeCast_1ab_ab_apply, shapeCast_1ab_ab_apply, broadcastTo_1b_ab_apply, branch]
  rfl

/-- The residual in the block, and its rows. -/
abbrev resBlock : FVec Ideal S512x1024 .f32 := k0_pay10 x0 x5 x1 x2 x3 x7 x4 x6

theorem res_at (p : Fin 512) :
    rowOf (resBlock x0 x1 x2 x3 x4 x5 x6 x7) p
      = resRow (inRow x0 p) (secOf x1 p) (secOf x2 p) (rowOf x3 p) (lineOf x7) (matOf x5) (rowOf x4 p) (matOf x6) := funext fun q => by
  show k0_pay10 x0 x5 x1 x2 x3 x7 x4 x6 (ix2 p q) = _
  unfold k0_pay10
  rw [shapeCast_self]
  refine congrArg (MlpMath.alpha * x4 (ix2 p q) + ·) ((product (φ₁ := .bf16) (φ₂ := .bf16) _ _ p q).trans (Finset.sum_congr rfl fun k _ => ?_))
  exact congrArg (· * x6 (ix2 k q)) (merged_at x0 x1 x2 x3 x5 x7 p k)

/-- The two values the stores share, over the whole blocks. -/
theorem shared : k0_pay12 x0 x1 x2 x3 x4 x5 x6 x7 x8 x9 = resBlock x0 x1 x2 x3 x4 x5 x6 x7 := by
  unfold k0_pay12
  simp only [View.ld_unit_zero (S := S512x1024) hz2, View.ld_unit_zero (S := S1024x1024) hz2, View.ld_unit_zero (S := S1x1024) hz2,
    View.ld_unit_zero (S := S1x512x1024) hz3]

theorem shared_sums : k0_pay13 x0 x1 x2 x3 x4 x5 x6 x7 x8 x9 = rowSums (resBlock x0 x1 x2 x3 x4 x5 x6 x7) := by
  unfold k0_pay13 k0_pay11
  simp only [View.ld_unit_zero (S := S512x1024) hz2, View.ld_unit_zero (S := S1024x1024) hz2, View.ld_unit_zero (S := S1x1024) hz2,
    View.ld_unit_zero (S := S1x512x1024) hz3]

/-- The residual's row, as the blocks give it. -/
abbrev resOf (p : Fin 512) : Fin 1024 → EReal :=
  resRow (inRow x0 p) (secOf x1 p) (secOf x2 p) (rowOf x3 p) (lineOf x7) (matOf x5) (rowOf x4 p) (matOf x6)

/-- The stored blocks. -/
theorem stored_branch (p : Fin 512) (q : Fin 1024) :
    out0_10 x0 x1 x2 x3 x4 x5 x6 x7 x8 x9 (ix2 p q) = prodRow (inRow x0 p) (matOf x5) q := by
  unfold out0_10
  rw [View.canon_unit_zero (S := S512x1024) hz2, View.ld_unit_zero (S := S512x1024) hz2, View.ld_unit_zero (S := S1024x1024) hz2]
  exact branch x0 x5 p q

theorem stored_merged (q : Fin 1024) (p : Fin 512) :
    out0_11 x0 x1 x2 x3 x4 x5 x6 x7 x8 x9 (ix2 q p)
      = mergedRow (inRow x0 p) (secOf x1 p) (secOf x2 p) (rowOf x3 p) (lineOf x7) (matOf x5) q := by
  unfold out0_11
  rw [View.canon_unit_zero (S := S1024x512) hz2]
  simp only [View.ld_unit_zero (S := S512x1024) hz2, View.ld_unit_zero (S := S1024x1024) hz2, View.ld_unit_zero (S := S1x1024) hz2,
    View.ld_unit_zero (S := S1x512x1024) hz3]
  unfold k0_pay9
  exact (transpose_ix2_apply _ _ _ _).trans (merged_at x0 x1 x2 x3 x5 x7 p q)

theorem stored_normed (p : Fin 512) (q : Fin 1024) :
    out0_12 x0 x1 x2 x3 x4 x5 x6 x7 x8 x9 (ix2 p q) = normed (resOf x0 x1 x2 x3 x4 x5 x6 x7 p) q := by
  unfold out0_12
  rw [View.canon_unit_zero (S := S512x1024) hz2, shared, shared_sums, normed_at, res_at]

theorem stored_scale (p : Fin 512) :
    out0_13 x0 x1 x2 x3 x4 x5 x6 x7 x8 x9 (ix2 p (0 : Fin 1)) = Ideal.rsqrt (variance (resOf x0 x1 x2 x3 x4 x5 x6 x7 p)) := by
  unfold out0_13
  rw [View.canon_unit_zero (S := S512x1) hz2, shared, shared_sums, scale_at, res_at]

theorem stored_out (p : Fin 512) (q : Fin 1024) :
    out0_14 x0 x1 x2 x3 x4 x5 x6 x7 x8 x9 (ix2 p q) = lineRow (normed (resOf x0 x1 x2 x3 x4 x5 x6 x7 p)) (lineOf x8) (lineOf x9) q := by
  unfold out0_14
  rw [View.canon_unit_zero (S := S512x1024) hz2, shared, shared_sums, View.ld_unit_zero (S := S1x1024) hz2,
    View.ld_unit_zero (S := S1x1024) hz2]
  unfold k0_pay5
  refine (out_at _ x8 x9 p q).trans ?_
  rw [res_at]

theorem stored_turned (q : Fin 1024) (p : Fin 512) :
    out0_15 x0 x1 x2 x3 x4 x5 x6 x7 x8 x9 (ix2 q p) = lineRow (normed (resOf x0 x1 x2 x3 x4 x5 x6 x7 p)) (lineOf x8) (lineOf x9) q := by
  unfold out0_15
  rw [View.canon_unit_zero (S := S1024x512) hz2, shared, shared_sums, View.ld_unit_zero (S := S1x1024) hz2,
    View.ld_unit_zero (S := S1x1024) hz2]
  unfold k0_pay6
  refine (transpose_ix2_apply _ _ _ _).trans ((out_at _ x8 x9 p q).trans ?_)
  rw [res_at]

end Cert.MixFIdeal.Block

end
-- ==== Proof.MixF.Reference.lean ====
/- The merge's forward reference read at an index: every result is the array of Math.lean. -/
module

public import proofs.«01_k».proof.Proof.MixF.Math
public import proofs.«01_k».proof.Proof.Gen.MixFRefIdeal.Read
public import Idealize.ShloMosaic.Lib.Pipeline.Value
public import Idealize.ShloMosaic.Lib.Pointwise.SelectCore

@[expose] public section

set_option maxRecDepth 16384

noncomputable section

namespace Cert.MixFRefIdeal.Grad

open Cert.MixFRefIdeal Cert.MixFRefIdeal.Read Cert.MixFMath
open Cert.MlpMath (zero zero_add_word width small alpha)
open Cert.MlpFMath (lineRow centre normed one one_eq)
open Idealize.ShloMosaic hiding ix1 ix2 ix3 eq_ix1 eq_ix2 eq_ix3
open Idealize.ShloMosaic.ValueIdx
open scoped BigOperators

variable (x0 : Vec Ideal S4096x1024 .f32) (x1 : Vec Ideal S7x4096x1024 .f32) (x2 x3 : Vec Ideal S4096x1024 .f32)
  (x4 x5 : Vec Ideal S1024x1024 .f32) (x6 x7 x8 : Vec Ideal S1x1024 .f32)

/-- The recurrence branch through its weight. -/
theorem branch (p : Fin 4096) (q : Fin 1024) : val_main_v0 x0 x4 (ix2 p q) = prodRow (rowAt x0 p) (weight x4) q := by
  rw [val_main_v0_apply]
  refine Finset.sum_congr rfl fun k _ => ?_
  rw [show lidx_main_v0 (ix2 p q) k = ix2 p k from eq_ix2 _, show ridx_main_v0 (ix2 p q) k = ix2 k q from eq_ix2 _]

/-- The gates' inputs. -/
theorem input_a (p : Fin 4096) (q : Fin 1024) : val_main_v4 x1 (ix2 p q) = x1 (ix3 (5 : Fin 7) p q) := by
  rw [val_main_v4_apply, val_main_v3_apply]
  refine congrArg x1 ?_
  rw [eq_ix3 (idx_main_v3 _)]
  have hp := p.isLt
  have hq := q.isLt
  congr 1
  · refine Fin.ext ?_; show (p.val * 1024 + q.val) / 1024 % 4096 = p.val; omega
  · refine Fin.ext ?_; show (p.val * 1024 + q.val) % 1024 = q.val; omega

theorem input_b (p : Fin 4096) (q : Fin 1024) : val_main_v13 x1 (ix2 p q) = x1 (ix3 (6 : Fin 7) p q) := by
  rw [val_main_v13_apply, val_main_v12_apply]
  refine congrArg x1 ?_
  rw [eq_ix3 (idx_main_v12 _)]
  have hp := p.isLt
  have hq := q.isLt
  congr 1
  · refine Fin.ext ?_; show (p.val * 1024 + q.val) / 1024 % 4096 = p.val; omega
  · refine Fin.ext ?_; show (p.val * 1024 + q.val) % 1024 = q.val; omega

/-- The number one. -/
theorem one_word : one = 1 := one_eq.trans EReal.coe_one

/-- The gates the reference writes out are the logistic function. -/
theorem gate_a (p : Fin 4096) (q : Fin 1024) : val_main_v10 x1 (ix2 p q) = Ideal.logistic (secAt x1 5 p q) := by
  rw [val_main_v10_apply, val_main_v9_apply, val_main_v8_apply, val_main_v7_apply, val_main_v6_apply, val_main_v5_apply,
    input_a, val_main_cst_apply, val_main_cst_0_apply]
  show Ideal.div one (one + Ideal.exp (-x1 (ix3 (5 : Fin 7) p q))) = Ideal.logistic (x1 (ix3 (5 : Fin 7) p q))
  rw [one_word]; rfl

theorem gate_b (p : Fin 4096) (q : Fin 1024) : val_main_v19 x1 (ix2 p q) = Ideal.logistic (secAt x1 6 p q) := by
  rw [val_main_v19_apply, val_main_v18_apply, val_main_v17_apply, val_main_v16_apply, val_main_v15_apply, val_main_v14_apply,
    input_b, val_main_cst_1_apply, val_main_cst_2_apply]
  show Ideal.div one (one + Ideal.exp (-x1 (ix3 (6 : Fin 7) p q))) = Ideal.logistic (x1 (ix3 (6 : Fin 7) p q))
  rw [one_word]; rfl

/-- The merged rows and the residual. -/
theorem result_merged (p : Fin 4096) (q : Fin 1024) : val_main_v21 x0 x1 x2 x4 x6 (ix2 p q) = merged x0 x1 x2 x4 x6 p q := by
  rw [val_main_v21_apply, val_main_v11_apply, val_main_v20_apply, gate_a, gate_b, branch, val_main_v2_apply, val_main_v1_apply]
  exact congrArg (fun s => Ideal.logistic (secAt x1 5 p q) * prodRow (rowAt x0 p) (weight x4) q
    + Ideal.logistic (secAt x1 6 p q) * (x2 (ix2 p q) * s)) (congrArg x6 (eq_ix2 _))

theorem result_residual (p : Fin 4096) (q : Fin 1024) :
    val_main_v25 x0 x1 x2 x3 x4 x5 x6 (ix2 p q) = residual x0 x1 x2 x3 x4 x5 x6 p q := by
  rw [val_main_v25_apply, val_main_v23_apply, val_main_v22_apply, val_main_cst_3_apply, val_main_v24_apply]
  refine congrArg (alpha * x3 (ix2 p q) + ·) (Finset.sum_congr rfl fun k _ => ?_)
  rw [show lidx_main_v24 (ix2 p q) k = ix2 p k from eq_ix2 _, show ridx_main_v24 (ix2 p q) k = ix2 k q from eq_ix2 _, result_merged]
  rfl

/-- The centred rows, both times the reference writes them. -/
theorem mean_at (p : Fin 4096) : val_main_v29 x0 x1 x2 x3 x4 x5 x6 (ix2 p (0 : Fin 1))
    = Ideal.div (∑ k : Fin 1024, residual x0 x1 x2 x3 x4 x5 x6 p k) width := by
  rw [val_main_v29_apply, val_main_v27_apply, val_main_v26_apply, val_main_v28_apply, val_main_cst_5_apply, val_main_cst_4_apply]
  refine congrArg (fun z => Ideal.div z width) ((zero_add_word _).trans (Finset.sum_congr rfl fun k _ => ?_))
  rw [← result_residual]
  exact congrArg (val_main_v25 x0 x1 x2 x3 x4 x5 x6) ((eq_ix2 _).trans (congrArg (ix2 · k) (Fin.ext rfl)))

theorem centred_a (p : Fin 4096) (q : Fin 1024) :
    val_main_v31 x0 x1 x2 x3 x4 x5 x6 (ix2 p q) = centre (residual x0 x1 x2 x3 x4 x5 x6 p) q := by
  rw [val_main_v31_apply, val_main_v30_apply, show idx_main_v30 (ix2 p q) = ix2 p (0 : Fin 1) from eq_ix2 _, mean_at, result_residual]
  rfl

theorem centred_b (p : Fin 4096) (q : Fin 1024) :
    val_main_v41 x0 x1 x2 x3 x4 x5 x6 (ix2 p q) = centre (residual x0 x1 x2 x3 x4 x5 x6 p) q := by
  rw [val_main_v41_apply, val_main_v40_apply, show idx_main_v40 (ix2 p q) = ix2 p (0 : Fin 1) from eq_ix2 _, mean_at, result_residual]
  rfl

/-- A row's scale. -/
theorem result_scale (p : Fin 4096) : val_main_v39 x0 x1 x2 x3 x4 x5 x6 (ix2 p (0 : Fin 1))
    = Ideal.rsqrt (MlpFMath.variance (residual x0 x1 x2 x3 x4 x5 x6 p)) := by
  rw [val_main_v39_apply, val_main_v38_apply, val_main_v36_apply, val_main_v34_apply, val_main_v33_apply, val_main_v35_apply,
    val_main_v37_apply, val_main_cst_6_apply, val_main_cst_7_apply, val_main_cst_8_apply]
  refine congrArg (fun z => Ideal.rsqrt (Ideal.div z width + small)) ((zero_add_word _).trans (Finset.sum_congr rfl fun k _ => ?_))
  rw [show idx_main_v33 (idx_main_v34 (ix2 p (0 : Fin 1))) k = ix2 p k from
    (eq_ix2 _).trans (congrArg (ix2 · k) (Fin.ext rfl)), val_main_v32_apply, centred_a]
  rfl

/-- The normed rows. -/
theorem result_normed (p : Fin 4096) (q : Fin 1024) :
    val_main_v43 x0 x1 x2 x3 x4 x5 x6 (ix2 p q) = normed (residual x0 x1 x2 x3 x4 x5 x6 p) q := by
  rw [val_main_v43_apply, val_main_v42_apply, show idx_main_v42 (ix2 p q) = ix2 p (0 : Fin 1) from eq_ix2 _, centred_b, result_scale]
  rfl

/-- The norm's output. -/
theorem result_line (p : Fin 4096) (q : Fin 1024) : val_main_v47 x0 x1 x2 x3 x4 x5 x6 x7 x8 (ix2 p q)
    = lineRow (normed (residual x0 x1 x2 x3 x4 x5 x6 p)) (lineAt x7) (lineAt x8) q := by
  rw [val_main_v47_apply, val_main_v45_apply, val_main_v44_apply, val_main_v46_apply, result_normed]
  exact congrArg₂ (fun g b => normed (residual x0 x1 x2 x3 x4 x5 x6 p) q * g + b) (congrArg x7 (eq_ix2 _)) (congrArg x8 (eq_ix2 _))

/-- The same rounded, and turned and rounded. -/
theorem result_out (p : Fin 4096) (q : Fin 1024) : val_main_v50 x0 x1 x2 x3 x4 x5 x6 x7 x8 (ix2 p q)
    = lineRow (normed (residual x0 x1 x2 x3 x4 x5 x6 p)) (lineAt x7) (lineAt x8) q := by
  rw [val_main_v50_apply, result_line]
  rfl

theorem result_turned (q : Fin 1024) (p : Fin 4096) : val_main_v52 x0 x1 x2 x3 x4 x5 x6 x7 x8 (ix2 q p)
    = lineRow (normed (residual x0 x1 x2 x3 x4 x5 x6 p)) (lineAt x7) (lineAt x8) q := by
  rw [val_main_v52_apply, val_main_v51_apply, show idx_main_v51 (ix2 q p) = ix2 p q from eq_ix2 _, result_line]
  rfl

theorem result_merged_turned (q : Fin 1024) (p : Fin 4096) :
    val_main_v49 x0 x1 x2 x4 x6 (ix2 q p) = merged x0 x1 x2 x4 x6 p q := by
  rw [val_main_v49_apply, val_main_v48_apply, show idx_main_v48 (ix2 q p) = ix2 p q from eq_ix2 _, result_merged]
  rfl

end Cert.MixFRefIdeal.Grad

end
-- ==== Proof.MixF.Arrays.lean ====
/- The merge's forward call over the extended reals: what its windows read, and the arrays it leaves, the reference's values. -/
module

public import proofs.«01_k».proof.Proof.MixF.Block
public import proofs.«01_k».proof.Proof.MixF.Reference
public import proofs.«01_k».proof.Proof.Gen.MixFIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.MixFIdeal.Grad

open Cert.MixFIdeal Cert.MixFIdeal.Gen Cert.MixFIdeal.Block
open Cert.MixFMath (prodRow mergedRow resRow rowAt secAt lineAt weight merged residual Rows Seven Square Line)
open Cert.MlpFMath (lineRow normed)
open Idealize.ShloMosaic hiding ix1 ix2 ix3 eq_ix1 eq_ix2 eq_ix3
open Idealize.ShloMosaic.ValueIdx
open Idealize.ShloMosaic.TcCoe Idealize.SL.Sem
open Cert.MixFRefIdeal.Read (val_main_v0 val_main_v39 val_main_v43 val_main_v49 val_main_v50 val_main_v52)
open scoped BigOperators

variable (m : (ℓ : Loc nD τ sig) → Buf (Elt Ideal) ℓ) (c : Dev nD)

/-- The launch's arrays. -/
abbrev ain : Rows.Idx → EReal := m ((c : Thread nD τ).loc main_arg0)
abbrev sec : Seven.Idx → EReal := m ((c : Thread nD τ).loc main_arg1)
abbrev bp : Rows.Idx → EReal := m ((c : Thread nD τ).loc main_arg2)
abbrev xr : Rows.Idx → EReal := m ((c : Thread nD τ).loc main_arg3)
abbrev wa : Square.Idx → EReal := m ((c : Thread nD τ).loc main_arg4)
abbrev wo : Square.Idx → EReal := m ((c : Thread nD τ).loc main_arg5)
abbrev ps : Line.Idx → EReal := m ((c : Thread nD τ).loc main_arg6)
abbrev g1 : Line.Idx → EReal := m ((c : Thread nD τ).loc main_arg7)
abbrev b1 : Line.Idx → EReal := m ((c : Thread nD τ).loc main_arg8)

/-- The operands whose rounding changes nothing here. -/
theorem V_ain : V m c main_v0 = ain m c := by
  unfold V; after_reads_simp; rfl

theorem V_wa : V m c main_v1 = wa m c := by
  unfold V; after_reads_simp; rfl

theorem V_wo : V m c main_v2 = wo m c := by
  unfold V; after_reads_simp; rfl

/-- The row of the arrays that row `r` of point `t`'s block is. -/
def row (t : Fin cfg0.N) (r : Fin 512) : Fin 4096 :=
  ⟨512 * t.val + r.val, by have h : t.val < 8 := lt_of_lt_of_eq t.isLt N_0; have := r.isLt; omega⟩

/-- Window 0 moves down the rows. -/
theorem rows0 (X : Rows.Idx → EReal) (t : Fin cfg0.N) (r : Fin 512) (q : Fin 1024) :
    ((cfg0.win 0).blk t).view.read (Elt Ideal) X (ix2 r q) = X (ix2 (row t r) q) := by
  have hi : win0_0.index t 0 = t.val ∧ win0_0.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 512 + 1 * r.val = 512 * t.val + r.val; rw [hi.1]; omega
  | ⟨1, _⟩ => show win0_0.index t 1 * 1024 + 1 * q.val = q.val; rw [hi.2]; omega

/-- Window 1 moves down the rows of section 5. -/
theorem rows1 (X : Seven.Idx → EReal) (t : Fin cfg0.N) (r : Fin 512) (q : Fin 1024) :
    ((cfg0.win 1).blk t).view.read (Elt Ideal) X (ix3 (0 : Fin 1) r q) = X (ix3 (5 : Fin 7) (row t r) q) := by
  have hi : win0_1.index t 0 = 5 ∧ win0_1.index t 1 = t.val ∧ win0_1.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_1.index t 0 * 1 + 1 * 0 = 5; rw [hi.1]
  | ⟨1, _⟩ => show win0_1.index t 1 * 512 + 1 * r.val = 512 * t.val + r.val; rw [hi.2.1]; omega
  | ⟨2, _⟩ => show win0_1.index t 2 * 1024 + 1 * q.val = q.val; rw [hi.2.2]; omega

/-- Window 2 moves down the rows of section 6. -/
theorem rows2 (X : Seven.Idx → EReal) (t : Fin cfg0.N) (r : Fin 512) (q : Fin 1024) :
    ((cfg0.win 2).blk t).view.read (Elt Ideal) X (ix3 (0 : Fin 1) r q) = X (ix3 (6 : Fin 7) (row t r) q) := by
  have hi : win0_2.index t 0 = 6 ∧ win0_2.index t 1 = t.val ∧ win0_2.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_2.index t 0 * 1 + 1 * 0 = 6; rw [hi.1]
  | ⟨1, _⟩ => show win0_2.index t 1 * 512 + 1 * r.val = 512 * t.val + r.val; rw [hi.2.1]; omega
  | ⟨2, _⟩ => show win0_2.index t 2 * 1024 + 1 * q.val = q.val; rw [hi.2.2]; omega

/-- Window 3 moves down the rows. -/
theorem rows3 (X : Rows.Idx → EReal) (t : Fin cfg0.N) (r : Fin 512) (q : Fin 1024) :
    ((cfg0.win 3).blk t).view.read (Elt Ideal) X (ix2 r q) = X (ix2 (row t r) q) := by
  have hi : win0_3.index t 0 = t.val ∧ win0_3.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_3.index t 0 * 512 + 1 * r.val = 512 * t.val + r.val; rw [hi.1]; omega
  | ⟨1, _⟩ => show win0_3.index t 1 * 1024 + 1 * q.val = q.val; rw [hi.2]; omega

/-- Window 4 moves down the rows. -/
theorem rows4 (X : Rows.Idx → EReal) (t : Fin cfg0.N) (r : Fin 512) (q : Fin 1024) :
    ((cfg0.win 4).blk t).view.read (Elt Ideal) X (ix2 r q) = X (ix2 (row t r) q) := by
  have hi : win0_4.index t 0 = t.val ∧ win0_4.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_4.index t 0 * 512 + 1 * r.val = 512 * t.val + r.val; rw [hi.1]; omega
  | ⟨1, _⟩ => show win0_4.index t 1 * 1024 + 1 * q.val = q.val; rw [hi.2]; omega

/-- Window 5 is its whole array. -/
theorem whole5 (X : Square.Idx → EReal) (t : Fin cfg0.N) (r : Fin 1024) (q : Fin 1024) :
    ((cfg0.win 5).blk t).view.read (Elt Ideal) X (ix2 r q) = X (ix2 r q) := by
  have hi : win0_5.index t 0 = 0 ∧ win0_5.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_5.index t 0 * 1024 + 1 * r.val = r.val; rw [hi.1]; omega
  | ⟨1, _⟩ => show win0_5.index t 1 * 1024 + 1 * q.val = q.val; rw [hi.2]; omega

/-- Window 6 is its whole array. -/
theorem whole6 (X : Square.Idx → EReal) (t : Fin cfg0.N) (r : Fin 1024) (q : Fin 1024) :
    ((cfg0.win 6).blk t).view.read (Elt Ideal) X (ix2 r q) = X (ix2 r q) := by
  have hi : win0_6.index t 0 = 0 ∧ win0_6.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_6.index t 0 * 1024 + 1 * r.val = r.val; rw [hi.1]; omega
  | ⟨1, _⟩ => show win0_6.index t 1 * 1024 + 1 * q.val = q.val; rw [hi.2]; omega

/-- Window 7 is its whole array. -/
theorem whole7 (X : Line.Idx → EReal) (t : Fin cfg0.N) (r : Fin 1) (q : Fin 1024) :
    ((cfg0.win 7).blk t).view.read (Elt Ideal) X (ix2 r q) = X (ix2 r q) := by
  have hi : win0_7.index t 0 = 0 ∧ win0_7.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_7.index t 0 * 1 + 1 * r.val = r.val; rw [hi.1]; omega
  | ⟨1, _⟩ => show win0_7.index t 1 * 1024 + 1 * q.val = q.val; rw [hi.2]; omega

/-- Window 8 is its whole array. -/
theorem whole8 (X : Line.Idx → EReal) (t : Fin cfg0.N) (r : Fin 1) (q : Fin 1024) :
    ((cfg0.win 8).blk t).view.read (Elt Ideal) X (ix2 r q) = X (ix2 r q) := by
  have hi : win0_8.index t 0 = 0 ∧ win0_8.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_8.index t 0 * 1 + 1 * r.val = r.val; rw [hi.1]; omega
  | ⟨1, _⟩ => show win0_8.index t 1 * 1024 + 1 * q.val = q.val; rw [hi.2]; omega

/-- Window 9 is its whole array. -/
theorem whole9 (X : Line.Idx → EReal) (t : Fin cfg0.N) (r : Fin 1) (q : Fin 1024) :
    ((cfg0.win 9).blk t).view.read (Elt Ideal) X (ix2 r q) = X (ix2 r q) := by
  have hi : win0_9.index t 0 = 0 ∧ win0_9.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_9.index t 0 * 1 + 1 * r.val = r.val; rw [hi.1]; omega
  | ⟨1, _⟩ => show win0_9.index t 1 * 1024 + 1 * q.val = q.val; rw [hi.2]; omega

/-- Window 10 moves down the rows. -/
theorem rows10 (X : Rows.Idx → EReal) (t : Fin cfg0.N) (r : Fin 512) (q : Fin 1024) :
    ((cfg0.win 10).blk t).view.read (Elt Ideal) X (ix2 r q) = X (ix2 (row t r) q) := by
  have hi : win0_10.index t 0 = t.val ∧ win0_10.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_10.index t 0 * 512 + 1 * r.val = 512 * t.val + r.val; rw [hi.1]; omega
  | ⟨1, _⟩ => show win0_10.index t 1 * 1024 + 1 * q.val = q.val; rw [hi.2]; omega

/-- Window 11 moves along the columns. -/
theorem cols11 (X : S1024x4096.Idx → EReal) (t : Fin cfg0.N) (r : Fin 1024) (q : Fin 512) :
    ((cfg0.win 11).blk t).view.read (Elt Ideal) X (ix2 r q) = X (ix2 r (row t q)) := by
  have hi : win0_11.index t 0 = 0 ∧ win0_11.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_11.index t 0 * 1024 + 1 * r.val = r.val; rw [hi.1]; omega
  | ⟨1, _⟩ => show win0_11.index t 1 * 512 + 1 * q.val = 512 * t.val + q.val; rw [hi.2]; omega

/-- Window 12 moves down the rows. -/
theorem rows12 (X : Rows.Idx → EReal) (t : Fin cfg0.N) (r : Fin 512) (q : Fin 1024) :
    ((cfg0.win 12).blk t).view.read (Elt Ideal) X (ix2 r q) = X (ix2 (row t r) q) := by
  have hi : win0_12.index t 0 = t.val ∧ win0_12.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_12.index t 0 * 512 + 1 * r.val = 512 * t.val + r.val; rw [hi.1]; omega
  | ⟨1, _⟩ => show win0_12.index t 1 * 1024 + 1 * q.val = q.val; rw [hi.2]; omega

/-- Window 13 moves down the rows. -/
theorem rows13 (X : S4096x1.Idx → EReal) (t : Fin cfg0.N) (r : Fin 512) (q : Fin 1) :
    ((cfg0.win 13).blk t).view.read (Elt Ideal) X (ix2 r q) = X (ix2 (row t r) q) := by
  have hi : win0_13.index t 0 = t.val ∧ win0_13.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_13.index t 0 * 512 + 1 * r.val = 512 * t.val + r.val; rw [hi.1]; omega
  | ⟨1, _⟩ => show win0_13.index t 1 * 1 + 1 * q.val = q.val; rw [hi.2]; omega

/-- Window 14 moves down the rows. -/
theorem rows14 (X : Rows.Idx → EReal) (t : Fin cfg0.N) (r : Fin 512) (q : Fin 1024) :
    ((cfg0.win 14).blk t).view.read (Elt Ideal) X (ix2 r q) = X (ix2 (row t r) q) := by
  have hi : win0_14.index t 0 = t.val ∧ win0_14.index t 1 = 0 := by
    rcases fin_N0 t with rfl | rfl | rfl | rfl | rfl | rfl | rfl | rfl <;> decide
  rw [View.read_apply]
  refine congrArg X (funext fun ax => Fin.ext ?_)
  match ax with
  | ⟨0, _⟩ => show win0_14.index t 0 * 512 + 1 * r.val = 512 * t.val + r.val; rw [hi.1]; omega
  | ⟨1, _⟩ => show win0_14.index t 1 * 1024 + 1 * q.val = q.val; rw [hi.2]; omega

/-- Window 15 moves along the columns. -/
theorem cols15 (X : S1024x4096.Idx → EReal) (t : Fin cfg0.N) (r : Fin 1024) (q : Fin 512) :
    ((cfg0.win 15).blk t).view.read (Elt Ideal) X (ix2 r q) = X (ix2 r (row t q)) := by
  have hi : win0_15.index t 0 = 0 ∧ win0_15.index t 1 = t.val := by
    rcases fin_N0 t with rfl | rfl | rfl | rfl | rfl | rfl | rfl | rfl <;> decide
  rw [View.read_apply]
  refine congrArg X (funext fun ax => Fin.ext ?_)
  match ax with
  | ⟨0, _⟩ => show win0_15.index t 0 * 1024 + 1 * r.val = r.val; rw [hi.1]; omega
  | ⟨1, _⟩ => show win0_15.index t 1 * 512 + 1 * q.val = 512 * t.val + q.val; rw [hi.2]; omega

theorem block0 (t : Fin cfg0.N) (r : Fin 512) (q : Fin 1024) : (iblk m c 0 t : Vec Ideal S512x1024 .bf16) (ix2 r q) = ain m c (ix2 (row t r) q) := by
  rw [← rows0 (ain m c) t r q]
  unfold iblk
  exact congrArg (fun X => ((cfg0.win 0).blk t).view.read (Elt Ideal) X (ix2 r q)) (V_ain m c)

theorem block1 (t : Fin cfg0.N) (r : Fin 512) (q : Fin 1024) :
    (iblk m c 1 t : Vec Ideal S1x512x1024 .f32) (ix3 (0 : Fin 1) r q) = sec m c (ix3 (5 : Fin 7) (row t r) q) := by
  rw [← rows1 (sec m c) t r q]
  unfold iblk
  exact congrArg (fun X => ((cfg0.win 1).blk t).view.read (Elt Ideal) X (ix3 (0 : Fin 1) r q)) (V_main_arg1 m c)

theorem block2 (t : Fin cfg0.N) (r : Fin 512) (q : Fin 1024) :
    (iblk m c 2 t : Vec Ideal S1x512x1024 .f32) (ix3 (0 : Fin 1) r q) = sec m c (ix3 (6 : Fin 7) (row t r) q) := by
  rw [← rows2 (sec m c) t r q]
  unfold iblk
  exact congrArg (fun X => ((cfg0.win 2).blk t).view.read (Elt Ideal) X (ix3 (0 : Fin 1) r q)) (V_main_arg1 m c)

theorem block3 (t : Fin cfg0.N) (r : Fin 512) (q : Fin 1024) : (iblk m c 3 t : Vec Ideal S512x1024 .f32) (ix2 r q) = bp m c (ix2 (row t r) q) := by
  rw [← rows3 (bp m c) t r q]
  unfold iblk
  exact congrArg (fun X => ((cfg0.win 3).blk t).view.read (Elt Ideal) X (ix2 r q)) (V_main_arg2 m c)

theorem block4 (t : Fin cfg0.N) (r : Fin 512) (q : Fin 1024) : (iblk m c 4 t : Vec Ideal S512x1024 .f32) (ix2 r q) = xr m c (ix2 (row t r) q) := by
  rw [← rows4 (xr m c) t r q]
  unfold iblk
  exact congrArg (fun X => ((cfg0.win 4).blk t).view.read (Elt Ideal) X (ix2 r q)) (V_main_arg3 m c)

theorem block5 (t : Fin cfg0.N) (r : Fin 1024) (q : Fin 1024) : (iblk m c 5 t : Vec Ideal S1024x1024 .bf16) (ix2 r q) = wa m c (ix2 r q) := by
  rw [← whole5 (wa m c) t r q]
  unfold iblk
  exact congrArg (fun X => ((cfg0.win 5).blk t).view.read (Elt Ideal) X (ix2 r q)) (V_wa m c)

theorem block6 (t : Fin cfg0.N) (r : Fin 1024) (q : Fin 1024) : (iblk m c 6 t : Vec Ideal S1024x1024 .bf16) (ix2 r q) = wo m c (ix2 r q) := by
  rw [← whole6 (wo m c) t r q]
  unfold iblk
  exact congrArg (fun X => ((cfg0.win 6).blk t).view.read (Elt Ideal) X (ix2 r q)) (V_wo m c)

theorem block7 (t : Fin cfg0.N) (r : Fin 1) (q : Fin 1024) : (iblk m c 7 t : Vec Ideal S1x1024 .f32) (ix2 r q) = ps m c (ix2 r q) := by
  rw [← whole7 (ps m c) t r q]
  unfold iblk
  exact congrArg (fun X => ((cfg0.win 7).blk t).view.read (Elt Ideal) X (ix2 r q)) (V_main_arg6 m c)

theorem block8 (t : Fin cfg0.N) (r : Fin 1) (q : Fin 1024) : (iblk m c 8 t : Vec Ideal S1x1024 .f32) (ix2 r q) = g1 m c (ix2 r q) := by
  rw [← whole8 (g1 m c) t r q]
  unfold iblk
  exact congrArg (fun X => ((cfg0.win 8).blk t).view.read (Elt Ideal) X (ix2 r q)) (V_main_arg7 m c)

theorem block9 (t : Fin cfg0.N) (r : Fin 1) (q : Fin 1024) : (iblk m c 9 t : Vec Ideal S1x1024 .f32) (ix2 r q) = b1 m c (ix2 r q) := by
  rw [← whole9 (b1 m c) t r q]
  unfold iblk
  exact congrArg (fun X => ((cfg0.win 9).blk t).view.read (Elt Ideal) X (ix2 r q)) (V_main_arg8 m c)

/-- The rows of a point's blocks. -/
theorem ain_row (t : Fin cfg0.N) (r : Fin 512) : inRow (iblk m c 0 t) r = rowAt (ain m c) (row t r) := funext fun j => block0 m c t r j
theorem sec5_row (t : Fin cfg0.N) (r : Fin 512) : secOf (iblk m c 1 t) r = secAt (sec m c) 5 (row t r) := funext fun j => block1 m c t r j
theorem sec6_row (t : Fin cfg0.N) (r : Fin 512) : secOf (iblk m c 2 t) r = secAt (sec m c) 6 (row t r) := funext fun j => block2 m c t r j
theorem bp_row (t : Fin cfg0.N) (r : Fin 512) : rowOf (iblk m c 3 t) r = rowAt (bp m c) (row t r) := funext fun j => block3 m c t r j
theorem xr_row (t : Fin cfg0.N) (r : Fin 512) : rowOf (iblk m c 4 t) r = rowAt (xr m c) (row t r) := funext fun j => block4 m c t r j
theorem wa_all (t : Fin cfg0.N) : matOf (iblk m c 5 t) = weight (wa m c) := funext fun k => funext fun j => block5 m c t k j
theorem wo_all (t : Fin cfg0.N) : matOf (iblk m c 6 t) = weight (wo m c) := funext fun k => funext fun j => block6 m c t k j
theorem ps_line (t : Fin cfg0.N) : lineOf (iblk m c 7 t) = lineAt (ps m c) := funext fun j => block7 m c t 0 j
theorem g1_line (t : Fin cfg0.N) : lineOf (iblk m c 8 t) = lineAt (g1 m c) := funext fun j => block8 m c t 0 j
theorem b1_line (t : Fin cfg0.N) : lineOf (iblk m c 9 t) = lineAt (b1 m c) := funext fun j => block9 m c t 0 j

/-- The merged and the residual row of the launch's arrays. -/
abbrev mergedAt (p : Fin 4096) : Fin 1024 → EReal := merged (ain m c) (sec m c) (bp m c) (wa m c) (ps m c) p
abbrev resAt (p : Fin 4096) : Fin 1024 → EReal := residual (ain m c) (sec m c) (bp m c) (xr m c) (wa m c) (wo m c) (ps m c) p

theorem merged_row (t : Fin cfg0.N) (r : Fin 512) :
    mergedRow (inRow (iblk m c 0 t) r) (secOf (iblk m c 1 t) r) (secOf (iblk m c 2 t) r) (rowOf (iblk m c 3 t) r) (lineOf (iblk m c 7 t))
      (matOf (iblk m c 5 t)) = mergedAt m c (row t r) := by
  rw [ain_row, sec5_row, sec6_row, bp_row, ps_line, wa_all]
  rfl

theorem res_row (t : Fin cfg0.N) (r : Fin 512) :
    resOf (iblk m c 0 t) (iblk m c 1 t) (iblk m c 2 t) (iblk m c 3 t) (iblk m c 4 t) (iblk m c 5 t) (iblk m c 6 t) (iblk m c 7 t) r
      = resAt m c (row t r) := by
  unfold resOf
  rw [ain_row, sec5_row, sec6_row, bp_row, ps_line, wa_all, xr_row, wo_all]
  rfl

/-- The point whose block holds row `r`. -/
def pt (r : Fin 4096) : Fin cfg0.N := ⟨r.val / 512, by have := r.isLt; rw [show cfg0.N = 8 from N_0]; omega⟩

/-- The recurrence branch at the end. -/
theorem final10 : (dats m 0 c).arrAt 10 cfg0.N = val_main_v0 (F := Ideal) (ain m c) (wa m c) := by
  refine (dats m 0 c).arrAt_eq_of_cover 10 _ (fun t _ => ?_) (fun i => ?_)
  · rw [Value.flushed10]
    funext j
    obtain ⟨r, q, rfl⟩ : ∃ (r : Fin 512) (q : Fin 1024), j = ix2 r q := ⟨j 0, j 1, eq_ix2 j⟩
    refine (stored_branch _ _ _ _ _ _ _ _ _ _ r q).trans ?_
    rw [ain_row, wa_all]
    exact (MixFRefIdeal.Grad.branch _ _ (row t r) q).symm.trans (rows10 _ t r q).symm
  · have h0 : (i 0 : Nat) < 4096 := (i 0).isLt
    have h1 : (i 1 : Nat) < 1024 := (i 1).isLt
    refine ⟨pt (i 0), flush0_10 _, ?_⟩
    have hi : win0_10.index (pt (i 0)) 0 = (pt (i 0)).val ∧ win0_10.index (pt (i 0)) 1 = 0 := by
      rcases fin_N0 (pt (i 0)) with h | h | h | h | h | h | h | h <;> rw [h] <;> decide
    have hp : (pt (i 0)).val = (i 0).val / 512 := rfl
    show i ∈ ((View.whole main_v3_0).slice (win0_10.rect (pt (i 0)))).set
    rw [View.set_slice_whole, Rect.mem_set_unit]
    intro ax
    match ax with
    | ⟨0, _⟩ => show win0_10.index (pt (i 0)) 0 * 512 ≤ (i 0 : Nat) ∧ (i 0 : Nat) < win0_10.index (pt (i 0)) 0 * 512 + 512
                rw [hi.1, hp]; omega
    | ⟨1, _⟩ => show win0_10.index (pt (i 0)) 1 * 1024 ≤ (i 1 : Nat) ∧ (i 1 : Nat) < win0_10.index (pt (i 0)) 1 * 1024 + 1024
                rw [hi.2]; omega

/-- The turned merged array at the end. -/
theorem final11 : (dats m 0 c).arrAt 11 cfg0.N = val_main_v49 (F := Ideal) (ain m c) (sec m c) (bp m c) (wa m c) (ps m c) := by
  refine (dats m 0 c).arrAt_eq_of_cover 11 _ (fun t _ => ?_) (fun i => ?_)
  · rw [Value.flushed11]
    funext j
    obtain ⟨r, q, rfl⟩ : ∃ (r : Fin 1024) (q : Fin 512), j = ix2 r q := ⟨j 0, j 1, eq_ix2 j⟩
    refine (stored_merged _ _ _ _ _ _ _ _ _ _ r q).trans ?_
    rw [merged_row]
    exact (MixFRefIdeal.Grad.result_merged_turned _ _ _ _ _ r (row t q)).symm.trans (cols11 _ t r q).symm
  · have h0 : (i 0 : Nat) < 1024 := (i 0).isLt
    have h1 : (i 1 : Nat) < 4096 := (i 1).isLt
    refine ⟨pt (i 1), flush0_11 _, ?_⟩
    have hi : win0_11.index (pt (i 1)) 0 = 0 ∧ win0_11.index (pt (i 1)) 1 = (pt (i 1)).val := by
      rcases fin_N0 (pt (i 1)) with h | h | h | h | h | h | h | h <;> rw [h] <;> decide
    have hp : (pt (i 1)).val = (i 1).val / 512 := rfl
    show i ∈ ((View.whole main_v3_1).slice (win0_11.rect (pt (i 1)))).set
    rw [View.set_slice_whole, Rect.mem_set_unit]
    intro ax
    match ax with
    | ⟨0, _⟩ => show win0_11.index (pt (i 1)) 0 * 1024 ≤ (i 0 : Nat) ∧ (i 0 : Nat) < win0_11.index (pt (i 1)) 0 * 1024 + 1024
                rw [hi.1]; omega
    | ⟨1, _⟩ => show win0_11.index (pt (i 1)) 1 * 512 ≤ (i 1 : Nat) ∧ (i 1 : Nat) < win0_11.index (pt (i 1)) 1 * 512 + 512
                rw [hi.2, hp]; omega

/-- The normed rows at the end. -/
theorem final12 : (dats m 0 c).arrAt 12 cfg0.N = val_main_v43 (F := Ideal) (ain m c) (sec m c) (bp m c) (xr m c) (wa m c) (wo m c) (ps m c) := by
  refine (dats m 0 c).arrAt_eq_of_cover 12 _ (fun t _ => ?_) (fun i => ?_)
  · rw [Value.flushed12]
    funext j
    obtain ⟨r, q, rfl⟩ : ∃ (r : Fin 512) (q : Fin 1024), j = ix2 r q := ⟨j 0, j 1, eq_ix2 j⟩
    refine (stored_normed _ _ _ _ _ _ _ _ _ _ r q).trans ?_
    rw [res_row]
    exact (MixFRefIdeal.Grad.result_normed _ _ _ _ _ _ _ (row t r) q).symm.trans (rows12 _ t r q).symm
  · have h0 : (i 0 : Nat) < 4096 := (i 0).isLt
    have h1 : (i 1 : Nat) < 1024 := (i 1).isLt
    refine ⟨pt (i 0), flush0_12 _, ?_⟩
    have hi : win0_12.index (pt (i 0)) 0 = (pt (i 0)).val ∧ win0_12.index (pt (i 0)) 1 = 0 := by
      rcases fin_N0 (pt (i 0)) with h | h | h | h | h | h | h | h <;> rw [h] <;> decide
    have hp : (pt (i 0)).val = (i 0).val / 512 := rfl
    show i ∈ ((View.whole main_v3_2).slice (win0_12.rect (pt (i 0)))).set
    rw [View.set_slice_whole, Rect.mem_set_unit]
    intro ax
    match ax with
    | ⟨0, _⟩ => show win0_12.index (pt (i 0)) 0 * 512 ≤ (i 0 : Nat) ∧ (i 0 : Nat) < win0_12.index (pt (i 0)) 0 * 512 + 512
                rw [hi.1, hp]; omega
    | ⟨1, _⟩ => show win0_12.index (pt (i 0)) 1 * 1024 ≤ (i 1 : Nat) ∧ (i 1 : Nat) < win0_12.index (pt (i 0)) 1 * 1024 + 1024
                rw [hi.2]; omega

/-- The rows' scales at the end. -/
theorem final13 : (dats m 0 c).arrAt 13 cfg0.N = val_main_v39 (F := Ideal) (ain m c) (sec m c) (bp m c) (xr m c) (wa m c) (wo m c) (ps m c) := by
  refine (dats m 0 c).arrAt_eq_of_cover 13 _ (fun t _ => ?_) (fun i => ?_)
  · rw [Value.flushed13]
    funext j
    obtain ⟨r, q, rfl⟩ : ∃ (r : Fin 512) (q : Fin 1), j = ix2 r q := ⟨j 0, j 1, eq_ix2 j⟩
    obtain rfl : q = 0 := Subsingleton.elim _ _
    refine (stored_scale _ _ _ _ _ _ _ _ _ _ r).trans ?_
    rw [res_row]
    exact (MixFRefIdeal.Grad.result_scale _ _ _ _ _ _ _ (row t r)).symm.trans (rows13 _ t r (0 : Fin 1)).symm
  · have h0 : (i 0 : Nat) < 4096 := (i 0).isLt
    have h1 : (i 1 : Nat) < 1 := (i 1).isLt
    refine ⟨pt (i 0), flush0_13 _, ?_⟩
    have hi : win0_13.index (pt (i 0)) 0 = (pt (i 0)).val ∧ win0_13.index (pt (i 0)) 1 = 0 := by
      rcases fin_N0 (pt (i 0)) with h | h | h | h | h | h | h | h <;> rw [h] <;> decide
    have hp : (pt (i 0)).val = (i 0).val / 512 := rfl
    show i ∈ ((View.whole main_v3_3).slice (win0_13.rect (pt (i 0)))).set
    rw [View.set_slice_whole, Rect.mem_set_unit]
    intro ax
    match ax with
    | ⟨0, _⟩ => show win0_13.index (pt (i 0)) 0 * 512 ≤ (i 0 : Nat) ∧ (i 0 : Nat) < win0_13.index (pt (i 0)) 0 * 512 + 512
                rw [hi.1, hp]; omega
    | ⟨1, _⟩ => show win0_13.index (pt (i 0)) 1 * 1 ≤ (i 1 : Nat) ∧ (i 1 : Nat) < win0_13.index (pt (i 0)) 1 * 1 + 1
                rw [hi.2]; omega

/-- The norm's output at the end. -/
theorem final14 : (dats m 0 c).arrAt 14 cfg0.N = val_main_v50 (F := Ideal) (ain m c) (sec m c) (bp m c) (xr m c) (wa m c) (wo m c) (ps m c) (g1 m c) (b1 m c) := by
  refine (dats m 0 c).arrAt_eq_of_cover 14 _ (fun t _ => ?_) (fun i => ?_)
  · rw [Value.flushed14]
    funext j
    obtain ⟨r, q, rfl⟩ : ∃ (r : Fin 512) (q : Fin 1024), j = ix2 r q := ⟨j 0, j 1, eq_ix2 j⟩
    refine (stored_out _ _ _ _ _ _ _ _ _ _ r q).trans ?_
    rw [res_row, g1_line, b1_line]
    exact (MixFRefIdeal.Grad.result_out _ _ _ _ _ _ _ _ _ (row t r) q).symm.trans (rows14 _ t r q).symm
  · have h0 : (i 0 : Nat) < 4096 := (i 0).isLt
    have h1 : (i 1 : Nat) < 1024 := (i 1).isLt
    refine ⟨pt (i 0), flush0_14 _, ?_⟩
    have hi : win0_14.index (pt (i 0)) 0 = (pt (i 0)).val ∧ win0_14.index (pt (i 0)) 1 = 0 := by
      rcases fin_N0 (pt (i 0)) with h | h | h | h | h | h | h | h <;> rw [h] <;> decide
    have hp : (pt (i 0)).val = (i 0).val / 512 := rfl
    show i ∈ ((View.whole main_v3_4).slice (win0_14.rect (pt (i 0)))).set
    rw [View.set_slice_whole, Rect.mem_set_unit]
    intro ax
    match ax with
    | ⟨0, _⟩ => show win0_14.index (pt (i 0)) 0 * 512 ≤ (i 0 : Nat) ∧ (i 0 : Nat) < win0_14.index (pt (i 0)) 0 * 512 + 512
                rw [hi.1, hp]; omega
    | ⟨1, _⟩ => show win0_14.index (pt (i 0)) 1 * 1024 ≤ (i 1 : Nat) ∧ (i 1 : Nat) < win0_14.index (pt (i 0)) 1 * 1024 + 1024
                rw [hi.2]; omega

/-- The norm's turned output at the end. -/
theorem final15 : (dats m 0 c).arrAt 15 cfg0.N = val_main_v52 (F := Ideal) (ain m c) (sec m c) (bp m c) (xr m c) (wa m c) (wo m c) (ps m c) (g1 m c) (b1 m c) := by
  refine (dats m 0 c).arrAt_eq_of_cover 15 _ (fun t _ => ?_) (fun i => ?_)
  · rw [Value.flushed15]
    funext j
    obtain ⟨r, q, rfl⟩ : ∃ (r : Fin 1024) (q : Fin 512), j = ix2 r q := ⟨j 0, j 1, eq_ix2 j⟩
    refine (stored_turned _ _ _ _ _ _ _ _ _ _ r q).trans ?_
    rw [res_row, g1_line, b1_line]
    exact (MixFRefIdeal.Grad.result_turned _ _ _ _ _ _ _ _ _ r (row t q)).symm.trans (cols15 _ t r q).symm
  · have h0 : (i 0 : Nat) < 1024 := (i 0).isLt
    have h1 : (i 1 : Nat) < 4096 := (i 1).isLt
    refine ⟨pt (i 1), flush0_15 _, ?_⟩
    have hi : win0_15.index (pt (i 1)) 0 = 0 ∧ win0_15.index (pt (i 1)) 1 = (pt (i 1)).val := by
      rcases fin_N0 (pt (i 1)) with h | h | h | h | h | h | h | h <;> rw [h] <;> decide
    have hp : (pt (i 1)).val = (i 1).val / 512 := rfl
    show i ∈ ((View.whole main_v3_5).slice (win0_15.rect (pt (i 1)))).set
    rw [View.set_slice_whole, Rect.mem_set_unit]
    intro ax
    match ax with
    | ⟨0, _⟩ => show win0_15.index (pt (i 1)) 0 * 1024 ≤ (i 0 : Nat) ∧ (i 0 : Nat) < win0_15.index (pt (i 1)) 0 * 1024 + 1024
                rw [hi.1]; omega
    | ⟨1, _⟩ => show win0_15.index (pt (i 1)) 1 * 512 ≤ (i 1 : Nat) ∧ (i 1 : Nat) < win0_15.index (pt (i 1)) 1 * 512 + 512
                rw [hi.2, hp]; omega

end Cert.MixFIdeal.Grad

end
-- ==== Proof.MixF.Claim.lean ====
/- The claims about the merge's forward call: both programs run, and the call's idealization ends with the arrays the reference's ends
   with. -/
module

public import proofs.«01_k».proof.Defs
public import proofs.«01_k».proof.Proof.MixF.Arrays
public import proofs.«01_k».proof.Proof.Gen.MixF.Frame
public import proofs.«01_k».proof.Proof.Gen.MixFRefIdeal.Run
public import Idealize.ShloMosaic.Lib.Quiescent

@[expose] public section

set_option maxRecDepth 16384

noncomputable section

namespace Cert.MixFClaim

open Idealize.ShloMosaic Idealize.ShloMosaic.TcCoe Idealize.SL.Sem
open Cert.MixFIdeal.Gen (dats)

theorem frame_program : Cert.quiescent_MixF := fun m ρ _ => Cert.MixF.Gen.frame m ρ

theorem frame_ideal : Cert.quiescent_MixFIdeal := fun m ρ _ => Cert.MixFIdeal.Gen.frame m ρ

/-- The reference's run leaves its arguments alone, and it has no semaphore. -/
theorem frame_reference : Cert.quiescent_MixFRefIdeal := fun m ρ _ =>
  (θ_run Cert.MixFRefIdeal.defs _ _).mono
    (fun r h => ⟨fun c => (h c).2.2.2.2.2.2, sem_eq_zero_of_no_sems rfl r.2⟩) (Cert.MixFRefIdeal.Value.run m ρ)

/-- Result by result. -/
theorem equal : Cert.algebraic_MixFIdeal_MixFRefIdeal := by
  intro m g m' g' _ hargs
  refine ⟨fun c => (dats m 0 c).arrAt 10 Cert.MixFIdeal.cfg0.N, fun c => (dats m 0 c).arrAt 11 Cert.MixFIdeal.cfg0.N, fun c => (dats m 0 c).arrAt 12 Cert.MixFIdeal.cfg0.N, fun c => (dats m 0 c).arrAt 13 Cert.MixFIdeal.cfg0.N, fun c => (dats m 0 c).arrAt 14 Cert.MixFIdeal.cfg0.N, fun c => (dats m 0 c).arrAt 15 Cert.MixFIdeal.cfg0.N,
    (θ_run Cert.MixFIdeal.defs _ _).mono (fun _ h => h) (Cert.MixFIdeal.Value.run_blocks m g),
    (θ_run Cert.MixFRefIdeal.defs _ _).mono (fun r h c => ?_) (Cert.MixFRefIdeal.Value.run m' g')⟩
  obtain ⟨a0, a1, a2, a3, a4, a5, a6, a7, a8⟩ := hargs c
  obtain ⟨h0, h1, h2, h3, h4, h5, hargs'⟩ := h c
  refine ⟨h0.trans ?_, h1.trans ?_, h2.trans ?_, h3.trans ?_, h4.trans ?_, h5.trans ?_, hargs'⟩
  · refine (Cert.MixFRefIdeal.Read.val_main_v0_eq _ _).trans ?_
    rw [a0, a4]
    exact (Cert.MixFIdeal.Grad.final10 m c).symm
  · refine (Cert.MixFRefIdeal.Read.val_main_v49_eq _ _ _ _ _).trans ?_
    rw [a0, a1, a2, a4, a6]
    exact (Cert.MixFIdeal.Grad.final11 m c).symm
  · refine (Cert.MixFRefIdeal.Read.val_main_v43_eq _ _).trans ?_
    rw [a0, a1, a2, a3, a4, a5, a6]
    exact (Cert.MixFIdeal.Grad.final12 m c).symm
  · refine (Cert.MixFRefIdeal.Read.val_main_v39_eq _ _).trans ?_
    rw [a0, a1, a2, a3, a4, a5, a6]
    exact (Cert.MixFIdeal.Grad.final13 m c).symm
  · refine (Cert.MixFRefIdeal.Read.val_main_v50_eq _ _).trans ?_
    rw [a0, a1, a2, a3, a4, a5, a6, a7, a8]
    exact (Cert.MixFIdeal.Grad.final14 m c).symm
  · refine (Cert.MixFRefIdeal.Read.val_main_v52_eq _ _).trans ?_
    rw [a0, a1, a2, a3, a4, a5, a6, a7, a8]
    exact (Cert.MixFIdeal.Grad.final15 m c).symm

end Cert.MixFClaim

end
-- ==== Proof.Dw.Parts.lean ====
/- The projection's weight gradient where some column sections are already there: the sections a call writes and those it keeps, in
   plain mathematics over the extended reals. -/
module

public import proofs.«01_k».proof.Proof.Dw.Math

@[expose] public section

noncomputable section

namespace Cert.DwMath

open Idealize.ShloMosaic Idealize.ShloMosaic.ValueIdx
open scoped BigOperators

abbrev Pair : Shape := ⟨3, ![2, 4096, 1024]⟩
abbrev Seven : Shape := ⟨2, ![1024, 7168]⟩
abbrev Three : Shape := ⟨2, ![1024, 3072]⟩

/-- Column `q` of the two gates' sections laid side by side. -/
def beside (g : Pair.Idx → EReal) (t : Fin 4096) (q : Fin 2048) : EReal :=
  g (ix3 (⟨q.val / 1024, by have := q.isLt; omega⟩ : Fin 2) t (⟨q.val % 1024, by omega⟩ : Fin 1024))

/-- Input column `p` against column `q` of the gates' output gradient. -/
def gates (x : Rows.Idx → EReal) (g : Pair.Idx → EReal) (p : Fin 1024) (q : Fin 2048) : EReal :=
  ∑ t : Fin 4096, x (ix2 t p) * beside g t q

/-- Input column `p` against column `q` of the pooled branch's output gradient. -/
def pooled (x g : Rows.Idx → EReal) (p q : Fin 1024) : EReal := ∑ t : Fin 4096, x (ix2 t p) * g (ix2 t q)

/-- Five sections kept, two new. -/
def withGates (x : Rows.Idx → EReal) (g : Pair.Idx → EReal) (w : Seven.Idx → EReal) (p : Fin 1024) (q : Fin 7168) : EReal :=
  if h : q.val < 5120 then w (ix2 p q) else gates x g p ⟨q.val - 5120, by have := q.isLt; omega⟩

/-- Four sections kept, one new, two kept. -/
def withPool (x g : Rows.Idx → EReal) (w : Seven.Idx → EReal) (p : Fin 1024) (q : Fin 7168) : EReal :=
  if h : 4096 ≤ q.val ∧ q.val < 5120 then pooled x g p ⟨q.val - 4096, by omega⟩ else w (ix2 p q)

/-- The rounded copy of the last three sections: one new, two kept. -/
def withPoolRounded (x g : Rows.Idx → EReal) (w : Three.Idx → EReal) (p : Fin 1024) (q : Fin 3072) : EReal :=
  if h : q.val < 1024 then pooled x g p ⟨q.val, h⟩ else w (ix2 p q)

end Cert.DwMath

end
-- ==== Proof.DwGate.Block.lean ====
/- What one grid point of the gates' weight gradient kernel stores, read at an index over the extended reals. -/
module

public import proofs.«01_k».proof.Proof.Dw.Parts
public import proofs.«01_k».proof.Proof.Gen.DwGateIdeal.Frame
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwGateIdeal.Block

open Cert.DwGateIdeal Cert.DwGateIdeal.Gen
open Idealize.ShloMosaic Idealize.ShloMosaic.TcCoe Idealize.ShloMosaic.Tactic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

theorem hz3 : (![0, 0, 0] : Fin 3 → Nat) = fun _ => 0 := funext fun a => by fin_cases a <;> rfl

/-- The product over all 4096 rows. -/
theorem product (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ t : Fin 4096, a (ix2 p t) * b (ix2 t q) := by
  refine (Ideal.matmul_plain_apply (M := 1024) (K := 4096) (N := 512) none a b _ p q).trans ?_
  rw [constant_apply, zero_word, zero_add]

variable (c : Dev nD) (i : grid0.Coords) (a1 : Memref sig .tc .vmem S1024x4096 .bf16) (h1 : a1.IsWhole) (a2 : Memref sig .tc .vmem S1x4096x512 .bf16) (h2 : a2.IsWhole) (a4 : Memref sig .tc .vmem S8x128 .f32) (h4 : a4.IsWhole) (a5 : Memref sig .tc .vmem S1024x512 .f32) (h5 : a5.IsWhole) (a6 : Memref sig .tc .vmem S1024x512 .bf16) (h6 : a6.IsWhole)
  (x0 : Vec Ideal S1024x4096 .bf16) (x1 : Vec Ideal S1x4096x512 .bf16) (x2 : Vec Ideal S8x128 .f32)

/-- The value the store holds. -/
theorem value (p : Fin 1024) (q : Fin 512) : k0_pay1 x1 x0 (ix2 p q) = ∑ t : Fin 4096, x0 (ix2 p t) * x1 (ix3 (0 : Fin 1) t q) := by
  unfold k0_pay1
  rw [shapeCast_self]
  refine (product _ _ p q).trans (Finset.sum_congr rfl fun t _ => ?_)
  rw [shapeCast_1ab_ab_apply]

/-- The full-precision result's block is the stored value. -/
theorem out_3 : out0_A_3 c i a1 h1 a2 h2 a4 h4 a5 h5 a6 h6 x0 x1 x2 = k0_pay1 x1 x0 := by
  unfold out0_A_3
  rw [View.read_writes_eq_canon _ _ _ (cover0_A_3 c i a1 h1 a2 h2 a4 h4 a5 h5 a6 h6 x0 x1 x2)]
  unfold kernelRun0_A
  dsimp only
  sl_unfold_words
  simp only [View.readAt_eq_ld, h1.read_unread, h2.read_unread, View.ld_unit_zero (S := S1x4096x512) hz3, View.ld_unit_zero (S := S1024x4096) hz2]
  exact View.canon_unit_zero (S := S1024x512) hz2 _ _

/-- At an index. -/
theorem stored_wide (p : Fin 1024) (q : Fin 512) :
    out0_A_3 c i a1 h1 a2 h2 a4 h4 a5 h5 a6 h6 x0 x1 x2 (ix2 p q) = ∑ t : Fin 4096, x0 (ix2 p t) * x1 (ix3 (0 : Fin 1) t q) := by
  rw [out_3]
  exact value x0 x1 p q

end Cert.DwGateIdeal.Block

end
-- ==== Proof.DwGate.Reference.lean ====
/- The reference of the gates' weight gradient, read at an index over the extended reals. -/
module

public import proofs.«01_k».proof.Proof.Dw.Parts
public import proofs.«01_k».proof.Proof.Gen.DwGateRefIdeal.Read
public import Idealize.ShloMosaic.Lib.ValueIdx
public import Idealize.ShloMosaic.Lib.Pointwise.SelectCore

@[expose] public section

set_option maxRecDepth 16384

noncomputable section

namespace Cert.DwGateRefIdeal.Grad

open Cert.DwGateRefIdeal Cert.DwGateRefIdeal.Read
open Idealize.ShloMosaic hiding ix1 ix2 ix3 eq_ix1 eq_ix2 eq_ix3
open Idealize.ShloMosaic.ValueIdx
open Cert.DwMath
open scoped BigOperators

variable (x0 : Rows.Idx → EReal) (x1 : Pair.Idx → EReal) (x2 : Seven.Idx → EReal)

/-- An element of a section that the reshape keeps. -/
theorem keep (f : Pair.Idx → EReal) (i j : Pair.Idx)
    (h0 : (i 0).val = (j 0).val) (h1 : (i 1).val = (j 1).val) (h2 : (i 2).val = (j 2).val) : f i = f j := by
  refine congrArg f (funext fun ax => Fin.ext ?_)
  match ax with
  | ⟨0, _⟩ => exact h0
  | ⟨1, _⟩ => exact h1
  | ⟨2, _⟩ => exact h2

theorem flat_row (p : Fin 4096) (k : Fin 1024) : (p.val * 1024 + k.val) / 1024 % 4096 = p.val := by
  have := p.isLt; have := k.isLt; omega

theorem flat_col (p : Fin 4096) (k : Fin 1024) : (p.val * 1024 + k.val) % 1024 = k.val := by
  have := k.isLt; omega

theorem section0 (p : Fin 4096) (k : Fin 1024) : val_main_v1 (F := Ideal) x1 (ix2 p k) = x1 (ix3 (0 : Fin 2) p k) := by
  rw [val_main_v1_apply, val_main_v0_apply]
  exact keep x1 _ _ rfl (flat_row p k) (flat_col p k)

theorem section1 (p : Fin 4096) (k : Fin 1024) : val_main_v3 (F := Ideal) x1 (ix2 p k) = x1 (ix3 (1 : Fin 2) p k) := by
  rw [val_main_v3_apply, val_main_v2_apply]
  exact keep x1 _ _ rfl (flat_row p k) (flat_col p k)

/-- An index of a matrix from its two coordinates. -/
theorem found {a b : Nat} (f : (⟨2, ![a, b]⟩ : Shape).Idx → EReal) (i : (⟨2, ![a, b]⟩ : Shape).Idx) (p : Fin a) (k : Fin b)
    (h0 : (i 0).val = p.val) (h1 : (i 1).val = k.val) : f i = f (ix2 p k) :=
  congrArg f ((eq_ix2 i).trans (congrArg₂ ix2 (Fin.ext h0) (Fin.ext h1)))

/-- Column `q`'s section and its place there. -/
theorem placed (n : Fin 2) (k : Fin 1024) (t : Fin 4096) (q : Fin 2048) (h : q.val = 1024 * n.val + k.val) : beside x1 t q = x1 (ix3 n t k) := by
  unfold beside
  have hk := k.isLt
  exact keep x1 _ _ (show q.val / 1024 = n.val by omega) rfl (show q.val % 1024 = k.val by omega)

/-- The two sections lie side by side. -/
theorem joined (t : Fin 4096) (q : Fin 2048) : val_main_v4 (F := Ideal) x1 (ix2 t q) = beside x1 t q := by
  have hq := q.isLt
  unfold val_main_v4
  refine (concatenate_cons_apply _ _ _ _ _ _ _).trans ((concatenateAt_cons _ _ _ _ _ _ _ _).trans ?_)
  by_cases h0 : q.val < 1024
  · refine (dif_pos h0).trans ?_
    refine (found (val_main_v1 (F := Ideal) x1) _ t ⟨q.val, h0⟩ ?_ ?_).trans ((section0 x1 t _).trans (placed x1 0 _ t q ?_).symm)
    · rfl
    · rfl
    · show q.val = 1024 * 0 + q.val; omega
  refine (dif_neg h0).trans ((concatenateAt_singleton _ _ _ _ _ _).trans ?_)
  have h1 : q.val - 1024 < 1024 := by omega
  refine (found (val_main_v3 (F := Ideal) x1) _ t ⟨q.val - 1024, h1⟩ ?_ ?_).trans ((section1 x1 t _).trans (placed x1 1 _ t q ?_).symm)
  · rfl
  · rfl
  · show q.val = 1024 * 1 + (q.val - 1024); omega

/-- The new sections. -/
theorem fresh (p : Fin 1024) (q : Fin 2048) : val_main_v8 (F := Ideal) x0 x1 (ix2 p q) = gates x0 x1 p q := by
  rw [val_main_v8_apply, show idx_main_v8 (ix2 p q) = ix2 q p from eq_ix2 _, val_main_v7_apply]
  refine Finset.sum_congr rfl fun t _ => ?_
  rw [show lidx_main_v7 (ix2 q p) t = ix2 t q from eq_ix2 _, show ridx_main_v7 (ix2 q p) t = ix2 t p from eq_ix2 _, joined]
  exact mul_comm _ _

/-- The reference's result. -/
theorem result (p : Fin 1024) (q : Fin 7168) : val_main_v10 (F := Ideal) x0 x1 x2 (ix2 p q) = withGates x0 x1 x2 p q := by
  have hq := q.isLt
  unfold val_main_v10 withGates
  refine (concatenate_cons_apply _ _ _ _ _ _ _).trans ((concatenateAt_cons _ _ _ _ _ _ _ _).trans ?_)
  by_cases h0 : q.val < 5120
  · refine (dif_pos h0).trans (Eq.trans ?_ (dif_pos h0).symm)
    refine (found (val_main_v9 (F := Ideal) x2) _ p ⟨q.val, h0⟩ ?_ ?_).trans ?_
    · rfl
    · rfl
    · rw [val_main_v9_apply]
      refine found x2 _ p q ?_ ?_
      · rfl
      · rfl
  refine (dif_neg h0).trans ((concatenateAt_singleton _ _ _ _ _ _).trans (Eq.trans ?_ (dif_neg h0).symm))
  refine (found (val_main_v8 (F := Ideal) x0 x1) _ p ⟨q.val - 5120, by omega⟩ ?_ ?_).trans (fresh x0 x1 p _)
  · rfl
  · rfl

end Cert.DwGateRefIdeal.Grad

end
-- ==== Proof.DwGate.Arrays.lean ====
/- The gates' weight gradient call over the extended reals: what its windows read, and the array it leaves, the reference's value. -/
module

public import proofs.«01_k».proof.Proof.DwGate.Block
public import proofs.«01_k».proof.Proof.DwGate.Reference
public import proofs.«01_k».proof.Proof.Gen.DwGateIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwGateIdeal.Grad

open Cert.DwGateIdeal Cert.DwGateIdeal.Gen Cert.DwGateIdeal.Block Cert.DwMath
open Idealize.ShloMosaic hiding ix1 ix2 ix3 eq_ix1 eq_ix2 eq_ix3
open Idealize.ShloMosaic.ValueIdx
open Idealize.ShloMosaic.TcCoe Idealize.SL.Sem
open Cert.DwGateRefIdeal.Read (val_main_v10)
open scoped BigOperators

variable (m : (ℓ : Loc nD τ sig) → Buf (Elt Ideal) ℓ) (c : Dev nD)

/-- The launch's arrays. -/
abbrev x : Rows.Idx → EReal := m ((c : Thread nD τ).loc main_arg0)
abbrev g : Pair.Idx → EReal := m ((c : Thread nD τ).loc main_arg1)
abbrev w : Seven.Idx → EReal := m ((c : Thread nD τ).loc main_arg2)

/-- The first operand is the input turned. -/
theorem V_x (p : Fin 1024) (t : Fin 4096) : V m c main_v1 (ix2 p t) = x m c (ix2 t p) := by
  have h : V m c main_v1 = transpose (α := EReal) S1024x4096 [1, 0] (x m c) (by decide) := by
    unfold V; after_reads_simp; rfl
  rw [h]
  exact transpose_ix2_apply _ _ _ _

/-- The second operand. -/
theorem V_g : V m c main_v2 = g m c := by
  unfold V; after_reads_simp; rfl

/-- The result's buffer before the first point: the sections that are already there. -/
theorem V_w : V m c main_v3_0 = w m c := by
  unfold V; after_reads_simp; rfl

/-- The gates' column that column `q` of point `t`'s block is. -/
def col (t : Fin cfg0.N) (q : Fin 512) : Fin 2048 :=
  ⟨512 * t.val + q.val, by have h : t.val < 4 := lt_of_lt_of_eq t.isLt N_0; have := q.isLt; omega⟩

/-- The same column in the array of all seven sections. -/
def at7 (t : Fin cfg0.N) (q : Fin 512) : Fin 7168 :=
  ⟨5120 + (512 * t.val + q.val), by have h : t.val < 4 := lt_of_lt_of_eq t.isLt N_0; have := q.isLt; omega⟩

theorem whole0 (X : Turned.Idx → EReal) (t : Fin cfg0.N) (p : Fin 1024) (k : Fin 4096) :
    ((cfg0.win 0).blk t).view.read (Elt Ideal) X (ix2 p k) = X (ix2 p k) := by
  have hi : win0_0.index t 0 = 0 ∧ win0_0.index t 1 = 0 := by
    rcases fin_N0 t with rfl | rfl | rfl | rfl <;> decide
  rw [View.read_apply]
  refine congrArg X (funext fun ax => Fin.ext ?_)
  match ax with
  | ⟨0, _⟩ => show win0_0.index t 0 * 1024 + 1 * p.val = p.val; rw [hi.1]; omega
  | ⟨1, _⟩ => show win0_0.index t 1 * 4096 + 1 * k.val = k.val; rw [hi.2]; omega

theorem columns1 (X : Pair.Idx → EReal) (t : Fin cfg0.N) (k : Fin 4096) (q : Fin 512) :
    ((cfg0.win 1).blk t).view.read (Elt Ideal) X (ix3 (0 : Fin 1) k q) = beside X k (col t q) := by
  have hi : win0_1.index t 0 = t.val / 2 ∧ win0_1.index t 1 = 0 ∧ win0_1.index t 2 = t.val % 2 := by
    rcases fin_N0 t with rfl | rfl | rfl | rfl <;> decide
  have hq := q.isLt
  rw [View.read_apply]
  unfold beside
  refine congrArg X (funext fun ax => Fin.ext ?_)
  match ax with
  | ⟨0, _⟩ => show win0_1.index t 0 * 1 + 1 * 0 = (512 * t.val + q.val) / 1024; rw [hi.1]; omega
  | ⟨1, _⟩ => show win0_1.index t 1 * 4096 + 1 * k.val = k.val; rw [hi.2.1]; omega
  | ⟨2, _⟩ => show win0_1.index t 2 * 512 + 1 * q.val = (512 * t.val + q.val) % 1024; rw [hi.2.2]; omega

theorem index3 (t : Fin cfg0.N) : win0_3.index t 0 = 0 ∧ win0_3.index t 1 = 10 + t.val := by
  rcases fin_N0 t with rfl | rfl | rfl | rfl <;> decide

theorem columns3 (X : Seven.Idx → EReal) (t : Fin cfg0.N) (p : Fin 1024) (q : Fin 512) :
    ((cfg0.win 3).blk t).view.read (Elt Ideal) X (ix2 p q) = X (ix2 p (at7 t q)) := by
  have hi := index3 t
  rw [View.read_apply]
  refine congrArg X (funext fun ax => Fin.ext ?_)
  match ax with
  | ⟨0, _⟩ => show win0_3.index t 0 * 1024 + 1 * p.val = p.val; rw [hi.1]; omega
  | ⟨1, _⟩ => show win0_3.index t 1 * 512 + 1 * q.val = 5120 + (512 * t.val + q.val); rw [hi.2]; omega

theorem block0 (t : Fin cfg0.N) (p : Fin 1024) (k : Fin 4096) : (iblk m c 0 t : Vec Ideal S1024x4096 .bf16) (ix2 p k) = x m c (ix2 k p) := by
  rw [← V_x m c p k]
  unfold iblk
  exact whole0 _ t p k

theorem block1 (t : Fin cfg0.N) (k : Fin 4096) (q : Fin 512) : (iblk m c 1 t : Vec Ideal S1x4096x512 .bf16) (ix3 (0 : Fin 1) k q) = beside (g m c) k (col t q) := by
  rw [← columns1 (g m c) t k q]
  unfold iblk
  exact congrArg (fun X => ((cfg0.win 1).blk t).view.read (Elt Ideal) X (ix3 (0 : Fin 1) k q)) (V_g m c)

/-- A point's two blocks. -/
abbrev left (t : Fin cfg0.N) : S1024x4096.Idx → EReal := iblk m c 0 t
abbrev right (t : Fin cfg0.N) : S1x4096x512.Idx → EReal := iblk m c 1 t

/-- The sums over a point's blocks are the gradient's. -/
theorem sum_at (t : Fin cfg0.N) (p : Fin 1024) (q : Fin 512) :
    ∑ k : Fin 4096, left m c t (ix2 p k) * right m c t (ix3 (0 : Fin 1) k q) = gates (x m c) (g m c) p (col t q) :=
  Finset.sum_congr rfl fun k _ => congrArg₂ (· * ·) (block0 m c t p k) (block1 m c t k q)

/-- A column of the kept sections is in no point's block. -/
theorem outside (p : Fin 1024) (q : Fin 7168) (hq : q.val < 5120) (t : Fin cfg0.N) :
    (ix2 p q : Seven.Idx) ∉ ((cfg0.win 3).blk t).view.set := by
  intro hm
  change (ix2 p q : Seven.Idx) ∈ ((View.whole main_v3_0).slice (win0_3.rect t)).set at hm
  rw [View.set_slice_whole, Rect.mem_set_unit] at hm
  have h1 : win0_3.index t 1 * 512 ≤ q.val := (hm 1).1
  rw [(index3 t).2] at h1
  omega

/-- What is at the end in a column that point `t` writes. -/
theorem written (t : Fin cfg0.N) (p : Fin 1024) (q : Fin 512) :
    ((dats m 0 c).arrAt 3 cfg0.N : Seven.Idx → EReal) (ix2 p (at7 t q)) = gates (x m c) (g m c) p (col t q) := by
  refine (columns3 ((dats m 0 c).arrAt 3 cfg0.N) t p q).symm.trans ?_
  refine (congrFun (Value.blocks3 m c t (flush0_3 t)) (ix2 p q)).trans ?_
  rw [Value.flushed3_A]
  exact (stored_wide _ _ _ _ _ _ _ _ _ _ _ _ _ _ _ p q).trans (sum_at m c t p q)

/-- The result at the end. -/
theorem final3 : (dats m 0 c).arrAt 3 cfg0.N = val_main_v10 (F := Ideal) (x m c) (g m c) (w m c) := by
  funext j
  obtain ⟨p, q, rfl⟩ : ∃ (p : Fin 1024) (q : Fin 7168), j = ix2 p q := ⟨j 0, j 1, eq_ix2 j⟩
  refine Eq.trans ?_ (DwGateRefIdeal.Grad.result (x m c) (g m c) (w m c) p q).symm
  have hq := q.isLt
  unfold withGates
  by_cases h : q.val < 5120
  · refine Eq.trans ?_ (dif_pos h).symm
    exact (Value.entry3 m c (ix2 p q) (fun t _ => outside p q h t)).trans (congrFun (V_w m c) (ix2 p q))
  · refine Eq.trans ?_ (dif_neg h).symm
    have hd : (q.val - 5120) / 512 < cfg0.N := by rw [show cfg0.N = 4 from N_0]; omega
    have hr : (q.val - 5120) % 512 < 512 := by omega
    have e := written m c ⟨(q.val - 5120) / 512, hd⟩ p ⟨(q.val - 5120) % 512, hr⟩
    rw [show at7 ⟨(q.val - 5120) / 512, hd⟩ ⟨(q.val - 5120) % 512, hr⟩ = q from
        Fin.ext (show 5120 + (512 * ((q.val - 5120) / 512) + (q.val - 5120) % 512) = q.val by omega),
      show col ⟨(q.val - 5120) / 512, hd⟩ ⟨(q.val - 5120) % 512, hr⟩ = ⟨q.val - 5120, by omega⟩ from
        Fin.ext (show 512 * ((q.val - 5120) / 512) + (q.val - 5120) % 512 = q.val - 5120 by omega)] at e
    exact e

end Cert.DwGateIdeal.Grad

end
-- ==== Proof.DwGate.Claim.lean ====
/- The claims about the gates' weight gradient call: both programs run, and the call's idealization ends with the array the reference's ends with. -/
module

public import proofs.«01_k».proof.Defs
public import proofs.«01_k».proof.Proof.DwGate.Arrays
public import proofs.«01_k».proof.Proof.Gen.DwGate.Frame
public import proofs.«01_k».proof.Proof.Gen.DwGateRefIdeal.Run
public import Idealize.ShloMosaic.Lib.Quiescent

@[expose] public section

set_option maxRecDepth 16384

noncomputable section

namespace Cert.DwGateClaim

open Idealize.ShloMosaic Idealize.ShloMosaic.TcCoe Idealize.SL.Sem
open Cert.DwGateIdeal.Gen (dats)

theorem frame_program : Cert.quiescent_DwGate := fun m ρ _ => Cert.DwGate.Gen.frame m ρ

theorem frame_ideal : Cert.quiescent_DwGateIdeal := fun m ρ _ => Cert.DwGateIdeal.Gen.frame m ρ

/-- The reference's run leaves its arguments alone, and it has no semaphore. -/
theorem frame_reference : Cert.quiescent_DwGateRefIdeal := fun m ρ _ =>
  (θ_run Cert.DwGateRefIdeal.defs _ _).mono
    (fun r h => ⟨fun c => (h c).2, sem_eq_zero_of_no_sems rfl r.2⟩) (Cert.DwGateRefIdeal.Value.run m ρ)

/-- The full-precision result. -/
theorem equal : Cert.algebraic_DwGateIdeal_DwGateRefIdeal := by
  intro m g m' g' _ hargs
  refine ⟨fun c => (dats m 0 c).arrAt 3 Cert.DwGateIdeal.cfg0.N,
    (θ_run Cert.DwGateIdeal.defs _ _).mono (fun _ h c => ⟨(h c).1, (h c).2.2⟩) (Cert.DwGateIdeal.Value.run_blocks m g),
    (θ_run Cert.DwGateRefIdeal.defs _ _).mono (fun r h c => ?_) (Cert.DwGateRefIdeal.Value.run m' g')⟩
  obtain ⟨a0, a1, a2, a3⟩ := hargs c
  obtain ⟨h0, hargs'⟩ := h c
  refine ⟨h0.trans ?_, hargs'⟩
  · refine (Cert.DwGateRefIdeal.Read.val_main_v10_eq _ _ _).trans ?_
    rw [a0, a1, a2]
    exact (Cert.DwGateIdeal.Grad.final3 m c).symm

end Cert.DwGateClaim

end
-- ==== Proof.DwFive.Block.lean ====
/- What one grid point of the pooled branch's weight gradient kernel stores, read at an index over the extended reals. -/
module

public import proofs.«01_k».proof.Proof.Dw.Parts
public import proofs.«01_k».proof.Proof.Gen.DwFiveIdeal.Frame
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.Pipeline.ValueKit.Tiles
public import Idealize.ShloMosaic.PureOps.Ideal.Laws

@[expose] public section

set_option maxRecDepth 16384

noncomputable section

namespace Cert.DwFiveIdeal.Block

open Cert.DwFiveIdeal Cert.DwFiveIdeal.Gen
open Idealize.ShloMosaic Idealize.ShloMosaic.TcCoe Idealize.ShloMosaic.Tactic Idealize.ShloMosaic.ValueIdx
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl

/-- The product over all 4096 rows. -/
theorem product (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ t : Fin 4096, a (ix2 p t) * b (ix2 t q) := by
  refine (Ideal.matmul_plain_apply (M := 1024) (K := 4096) (N := 512) none a b _ p q).trans ?_
  rw [constant_apply, zero_word, zero_add]

variable (c : Dev nD) (i : grid0.Coords) (a1 : Memref sig .tc .vmem S1024x4096 .bf16) (h1 : a1.IsWhole) (a2 : Memref sig .tc .vmem S4096x512 .bf16) (h2 : a2.IsWhole) (a5 : Memref sig .tc .vmem S1024x512 .f32) (h5 : a5.IsWhole) (a6 : Memref sig .tc .vmem S1024x512 .bf16) (h6 : a6.IsWhole)
  (x0 : Vec Ideal S1024x4096 .bf16) (x1 : Vec Ideal S4096x512 .bf16)

/-- The value the store holds. -/
theorem value (p : Fin 1024) (q : Fin 512) : k0_pay1 x1 x0 (ix2 p q) = ∑ t : Fin 4096, x0 (ix2 p t) * x1 (ix2 t q) := by
  unfold k0_pay1
  rw [shapeCast_self, shapeCast_self]
  exact product _ _ p q

/-- The full-precision result's block is the stored value. -/
theorem out_2 : out0_A_2 c i a1 h1 a2 h2 a5 h5 a6 h6 x0 x1 = k0_pay1 x1 x0 := by
  unfold out0_A_2
  rw [View.read_writes_eq_canon _ _ _ (cover0_A_2 c i a1 h1 a2 h2 a5 h5 a6 h6 x0 x1)]
  unfold kernelRun0_A
  dsimp only
  sl_unfold_words
  simp only [View.readAt_eq_ld, h1.read_unread, h2.read_unread, View.ld_unit_zero (S := S4096x512) hz2, View.ld_unit_zero (S := S1024x4096) hz2]
  exact View.canon_unit_zero (S := S1024x512) hz2 _ _

/-- At an index. -/
theorem stored_wide (p : Fin 1024) (q : Fin 512) :
    out0_A_2 c i a1 h1 a2 h2 a5 h5 a6 h6 x0 x1 (ix2 p q) = ∑ t : Fin 4096, x0 (ix2 p t) * x1 (ix2 t q) := by
  rw [out_2]
  exact value x0 x1 p q

/-- The rounded result's block is the stored value. -/
theorem out_3 : out0_A_3 c i a1 h1 a2 h2 a5 h5 a6 h6 x0 x1 = k0_pay2 x1 x0 := by
  unfold out0_A_3
  rw [View.read_writes_eq_canon _ _ _ (cover0_A_3 c i a1 h1 a2 h2 a5 h5 a6 h6 x0 x1)]
  unfold kernelRun0_A
  dsimp only
  sl_unfold_words
  simp only [View.readAt_eq_ld, h1.read_unread, h2.read_unread, View.ld_unit_zero (S := S4096x512) hz2, View.ld_unit_zero (S := S1024x4096) hz2]
  exact View.canon_unit_zero (S := S1024x512) hz2 _ _

/-- At an index. -/
theorem stored_narrow (p : Fin 1024) (q : Fin 512) :
    out0_A_3 c i a1 h1 a2 h2 a5 h5 a6 h6 x0 x1 (ix2 p q) = ∑ t : Fin 4096, x0 (ix2 p t) * x1 (ix2 t q) := by
  rw [out_3]
  exact value x0 x1 p q

end Cert.DwFiveIdeal.Block

end
-- ==== Proof.DwFive.Reference.lean ====
/- The reference of the pooled branch's weight gradient, read at an index over the extended reals. -/
module

public import proofs.«01_k».proof.Proof.Dw.Parts
public import proofs.«01_k».proof.Proof.Gen.DwFiveRefIdeal.Read
public import Idealize.ShloMosaic.Lib.ValueIdx
public import Idealize.ShloMosaic.Lib.Pointwise.SelectCore

@[expose] public section

set_option maxRecDepth 16384

noncomputable section

namespace Cert.DwFiveRefIdeal.Grad

open Cert.DwFiveRefIdeal Cert.DwFiveRefIdeal.Read
open Idealize.ShloMosaic hiding ix1 ix2 ix3 eq_ix1 eq_ix2 eq_ix3
open Idealize.ShloMosaic.ValueIdx
open Cert.DwMath
open scoped BigOperators

variable (x0 x1 : Rows.Idx → EReal) (x2 : Seven.Idx → EReal) (x3 : Three.Idx → EReal)

/-- An index of a matrix from its two coordinates. -/
theorem found {a b : Nat} (f : (⟨2, ![a, b]⟩ : Shape).Idx → EReal) (i : (⟨2, ![a, b]⟩ : Shape).Idx) (p : Fin a) (k : Fin b)
    (h0 : (i 0).val = p.val) (h1 : (i 1).val = k.val) : f i = f (ix2 p k) :=
  congrArg f ((eq_ix2 i).trans (congrArg₂ ix2 (Fin.ext h0) (Fin.ext h1)))

/-- The new section. -/
theorem fresh (p q : Fin 1024) : val_main_v3 (F := Ideal) x0 x1 (ix2 p q) = pooled x0 x1 p q := by
  rw [val_main_v3_apply, show idx_main_v3 (ix2 p q) = ix2 q p from eq_ix2 _, val_main_v2_apply]
  refine Finset.sum_congr rfl fun t _ => ?_
  rw [show lidx_main_v2 (ix2 q p) t = ix2 t q from eq_ix2 _, show ridx_main_v2 (ix2 q p) t = ix2 t p from eq_ix2 _]
  exact mul_comm _ _

/-- The reference's full-precision result. -/
theorem result_wide (p : Fin 1024) (q : Fin 7168) : val_main_v6 (F := Ideal) x0 x1 x2 (ix2 p q) = withPool x0 x1 x2 p q := by
  have hq := q.isLt
  unfold val_main_v6 withPool
  refine (concatenate_cons_apply _ _ _ _ _ _ _).trans ((concatenateAt_cons _ _ _ _ _ _ _ _).trans ?_)
  by_cases h0 : q.val < 4096
  · refine (dif_pos h0).trans (Eq.trans ?_ (dif_neg (fun h => absurd h.1 (by omega))).symm)
    refine (found (val_main_v4 (F := Ideal) x2) _ p ⟨q.val, h0⟩ ?_ ?_).trans ?_
    · rfl
    · rfl
    · rw [val_main_v4_apply]
      refine found x2 _ p q ?_ ?_
      · rfl
      · rfl
  refine (dif_neg h0).trans ((concatenateAt_cons _ _ _ _ _ _ _ _).trans ?_)
  by_cases h1 : q.val - 4096 < 1024
  · refine (dif_pos h1).trans (Eq.trans ?_ (dif_pos (show 4096 ≤ q.val ∧ q.val < 5120 by omega)).symm)
    refine (found (val_main_v3 (F := Ideal) x0 x1) _ p ⟨q.val - 4096, h1⟩ ?_ ?_).trans (fresh x0 x1 p _)
    · rfl
    · rfl
  refine (dif_neg h1).trans ((concatenateAt_singleton _ _ _ _ _ _).trans (Eq.trans ?_ (dif_neg (fun h => absurd h.2 (by omega))).symm))
  refine (found (val_main_v5 (F := Ideal) x2) _ p ⟨q.val - 4096 - 1024, by omega⟩ ?_ ?_).trans ?_
  · rfl
  · rfl
  · rw [val_main_v5_apply]
    refine found x2 _ p q ?_ ?_
    · rfl
    · show 5120 + (q.val - 4096 - 1024) = q.val; omega

/-- The reference's rounded result. -/
theorem result_narrow (p : Fin 1024) (q : Fin 3072) : val_main_v9 (F := Ideal) x0 x1 x3 (ix2 p q) = withPoolRounded x0 x1 x3 p q := by
  have hq := q.isLt
  unfold val_main_v9 withPoolRounded
  refine (concatenate_cons_apply _ _ _ _ _ _ _).trans ((concatenateAt_cons _ _ _ _ _ _ _ _).trans ?_)
  by_cases h0 : q.val < 1024
  · refine (dif_pos h0).trans (Eq.trans ?_ (dif_pos h0).symm)
    refine (found (val_main_v3 (F := Ideal) x0 x1) _ p ⟨q.val, h0⟩ ?_ ?_).trans (fresh x0 x1 p _)
    · rfl
    · rfl
  refine (dif_neg h0).trans ((concatenateAt_singleton _ _ _ _ _ _).trans (Eq.trans ?_ (dif_neg h0).symm))
  refine (found (val_main_v8 (F := Ideal) x3) _ p ⟨q.val - 1024, by omega⟩ ?_ ?_).trans ?_
  · rfl
  · rfl
  · rw [val_main_v8_apply]
    refine found x3 _ p q ?_ ?_
    · rfl
    · show 1024 + (q.val - 1024) = q.val; omega

end Cert.DwFiveRefIdeal.Grad

end
-- ==== Proof.DwFive.Arrays.lean ====
/- The pooled branch's weight gradient call over the extended reals: what its windows read, and the two arrays it leaves, the reference's
   values. -/
module

public import proofs.«01_k».proof.Proof.DwFive.Block
public import proofs.«01_k».proof.Proof.DwFive.Reference
public import proofs.«01_k».proof.Proof.Gen.DwFiveIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.DwFiveIdeal.Grad

open Cert.DwFiveIdeal Cert.DwFiveIdeal.Gen Cert.DwFiveIdeal.Block Cert.DwMath
open Idealize.ShloMosaic hiding ix1 ix2 ix3 eq_ix1 eq_ix2 eq_ix3
open Idealize.ShloMosaic.ValueIdx
open Idealize.ShloMosaic.TcCoe Idealize.SL.Sem
open Cert.DwFiveRefIdeal.Read (val_main_v6 val_main_v9)
open scoped BigOperators

variable (m : (ℓ : Loc nD τ sig) → Buf (Elt Ideal) ℓ) (c : Dev nD)

/-- The launch's arrays. -/
abbrev x : Rows.Idx → EReal := m ((c : Thread nD τ).loc main_arg0)
abbrev g : Rows.Idx → EReal := m ((c : Thread nD τ).loc main_arg1)
abbrev w : Seven.Idx → EReal := m ((c : Thread nD τ).loc main_arg2)
abbrev wb : Three.Idx → EReal := m ((c : Thread nD τ).loc main_arg3)

/-- The first operand is the input turned. -/
theorem V_x (p : Fin 1024) (t : Fin 4096) : V m c main_v1 (ix2 p t) = x m c (ix2 t p) := by
  have h : V m c main_v1 = transpose (α := EReal) S1024x4096 [1, 0] (x m c) (by decide) := by
    unfold V; after_reads_simp; rfl
  rw [h]
  exact transpose_ix2_apply _ _ _ _

/-- The second operand. -/
theorem V_g : V m c main_v2 = g m c := by
  unfold V; after_reads_simp; rfl

/-- The results' buffers before the first point: the sections that are already there. -/
theorem V_w : V m c main_v3_0 = w m c := by
  unfold V; after_reads_simp; rfl
theorem V_wb : V m c main_v3_1 = wb m c := by
  unfold V; after_reads_simp; rfl

/-- The section's column that column `q` of point `t`'s block is, -/
def col (t : Fin cfg0.N) (q : Fin 512) : Fin 1024 :=
  ⟨512 * t.val + q.val, by have h : t.val < 2 := lt_of_lt_of_eq t.isLt N_0; have := q.isLt; omega⟩

/-- and the same column in the arrays of seven and of three sections. -/
def at7 (t : Fin cfg0.N) (q : Fin 512) : Fin 7168 :=
  ⟨4096 + (512 * t.val + q.val), by have h : t.val < 2 := lt_of_lt_of_eq t.isLt N_0; have := q.isLt; omega⟩
def at3 (t : Fin cfg0.N) (q : Fin 512) : Fin 3072 :=
  ⟨512 * t.val + q.val, by have h : t.val < 2 := lt_of_lt_of_eq t.isLt N_0; have := q.isLt; omega⟩

theorem whole0 (X : Turned.Idx → EReal) (t : Fin cfg0.N) (p : Fin 1024) (k : Fin 4096) :
    ((cfg0.win 0).blk t).view.read (Elt Ideal) X (ix2 p k) = X (ix2 p k) := by
  have hi : win0_0.index t 0 = 0 ∧ win0_0.index t 1 = 0 := by
    rcases fin_N0 t with rfl | rfl <;> decide
  rw [View.read_apply]
  refine congrArg X (funext fun ax => Fin.ext ?_)
  match ax with
  | ⟨0, _⟩ => show win0_0.index t 0 * 1024 + 1 * p.val = p.val; rw [hi.1]; omega
  | ⟨1, _⟩ => show win0_0.index t 1 * 4096 + 1 * k.val = k.val; rw [hi.2]; omega

theorem columns1 (X : Rows.Idx → EReal) (t : Fin cfg0.N) (k : Fin 4096) (q : Fin 512) :
    ((cfg0.win 1).blk t).view.read (Elt Ideal) X (ix2 k q) = X (ix2 k (col t q)) := by
  have hi : win0_1.index t 0 = 0 ∧ win0_1.index t 1 = t.val := by
    rcases fin_N0 t with rfl | rfl <;> decide
  rw [View.read_apply]
  refine congrArg X (funext fun ax => Fin.ext ?_)
  match ax with
  | ⟨0, _⟩ => show win0_1.index t 0 * 4096 + 1 * k.val = k.val; rw [hi.1]; omega
  | ⟨1, _⟩ => show win0_1.index t 1 * 512 + 1 * q.val = 512 * t.val + q.val; rw [hi.2]; omega

theorem index2 (t : Fin cfg0.N) : win0_2.index t 0 = 0 ∧ win0_2.index t 1 = 8 + t.val := by
  rcases fin_N0 t with rfl | rfl <;> decide

theorem index3 (t : Fin cfg0.N) : win0_3.index t 0 = 0 ∧ win0_3.index t 1 = t.val := by
  rcases fin_N0 t with rfl | rfl <;> decide

theorem columns2 (X : Seven.Idx → EReal) (t : Fin cfg0.N) (p : Fin 1024) (q : Fin 512) :
    ((cfg0.win 2).blk t).view.read (Elt Ideal) X (ix2 p q) = X (ix2 p (at7 t q)) := by
  have hi := index2 t
  rw [View.read_apply]
  refine congrArg X (funext fun ax => Fin.ext ?_)
  match ax with
  | ⟨0, _⟩ => show win0_2.index t 0 * 1024 + 1 * p.val = p.val; rw [hi.1]; omega
  | ⟨1, _⟩ => show win0_2.index t 1 * 512 + 1 * q.val = 4096 + (512 * t.val + q.val); rw [hi.2]; omega

theorem columns3 (X : Three.Idx → EReal) (t : Fin cfg0.N) (p : Fin 1024) (q : Fin 512) :
    ((cfg0.win 3).blk t).view.read (Elt Ideal) X (ix2 p q) = X (ix2 p (at3 t q)) := by
  have hi := index3 t
  rw [View.read_apply]
  refine congrArg X (funext fun ax => Fin.ext ?_)
  match ax with
  | ⟨0, _⟩ => show win0_3.index t 0 * 1024 + 1 * p.val = p.val; rw [hi.1]; omega
  | ⟨1, _⟩ => show win0_3.index t 1 * 512 + 1 * q.val = 512 * t.val + q.val; rw [hi.2]; omega

theorem block0 (t : Fin cfg0.N) (p : Fin 1024) (k : Fin 4096) : (iblk m c 0 t : Vec Ideal S1024x4096 .bf16) (ix2 p k) = x m c (ix2 k p) := by
  rw [← V_x m c p k]
  unfold iblk
  exact whole0 _ t p k

theorem block1 (t : Fin cfg0.N) (k : Fin 4096) (q : Fin 512) : (iblk m c 1 t : Vec Ideal S4096x512 .bf16) (ix2 k q) = g m c (ix2 k (col t q)) := by
  rw [← columns1 (g m c) t k q]
  unfold iblk
  exact congrArg (fun X => ((cfg0.win 1).blk t).view.read (Elt Ideal) X (ix2 k q)) (V_g m c)

/-- A point's two blocks. -/
abbrev left (t : Fin cfg0.N) : S1024x4096.Idx → EReal := iblk m c 0 t
abbrev right (t : Fin cfg0.N) : S4096x512.Idx → EReal := iblk m c 1 t

/-- The sums over a point's blocks are the gradient's. -/
theorem sum_at (t : Fin cfg0.N) (p : Fin 1024) (q : Fin 512) :
    ∑ k : Fin 4096, left m c t (ix2 p k) * right m c t (ix2 k q) = pooled (x m c) (g m c) p (col t q) :=
  Finset.sum_congr rfl fun k _ => congrArg₂ (· * ·) (block0 m c t p k) (block1 m c t k q)

/-- A column of the kept sections is in no point's block: in the full-precision array -/
theorem outside2 (p : Fin 1024) (q : Fin 7168) (hq : ¬(4096 ≤ q.val ∧ q.val < 5120)) (t : Fin cfg0.N) :
    (ix2 p q : Seven.Idx) ∉ ((cfg0.win 2).blk t).view.set := by
  intro hm
  change (ix2 p q : Seven.Idx) ∈ ((View.whole main_v3_0).slice (win0_2.rect t)).set at hm
  rw [View.set_slice_whole, Rect.mem_set_unit] at hm
  have h1 : win0_2.index t 1 * 512 ≤ q.val ∧ q.val < win0_2.index t 1 * 512 + 512 := hm 1
  have h2 : t.val < 2 := lt_of_lt_of_eq t.isLt N_0
  rw [(index2 t).2] at h1
  omega

/-- and in the rounded one. -/
theorem outside3 (p : Fin 1024) (q : Fin 3072) (hq : ¬q.val < 1024) (t : Fin cfg0.N) :
    (ix2 p q : Three.Idx) ∉ ((cfg0.win 3).blk t).view.set := by
  intro hm
  change (ix2 p q : Three.Idx) ∈ ((View.whole main_v3_1).slice (win0_3.rect t)).set at hm
  rw [View.set_slice_whole, Rect.mem_set_unit] at hm
  have h1 : q.val < win0_3.index t 1 * 512 + 512 := (hm 1).2
  have h2 : t.val < 2 := lt_of_lt_of_eq t.isLt N_0
  rw [(index3 t).2] at h1
  omega

/-- What is at the end in a column that point `t` writes. -/
theorem written2 (t : Fin cfg0.N) (p : Fin 1024) (q : Fin 512) :
    ((dats m 0 c).arrAt 2 cfg0.N : Seven.Idx → EReal) (ix2 p (at7 t q)) = pooled (x m c) (g m c) p (col t q) := by
  refine (columns2 ((dats m 0 c).arrAt 2 cfg0.N) t p q).symm.trans ?_
  refine (congrFun (Value.blocks2 m c t (flush0_2 t)) (ix2 p q)).trans ?_
  rw [Value.flushed2_A]
  exact (stored_wide _ _ _ _ _ _ _ _ _ _ _ _ p q).trans (sum_at m c t p q)

theorem written3 (t : Fin cfg0.N) (p : Fin 1024) (q : Fin 512) :
    ((dats m 0 c).arrAt 3 cfg0.N : Three.Idx → EReal) (ix2 p (at3 t q)) = pooled (x m c) (g m c) p (col t q) := by
  refine (columns3 ((dats m 0 c).arrAt 3 cfg0.N) t p q).symm.trans ?_
  refine (congrFun (Value.blocks3 m c t (flush0_3 t)) (ix2 p q)).trans ?_
  rw [Value.flushed3_A]
  exact (stored_narrow _ _ _ _ _ _ _ _ _ _ _ _ p q).trans (sum_at m c t p q)

/-- The full-precision result at the end. -/
theorem final2 : (dats m 0 c).arrAt 2 cfg0.N = val_main_v6 (F := Ideal) (x m c) (g m c) (w m c) := by
  funext j
  obtain ⟨p, q, rfl⟩ : ∃ (p : Fin 1024) (q : Fin 7168), j = ix2 p q := ⟨j 0, j 1, eq_ix2 j⟩
  refine Eq.trans ?_ (DwFiveRefIdeal.Grad.result_wide (x m c) (g m c) (w m c) p q).symm
  unfold withPool
  by_cases h : 4096 ≤ q.val ∧ q.val < 5120
  · refine Eq.trans ?_ (dif_pos h).symm
    have hd : (q.val - 4096) / 512 < cfg0.N := by rw [show cfg0.N = 2 from N_0]; omega
    have hr : (q.val - 4096) % 512 < 512 := by omega
    have e := written2 m c ⟨(q.val - 4096) / 512, hd⟩ p ⟨(q.val - 4096) % 512, hr⟩
    rw [show at7 ⟨(q.val - 4096) / 512, hd⟩ ⟨(q.val - 4096) % 512, hr⟩ = q from
        Fin.ext (show 4096 + (512 * ((q.val - 4096) / 512) + (q.val - 4096) % 512) = q.val by omega),
      show col ⟨(q.val - 4096) / 512, hd⟩ ⟨(q.val - 4096) % 512, hr⟩ = ⟨q.val - 4096, by omega⟩ from
        Fin.ext (show 512 * ((q.val - 4096) / 512) + (q.val - 4096) % 512 = q.val - 4096 by omega)] at e
    exact e
  · refine Eq.trans ?_ (dif_neg h).symm
    exact (Value.entry2 m c (ix2 p q) (fun t _ => outside2 p q h t)).trans (congrFun (V_w m c) (ix2 p q))

/-- The rounded result at the end. -/
theorem final3 : (dats m 0 c).arrAt 3 cfg0.N = val_main_v9 (F := Ideal) (x m c) (g m c) (wb m c) := by
  funext j
  obtain ⟨p, q, rfl⟩ : ∃ (p : Fin 1024) (q : Fin 3072), j = ix2 p q := ⟨j 0, j 1, eq_ix2 j⟩
  refine Eq.trans ?_ (DwFiveRefIdeal.Grad.result_narrow (x m c) (g m c) (wb m c) p q).symm
  unfold withPoolRounded
  by_cases h : q.val < 1024
  · refine Eq.trans ?_ (dif_pos h).symm
    have hd : q.val / 512 < cfg0.N := by rw [show cfg0.N = 2 from N_0]; omega
    have hr : q.val % 512 < 512 := by omega
    have e := written3 m c ⟨q.val / 512, hd⟩ p ⟨q.val % 512, hr⟩
    rw [show at3 ⟨q.val / 512, hd⟩ ⟨q.val % 512, hr⟩ = q from
        Fin.ext (show 512 * (q.val / 512) + q.val % 512 = q.val by omega),
      show col ⟨q.val / 512, hd⟩ ⟨q.val % 512, hr⟩ = ⟨q.val, h⟩ from
        Fin.ext (show 512 * (q.val / 512) + q.val % 512 = q.val by omega)] at e
    exact e
  · refine Eq.trans ?_ (dif_neg h).symm
    exact (Value.entry3 m c (ix2 p q) (fun t _ => outside3 p q h t)).trans (congrFun (V_wb m c) (ix2 p q))

end Cert.DwFiveIdeal.Grad

end
-- ==== Proof.DwFive.Claim.lean ====
/- The claims about the pooled branch's weight gradient call: both programs run, and the call's idealization ends with the arrays the reference's ends
   with. -/
module

public import proofs.«01_k».proof.Defs
public import proofs.«01_k».proof.Proof.DwFive.Arrays
public import proofs.«01_k».proof.Proof.Gen.DwFive.Frame
public import proofs.«01_k».proof.Proof.Gen.DwFiveRefIdeal.Run
public import Idealize.ShloMosaic.Lib.Quiescent

@[expose] public section

set_option maxRecDepth 16384

noncomputable section

namespace Cert.DwFiveClaim

open Idealize.ShloMosaic Idealize.ShloMosaic.TcCoe Idealize.SL.Sem
open Cert.DwFiveIdeal.Gen (dats)

theorem frame_program : Cert.quiescent_DwFive := fun m ρ _ => Cert.DwFive.Gen.frame m ρ

theorem frame_ideal : Cert.quiescent_DwFiveIdeal := fun m ρ _ => Cert.DwFiveIdeal.Gen.frame m ρ

/-- The reference's run leaves its arguments alone, and it has no semaphore. -/
theorem frame_reference : Cert.quiescent_DwFiveRefIdeal := fun m ρ _ =>
  (θ_run Cert.DwFiveRefIdeal.defs _ _).mono
    (fun r h => ⟨fun c => (h c).2.2, sem_eq_zero_of_no_sems rfl r.2⟩) (Cert.DwFiveRefIdeal.Value.run m ρ)

/-- Result by result. -/
theorem equal : Cert.algebraic_DwFiveIdeal_DwFiveRefIdeal := by
  intro m g m' g' _ hargs
  refine ⟨fun c => (dats m 0 c).arrAt 2 Cert.DwFiveIdeal.cfg0.N, fun c => (dats m 0 c).arrAt 3 Cert.DwFiveIdeal.cfg0.N,
    Cert.DwFiveIdeal.Value.run_blocks m g,
    (θ_run Cert.DwFiveRefIdeal.defs _ _).mono (fun r h c => ?_) (Cert.DwFiveRefIdeal.Value.run m' g')⟩
  obtain ⟨a0, a1, a2, a3⟩ := hargs c
  obtain ⟨h0, h1, hargs'⟩ := h c
  refine ⟨h0.trans ?_, h1.trans ?_, hargs'⟩
  · refine (Cert.DwFiveRefIdeal.Read.val_main_v6_eq _ _ _).trans ?_
    rw [a0, a1, a2]
    exact (Cert.DwFiveIdeal.Grad.final2 m c).symm
  · refine (Cert.DwFiveRefIdeal.Read.val_main_v9_eq _ _ _).trans ?_
    rw [a0, a1, a3]
    exact (Cert.DwFiveIdeal.Grad.final3 m c).symm

end Cert.DwFiveClaim

end
-- ==== Proof.PoolF.Math.lean ====
/- The pooling in plain mathematics over the extended reals. A token's pooled value is the mean of the window of tokens up to
   itself, less its own value; the pooled values of a group are then taken through the group's weight. -/
module

public import proofs.«01_k».proof.Proof.PoolB.Math

@[expose] public section

noncomputable section

namespace Cert.PoolFMath

open Idealize.ShloMosaic Idealize.ShloMosaic.ValueIdx
open Cert.PoolMath (ext ext_of_lt width count col Tokens)
open scoped BigOperators

abbrev Sections : Shape := ⟨4, ![7, 2, 2048, 1024]⟩
abbrev Weights : Shape := ⟨3, ![4, 256, 256]⟩
abbrev Turned : Shape := ⟨2, ![1024, 4096]⟩

/-- The sum of the `w` terms up to `s`. -/
def back (y : Fin 2048 → EReal) (w s : ℕ) : EReal := ∑ j ∈ Finset.range w, if j ≤ s then ext y (s - j) else 0

theorem back_one (y : Fin 2048 → EReal) (t : Fin 2048) : back y 1 t.val = y t := by
  unfold back
  rw [Finset.sum_range_one, if_pos (Nat.zero_le _), Nat.sub_zero]
  exact ext_of_lt y t

/-- Two windows end to end. -/
theorem back_add (y : Fin 2048 → EReal) (a b s : ℕ) : back y a s + (if a ≤ s then back y b (s - a) else 0) = back y (a + b) s := by
  unfold back
  rw [Finset.sum_range_add]
  refine congrArg _ ?_
  split
  · refine Finset.sum_congr rfl fun j _ => ?_
    rw [Nat.sub_sub]
    by_cases h : j ≤ s - a
    · rw [if_pos h, if_pos (by omega)]
    · rw [if_neg h, if_neg (by omega)]
  · exact (Finset.sum_eq_zero fun j _ => if_neg (by omega)).symm

/-- The window as a sum over all tokens, those outside it counting nothing. -/
theorem back_indicator (y : Fin 2048 → EReal) (w s : ℕ) (hs : s < 2048) :
    ∑ t : Fin 2048, y t * (if t.val ≤ s ∧ s < t.val + w then 1 else 0) = back y w s := by
  have h1 : ∀ t : Fin 2048, y t * (if t.val ≤ s ∧ s < t.val + w then 1 else 0)
      = (fun n : ℕ => if n ≤ s ∧ s < n + w then ext y n else 0) t.val := by
    intro t
    show _ = if t.val ≤ s ∧ s < t.val + w then ext y t.val else 0
    rw [ext_of_lt]
    split
    · exact mul_one _
    · exact mul_zero _
  unfold back
  rw [Finset.sum_congr rfl fun t _ => h1 t, Fin.sum_univ_eq_sum_range (fun n : ℕ => if n ≤ s ∧ s < n + w then ext y n else 0) 2048,
    ← Finset.sum_filter, ← Finset.sum_filter]
  refine Finset.sum_nbij' (fun n => s - n) (fun j => s - j) ?_ ?_ ?_ ?_ ?_ <;>
    intro n hn <;> have h := Finset.mem_filter.mp hn <;> have hr := Finset.mem_range.mp h.1 <;> have h' := h.2
  · exact Finset.mem_filter.mpr ⟨Finset.mem_range.mpr (by omega), by omega⟩
  · exact Finset.mem_filter.mpr ⟨Finset.mem_range.mpr (by omega), by omega⟩
  · show s - (s - n) = n; omega
  · show s - (s - n) = n; omega
  · exact congrArg (ext y) (show n = s - (s - n) by omega)

/-- A token's pooled value, from its group's sequence of values. -/
def pool (u : Fin 2048 → EReal) (g : Fin 4) (s : Fin 2048) : EReal := Ideal.div (back u (width g) s.val) (count g s) - u s

/-- A column of a group's values. -/
def vals (x : Sections.Idx → EReal) (b : Fin 2) (g : Fin 4) (q : Fin 256) : Fin 2048 → EReal := fun t => x (ix4 (4 : Fin 7) b t (col g q))

/-- The pooled values through the group's weight. -/
def mixed (x : Sections.Idx → EReal) (w : Weights.Idx → EReal) (b : Fin 2) (s : Fin 2048) (g : Fin 4) (q : Fin 256) : EReal :=
  ∑ k : Fin 256, pool (vals x b g k) g s * w (ix3 g k q)

/-- The row of a turned array that token `s` of sequence `b` is. -/
def tok (b : Fin 2) (s : Fin 2048) : Fin 4096 := ⟨2048 * b.val + s.val, by have := b.isLt; have := s.isLt; omega⟩

end Cert.PoolFMath

end
-- ==== Proof.PoolF.Block.lean ====
/- What one grid point of the pooling's forward kernel stores, read at an index over the extended reals. The kernel doubles a
   window four times, each time adding the sequence moved back by the window's length with zeros before its start. -/
module

public import proofs.«01_k».proof.Proof.PoolF.Math
public import proofs.«01_k».proof.Proof.Gen.PoolFIdeal.Frame
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.ValueKit.Tiles
public import Idealize.ShloMosaic.PureOps.Ideal.Laws

@[expose] public section

set_option maxRecDepth 16384

noncomputable section

namespace Cert.PoolFIdeal.Block

open Cert.PoolFIdeal Cert.PoolFIdeal.Gen
open Idealize.ShloMosaic Idealize.ShloMosaic.ValueIdx
open Cert.PoolMath (ext ext_of_lt width count shifted word_toInt)
open Cert.PoolFMath
open scoped BigOperators

theorem zero_word : Ideal.ofBits .f32 0x00000000#32 = 0 := by simp [Ideal.ofBits, Ideal.ieee]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Is a row at or after a bound? -/
theorem after (s : Fin 2048) (n : ℕ) (hn : n < 4096) :
    IntOp.cmpi .sge (BitVec.ofNat 32 s.val) (BitVec.ofNat 32 n) = BitVec.ofBool (decide (n ≤ s.val)) := by
  show BitVec.ofBool (BitVec.sle _ _) = _
  refine congrArg BitVec.ofBool ?_
  unfold BitVec.sle
  rw [word_toInt _ hn, word_toInt _ (by have := s.isLt; omega)]
  exact decide_eq_decide.mpr (by omega)

/-- The array moved back by `k` rows, zeros before its start. -/
def moved (k : ℕ) (y : FVec Ideal S2048x256 .f32) : FVec Ideal S2048x256 .f32 :=
  select (cmpi .sge (iota .tc S2048x256 32 [0] iota_S2048x256_d0_w32) (broadcast S2048x256 (BitVec.ofNat 32 k)))
    (dynamicRotate 0 (BitVec.ofNat 32 k) none y rotates_S2048x256_d0)
    (broadcast S2048x256 (Scalar.ofBits .f32 0x00000000#32 : Ideal .f32))

theorem moved_at (k : ℕ) (hk : k ≤ 16) (y : FVec Ideal S2048x256 .f32) (s : Fin 2048) (q : Fin 256) :
    moved k y (ix2 s q) = if k ≤ s.val then ext (fun t => y (ix2 t q)) (s.val - k) else 0 := by
  have hs := s.isLt
  have hc : (cmpi .sge (iota .tc S2048x256 32 [0] iota_S2048x256_d0_w32) (broadcast S2048x256 (BitVec.ofNat 32 k))) (ix2 s q)
      = BitVec.ofBool (decide (k ≤ s.val)) := by
    refine Eq.trans (congrArg (fun n => IntOp.cmpi .sge (BitVec.ofNat 32 n) (BitVec.ofNat 32 k)) ?_) (after s k (by omega))
    show 0 * 2048 + s.val = s.val
    omega
  unfold moved
  rw [select_apply, hc]
  by_cases h : k ≤ s.val
  · rw [decide_eq_true h, if_pos h]
    unfold ext
    rw [dif_pos (by omega)]
    show dynamicRotate 0 (BitVec.ofNat 32 k) none y rotates_S2048x256_d0 (ix2 s q) = _
    refine congrArg y (funext fun ax => Fin.ext ?_)
    match ax with
    | ⟨0, _⟩ =>
      show (s.val + 2048 - ((BitVec.ofNat 32 k).toNat + 0) % 2048) % 2048 = s.val - k
      rw [BitVec.toNat_ofNat]
      omega
    | ⟨1, _⟩ => rfl
  · rw [decide_eq_false h, if_neg h]
    exact zero_word

/-- One doubling. -/
theorem doubled (k : ℕ) (hk : k ≤ 16) (y : FVec Ideal S2048x256 .f32) (u : Fin 2048 → EReal) (q : Fin 256)
    (hy : ∀ t : Fin 2048, y (ix2 t q) = back u k t.val) (s : Fin 2048) :
    addf y (moved k y) (ix2 s q) = back u (k + k) s.val := by
  refine (congrArg₂ (· + ·) (hy s) ((moved_at k hk y s q).trans ?_)).trans (back_add u k k s.val)
  refine if_congr Iff.rfl ?_ rfl
  have hs := s.isLt
  exact (ext_of_lt (fun t => y (ix2 t q)) ⟨s.val - k, by omega⟩).trans (hy _)

variable (i : grid0.Coords) (x0 : Vec Ideal S1x1x2048x256 .f32) (x1 : Vec Ideal S1x256x256 .bf16)

/-- A column of the block. -/
abbrev colOf (q : Fin 256) : Fin 2048 → EReal := fun t => x0 (ix4 (0 : Fin 1) (0 : Fin 1) t q)

theorem plain (s : Fin 2048) (q : Fin 256) : k0_pay4 x0 (ix2 s q) = colOf x0 q s := by
  unfold k0_pay4
  refine shapeCast_apply x0 _ (ix2 s q) (ix4 (0 : Fin 1) (0 : Fin 1) s q) ?_
  rewrite [Shape.rowMajor_val_four, Shape.rowMajor_val_two]
  show ((0 * 1 + 0) * 2048 + s.val) * 256 + q.val = s.val * 256 + q.val
  omega

/-- The counts, as the kernel computes them. -/
theorem counted (g : Fin 4) (hg : (i 1).val = g.val) (t : Fin 2048) (q : Fin 256) : k0_pay5 (F := Ideal) i (ix2 t q) = count g t := by
  have h1 : (0 * 2048 + t.val) = t.val := by omega
  unfold k0_pay5
  show FloatOps.sitofp (F := Ideal) .f32 (IntOp.minsi (BitVec.ofNat 32 (0 * 2048 + t.val) + 1#32)
    (IntOp.shli .scalar 2#32 (BitVec.ofNat 32 (i 1).val))) = _
  rw [h1, hg, shifted]
  rfl

theorem two (s : Fin 2048) (q : Fin 256) : k0_pay6 x0 (ix2 s q) = back (colOf x0 q) 2 s.val :=
  doubled 1 (by decide) _ (colOf x0 q) q (fun t => (plain x0 t q).trans (back_one _ t).symm) s

theorem four (s : Fin 2048) (q : Fin 256) : k0_pay7 x0 (ix2 s q) = back (colOf x0 q) 4 s.val :=
  doubled 2 (by decide) _ (colOf x0 q) q (fun t => two x0 t q) s

theorem eight (s : Fin 2048) (q : Fin 256) :
    addf (k0_pay7 x0) (moved 4 (k0_pay7 x0)) (ix2 s q) = back (colOf x0 q) 8 s.val :=
  doubled 4 (by decide) _ (colOf x0 q) q (fun t => four x0 t q) s

theorem sixteen (s : Fin 2048) (q : Fin 256) :
    addf (addf (k0_pay7 x0) (moved 4 (k0_pay7 x0))) (moved 8 (addf (k0_pay7 x0) (moved 4 (k0_pay7 x0)))) (ix2 s q)
      = back (colOf x0 q) 16 s.val :=
  doubled 8 (by decide) _ (colOf x0 q) q (fun t => eight x0 t q) s

/-- The window that the group takes. -/
theorem chosen (g : Fin 4) (hg : (i 1).val = g.val) (s : Fin 2048) (q : Fin 256) :
    Scalar.select (Scalar.cmpi .eq (BitVec.ofNat 32 (i 1).val) 0#32) (k0_pay6 x0)
      (Scalar.select (Scalar.cmpi .eq (BitVec.ofNat 32 (i 1).val) 1#32) (k0_pay7 x0) (k0_pay8 i x0)) (ix2 s q)
      = back (colOf x0 q) (width g) s.val := by
  have h5 : k0_pay8 i x0 = Scalar.select (Scalar.cmpi .eq (BitVec.ofNat 32 (i 1).val) 2#32)
      (addf (k0_pay7 x0) (moved 4 (k0_pay7 x0)))
      (addf (addf (k0_pay7 x0) (moved 4 (k0_pay7 x0))) (moved 8 (addf (k0_pay7 x0) (moved 4 (k0_pay7 x0))))) := rfl
  rw [h5, hg]
  match g, hg with
  | ⟨0, _⟩, _ => exact two x0 s q
  | ⟨1, _⟩, _ => exact four x0 s q
  | ⟨2, _⟩, _ => exact eight x0 s q
  | ⟨3, _⟩, _ => exact sixteen x0 s q

/-- The pooled block. -/
abbrev pooled : FVec Ideal S2048x256 .f32 :=
  k0_pay1 (k0_pay4 x0) (k0_pay5 i) (k0_pay6 x0) (k0_pay7 x0) (Scalar.cmpi .eq (BitVec.ofNat 32 (i 1).val) 0#32)
    (Scalar.cmpi .eq (BitVec.ofNat 32 (i 1).val) 1#32) (k0_pay8 i x0)

theorem pooled_at (g : Fin 4) (hg : (i 1).val = g.val) (s : Fin 2048) (q : Fin 256) :
    pooled i x0 (ix2 s q) = pool (colOf x0 q) g s := by
  show k0_pay1 _ _ _ _ _ _ _ (ix2 s q) = _
  unfold k0_pay1
  exact congrArg₂ (fun a b : EReal => a - b) (congrArg₂ Ideal.div (chosen i x0 g hg s q) (counted i g hg s q)) (plain x0 s q)

/-- The turned block. -/
theorem stored2 (g : Fin 4) (hg : (i 1).val = g.val) (q : Fin 256) (s : Fin 2048) :
    out0_2 (F := Ideal) i x0 x1 (ix2 q s) = pool (colOf x0 q) g s := by
  unfold out0_2
  rw [View.canon_unit_zero (S := S256x2048) hz2]
  unfold k0_pay9 k0_pay10 k0_pay11 k0_pay12 k0_pay13
  simp only [View.ld_unit_zero (S := S1x1x2048x256) hz4]
  unfold k0_pay2
  refine Eq.trans (b := pooled i x0 (ix2 s q)) ?_ (pooled_at i x0 g hg s q)
  exact transpose_apply [1, 0] (pooled i x0) _ (ix2 q s) (ix2 s q) (fun ax => by match ax with | ⟨0, _⟩ => rfl | ⟨1, _⟩ => rfl)

/-- The block of products. -/
theorem stored3 (g : Fin 4) (hg : (i 1).val = g.val) (s : Fin 2048) (q : Fin 256) :
    out0_3 (F := Ideal) i x0 x1 (ix3 (0 : Fin 1) s q) = ∑ k : Fin 256, pool (colOf x0 k) g s * x1 (ix3 (0 : Fin 1) k q) := by
  unfold out0_3
  rw [View.canon_unit_zero (S := S1x2048x256) hz3]
  unfold k0_pay9 k0_pay10 k0_pay11 k0_pay12 k0_pay13
  simp only [View.ld_unit_zero (S := S1x1x2048x256) hz4, View.ld_unit_zero (S := S1x256x256) hz3]
  unfold k0_pay3
  refine (shapeCast_ab_1ab_apply _ _ _ _ _).trans ?_
  refine (Ideal.matmul_plain_apply (φ₁ := .bf16) (φ₂ := .bf16) (M := 2048) (K := 256) (N := 256) none (pooled i x0) (shapeCast S256x256 x1 shapeCasts_S1x256x256_S256x256) _ s q).trans ?_
  rw [constant_apply, zero_word, zero_add]
  exact Finset.sum_congr rfl fun k _ => congrArg₂ (· * ·) (pooled_at i x0 g hg s k) (shapeCast_1ab_ab_apply _ _ _ _)

end Cert.PoolFIdeal.Block

end
-- ==== Proof.PoolF.Reference.lean ====
/- The reference of the pooling, read at an index over the extended reals. -/
module

public import proofs.«01_k».proof.Proof.PoolF.Math
public import proofs.«01_k».proof.Proof.Gen.PoolFRefIdeal.Read
public import Idealize.ShloMosaic.Lib.ValueIdx

@[expose] public section

set_option maxRecDepth 16384

noncomputable section

namespace Cert.PoolFRefIdeal.Pool

open Cert.PoolFRefIdeal Cert.PoolFRefIdeal.Read
open Idealize.ShloMosaic Idealize.ShloMosaic.ValueIdx
open Cert.PoolMath (width count col shifted_host inside)
open Cert.PoolFMath
open scoped BigOperators

variable (x0 : Sections.Idx → EReal) (x1 : Weights.Idx → EReal)

/-- The windows. -/
theorem window (i : S4.Idx) : val_main_v6 (F := Ideal) i = BitVec.ofNat 32 (width (i 0)) := by
  rw [val_main_v6_apply]
  exact shifted_host (i 0)

/-- The indicator of the windows. -/
theorem indicator (g : Fin 4) (s t : Fin 2048) :
    val_main_v22 (F := Ideal) (ix3 g s t) = if t.val ≤ s.val ∧ s.val < t.val + width g then 1 else 0 := by
  rw [val_main_v22_apply, val_main_v21_apply, val_main_v20_apply, val_main_v19_apply, val_main_v13_apply, val_main_v18_apply,
    val_main_v16_apply, val_main_v15_apply, val_main_v17_apply, val_main_v14_apply, window]
  exact inside g s t

/-- The counts. -/
theorem counted (t : Fin 2048) (g : Fin 4) : val_main_v30 (F := Ideal) (ix2 t g) = count g t := by
  rw [val_main_v30_apply, val_main_v29_apply, val_main_v28_apply, val_main_v26_apply, window]
  rfl

/-- The section's groups. -/
theorem split (b : Fin 2) (t : Fin 2048) (g : Fin 4) (q : Fin 256) : val_main_v2 (F := Ideal) x0 (ix4 b t g q) = vals x0 b g q t := by
  rw [val_main_v2_apply]
  have hb := b.isLt; have ht := t.isLt; have hg := g.isLt; have hq := q.isLt
  have h1 : idx_main_v2 (ix4 b t g q) = ix3 b t (col g q) := by
    refine (eq_ix3 _).trans (congr (congrArg₂ ix3 (Fin.ext ?_) (Fin.ext ?_)) (Fin.ext ?_))
    · show (((b.val * 2048 + t.val) * 4 + g.val) * 256 + q.val) / 2097152 = b.val; omega
    · show (((b.val * 2048 + t.val) * 4 + g.val) * 256 + q.val) / 1024 % 2048 = t.val; omega
    · show (((b.val * 2048 + t.val) * 4 + g.val) * 256 + q.val) % 1024 = 256 * g.val + q.val; omega
  rw [h1, val_main_v1_apply, val_main_v0_apply]
  refine congrArg x0 ((eq_ix4 _).trans (congr (congr (congrArg₂ ix4 rfl (Fin.ext ?_)) (Fin.ext ?_)) (Fin.ext ?_)))
  · show ((b.val * 2048 + t.val) * 1024 + (256 * g.val + q.val)) / 2097152 % 2 = b.val; omega
  · show ((b.val * 2048 + t.val) * 1024 + (256 * g.val + q.val)) / 1024 % 2048 = t.val; omega
  · show ((b.val * 2048 + t.val) * 1024 + (256 * g.val + q.val)) % 1024 = 256 * g.val + q.val; omega

/-- The windows' sums. -/
theorem gathered (b : Fin 2) (s : Fin 2048) (g : Fin 4) (q : Fin 256) :
    val_main_v32 (F := Ideal) x0 (ix4 b s g q) = back (vals x0 b g q) (width g) s.val := by
  rw [val_main_v32_apply, val_main_v31_apply, ← back_indicator _ _ _ s.isLt]
  refine Finset.sum_congr rfl fun t _ => congrArg₂ (· * ·) ?_ ?_
  · rw [← split x0 b t g q]
    exact congrArg _ (eq_ix4 _)
  · rw [← indicator g s t]
    exact congrArg _ (eq_ix3 _)

/-- The pooled values. -/
theorem pooled (b : Fin 2) (s : Fin 2048) (g : Fin 4) (q : Fin 256) :
    val_main_v37 (F := Ideal) x0 (ix4 b s g q) = pool (vals x0 b g q) g s := by
  have hc : val_main_v35 (F := Ideal) (ix4 b s g q) = count g s := by
    rw [val_main_v35_apply, val_main_v34_apply, val_main_v33_apply]
    exact Eq.trans (congrArg _ (eq_ix2 _)) (counted s g)
  rw [val_main_v37_apply, val_main_v36_apply, gathered, split, hc]
  rfl

/-- The first result. -/
theorem turned (b : Fin 2) (s : Fin 2048) (g : Fin 4) (q : Fin 256) :
    val_main_v43 (F := Ideal) x0 (ix2 (col g q) (tok b s)) = pool (vals x0 b g q) g s := by
  show val_main_v42 (F := Ideal) x0 (ix2 (col g q) (tok b s)) = _
  rw [val_main_v42_apply, val_main_v41_apply, ← pooled]
  have hb := b.isLt; have hs := s.isLt; have hg := g.isLt; have hq := q.isLt
  refine congrArg _ ((eq_ix4 _).trans (congr (congr (congrArg₂ ix4 (Fin.ext ?_) (Fin.ext ?_)) (Fin.ext ?_)) (Fin.ext ?_)))
  · show ((2048 * b.val + s.val) * 1024 + (256 * g.val + q.val)) / 2097152 = b.val; omega
  · show ((2048 * b.val + s.val) * 1024 + (256 * g.val + q.val)) / 1024 % 2048 = s.val; omega
  · show ((2048 * b.val + s.val) * 1024 + (256 * g.val + q.val)) / 256 % 4 = g.val; omega
  · show ((2048 * b.val + s.val) * 1024 + (256 * g.val + q.val)) % 256 = q.val; omega

/-- The second result. -/
theorem product (b : Fin 2) (s : Fin 2048) (g : Fin 4) (q : Fin 256) :
    val_main_v40 (F := Ideal) x0 x1 (ix3 b s (col g q)) = mixed x0 x1 b s g q := by
  rw [val_main_v40_apply]
  have hb := b.isLt; have hs := s.isLt; have hg := g.isLt; have hq := q.isLt
  have hi : idx_main_v40 (ix3 b s (col g q)) = ix4 b s g q := by
    refine (eq_ix4 _).trans (congr (congr (congrArg₂ ix4 (Fin.ext ?_) (Fin.ext ?_)) (Fin.ext ?_)) (Fin.ext ?_))
    · show ((b.val * 2048 + s.val) * 1024 + (256 * g.val + q.val)) / 2097152 = b.val; omega
    · show ((b.val * 2048 + s.val) * 1024 + (256 * g.val + q.val)) / 1024 % 2048 = s.val; omega
    · show ((b.val * 2048 + s.val) * 1024 + (256 * g.val + q.val)) / 256 % 4 = g.val; omega
    · show ((b.val * 2048 + s.val) * 1024 + (256 * g.val + q.val)) % 256 = q.val; omega
  rw [hi, val_main_v39_apply, val_main_v38_apply]
  unfold mixed
  refine Finset.sum_congr rfl fun k _ => (mul_comm _ _).trans (congrArg₂ (· * ·) ?_ ?_)
  · rw [← pooled]
    exact congrArg _ (eq_ix4 _)
  · exact congrArg x1 (eq_ix3 _)

end Cert.PoolFRefIdeal.Pool

end
-- ==== Proof.PoolF.Arrays.lean ====
/- The pooling's forward call over the extended reals: what its windows read, and the arrays it leaves, the reference's values. -/
module

public import proofs.«01_k».proof.Proof.PoolF.Block
public import proofs.«01_k».proof.Proof.PoolF.Reference
public import proofs.«01_k».proof.Proof.Gen.PoolFIdeal.Value
public import Idealize.ShloMosaic.Lib.Pipeline.Value
public import Idealize.ShloMosaic.Lib.StableHlo.ReadAt
public import Idealize.ShloMosaic.Lib.WritesUnit

@[expose] public section

set_option maxRecDepth 16384

noncomputable section

namespace Cert.PoolFIdeal.Pool

open Cert.PoolFIdeal Cert.PoolFIdeal.Gen Cert.PoolFIdeal.Block Cert.PoolFMath
open Cert.PoolMath (col Tokens)
open Idealize.ShloMosaic hiding ix1 ix2 ix3 ix4 eq_ix1 eq_ix2 eq_ix3 eq_ix4
open Idealize.ShloMosaic.ValueIdx
open Idealize.ShloMosaic.TcCoe Idealize.SL.Sem
open Cert.PoolFRefIdeal.Read (val_main_v43 val_main_v40)
open scoped BigOperators

variable (m : (ℓ : Loc nD τ sig) → Buf (Elt Ideal) ℓ) (c : Dev nD)

/-- The launch's arrays: the projection's sections and the groups' weights. -/
abbrev proj : Sections.Idx → EReal := m ((c : Thread nD τ).loc main_arg0)
abbrev wts : Weights.Idx → EReal := m ((c : Thread nD τ).loc main_arg1)

theorem V_proj : V m c main_arg0 = proj m c := by
  first | rfl | (unfold V; after_reads_simp)

theorem V_wts : V m c main_v0 = wts m c := by
  unfold V; after_reads_simp; rfl

/-- The sequence and the group that a point is. -/
def seq (t : Fin cfg0.N) : Fin 2 := ⟨t.val / 4, by have h : t.val < 8 := lt_of_lt_of_eq t.isLt N_0; omega⟩
def grp (t : Fin cfg0.N) : Fin 4 := ⟨t.val % 4, by omega⟩

/-- The point's second coordinate is its group. -/
theorem coord (t : Fin cfg0.N) : (grid0.coords t 1).val = (grp t).val := by
  rcases fin_N0 t with rfl | rfl | rfl | rfl | rfl | rfl | rfl | rfl <;> decide

theorem part0 (X : Sections.Idx → EReal) (t : Fin cfg0.N) (s : Fin 2048) (q : Fin 256) :
    ((cfg0.win 0).blk t).view.read (Elt Ideal) X (ix4 (0 : Fin 1) (0 : Fin 1) s q) = X (ix4 (4 : Fin 7) (seq t) s (col (grp t) q)) := by
  have hi : win0_0.index t 0 = 4 ∧ win0_0.index t 1 = t.val / 4 ∧ win0_0.index t 2 = 0 ∧ win0_0.index t 3 = t.val % 4 := by
    rcases fin_N0 t with rfl | rfl | rfl | rfl | rfl | rfl | rfl | rfl <;> decide
  rw [View.read_apply]
  refine congrArg X (funext fun ax => Fin.ext ?_)
  match ax with
  | ⟨0, _⟩ => show win0_0.index t 0 * 1 + 1 * 0 = 4; rw [hi.1]
  | ⟨1, _⟩ => show win0_0.index t 1 * 1 + 1 * 0 = t.val / 4; rw [hi.2.1]; omega
  | ⟨2, _⟩ => show win0_0.index t 2 * 2048 + 1 * s.val = s.val; rw [hi.2.2.1]; omega
  | ⟨3, _⟩ => show win0_0.index t 3 * 256 + 1 * q.val = 256 * (t.val % 4) + q.val; rw [hi.2.2.2]; omega

theorem part1 (X : Weights.Idx → EReal) (t : Fin cfg0.N) (k q : Fin 256) :
    ((cfg0.win 1).blk t).view.read (Elt Ideal) X (ix3 (0 : Fin 1) k q) = X (ix3 (grp t) k q) := by
  have hi : win0_1.index t 0 = t.val % 4 ∧ win0_1.index t 1 = 0 ∧ win0_1.index t 2 = 0 := by
    rcases fin_N0 t with rfl | rfl | rfl | rfl | rfl | rfl | rfl | rfl <;> decide
  rw [View.read_apply]
  refine congrArg X (funext fun ax => Fin.ext ?_)
  match ax with
  | ⟨0, _⟩ => show win0_1.index t 0 * 1 + 1 * 0 = t.val % 4; rw [hi.1]; omega
  | ⟨1, _⟩ => show win0_1.index t 1 * 256 + 1 * k.val = k.val; rw [hi.2.1]; omega
  | ⟨2, _⟩ => show win0_1.index t 2 * 256 + 1 * q.val = q.val; rw [hi.2.2]; omega

theorem place2 (t : Fin cfg0.N) : win0_2.index t 0 = t.val % 4 ∧ win0_2.index t 1 = t.val / 4 := by
  rcases fin_N0 t with rfl | rfl | rfl | rfl | rfl | rfl | rfl | rfl <;> decide

theorem place3 (t : Fin cfg0.N) : win0_3.index t 0 = t.val / 4 ∧ win0_3.index t 1 = 0 ∧ win0_3.index t 2 = t.val % 4 := by
  rcases fin_N0 t with rfl | rfl | rfl | rfl | rfl | rfl | rfl | rfl <;> decide

theorem part2 (X : Turned.Idx → EReal) (t : Fin cfg0.N) (q : Fin 256) (s : Fin 2048) :
    ((cfg0.win 2).blk t).view.read (Elt Ideal) X (ix2 q s) = X (ix2 (col (grp t) q) (tok (seq t) s)) := by
  rw [View.read_apply]
  refine congrArg X (funext fun ax => Fin.ext ?_)
  match ax with
  | ⟨0, _⟩ => show win0_2.index t 0 * 256 + 1 * q.val = 256 * (t.val % 4) + q.val; rw [(place2 t).1]; omega
  | ⟨1, _⟩ => show win0_2.index t 1 * 2048 + 1 * s.val = 2048 * (t.val / 4) + s.val; rw [(place2 t).2]; omega

theorem part3 (X : Tokens.Idx → EReal) (t : Fin cfg0.N) (s : Fin 2048) (q : Fin 256) :
    ((cfg0.win 3).blk t).view.read (Elt Ideal) X (ix3 (0 : Fin 1) s q) = X (ix3 (seq t) s (col (grp t) q)) := by
  rw [View.read_apply]
  refine congrArg X (funext fun ax => Fin.ext ?_)
  match ax with
  | ⟨0, _⟩ => show win0_3.index t 0 * 1 + 1 * 0 = t.val / 4; rw [(place3 t).1]; omega
  | ⟨1, _⟩ => show win0_3.index t 1 * 2048 + 1 * s.val = s.val; rw [(place3 t).2.1]; omega
  | ⟨2, _⟩ => show win0_3.index t 2 * 256 + 1 * q.val = 256 * (t.val % 4) + q.val; rw [(place3 t).2.2]; omega

/-- A point's blocks. -/
abbrev blk0 (t : Fin cfg0.N) : S1x1x2048x256.Idx → EReal := iblk m c 0 t
abbrev blk1 (t : Fin cfg0.N) : S1x256x256.Idx → EReal := iblk m c 1 t

theorem block0 (t : Fin cfg0.N) (q : Fin 256) : colOf (blk0 m c t) q = vals (proj m c) (seq t) (grp t) q := funext fun s => by
  show (iblk m c 0 t : Vec Ideal S1x1x2048x256 .f32) (ix4 (0 : Fin 1) (0 : Fin 1) s q) = _
  refine Eq.trans ?_ (part0 (proj m c) t s q)
  unfold iblk
  exact congrArg (fun X => ((cfg0.win 0).blk t).view.read (Elt Ideal) X (ix4 (0 : Fin 1) (0 : Fin 1) s q)) (V_proj m c)

theorem block1 (t : Fin cfg0.N) (k q : Fin 256) : blk1 m c t (ix3 (0 : Fin 1) k q) = wts m c (ix3 (grp t) k q) := by
  show (iblk m c 1 t : Vec Ideal S1x256x256 .bf16) (ix3 (0 : Fin 1) k q) = _
  refine Eq.trans ?_ (part1 (wts m c) t k q)
  unfold iblk
  exact congrArg (fun X => ((cfg0.win 1).blk t).view.read (Elt Ideal) X (ix3 (0 : Fin 1) k q)) (V_wts m c)

/-- The point of a sequence and a column. -/
def pt (b : ℕ) (q : ℕ) (hb : b < 2) (hq : q < 1024) : Fin cfg0.N := ⟨4 * b + q / 256, by rw [show cfg0.N = 8 from N_0]; omega⟩

/-- The turned array at the end. -/
theorem final2 : (dats m 0 c).arrAt 2 cfg0.N = val_main_v43 (F := Ideal) (proj m c) := by
  refine (dats m 0 c).arrAt_eq_of_cover 2 _ (fun t _ => ?_) (fun i => ?_)
  · rw [Value.flushed2]
    funext j
    obtain ⟨q, s, rfl⟩ : ∃ (q : Fin 256) (s : Fin 2048), j = ix2 q s := ⟨j 0, j 1, eq_ix2 j⟩
    refine (stored2 _ (blk0 m c t) (blk1 m c t) (grp t) (coord t) q s).trans ?_
    rw [block0]
    exact (PoolFRefIdeal.Pool.turned _ (seq t) s (grp t) q).symm.trans (part2 _ t q s).symm
  · have h0 : (i 0 : Nat) < 1024 := (i 0).isLt
    have h1 : (i 1 : Nat) < 4096 := (i 1).isLt
    have hb : (i 1 : Nat) / 2048 < 2 := by omega
    refine ⟨pt ((i 1 : Nat) / 2048) (i 0) hb h0, flush0_2 _, ?_⟩
    have hi := place2 (pt ((i 1 : Nat) / 2048) (i 0) hb h0)
    have hp : (pt ((i 1 : Nat) / 2048) (i 0) hb h0).val = 4 * ((i 1 : Nat) / 2048) + (i 0).val / 256 := rfl
    show i ∈ ((View.whole main_v1_0).slice (win0_2.rect (pt ((i 1 : Nat) / 2048) (i 0) hb h0))).set
    rw [View.set_slice_whole, Rect.mem_set_unit]
    intro ax
    match ax with
    | ⟨0, _⟩ => show win0_2.index (pt ((i 1 : Nat) / 2048) (i 0) hb h0) 0 * 256 ≤ (i 0 : Nat) ∧ (i 0 : Nat) < win0_2.index (pt ((i 1 : Nat) / 2048) (i 0) hb h0) 0 * 256 + 256
                rw [hi.1, hp]; omega
    | ⟨1, _⟩ => show win0_2.index (pt ((i 1 : Nat) / 2048) (i 0) hb h0) 1 * 2048 ≤ (i 1 : Nat) ∧ (i 1 : Nat) < win0_2.index (pt ((i 1 : Nat) / 2048) (i 0) hb h0) 1 * 2048 + 2048
                rw [hi.2, hp]; omega

/-- The products at the end. -/
theorem final3 : (dats m 0 c).arrAt 3 cfg0.N = val_main_v40 (F := Ideal) (proj m c) (wts m c) := by
  refine (dats m 0 c).arrAt_eq_of_cover 3 _ (fun t _ => ?_) (fun i => ?_)
  · rw [Value.flushed3]
    funext j
    obtain ⟨z, s, q, rfl⟩ : ∃ (z : Fin 1) (s : Fin 2048) (q : Fin 256), j = ix3 z s q := ⟨j 0, j 1, j 2, eq_ix3 j⟩
    obtain rfl : z = 0 := Subsingleton.elim _ _
    refine (stored3 _ (blk0 m c t) (blk1 m c t) (grp t) (coord t) s q).trans ?_
    refine Eq.trans (b := mixed (proj m c) (wts m c) (seq t) s (grp t) q) ?_
      ((PoolFRefIdeal.Pool.product _ _ (seq t) s (grp t) q).symm.trans (part3 _ t s q).symm)
    refine Finset.sum_congr rfl fun k _ => ?_
    rw [block0, block1]
  · have h0 : (i 0 : Nat) < 2 := (i 0).isLt
    have h1 : (i 1 : Nat) < 2048 := (i 1).isLt
    have h2 : (i 2 : Nat) < 1024 := (i 2).isLt
    refine ⟨pt (i 0) (i 2) h0 h2, flush0_3 _, ?_⟩
    have hi := place3 (pt (i 0) (i 2) h0 h2)
    have hp : (pt (i 0) (i 2) h0 h2).val = 4 * (i 0).val + (i 2).val / 256 := rfl
    show i ∈ ((View.whole main_v1_1).slice (win0_3.rect (pt (i 0) (i 2) h0 h2))).set
    rw [View.set_slice_whole, Rect.mem_set_unit]
    intro ax
    match ax with
    | ⟨0, _⟩ => show win0_3.index (pt (i 0) (i 2) h0 h2) 0 * 1 ≤ (i 0 : Nat) ∧ (i 0 : Nat) < win0_3.index (pt (i 0) (i 2) h0 h2) 0 * 1 + 1
                rw [hi.1, hp]; omega
    | ⟨1, _⟩ => show win0_3.index (pt (i 0) (i 2) h0 h2) 1 * 2048 ≤ (i 1 : Nat) ∧ (i 1 : Nat) < win0_3.index (pt (i 0) (i 2) h0 h2) 1 * 2048 + 2048
                rw [hi.2.1]; omega
    | ⟨2, _⟩ => show win0_3.index (pt (i 0) (i 2) h0 h2) 2 * 256 ≤ (i 2 : Nat) ∧ (i 2 : Nat) < win0_3.index (pt (i 0) (i 2) h0 h2) 2 * 256 + 256
                rw [hi.2.2, hp]; omega

end Cert.PoolFIdeal.Pool

end
-- ==== Proof.PoolF.Claim.lean ====
/- The claims about the pooling's forward call: both programs run, and the call's idealization ends with the arrays the reference's ends
   with. -/
module

public import proofs.«01_k».proof.Defs
public import proofs.«01_k».proof.Proof.PoolF.Arrays
public import proofs.«01_k».proof.Proof.Gen.PoolF.Frame
public import proofs.«01_k».proof.Proof.Gen.PoolFRefIdeal.Run
public import Idealize.ShloMosaic.Lib.Quiescent

@[expose] public section

set_option maxRecDepth 16384

noncomputable section

namespace Cert.PoolFClaim

open Idealize.ShloMosaic Idealize.ShloMosaic.TcCoe Idealize.SL.Sem
open Cert.PoolFIdeal.Gen (dats)

theorem frame_program : Cert.quiescent_PoolF := fun m ρ _ => Cert.PoolF.Gen.frame m ρ

theorem frame_ideal : Cert.quiescent_PoolFIdeal := fun m ρ _ => Cert.PoolFIdeal.Gen.frame m ρ

/-- The reference's run leaves its arguments alone, and it has no semaphore. -/
theorem frame_reference : Cert.quiescent_PoolFRefIdeal := fun m ρ _ =>
  (θ_run Cert.PoolFRefIdeal.defs _ _).mono
    (fun r h => ⟨fun c => (h c).2.2, sem_eq_zero_of_no_sems rfl r.2⟩) (Cert.PoolFRefIdeal.Value.run m ρ)

/-- Result by result. -/
theorem equal : Cert.algebraic_PoolFIdeal_PoolFRefIdeal := by
  intro m g m' g' _ hargs
  refine ⟨fun c => (dats m 0 c).arrAt 2 Cert.PoolFIdeal.cfg0.N, fun c => (dats m 0 c).arrAt 3 Cert.PoolFIdeal.cfg0.N,
    (θ_run Cert.PoolFIdeal.defs _ _).mono (fun _ h => h) (Cert.PoolFIdeal.Value.run_blocks m g),
    (θ_run Cert.PoolFRefIdeal.defs _ _).mono (fun r h c => ?_) (Cert.PoolFRefIdeal.Value.run m' g')⟩
  obtain ⟨a0, a1⟩ := hargs c
  obtain ⟨h0, h1, hargs'⟩ := h c
  refine ⟨h0.trans ?_, h1.trans ?_, hargs'⟩
  · refine (Cert.PoolFRefIdeal.Read.val_main_v43_eq _).trans ?_
    rw [a0]
    exact (Cert.PoolFIdeal.Pool.final2 m c).symm
  · refine (Cert.PoolFRefIdeal.Read.val_main_v40_eq _ _).trans ?_
    rw [a0, a1]
    exact (Cert.PoolFIdeal.Pool.final3 m c).symm

end Cert.PoolFClaim

end
-- ==== Proof.lean ====
/- The proof of the claims. For the recurrence's backward call one run of its body over any number system gives the frame of
   the program and of its idealized text; for the merge's and the MLP's
   backward calls the claims are gathered from `Mix/Claim` and `Mlp/Claim`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mix
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Mlp
public import proofs.«01_k».proof.Proof.Gen.MlpIdeal
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Dx
public import proofs.«01_k».proof.Proof.Gen.DxIdeal
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.DwUp
public import proofs.«01_k».proof.Proof.Gen.DwUpIdeal
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwDown
public import proofs.«01_k».proof.Proof.Gen.DwDownIdeal
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwIn
public import proofs.«01_k».proof.Proof.Gen.DwInIdeal
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.Proj
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.PoolB
public import proofs.«01_k».proof.Proof.Gen.PoolBIdeal
public import proofs.«01_k».proof.Proof.Gen.PoolBIdeal.Value
public import proofs.«01_k».proof.Proof.Gen.PoolBRefIdeal
public import proofs.«01_k».proof.Proof.Gen.PoolBRefIdeal.Run
public import proofs.«01_k».proof.Proof.Gen.PoolBRefIdeal.Read
public import proofs.«01_k».proof.Proof.Gen.DwOut
public import proofs.«01_k».proof.Proof.Gen.DwOutIdeal
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwA
public import proofs.«01_k».proof.Proof.Gen.DwAIdeal
public import proofs.«01_k».proof.Proof.Gen.DwAIdeal.Value
public import proofs.«01_k».proof.Proof.Gen.DwARefIdeal
public import proofs.«01_k».proof.Proof.Gen.DwARefIdeal.Run
public import proofs.«01_k».proof.Proof.Gen.DwARefIdeal.Read
public import proofs.«01_k».proof.Proof.Gen.DwPool
public import proofs.«01_k».proof.Proof.Gen.DwPoolIdeal
public import proofs.«01_k».proof.Proof.Gen.DwPoolIdeal.Value
public import proofs.«01_k».proof.Proof.Gen.DwPoolRefIdeal
public import proofs.«01_k».proof.Proof.Gen.DwPoolRefIdeal.Run
public import proofs.«01_k».proof.Proof.Gen.DwPoolRefIdeal.Read
public import proofs.«01_k».proof.Proof.Gen.MlpF
public import proofs.«01_k».proof.Proof.Gen.MlpFIdeal
public import proofs.«01_k».proof.Proof.Gen.MlpFIdeal.Value
public import proofs.«01_k».proof.Proof.Gen.MlpFRefIdeal
public import proofs.«01_k».proof.Proof.Gen.MlpFRefIdeal.Run
public import proofs.«01_k».proof.Proof.Gen.MlpFRefIdeal.Read
public import proofs.«01_k».proof.Proof.Gen.MixF
public import proofs.«01_k».proof.Proof.Gen.MixFIdeal
public import proofs.«01_k».proof.Proof.Gen.MixFIdeal.Value
public import proofs.«01_k».proof.Proof.Gen.MixFRefIdeal
public import proofs.«01_k».proof.Proof.Gen.MixFRefIdeal.Run
public import proofs.«01_k».proof.Proof.Gen.MixFRefIdeal.Read
public import proofs.«01_k».proof.Proof.Gen.DwGate
public import proofs.«01_k».proof.Proof.Gen.DwGateIdeal
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwGateRefIdeal.Read
public import proofs.«01_k».proof.Proof.Gen.DwFive
public import proofs.«01_k».proof.Proof.Gen.DwFiveIdeal
public import proofs.«01_k».proof.Proof.Gen.DwFiveIdeal.Value
public import proofs.«01_k».proof.Proof.Gen.DwFiveRefIdeal
public import proofs.«01_k».proof.Proof.Gen.DwFiveRefIdeal.Run
public import proofs.«01_k».proof.Proof.Gen.DwFiveRefIdeal.Read
public import proofs.«01_k».proof.Proof.Gen.PoolF
public import proofs.«01_k».proof.Proof.Gen.PoolFIdeal
public import proofs.«01_k».proof.Proof.Gen.PoolFIdeal.Value
public import proofs.«01_k».proof.Proof.Gen.PoolFRefIdeal
public import proofs.«01_k».proof.Proof.Gen.PoolFRefIdeal.Run
public import proofs.«01_k».proof.Proof.Gen.PoolFRefIdeal.Read
public import proofs.«01_k».proof.Proof.Gen.Pre_finite
public import proofs.«01_k».proof.Proof.Gen.Pre_finite_mlp
public import proofs.«01_k».proof.Proof.Hgrn.Frame
public import proofs.«01_k».proof.Proof.Hgrn.Same
public import proofs.«01_k».proof.Proof.Mix.Claim
public import proofs.«01_k».proof.Proof.Mlp.Claim
public import proofs.«01_k».proof.Proof.Dx.Claim
public import proofs.«01_k».proof.Proof.DwUp.Claim
public import proofs.«01_k».proof.Proof.DwDown.Claim
public import proofs.«01_k».proof.Proof.DwIn.Claim
public import proofs.«01_k».proof.Proof.Proj.Claim
public import proofs.«01_k».proof.Proof.PoolB.Claim
public import proofs.«01_k».proof.Proof.DwOut.Claim
public import proofs.«01_k».proof.Proof.DwA.Claim
public import proofs.«01_k».proof.Proof.DwPool.Claim
public import proofs.«01_k».proof.Proof.MlpF.Claim
public import proofs.«01_k».proof.Proof.MixF.Claim
public import proofs.«01_k».proof.Proof.DwGate.Claim
public import proofs.«01_k».proof.Proof.DwFive.Claim
public import proofs.«01_k».proof.Proof.PoolF.Claim
public import Idealize.ShloMosaic.Adequacy
public import Idealize.ShloMosaic.Init

@[expose] public section

noncomputable section

namespace Cert.Proof

open Idealize.ShloMosaic Idealize.SL.Sem Cert.Kernel

/-- The idealized program runs, keeps its arguments and leaves every counter at zero. -/
theorem frame_ideal : Cert.quiescent_KernelIdeal := fun m ρ _ => Cert.KernelIdeal.Hgrn.run_main m ρ

/-- So does the program itself: its text is the same. -/
theorem frame_bits : Cert.quiescent_Kernel := fun m ρ _ => by
  show θ_run (Cert.Kernel.defs (F := Bits)) _ _ _
  rw [Cert.Hgrn.defs_eq]
  exact Cert.KernelIdeal.Hgrn.run_main (F := Bits) m ρ

theorem claim : Cert.Claim :=
  ⟨Cert.Kernel.Gen.facts, Cert.KernelIdeal.Gen.facts, Cert.Mix.Gen.facts, Cert.MixIdeal.Gen.facts, Cert.MixRefIdeal.Gen.facts,
    Cert.Mlp.Gen.facts, Cert.MlpIdeal.Gen.facts, Cert.MlpRefIdeal.Gen.facts, Cert.Dx.Gen.facts, Cert.DxIdeal.Gen.facts, Cert.DxRefIdeal.Gen.facts,
    Cert.DwUp.Gen.facts, Cert.DwUpIdeal.Gen.facts, Cert.DwUpRefIdeal.Gen.facts,
    Cert.DwDown.Gen.facts, Cert.DwDownIdeal.Gen.facts, Cert.DwDownRefIdeal.Gen.facts,
    Cert.DwIn.Gen.facts, Cert.DwInIdeal.Gen.facts, Cert.DwInRefIdeal.Gen.facts,
    Cert.Proj.Gen.facts, Cert.ProjIdeal.Gen.facts, Cert.ProjRefIdeal.Gen.facts,
    Cert.PoolB.Gen.facts, Cert.PoolBIdeal.Gen.facts, Cert.PoolBRefIdeal.Gen.facts,
    Cert.DwOut.Gen.facts, Cert.DwOutIdeal.Gen.facts, Cert.DwOutRefIdeal.Gen.facts,
    Cert.DwA.Gen.facts, Cert.DwAIdeal.Gen.facts, Cert.DwARefIdeal.Gen.facts,
    Cert.DwPool.Gen.facts, Cert.DwPoolIdeal.Gen.facts, Cert.DwPoolRefIdeal.Gen.facts,
    Cert.MlpF.Gen.facts, Cert.MlpFIdeal.Gen.facts, Cert.MlpFRefIdeal.Gen.facts,
    Cert.MixF.Gen.facts, Cert.MixFIdeal.Gen.facts, Cert.MixFRefIdeal.Gen.facts,
    Cert.DwGate.Gen.facts, Cert.DwGateIdeal.Gen.facts, Cert.DwGateRefIdeal.Gen.facts,
    Cert.DwFive.Gen.facts, Cert.DwFiveIdeal.Gen.facts, Cert.DwFiveRefIdeal.Gen.facts,
    Cert.PoolF.Gen.facts, Cert.PoolFIdeal.Gen.facts, Cert.PoolFRefIdeal.Gen.facts,
    Cert.Pre_finite.Gen.facts, Cert.Pre_finite_mlp.Gen.facts,
    frame_bits, frame_ideal, Cert.MixClaim.frame_program, Cert.MixClaim.frame_ideal, Cert.MixClaim.frame_reference,
    Cert.MlpClaim.frame_program, Cert.MlpClaim.frame_ideal, fun m ρ _ => Cert.MlpClaim.frame_ideal m ρ trivial,
    Cert.MlpClaim.frame_reference, fun m ρ _ => Cert.MlpClaim.frame_reference m ρ trivial,
    Cert.DxClaim.frame_program, Cert.DxClaim.frame_ideal, Cert.DxClaim.frame_reference,
    Cert.DwUpClaim.frame_program, Cert.DwUpClaim.frame_ideal, Cert.DwUpClaim.frame_reference,
    Cert.DwDownClaim.frame_program, Cert.DwDownClaim.frame_ideal, Cert.DwDownClaim.frame_reference,
    Cert.DwInClaim.frame_program, Cert.DwInClaim.frame_ideal, Cert.DwInClaim.frame_reference,
    Cert.ProjClaim.frame_program, Cert.ProjClaim.frame_ideal, Cert.ProjClaim.frame_reference,
    Cert.PoolBClaim.frame_program, Cert.PoolBClaim.frame_ideal, Cert.PoolBClaim.frame_reference,
    Cert.DwOutClaim.frame_program, Cert.DwOutClaim.frame_ideal, Cert.DwOutClaim.frame_reference,
    Cert.DwAClaim.frame_program, Cert.DwAClaim.frame_ideal, Cert.DwAClaim.frame_reference,
    Cert.DwPoolClaim.frame_program, Cert.DwPoolClaim.frame_ideal, Cert.DwPoolClaim.frame_reference,
    Cert.MlpFClaim.frame_program, Cert.MlpFClaim.frame_ideal, fun m ρ _ => Cert.MlpFClaim.frame_ideal m ρ trivial,
    Cert.MlpFClaim.frame_reference, fun m ρ _ => Cert.MlpFClaim.frame_reference m ρ trivial,
    Cert.MixFClaim.frame_program, Cert.MixFClaim.frame_ideal, Cert.MixFClaim.frame_reference,
    Cert.DwGateClaim.frame_program, Cert.DwGateClaim.frame_ideal, Cert.DwGateClaim.frame_reference,
    Cert.DwFiveClaim.frame_program, Cert.DwFiveClaim.frame_ideal, Cert.DwFiveClaim.frame_reference,
    Cert.PoolFClaim.frame_program, Cert.PoolFClaim.frame_ideal, Cert.PoolFClaim.frame_reference,
    trivial, trivial, Cert.MixClaim.equal, trivial, Cert.MlpClaim.equal,
    trivial, Cert.DxClaim.equal,
    trivial, Cert.DwUpClaim.equal,
    trivial, Cert.DwDownClaim.equal,
    trivial, Cert.DwInClaim.equal,
    trivial, Cert.ProjClaim.equal,
    trivial, Cert.PoolBClaim.equal,
    trivial, Cert.DwOutClaim.equal,
    trivial, Cert.DwAClaim.equal,
    trivial, Cert.DwPoolClaim.equal,
    trivial, Cert.MlpFClaim.equal,
    trivial, Cert.MixFClaim.equal,
    trivial, Cert.DwGateClaim.equal,
    trivial, Cert.DwFiveClaim.equal,
    trivial, Cert.PoolFClaim.equal⟩

end Cert.Proof

end
